-- ==== Defs.lean ====
def Pre_MemBwd (m : (ℓ : Loc Cert.MemBwd.nD Cert.MemBwd.τ Cert.MemBwd.sig) → Buf (Elt Bits) ℓ) : Prop :=
  True

def Pre_MemBwdIdeal (m : (ℓ : Loc Cert.MemBwdIdeal.nD Cert.MemBwdIdeal.τ Cert.MemBwdIdeal.sig) → Buf (Elt Ideal) ℓ) : Prop :=
  True

def Pre_MemGradIdeal (m : (ℓ : Loc Cert.MemGradIdeal.nD Cert.MemGradIdeal.τ Cert.MemGradIdeal.sig) → Buf (Elt Ideal) ℓ) : Prop :=
  True

def Pre_FoxBwd (m : (ℓ : Loc Cert.FoxBwd.nD Cert.FoxBwd.τ Cert.FoxBwd.sig) → Buf (Elt Bits) ℓ) : Prop :=
  True

def Pre_FoxBwdIdeal (m : (ℓ : Loc Cert.FoxBwdIdeal.nD Cert.FoxBwdIdeal.τ Cert.FoxBwdIdeal.sig) → Buf (Elt Ideal) ℓ) : Prop :=
  True

def Pre_FoxBwdIdeal_fox_finite [hPre_fox_finite : Cert.Pre_fox_finite.Facts] (m : (ℓ : Loc Cert.FoxBwdIdeal.nD Cert.FoxBwdIdeal.τ Cert.FoxBwdIdeal.sig) → Buf (Elt Ideal) ℓ) : Prop :=
  ∀ c : Dev Cert.FoxBwdIdeal.nD,
    (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))) = (fun _ => 1#1)

def Pre_FoxGradIdeal (m : (ℓ : Loc Cert.FoxGradIdeal.nD Cert.FoxGradIdeal.τ Cert.FoxGradIdeal.sig) → Buf (Elt Ideal) ℓ) : Prop :=
  True

def Pre_FoxGradIdeal_fox_finite [hPre_fox_finite : Cert.Pre_fox_finite.Facts] (m : (ℓ : Loc Cert.FoxGradIdeal.nD Cert.FoxGradIdeal.τ Cert.FoxGradIdeal.sig) → Buf (Elt Ideal) ℓ) : Prop :=
  ∀ c : Dev Cert.FoxGradIdeal.nD,
    (Cert.Pre_fox_finite.fn (F := Ideal) (m ((c.tc : Thread Cert.FoxGradIdeal.nD Cert.FoxGradIdeal.τ).loc Cert.FoxGradIdeal.main_arg0)) (m ((c.tc : Thread Cert.FoxGradIdeal.nD Cert.FoxGradIdeal.τ).loc Cert.FoxGradIdeal.main_arg1)) (m ((c.tc : Thread Cert.FoxGradIdeal.nD Cert.FoxGradIdeal.τ).loc Cert.FoxGradIdeal.main_arg2)) (m ((c.tc : Thread Cert.FoxGradIdeal.nD Cert.FoxGradIdeal.τ).loc Cert.FoxGradIdeal.main_arg3)) (m ((c.tc : Thread Cert.FoxGradIdeal.nD Cert.FoxGradIdeal.τ).loc Cert.FoxGradIdeal.main_arg4))) = (fun _ => 1#1)

def Pre_FoxPost (m : (ℓ : Loc Cert.FoxPost.nD Cert.FoxPost.τ Cert.FoxPost.sig) → Buf (Elt Bits) ℓ) : Prop :=
  True

def Pre_FoxPostIdeal (m : (ℓ : Loc Cert.FoxPostIdeal.nD Cert.FoxPostIdeal.τ Cert.FoxPostIdeal.sig) → Buf (Elt Ideal) ℓ) : Prop :=
  True

def Pre_FoxPostIdeal_post_finite [hPre_post_finite : Cert.Pre_post_finite.Facts] (m : (ℓ : Loc Cert.FoxPostIdeal.nD Cert.FoxPostIdeal.τ Cert.FoxPostIdeal.sig) → Buf (Elt Ideal) ℓ) : Prop :=
  ∀ c : Dev Cert.FoxPostIdeal.nD,
    (Cert.Pre_post_finite.fn (F := Ideal) (m ((c.tc : Thread Cert.FoxPostIdeal.nD Cert.FoxPostIdeal.τ).loc Cert.FoxPostIdeal.main_arg0)) (m ((c.tc : Thread Cert.FoxPostIdeal.nD Cert.FoxPostIdeal.τ).loc Cert.FoxPostIdeal.main_arg1)) (m ((c.tc : Thread Cert.FoxPostIdeal.nD Cert.FoxPostIdeal.τ).loc Cert.FoxPostIdeal.main_arg2)) (m ((c.tc : Thread Cert.FoxPostIdeal.nD Cert.FoxPostIdeal.τ).loc Cert.FoxPostIdeal.main_arg3)) (m ((c.tc : Thread Cert.FoxPostIdeal.nD Cert.FoxPostIdeal.τ).loc Cert.FoxPostIdeal.main_arg4)) (m ((c.tc : Thread Cert.FoxPostIdeal.nD Cert.FoxPostIdeal.τ).loc Cert.FoxPostIdeal.main_arg5)) (m ((c.tc : Thread Cert.FoxPostIdeal.nD Cert.FoxPostIdeal.τ).loc Cert.FoxPostIdeal.main_arg6)) (m ((c.tc : Thread Cert.FoxPostIdeal.nD Cert.FoxPostIdeal.τ).loc Cert.FoxPostIdeal.main_arg7)) (m ((c.tc : Thread Cert.FoxPostIdeal.nD Cert.FoxPostIdeal.τ).loc Cert.FoxPostIdeal.main_arg8)) (m ((c.tc : Thread Cert.FoxPostIdeal.nD Cert.FoxPostIdeal.τ).loc Cert.FoxPostIdeal.main_arg9)) (m ((c.tc : Thread Cert.FoxPostIdeal.nD Cert.FoxPostIdeal.τ).loc Cert.FoxPostIdeal.main_arg10))) = (fun _ => 1#1)

def Pre_FoxPostGradIdeal (m : (ℓ : Loc Cert.FoxPostGradIdeal.nD Cert.FoxPostGradIdeal.τ Cert.FoxPostGradIdeal.sig) → Buf (Elt Ideal) ℓ) : Prop :=
  True

def Pre_FoxPostGradIdeal_post_finite [hPre_post_finite : Cert.Pre_post_finite.Facts] (m : (ℓ : Loc Cert.FoxPostGradIdeal.nD Cert.FoxPostGradIdeal.τ Cert.FoxPostGradIdeal.sig) → Buf (Elt Ideal) ℓ) : Prop :=
  ∀ c : Dev Cert.FoxPostGradIdeal.nD,
    (Cert.Pre_post_finite.fn (F := Ideal) (m ((c.tc : Thread Cert.FoxPostGradIdeal.nD Cert.FoxPostGradIdeal.τ).loc Cert.FoxPostGradIdeal.main_arg0)) (m ((c.tc : Thread Cert.FoxPostGradIdeal.nD Cert.FoxPostGradIdeal.τ).loc Cert.FoxPostGradIdeal.main_arg1)) (m ((c.tc : Thread Cert.FoxPostGradIdeal.nD Cert.FoxPostGradIdeal.τ).loc Cert.FoxPostGradIdeal.main_arg2)) (m ((c.tc : Thread Cert.FoxPostGradIdeal.nD Cert.FoxPostGradIdeal.τ).loc Cert.FoxPostGradIdeal.main_arg3)) (m ((c.tc : Thread Cert.FoxPostGradIdeal.nD Cert.FoxPostGradIdeal.τ).loc Cert.FoxPostGradIdeal.main_arg4)) (m ((c.tc : Thread Cert.FoxPostGradIdeal.nD Cert.FoxPostGradIdeal.τ).loc Cert.FoxPostGradIdeal.main_arg5)) (m ((c.tc : Thread Cert.FoxPostGradIdeal.nD Cert.FoxPostGradIdeal.τ).loc Cert.FoxPostGradIdeal.main_arg6)) (m ((c.tc : Thread Cert.FoxPostGradIdeal.nD Cert.FoxPostGradIdeal.τ).loc Cert.FoxPostGradIdeal.main_arg7)) (m ((c.tc : Thread Cert.FoxPostGradIdeal.nD Cert.FoxPostGradIdeal.τ).loc Cert.FoxPostGradIdeal.main_arg8)) (m ((c.tc : Thread Cert.FoxPostGradIdeal.nD Cert.FoxPostGradIdeal.τ).loc Cert.FoxPostGradIdeal.main_arg9)) (m ((c.tc : Thread Cert.FoxPostGradIdeal.nD Cert.FoxPostGradIdeal.τ).loc Cert.FoxPostGradIdeal.main_arg10))) = (fun _ => 1#1)

def Pre_MemPrep (m : (ℓ : Loc Cert.MemPrep.nD Cert.MemPrep.τ Cert.MemPrep.sig) → Buf (Elt Bits) ℓ) : Prop :=
  True

def Pre_MemPrepIdeal (m : (ℓ : Loc Cert.MemPrepIdeal.nD Cert.MemPrepIdeal.τ Cert.MemPrepIdeal.sig) → Buf (Elt Ideal) ℓ) : Prop :=
  True

def Pre_MemPlainIdeal (m : (ℓ : Loc Cert.MemPlainIdeal.nD Cert.MemPlainIdeal.τ Cert.MemPlainIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_NormGradIdeal (m : (ℓ : Loc Cert.NormGradIdeal.nD Cert.NormGradIdeal.τ Cert.NormGradIdeal.sig) → Buf (Elt Ideal) ℓ) : Prop :=
  True

def Pre_GradW (m : (ℓ : Loc Cert.GradW.nD Cert.GradW.τ Cert.GradW.sig) → Buf (Elt Bits) ℓ) : Prop :=
  True

def Pre_GradWIdeal (m : (ℓ : Loc Cert.GradWIdeal.nD Cert.GradWIdeal.τ Cert.GradWIdeal.sig) → Buf (Elt Ideal) ℓ) : Prop :=
  True

def Pre_WeightGradIdeal (m : (ℓ : Loc Cert.WeightGradIdeal.nD Cert.WeightGradIdeal.τ Cert.WeightGradIdeal.sig) → Buf (Elt Ideal) ℓ) : Prop :=
  True

def quiescent_MemBwd [hMemBwd : Cert.MemBwd.Facts] : Prop :=
  ∀ (m : (ℓ : Loc Cert.MemBwd.nD Cert.MemBwd.τ Cert.MemBwd.sig) → Buf (Elt Bits) ℓ) (g : Dev Cert.MemBwd.nD → PrngReg), Pre_MemBwd m →
    θ_run (Cert.MemBwd.defs (F := Bits)) (onTc (τ := Cert.MemBwd.τ) (Cert.MemBwd.main (F := Bits))) ⟨m, fun _ => 0, g⟩ (fun r => (∀ c : Dev Cert.MemBwd.nD,
      r.2.mem ((c.tc : Thread Cert.MemBwd.nD Cert.MemBwd.τ).loc Cert.MemBwd.main_arg0) = m ((c.tc : Thread Cert.MemBwd.nD Cert.MemBwd.τ).loc Cert.MemBwd.main_arg0)
      ∧ r.2.mem ((c.tc : Thread Cert.MemBwd.nD Cert.MemBwd.τ).loc Cert.MemBwd.main_arg1) = m ((c.tc : Thread Cert.MemBwd.nD Cert.MemBwd.τ).loc Cert.MemBwd.main_arg1)
      ∧ r.2.mem ((c.tc : Thread Cert.MemBwd.nD Cert.MemBwd.τ).loc Cert.MemBwd.main_arg2) = m ((c.tc : Thread Cert.MemBwd.nD Cert.MemBwd.τ).loc Cert.MemBwd.main_arg2)
      ∧ r.2.mem ((c.tc : Thread Cert.MemBwd.nD Cert.MemBwd.τ).loc Cert.MemBwd.main_arg3) = m ((c.tc : Thread Cert.MemBwd.nD Cert.MemBwd.τ).loc Cert.MemBwd.main_arg3)
      ∧ r.2.mem ((c.tc : Thread Cert.MemBwd.nD Cert.MemBwd.τ).loc Cert.MemBwd.main_arg4) = m ((c.tc : Thread Cert.MemBwd.nD Cert.MemBwd.τ).loc Cert.MemBwd.main_arg4)
      ∧ r.2.mem ((c.tc : Thread Cert.MemBwd.nD Cert.MemBwd.τ).loc Cert.MemBwd.main_arg5) = m ((c.tc : Thread Cert.MemBwd.nD Cert.MemBwd.τ).loc Cert.MemBwd.main_arg5))
      ∧ r.2.sem = fun _ => 0)

def quiescent_MemBwdIdeal [hMemBwdIdeal : Cert.MemBwdIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
      ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3)
      ∧ r.2.mem ((c.tc : Thread Cert.MemBwdIdeal.nD Cert.MemBwdIdeal.τ).loc Cert.MemBwdIdeal.main_arg4) = m ((c.tc : Thread Cert.MemBwdIdeal.nD Cert.MemBwdIdeal.τ).loc Cert.MemBwdIdeal.main_arg4)
      ∧ r.2.mem ((c.tc : Thread Cert.MemBwdIdeal.nD Cert.MemBwdIdeal.τ).loc Cert.MemBwdIdeal.main_arg5) = m ((c.tc : Thread Cert.MemBwdIdeal.nD Cert.MemBwdIdeal.τ).loc Cert.MemBwdIdeal.main_arg5))
      ∧ r.2.sem = fun _ => 0)

def quiescent_MemGradIdeal [hMemGradIdeal : Cert.MemGradIdeal.Facts] : Prop :=
  ∀ (m : (ℓ : Loc Cert.MemGradIdeal.nD Cert.MemGradIdeal.τ Cert.MemGradIdeal.sig) → Buf (Elt Ideal) ℓ) (g : Dev Cert.MemGradIdeal.nD → PrngReg), Pre_MemGradIdeal m →
    θ_run (Cert.MemGradIdeal.defs (F := Ideal)) (onTc (τ := Cert.MemGradIdeal.τ) (Cert.MemGradIdeal.main (F := Ideal))) ⟨m, fun _ => 0, g⟩ (fun r => (∀ c : Dev Cert.MemGradIdeal.nD,
      r.2.mem ((c.tc : Thread Cert.MemGradIdeal.nD Cert.MemGradIdeal.τ).loc Cert.MemGradIdeal.main_arg0) = m ((c.tc : Thread Cert.MemGradIdeal.nD Cert.MemGradIdeal.τ).loc Cert.MemGradIdeal.main_arg0)
      ∧ r.2.mem ((c.tc : Thread Cert.MemGradIdeal.nD Cert.MemGradIdeal.τ).loc Cert.MemGradIdeal.main_arg1) = m ((c.tc : Thread Cert.MemGradIdeal.nD Cert.MemGradIdeal.τ).loc Cert.MemGradIdeal.main_arg1)
      ∧ r.2.mem ((c.tc : Thread Cert.MemGradIdeal.nD Cert.MemGradIdeal.τ).loc Cert.MemGradIdeal.main_arg2) = m ((c.tc : Thread Cert.MemGradIdeal.nD Cert.MemGradIdeal.τ).loc Cert.MemGradIdeal.main_arg2)
      ∧ r.2.mem ((c.tc : Thread Cert.MemGradIdeal.nD Cert.MemGradIdeal.τ).loc Cert.MemGradIdeal.main_arg3) = m ((c.tc : Thread Cert.MemGradIdeal.nD Cert.MemGradIdeal.τ).loc Cert.MemGradIdeal.main_arg3)
      ∧ r.2.mem ((c.tc : Thread Cert.MemGradIdeal.nD Cert.MemGradIdeal.τ).loc Cert.MemGradIdeal.main_arg4) = m ((c.tc : Thread Cert.MemGradIdeal.nD Cert.MemGradIdeal.τ).loc Cert.MemGradIdeal.main_arg4)
      ∧ r.2.mem ((c.tc : Thread Cert.MemGradIdeal.nD Cert.MemGradIdeal.τ).loc Cert.MemGradIdeal.main_arg5) = m ((c.tc : Thread Cert.MemGradIdeal.nD Cert.MemGradIdeal.τ).loc Cert.MemGradIdeal.main_arg5))
      ∧ r.2.sem = fun _ => 0)

def quiescent_FoxBwd [hFoxBwd : Cert.FoxBwd.Facts] : Prop :=
  ∀ (m : (ℓ : Loc Cert.FoxBwd.nD Cert.FoxBwd.τ Cert.FoxBwd.sig) → Buf (Elt Bits) ℓ) (g : Dev Cert.FoxBwd.nD → PrngReg), Pre_FoxBwd m →
    θ_run (Cert.FoxBwd.defs (F := Bits)) (onTc (τ := Cert.FoxBwd.τ) (Cert.FoxBwd.main (F := Bits))) ⟨m, fun _ => 0, g⟩ (fun r => (∀ c : Dev Cert.FoxBwd.nD,
      r.2.mem ((c.tc : Thread Cert.FoxBwd.nD Cert.FoxBwd.τ).loc Cert.FoxBwd.main_arg0) = m ((c.tc : Thread Cert.FoxBwd.nD Cert.FoxBwd.τ).loc Cert.FoxBwd.main_arg0)
      ∧ r.2.mem ((c.tc : Thread Cert.FoxBwd.nD Cert.FoxBwd.τ).loc Cert.FoxBwd.main_arg1) = m ((c.tc : Thread Cert.FoxBwd.nD Cert.FoxBwd.τ).loc Cert.FoxBwd.main_arg1)
      ∧ r.2.mem ((c.tc : Thread Cert.FoxBwd.nD Cert.FoxBwd.τ).loc Cert.FoxBwd.main_arg2) = m ((c.tc : Thread Cert.FoxBwd.nD Cert.FoxBwd.τ).loc Cert.FoxBwd.main_arg2)
      ∧ r.2.mem ((c.tc : Thread Cert.FoxBwd.nD Cert.FoxBwd.τ).loc Cert.FoxBwd.main_arg3) = m ((c.tc : Thread Cert.FoxBwd.nD Cert.FoxBwd.τ).loc Cert.FoxBwd.main_arg3)
      ∧ r.2.mem ((c.tc : Thread Cert.FoxBwd.nD Cert.FoxBwd.τ).loc Cert.FoxBwd.main_arg4) = m ((c.tc : Thread Cert.FoxBwd.nD Cert.FoxBwd.τ).loc Cert.FoxBwd.main_arg4))
      ∧ r.2.sem = fun _ => 0)

def quiescent_FoxBwdIdeal [hFoxBwdIdeal : Cert.FoxBwdIdeal.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxBwdIdeal_pre_fox_finite [hFoxBwdIdeal : Cert.FoxBwdIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal_fox_finite m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxGradIdeal [hFoxGradIdeal : Cert.FoxGradIdeal.Facts] : Prop :=
  ∀ (m : (ℓ : Loc Cert.FoxGradIdeal.nD Cert.FoxGradIdeal.τ Cert.FoxGradIdeal.sig) → Buf (Elt Ideal) ℓ) (g : Dev Cert.FoxGradIdeal.nD → PrngReg), Pre_FoxGradIdeal m →
    θ_run (Cert.FoxGradIdeal.defs (F := Ideal)) (onTc (τ := Cert.FoxGradIdeal.τ) (Cert.FoxGradIdeal.main (F := Ideal))) ⟨m, fun _ => 0, g⟩ (fun r => (∀ c : Dev Cert.FoxGradIdeal.nD,
      r.2.mem ((c.tc : Thread Cert.FoxGradIdeal.nD Cert.FoxGradIdeal.τ).loc Cert.FoxGradIdeal.main_arg0) = m ((c.tc : Thread Cert.FoxGradIdeal.nD Cert.FoxGradIdeal.τ).loc Cert.FoxGradIdeal.main_arg0)
      ∧ r.2.mem ((c.tc : Thread Cert.FoxGradIdeal.nD Cert.FoxGradIdeal.τ).loc Cert.FoxGradIdeal.main_arg1) = m ((c.tc : Thread Cert.FoxGradIdeal.nD Cert.FoxGradIdeal.τ).loc Cert.FoxGradIdeal.main_arg1)
      ∧ r.2.mem ((c.tc : Thread Cert.FoxGradIdeal.nD Cert.FoxGradIdeal.τ).loc Cert.FoxGradIdeal.main_arg2) = m ((c.tc : Thread Cert.FoxGradIdeal.nD Cert.FoxGradIdeal.τ).loc Cert.FoxGradIdeal.main_arg2)
      ∧ r.2.mem ((c.tc : Thread Cert.FoxGradIdeal.nD Cert.FoxGradIdeal.τ).loc Cert.FoxGradIdeal.main_arg3) = m ((c.tc : Thread Cert.FoxGradIdeal.nD Cert.FoxGradIdeal.τ).loc Cert.FoxGradIdeal.main_arg3)
      ∧ r.2.mem ((c.tc : Thread Cert.FoxGradIdeal.nD Cert.FoxGradIdeal.τ).loc Cert.FoxGradIdeal.main_arg4) = m ((c.tc : Thread Cert.FoxGradIdeal.nD Cert.FoxGradIdeal.τ).loc Cert.FoxGradIdeal.main_arg4))
      ∧ r.2.sem = fun _ => 0)

def quiescent_FoxGradIdeal_pre_fox_finite [hFoxGradIdeal : Cert.FoxGradIdeal.Facts] [hPre_fox_finite : Cert.Pre_fox_finite.Facts] : Prop :=
  ∀ (m : (ℓ : Loc Cert.FoxGradIdeal.nD Cert.FoxGradIdeal.τ Cert.FoxGradIdeal.sig) → Buf (Elt Ideal) ℓ) (g : Dev Cert.FoxGradIdeal.nD → PrngReg), Pre_FoxGradIdeal_fox_finite m →
    θ_run (Cert.FoxGradIdeal.defs (F := Ideal)) (onTc (τ := Cert.FoxGradIdeal.τ) (Cert.FoxGradIdeal.main (F := Ideal))) ⟨m, fun _ => 0, g⟩ (fun r => (∀ c : Dev Cert.FoxGradIdeal.nD,
      r.2.mem ((c.tc : Thread Cert.FoxGradIdeal.nD Cert.FoxGradIdeal.τ).loc Cert.FoxGradIdeal.main_arg0) = m ((c.tc : Thread Cert.FoxGradIdeal.nD Cert.FoxGradIdeal.τ).loc Cert.FoxGradIdeal.main_arg0)
      ∧ r.2.mem ((c.tc : Thread Cert.FoxGradIdeal.nD Cert.FoxGradIdeal.τ).loc Cert.FoxGradIdeal.main_arg1) = m ((c.tc : Thread Cert.FoxGradIdeal.nD Cert.FoxGradIdeal.τ).loc Cert.FoxGradIdeal.main_arg1)
      ∧ r.2.mem ((c.tc : Thread Cert.FoxGradIdeal.nD Cert.FoxGradIdeal.τ).loc Cert.FoxGradIdeal.main_arg2) = m ((c.tc : Thread Cert.FoxGradIdeal.nD Cert.FoxGradIdeal.τ).loc Cert.FoxGradIdeal.main_arg2)
      ∧ r.2.mem ((c.tc : Thread Cert.FoxGradIdeal.nD Cert.FoxGradIdeal.τ).loc Cert.FoxGradIdeal.main_arg3) = m ((c.tc : Thread Cert.FoxGradIdeal.nD Cert.FoxGradIdeal.τ).loc Cert.FoxGradIdeal.main_arg3)
      ∧ r.2.mem ((c.tc : Thread Cert.FoxGradIdeal.nD Cert.FoxGradIdeal.τ).loc Cert.FoxGradIdeal.main_arg4) = m ((c.tc : Thread Cert.FoxGradIdeal.nD Cert.FoxGradIdeal.τ).loc Cert.FoxGradIdeal.main_arg4))
      ∧ r.2.sem = fun _ => 0)

def quiescent_FoxPost [hFoxPost : Cert.FoxPost.Facts] : Prop :=
  ∀ (m : (ℓ : Loc Cert.FoxPost.nD Cert.FoxPost.τ Cert.FoxPost.sig) → Buf (Elt Bits) ℓ) (g : Dev Cert.FoxPost.nD → PrngReg), Pre_FoxPost m →
    θ_run (Cert.FoxPost.defs (F := Bits)) (onTc (τ := Cert.FoxPost.τ) (Cert.FoxPost.main (F := Bits))) ⟨m, fun _ => 0, g⟩ (fun r => (∀ c : Dev Cert.FoxPost.nD,
      r.2.mem ((c.tc : Thread Cert.FoxPost.nD Cert.FoxPost.τ).loc Cert.FoxPost.main_arg0) = m ((c.tc : Thread Cert.FoxPost.nD Cert.FoxPost.τ).loc Cert.FoxPost.main_arg0)
      ∧ r.2.mem ((c.tc : Thread Cert.FoxPost.nD Cert.FoxPost.τ).loc Cert.FoxPost.main_arg1) = m ((c.tc : Thread Cert.FoxPost.nD Cert.FoxPost.τ).loc Cert.FoxPost.main_arg1)
      ∧ r.2.mem ((c.tc : Thread Cert.FoxPost.nD Cert.FoxPost.τ).loc Cert.FoxPost.main_arg2) = m ((c.tc : Thread Cert.FoxPost.nD Cert.FoxPost.τ).loc Cert.FoxPost.main_arg2)
      ∧ r.2.mem ((c.tc : Thread Cert.FoxPost.nD Cert.FoxPost.τ).loc Cert.FoxPost.main_arg3) = m ((c.tc : Thread Cert.FoxPost.nD Cert.FoxPost.τ).loc Cert.FoxPost.main_arg3)
      ∧ r.2.mem ((c.tc : Thread Cert.FoxPost.nD Cert.FoxPost.τ).loc Cert.FoxPost.main_arg4) = m ((c.tc : Thread Cert.FoxPost.nD Cert.FoxPost.τ).loc Cert.FoxPost.main_arg4)
      ∧ r.2.mem ((c.tc : Thread Cert.FoxPost.nD Cert.FoxPost.τ).loc Cert.FoxPost.main_arg5) = m ((c.tc : Thread Cert.FoxPost.nD Cert.FoxPost.τ).loc Cert.FoxPost.main_arg5)
      ∧ r.2.mem ((c.tc : Thread Cert.FoxPost.nD Cert.FoxPost.τ).loc Cert.FoxPost.main_arg6) = m ((c.tc : Thread Cert.FoxPost.nD Cert.FoxPost.τ).loc Cert.FoxPost.main_arg6)
      ∧ r.2.mem ((c.tc : Thread Cert.FoxPost.nD Cert.FoxPost.τ).loc Cert.FoxPost.main_arg7) = m ((c.tc : Thread Cert.FoxPost.nD Cert.FoxPost.τ).loc Cert.FoxPost.main_arg7)
      ∧ r.2.mem ((c.tc : Thread Cert.FoxPost.nD Cert.FoxPost.τ).loc Cert.FoxPost.main_arg8) = m ((c.tc : Thread Cert.FoxPost.nD Cert.FoxPost.τ).loc Cert.FoxPost.main_arg8)
      ∧ r.2.mem ((c.tc : Thread Cert.FoxPost.nD Cert.FoxPost.τ).loc Cert.FoxPost.main_arg9) = m ((c.tc : Thread Cert.FoxPost.nD Cert.FoxPost.τ).loc Cert.FoxPost.main_arg9)
      ∧ r.2.mem ((c.tc : Thread Cert.FoxPost.nD Cert.FoxPost.τ).loc Cert.FoxPost.main_arg10) = m ((c.tc : Thread Cert.FoxPost.nD Cert.FoxPost.τ).loc Cert.FoxPost.main_arg10))
      ∧ r.2.sem = fun _ => 0)

def quiescent_FoxPostIdeal [hFoxPostIdeal : Cert.FoxPostIdeal.Facts] : Prop :=
  ∀ (m : (ℓ : Loc Cert.FoxPostIdeal.nD Cert.FoxPostIdeal.τ Cert.FoxPostIdeal.sig) → Buf (Elt Ideal) ℓ) (g : Dev Cert.FoxPostIdeal.nD → PrngReg), Pre_FoxPostIdeal m →
    θ_run (Cert.FoxPostIdeal.defs (F := Ideal)) (onTc (τ := Cert.FoxPostIdeal.τ) (Cert.FoxPostIdeal.main (F := Ideal))) ⟨m, fun _ => 0, g⟩ (fun r => (∀ c : Dev Cert.FoxPostIdeal.nD,
      r.2.mem ((c.tc : Thread Cert.FoxPostIdeal.nD Cert.FoxPostIdeal.τ).loc Cert.FoxPostIdeal.main_arg0) = m ((c.tc : Thread Cert.FoxPostIdeal.nD Cert.FoxPostIdeal.τ).loc Cert.FoxPostIdeal.main_arg0)
      ∧ r.2.mem ((c.tc : Thread Cert.FoxPostIdeal.nD Cert.FoxPostIdeal.τ).loc Cert.FoxPostIdeal.main_arg1) = m ((c.tc : Thread Cert.FoxPostIdeal.nD Cert.FoxPostIdeal.τ).loc Cert.FoxPostIdeal.main_arg1)
      ∧ r.2.mem ((c.tc : Thread Cert.FoxPostIdeal.nD Cert.FoxPostIdeal.τ).loc Cert.FoxPostIdeal.main_arg2) = m ((c.tc : Thread Cert.FoxPostIdeal.nD Cert.FoxPostIdeal.τ).loc Cert.FoxPostIdeal.main_arg2)
      ∧ r.2.mem ((c.tc : Thread Cert.FoxPostIdeal.nD Cert.FoxPostIdeal.τ).loc Cert.FoxPostIdeal.main_arg3) = m ((c.tc : Thread Cert.FoxPostIdeal.nD Cert.FoxPostIdeal.τ).loc Cert.FoxPostIdeal.main_arg3)
      ∧ r.2.mem ((c.tc : Thread Cert.FoxPostIdeal.nD Cert.FoxPostIdeal.τ).loc Cert.FoxPostIdeal.main_arg4) = m ((c.tc : Thread Cert.FoxPostIdeal.nD Cert.FoxPostIdeal.τ).loc Cert.FoxPostIdeal.main_arg4)
      ∧ r.2.mem ((c.tc : Thread Cert.FoxPostIdeal.nD Cert.FoxPostIdeal.τ).loc Cert.FoxPostIdeal.main_arg5) = m ((c.tc : Thread Cert.FoxPostIdeal.nD Cert.FoxPostIdeal.τ).loc Cert.FoxPostIdeal.main_arg5)
      ∧ r.2.mem ((c.tc : Thread Cert.FoxPostIdeal.nD Cert.FoxPostIdeal.τ).loc Cert.FoxPostIdeal.main_arg6) = m ((c.tc : Thread Cert.FoxPostIdeal.nD Cert.FoxPostIdeal.τ).loc Cert.FoxPostIdeal.main_arg6)
      ∧ r.2.mem ((c.tc : Thread Cert.FoxPostIdeal.nD Cert.FoxPostIdeal.τ).loc Cert.FoxPostIdeal.main_arg7) = m ((c.tc : Thread Cert.FoxPostIdeal.nD Cert.FoxPostIdeal.τ).loc Cert.FoxPostIdeal.main_arg7)
      ∧ r.2.mem ((c.tc : Thread Cert.FoxPostIdeal.nD Cert.FoxPostIdeal.τ).loc Cert.FoxPostIdeal.main_arg8) = m ((c.tc : Thread Cert.FoxPostIdeal.nD Cert.FoxPostIdeal.τ).loc Cert.FoxPostIdeal.main_arg8)
      ∧ r.2.mem ((c.tc : Thread Cert.FoxPostIdeal.nD Cert.FoxPostIdeal.τ).loc Cert.FoxPostIdeal.main_arg9) = m ((c.tc : Thread Cert.FoxPostIdeal.nD Cert.FoxPostIdeal.τ).loc Cert.FoxPostIdeal.main_arg9)
      ∧ r.2.mem ((c.tc : Thread Cert.FoxPostIdeal.nD Cert.FoxPostIdeal.τ).loc Cert.FoxPostIdeal.main_arg10) = m ((c.tc : Thread Cert.FoxPostIdeal.nD Cert.FoxPostIdeal.τ).loc Cert.FoxPostIdeal.main_arg10))
      ∧ r.2.sem = fun _ => 0)

def quiescent_FoxPostIdeal_pre_post_finite [hFoxPostIdeal : Cert.FoxPostIdeal.Facts] [hPre_post_finite : Cert.Pre_post_finite.Facts] : Prop :=
  ∀ (m : (ℓ : Loc Cert.FoxPostIdeal.nD Cert.FoxPostIdeal.τ Cert.FoxPostIdeal.sig) → Buf (Elt Ideal) ℓ) (g : Dev Cert.FoxPostIdeal.nD → PrngReg), Pre_FoxPostIdeal_post_finite m →
    θ_run (Cert.FoxPostIdeal.defs (F := Ideal)) (onTc (τ := Cert.FoxPostIdeal.τ) (Cert.FoxPostIdeal.main (F := Ideal))) ⟨m, fun _ => 0, g⟩ (fun r => (∀ c : Dev Cert.FoxPostIdeal.nD,
      r.2.mem ((c.tc : Thread Cert.FoxPostIdeal.nD Cert.FoxPostIdeal.τ).loc Cert.FoxPostIdeal.main_arg0) = m ((c.tc : Thread Cert.FoxPostIdeal.nD Cert.FoxPostIdeal.τ).loc Cert.FoxPostIdeal.main_arg0)
      ∧ r.2.mem ((c.tc : Thread Cert.FoxPostIdeal.nD Cert.FoxPostIdeal.τ).loc Cert.FoxPostIdeal.main_arg1) = m ((c.tc : Thread Cert.FoxPostIdeal.nD Cert.FoxPostIdeal.τ).loc Cert.FoxPostIdeal.main_arg1)
      ∧ r.2.mem ((c.tc : Thread Cert.FoxPostIdeal.nD Cert.FoxPostIdeal.τ).loc Cert.FoxPostIdeal.main_arg2) = m ((c.tc : Thread Cert.FoxPostIdeal.nD Cert.FoxPostIdeal.τ).loc Cert.FoxPostIdeal.main_arg2)
      ∧ r.2.mem ((c.tc : Thread Cert.FoxPostIdeal.nD Cert.FoxPostIdeal.τ).loc Cert.FoxPostIdeal.main_arg3) = m ((c.tc : Thread Cert.FoxPostIdeal.nD Cert.FoxPostIdeal.τ).loc Cert.FoxPostIdeal.main_arg3)
      ∧ r.2.mem ((c.tc : Thread Cert.FoxPostIdeal.nD Cert.FoxPostIdeal.τ).loc Cert.FoxPostIdeal.main_arg4) = m ((c.tc : Thread Cert.FoxPostIdeal.nD Cert.FoxPostIdeal.τ).loc Cert.FoxPostIdeal.main_arg4)
      ∧ r.2.mem ((c.tc : Thread Cert.FoxPostIdeal.nD Cert.FoxPostIdeal.τ).loc Cert.FoxPostIdeal.main_arg5) = m ((c.tc : Thread Cert.FoxPostIdeal.nD Cert.FoxPostIdeal.τ).loc Cert.FoxPostIdeal.main_arg5)
      ∧ r.2.mem ((c.tc : Thread Cert.FoxPostIdeal.nD Cert.FoxPostIdeal.τ).loc Cert.FoxPostIdeal.main_arg6) = m ((c.tc : Thread Cert.FoxPostIdeal.nD Cert.FoxPostIdeal.τ).loc Cert.FoxPostIdeal.main_arg6)
      ∧ r.2.mem ((c.tc : Thread Cert.FoxPostIdeal.nD Cert.FoxPostIdeal.τ).loc Cert.FoxPostIdeal.main_arg7) = m ((c.tc : Thread Cert.FoxPostIdeal.nD Cert.FoxPostIdeal.τ).loc Cert.FoxPostIdeal.main_arg7)
      ∧ r.2.mem ((c.tc : Thread Cert.FoxPostIdeal.nD Cert.FoxPostIdeal.τ).loc Cert.FoxPostIdeal.main_arg8) = m ((c.tc : Thread Cert.FoxPostIdeal.nD Cert.FoxPostIdeal.τ).loc Cert.FoxPostIdeal.main_arg8)
      ∧ r.2.mem ((c.tc : Thread Cert.FoxPostIdeal.nD Cert.FoxPostIdeal.τ).loc Cert.FoxPostIdeal.main_arg9) = m ((c.tc : Thread Cert.FoxPostIdeal.nD Cert.FoxPostIdeal.τ).loc Cert.FoxPostIdeal.main_arg9)
      ∧ r.2.mem ((c.tc : Thread Cert.FoxPostIdeal.nD Cert.FoxPostIdeal.τ).loc Cert.FoxPostIdeal.main_arg10) = m ((c.tc : Thread Cert.FoxPostIdeal.nD Cert.FoxPostIdeal.τ).loc Cert.FoxPostIdeal.main_arg10))
      ∧ r.2.sem = fun _ => 0)

def quiescent_FoxPostGradIdeal [hFoxPostGradIdeal : Cert.FoxPostGradIdeal.Facts] : Prop :=
  ∀ (m : (ℓ : Loc Cert.FoxPostGradIdeal.nD Cert.FoxPostGradIdeal.τ Cert.FoxPostGradIdeal.sig) → Buf (Elt Ideal) ℓ) (g : Dev Cert.FoxPostGradIdeal.nD → PrngReg), Pre_FoxPostGradIdeal m →
    θ_run (Cert.FoxPostGradIdeal.defs (F := Ideal)) (onTc (τ := Cert.FoxPostGradIdeal.τ) (Cert.FoxPostGradIdeal.main (F := Ideal))) ⟨m, fun _ => 0, g⟩ (fun r => (∀ c : Dev Cert.FoxPostGradIdeal.nD,
      r.2.mem ((c.tc : Thread Cert.FoxPostGradIdeal.nD Cert.FoxPostGradIdeal.τ).loc Cert.FoxPostGradIdeal.main_arg0) = m ((c.tc : Thread Cert.FoxPostGradIdeal.nD Cert.FoxPostGradIdeal.τ).loc Cert.FoxPostGradIdeal.main_arg0)
      ∧ r.2.mem ((c.tc : Thread Cert.FoxPostGradIdeal.nD Cert.FoxPostGradIdeal.τ).loc Cert.FoxPostGradIdeal.main_arg1) = m ((c.tc : Thread Cert.FoxPostGradIdeal.nD Cert.FoxPostGradIdeal.τ).loc Cert.FoxPostGradIdeal.main_arg1)
      ∧ r.2.mem ((c.tc : Thread Cert.FoxPostGradIdeal.nD Cert.FoxPostGradIdeal.τ).loc Cert.FoxPostGradIdeal.main_arg2) = m ((c.tc : Thread Cert.FoxPostGradIdeal.nD Cert.FoxPostGradIdeal.τ).loc Cert.FoxPostGradIdeal.main_arg2)
      ∧ r.2.mem ((c.tc : Thread Cert.FoxPostGradIdeal.nD Cert.FoxPostGradIdeal.τ).loc Cert.FoxPostGradIdeal.main_arg3) = m ((c.tc : Thread Cert.FoxPostGradIdeal.nD Cert.FoxPostGradIdeal.τ).loc Cert.FoxPostGradIdeal.main_arg3)
      ∧ r.2.mem ((c.tc : Thread Cert.FoxPostGradIdeal.nD Cert.FoxPostGradIdeal.τ).loc Cert.FoxPostGradIdeal.main_arg4) = m ((c.tc : Thread Cert.FoxPostGradIdeal.nD Cert.FoxPostGradIdeal.τ).loc Cert.FoxPostGradIdeal.main_arg4)
      ∧ r.2.mem ((c.tc : Thread Cert.FoxPostGradIdeal.nD Cert.FoxPostGradIdeal.τ).loc Cert.FoxPostGradIdeal.main_arg5) = m ((c.tc : Thread Cert.FoxPostGradIdeal.nD Cert.FoxPostGradIdeal.τ).loc Cert.FoxPostGradIdeal.main_arg5)
      ∧ r.2.mem ((c.tc : Thread Cert.FoxPostGradIdeal.nD Cert.FoxPostGradIdeal.τ).loc Cert.FoxPostGradIdeal.main_arg6) = m ((c.tc : Thread Cert.FoxPostGradIdeal.nD Cert.FoxPostGradIdeal.τ).loc Cert.FoxPostGradIdeal.main_arg6)
      ∧ r.2.mem ((c.tc : Thread Cert.FoxPostGradIdeal.nD Cert.FoxPostGradIdeal.τ).loc Cert.FoxPostGradIdeal.main_arg7) = m ((c.tc : Thread Cert.FoxPostGradIdeal.nD Cert.FoxPostGradIdeal.τ).loc Cert.FoxPostGradIdeal.main_arg7)
      ∧ r.2.mem ((c.tc : Thread Cert.FoxPostGradIdeal.nD Cert.FoxPostGradIdeal.τ).loc Cert.FoxPostGradIdeal.main_arg8) = m ((c.tc : Thread Cert.FoxPostGradIdeal.nD Cert.FoxPostGradIdeal.τ).loc Cert.FoxPostGradIdeal.main_arg8)
      ∧ r.2.mem ((c.tc : Thread Cert.FoxPostGradIdeal.nD Cert.FoxPostGradIdeal.τ).loc Cert.FoxPostGradIdeal.main_arg9) = m ((c.tc : Thread Cert.FoxPostGradIdeal.nD Cert.FoxPostGradIdeal.τ).loc Cert.FoxPostGradIdeal.main_arg9)
      ∧ r.2.mem ((c.tc : Thread Cert.FoxPostGradIdeal.nD Cert.FoxPostGradIdeal.τ).loc Cert.FoxPostGradIdeal.main_arg10) = m ((c.tc : Thread Cert.FoxPostGradIdeal.nD Cert.FoxPostGradIdeal.τ).loc Cert.FoxPostGradIdeal.main_arg10))
      ∧ r.2.sem = fun _ => 0)

def quiescent_FoxPostGradIdeal_pre_post_finite [hFoxPostGradIdeal : Cert.FoxPostGradIdeal.Facts] [hPre_post_finite : Cert.Pre_post_finite.Facts] : Prop :=
  ∀ (m : (ℓ : Loc Cert.FoxPostGradIdeal.nD Cert.FoxPostGradIdeal.τ Cert.FoxPostGradIdeal.sig) → Buf (Elt Ideal) ℓ) (g : Dev Cert.FoxPostGradIdeal.nD → PrngReg), Pre_FoxPostGradIdeal_post_finite m →
    θ_run (Cert.FoxPostGradIdeal.defs (F := Ideal)) (onTc (τ := Cert.FoxPostGradIdeal.τ) (Cert.FoxPostGradIdeal.main (F := Ideal))) ⟨m, fun _ => 0, g⟩ (fun r => (∀ c : Dev Cert.FoxPostGradIdeal.nD,
      r.2.mem ((c.tc : Thread Cert.FoxPostGradIdeal.nD Cert.FoxPostGradIdeal.τ).loc Cert.FoxPostGradIdeal.main_arg0) = m ((c.tc : Thread Cert.FoxPostGradIdeal.nD Cert.FoxPostGradIdeal.τ).loc Cert.FoxPostGradIdeal.main_arg0)
      ∧ r.2.mem ((c.tc : Thread Cert.FoxPostGradIdeal.nD Cert.FoxPostGradIdeal.τ).loc Cert.FoxPostGradIdeal.main_arg1) = m ((c.tc : Thread Cert.FoxPostGradIdeal.nD Cert.FoxPostGradIdeal.τ).loc Cert.FoxPostGradIdeal.main_arg1)
      ∧ r.2.mem ((c.tc : Thread Cert.FoxPostGradIdeal.nD Cert.FoxPostGradIdeal.τ).loc Cert.FoxPostGradIdeal.main_arg2) = m ((c.tc : Thread Cert.FoxPostGradIdeal.nD Cert.FoxPostGradIdeal.τ).loc Cert.FoxPostGradIdeal.main_arg2)
      ∧ r.2.mem ((c.tc : Thread Cert.FoxPostGradIdeal.nD Cert.FoxPostGradIdeal.τ).loc Cert.FoxPostGradIdeal.main_arg3) = m ((c.tc : Thread Cert.FoxPostGradIdeal.nD Cert.FoxPostGradIdeal.τ).loc Cert.FoxPostGradIdeal.main_arg3)
      ∧ r.2.mem ((c.tc : Thread Cert.FoxPostGradIdeal.nD Cert.FoxPostGradIdeal.τ).loc Cert.FoxPostGradIdeal.main_arg4) = m ((c.tc : Thread Cert.FoxPostGradIdeal.nD Cert.FoxPostGradIdeal.τ).loc Cert.FoxPostGradIdeal.main_arg4)
      ∧ r.2.mem ((c.tc : Thread Cert.FoxPostGradIdeal.nD Cert.FoxPostGradIdeal.τ).loc Cert.FoxPostGradIdeal.main_arg5) = m ((c.tc : Thread Cert.FoxPostGradIdeal.nD Cert.FoxPostGradIdeal.τ).loc Cert.FoxPostGradIdeal.main_arg5)
      ∧ r.2.mem ((c.tc : Thread Cert.FoxPostGradIdeal.nD Cert.FoxPostGradIdeal.τ).loc Cert.FoxPostGradIdeal.main_arg6) = m ((c.tc : Thread Cert.FoxPostGradIdeal.nD Cert.FoxPostGradIdeal.τ).loc Cert.FoxPostGradIdeal.main_arg6)
      ∧ r.2.mem ((c.tc : Thread Cert.FoxPostGradIdeal.nD Cert.FoxPostGradIdeal.τ).loc Cert.FoxPostGradIdeal.main_arg7) = m ((c.tc : Thread Cert.FoxPostGradIdeal.nD Cert.FoxPostGradIdeal.τ).loc Cert.FoxPostGradIdeal.main_arg7)
      ∧ r.2.mem ((c.tc : Thread Cert.FoxPostGradIdeal.nD Cert.FoxPostGradIdeal.τ).loc Cert.FoxPostGradIdeal.main_arg8) = m ((c.tc : Thread Cert.FoxPostGradIdeal.nD Cert.FoxPostGradIdeal.τ).loc Cert.FoxPostGradIdeal.main_arg8)
      ∧ r.2.mem ((c.tc : Thread Cert.FoxPostGradIdeal.nD Cert.FoxPostGradIdeal.τ).loc Cert.FoxPostGradIdeal.main_arg9) = m ((c.tc : Thread Cert.FoxPostGradIdeal.nD Cert.FoxPostGradIdeal.τ).loc Cert.FoxPostGradIdeal.main_arg9)
      ∧ r.2.mem ((c.tc : Thread Cert.FoxPostGradIdeal.nD Cert.FoxPostGradIdeal.τ).loc Cert.FoxPostGradIdeal.main_arg10) = m ((c.tc : Thread Cert.FoxPostGradIdeal.nD Cert.FoxPostGradIdeal.τ).loc Cert.FoxPostGradIdeal.main_arg10))
      ∧ r.2.sem = fun _ => 0)

def quiescent_MemPrep [hMemPrep : Cert.MemPrep.Facts] : Prop :=
  ∀ (m : (ℓ : Loc Cert.MemPrep.nD Cert.MemPrep.τ Cert.MemPrep.sig) → Buf (Elt Bits) ℓ) (g : Dev Cert.MemPrep.nD → PrngReg), Pre_MemPrep m →
    θ_run (Cert.MemPrep.defs (F := Bits)) (onTc (τ := Cert.MemPrep.τ) (Cert.MemPrep.main (F := Bits))) ⟨m, fun _ => 0, g⟩ (fun r => (∀ c : Dev Cert.MemPrep.nD,
      r.2.mem ((c.tc : Thread Cert.MemPrep.nD Cert.MemPrep.τ).loc Cert.MemPrep.main_arg0) = m ((c.tc : Thread Cert.MemPrep.nD Cert.MemPrep.τ).loc Cert.MemPrep.main_arg0)
      ∧ r.2.mem ((c.tc : Thread Cert.MemPrep.nD Cert.MemPrep.τ).loc Cert.MemPrep.main_arg1) = m ((c.tc : Thread Cert.MemPrep.nD Cert.MemPrep.τ).loc Cert.MemPrep.main_arg1)
      ∧ r.2.mem ((c.tc : Thread Cert.MemPrep.nD Cert.MemPrep.τ).loc Cert.MemPrep.main_arg2) = m ((c.tc : Thread Cert.MemPrep.nD Cert.MemPrep.τ).loc Cert.MemPrep.main_arg2)
      ∧ r.2.mem ((c.tc : Thread Cert.MemPrep.nD Cert.MemPrep.τ).loc Cert.MemPrep.main_arg3) = m ((c.tc : Thread Cert.MemPrep.nD Cert.MemPrep.τ).loc Cert.MemPrep.main_arg3))
      ∧ r.2.sem = fun _ => 0)

def quiescent_MemPrepIdeal [hMemPrepIdeal : Cert.MemPrepIdeal.Facts] : Prop :=
  ∀ (m : (ℓ : Loc Cert.MemPrepIdeal.nD Cert.MemPrepIdeal.τ Cert.MemPrepIdeal.sig) → Buf (Elt Ideal) ℓ) (g : Dev Cert.MemPrepIdeal.nD → PrngReg), Pre_MemPrepIdeal m →
    θ_run (Cert.MemPrepIdeal.defs (F := Ideal)) (onTc (τ := Cert.MemPrepIdeal.τ) (Cert.MemPrepIdeal.main (F := Ideal))) ⟨m, fun _ => 0, g⟩ (fun r => (∀ c : Dev Cert.MemPrepIdeal.nD,
      r.2.mem ((c.tc : Thread Cert.MemPrepIdeal.nD Cert.MemPrepIdeal.τ).loc Cert.MemPrepIdeal.main_arg0) = m ((c.tc : Thread Cert.MemPrepIdeal.nD Cert.MemPrepIdeal.τ).loc Cert.MemPrepIdeal.main_arg0)
      ∧ r.2.mem ((c.tc : Thread Cert.MemPrepIdeal.nD Cert.MemPrepIdeal.τ).loc Cert.MemPrepIdeal.main_arg1) = m ((c.tc : Thread Cert.MemPrepIdeal.nD Cert.MemPrepIdeal.τ).loc Cert.MemPrepIdeal.main_arg1)
      ∧ r.2.mem ((c.tc : Thread Cert.MemPrepIdeal.nD Cert.MemPrepIdeal.τ).loc Cert.MemPrepIdeal.main_arg2) = m ((c.tc : Thread Cert.MemPrepIdeal.nD Cert.MemPrepIdeal.τ).loc Cert.MemPrepIdeal.main_arg2)
      ∧ r.2.mem ((c.tc : Thread Cert.MemPrepIdeal.nD Cert.MemPrepIdeal.τ).loc Cert.MemPrepIdeal.main_arg3) = m ((c.tc : Thread Cert.MemPrepIdeal.nD Cert.MemPrepIdeal.τ).loc Cert.MemPrepIdeal.main_arg3))
      ∧ r.2.sem = fun _ => 0)

def quiescent_MemPlainIdeal [hMemPlainIdeal : Cert.MemPlainIdeal.Facts] : Prop :=
  ∀ (m : (ℓ : Loc Cert.MemPlainIdeal.nD Cert.MemPlainIdeal.τ Cert.MemPlainIdeal.sig) → Buf (Elt Ideal) ℓ) (g : Dev Cert.MemPlainIdeal.nD → PrngReg), Pre_MemPlainIdeal m →
    θ_run (Cert.MemPlainIdeal.defs (F := Ideal)) (onTc (τ := Cert.MemPlainIdeal.τ) (Cert.MemPlainIdeal.main (F := Ideal))) ⟨m, fun _ => 0, g⟩ (fun r => (∀ c : Dev Cert.MemPlainIdeal.nD,
      r.2.mem ((c.tc : Thread Cert.MemPlainIdeal.nD Cert.MemPlainIdeal.τ).loc Cert.MemPlainIdeal.main_arg0) = m ((c.tc : Thread Cert.MemPlainIdeal.nD Cert.MemPlainIdeal.τ).loc Cert.MemPlainIdeal.main_arg0)
      ∧ r.2.mem ((c.tc : Thread Cert.MemPlainIdeal.nD Cert.MemPlainIdeal.τ).loc Cert.MemPlainIdeal.main_arg1) = m ((c.tc : Thread Cert.MemPlainIdeal.nD Cert.MemPlainIdeal.τ).loc Cert.MemPlainIdeal.main_arg1)
      ∧ r.2.mem ((c.tc : Thread Cert.MemPlainIdeal.nD Cert.MemPlainIdeal.τ).loc Cert.MemPlainIdeal.main_arg2) = m ((c.tc : Thread Cert.MemPlainIdeal.nD Cert.MemPlainIdeal.τ).loc Cert.MemPlainIdeal.main_arg2)
      ∧ r.2.mem ((c.tc : Thread Cert.MemPlainIdeal.nD Cert.MemPlainIdeal.τ).loc Cert.MemPlainIdeal.main_arg3) = m ((c.tc : Thread Cert.MemPlainIdeal.nD Cert.MemPlainIdeal.τ).loc Cert.MemPlainIdeal.main_arg3))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_GradW [hGradW : Cert.GradW.Facts] : Prop :=
  ∀ (m : (ℓ : Loc Cert.GradW.nD Cert.GradW.τ Cert.GradW.sig) → Buf (Elt Bits) ℓ) (g : Dev Cert.GradW.nD → PrngReg), Pre_GradW m →
    θ_run (Cert.GradW.defs (F := Bits)) (onTc (τ := Cert.GradW.τ) (Cert.GradW.main (F := Bits))) ⟨m, fun _ => 0, g⟩ (fun r => (∀ c : Dev Cert.GradW.nD,
      r.2.mem ((c.tc : Thread Cert.GradW.nD Cert.GradW.τ).loc Cert.GradW.main_arg0) = m ((c.tc : Thread Cert.GradW.nD Cert.GradW.τ).loc Cert.GradW.main_arg0)
      ∧ r.2.mem ((c.tc : Thread Cert.GradW.nD Cert.GradW.τ).loc Cert.GradW.main_arg1) = m ((c.tc : Thread Cert.GradW.nD Cert.GradW.τ).loc Cert.GradW.main_arg1)
      ∧ r.2.mem ((c.tc : Thread Cert.GradW.nD Cert.GradW.τ).loc Cert.GradW.main_arg2) = m ((c.tc : Thread Cert.GradW.nD Cert.GradW.τ).loc Cert.GradW.main_arg2))
      ∧ r.2.sem = fun _ => 0)

def quiescent_GradWIdeal [hGradWIdeal : Cert.GradWIdeal.Facts] : Prop :=
  ∀ (m : (ℓ : Loc Cert.GradWIdeal.nD Cert.GradWIdeal.τ Cert.GradWIdeal.sig) → Buf (Elt Ideal) ℓ) (g : Dev Cert.GradWIdeal.nD → PrngReg), Pre_GradWIdeal m →
    θ_run (Cert.GradWIdeal.defs (F := Ideal)) (onTc (τ := Cert.GradWIdeal.τ) (Cert.GradWIdeal.main (F := Ideal))) ⟨m, fun _ => 0, g⟩ (fun r => (∀ c : Dev Cert.GradWIdeal.nD,
      r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
      ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1)
      ∧ r.2.mem ((c.tc : Thread Cert.GradWIdeal.nD Cert.GradWIdeal.τ).loc Cert.GradWIdeal.main_arg2) = m ((c.tc : Thread Cert.GradWIdeal.nD Cert.GradWIdeal.τ).loc Cert.GradWIdeal.main_arg2))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1)
      ∧ r.2.mem ((c.tc : Thread Cert.WeightGradIdeal.nD Cert.WeightGradIdeal.τ).loc Cert.WeightGradIdeal.main_arg2) = m ((c.tc : Thread Cert.WeightGradIdeal.nD Cert.WeightGradIdeal.τ).loc Cert.WeightGradIdeal.main_arg2))
      ∧ r.2.sem = fun _ => 0)

def preserves_MemBwd_MemBwdIdeal : Prop :=
  True

def algebraic_MemBwdIdeal_MemGradIdeal [hMemBwdIdeal : Cert.MemBwdIdeal.Facts] [hMemGradIdeal : Cert.MemGradIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg)
    (m' : (ℓ : Loc Cert.MemGradIdeal.nD Cert.MemGradIdeal.τ Cert.MemGradIdeal.sig) → Buf (Elt Ideal) ℓ) (g' : Dev Cert.MemGradIdeal.nD → PrngReg), Pre_MemBwdIdeal m →
    (∀ c : Dev Cert.MemBwdIdeal.nD,
      m' ((c.tc : Thread Cert.MemGradIdeal.nD Cert.MemGradIdeal.τ).loc Cert.MemGradIdeal.main_arg0) = m ((c.tc : Thread Cert.MemBwdIdeal.nD Cert.MemBwdIdeal.τ).loc Cert.MemBwdIdeal.main_arg0)
      ∧ m' ((c.tc : Thread Cert.MemGradIdeal.nD Cert.MemGradIdeal.τ).loc Cert.MemGradIdeal.main_arg1) = m ((c.tc : Thread Cert.MemBwdIdeal.nD Cert.MemBwdIdeal.τ).loc Cert.MemBwdIdeal.main_arg1)
      ∧ m' ((c.tc : Thread Cert.MemGradIdeal.nD Cert.MemGradIdeal.τ).loc Cert.MemGradIdeal.main_arg2) = m ((c.tc : Thread Cert.MemBwdIdeal.nD Cert.MemBwdIdeal.τ).loc Cert.MemBwdIdeal.main_arg2)
      ∧ m' ((c.tc : Thread Cert.MemGradIdeal.nD Cert.MemGradIdeal.τ).loc Cert.MemGradIdeal.main_arg3) = m ((c.tc : Thread Cert.MemBwdIdeal.nD Cert.MemBwdIdeal.τ).loc Cert.MemBwdIdeal.main_arg3)
      ∧ m' ((c.tc : Thread Cert.MemGradIdeal.nD Cert.MemGradIdeal.τ).loc Cert.MemGradIdeal.main_arg4) = m ((c.tc : Thread Cert.MemBwdIdeal.nD Cert.MemBwdIdeal.τ).loc Cert.MemBwdIdeal.main_arg4)
      ∧ m' ((c.tc : Thread Cert.MemGradIdeal.nD Cert.MemGradIdeal.τ).loc Cert.MemGradIdeal.main_arg5) = m ((c.tc : Thread Cert.MemBwdIdeal.nD Cert.MemBwdIdeal.τ).loc Cert.MemBwdIdeal.main_arg5)) →
    ∃ (v0 : (c : Dev Cert.MemBwdIdeal.nD) → Buf (Elt Ideal) ((c.tc : Thread Cert.MemBwdIdeal.nD Cert.MemBwdIdeal.τ).loc Cert.MemBwdIdeal.main_v0_0)) (v1 : (c : Dev Cert.MemBwdIdeal.nD) → Buf (Elt Ideal) ((c.tc : Thread Cert.MemBwdIdeal.nD Cert.MemBwdIdeal.τ).loc Cert.MemBwdIdeal.main_v0_1)) (v2 : (c : Dev Cert.MemBwdIdeal.nD) → Buf (Elt Ideal) ((c.tc : Thread Cert.MemBwdIdeal.nD Cert.MemBwdIdeal.τ).loc Cert.MemBwdIdeal.main_v0_2)),
      θ_run (Cert.MemBwdIdeal.defs (F := Ideal)) (onTc (τ := Cert.MemBwdIdeal.τ) (Cert.MemBwdIdeal.main (F := Ideal))) ⟨m, fun _ => 0, g⟩ (fun r => ∀ c : Dev Cert.MemBwdIdeal.nD,
          r.2.mem ((c.tc : Thread Cert.MemBwdIdeal.nD Cert.MemBwdIdeal.τ).loc Cert.MemBwdIdeal.main_v0_0) = v0 c
          ∧ r.2.mem ((c.tc : Thread Cert.MemBwdIdeal.nD Cert.MemBwdIdeal.τ).loc Cert.MemBwdIdeal.main_v0_1) = v1 c
          ∧ r.2.mem ((c.tc : Thread Cert.MemBwdIdeal.nD Cert.MemBwdIdeal.τ).loc Cert.MemBwdIdeal.main_v0_2) = v2 c
          ∧ r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
          ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
          ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
          ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3)
          ∧ r.2.mem ((c.tc : Thread Cert.MemBwdIdeal.nD Cert.MemBwdIdeal.τ).loc Cert.MemBwdIdeal.main_arg4) = m ((c.tc : Thread Cert.MemBwdIdeal.nD Cert.MemBwdIdeal.τ).loc Cert.MemBwdIdeal.main_arg4)
          ∧ r.2.mem ((c.tc : Thread Cert.MemBwdIdeal.nD Cert.MemBwdIdeal.τ).loc Cert.MemBwdIdeal.main_arg5) = m ((c.tc : Thread Cert.MemBwdIdeal.nD Cert.MemBwdIdeal.τ).loc Cert.MemBwdIdeal.main_arg5))
      ∧ θ_run (Cert.MemGradIdeal.defs (F := Ideal)) (onTc (τ := Cert.MemGradIdeal.τ) (Cert.MemGradIdeal.main (F := Ideal))) ⟨m', fun _ => 0, g'⟩ (fun r => ∀ c : Dev Cert.MemGradIdeal.nD,
          r.2.mem ((c.tc : Thread Cert.MemGradIdeal.nD Cert.MemGradIdeal.τ).loc Cert.MemGradIdeal.main_v71) = v0 c
          ∧ r.2.mem ((c.tc : Thread Cert.MemGradIdeal.nD Cert.MemGradIdeal.τ).loc Cert.MemGradIdeal.main_v70) = v1 c
          ∧ r.2.mem ((c.tc : Thread Cert.MemGradIdeal.nD Cert.MemGradIdeal.τ).loc Cert.MemGradIdeal.main_v59) = v2 c
          ∧ r.2.mem ((c.tc : Thread Cert.MemGradIdeal.nD Cert.MemGradIdeal.τ).loc Cert.MemGradIdeal.main_arg0) = m' ((c.tc : Thread Cert.MemGradIdeal.nD Cert.MemGradIdeal.τ).loc Cert.MemGradIdeal.main_arg0)
          ∧ r.2.mem ((c.tc : Thread Cert.MemGradIdeal.nD Cert.MemGradIdeal.τ).loc Cert.MemGradIdeal.main_arg1) = m' ((c.tc : Thread Cert.MemGradIdeal.nD Cert.MemGradIdeal.τ).loc Cert.MemGradIdeal.main_arg1)
          ∧ r.2.mem ((c.tc : Thread Cert.MemGradIdeal.nD Cert.MemGradIdeal.τ).loc Cert.MemGradIdeal.main_arg2) = m' ((c.tc : Thread Cert.MemGradIdeal.nD Cert.MemGradIdeal.τ).loc Cert.MemGradIdeal.main_arg2)
          ∧ r.2.mem ((c.tc : Thread Cert.MemGradIdeal.nD Cert.MemGradIdeal.τ).loc Cert.MemGradIdeal.main_arg3) = m' ((c.tc : Thread Cert.MemGradIdeal.nD Cert.MemGradIdeal.τ).loc Cert.MemGradIdeal.main_arg3)
          ∧ r.2.mem ((c.tc : Thread Cert.MemGradIdeal.nD Cert.MemGradIdeal.τ).loc Cert.MemGradIdeal.main_arg4) = m' ((c.tc : Thread Cert.MemGradIdeal.nD Cert.MemGradIdeal.τ).loc Cert.MemGradIdeal.main_arg4)
          ∧ r.2.mem ((c.tc : Thread Cert.MemGradIdeal.nD Cert.MemGradIdeal.τ).loc Cert.MemGradIdeal.main_arg5) = m' ((c.tc : Thread Cert.MemGradIdeal.nD Cert.MemGradIdeal.τ).loc Cert.MemGradIdeal.main_arg5))

def preserves_FoxBwd_FoxBwdIdeal : Prop :=
  IdealRules.named_const.Statement Cert.FoxBwdIdeal.κ "mask" .f32 0xF149F2CA#32 ⊥

def algebraic_FoxBwdIdeal_FoxGradIdeal_pre_fox_finite [hFoxBwdIdeal : Cert.FoxBwdIdeal.Facts] [hFoxGradIdeal : Cert.FoxGradIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg)
    (m' : (ℓ : Loc Cert.FoxGradIdeal.nD Cert.FoxGradIdeal.τ Cert.FoxGradIdeal.sig) → Buf (Elt Ideal) ℓ) (g' : Dev Cert.FoxGradIdeal.nD → PrngReg), Pre_FoxBwdIdeal_fox_finite m →
    (∀ c : Dev Cert.FoxBwdIdeal.nD,
      m' ((c.tc : Thread Cert.FoxGradIdeal.nD Cert.FoxGradIdeal.τ).loc Cert.FoxGradIdeal.main_arg0) = m ((c.tc : Thread Cert.FoxBwdIdeal.nD Cert.FoxBwdIdeal.τ).loc Cert.FoxBwdIdeal.main_arg0)
      ∧ m' ((c.tc : Thread Cert.FoxGradIdeal.nD Cert.FoxGradIdeal.τ).loc Cert.FoxGradIdeal.main_arg1) = m ((c.tc : Thread Cert.FoxBwdIdeal.nD Cert.FoxBwdIdeal.τ).loc Cert.FoxBwdIdeal.main_arg1)
      ∧ m' ((c.tc : Thread Cert.FoxGradIdeal.nD Cert.FoxGradIdeal.τ).loc Cert.FoxGradIdeal.main_arg2) = m ((c.tc : Thread Cert.FoxBwdIdeal.nD Cert.FoxBwdIdeal.τ).loc Cert.FoxBwdIdeal.main_arg2)
      ∧ m' ((c.tc : Thread Cert.FoxGradIdeal.nD Cert.FoxGradIdeal.τ).loc Cert.FoxGradIdeal.main_arg3) = m ((c.tc : Thread Cert.FoxBwdIdeal.nD Cert.FoxBwdIdeal.τ).loc Cert.FoxBwdIdeal.main_arg3)
      ∧ m' ((c.tc : Thread Cert.FoxGradIdeal.nD Cert.FoxGradIdeal.τ).loc Cert.FoxGradIdeal.main_arg4) = m ((c.tc : Thread Cert.FoxBwdIdeal.nD Cert.FoxBwdIdeal.τ).loc Cert.FoxBwdIdeal.main_arg4)) →
    ∃ (v0 : (c : Dev Cert.FoxBwdIdeal.nD) → Buf (Elt Ideal) ((c.tc : Thread Cert.FoxBwdIdeal.nD Cert.FoxBwdIdeal.τ).loc Cert.FoxBwdIdeal.main_v68)) (v1 : (c : Dev Cert.FoxBwdIdeal.nD) → Buf (Elt Ideal) ((c.tc : Thread Cert.FoxBwdIdeal.nD Cert.FoxBwdIdeal.τ).loc Cert.FoxBwdIdeal.main_v69)) (v2 : (c : Dev Cert.FoxBwdIdeal.nD) → Buf (Elt Ideal) ((c.tc : Thread Cert.FoxBwdIdeal.nD Cert.FoxBwdIdeal.τ).loc Cert.FoxBwdIdeal.main_v65_2)) (v3 : (c : Dev Cert.FoxBwdIdeal.nD) → Buf (Elt Ideal) ((c.tc : Thread Cert.FoxBwdIdeal.nD Cert.FoxBwdIdeal.τ).loc Cert.FoxBwdIdeal.main_v74)),
      θ_run (Cert.FoxBwdIdeal.defs (F := Ideal)) (onTc (τ := Cert.FoxBwdIdeal.τ) (Cert.FoxBwdIdeal.main (F := Ideal))) ⟨m, fun _ => 0, g⟩ (fun r => ∀ c : Dev Cert.FoxBwdIdeal.nD,
          r.2.mem ((c.tc : Thread Cert.FoxBwdIdeal.nD Cert.FoxBwdIdeal.τ).loc Cert.FoxBwdIdeal.main_v68) = v0 c
          ∧ r.2.mem ((c.tc : Thread Cert.FoxBwdIdeal.nD Cert.FoxBwdIdeal.τ).loc Cert.FoxBwdIdeal.main_v69) = v1 c
          ∧ r.2.mem ((c.tc : Thread Cert.FoxBwdIdeal.nD Cert.FoxBwdIdeal.τ).loc Cert.FoxBwdIdeal.main_v65_2) = v2 c
          ∧ r.2.mem ((c.tc : Thread Cert.FoxBwdIdeal.nD Cert.FoxBwdIdeal.τ).loc Cert.FoxBwdIdeal.main_v74) = v3 c
          ∧ r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
          ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
          ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
          ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
          ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ θ_run (Cert.FoxGradIdeal.defs (F := Ideal)) (onTc (τ := Cert.FoxGradIdeal.τ) (Cert.FoxGradIdeal.main (F := Ideal))) ⟨m', fun _ => 0, g'⟩ (fun r => ∀ c : Dev Cert.FoxGradIdeal.nD,
          r.2.mem ((c.tc : Thread Cert.FoxGradIdeal.nD Cert.FoxGradIdeal.τ).loc Cert.FoxGradIdeal.main_v74) = v0 c
          ∧ r.2.mem ((c.tc : Thread Cert.FoxGradIdeal.nD Cert.FoxGradIdeal.τ).loc Cert.FoxGradIdeal.main_v73) = v1 c
          ∧ r.2.mem ((c.tc : Thread Cert.FoxGradIdeal.nD Cert.FoxGradIdeal.τ).loc Cert.FoxGradIdeal.main_v75) = v2 c
          ∧ r.2.mem ((c.tc : Thread Cert.FoxGradIdeal.nD Cert.FoxGradIdeal.τ).loc Cert.FoxGradIdeal.main_v70) = v3 c
          ∧ r.2.mem ((c.tc : Thread Cert.FoxGradIdeal.nD Cert.FoxGradIdeal.τ).loc Cert.FoxGradIdeal.main_arg0) = m' ((c.tc : Thread Cert.FoxGradIdeal.nD Cert.FoxGradIdeal.τ).loc Cert.FoxGradIdeal.main_arg0)
          ∧ r.2.mem ((c.tc : Thread Cert.FoxGradIdeal.nD Cert.FoxGradIdeal.τ).loc Cert.FoxGradIdeal.main_arg1) = m' ((c.tc : Thread Cert.FoxGradIdeal.nD Cert.FoxGradIdeal.τ).loc Cert.FoxGradIdeal.main_arg1)
          ∧ r.2.mem ((c.tc : Thread Cert.FoxGradIdeal.nD Cert.FoxGradIdeal.τ).loc Cert.FoxGradIdeal.main_arg2) = m' ((c.tc : Thread Cert.FoxGradIdeal.nD Cert.FoxGradIdeal.τ).loc Cert.FoxGradIdeal.main_arg2)
          ∧ r.2.mem ((c.tc : Thread Cert.FoxGradIdeal.nD Cert.FoxGradIdeal.τ).loc Cert.FoxGradIdeal.main_arg3) = m' ((c.tc : Thread Cert.FoxGradIdeal.nD Cert.FoxGradIdeal.τ).loc Cert.FoxGradIdeal.main_arg3)
          ∧ r.2.mem ((c.tc : Thread Cert.FoxGradIdeal.nD Cert.FoxGradIdeal.τ).loc Cert.FoxGradIdeal.main_arg4) = m' ((c.tc : Thread Cert.FoxGradIdeal.nD Cert.FoxGradIdeal.τ).loc Cert.FoxGradIdeal.main_arg4))

def preserves_FoxPost_FoxPostIdeal : Prop :=
  True

def algebraic_FoxPostIdeal_FoxPostGradIdeal_pre_post_finite [hFoxPostIdeal : Cert.FoxPostIdeal.Facts] [hFoxPostGradIdeal : Cert.FoxPostGradIdeal.Facts] [hPre_post_finite : Cert.Pre_post_finite.Facts] : Prop :=
  ∀ (m : (ℓ : Loc Cert.FoxPostIdeal.nD Cert.FoxPostIdeal.τ Cert.FoxPostIdeal.sig) → Buf (Elt Ideal) ℓ) (g : Dev Cert.FoxPostIdeal.nD → PrngReg)
    (m' : (ℓ : Loc Cert.FoxPostGradIdeal.nD Cert.FoxPostGradIdeal.τ Cert.FoxPostGradIdeal.sig) → Buf (Elt Ideal) ℓ) (g' : Dev Cert.FoxPostGradIdeal.nD → PrngReg), Pre_FoxPostIdeal_post_finite m →
    (∀ c : Dev Cert.FoxPostIdeal.nD,
      m' ((c.tc : Thread Cert.FoxPostGradIdeal.nD Cert.FoxPostGradIdeal.τ).loc Cert.FoxPostGradIdeal.main_arg0) = m ((c.tc : Thread Cert.FoxPostIdeal.nD Cert.FoxPostIdeal.τ).loc Cert.FoxPostIdeal.main_arg0)
      ∧ m' ((c.tc : Thread Cert.FoxPostGradIdeal.nD Cert.FoxPostGradIdeal.τ).loc Cert.FoxPostGradIdeal.main_arg1) = m ((c.tc : Thread Cert.FoxPostIdeal.nD Cert.FoxPostIdeal.τ).loc Cert.FoxPostIdeal.main_arg1)
      ∧ m' ((c.tc : Thread Cert.FoxPostGradIdeal.nD Cert.FoxPostGradIdeal.τ).loc Cert.FoxPostGradIdeal.main_arg2) = m ((c.tc : Thread Cert.FoxPostIdeal.nD Cert.FoxPostIdeal.τ).loc Cert.FoxPostIdeal.main_arg2)
      ∧ m' ((c.tc : Thread Cert.FoxPostGradIdeal.nD Cert.FoxPostGradIdeal.τ).loc Cert.FoxPostGradIdeal.main_arg3) = m ((c.tc : Thread Cert.FoxPostIdeal.nD Cert.FoxPostIdeal.τ).loc Cert.FoxPostIdeal.main_arg3)
      ∧ m' ((c.tc : Thread Cert.FoxPostGradIdeal.nD Cert.FoxPostGradIdeal.τ).loc Cert.FoxPostGradIdeal.main_arg4) = m ((c.tc : Thread Cert.FoxPostIdeal.nD Cert.FoxPostIdeal.τ).loc Cert.FoxPostIdeal.main_arg4)
      ∧ m' ((c.tc : Thread Cert.FoxPostGradIdeal.nD Cert.FoxPostGradIdeal.τ).loc Cert.FoxPostGradIdeal.main_arg5) = m ((c.tc : Thread Cert.FoxPostIdeal.nD Cert.FoxPostIdeal.τ).loc Cert.FoxPostIdeal.main_arg5)
      ∧ m' ((c.tc : Thread Cert.FoxPostGradIdeal.nD Cert.FoxPostGradIdeal.τ).loc Cert.FoxPostGradIdeal.main_arg6) = m ((c.tc : Thread Cert.FoxPostIdeal.nD Cert.FoxPostIdeal.τ).loc Cert.FoxPostIdeal.main_arg6)
      ∧ m' ((c.tc : Thread Cert.FoxPostGradIdeal.nD Cert.FoxPostGradIdeal.τ).loc Cert.FoxPostGradIdeal.main_arg7) = m ((c.tc : Thread Cert.FoxPostIdeal.nD Cert.FoxPostIdeal.τ).loc Cert.FoxPostIdeal.main_arg7)
      ∧ m' ((c.tc : Thread Cert.FoxPostGradIdeal.nD Cert.FoxPostGradIdeal.τ).loc Cert.FoxPostGradIdeal.main_arg8) = m ((c.tc : Thread Cert.FoxPostIdeal.nD Cert.FoxPostIdeal.τ).loc Cert.FoxPostIdeal.main_arg8)
      ∧ m' ((c.tc : Thread Cert.FoxPostGradIdeal.nD Cert.FoxPostGradIdeal.τ).loc Cert.FoxPostGradIdeal.main_arg9) = m ((c.tc : Thread Cert.FoxPostIdeal.nD Cert.FoxPostIdeal.τ).loc Cert.FoxPostIdeal.main_arg9)
      ∧ m' ((c.tc : Thread Cert.FoxPostGradIdeal.nD Cert.FoxPostGradIdeal.τ).loc Cert.FoxPostGradIdeal.main_arg10) = m ((c.tc : Thread Cert.FoxPostIdeal.nD Cert.FoxPostIdeal.τ).loc Cert.FoxPostIdeal.main_arg10)) →
    ∃ (v0 : (c : Dev Cert.FoxPostIdeal.nD) → Buf (Elt Ideal) ((c.tc : Thread Cert.FoxPostIdeal.nD Cert.FoxPostIdeal.τ).loc Cert.FoxPostIdeal.main_v26_0)) (v1 : (c : Dev Cert.FoxPostIdeal.nD) → Buf (Elt Ideal) ((c.tc : Thread Cert.FoxPostIdeal.nD Cert.FoxPostIdeal.τ).loc Cert.FoxPostIdeal.main_v26_1)) (v2 : (c : Dev Cert.FoxPostIdeal.nD) → Buf (Elt Ideal) ((c.tc : Thread Cert.FoxPostIdeal.nD Cert.FoxPostIdeal.τ).loc Cert.FoxPostIdeal.main_v26_2)) (v3 : (c : Dev Cert.FoxPostIdeal.nD) → Buf (Elt Ideal) ((c.tc : Thread Cert.FoxPostIdeal.nD Cert.FoxPostIdeal.τ).loc Cert.FoxPostIdeal.main_v26_3)) (v4 : (c : Dev Cert.FoxPostIdeal.nD) → Buf (Elt Ideal) ((c.tc : Thread Cert.FoxPostIdeal.nD Cert.FoxPostIdeal.τ).loc Cert.FoxPostIdeal.main_v26_4)) (v5 : (c : Dev Cert.FoxPostIdeal.nD) → Buf (Elt Ideal) ((c.tc : Thread Cert.FoxPostIdeal.nD Cert.FoxPostIdeal.τ).loc Cert.FoxPostIdeal.main_v26_5)) (v6 : (c : Dev Cert.FoxPostIdeal.nD) → Buf (Elt Ideal) ((c.tc : Thread Cert.FoxPostIdeal.nD Cert.FoxPostIdeal.τ).loc Cert.FoxPostIdeal.main_v26_6)),
      θ_run (Cert.FoxPostIdeal.defs (F := Ideal)) (onTc (τ := Cert.FoxPostIdeal.τ) (Cert.FoxPostIdeal.main (F := Ideal))) ⟨m, fun _ => 0, g⟩ (fun r => ∀ c : Dev Cert.FoxPostIdeal.nD,
          r.2.mem ((c.tc : Thread Cert.FoxPostIdeal.nD Cert.FoxPostIdeal.τ).loc Cert.FoxPostIdeal.main_v26_0) = v0 c
          ∧ r.2.mem ((c.tc : Thread Cert.FoxPostIdeal.nD Cert.FoxPostIdeal.τ).loc Cert.FoxPostIdeal.main_v26_1) = v1 c
          ∧ r.2.mem ((c.tc : Thread Cert.FoxPostIdeal.nD Cert.FoxPostIdeal.τ).loc Cert.FoxPostIdeal.main_v26_2) = v2 c
          ∧ r.2.mem ((c.tc : Thread Cert.FoxPostIdeal.nD Cert.FoxPostIdeal.τ).loc Cert.FoxPostIdeal.main_v26_3) = v3 c
          ∧ r.2.mem ((c.tc : Thread Cert.FoxPostIdeal.nD Cert.FoxPostIdeal.τ).loc Cert.FoxPostIdeal.main_v26_4) = v4 c
          ∧ r.2.mem ((c.tc : Thread Cert.FoxPostIdeal.nD Cert.FoxPostIdeal.τ).loc Cert.FoxPostIdeal.main_v26_5) = v5 c
          ∧ r.2.mem ((c.tc : Thread Cert.FoxPostIdeal.nD Cert.FoxPostIdeal.τ).loc Cert.FoxPostIdeal.main_v26_6) = v6 c
          ∧ r.2.mem ((c.tc : Thread Cert.FoxPostIdeal.nD Cert.FoxPostIdeal.τ).loc Cert.FoxPostIdeal.main_arg0) = m ((c.tc : Thread Cert.FoxPostIdeal.nD Cert.FoxPostIdeal.τ).loc Cert.FoxPostIdeal.main_arg0)
          ∧ r.2.mem ((c.tc : Thread Cert.FoxPostIdeal.nD Cert.FoxPostIdeal.τ).loc Cert.FoxPostIdeal.main_arg1) = m ((c.tc : Thread Cert.FoxPostIdeal.nD Cert.FoxPostIdeal.τ).loc Cert.FoxPostIdeal.main_arg1)
          ∧ r.2.mem ((c.tc : Thread Cert.FoxPostIdeal.nD Cert.FoxPostIdeal.τ).loc Cert.FoxPostIdeal.main_arg2) = m ((c.tc : Thread Cert.FoxPostIdeal.nD Cert.FoxPostIdeal.τ).loc Cert.FoxPostIdeal.main_arg2)
          ∧ r.2.mem ((c.tc : Thread Cert.FoxPostIdeal.nD Cert.FoxPostIdeal.τ).loc Cert.FoxPostIdeal.main_arg3) = m ((c.tc : Thread Cert.FoxPostIdeal.nD Cert.FoxPostIdeal.τ).loc Cert.FoxPostIdeal.main_arg3)
          ∧ r.2.mem ((c.tc : Thread Cert.FoxPostIdeal.nD Cert.FoxPostIdeal.τ).loc Cert.FoxPostIdeal.main_arg4) = m ((c.tc : Thread Cert.FoxPostIdeal.nD Cert.FoxPostIdeal.τ).loc Cert.FoxPostIdeal.main_arg4)
          ∧ r.2.mem ((c.tc : Thread Cert.FoxPostIdeal.nD Cert.FoxPostIdeal.τ).loc Cert.FoxPostIdeal.main_arg5) = m ((c.tc : Thread Cert.FoxPostIdeal.nD Cert.FoxPostIdeal.τ).loc Cert.FoxPostIdeal.main_arg5)
          ∧ r.2.mem ((c.tc : Thread Cert.FoxPostIdeal.nD Cert.FoxPostIdeal.τ).loc Cert.FoxPostIdeal.main_arg6) = m ((c.tc : Thread Cert.FoxPostIdeal.nD Cert.FoxPostIdeal.τ).loc Cert.FoxPostIdeal.main_arg6)
          ∧ r.2.mem ((c.tc : Thread Cert.FoxPostIdeal.nD Cert.FoxPostIdeal.τ).loc Cert.FoxPostIdeal.main_arg7) = m ((c.tc : Thread Cert.FoxPostIdeal.nD Cert.FoxPostIdeal.τ).loc Cert.FoxPostIdeal.main_arg7)
          ∧ r.2.mem ((c.tc : Thread Cert.FoxPostIdeal.nD Cert.FoxPostIdeal.τ).loc Cert.FoxPostIdeal.main_arg8) = m ((c.tc : Thread Cert.FoxPostIdeal.nD Cert.FoxPostIdeal.τ).loc Cert.FoxPostIdeal.main_arg8)
          ∧ r.2.mem ((c.tc : Thread Cert.FoxPostIdeal.nD Cert.FoxPostIdeal.τ).loc Cert.FoxPostIdeal.main_arg9) = m ((c.tc : Thread Cert.FoxPostIdeal.nD Cert.FoxPostIdeal.τ).loc Cert.FoxPostIdeal.main_arg9)
          ∧ r.2.mem ((c.tc : Thread Cert.FoxPostIdeal.nD Cert.FoxPostIdeal.τ).loc Cert.FoxPostIdeal.main_arg10) = m ((c.tc : Thread Cert.FoxPostIdeal.nD Cert.FoxPostIdeal.τ).loc Cert.FoxPostIdeal.main_arg10))
      ∧ θ_run (Cert.FoxPostGradIdeal.defs (F := Ideal)) (onTc (τ := Cert.FoxPostGradIdeal.τ) (Cert.FoxPostGradIdeal.main (F := Ideal))) ⟨m', fun _ => 0, g'⟩ (fun r => ∀ c : Dev Cert.FoxPostGradIdeal.nD,
          r.2.mem ((c.tc : Thread Cert.FoxPostGradIdeal.nD Cert.FoxPostGradIdeal.τ).loc Cert.FoxPostGradIdeal.main_v110) = v0 c
          ∧ r.2.mem ((c.tc : Thread Cert.FoxPostGradIdeal.nD Cert.FoxPostGradIdeal.τ).loc Cert.FoxPostGradIdeal.main_v111) = v1 c
          ∧ r.2.mem ((c.tc : Thread Cert.FoxPostGradIdeal.nD Cert.FoxPostGradIdeal.τ).loc Cert.FoxPostGradIdeal.main_v112) = v2 c
          ∧ r.2.mem ((c.tc : Thread Cert.FoxPostGradIdeal.nD Cert.FoxPostGradIdeal.τ).loc Cert.FoxPostGradIdeal.main_v115) = v3 c
          ∧ r.2.mem ((c.tc : Thread Cert.FoxPostGradIdeal.nD Cert.FoxPostGradIdeal.τ).loc Cert.FoxPostGradIdeal.main_v107) = v4 c
          ∧ r.2.mem ((c.tc : Thread Cert.FoxPostGradIdeal.nD Cert.FoxPostGradIdeal.τ).loc Cert.FoxPostGradIdeal.main_v84) = v5 c
          ∧ r.2.mem ((c.tc : Thread Cert.FoxPostGradIdeal.nD Cert.FoxPostGradIdeal.τ).loc Cert.FoxPostGradIdeal.main_v117) = v6 c
          ∧ r.2.mem ((c.tc : Thread Cert.FoxPostGradIdeal.nD Cert.FoxPostGradIdeal.τ).loc Cert.FoxPostGradIdeal.main_arg0) = m' ((c.tc : Thread Cert.FoxPostGradIdeal.nD Cert.FoxPostGradIdeal.τ).loc Cert.FoxPostGradIdeal.main_arg0)
          ∧ r.2.mem ((c.tc : Thread Cert.FoxPostGradIdeal.nD Cert.FoxPostGradIdeal.τ).loc Cert.FoxPostGradIdeal.main_arg1) = m' ((c.tc : Thread Cert.FoxPostGradIdeal.nD Cert.FoxPostGradIdeal.τ).loc Cert.FoxPostGradIdeal.main_arg1)
          ∧ r.2.mem ((c.tc : Thread Cert.FoxPostGradIdeal.nD Cert.FoxPostGradIdeal.τ).loc Cert.FoxPostGradIdeal.main_arg2) = m' ((c.tc : Thread Cert.FoxPostGradIdeal.nD Cert.FoxPostGradIdeal.τ).loc Cert.FoxPostGradIdeal.main_arg2)
          ∧ r.2.mem ((c.tc : Thread Cert.FoxPostGradIdeal.nD Cert.FoxPostGradIdeal.τ).loc Cert.FoxPostGradIdeal.main_arg3) = m' ((c.tc : Thread Cert.FoxPostGradIdeal.nD Cert.FoxPostGradIdeal.τ).loc Cert.FoxPostGradIdeal.main_arg3)
          ∧ r.2.mem ((c.tc : Thread Cert.FoxPostGradIdeal.nD Cert.FoxPostGradIdeal.τ).loc Cert.FoxPostGradIdeal.main_arg4) = m' ((c.tc : Thread Cert.FoxPostGradIdeal.nD Cert.FoxPostGradIdeal.τ).loc Cert.FoxPostGradIdeal.main_arg4)
          ∧ r.2.mem ((c.tc : Thread Cert.FoxPostGradIdeal.nD Cert.FoxPostGradIdeal.τ).loc Cert.FoxPostGradIdeal.main_arg5) = m' ((c.tc : Thread Cert.FoxPostGradIdeal.nD Cert.FoxPostGradIdeal.τ).loc Cert.FoxPostGradIdeal.main_arg5)
          ∧ r.2.mem ((c.tc : Thread Cert.FoxPostGradIdeal.nD Cert.FoxPostGradIdeal.τ).loc Cert.FoxPostGradIdeal.main_arg6) = m' ((c.tc : Thread Cert.FoxPostGradIdeal.nD Cert.FoxPostGradIdeal.τ).loc Cert.FoxPostGradIdeal.main_arg6)
          ∧ r.2.mem ((c.tc : Thread Cert.FoxPostGradIdeal.nD Cert.FoxPostGradIdeal.τ).loc Cert.FoxPostGradIdeal.main_arg7) = m' ((c.tc : Thread Cert.FoxPostGradIdeal.nD Cert.FoxPostGradIdeal.τ).loc Cert.FoxPostGradIdeal.main_arg7)
          ∧ r.2.mem ((c.tc : Thread Cert.FoxPostGradIdeal.nD Cert.FoxPostGradIdeal.τ).loc Cert.FoxPostGradIdeal.main_arg8) = m' ((c.tc : Thread Cert.FoxPostGradIdeal.nD Cert.FoxPostGradIdeal.τ).loc Cert.FoxPostGradIdeal.main_arg8)
          ∧ r.2.mem ((c.tc : Thread Cert.FoxPostGradIdeal.nD Cert.FoxPostGradIdeal.τ).loc Cert.FoxPostGradIdeal.main_arg9) = m' ((c.tc : Thread Cert.FoxPostGradIdeal.nD Cert.FoxPostGradIdeal.τ).loc Cert.FoxPostGradIdeal.main_arg9)
          ∧ r.2.mem ((c.tc : Thread Cert.FoxPostGradIdeal.nD Cert.FoxPostGradIdeal.τ).loc Cert.FoxPostGradIdeal.main_arg10) = m' ((c.tc : Thread Cert.FoxPostGradIdeal.nD Cert.FoxPostGradIdeal.τ).loc Cert.FoxPostGradIdeal.main_arg10))

def preserves_MemPrep_MemPrepIdeal : Prop :=
  True

def algebraic_MemPrepIdeal_MemPlainIdeal [hMemPrepIdeal : Cert.MemPrepIdeal.Facts] [hMemPlainIdeal : Cert.MemPlainIdeal.Facts] : Prop :=
  ∀ (m : (ℓ : Loc Cert.MemPrepIdeal.nD Cert.MemPrepIdeal.τ Cert.MemPrepIdeal.sig) → Buf (Elt Ideal) ℓ) (g : Dev Cert.MemPrepIdeal.nD → PrngReg)
    (m' : (ℓ : Loc Cert.MemPlainIdeal.nD Cert.MemPlainIdeal.τ Cert.MemPlainIdeal.sig) → Buf (Elt Ideal) ℓ) (g' : Dev Cert.MemPlainIdeal.nD → PrngReg), Pre_MemPrepIdeal m →
    (∀ c : Dev Cert.MemPrepIdeal.nD,
      m' ((c.tc : Thread Cert.MemPlainIdeal.nD Cert.MemPlainIdeal.τ).loc Cert.MemPlainIdeal.main_arg0) = m ((c.tc : Thread Cert.MemPrepIdeal.nD Cert.MemPrepIdeal.τ).loc Cert.MemPrepIdeal.main_arg0)
      ∧ m' ((c.tc : Thread Cert.MemPlainIdeal.nD Cert.MemPlainIdeal.τ).loc Cert.MemPlainIdeal.main_arg1) = m ((c.tc : Thread Cert.MemPrepIdeal.nD Cert.MemPrepIdeal.τ).loc Cert.MemPrepIdeal.main_arg1)
      ∧ m' ((c.tc : Thread Cert.MemPlainIdeal.nD Cert.MemPlainIdeal.τ).loc Cert.MemPlainIdeal.main_arg2) = m ((c.tc : Thread Cert.MemPrepIdeal.nD Cert.MemPrepIdeal.τ).loc Cert.MemPrepIdeal.main_arg2)
      ∧ m' ((c.tc : Thread Cert.MemPlainIdeal.nD Cert.MemPlainIdeal.τ).loc Cert.MemPlainIdeal.main_arg3) = m ((c.tc : Thread Cert.MemPrepIdeal.nD Cert.MemPrepIdeal.τ).loc Cert.MemPrepIdeal.main_arg3)) →
    ∃ (v0 : (c : Dev Cert.MemPrepIdeal.nD) → Buf (Elt Ideal) ((c.tc : Thread Cert.MemPrepIdeal.nD Cert.MemPrepIdeal.τ).loc Cert.MemPrepIdeal.main_v0_0)) (v1 : (c : Dev Cert.MemPrepIdeal.nD) → Buf (Elt Ideal) ((c.tc : Thread Cert.MemPrepIdeal.nD Cert.MemPrepIdeal.τ).loc Cert.MemPrepIdeal.main_v0_1)),
      θ_run (Cert.MemPrepIdeal.defs (F := Ideal)) (onTc (τ := Cert.MemPrepIdeal.τ) (Cert.MemPrepIdeal.main (F := Ideal))) ⟨m, fun _ => 0, g⟩ (fun r => ∀ c : Dev Cert.MemPrepIdeal.nD,
          r.2.mem ((c.tc : Thread Cert.MemPrepIdeal.nD Cert.MemPrepIdeal.τ).loc Cert.MemPrepIdeal.main_v0_0) = v0 c
          ∧ r.2.mem ((c.tc : Thread Cert.MemPrepIdeal.nD Cert.MemPrepIdeal.τ).loc Cert.MemPrepIdeal.main_v0_1) = v1 c
          ∧ r.2.mem ((c.tc : Thread Cert.MemPrepIdeal.nD Cert.MemPrepIdeal.τ).loc Cert.MemPrepIdeal.main_arg0) = m ((c.tc : Thread Cert.MemPrepIdeal.nD Cert.MemPrepIdeal.τ).loc Cert.MemPrepIdeal.main_arg0)
          ∧ r.2.mem ((c.tc : Thread Cert.MemPrepIdeal.nD Cert.MemPrepIdeal.τ).loc Cert.MemPrepIdeal.main_arg1) = m ((c.tc : Thread Cert.MemPrepIdeal.nD Cert.MemPrepIdeal.τ).loc Cert.MemPrepIdeal.main_arg1)
          ∧ r.2.mem ((c.tc : Thread Cert.MemPrepIdeal.nD Cert.MemPrepIdeal.τ).loc Cert.MemPrepIdeal.main_arg2) = m ((c.tc : Thread Cert.MemPrepIdeal.nD Cert.MemPrepIdeal.τ).loc Cert.MemPrepIdeal.main_arg2)
          ∧ r.2.mem ((c.tc : Thread Cert.MemPrepIdeal.nD Cert.MemPrepIdeal.τ).loc Cert.MemPrepIdeal.main_arg3) = m ((c.tc : Thread Cert.MemPrepIdeal.nD Cert.MemPrepIdeal.τ).loc Cert.MemPrepIdeal.main_arg3))
      ∧ θ_run (Cert.MemPlainIdeal.defs (F := Ideal)) (onTc (τ := Cert.MemPlainIdeal.τ) (Cert.MemPlainIdeal.main (F := Ideal))) ⟨m', fun _ => 0, g'⟩ (fun r => ∀ c : Dev Cert.MemPlainIdeal.nD,
          r.2.mem ((c.tc : Thread Cert.MemPlainIdeal.nD Cert.MemPlainIdeal.τ).loc Cert.MemPlainIdeal.main_v34) = v0 c
          ∧ r.2.mem ((c.tc : Thread Cert.MemPlainIdeal.nD Cert.MemPlainIdeal.τ).loc Cert.MemPlainIdeal.main_v35) = v1 c
          ∧ r.2.mem ((c.tc : Thread Cert.MemPlainIdeal.nD Cert.MemPlainIdeal.τ).loc Cert.MemPlainIdeal.main_arg0) = m' ((c.tc : Thread Cert.MemPlainIdeal.nD Cert.MemPlainIdeal.τ).loc Cert.MemPlainIdeal.main_arg0)
          ∧ r.2.mem ((c.tc : Thread Cert.MemPlainIdeal.nD Cert.MemPlainIdeal.τ).loc Cert.MemPlainIdeal.main_arg1) = m' ((c.tc : Thread Cert.MemPlainIdeal.nD Cert.MemPlainIdeal.τ).loc Cert.MemPlainIdeal.main_arg1)
          ∧ r.2.mem ((c.tc : Thread Cert.MemPlainIdeal.nD Cert.MemPlainIdeal.τ).loc Cert.MemPlainIdeal.main_arg2) = m' ((c.tc : Thread Cert.MemPlainIdeal.nD Cert.MemPlainIdeal.τ).loc Cert.MemPlainIdeal.main_arg2)
          ∧ r.2.mem ((c.tc : Thread Cert.MemPlainIdeal.nD Cert.MemPlainIdeal.τ).loc Cert.MemPlainIdeal.main_arg3) = m' ((c.tc : Thread Cert.MemPlainIdeal.nD Cert.MemPlainIdeal.τ).loc Cert.MemPlainIdeal.main_arg3))

def preserves_GradX_GradXIdeal : Prop :=
  True

def algebraic_GradXIdeal_NormGradIdeal [hGradXIdeal : Cert.GradXIdeal.Facts] [hNormGradIdeal : Cert.NormGradIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.NormGradIdeal.nD Cert.NormGradIdeal.τ Cert.NormGradIdeal.sig) → Buf (Elt Ideal) ℓ) (g' : Dev Cert.NormGradIdeal.nD → PrngReg), Pre_GradXIdeal m →
    (∀ c : Dev Cert.GradXIdeal.nD,
      m' ((c.tc : Thread Cert.NormGradIdeal.nD Cert.NormGradIdeal.τ).loc Cert.NormGradIdeal.main_arg0) = m ((c.tc : Thread Cert.GradXIdeal.nD Cert.GradXIdeal.τ).loc Cert.GradXIdeal.main_arg0)
      ∧ m' ((c.tc : Thread Cert.NormGradIdeal.nD Cert.NormGradIdeal.τ).loc Cert.NormGradIdeal.main_arg1) = m ((c.tc : Thread Cert.GradXIdeal.nD Cert.GradXIdeal.τ).loc Cert.GradXIdeal.main_arg1)
      ∧ m' ((c.tc : Thread Cert.NormGradIdeal.nD Cert.NormGradIdeal.τ).loc Cert.NormGradIdeal.main_arg2) = m ((c.tc : Thread Cert.GradXIdeal.nD Cert.GradXIdeal.τ).loc Cert.GradXIdeal.main_arg2)
      ∧ m' ((c.tc : Thread Cert.NormGradIdeal.nD Cert.NormGradIdeal.τ).loc Cert.NormGradIdeal.main_arg3) = m ((c.tc : Thread Cert.GradXIdeal.nD Cert.GradXIdeal.τ).loc Cert.GradXIdeal.main_arg3)
      ∧ m' ((c.tc : Thread Cert.NormGradIdeal.nD Cert.NormGradIdeal.τ).loc Cert.NormGradIdeal.main_arg4) = m ((c.tc : Thread Cert.GradXIdeal.nD Cert.GradXIdeal.τ).loc Cert.GradXIdeal.main_arg4)) →
    ∃ (v0 : (c : Dev Cert.GradXIdeal.nD) → Buf (Elt Ideal) ((c.tc : Thread Cert.GradXIdeal.nD Cert.GradXIdeal.τ).loc Cert.GradXIdeal.main_v22_0)) (v1 : (c : Dev Cert.GradXIdeal.nD) → Buf (Elt Ideal) ((c.tc : Thread Cert.GradXIdeal.nD Cert.GradXIdeal.τ).loc Cert.GradXIdeal.main_v22_1)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v22_0) = v0 c
          ∧ r.2.mem ((c.tc : Thread Cert.GradXIdeal.nD Cert.GradXIdeal.τ).loc Cert.GradXIdeal.main_v22_1) = v1 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ θ_run (Cert.NormGradIdeal.defs (F := Ideal)) (onTc (τ := Cert.NormGradIdeal.τ) (Cert.NormGradIdeal.main (F := Ideal))) ⟨m', fun _ => 0, g'⟩ (fun r => ∀ c : Dev Cert.NormGradIdeal.nD,
          r.2.mem ((c.tc : Thread Cert.NormGradIdeal.nD Cert.NormGradIdeal.τ).loc Cert.NormGradIdeal.main_v39) = v0 c
          ∧ r.2.mem ((c.tc : Thread Cert.NormGradIdeal.nD Cert.NormGradIdeal.τ).loc Cert.NormGradIdeal.main_v40) = v1 c
          ∧ r.2.mem ((c.tc : Thread Cert.NormGradIdeal.nD Cert.NormGradIdeal.τ).loc Cert.NormGradIdeal.main_arg0) = m' ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m' ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m' ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m' ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m' ((c.tc : Thread Cert.NormGradIdeal.nD Cert.NormGradIdeal.τ).loc Cert.NormGradIdeal.main_arg4))

def preserves_GradW_GradWIdeal : Prop :=
  True

def algebraic_GradWIdeal_WeightGradIdeal [hGradWIdeal : Cert.GradWIdeal.Facts] [hWeightGradIdeal : Cert.WeightGradIdeal.Facts] : Prop :=
  ∀ (m : (ℓ : Loc Cert.GradWIdeal.nD Cert.GradWIdeal.τ Cert.GradWIdeal.sig) → Buf (Elt Ideal) ℓ) (g : Dev Cert.GradWIdeal.nD → PrngReg)
    (m' : (ℓ : Loc Cert.WeightGradIdeal.nD Cert.WeightGradIdeal.τ Cert.WeightGradIdeal.sig) → Buf (Elt Ideal) ℓ) (g' : Dev Cert.WeightGradIdeal.nD → PrngReg), Pre_GradWIdeal m →
    (∀ c : Dev Cert.GradWIdeal.nD,
      m' ((c.tc : Thread Cert.WeightGradIdeal.nD Cert.WeightGradIdeal.τ).loc Cert.WeightGradIdeal.main_arg0) = m ((c.tc : Thread Cert.GradWIdeal.nD Cert.GradWIdeal.τ).loc Cert.GradWIdeal.main_arg0)
      ∧ m' ((c.tc : Thread Cert.WeightGradIdeal.nD Cert.WeightGradIdeal.τ).loc Cert.WeightGradIdeal.main_arg1) = m ((c.tc : Thread Cert.GradWIdeal.nD Cert.GradWIdeal.τ).loc Cert.GradWIdeal.main_arg1)
      ∧ m' ((c.tc : Thread Cert.WeightGradIdeal.nD Cert.WeightGradIdeal.τ).loc Cert.WeightGradIdeal.main_arg2) = m ((c.tc : Thread Cert.GradWIdeal.nD Cert.GradWIdeal.τ).loc Cert.GradWIdeal.main_arg2)) →
    ∃ (v0 : (c : Dev Cert.GradWIdeal.nD) → Buf (Elt Ideal) ((c.tc : Thread Cert.GradWIdeal.nD Cert.GradWIdeal.τ).loc Cert.GradWIdeal.main_v17)),
      θ_run (Cert.GradWIdeal.defs (F := Ideal)) (onTc (τ := Cert.GradWIdeal.τ) (Cert.GradWIdeal.main (F := Ideal))) ⟨m, fun _ => 0, g⟩ (fun r => ∀ c : Dev Cert.GradWIdeal.nD,
          r.2.mem ((c.tc : Thread Cert.GradWIdeal.nD Cert.GradWIdeal.τ).loc Cert.GradWIdeal.main_v17) = v0 c
          ∧ r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
          ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1)
          ∧ r.2.mem ((c.tc : Thread Cert.GradWIdeal.nD Cert.GradWIdeal.τ).loc Cert.GradWIdeal.main_arg2) = m ((c.tc : Thread Cert.GradWIdeal.nD Cert.GradWIdeal.τ).loc Cert.GradWIdeal.main_arg2))
      ∧ θ_run (Cert.WeightGradIdeal.defs (F := Ideal)) (onTc (τ := Cert.WeightGradIdeal.τ) (Cert.WeightGradIdeal.main (F := Ideal))) ⟨m', fun _ => 0, g'⟩ (fun r => ∀ c : Dev Cert.WeightGradIdeal.nD,
          r.2.mem ((c.tc : Thread Cert.WeightGradIdeal.nD Cert.WeightGradIdeal.τ).loc Cert.WeightGradIdeal.main_v7) = v0 c
          ∧ r.2.mem ((c.tc : Thread Cert.WeightGradIdeal.nD Cert.WeightGradIdeal.τ).loc Cert.WeightGradIdeal.main_arg0) = m' ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m' ((c.tc : Thread Cert.WeightGradIdeal.nD Cert.WeightGradIdeal.τ).loc Cert.WeightGradIdeal.main_arg1)
          ∧ r.2.mem ((c.tc : Thread Cert.WeightGradIdeal.nD Cert.WeightGradIdeal.τ).loc Cert.WeightGradIdeal.main_arg2) = m' ((c.tc : Thread Cert.WeightGradIdeal.nD Cert.WeightGradIdeal.τ).loc Cert.WeightGradIdeal.main_arg2))

def Claim : Prop :=
  ∃ (hMemBwd : Cert.MemBwd.Facts) (hMemBwdIdeal : Cert.MemBwdIdeal.Facts) (hMemGradIdeal : Cert.MemGradIdeal.Facts) (hFoxBwd : Cert.FoxBwd.Facts) (hFoxBwdIdeal : Cert.FoxBwdIdeal.Facts) (hFoxGradIdeal : Cert.FoxGradIdeal.Facts) (hFoxPost : Cert.FoxPost.Facts) (hFoxPostIdeal : Cert.FoxPostIdeal.Facts) (hFoxPostGradIdeal : Cert.FoxPostGradIdeal.Facts) (hMemPrep : Cert.MemPrep.Facts) (hMemPrepIdeal : Cert.MemPrepIdeal.Facts) (hMemPlainIdeal : Cert.MemPlainIdeal.Facts) (hGradX : Cert.GradX.Facts) (hGradXIdeal : Cert.GradXIdeal.Facts) (hNormGradIdeal : Cert.NormGradIdeal.Facts) (hGradW : Cert.GradW.Facts) (hGradWIdeal : Cert.GradWIdeal.Facts) (hWeightGradIdeal : Cert.WeightGradIdeal.Facts) (hPre_fox_finite : Cert.Pre_fox_finite.Facts) (hPre_post_finite : Cert.Pre_post_finite.Facts),
    quiescent_MemBwd (hMemBwd := hMemBwd)
    ∧ quiescent_MemBwdIdeal (hMemBwdIdeal := hMemBwdIdeal)
    ∧ quiescent_MemGradIdeal (hMemGradIdeal := hMemGradIdeal)
    ∧ quiescent_FoxBwd (hFoxBwd := hFoxBwd)
    ∧ quiescent_FoxBwdIdeal (hFoxBwdIdeal := hFoxBwdIdeal)
    ∧ quiescent_FoxBwdIdeal_pre_fox_finite (hFoxBwdIdeal := hFoxBwdIdeal) (hPre_fox_finite := hPre_fox_finite)
    ∧ quiescent_FoxGradIdeal (hFoxGradIdeal := hFoxGradIdeal)
    ∧ quiescent_FoxGradIdeal_pre_fox_finite (hFoxGradIdeal := hFoxGradIdeal) (hPre_fox_finite := hPre_fox_finite)
    ∧ quiescent_FoxPost (hFoxPost := hFoxPost)
    ∧ quiescent_FoxPostIdeal (hFoxPostIdeal := hFoxPostIdeal)
    ∧ quiescent_FoxPostIdeal_pre_post_finite (hFoxPostIdeal := hFoxPostIdeal) (hPre_post_finite := hPre_post_finite)
    ∧ quiescent_FoxPostGradIdeal (hFoxPostGradIdeal := hFoxPostGradIdeal)
    ∧ quiescent_FoxPostGradIdeal_pre_post_finite (hFoxPostGradIdeal := hFoxPostGradIdeal) (hPre_post_finite := hPre_post_finite)
    ∧ quiescent_MemPrep (hMemPrep := hMemPrep)
    ∧ quiescent_MemPrepIdeal (hMemPrepIdeal := hMemPrepIdeal)
    ∧ quiescent_MemPlainIdeal (hMemPlainIdeal := hMemPlainIdeal)
    ∧ quiescent_GradX (hGradX := hGradX)
    ∧ quiescent_GradXIdeal (hGradXIdeal := hGradXIdeal)
    ∧ quiescent_NormGradIdeal (hNormGradIdeal := hNormGradIdeal)
    ∧ quiescent_GradW (hGradW := hGradW)
    ∧ quiescent_GradWIdeal (hGradWIdeal := hGradWIdeal)
    ∧ quiescent_WeightGradIdeal (hWeightGradIdeal := hWeightGradIdeal)
    ∧ preserves_MemBwd_MemBwdIdeal
    ∧ algebraic_MemBwdIdeal_MemGradIdeal (hMemBwdIdeal := hMemBwdIdeal) (hMemGradIdeal := hMemGradIdeal)
    ∧ preserves_FoxBwd_FoxBwdIdeal
    ∧ algebraic_FoxBwdIdeal_FoxGradIdeal_pre_fox_finite (hFoxBwdIdeal := hFoxBwdIdeal) (hFoxGradIdeal := hFoxGradIdeal) (hPre_fox_finite := hPre_fox_finite)
    ∧ preserves_FoxPost_FoxPostIdeal
    ∧ algebraic_FoxPostIdeal_FoxPostGradIdeal_pre_post_finite (hFoxPostIdeal := hFoxPostIdeal) (hFoxPostGradIdeal := hFoxPostGradIdeal) (hPre_post_finite := hPre_post_finite)
    ∧ preserves_MemPrep_MemPrepIdeal
    ∧ algebraic_MemPrepIdeal_MemPlainIdeal (hMemPrepIdeal := hMemPrepIdeal) (hMemPlainIdeal := hMemPlainIdeal)
    ∧ preserves_GradX_GradXIdeal
    ∧ algebraic_GradXIdeal_NormGradIdeal (hGradXIdeal := hGradXIdeal) (hNormGradIdeal := hNormGradIdeal)
    ∧ preserves_GradW_GradWIdeal
    ∧ algebraic_GradWIdeal_WeightGradIdeal (hGradWIdeal := hGradWIdeal) (hWeightGradIdeal := hWeightGradIdeal)
-- ==== Pre_fox_finite.lean ====
abbrev S8x4096x64 : Shape := ⟨3, ![8, 4096, 64]⟩
abbrev S8x4096 : Shape := ⟨2, ![8, 4096]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg4 : FVec F S8x4096x64 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S8x4096x64 .f32 := Host.absf main_arg4
  let main_cst_6 : FVec F S_ .f32 := constant S_ .f32 0x7F800000#32
  let main_v20 : FVec F S8x4096x64 .f32 := broadcastInDim S8x4096x64 ![] bcast_S_S8x4096x64 main_cst_6
  let main_v21 : IVec S8x4096x64 1 := cmpf .olt main_v19 main_v20
  let main_c_7 : IVec S_ 1 := constantI S_ 1 1#1
  let main_v22 : IVec S_ 1 := (fun x v => Host.reduce IntOp.andi x v reducesTo_S8x4096x64_S_d0_1_2 h_S_) main_v21 main_c_7
  let main_v23 : IVec S_ 1 := andi main_v18 main_v22
  main_v23

def fn {F : FTy → Type} [FloatOps F] (main_arg0 : FVec F S8x4096x64 .f32) (main_arg1 : FVec F S8x4096x64 .f32) (main_arg2 : FVec F S8x4096x64 .f32) (main_arg3 : FVec F S8x4096 .f32) (main_arg4 : FVec F S8x4096x64 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S8x4096x64 .f32 := Host.absf main_arg2
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_v13 main_v16
-- ==== Pre_post_finite.lean ====
abbrev S4096x512 : Shape := ⟨2, ![4096, 512]⟩
abbrev S4096x8 : Shape := ⟨2, ![4096, 8]⟩
abbrev S1x8 : Shape := ⟨2, ![1, 8]⟩
abbrev S1x64 : Shape := ⟨2, ![1, 64]⟩
abbrev S8x4096x64 : Shape := ⟨3, ![8, 4096, 64]⟩
abbrev S8x4096 : Shape := ⟨2, ![8, 4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S1x8 : S_.BroadcastsInDim S1x8 (![] : Fin 0 → Fin S1x8.rank)
  reducesTo_S1x8_S_d0_1 : S1x8.ReducesTo [0, 1] S_
  bcast_S_S1x64 : S_.BroadcastsInDim S1x64 (![] : Fin 0 → Fin S1x64.rank)
  reducesTo_S1x64_S_d0_1 : S1x64.ReducesTo [0, 1] S_
  bcast_S_S8x4096x64 : S_.BroadcastsInDim S8x4096x64 (![] : Fin 0 → Fin S8x4096x64.rank)
  reducesTo_S8x4096x64_S_d0_1_2 : S8x4096x64.ReducesTo [0, 1, 2] S_
  bcast_S_S8x4096 : S_.BroadcastsInDim S8x4096 (![] : Fin 0 → Fin S8x4096.rank)
  reducesTo_S8x4096_S_d0_1 : S8x4096.ReducesTo [0, 1] S_

variable [Facts]

def fn_part2 {F : FTy → Type} [FloatOps F] (main_arg7 : FVec F S8x4096x64 .f32) (main_arg9 : FVec F S8x4096 .f32) (main_arg10 : FVec F S8x4096 .f32) (main_v33 : IVec S_ 1) : IVec S_ 1 :=
  let main_v34 : FVec F S8x4096x64 .f32 := Host.absf main_arg7
  let main_cst_12 : FVec F S_ .f32 := constant S_ .f32 0x7F800000#32
  let main_v35 : FVec F S8x4096x64 .f32 := broadcastInDim S8x4096x64 ![] bcast_S_S8x4096x64 main_cst_12
  let main_v36 : IVec S8x4096x64 1 := cmpf .olt main_v34 main_v35
  let main_c_13 : IVec S_ 1 := constantI S_ 1 1#1
  let main_v37 : IVec S_ 1 := (fun x v => Host.reduce IntOp.andi x v reducesTo_S8x4096x64_S_d0_1_2 h_S_) main_v36 main_c_13
  let main_v38 : IVec S_ 1 := andi main_v33 main_v37
  let main_v39 : FVec F S8x4096 .f32 := Host.absf main_arg9
  let main_cst_14 : FVec F S_ .f32 := constant S_ .f32 0x7F800000#32
  let main_v40 : FVec F S8x4096 .f32 := broadcastInDim S8x4096 ![] bcast_S_S8x4096 main_cst_14
  let main_v41 : IVec S8x4096 1 := cmpf .olt main_v39 main_v40
  let main_c_15 : IVec S_ 1 := constantI S_ 1 1#1
  let main_v42 : IVec S_ 1 := (fun x v => Host.reduce IntOp.andi x v reducesTo_S8x4096_S_d0_1 h_S_) main_v41 main_c_15
  let main_v43 : IVec S_ 1 := andi main_v38 main_v42
  let main_v44 : FVec F S8x4096 .f32 := Host.absf main_arg10
  let main_cst_16 : FVec F S_ .f32 := constant S_ .f32 0x7F800000#32
  let main_v45 : FVec F S8x4096 .f32 := broadcastInDim S8x4096 ![] bcast_S_S8x4096 main_cst_16
  let main_v46 : IVec S8x4096 1 := cmpf .olt main_v44 main_v45
  let main_c_17 : IVec S_ 1 := constantI S_ 1 1#1
  let main_v47 : IVec S_ 1 := (fun x v => Host.reduce IntOp.andi x v reducesTo_S8x4096_S_d0_1 h_S_) main_v46 main_c_17
  let main_v48 : IVec S_ 1 := andi main_v43 main_v47
  main_v48

def fn_part1 {F : FTy → Type} [FloatOps F] (main_arg4 : FVec F S1x64 .f32) (main_arg5 : FVec F S1x64 .f32) (main_arg6 : FVec F S8x4096x64 .f32) (main_arg7 : FVec F S8x4096x64 .f32) (main_arg9 : FVec F S8x4096 .f32) (main_arg10 : FVec F S8x4096 .f32) (main_v13 : IVec S_ 1) (main_v16 : IVec S1x8 1) : IVec S_ 1 :=
  let main_c_5 : IVec S_ 1 := constantI S_ 1 1#1
  let main_v17 : IVec S_ 1 := (fun x v => Host.reduce IntOp.andi x v reducesTo_S1x8_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S8x4096x64 .f32 := Host.absf main_arg6
  let main_cst_10 : FVec F S_ .f32 := constant S_ .f32 0x7F800000#32
  let main_v30 : FVec F S8x4096x64 .f32 := broadcastInDim S8x4096x64 ![] bcast_S_S8x4096x64 main_cst_10
  let main_v31 : IVec S8x4096x64 1 := cmpf .olt main_v29 main_v30
  let main_c_11 : IVec S_ 1 := constantI S_ 1 1#1
  let main_v32 : IVec S_ 1 := (fun x v => Host.reduce IntOp.andi x v reducesTo_S8x4096x64_S_d0_1_2 h_S_) main_v31 main_c_11
  let main_v33 : IVec S_ 1 := andi main_v28 main_v32
  fn_part2 (F := F) main_arg7 main_arg9 main_arg10 main_v33

def fn {F : FTy → Type} [FloatOps F] (main_arg0 : FVec F S4096x512 .f32) (main_arg1 : FVec F S4096x512 .f32) (main_arg2 : FVec F S4096x8 .f32) (main_arg3 : FVec F S1x8 .f32) (main_arg4 : FVec F S1x64 .f32) (main_arg5 : FVec F S1x64 .f32) (main_arg6 : FVec F S8x4096x64 .f32) (main_arg7 : FVec F S8x4096x64 .f32) (main_arg8 : FVec F S8x4096x64 .f32) (main_arg9 : FVec F S8x4096 .f32) (main_arg10 : FVec F S8x4096 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S1x8 .f32 := Host.absf main_arg3
  let main_cst_4 : FVec F S_ .f32 := constant S_ .f32 0x7F800000#32
  let main_v15 : FVec F S1x8 .f32 := broadcastInDim S1x8 ![] bcast_S_S1x8 main_cst_4
  let main_v16 : IVec S1x8 1 := cmpf .olt main_v14 main_v15
  fn_part1 (F := F) main_arg4 main_arg5 main_arg6 main_arg7 main_arg9 main_arg10 main_v13 main_v16
-- ==== MemBwd.lean ====
abbrev S256x1024 : Shape := ⟨2, ![256, 1024]⟩
abbrev S1x1024 : Shape := ⟨2, ![1, 1024]⟩
abbrev S1024x512 : Shape := ⟨2, ![1024, 512]⟩
abbrev S1x64 : Shape := ⟨2, ![1, 64]⟩
abbrev S256x256 : Shape := ⟨2, ![256, 256]⟩
abbrev S256x512 : Shape := ⟨2, ![256, 512]⟩
abbrev S256 : Shape := ⟨1, ![256]⟩
abbrev S256x1 : Shape := ⟨2, ![256, 1]⟩
abbrev S256x64 : Shape := ⟨2, ![256, 64]⟩
abbrev S64 : Shape := ⟨1, ![64]⟩
abbrev S1024 : Shape := ⟨1, ![1024]⟩

abbrev nBuf : Space → Nat
  | .hbm => 9
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .bf16⟩
  | .hbm, ⟨3, _⟩ => ⟨S1x64, .f32⟩
  | .hbm, ⟨4, _⟩ => ⟨S256x256, .f32⟩
  | .hbm, ⟨5, _⟩ => ⟨S256x256, .f32⟩
  | .hbm, ⟨6, _⟩ => ⟨S1024x512, .bf16⟩
  | .hbm, ⟨7, _⟩ => ⟨S1x1024, .f32⟩
  | .hbm, ⟨8, _⟩ => ⟨S1x64, .f32⟩
  | .local _ .vmem, ⟨0, _⟩ => ⟨S256x1024, .f32⟩
  | .local _ .vmem, ⟨1, _⟩ => ⟨S1x1024, .f32⟩
  | .local _ .vmem, ⟨2, _⟩ => ⟨S1024x512, .bf16⟩
  | .local _ .vmem, ⟨3, _⟩ => ⟨S1x64, .f32⟩
  | .local _ .vmem, ⟨4, _⟩ => ⟨S256x256, .f32⟩
  | .local _ .vmem, ⟨5, _⟩ => ⟨S256x256, .f32⟩
  | .local _ .vmem, ⟨6, _⟩ => ⟨S1024x512, .bf16⟩
  | .local _ .vmem, ⟨7, _⟩ => ⟨S1x1024, .f32⟩
  | .local _ .vmem, ⟨8, _⟩ => ⟨S1x64, .f32⟩
  | .local _ .vmem, ⟨9, _⟩ => ⟨S256x512, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== MemGradIdeal.lean ====
abbrev S256x1024 : Shape := ⟨2, ![256, 1024]⟩
abbrev S1x1024 : Shape := ⟨2, ![1, 1024]⟩
abbrev S1024x512 : Shape := ⟨2, ![1024, 512]⟩
abbrev S1x64 : Shape := ⟨2, ![1, 64]⟩
abbrev S256x256 : Shape := ⟨2, ![256, 256]⟩
abbrev S1024 : Shape := ⟨1, ![1024]⟩
abbrev S_ : Shape := ⟨0, ![]⟩
abbrev S256 : Shape := ⟨1, ![256]⟩
abbrev S256x1 : Shape := ⟨2, ![256, 1]⟩
abbrev S256x512 : Shape := ⟨2, ![256, 512]⟩
abbrev S256x4x64 : Shape := ⟨3, ![256, 4, 64]⟩
abbrev S64 : Shape := ⟨1, ![64]⟩
abbrev S256x4 : Shape := ⟨2, ![256, 4]⟩
abbrev S256x4x1 : Shape := ⟨3, ![256, 4, 1]⟩
abbrev S1x1x64 : Shape := ⟨3, ![1, 1, 64]⟩
abbrev S512x1024 : Shape := ⟨2, ![512, 1024]⟩

abbrev nBuf : Space → Nat
  | .hbm => 94
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .bf16⟩
  | .hbm, ⟨3, _⟩ => ⟨S1x64, .f32⟩
  | .hbm, ⟨4, _⟩ => ⟨S256x256, .f32⟩
  | .hbm, ⟨5, _⟩ => ⟨S256x256, .f32⟩
  | .hbm, ⟨6, _⟩ => ⟨S1024x512, .f32⟩
  | .hbm, ⟨7, _⟩ => ⟨S1024, .f32⟩
  | .hbm, ⟨8, _⟩ => ⟨S256x1024, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S256x512, .f32⟩
  | .hbm, ⟨25, _⟩ => ⟨S256x256, .f32⟩
  | .hbm, ⟨26, _⟩ => ⟨S256x4x64, .f32⟩
  | .hbm, ⟨27, _⟩ => ⟨S64, .f32⟩
  | .hbm, ⟨28, _⟩ => ⟨S256x4x64, .f32⟩
  | .hbm, ⟨29, _⟩ => ⟨S_, .f32⟩
  | .hbm, ⟨30, _⟩ => ⟨S256x4, .f32⟩
  | .hbm, ⟨31, _⟩ => ⟨S256x4x1, .f32⟩
  | .hbm, ⟨32, _⟩ => ⟨S_, .f32⟩
  | .hbm, ⟨33, _⟩ => ⟨S256x4x1, .f32⟩
  | .hbm, ⟨34, _⟩ => ⟨S256x4x1, .f32⟩
  | .hbm, ⟨35, _⟩ => ⟨S_, .f32⟩
  | .hbm, ⟨36, _⟩ => ⟨S256x4x1, .f32⟩
  | .hbm, ⟨37, _⟩ => ⟨S256x4x1, .f32⟩
  | .hbm, ⟨38, _⟩ => ⟨S256x4x1, .f32⟩
  | .hbm, ⟨39, _⟩ => ⟨S256x4x1, .f32⟩
  | .hbm, ⟨40, _⟩ => ⟨S_, .f32⟩
  | .hbm, ⟨41, _⟩ => ⟨S256x4x1, .f32⟩
  | .hbm, ⟨42, _⟩ => ⟨S256x4x1, .f32⟩
  | .hbm, ⟨43, _⟩ => ⟨S256x4x64, .f32⟩
  | .hbm, ⟨44, _⟩ => ⟨S256x4x64, .f32⟩
  | .hbm, ⟨45, _⟩ => ⟨S1x1x64, .f32⟩
  | .hbm, ⟨46, _⟩ => ⟨S256x4x64, .f32⟩
  | .hbm, ⟨47, _⟩ => ⟨S256x4x64, .f32⟩
  | .hbm, ⟨48, _⟩ => ⟨S256x256, .f32⟩
  | .hbm, ⟨49, _⟩ => ⟨S256x256, .f32⟩
  | .hbm, ⟨50, _⟩ => ⟨S_, .f32⟩
  | .hbm, ⟨51, _⟩ => ⟨S256x512, .f32⟩
  | .hbm, ⟨52, _⟩ => ⟨S256x4x64, .f32⟩
  | .hbm, ⟨53, _⟩ => ⟨S256x4x64, .f32⟩
  | .hbm, ⟨54, _⟩ => ⟨S_, .f32⟩
  | .hbm, ⟨55, _⟩ => ⟨S64, .f32⟩
  | .hbm, ⟨56, _⟩ => ⟨S1x1x64, .f32⟩
  | .hbm, ⟨57, _⟩ => ⟨S256x4x64, .f32⟩
  | .hbm, ⟨58, _⟩ => ⟨S256x4x64, .f32⟩
  | .hbm, ⟨59, _⟩ => ⟨S_, .f32⟩
  | .hbm, ⟨60, _⟩ => ⟨S64, .f32⟩
  | .hbm, ⟨61, _⟩ => ⟨S256x4x64, .f32⟩
  | .hbm, ⟨62, _⟩ => ⟨S_, .f32⟩
  | .hbm, ⟨63, _⟩ => ⟨S256x4, .f32⟩
  | .hbm, ⟨64, _⟩ => ⟨S256x4x1, .f32⟩
  | .hbm, ⟨65, _⟩ => ⟨S256x4x64, .f32⟩
  | .hbm, ⟨66, _⟩ => ⟨S256x4x64, .f32⟩
  | .hbm, ⟨67, _⟩ => ⟨S256x4x1, .f32⟩
  | .hbm, ⟨68, _⟩ => ⟨S_, .f32⟩
  | .hbm, ⟨69, _⟩ => ⟨S256x4x1, .f32⟩
  | .hbm, ⟨70, _⟩ => ⟨S256x4x1, .f32⟩
  | .hbm, ⟨71, _⟩ => ⟨S_, .f32⟩
  | .hbm, ⟨72, _⟩ => ⟨S256x4, .f32⟩
  | .hbm, ⟨73, _⟩ => ⟨S256x4x64, .f32⟩
  | .hbm, ⟨74, _⟩ => ⟨S256x4x64, .f32⟩
  | .hbm, ⟨75, _⟩ => ⟨S256x4x64, .f32⟩
  | .hbm, ⟨76, _⟩ => ⟨S256x4x64, .f32⟩
  | .hbm, ⟨77, _⟩ => ⟨S256x4x64, .f32⟩
  | .hbm, ⟨78, _⟩ => ⟨S1x64, .f32⟩
  | .hbm, ⟨79, _⟩ => ⟨S256x256, .f32⟩
  | .hbm, ⟨80, _⟩ => ⟨S_, .f32⟩
  | .hbm, ⟨81, _⟩ => ⟨S256x512, .f32⟩
  | .hbm, ⟨82, _⟩ => ⟨S256x512, .f32⟩
  | .hbm, ⟨83, _⟩ => ⟨S512x1024, .f32⟩
  | .hbm, ⟨84, _⟩ => ⟨S1024x512, .f32⟩
  | .hbm, ⟨85, _⟩ => ⟨S256x1024, .f32⟩
  | .hbm, ⟨86, _⟩ => ⟨S256x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S1024x512, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== FoxBwd.lean ====
abbrev S8x4096x64 : Shape := ⟨3, ![8, 4096, 64]⟩
abbrev S8x4096 : Shape := ⟨2, ![8, 4096]⟩
abbrev S_ : Shape := ⟨0, ![]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x3 : Shape := ⟨3, ![8, 4096, 3]⟩
abbrev S8x4096x58 : Shape := ⟨3, ![8, 4096, 58]⟩
abbrev S8x4096x128 : Shape := ⟨3, ![8, 4096, 128]⟩
abbrev S8x16x256x128 : Shape := ⟨4, ![8, 16, 256, 128]⟩
abbrev S8x16x128x256 : Shape := ⟨4, ![8, 16, 128, 256]⟩
abbrev S8x16x80x256 : Shape := ⟨4, ![8, 16, 80, 256]⟩
abbrev S8x16x1x256 : Shape := ⟨4, ![8, 16, 1, 256]⟩
abbrev S8x16x8x256 : Shape := ⟨4, ![8, 16, 8, 256]⟩
abbrev S8x256x128 : Shape := ⟨3, ![8, 256, 128]⟩
abbrev S8x1x80x256 : Shape := ⟨4, ![8, 1, 80, 256]⟩
abbrev S8x256x64 : Shape := ⟨3, ![8, 256, 64]⟩
abbrev S8x16x72x256 : Shape := ⟨4, ![8, 16, 72, 256]⟩
abbrev S16 : Shape := ⟨1, ![16]⟩
abbrev S1 : Shape := ⟨1, ![1]⟩
abbrev S1x256x128 : Shape := ⟨3, ![1, 256, 128]⟩
abbrev S256x128 : Shape := ⟨2, ![256, 128]⟩
abbrev S1x1x72x256 : Shape := ⟨4, ![1, 1, 72, 256]⟩
abbrev S72x256 : Shape := ⟨2, ![72, 256]⟩
abbrev S1x256x64 : Shape := ⟨3, ![1, 256, 64]⟩
abbrev S256x64 : Shape := ⟨2, ![256, 64]⟩
abbrev S256x256 : Shape := ⟨2, ![256, 256]⟩
abbrev S1x1x1x256 : Shape := ⟨4, ![1, 1, 1, 256]⟩
abbrev S1x256 : Shape := ⟨2, ![1, 256]⟩
abbrev S1x512x128 : Shape := ⟨3, ![1, 512, 128]⟩
abbrev S512x128 : Shape := ⟨2, ![512, 128]⟩
abbrev S1x512x64 : Shape := ⟨3, ![1, 512, 64]⟩
abbrev S512x64 : Shape := ⟨2, ![512, 64]⟩
abbrev S256x512 : Shape := ⟨2, ![256, 512]⟩
abbrev S1x512 : Shape := ⟨2, ![1, 512]⟩
abbrev S72x512 : Shape := ⟨2, ![72, 512]⟩
abbrev S56x256 : Shape := ⟨2, ![56, 256]⟩
abbrev S128x256 : Shape := ⟨2, ![128, 256]⟩

abbrev nBuf : Space → Nat
  | .hbm => 96
  | .vmem => 17
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096, .f32⟩
  | .hbm, ⟨4, _⟩ => ⟨S8x4096x64, .f32⟩
  | .hbm, ⟨5, _⟩ => ⟨S_, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S8x4096x1, .f32⟩
  | .hbm, ⟨13, _⟩ => ⟨S8x4096x4096, .f32⟩
  | .hbm, ⟨14, _⟩ => ⟨S8x4096x4096, .f32⟩
  | .hbm, ⟨15, _⟩ => ⟨S8x1x4096, .f32⟩
  | .hbm, ⟨16, _⟩ => ⟨S8x4096x4096, .f32⟩
  | .hbm, ⟨17, _⟩ => ⟨S8x4096x4096, .f32⟩
  | .hbm, ⟨18, _⟩ => ⟨S4096, .i32⟩
  | .hbm, ⟨19, _⟩ => ⟨S1x4096, .i32⟩
  | .hbm, ⟨20, _⟩ => ⟨S4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x64, .f32⟩
  | .hbm, ⟨42, _⟩ => ⟨S8x4096x1, .f32⟩
  | .hbm, ⟨43, _⟩ => ⟨S8x4096x1, .f32⟩
  | .hbm, ⟨44, _⟩ => ⟨S8x4096, .f32⟩
  | .hbm, ⟨45, _⟩ => ⟨S8x4096x64, .f32⟩
  | .hbm, ⟨46, _⟩ => ⟨S_, .f32⟩
  | .hbm, ⟨47, _⟩ => ⟨S8x4096, .f32⟩
  | .hbm, ⟨48, _⟩ => ⟨S8x4096, .bf16⟩
  | .hbm, ⟨49, _⟩ => ⟨S8x4096, .f32⟩
  | .hbm, ⟨50, _⟩ => ⟨S8x4096, .f32⟩
  | .hbm, ⟨51, _⟩ => ⟨S8x4096, .bf16⟩
  | .hbm, ⟨52, _⟩ => ⟨S8x4096, .f32⟩
  | .hbm, ⟨53, _⟩ => ⟨S8x4096, .f32⟩
  | .hbm, ⟨54, _⟩ => ⟨S8x4096, .bf16⟩
  | .hbm, ⟨55, _⟩ => ⟨S8x4096, .f32⟩
  | .hbm, ⟨56, _⟩ => ⟨S8x4096, .f32⟩
  | .hbm, ⟨57, _⟩ => ⟨S8x4096, .f32⟩
  | .hbm, ⟨58, _⟩ => ⟨S8x4096x1, .f32⟩
  | .hbm, ⟨59, _⟩ => ⟨S8x4096x1, .f32⟩
  | .hbm, ⟨60, _⟩ => ⟨S8x4096x1, .f32⟩
  | .hbm, ⟨61, _⟩ => ⟨S8x4096x3, .f32⟩
  | .hbm, ⟨62, _⟩ => ⟨S_, .f32⟩
  | .hbm, ⟨63, _⟩ => ⟨S8x4096x3, .f32⟩
  | .hbm, ⟨64, _⟩ => ⟨S_, .f32⟩
  | .hbm, ⟨65, _⟩ => ⟨S8x4096x58, .f32⟩
  | .hbm, ⟨66, _⟩ => ⟨S_, .f32⟩
  | .hbm, ⟨67, _⟩ => ⟨S8x4096x64, .f32⟩
  | .hbm, ⟨68, _⟩ => ⟨S8x4096x64, .f32⟩
  | .hbm, ⟨69, _⟩ => ⟨S8x4096x128, .f32⟩
  | .hbm, ⟨70, _⟩ => ⟨S8x4096x128, .bf16⟩
  | .hbm, ⟨71, _⟩ => ⟨S8x4096x3, .f32⟩
  | .hbm, ⟨72, _⟩ => ⟨S8x4096x128, .f32⟩
  | .hbm, ⟨73, _⟩ => ⟨S8x4096x128, .bf16⟩
  | .hbm, ⟨74, _⟩ => ⟨S8x16x256x128, .bf16⟩
  | .hbm, ⟨75, _⟩ => ⟨S8x16x128x256, .bf16⟩
  | .hbm, ⟨76, _⟩ => ⟨S8x16x80x256, .bf16⟩
  | .hbm, ⟨77, _⟩ => ⟨S8x4096x64, .bf16⟩
  | .hbm, ⟨78, _⟩ => ⟨S8x4096x64, .bf16⟩
  | .hbm, ⟨79, _⟩ => ⟨S8x16x1x256, .f32⟩
  | .hbm, ⟨80, _⟩ => ⟨S8x16x8x256, .f32⟩
  | .hbm, ⟨81, _⟩ => ⟨S8x16x1x256, .f32⟩
  | .hbm, ⟨82, _⟩ => ⟨S8x16x8x256, .f32⟩
  | .hbm, ⟨83, _⟩ => ⟨S8x4096x128, .f32⟩
  | .hbm, ⟨84, _⟩ => ⟨S8x4096x128, .f32⟩
  | .hbm, ⟨85, _⟩ => ⟨S8x4096x64, .bf16⟩
  | .hbm, ⟨86, _⟩ => ⟨S8x4096x64, .f32⟩
  | .hbm, ⟨87, _⟩ => ⟨S_, .f32⟩
  | .hbm, ⟨88, _⟩ => ⟨S8x4096x64, .f32⟩
  | .hbm, ⟨89, _⟩ => ⟨S8x4096x64, .f32⟩
  | .hbm, ⟨90, _⟩ => ⟨S8x4096x64, .f32⟩
  | .hbm, ⟨91, _⟩ => ⟨S8x4096x1, .f32⟩
  | .hbm, ⟨92, _⟩ => ⟨S8x4096, .f32⟩
  | .hbm, ⟨93, _⟩ => ⟨S8x4096x1, .f32⟩
  | .hbm, ⟨94, _⟩ => ⟨S8x4096, .f32⟩
  | .hbm, ⟨95, _⟩ => ⟨S8x4096, .f32⟩
  | .local _ .vmem, ⟨0, _⟩ => ⟨S8x256x128, .bf16⟩
  | .local _ .vmem, ⟨1, _⟩ => ⟨S8x256x128, .bf16⟩
  | .local _ .vmem, ⟨2, _⟩ => ⟨S8x1x80x256, .bf16⟩
  | .local _ .vmem, ⟨3, _⟩ => ⟨S8x1x80x256, .bf16⟩
  | .local _ .vmem, ⟨4, _⟩ => ⟨S8x256x64, .bf16⟩
  | .local _ .vmem, ⟨5, _⟩ => ⟨S8x256x64, .bf16⟩
  | .local _ .vmem, ⟨6, _⟩ => ⟨S8x16x8x256, .f32⟩
  | .local _ .vmem, ⟨7, _⟩ => ⟨S8x16x8x256, .f32⟩
  | .local _ .vmem, ⟨8, _⟩ => ⟨S8x256x128, .f32⟩
  | .local _ .vmem, ⟨9, _⟩ => ⟨S8x256x128, .f32⟩
  | .local _ .vmem, ⟨10, _⟩ => ⟨S8x256x128, .f32⟩
  | .local _ .vmem, ⟨11, _⟩ => ⟨S8x256x128, .f32⟩
  | .local _ .vmem, ⟨12, _⟩ => ⟨S8x256x64, .bf16⟩
  | .local _ .vmem, ⟨13, _⟩ => ⟨S8x256x64, .bf16⟩
  | .local _ .vmem, ⟨14, _⟩ => ⟨S8x16x72x256, .f32⟩
  | .local _ .vmem, ⟨15, _⟩ => ⟨S8x4096x128, .bf16⟩
  | .local _ .vmem, ⟨16, _⟩ => ⟨S8x4096x64, .bf16⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65_0 : Ref sig .tc := ⟨.hbm, 83, rfl⟩
abbrev main_v65_1 : Ref sig .tc := ⟨.hbm, 84, rfl⟩
abbrev main_v65_2 : Ref sig .tc := ⟨.hbm, 85, rfl⟩
abbrev main_v66 : Ref sig .tc := ⟨.hbm, 86, rfl⟩
abbrev main_cst_7 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_411 : BitVec 32 := 0#32
  c0_i32_411
def k0_mult2 : BitVec 32 :=
  let c256_i32_422 : BitVec 32 := 256#32
  c256_i32_422
def k0_mult3 : BitVec 32 :=
  let c512_i32 : BitVec 32 := 512#32
  c512_i32
def k0_mult4 : BitVec 32 :=
  let c768_i32 : BitVec 32 := 768#32
  c768_i32
def k0_mult5 : BitVec 32 :=
  let c1024_i32 : BitVec 32 := 1024#32
  c1024_i32
def k0_mult6 : BitVec 32 :=
  let c1280_i32 : BitVec 32 := 1280#32
  c1280_i32
def k0_mult7 : BitVec 32 :=
  let c1536_i32 : BitVec 32 := 1536#32
  c1536_i32
def k0_mult8 : BitVec 32 :=
  let c1792_i32 : BitVec 32 := 1792#32
  c1792_i32
def k0_mult9 : BitVec 32 :=
  let c2048_i32 : BitVec 32 := 2048#32
  c2048_i32
def k0_mult10 : BitVec 32 :=
  let c2304_i32 : BitVec 32 := 2304#32
  c2304_i32
def k0_mult11 : BitVec 32 :=
  let c2560_i32 : BitVec 32 := 2560#32
  c2560_i32
def k0_mult12 : BitVec 32 :=
  let c2816_i32 : BitVec 32 := 2816#32
  c2816_i32
def k0_mult13 : BitVec 32 :=
  let c3072_i32 : BitVec 32 := 3072#32
  c3072_i32
def k0_mult14 : BitVec 32 :=
  let c3328_i32 : BitVec 32 := 3328#32
  c3328_i32
def k0_mult15 : BitVec 32 :=
  let c3584_i32 : BitVec 32 := 3584#32
  c3584_i32
def k0_mult16 : BitVec 32 :=
  let c3840_i32 : BitVec 32 := 3840#32
  c3840_i32
def k0_cond3 (i : grid0.Coords) : BitVec 1 :=
  let arg1 : BitVec 32 := BitVec.ofNat 32 (i 1).val
  let c0_i32_91 : BitVec 32 := 0#32
  let v72 : BitVec 1 := Scalar.cmpi .eq arg1 c0_i32_91
  let v73 : BitVec 32 := Scalar.extui v72
  let c0_i32_92 : BitVec 32 := 0#32
  let v74 : BitVec 1 := Scalar.cmpi .ne v73 c0_i32_92
  v74

def k0_mult17 (i : grid0.Coords) : BitVec 32 :=
  let arg1 : BitVec 32 := BitVec.ofNat 32 (i 1).val
  let c0_i32_411 : BitVec 32 := 0#32
  let v588 : BitVec 32 := Scalar.addi arg1 c0_i32_411
  let c256_i32_412 : BitVec 32 := 256#32
  let v589 : BitVec 32 := Scalar.muli v588 c256_i32_412
  v589
def k0_off1 (i : grid0.Coords) : Fin 1 → Nat :=
  let arg1 : BitVec 32 := BitVec.ofNat 32 (i 1).val
  let c0_i32_411 : BitVec 32 := 0#32
  let v588 : BitVec 32 := Scalar.addi arg1 c0_i32_411
  ![v588.toNat]
def k0_off2 (i : grid0.Coords) : Fin 3 → Nat :=
  let c0_i32_413 : BitVec 32 := 0#32
  let arg1 : BitVec 32 := BitVec.ofNat 32 (i 1).val
  let c0_i32_411 : BitVec 32 := 0#32
  let v588 : BitVec 32 := Scalar.addi arg1 c0_i32_411
  let c256_i32_412 : BitVec 32 := 256#32
  let v589 : BitVec 32 := Scalar.muli v588 c256_i32_412
  let v590 : BitVec 32 := v589
  let c0_i32_414 : BitVec 32 := 0#32
  ![0, v590.toNat, 0]
def k0_off3 (i : grid0.Coords) : Fin 3 → Nat :=
  let c0_i32_417 : BitVec 32 := 0#32
  let arg1 : BitVec 32 := BitVec.ofNat 32 (i 1).val
  let c0_i32_411 : BitVec 32 := 0#32
  let v588 : BitVec 32 := Scalar.addi arg1 c0_i32_411
  let c256_i32_412 : BitVec 32 := 256#32
  let v589 : BitVec 32 := Scalar.muli v588 c256_i32_412
  let v590 : BitVec 32 := v589
  let c0_i32_418 : BitVec 32 := 0#32
  ![0, v590.toNat, 0]
def k0_mult18 (i : grid0.Coords) : BitVec 32 :=
  let arg1 : BitVec 32 := BitVec.ofNat 32 (i 1).val
  let c256_i32 : BitVec 32 := 256#32
  let v75 : BitVec 32 := Scalar.muli arg1 c256_i32
  v75
def k0_off4 (i : grid0.Coords) : Fin 3 → Nat :=
  let c0_93 : Index := 0#32
  let arg1 : BitVec 32 := BitVec.ofNat 32 (i 1).val
  let c256_i32 : BitVec 32 := 256#32
  let v75 : BitVec 32 := Scalar.muli arg1 c256_i32
  let v76 : BitVec 32 := v75
  let v77 : Index := Scalar.indexCast v76
  let c0_94 : Index := 0#32
  ![0, v77.toNat, 0]
def k0_off5 (i : grid0.Coords) : Fin 3 → Nat :=
  let c1_95 : Index := 1#32
  let arg1 : BitVec 32 := BitVec.ofNat 32 (i 1).val
  let c256_i32 : BitVec 32 := 256#32
  let v75 : BitVec 32 := Scalar.muli arg1 c256_i32
  let v76 : BitVec 32 := v75
  let v80 : Index := Scalar.indexCast v76
  let c0_96 : Index := 0#32
  ![1, v80.toNat, 0]
def k0_off6 (i : grid0.Coords) : Fin 3 → Nat :=
  let c2_97 : Index := 2#32
  let arg1 : BitVec 32 := BitVec.ofNat 32 (i 1).val
  let c256_i32 : BitVec 32 := 256#32
  let v75 : BitVec 32 := Scalar.muli arg1 c256_i32
  let v76 : BitVec 32 := v75
  let v83 : Index := Scalar.indexCast v76
  let c0_98 : Index := 0#32
  ![2, v83.toNat, 0]
def k0_off7 (i : grid0.Coords) : Fin 3 → Nat :=
  let c3_99 : Index := 3#32
  let arg1 : BitVec 32 := BitVec.ofNat 32 (i 1).val
  let c256_i32 : BitVec 32 := 256#32
  let v75 : BitVec 32 := Scalar.muli arg1 c256_i32
  let v76 : BitVec 32 := v75
  let v86 : Index := Scalar.indexCast v76
  let c0_100 : Index := 0#32
  ![3, v86.toNat, 0]
def k0_off8 (i : grid0.Coords) : Fin 3 → Nat :=
  let c4_101 : Index := 4#32
  let arg1 : BitVec 32 := BitVec.ofNat 32 (i 1).val
  let c256_i32 : BitVec 32 := 256#32
  let v75 : BitVec 32 := Scalar.muli arg1 c256_i32
  let v76 : BitVec 32 := v75
  let v89 : Index := Scalar.indexCast v76
  let c0_102 : Index := 0#32
  ![4, v89.toNat, 0]
def k0_off9 (i : grid0.Coords) : Fin 3 → Nat :=
  let c5_103 : Index := 5#32
  let arg1 : BitVec 32 := BitVec.ofNat 32 (i 1).val
  let c256_i32 : BitVec 32 := 256#32
  let v75 : BitVec 32 := Scalar.muli arg1 c256_i32
  let v76 : BitVec 32 := v75
  let v92 : Index := Scalar.indexCast v76
  let c0_104 : Index := 0#32
  ![5, v92.toNat, 0]
def k0_off10 (i : grid0.Coords) : Fin 3 → Nat :=
  let c6_105 : Index := 6#32
  let arg1 : BitVec 32 := BitVec.ofNat 32 (i 1).val
  let c256_i32 : BitVec 32 := 256#32
  let v75 : BitVec 32 := Scalar.muli arg1 c256_i32
  let v76 : BitVec 32 := v75
  let v95 : Index := Scalar.indexCast v76
  let c0_106 : Index := 0#32
  ![6, v95.toNat, 0]
def k0_off11 (i : grid0.Coords) : Fin 3 → Nat :=
  let c7_107 : Index := 7#32
  let arg1 : BitVec 32 := BitVec.ofNat 32 (i 1).val
  let c256_i32 : BitVec 32 := 256#32
  let v75 : BitVec 32 := Scalar.muli arg1 c256_i32
  let v76 : BitVec 32 := v75
  let v98 : Index := Scalar.indexCast v76
  let c0_108 : Index := 0#32
  ![7, v98.toNat, 0]
def k0_off12 (i : grid0.Coords) : Fin 3 → Nat :=
  let c0_109 : Index := 0#32
  let arg1 : BitVec 32 := BitVec.ofNat 32 (i 1).val
  let c256_i32 : BitVec 32 := 256#32
  let v75 : BitVec 32 := Scalar.muli arg1 c256_i32
  let v76 : BitVec 32 := v75
  let v101 : Index := Scalar.indexCast v76
  let c0_110 : Index := 0#32
  ![0, v101.toNat, 0]
def k0_off13 (i : grid0.Coords) : Fin 3 → Nat :=
  let c1_111 : Index := 1#32
  let arg1 : BitVec 32 := BitVec.ofNat 32 (i 1).val
  let c256_i32 : BitVec 32 := 256#32
  let v75 : BitVec 32 := Scalar.muli arg1 c256_i32
  let v76 : BitVec 32 := v75
  let v104 : Index := Scalar.indexCast v76
  let c0_112 : Index := 0#32
  ![1, v104.toNat, 0]
def k0_off14 (i : grid0.Coords) : Fin 3 → Nat :=
  let c2_113 : Index := 2#32
  let arg1 : BitVec 32 := BitVec.ofNat 32 (i 1).val
  let c256_i32 : BitVec 32 := 256#32
  let v75 : BitVec 32 := Scalar.muli arg1 c256_i32
  let v76 : BitVec 32 := v75
  let v107 : Index := Scalar.indexCast v76
  let c0_114 : Index := 0#32
  ![2, v107.toNat, 0]
def k0_off15 (i : grid0.Coords) : Fin 3 → Nat :=
  let c3_115 : Index := 3#32
  let arg1 : BitVec 32 := BitVec.ofNat 32 (i 1).val
  let c256_i32 : BitVec 32 := 256#32
  let v75 : BitVec 32 := Scalar.muli arg1 c256_i32
  let v76 : BitVec 32 := v75
  let v110 : Index := Scalar.indexCast v76
  let c0_116 : Index := 0#32
  ![3, v110.toNat, 0]
def k0_off16 (i : grid0.Coords) : Fin 3 → Nat :=
  let c4_117 : Index := 4#32
  let arg1 : BitVec 32 := BitVec.ofNat 32 (i 1).val
  let c256_i32 : BitVec 32 := 256#32
  let v75 : BitVec 32 := Scalar.muli arg1 c256_i32
  let v76 : BitVec 32 := v75
  let v113 : Index := Scalar.indexCast v76
  let c0_118 : Index := 0#32
  ![4, v113.toNat, 0]
def k0_off17 (i : grid0.Coords) : Fin 3 → Nat :=
  let c5_119 : Index := 5#32
  let arg1 : BitVec 32 := BitVec.ofNat 32 (i 1).val
  let c256_i32 : BitVec 32 := 256#32
  let v75 : BitVec 32 := Scalar.muli arg1 c256_i32
  let v76 : BitVec 32 := v75
  let v116 : Index := Scalar.indexCast v76
  let c0_120 : Index := 0#32
  ![5, v116.toNat, 0]
def k0_off18 (i : grid0.Coords) : Fin 3 → Nat :=
  let c6_121 : Index := 6#32
  let arg1 : BitVec 32 := BitVec.ofNat 32 (i 1).val
  let c256_i32 : BitVec 32 := 256#32
  let v75 : BitVec 32 := Scalar.muli arg1 c256_i32
  let v76 : BitVec 32 := v75
  let v119 : Index := Scalar.indexCast v76
  let c0_122 : Index := 0#32
  ![6, v119.toNat, 0]
def k0_off19 (i : grid0.Coords) : Fin 3 → Nat :=
  let c7_123 : Index := 7#32
  let arg1 : BitVec 32 := BitVec.ofNat 32 (i 1).val
  let c256_i32 : BitVec 32 := 256#32
  let v75 : BitVec 32 := Scalar.muli arg1 c256_i32
  let v76 : BitVec 32 := v75
  let v122 : Index := Scalar.indexCast v76
  let c0_124 : Index := 0#32
  ![7, v122.toNat, 0]
def k0_off20 (i : grid0.Coords) : Fin 4 → Nat :=
  let c0_143 : Index := 0#32
  let arg1 : BitVec 32 := BitVec.ofNat 32 (i 1).val
  let c0_i32_142 : BitVec 32 := 0#32
  let v146 : BitVec 32 := Scalar.addi arg1 c0_i32_142
  let v147 : Index := Scalar.indexCast v146
  let c0_144 : Index := 0#32
  let c0_145 : Index := 0#32
  ![0, v147.toNat, 0, 0]
def k0_off21 (i : grid0.Coords) : Fin 4 → Nat :=
  let c1_152 : Index := 1#32
  let arg1 : BitVec 32 := BitVec.ofNat 32 (i 1).val
  let c0_i32_151 : BitVec 32 := 0#32
  let v167 : BitVec 32 := Scalar.addi arg1 c0_i32_151
  let v168 : Index := Scalar.indexCast v167
  let c0_153 : Index := 0#32
  let c0_154 : Index := 0#32
  ![1, v168.toNat, 0, 0]
def k0_off22 (i : grid0.Coords) : Fin 4 → Nat :=
  let c2_161 : Index := 2#32
  let arg1 : BitVec 32 := BitVec.ofNat 32 (i 1).val
  let c0_i32_160 : BitVec 32 := 0#32
  let v188 : BitVec 32 := Scalar.addi arg1 c0_i32_160
  let v189 : Index := Scalar.indexCast v188
  let c0_162 : Index := 0#32
  let c0_163 : Index := 0#32
  ![2, v189.toNat, 0, 0]
def k0_off23 (i : grid0.Coords) : Fin 4 → Nat :=
  let c3_170 : Index := 3#32
  let arg1 : BitVec 32 := BitVec.ofNat 32 (i 1).val
  let c0_i32_169 : BitVec 32 := 0#32
  let v209 : BitVec 32 := Scalar.addi arg1 c0_i32_169
  let v210 : Index := Scalar.indexCast v209
  let c0_171 : Index := 0#32
  let c0_172 : Index := 0#32
  ![3, v210.toNat, 0, 0]
def k0_off24 (i : grid0.Coords) : Fin 4 → Nat :=
  let c4_179 : Index := 4#32
  let arg1 : BitVec 32 := BitVec.ofNat 32 (i 1).val
  let c0_i32_178 : BitVec 32 := 0#32
  let v230 : BitVec 32 := Scalar.addi arg1 c0_i32_178
  let v231 : Index := Scalar.indexCast v230
  let c0_180 : Index := 0#32
  let c0_181 : Index := 0#32
  ![4, v231.toNat, 0, 0]
def k0_off25 (i : grid0.Coords) : Fin 4 → Nat :=
  let c5_188 : Index := 5#32
  let arg1 : BitVec 32 := BitVec.ofNat 32 (i 1).val
  let c0_i32_187 : BitVec 32 := 0#32
  let v251 : BitVec 32 := Scalar.addi arg1 c0_i32_187
  let v252 : Index := Scalar.indexCast v251
  let c0_189 : Index := 0#32
  let c0_190 : Index := 0#32
  ![5, v252.toNat, 0, 0]
def k0_off26 (i : grid0.Coords) : Fin 4 → Nat :=
  let c6_197 : Index := 6#32
  let arg1 : BitVec 32 := BitVec.ofNat 32 (i 1).val
  let c0_i32_196 : BitVec 32 := 0#32
  let v272 : BitVec 32 := Scalar.addi arg1 c0_i32_196
  let v273 : Index := Scalar.indexCast v272
  let c0_198 : Index := 0#32
  let c0_199 : Index := 0#32
  ![6, v273.toNat, 0, 0]
def k0_off27 (i : grid0.Coords) : Fin 4 → Nat :=
  let c7_206 : Index := 7#32
  let arg1 : BitVec 32 := BitVec.ofNat 32 (i 1).val
  let c0_i32_205 : BitVec 32 := 0#32
  let v293 : BitVec 32 := Scalar.addi arg1 c0_i32_205
  let v294 : Index := Scalar.indexCast v293
  let c0_207 : Index := 0#32
  let c0_208 : Index := 0#32
  ![7, v294.toNat, 0, 0]
def k0_off28 (i : grid0.Coords) : Fin 4 → Nat :=
  let c0_215 : Index := 0#32
  let arg1 : BitVec 32 := BitVec.ofNat 32 (i 1).val
  let c0_i32_214 : BitVec 32 := 0#32
  let v310 : BitVec 32 := Scalar.addi arg1 c0_i32_214
  let v311 : Index := Scalar.indexCast v310
  let c0_216 : Index := 0#32
  let c0_217 : Index := 0#32
  ![0, v311.toNat, 0, 0]
def k0_off29 (i : grid0.Coords) : Fin 4 → Nat :=
  let c1_225 : Index := 1#32
  let arg1 : BitVec 32 := BitVec.ofNat 32 (i 1).val
  let c0_i32_224 : BitVec 32 := 0#32
  let v324 : BitVec 32 := Scalar.addi arg1 c0_i32_224
  let v325 : Index := Scalar.indexCast v324
  let c0_226 : Index := 0#32
  let c0_227 : Index := 0#32
  ![1, v325.toNat, 0, 0]
def k0_off30 (i : grid0.Coords) : Fin 4 → Nat :=
  let c2_235 : Index := 2#32
  let arg1 : BitVec 32 := BitVec.ofNat 32 (i 1).val
  let c0_i32_234 : BitVec 32 := 0#32
  let v338 : BitVec 32 := Scalar.addi arg1 c0_i32_234
  let v339 : Index := Scalar.indexCast v338
  let c0_236 : Index := 0#32
  let c0_237 : Index := 0#32
  ![2, v339.toNat, 0, 0]
def k0_off31 (i : grid0.Coords) : Fin 4 → Nat :=
  let c3_245 : Index := 3#32
  let arg1 : BitVec 32 := BitVec.ofNat 32 (i 1).val
  let c0_i32_244 : BitVec 32 := 0#32
  let v352 : BitVec 32 := Scalar.addi arg1 c0_i32_244
  let v353 : Index := Scalar.indexCast v352
  let c0_246 : Index := 0#32
  let c0_247 : Index := 0#32
  ![3, v353.toNat, 0, 0]
def k0_off32 (i : grid0.Coords) : Fin 4 → Nat :=
  let c4_255 : Index := 4#32
  let arg1 : BitVec 32 := BitVec.ofNat 32 (i 1).val
  let c0_i32_254 : BitVec 32 := 0#32
  let v366 : BitVec 32 := Scalar.addi arg1 c0_i32_254
  let v367 : Index := Scalar.indexCast v366
  let c0_256 : Index := 0#32
  let c0_257 : Index := 0#32
  ![4, v367.toNat, 0, 0]
def k0_off33 (i : grid0.Coords) : Fin 4 → Nat :=
  let c5_265 : Index := 5#32
  let arg1 : BitVec 32 := BitVec.ofNat 32 (i 1).val
  let c0_i32_264 : BitVec 32 := 0#32
  let v380 : BitVec 32 := Scalar.addi arg1 c0_i32_264
  let v381 : Index := Scalar.indexCast v380
  let c0_266 : Index := 0#32
  let c0_267 : Index := 0#32
  ![5, v381.toNat, 0, 0]
def k0_off34 (i : grid0.Coords) : Fin 4 → Nat :=
  let c6_275 : Index := 6#32
  let arg1 : BitVec 32 := BitVec.ofNat 32 (i 1).val
  let c0_i32_274 : BitVec 32 := 0#32
  let v394 : BitVec 32 := Scalar.addi arg1 c0_i32_274
  let v395 : Index := Scalar.indexCast v394
  let c0_276 : Index := 0#32
  let c0_277 : Index := 0#32
  ![6, v395.toNat, 0, 0]
def k0_off35 (i : grid0.Coords) : Fin 4 → Nat :=
  let c7_285 : Index := 7#32
  let arg1 : BitVec 32 := BitVec.ofNat 32 (i 1).val
  let c0_i32_284 : BitVec 32 := 0#32
  let v408 : BitVec 32 := Scalar.addi arg1 c0_i32_284
  let v409 : Index := Scalar.indexCast v408
  let c0_286 : Index := 0#32
  let c0_287 : Index := 0#32
  ![7, v409.toNat, 0, 0]
@[reducible] def k0_t1_loop (i : grid0.Coords) : Scf.Loop 32 :=
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_300 : BitVec 32 := 1#32
  ⟨v432, v439, c1_i32_300⟩
def k0_cond4 (i : grid0.Coords) : BitVec 1 :=
  let arg1 : BitVec 32 := BitVec.ofNat 32 (i 1).val
  let c0_i32_411 : BitVec 32 := 0#32
  let v588 : BitVec 1 := Scalar.cmpi .eq arg1 c0_i32_411
  let v589 : BitVec 32 := Scalar.extui v588
  let c0_i32_412 : BitVec 32 := 0#32
  let v590 : BitVec 1 := Scalar.cmpi .ne v589 c0_i32_412
  v590

def k0_mult19 (i : grid0.Coords) (k0_t1 : Fin (k0_t1_loop i).trips) : BitVec 32 :=
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_606 : BitVec 32 := 0#32
  let v897 : BitVec 32 := Scalar.addi arg17 c0_i32_606
  let c256_i32_607 : BitVec 32 := 256#32
  let v898 : BitVec 32 := Scalar.muli v897 c256_i32_607
  v898
def k0_off36 (i : grid0.Coords) (k0_t1 : Fin (k0_t1_loop i).trips) : Fin 1 → Nat :=
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_606 : BitVec 32 := 0#32
  let v897 : BitVec 32 := Scalar.addi arg17 c0_i32_606
  ![v897.toNat]
def k0_off37 (i : grid0.Coords) (k0_t1 : Fin (k0_t1_loop i).trips) : Fin 3 → Nat :=
  let c0_i32_608 : BitVec 32 := 0#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_606 : BitVec 32 := 0#32
  let v897 : BitVec 32 := Scalar.addi arg17 c0_i32_606
  let c256_i32_607 : BitVec 32 := 256#32
  let v898 : BitVec 32 := Scalar.muli v897 c256_i32_607
  let v899 : BitVec 32 := v898
  let c0_i32_609 : BitVec 32 := 0#32
  ![0, v899.toNat, 0]
def k0_off38 (i : grid0.Coords) (k0_t1 : Fin (k0_t1_loop i).trips) : Fin 3 → Nat :=
  let c0_i32_612 : BitVec 32 := 0#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_606 : BitVec 32 := 0#32
  let v897 : BitVec 32 := Scalar.addi arg17 c0_i32_606
  let c256_i32_607 : BitVec 32 := 256#32
  let v898 : BitVec 32 := Scalar.muli v897 c256_i32_607
  let v899 : BitVec 32 := v898
  let c0_i32_613 : BitVec 32 := 0#32
  ![0, v899.toNat, 0]
def k0_mult20 (i : grid0.Coords) (k0_t1 : Fin (k0_t1_loop i).trips) : BitVec 32 :=
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c256_i32_413 : BitVec 32 := 256#32
  let v591 : BitVec 32 := Scalar.muli arg17 c256_i32_413
  v591
def k0_off39 (i : grid0.Coords) (k0_t1 : Fin (k0_t1_loop i).trips) : Fin 3 → Nat :=
  let c0_414 : Index := 0#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c256_i32_413 : BitVec 32 := 256#32
  let v591 : BitVec 32 := Scalar.muli arg17 c256_i32_413
  let v592 : BitVec 32 := v591
  let v593 : Index := Scalar.indexCast v592
  let c0_415 : Index := 0#32
  ![0, v593.toNat, 0]
def k0_off40 (i : grid0.Coords) (k0_t1 : Fin (k0_t1_loop i).trips) : Fin 3 → Nat :=
  let c1_416 : Index := 1#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c256_i32_413 : BitVec 32 := 256#32
  let v591 : BitVec 32 := Scalar.muli arg17 c256_i32_413
  let v592 : BitVec 32 := v591
  let v596 : Index := Scalar.indexCast v592
  let c0_417 : Index := 0#32
  ![1, v596.toNat, 0]
def k0_off41 (i : grid0.Coords) (k0_t1 : Fin (k0_t1_loop i).trips) : Fin 3 → Nat :=
  let c2_418 : Index := 2#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c256_i32_413 : BitVec 32 := 256#32
  let v591 : BitVec 32 := Scalar.muli arg17 c256_i32_413
  let v592 : BitVec 32 := v591
  let v599 : Index := Scalar.indexCast v592
  let c0_419 : Index := 0#32
  ![2, v599.toNat, 0]
def k0_off42 (i : grid0.Coords) (k0_t1 : Fin (k0_t1_loop i).trips) : Fin 3 → Nat :=
  let c3_420 : Index := 3#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c256_i32_413 : BitVec 32 := 256#32
  let v591 : BitVec 32 := Scalar.muli arg17 c256_i32_413
  let v592 : BitVec 32 := v591
  let v602 : Index := Scalar.indexCast v592
  let c0_421 : Index := 0#32
  ![3, v602.toNat, 0]
def k0_off43 (i : grid0.Coords) (k0_t1 : Fin (k0_t1_loop i).trips) : Fin 3 → Nat :=
  let c4_422 : Index := 4#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c256_i32_413 : BitVec 32 := 256#32
  let v591 : BitVec 32 := Scalar.muli arg17 c256_i32_413
  let v592 : BitVec 32 := v591
  let v605 : Index := Scalar.indexCast v592
  let c0_423 : Index := 0#32
  ![4, v605.toNat, 0]
def k0_off44 (i : grid0.Coords) (k0_t1 : Fin (k0_t1_loop i).trips) : Fin 3 → Nat :=
  let c5_424 : Index := 5#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c256_i32_413 : BitVec 32 := 256#32
  let v591 : BitVec 32 := Scalar.muli arg17 c256_i32_413
  let v592 : BitVec 32 := v591
  let v608 : Index := Scalar.indexCast v592
  let c0_425 : Index := 0#32
  ![5, v608.toNat, 0]
def k0_off45 (i : grid0.Coords) (k0_t1 : Fin (k0_t1_loop i).trips) : Fin 3 → Nat :=
  let c6_426 : Index := 6#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c256_i32_413 : BitVec 32 := 256#32
  let v591 : BitVec 32 := Scalar.muli arg17 c256_i32_413
  let v592 : BitVec 32 := v591
  let v611 : Index := Scalar.indexCast v592
  let c0_427 : Index := 0#32
  ![6, v611.toNat, 0]
def k0_off46 (i : grid0.Coords) (k0_t1 : Fin (k0_t1_loop i).trips) : Fin 3 → Nat :=
  let c7_428 : Index := 7#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c256_i32_413 : BitVec 32 := 256#32
  let v591 : BitVec 32 := Scalar.muli arg17 c256_i32_413
  let v592 : BitVec 32 := v591
  let v614 : Index := Scalar.indexCast v592
  let c0_429 : Index := 0#32
  ![7, v614.toNat, 0]
def k0_off47 (i : grid0.Coords) (k0_t1 : Fin (k0_t1_loop i).trips) : Fin 3 → Nat :=
  let c0_430 : Index := 0#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c256_i32_413 : BitVec 32 := 256#32
  let v591 : BitVec 32 := Scalar.muli arg17 c256_i32_413
  let v592 : BitVec 32 := v591
  let v617 : Index := Scalar.indexCast v592
  let c0_431 : Index := 0#32
  ![0, v617.toNat, 0]
def k0_off48 (i : grid0.Coords) (k0_t1 : Fin (k0_t1_loop i).trips) : Fin 3 → Nat :=
  let c1_432 : Index := 1#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c256_i32_413 : BitVec 32 := 256#32
  let v591 : BitVec 32 := Scalar.muli arg17 c256_i32_413
  let v592 : BitVec 32 := v591
  let v620 : Index := Scalar.indexCast v592
  let c0_433 : Index := 0#32
  ![1, v620.toNat, 0]
def k0_off49 (i : grid0.Coords) (k0_t1 : Fin (k0_t1_loop i).trips) : Fin 3 → Nat :=
  let c2_434 : Index := 2#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c256_i32_413 : BitVec 32 := 256#32
  let v591 : BitVec 32 := Scalar.muli arg17 c256_i32_413
  let v592 : BitVec 32 := v591
  let v623 : Index := Scalar.indexCast v592
  let c0_435 : Index := 0#32
  ![2, v623.toNat, 0]
def k0_off50 (i : grid0.Coords) (k0_t1 : Fin (k0_t1_loop i).trips) : Fin 3 → Nat :=
  let c3_436 : Index := 3#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c256_i32_413 : BitVec 32 := 256#32
  let v591 : BitVec 32 := Scalar.muli arg17 c256_i32_413
  let v592 : BitVec 32 := v591
  let v626 : Index := Scalar.indexCast v592
  let c0_437 : Index := 0#32
  ![3, v626.toNat, 0]
def k0_off51 (i : grid0.Coords) (k0_t1 : Fin (k0_t1_loop i).trips) : Fin 3 → Nat :=
  let c4_438 : Index := 4#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c256_i32_413 : BitVec 32 := 256#32
  let v591 : BitVec 32 := Scalar.muli arg17 c256_i32_413
  let v592 : BitVec 32 := v591
  let v629 : Index := Scalar.indexCast v592
  let c0_439 : Index := 0#32
  ![4, v629.toNat, 0]
def k0_off52 (i : grid0.Coords) (k0_t1 : Fin (k0_t1_loop i).trips) : Fin 3 → Nat :=
  let c5_440 : Index := 5#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c256_i32_413 : BitVec 32 := 256#32
  let v591 : BitVec 32 := Scalar.muli arg17 c256_i32_413
  let v592 : BitVec 32 := v591
  let v632 : Index := Scalar.indexCast v592
  let c0_441 : Index := 0#32
  ![5, v632.toNat, 0]
def k0_off53 (i : grid0.Coords) (k0_t1 : Fin (k0_t1_loop i).trips) : Fin 3 → Nat :=
  let c6_442 : Index := 6#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c256_i32_413 : BitVec 32 := 256#32
  let v591 : BitVec 32 := Scalar.muli arg17 c256_i32_413
  let v592 : BitVec 32 := v591
  let v635 : Index := Scalar.indexCast v592
  let c0_443 : Index := 0#32
  ![6, v635.toNat, 0]
def k0_off54 (i : grid0.Coords) (k0_t1 : Fin (k0_t1_loop i).trips) : Fin 3 → Nat :=
  let c7_444 : Index := 7#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c256_i32_413 : BitVec 32 := 256#32
  let v591 : BitVec 32 := Scalar.muli arg17 c256_i32_413
  let v592 : BitVec 32 := v591
  let v638 : Index := Scalar.indexCast v592
  let c0_445 : Index := 0#32
  ![7, v638.toNat, 0]
def k0_off55 (i : grid0.Coords) (k0_t1 : Fin (k0_t1_loop i).trips) : Fin 4 → Nat :=
  let c0_463 : Index := 0#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_462 : BitVec 32 := 0#32
  let v657 : BitVec 32 := Scalar.addi arg17 c0_i32_462
  let v658 : Index := Scalar.indexCast v657
  let c0_464 : Index := 0#32
  let c0_465 : Index := 0#32
  ![0, v658.toNat, 0, 0]
def k0_off56 (i : grid0.Coords) (k0_t1 : Fin (k0_t1_loop i).trips) : Fin 4 → Nat :=
  let c1_471 : Index := 1#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_470 : BitVec 32 := 0#32
  let v673 : BitVec 32 := Scalar.addi arg17 c0_i32_470
  let v674 : Index := Scalar.indexCast v673
  let c0_472 : Index := 0#32
  let c0_473 : Index := 0#32
  ![1, v674.toNat, 0, 0]
def k0_off57 (i : grid0.Coords) (k0_t1 : Fin (k0_t1_loop i).trips) : Fin 4 → Nat :=
  let c2_479 : Index := 2#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_478 : BitVec 32 := 0#32
  let v689 : BitVec 32 := Scalar.addi arg17 c0_i32_478
  let v690 : Index := Scalar.indexCast v689
  let c0_480 : Index := 0#32
  let c0_481 : Index := 0#32
  ![2, v690.toNat, 0, 0]
def k0_off58 (i : grid0.Coords) (k0_t1 : Fin (k0_t1_loop i).trips) : Fin 4 → Nat :=
  let c3_487 : Index := 3#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_486 : BitVec 32 := 0#32
  let v705 : BitVec 32 := Scalar.addi arg17 c0_i32_486
  let v706 : Index := Scalar.indexCast v705
  let c0_488 : Index := 0#32
  let c0_489 : Index := 0#32
  ![3, v706.toNat, 0, 0]
def k0_off59 (i : grid0.Coords) (k0_t1 : Fin (k0_t1_loop i).trips) : Fin 4 → Nat :=
  let c4_495 : Index := 4#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_494 : BitVec 32 := 0#32
  let v721 : BitVec 32 := Scalar.addi arg17 c0_i32_494
  let v722 : Index := Scalar.indexCast v721
  let c0_496 : Index := 0#32
  let c0_497 : Index := 0#32
  ![4, v722.toNat, 0, 0]
def k0_off60 (i : grid0.Coords) (k0_t1 : Fin (k0_t1_loop i).trips) : Fin 4 → Nat :=
  let c5_503 : Index := 5#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_502 : BitVec 32 := 0#32
  let v737 : BitVec 32 := Scalar.addi arg17 c0_i32_502
  let v738 : Index := Scalar.indexCast v737
  let c0_504 : Index := 0#32
  let c0_505 : Index := 0#32
  ![5, v738.toNat, 0, 0]
def k0_off61 (i : grid0.Coords) (k0_t1 : Fin (k0_t1_loop i).trips) : Fin 4 → Nat :=
  let c6_511 : Index := 6#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_510 : BitVec 32 := 0#32
  let v753 : BitVec 32 := Scalar.addi arg17 c0_i32_510
  let v754 : Index := Scalar.indexCast v753
  let c0_512 : Index := 0#32
  let c0_513 : Index := 0#32
  ![6, v754.toNat, 0, 0]
def k0_off62 (i : grid0.Coords) (k0_t1 : Fin (k0_t1_loop i).trips) : Fin 4 → Nat :=
  let c7_519 : Index := 7#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_518 : BitVec 32 := 0#32
  let v769 : BitVec 32 := Scalar.addi arg17 c0_i32_518
  let v770 : Index := Scalar.indexCast v769
  let c0_520 : Index := 0#32
  let c0_521 : Index := 0#32
  ![7, v770.toNat, 0, 0]
def k0_off63 (i : grid0.Coords) (k0_t1 : Fin (k0_t1_loop i).trips) : Fin 4 → Nat :=
  let c0_528 : Index := 0#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_527 : BitVec 32 := 0#32
  let v786 : BitVec 32 := Scalar.addi arg17 c0_i32_527
  let v787 : Index := Scalar.indexCast v786
  let c0_529 : Index := 0#32
  let c0_530 : Index := 0#32
  ![0, v787.toNat, 0, 0]
def k0_off64 (i : grid0.Coords) (k0_t1 : Fin (k0_t1_loop i).trips) : Fin 4 → Nat :=
  let c1_538 : Index := 1#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_537 : BitVec 32 := 0#32
  let v800 : BitVec 32 := Scalar.addi arg17 c0_i32_537
  let v801 : Index := Scalar.indexCast v800
  let c0_539 : Index := 0#32
  let c0_540 : Index := 0#32
  ![1, v801.toNat, 0, 0]
def k0_off65 (i : grid0.Coords) (k0_t1 : Fin (k0_t1_loop i).trips) : Fin 4 → Nat :=
  let c2_548 : Index := 2#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_547 : BitVec 32 := 0#32
  let v814 : BitVec 32 := Scalar.addi arg17 c0_i32_547
  let v815 : Index := Scalar.indexCast v814
  let c0_549 : Index := 0#32
  let c0_550 : Index := 0#32
  ![2, v815.toNat, 0, 0]
def k0_off66 (i : grid0.Coords) (k0_t1 : Fin (k0_t1_loop i).trips) : Fin 4 → Nat :=
  let c3_558 : Index := 3#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_557 : BitVec 32 := 0#32
  let v828 : BitVec 32 := Scalar.addi arg17 c0_i32_557
  let v829 : Index := Scalar.indexCast v828
  let c0_559 : Index := 0#32
  let c0_560 : Index := 0#32
  ![3, v829.toNat, 0, 0]
def k0_off67 (i : grid0.Coords) (k0_t1 : Fin (k0_t1_loop i).trips) : Fin 4 → Nat :=
  let c4_568 : Index := 4#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_567 : BitVec 32 := 0#32
  let v842 : BitVec 32 := Scalar.addi arg17 c0_i32_567
  let v843 : Index := Scalar.indexCast v842
  let c0_569 : Index := 0#32
  let c0_570 : Index := 0#32
  ![4, v843.toNat, 0, 0]
def k0_off68 (i : grid0.Coords) (k0_t1 : Fin (k0_t1_loop i).trips) : Fin 4 → Nat :=
  let c5_578 : Index := 5#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_577 : BitVec 32 := 0#32
  let v856 : BitVec 32 := Scalar.addi arg17 c0_i32_577
  let v857 : Index := Scalar.indexCast v856
  let c0_579 : Index := 0#32
  let c0_580 : Index := 0#32
  ![5, v857.toNat, 0, 0]
def k0_off69 (i : grid0.Coords) (k0_t1 : Fin (k0_t1_loop i).trips) : Fin 4 → Nat :=
  let c6_588 : Index := 6#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_587 : BitVec 32 := 0#32
  let v870 : BitVec 32 := Scalar.addi arg17 c0_i32_587
  let v871 : Index := Scalar.indexCast v870
  let c0_589 : Index := 0#32
  let c0_590 : Index := 0#32
  ![6, v871.toNat, 0, 0]
def k0_off70 (i : grid0.Coords) (k0_t1 : Fin (k0_t1_loop i).trips) : Fin 4 → Nat :=
  let c7_598 : Index := 7#32
  let arg1 : BitVec 32 := BitVec.ofNat 32 (i 1).val
  let c1_i32_297 : BitVec 32 := 1#32
  let v432 : BitVec 32 := Scalar.addi arg1 c1_i32_297
  let c1_i32_300 : BitVec 32 := 1#32
  let arg17 : BitVec 32 := Scf.iv v432 c1_i32_300 k0_t1
  let c0_i32_597 : BitVec 32 := 0#32
  let v884 : BitVec 32 := Scalar.addi arg17 c0_i32_597
  let v885 : Index := Scalar.indexCast v884
  let c0_599 : Index := 0#32
  let c0_600 : Index := 0#32
  ![7, v885.toNat, 0, 0]
@[reducible] def k0_t2_loop (i : grid0.Coords) : Scf.Loop 32 :=
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let v436 : BitVec 32 := Scalar.addi v432 v435
  let c1_i32_301 : BitVec 32 := 1#32
  ⟨v439, v436, c1_i32_301⟩
def k0_cond5 (i : grid0.Coords) : BitVec 1 :=
  let arg1 : BitVec 32 := BitVec.ofNat 32 (i 1).val
  let c0_i32_411 : BitVec 32 := 0#32
  let v588 : BitVec 1 := Scalar.cmpi .eq arg1 c0_i32_411
  let v589 : BitVec 32 := Scalar.extui v588
  let c0_i32_412 : BitVec 32 := 0#32
  let v590 : BitVec 1 := Scalar.cmpi .ne v589 c0_i32_412
  v590

def k0_mult21 (i : grid0.Coords) (k0_t2 : Fin (k0_t2_loop i).trips) : BitVec 32 :=
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_606 : BitVec 32 := 0#32
  let v897 : BitVec 32 := Scalar.addi arg17 c0_i32_606
  let c256_i32_607 : BitVec 32 := 256#32
  let v898 : BitVec 32 := Scalar.muli v897 c256_i32_607
  v898
def k0_off71 (i : grid0.Coords) (k0_t2 : Fin (k0_t2_loop i).trips) : Fin 1 → Nat :=
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_606 : BitVec 32 := 0#32
  let v897 : BitVec 32 := Scalar.addi arg17 c0_i32_606
  ![v897.toNat]
def k0_off72 (i : grid0.Coords) (k0_t2 : Fin (k0_t2_loop i).trips) : Fin 3 → Nat :=
  let c0_i32_608 : BitVec 32 := 0#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_606 : BitVec 32 := 0#32
  let v897 : BitVec 32 := Scalar.addi arg17 c0_i32_606
  let c256_i32_607 : BitVec 32 := 256#32
  let v898 : BitVec 32 := Scalar.muli v897 c256_i32_607
  let v899 : BitVec 32 := v898
  let c0_i32_609 : BitVec 32 := 0#32
  ![0, v899.toNat, 0]
def k0_off73 (i : grid0.Coords) (k0_t2 : Fin (k0_t2_loop i).trips) : Fin 3 → Nat :=
  let c0_i32_612 : BitVec 32 := 0#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_606 : BitVec 32 := 0#32
  let v897 : BitVec 32 := Scalar.addi arg17 c0_i32_606
  let c256_i32_607 : BitVec 32 := 256#32
  let v898 : BitVec 32 := Scalar.muli v897 c256_i32_607
  let v899 : BitVec 32 := v898
  let c0_i32_613 : BitVec 32 := 0#32
  ![0, v899.toNat, 0]
def k0_mult22 (i : grid0.Coords) (k0_t2 : Fin (k0_t2_loop i).trips) : BitVec 32 :=
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c256_i32_413 : BitVec 32 := 256#32
  let v591 : BitVec 32 := Scalar.muli arg17 c256_i32_413
  v591
def k0_off74 (i : grid0.Coords) (k0_t2 : Fin (k0_t2_loop i).trips) : Fin 3 → Nat :=
  let c0_414 : Index := 0#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c256_i32_413 : BitVec 32 := 256#32
  let v591 : BitVec 32 := Scalar.muli arg17 c256_i32_413
  let v592 : BitVec 32 := v591
  let v593 : Index := Scalar.indexCast v592
  let c0_415 : Index := 0#32
  ![0, v593.toNat, 0]
def k0_off75 (i : grid0.Coords) (k0_t2 : Fin (k0_t2_loop i).trips) : Fin 3 → Nat :=
  let c1_416 : Index := 1#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c256_i32_413 : BitVec 32 := 256#32
  let v591 : BitVec 32 := Scalar.muli arg17 c256_i32_413
  let v592 : BitVec 32 := v591
  let v596 : Index := Scalar.indexCast v592
  let c0_417 : Index := 0#32
  ![1, v596.toNat, 0]
def k0_off76 (i : grid0.Coords) (k0_t2 : Fin (k0_t2_loop i).trips) : Fin 3 → Nat :=
  let c2_418 : Index := 2#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c256_i32_413 : BitVec 32 := 256#32
  let v591 : BitVec 32 := Scalar.muli arg17 c256_i32_413
  let v592 : BitVec 32 := v591
  let v599 : Index := Scalar.indexCast v592
  let c0_419 : Index := 0#32
  ![2, v599.toNat, 0]
def k0_off77 (i : grid0.Coords) (k0_t2 : Fin (k0_t2_loop i).trips) : Fin 3 → Nat :=
  let c3_420 : Index := 3#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c256_i32_413 : BitVec 32 := 256#32
  let v591 : BitVec 32 := Scalar.muli arg17 c256_i32_413
  let v592 : BitVec 32 := v591
  let v602 : Index := Scalar.indexCast v592
  let c0_421 : Index := 0#32
  ![3, v602.toNat, 0]
def k0_off78 (i : grid0.Coords) (k0_t2 : Fin (k0_t2_loop i).trips) : Fin 3 → Nat :=
  let c4_422 : Index := 4#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c256_i32_413 : BitVec 32 := 256#32
  let v591 : BitVec 32 := Scalar.muli arg17 c256_i32_413
  let v592 : BitVec 32 := v591
  let v605 : Index := Scalar.indexCast v592
  let c0_423 : Index := 0#32
  ![4, v605.toNat, 0]
def k0_off79 (i : grid0.Coords) (k0_t2 : Fin (k0_t2_loop i).trips) : Fin 3 → Nat :=
  let c5_424 : Index := 5#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c256_i32_413 : BitVec 32 := 256#32
  let v591 : BitVec 32 := Scalar.muli arg17 c256_i32_413
  let v592 : BitVec 32 := v591
  let v608 : Index := Scalar.indexCast v592
  let c0_425 : Index := 0#32
  ![5, v608.toNat, 0]
def k0_off80 (i : grid0.Coords) (k0_t2 : Fin (k0_t2_loop i).trips) : Fin 3 → Nat :=
  let c6_426 : Index := 6#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c256_i32_413 : BitVec 32 := 256#32
  let v591 : BitVec 32 := Scalar.muli arg17 c256_i32_413
  let v592 : BitVec 32 := v591
  let v611 : Index := Scalar.indexCast v592
  let c0_427 : Index := 0#32
  ![6, v611.toNat, 0]
def k0_off81 (i : grid0.Coords) (k0_t2 : Fin (k0_t2_loop i).trips) : Fin 3 → Nat :=
  let c7_428 : Index := 7#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c256_i32_413 : BitVec 32 := 256#32
  let v591 : BitVec 32 := Scalar.muli arg17 c256_i32_413
  let v592 : BitVec 32 := v591
  let v614 : Index := Scalar.indexCast v592
  let c0_429 : Index := 0#32
  ![7, v614.toNat, 0]
def k0_off82 (i : grid0.Coords) (k0_t2 : Fin (k0_t2_loop i).trips) : Fin 3 → Nat :=
  let c0_430 : Index := 0#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c256_i32_413 : BitVec 32 := 256#32
  let v591 : BitVec 32 := Scalar.muli arg17 c256_i32_413
  let v592 : BitVec 32 := v591
  let v617 : Index := Scalar.indexCast v592
  let c0_431 : Index := 0#32
  ![0, v617.toNat, 0]
def k0_off83 (i : grid0.Coords) (k0_t2 : Fin (k0_t2_loop i).trips) : Fin 3 → Nat :=
  let c1_432 : Index := 1#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c256_i32_413 : BitVec 32 := 256#32
  let v591 : BitVec 32 := Scalar.muli arg17 c256_i32_413
  let v592 : BitVec 32 := v591
  let v620 : Index := Scalar.indexCast v592
  let c0_433 : Index := 0#32
  ![1, v620.toNat, 0]
def k0_off84 (i : grid0.Coords) (k0_t2 : Fin (k0_t2_loop i).trips) : Fin 3 → Nat :=
  let c2_434 : Index := 2#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c256_i32_413 : BitVec 32 := 256#32
  let v591 : BitVec 32 := Scalar.muli arg17 c256_i32_413
  let v592 : BitVec 32 := v591
  let v623 : Index := Scalar.indexCast v592
  let c0_435 : Index := 0#32
  ![2, v623.toNat, 0]
def k0_off85 (i : grid0.Coords) (k0_t2 : Fin (k0_t2_loop i).trips) : Fin 3 → Nat :=
  let c3_436 : Index := 3#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c256_i32_413 : BitVec 32 := 256#32
  let v591 : BitVec 32 := Scalar.muli arg17 c256_i32_413
  let v592 : BitVec 32 := v591
  let v626 : Index := Scalar.indexCast v592
  let c0_437 : Index := 0#32
  ![3, v626.toNat, 0]
def k0_off86 (i : grid0.Coords) (k0_t2 : Fin (k0_t2_loop i).trips) : Fin 3 → Nat :=
  let c4_438 : Index := 4#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c256_i32_413 : BitVec 32 := 256#32
  let v591 : BitVec 32 := Scalar.muli arg17 c256_i32_413
  let v592 : BitVec 32 := v591
  let v629 : Index := Scalar.indexCast v592
  let c0_439 : Index := 0#32
  ![4, v629.toNat, 0]
def k0_off87 (i : grid0.Coords) (k0_t2 : Fin (k0_t2_loop i).trips) : Fin 3 → Nat :=
  let c5_440 : Index := 5#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c256_i32_413 : BitVec 32 := 256#32
  let v591 : BitVec 32 := Scalar.muli arg17 c256_i32_413
  let v592 : BitVec 32 := v591
  let v632 : Index := Scalar.indexCast v592
  let c0_441 : Index := 0#32
  ![5, v632.toNat, 0]
def k0_off88 (i : grid0.Coords) (k0_t2 : Fin (k0_t2_loop i).trips) : Fin 3 → Nat :=
  let c6_442 : Index := 6#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c256_i32_413 : BitVec 32 := 256#32
  let v591 : BitVec 32 := Scalar.muli arg17 c256_i32_413
  let v592 : BitVec 32 := v591
  let v635 : Index := Scalar.indexCast v592
  let c0_443 : Index := 0#32
  ![6, v635.toNat, 0]
def k0_off89 (i : grid0.Coords) (k0_t2 : Fin (k0_t2_loop i).trips) : Fin 3 → Nat :=
  let c7_444 : Index := 7#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c256_i32_413 : BitVec 32 := 256#32
  let v591 : BitVec 32 := Scalar.muli arg17 c256_i32_413
  let v592 : BitVec 32 := v591
  let v638 : Index := Scalar.indexCast v592
  let c0_445 : Index := 0#32
  ![7, v638.toNat, 0]
def k0_off90 (i : grid0.Coords) (k0_t2 : Fin (k0_t2_loop i).trips) : Fin 4 → Nat :=
  let c0_463 : Index := 0#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_462 : BitVec 32 := 0#32
  let v657 : BitVec 32 := Scalar.addi arg17 c0_i32_462
  let v658 : Index := Scalar.indexCast v657
  let c0_464 : Index := 0#32
  let c0_465 : Index := 0#32
  ![0, v658.toNat, 0, 0]
def k0_off91 (i : grid0.Coords) (k0_t2 : Fin (k0_t2_loop i).trips) : Fin 4 → Nat :=
  let c1_471 : Index := 1#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_470 : BitVec 32 := 0#32
  let v673 : BitVec 32 := Scalar.addi arg17 c0_i32_470
  let v674 : Index := Scalar.indexCast v673
  let c0_472 : Index := 0#32
  let c0_473 : Index := 0#32
  ![1, v674.toNat, 0, 0]
def k0_off92 (i : grid0.Coords) (k0_t2 : Fin (k0_t2_loop i).trips) : Fin 4 → Nat :=
  let c2_479 : Index := 2#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_478 : BitVec 32 := 0#32
  let v689 : BitVec 32 := Scalar.addi arg17 c0_i32_478
  let v690 : Index := Scalar.indexCast v689
  let c0_480 : Index := 0#32
  let c0_481 : Index := 0#32
  ![2, v690.toNat, 0, 0]
def k0_off93 (i : grid0.Coords) (k0_t2 : Fin (k0_t2_loop i).trips) : Fin 4 → Nat :=
  let c3_487 : Index := 3#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_486 : BitVec 32 := 0#32
  let v705 : BitVec 32 := Scalar.addi arg17 c0_i32_486
  let v706 : Index := Scalar.indexCast v705
  let c0_488 : Index := 0#32
  let c0_489 : Index := 0#32
  ![3, v706.toNat, 0, 0]
def k0_off94 (i : grid0.Coords) (k0_t2 : Fin (k0_t2_loop i).trips) : Fin 4 → Nat :=
  let c4_495 : Index := 4#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_494 : BitVec 32 := 0#32
  let v721 : BitVec 32 := Scalar.addi arg17 c0_i32_494
  let v722 : Index := Scalar.indexCast v721
  let c0_496 : Index := 0#32
  let c0_497 : Index := 0#32
  ![4, v722.toNat, 0, 0]
def k0_off95 (i : grid0.Coords) (k0_t2 : Fin (k0_t2_loop i).trips) : Fin 4 → Nat :=
  let c5_503 : Index := 5#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_502 : BitVec 32 := 0#32
  let v737 : BitVec 32 := Scalar.addi arg17 c0_i32_502
  let v738 : Index := Scalar.indexCast v737
  let c0_504 : Index := 0#32
  let c0_505 : Index := 0#32
  ![5, v738.toNat, 0, 0]
def k0_off96 (i : grid0.Coords) (k0_t2 : Fin (k0_t2_loop i).trips) : Fin 4 → Nat :=
  let c6_511 : Index := 6#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_510 : BitVec 32 := 0#32
  let v753 : BitVec 32 := Scalar.addi arg17 c0_i32_510
  let v754 : Index := Scalar.indexCast v753
  let c0_512 : Index := 0#32
  let c0_513 : Index := 0#32
  ![6, v754.toNat, 0, 0]
def k0_off97 (i : grid0.Coords) (k0_t2 : Fin (k0_t2_loop i).trips) : Fin 4 → Nat :=
  let c7_519 : Index := 7#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_518 : BitVec 32 := 0#32
  let v769 : BitVec 32 := Scalar.addi arg17 c0_i32_518
  let v770 : Index := Scalar.indexCast v769
  let c0_520 : Index := 0#32
  let c0_521 : Index := 0#32
  ![7, v770.toNat, 0, 0]
def k0_off98 (i : grid0.Coords) (k0_t2 : Fin (k0_t2_loop i).trips) : Fin 4 → Nat :=
  let c0_528 : Index := 0#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_527 : BitVec 32 := 0#32
  let v786 : BitVec 32 := Scalar.addi arg17 c0_i32_527
  let v787 : Index := Scalar.indexCast v786
  let c0_529 : Index := 0#32
  let c0_530 : Index := 0#32
  ![0, v787.toNat, 0, 0]
def k0_off99 (i : grid0.Coords) (k0_t2 : Fin (k0_t2_loop i).trips) : Fin 4 → Nat :=
  let c1_538 : Index := 1#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_537 : BitVec 32 := 0#32
  let v800 : BitVec 32 := Scalar.addi arg17 c0_i32_537
  let v801 : Index := Scalar.indexCast v800
  let c0_539 : Index := 0#32
  let c0_540 : Index := 0#32
  ![1, v801.toNat, 0, 0]
def k0_off100 (i : grid0.Coords) (k0_t2 : Fin (k0_t2_loop i).trips) : Fin 4 → Nat :=
  let c2_548 : Index := 2#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_547 : BitVec 32 := 0#32
  let v814 : BitVec 32 := Scalar.addi arg17 c0_i32_547
  let v815 : Index := Scalar.indexCast v814
  let c0_549 : Index := 0#32
  let c0_550 : Index := 0#32
  ![2, v815.toNat, 0, 0]
def k0_off101 (i : grid0.Coords) (k0_t2 : Fin (k0_t2_loop i).trips) : Fin 4 → Nat :=
  let c3_558 : Index := 3#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_557 : BitVec 32 := 0#32
  let v828 : BitVec 32 := Scalar.addi arg17 c0_i32_557
  let v829 : Index := Scalar.indexCast v828
  let c0_559 : Index := 0#32
  let c0_560 : Index := 0#32
  ![3, v829.toNat, 0, 0]
def k0_off102 (i : grid0.Coords) (k0_t2 : Fin (k0_t2_loop i).trips) : Fin 4 → Nat :=
  let c4_568 : Index := 4#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_567 : BitVec 32 := 0#32
  let v842 : BitVec 32 := Scalar.addi arg17 c0_i32_567
  let v843 : Index := Scalar.indexCast v842
  let c0_569 : Index := 0#32
  let c0_570 : Index := 0#32
  ![4, v843.toNat, 0, 0]
def k0_off103 (i : grid0.Coords) (k0_t2 : Fin (k0_t2_loop i).trips) : Fin 4 → Nat :=
  let c5_578 : Index := 5#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_577 : BitVec 32 := 0#32
  let v856 : BitVec 32 := Scalar.addi arg17 c0_i32_577
  let v857 : Index := Scalar.indexCast v856
  let c0_579 : Index := 0#32
  let c0_580 : Index := 0#32
  ![5, v857.toNat, 0, 0]
def k0_off104 (i : grid0.Coords) (k0_t2 : Fin (k0_t2_loop i).trips) : Fin 4 → Nat :=
  let c6_588 : Index := 6#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_587 : BitVec 32 := 0#32
  let v870 : BitVec 32 := Scalar.addi arg17 c0_i32_587
  let v871 : Index := Scalar.indexCast v870
  let c0_589 : Index := 0#32
  let c0_590 : Index := 0#32
  ![6, v871.toNat, 0, 0]
def k0_off105 (i : grid0.Coords) (k0_t2 : Fin (k0_t2_loop i).trips) : Fin 4 → Nat :=
  let c7_598 : Index := 7#32
  let arg1 : BitVec 32 := BitVec.ofNat 32 (i 1).val
  let c1_i32_297 : BitVec 32 := 1#32
  let v432 : BitVec 32 := Scalar.addi arg1 c1_i32_297
  let c1_i32_298 : BitVec 32 := 1#32
  let v433 : BitVec 32 := Scalar.addi arg1 c1_i32_298
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v434 : BitVec 32 := Scalar.addi v433 v431
  let v435 : BitVec 32 := Scalar.subi v434 v432
  let c1_i32_299 : BitVec 32 := 1#32
  let v437 : BitVec 32 := Scalar.divsi v435 c1_i32_299
  let v438 : BitVec 32 := Scalar.muli v437 c1_i32_299
  let v439 : BitVec 32 := Scalar.addi v432 v438
  let c1_i32_301 : BitVec 32 := 1#32
  let arg17 : BitVec 32 := Scf.iv v439 c1_i32_301 k0_t2
  let c0_i32_597 : BitVec 32 := 0#32
  let v884 : BitVec 32 := Scalar.addi arg17 c0_i32_597
  let v885 : Index := Scalar.indexCast v884
  let c0_599 : Index := 0#32
  let c0_600 : Index := 0#32
  ![7, v885.toNat, 0, 0]
@[reducible] def k0_t3_loop (i : grid0.Coords) : Scf.Loop 32 :=
  let c0_i32_310 : BitVec 32 := 0#32
  let c15_i32_302 : BitVec 32 := 15#32
  let arg1 : BitVec 32 := BitVec.ofNat 32 (i 1).val
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_312 : BitVec 32 := 1#32
  ⟨c0_i32_310, v464, c1_i32_312⟩
def k0_cond6 (i : grid0.Coords) : BitVec 1 :=
  let arg1 : BitVec 32 := BitVec.ofNat 32 (i 1).val
  let c0_i32_413 : BitVec 32 := 0#32
  let v592 : BitVec 1 := Scalar.cmpi .eq arg1 c0_i32_413
  let v593 : BitVec 32 := Scalar.extui v592
  let c0_i32_414 : BitVec 32 := 0#32
  let v594 : BitVec 1 := Scalar.cmpi .ne v593 c0_i32_414
  v594

def k0_mult23 (i : grid0.Coords) (k0_t3 : Fin (k0_t3_loop i).trips) : BitVec 32 :=
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c0_i32_728 : BitVec 32 := 0#32
  let v1069 : BitVec 32 := Scalar.addi v591 c0_i32_728
  let c256_i32_729 : BitVec 32 := 256#32
  let v1070 : BitVec 32 := Scalar.muli v1069 c256_i32_729
  v1070
def k0_off106 (i : grid0.Coords) (k0_t3 : Fin (k0_t3_loop i).trips) (c0_i32_728 : BitVec 32) : Fin 1 → Nat :=
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v1069 : BitVec 32 := Scalar.addi v591 c0_i32_728
  ![v1069.toNat]
def k0_off107 (i : grid0.Coords) (k0_t3 : Fin (k0_t3_loop i).trips) (c0_i32_728 : BitVec 32) : Fin 3 → Nat :=
  let c0_i32_730 : BitVec 32 := 0#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v1069 : BitVec 32 := Scalar.addi v591 c0_i32_728
  let c256_i32_729 : BitVec 32 := 256#32
  let v1070 : BitVec 32 := Scalar.muli v1069 c256_i32_729
  let v1071 : BitVec 32 := v1070
  let c0_i32_731 : BitVec 32 := 0#32
  ![0, v1071.toNat, 0]
def k0_off108 (i : grid0.Coords) (k0_t3 : Fin (k0_t3_loop i).trips) (c0_i32_728 : BitVec 32) : Fin 3 → Nat :=
  let c0_i32_734 : BitVec 32 := 0#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v1069 : BitVec 32 := Scalar.addi v591 c0_i32_728
  let c256_i32_729 : BitVec 32 := 256#32
  let v1070 : BitVec 32 := Scalar.muli v1069 c256_i32_729
  let v1071 : BitVec 32 := v1070
  let c0_i32_735 : BitVec 32 := 0#32
  ![0, v1071.toNat, 0]
def k0_mult24 (i : grid0.Coords) (k0_t3 : Fin (k0_t3_loop i).trips) : BitVec 32 :=
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c1_i32_738 : BitVec 32 := 1#32
  let v1080 : BitVec 32 := Scalar.addi v591 c1_i32_738
  let c256_i32_739 : BitVec 32 := 256#32
  let v1081 : BitVec 32 := Scalar.muli v1080 c256_i32_739
  v1081
def k0_mult25 (i : grid0.Coords) (k0_t3 : Fin (k0_t3_loop i).trips) : BitVec 32 :=
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c256_i32_415 : BitVec 32 := 256#32
  let v595 : BitVec 32 := Scalar.muli v591 c256_i32_415
  v595
def k0_off109 (i : grid0.Coords) (k0_t3 : Fin (k0_t3_loop i).trips) : Fin 3 → Nat :=
  let c0_416 : Index := 0#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v597 : Index := Scalar.indexCast v596
  let c0_417 : Index := 0#32
  ![0, v597.toNat, 0]
def k0_off110 (i : grid0.Coords) (k0_t3 : Fin (k0_t3_loop i).trips) : Fin 3 → Nat :=
  let c1_418 : Index := 1#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v600 : Index := Scalar.indexCast v596
  let c0_419 : Index := 0#32
  ![1, v600.toNat, 0]
def k0_off111 (i : grid0.Coords) (k0_t3 : Fin (k0_t3_loop i).trips) : Fin 3 → Nat :=
  let c2_420 : Index := 2#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v603 : Index := Scalar.indexCast v596
  let c0_421 : Index := 0#32
  ![2, v603.toNat, 0]
def k0_off112 (i : grid0.Coords) (k0_t3 : Fin (k0_t3_loop i).trips) : Fin 3 → Nat :=
  let c3_422 : Index := 3#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v606 : Index := Scalar.indexCast v596
  let c0_423 : Index := 0#32
  ![3, v606.toNat, 0]
def k0_off113 (i : grid0.Coords) (k0_t3 : Fin (k0_t3_loop i).trips) : Fin 3 → Nat :=
  let c4_424 : Index := 4#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v609 : Index := Scalar.indexCast v596
  let c0_425 : Index := 0#32
  ![4, v609.toNat, 0]
def k0_off114 (i : grid0.Coords) (k0_t3 : Fin (k0_t3_loop i).trips) : Fin 3 → Nat :=
  let c5_426 : Index := 5#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v612 : Index := Scalar.indexCast v596
  let c0_427 : Index := 0#32
  ![5, v612.toNat, 0]
def k0_off115 (i : grid0.Coords) (k0_t3 : Fin (k0_t3_loop i).trips) : Fin 3 → Nat :=
  let c6_428 : Index := 6#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v615 : Index := Scalar.indexCast v596
  let c0_429 : Index := 0#32
  ![6, v615.toNat, 0]
def k0_off116 (i : grid0.Coords) (k0_t3 : Fin (k0_t3_loop i).trips) : Fin 3 → Nat :=
  let c7_430 : Index := 7#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v618 : Index := Scalar.indexCast v596
  let c0_431 : Index := 0#32
  ![7, v618.toNat, 0]
def k0_off117 (i : grid0.Coords) (k0_t3 : Fin (k0_t3_loop i).trips) : Fin 3 → Nat :=
  let c0_432 : Index := 0#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v621 : Index := Scalar.indexCast v596
  let c0_433 : Index := 0#32
  ![0, v621.toNat, 0]
def k0_off118 (i : grid0.Coords) (k0_t3 : Fin (k0_t3_loop i).trips) : Fin 3 → Nat :=
  let c1_434 : Index := 1#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v624 : Index := Scalar.indexCast v596
  let c0_435 : Index := 0#32
  ![1, v624.toNat, 0]
def k0_off119 (i : grid0.Coords) (k0_t3 : Fin (k0_t3_loop i).trips) : Fin 3 → Nat :=
  let c2_436 : Index := 2#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v627 : Index := Scalar.indexCast v596
  let c0_437 : Index := 0#32
  ![2, v627.toNat, 0]
def k0_off120 (i : grid0.Coords) (k0_t3 : Fin (k0_t3_loop i).trips) : Fin 3 → Nat :=
  let c3_438 : Index := 3#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v630 : Index := Scalar.indexCast v596
  let c0_439 : Index := 0#32
  ![3, v630.toNat, 0]
def k0_off121 (i : grid0.Coords) (k0_t3 : Fin (k0_t3_loop i).trips) : Fin 3 → Nat :=
  let c4_440 : Index := 4#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v633 : Index := Scalar.indexCast v596
  let c0_441 : Index := 0#32
  ![4, v633.toNat, 0]
def k0_off122 (i : grid0.Coords) (k0_t3 : Fin (k0_t3_loop i).trips) : Fin 3 → Nat :=
  let c5_442 : Index := 5#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v636 : Index := Scalar.indexCast v596
  let c0_443 : Index := 0#32
  ![5, v636.toNat, 0]
def k0_off123 (i : grid0.Coords) (k0_t3 : Fin (k0_t3_loop i).trips) : Fin 3 → Nat :=
  let c6_444 : Index := 6#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v639 : Index := Scalar.indexCast v596
  let c0_445 : Index := 0#32
  ![6, v639.toNat, 0]
def k0_off124 (i : grid0.Coords) (k0_t3 : Fin (k0_t3_loop i).trips) : Fin 3 → Nat :=
  let c7_446 : Index := 7#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v642 : Index := Scalar.indexCast v596
  let c0_447 : Index := 0#32
  ![7, v642.toNat, 0]
def k0_off125 (i : grid0.Coords) (k0_t3 : Fin (k0_t3_loop i).trips) (c0_i32_464 : BitVec 32) : Fin 4 → Nat :=
  let c0_465 : Index := 0#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v661 : BitVec 32 := Scalar.addi v591 c0_i32_464
  let v662 : Index := Scalar.indexCast v661
  let c0_466 : Index := 0#32
  let c0_467 : Index := 0#32
  ![0, v662.toNat, 0, 0]
def k0_off126 (i : grid0.Coords) (k0_t3 : Fin (k0_t3_loop i).trips) (c0_i32_480 : BitVec 32) : Fin 4 → Nat :=
  let c1_481 : Index := 1#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v687 : BitVec 32 := Scalar.addi v591 c0_i32_480
  let v688 : Index := Scalar.indexCast v687
  let c0_482 : Index := 0#32
  let c0_483 : Index := 0#32
  ![1, v688.toNat, 0, 0]
def k0_off127 (i : grid0.Coords) (k0_t3 : Fin (k0_t3_loop i).trips) (c0_i32_496 : BitVec 32) : Fin 4 → Nat :=
  let c2_497 : Index := 2#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v713 : BitVec 32 := Scalar.addi v591 c0_i32_496
  let v714 : Index := Scalar.indexCast v713
  let c0_498 : Index := 0#32
  let c0_499 : Index := 0#32
  ![2, v714.toNat, 0, 0]
def k0_off128 (i : grid0.Coords) (k0_t3 : Fin (k0_t3_loop i).trips) (c0_i32_512 : BitVec 32) : Fin 4 → Nat :=
  let c3_513 : Index := 3#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v739 : BitVec 32 := Scalar.addi v591 c0_i32_512
  let v740 : Index := Scalar.indexCast v739
  let c0_514 : Index := 0#32
  let c0_515 : Index := 0#32
  ![3, v740.toNat, 0, 0]
def k0_off129 (i : grid0.Coords) (k0_t3 : Fin (k0_t3_loop i).trips) (c0_i32_528 : BitVec 32) : Fin 4 → Nat :=
  let c4_529 : Index := 4#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v765 : BitVec 32 := Scalar.addi v591 c0_i32_528
  let v766 : Index := Scalar.indexCast v765
  let c0_530 : Index := 0#32
  let c0_531 : Index := 0#32
  ![4, v766.toNat, 0, 0]
def k0_off130 (i : grid0.Coords) (k0_t3 : Fin (k0_t3_loop i).trips) (c0_i32_544 : BitVec 32) : Fin 4 → Nat :=
  let c5_545 : Index := 5#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v791 : BitVec 32 := Scalar.addi v591 c0_i32_544
  let v792 : Index := Scalar.indexCast v791
  let c0_546 : Index := 0#32
  let c0_547 : Index := 0#32
  ![5, v792.toNat, 0, 0]
def k0_off131 (i : grid0.Coords) (k0_t3 : Fin (k0_t3_loop i).trips) (c0_i32_560 : BitVec 32) : Fin 4 → Nat :=
  let c6_561 : Index := 6#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v817 : BitVec 32 := Scalar.addi v591 c0_i32_560
  let v818 : Index := Scalar.indexCast v817
  let c0_562 : Index := 0#32
  let c0_563 : Index := 0#32
  ![6, v818.toNat, 0, 0]
def k0_off132 (i : grid0.Coords) (k0_t3 : Fin (k0_t3_loop i).trips) (c0_i32_576 : BitVec 32) : Fin 4 → Nat :=
  let c7_577 : Index := 7#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v843 : BitVec 32 := Scalar.addi v591 c0_i32_576
  let v844 : Index := Scalar.indexCast v843
  let c0_578 : Index := 0#32
  let c0_579 : Index := 0#32
  ![7, v844.toNat, 0, 0]
def k0_off133 (i : grid0.Coords) (k0_t3 : Fin (k0_t3_loop i).trips) (c0_i32_593 : BitVec 32) : Fin 4 → Nat :=
  let c0_594 : Index := 0#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v870 : BitVec 32 := Scalar.addi v591 c0_i32_593
  let v871 : Index := Scalar.indexCast v870
  let c0_595 : Index := 0#32
  let c0_596 : Index := 0#32
  ![0, v871.toNat, 0, 0]
def k0_off134 (i : grid0.Coords) (k0_t3 : Fin (k0_t3_loop i).trips) (c0_i32_610 : BitVec 32) : Fin 4 → Nat :=
  let c1_611 : Index := 1#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v895 : BitVec 32 := Scalar.addi v591 c0_i32_610
  let v896 : Index := Scalar.indexCast v895
  let c0_612 : Index := 0#32
  let c0_613 : Index := 0#32
  ![1, v896.toNat, 0, 0]
def k0_off135 (i : grid0.Coords) (k0_t3 : Fin (k0_t3_loop i).trips) (c0_i32_627 : BitVec 32) : Fin 4 → Nat :=
  let c2_628 : Index := 2#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v920 : BitVec 32 := Scalar.addi v591 c0_i32_627
  let v921 : Index := Scalar.indexCast v920
  let c0_629 : Index := 0#32
  let c0_630 : Index := 0#32
  ![2, v921.toNat, 0, 0]
def k0_off136 (i : grid0.Coords) (k0_t3 : Fin (k0_t3_loop i).trips) (c0_i32_644 : BitVec 32) : Fin 4 → Nat :=
  let c3_645 : Index := 3#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v945 : BitVec 32 := Scalar.addi v591 c0_i32_644
  let v946 : Index := Scalar.indexCast v945
  let c0_646 : Index := 0#32
  let c0_647 : Index := 0#32
  ![3, v946.toNat, 0, 0]
def k0_off137 (i : grid0.Coords) (k0_t3 : Fin (k0_t3_loop i).trips) (c0_i32_661 : BitVec 32) : Fin 4 → Nat :=
  let c4_662 : Index := 4#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v970 : BitVec 32 := Scalar.addi v591 c0_i32_661
  let v971 : Index := Scalar.indexCast v970
  let c0_663 : Index := 0#32
  let c0_664 : Index := 0#32
  ![4, v971.toNat, 0, 0]
def k0_off138 (i : grid0.Coords) (k0_t3 : Fin (k0_t3_loop i).trips) (c0_i32_678 : BitVec 32) : Fin 4 → Nat :=
  let c5_679 : Index := 5#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v995 : BitVec 32 := Scalar.addi v591 c0_i32_678
  let v996 : Index := Scalar.indexCast v995
  let c0_680 : Index := 0#32
  let c0_681 : Index := 0#32
  ![5, v996.toNat, 0, 0]
def k0_off139 (i : grid0.Coords) (k0_t3 : Fin (k0_t3_loop i).trips) (c0_i32_695 : BitVec 32) : Fin 4 → Nat :=
  let c6_696 : Index := 6#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v1020 : BitVec 32 := Scalar.addi v591 c0_i32_695
  let v1021 : Index := Scalar.indexCast v1020
  let c0_697 : Index := 0#32
  let c0_698 : Index := 0#32
  ![6, v1021.toNat, 0, 0]
def k0_off140 (i : grid0.Coords) (k0_t3 : Fin (k0_t3_loop i).trips) (c0_i32_712 : BitVec 32) : Fin 4 → Nat :=
  let c7_713 : Index := 7#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c1_i32_312 : BitVec 32 := 1#32
  let arg17 : BitVec 32 := Scf.iv c0_i32_310 c1_i32_312 k0_t3
  let v590 : BitVec 32 := Scalar.muli c2_i32_412 arg17
  let v591 : BitVec 32 := Scalar.addi v589 v590
  let v1045 : BitVec 32 := Scalar.addi v591 c0_i32_712
  let v1046 : Index := Scalar.indexCast v1045
  let c0_714 : Index := 0#32
  let c0_715 : Index := 0#32
  ![7, v1046.toNat, 0, 0]
@[reducible] def k0_t4_loop (i : grid0.Coords) : Scf.Loop 32 :=
  let c0_i32_310 : BitVec 32 := 0#32
  let c15_i32_302 : BitVec 32 := 15#32
  let arg1 : BitVec 32 := BitVec.ofNat 32 (i 1).val
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let v461 : BitVec 32 := Scalar.addi c0_i32_310 v460
  let c1_i32_313 : BitVec 32 := 1#32
  ⟨v464, v461, c1_i32_313⟩
def k0_cond7 (i : grid0.Coords) : BitVec 1 :=
  let arg1 : BitVec 32 := BitVec.ofNat 32 (i 1).val
  let c0_i32_413 : BitVec 32 := 0#32
  let v592 : BitVec 1 := Scalar.cmpi .eq arg1 c0_i32_413
  let v593 : BitVec 32 := Scalar.extui v592
  let c0_i32_414 : BitVec 32 := 0#32
  let v594 : BitVec 1 := Scalar.cmpi .ne v593 c0_i32_414
  v594

def k0_mult26 (i : grid0.Coords) (k0_t4 : Fin (k0_t4_loop i).trips) : BitVec 32 :=
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c0_i32_728 : BitVec 32 := 0#32
  let v1069 : BitVec 32 := Scalar.addi v591 c0_i32_728
  let c256_i32_729 : BitVec 32 := 256#32
  let v1070 : BitVec 32 := Scalar.muli v1069 c256_i32_729
  v1070
def k0_off141 (i : grid0.Coords) (k0_t4 : Fin (k0_t4_loop i).trips) (c0_i32_728 : BitVec 32) : Fin 1 → Nat :=
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v1069 : BitVec 32 := Scalar.addi v591 c0_i32_728
  ![v1069.toNat]
def k0_off142 (i : grid0.Coords) (k0_t4 : Fin (k0_t4_loop i).trips) (c0_i32_728 : BitVec 32) : Fin 3 → Nat :=
  let c0_i32_730 : BitVec 32 := 0#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v1069 : BitVec 32 := Scalar.addi v591 c0_i32_728
  let c256_i32_729 : BitVec 32 := 256#32
  let v1070 : BitVec 32 := Scalar.muli v1069 c256_i32_729
  let v1071 : BitVec 32 := v1070
  let c0_i32_731 : BitVec 32 := 0#32
  ![0, v1071.toNat, 0]
def k0_off143 (i : grid0.Coords) (k0_t4 : Fin (k0_t4_loop i).trips) (c0_i32_728 : BitVec 32) : Fin 3 → Nat :=
  let c0_i32_734 : BitVec 32 := 0#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v1069 : BitVec 32 := Scalar.addi v591 c0_i32_728
  let c256_i32_729 : BitVec 32 := 256#32
  let v1070 : BitVec 32 := Scalar.muli v1069 c256_i32_729
  let v1071 : BitVec 32 := v1070
  let c0_i32_735 : BitVec 32 := 0#32
  ![0, v1071.toNat, 0]
def k0_mult27 (i : grid0.Coords) (k0_t4 : Fin (k0_t4_loop i).trips) : BitVec 32 :=
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c1_i32_738 : BitVec 32 := 1#32
  let v1080 : BitVec 32 := Scalar.addi v591 c1_i32_738
  let c256_i32_739 : BitVec 32 := 256#32
  let v1081 : BitVec 32 := Scalar.muli v1080 c256_i32_739
  v1081
def k0_mult28 (i : grid0.Coords) (k0_t4 : Fin (k0_t4_loop i).trips) : BitVec 32 :=
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c256_i32_415 : BitVec 32 := 256#32
  let v595 : BitVec 32 := Scalar.muli v591 c256_i32_415
  v595
def k0_off144 (i : grid0.Coords) (k0_t4 : Fin (k0_t4_loop i).trips) : Fin 3 → Nat :=
  let c0_416 : Index := 0#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v597 : Index := Scalar.indexCast v596
  let c0_417 : Index := 0#32
  ![0, v597.toNat, 0]
def k0_off145 (i : grid0.Coords) (k0_t4 : Fin (k0_t4_loop i).trips) : Fin 3 → Nat :=
  let c1_418 : Index := 1#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v600 : Index := Scalar.indexCast v596
  let c0_419 : Index := 0#32
  ![1, v600.toNat, 0]
def k0_off146 (i : grid0.Coords) (k0_t4 : Fin (k0_t4_loop i).trips) : Fin 3 → Nat :=
  let c2_420 : Index := 2#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v603 : Index := Scalar.indexCast v596
  let c0_421 : Index := 0#32
  ![2, v603.toNat, 0]
def k0_off147 (i : grid0.Coords) (k0_t4 : Fin (k0_t4_loop i).trips) : Fin 3 → Nat :=
  let c3_422 : Index := 3#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v606 : Index := Scalar.indexCast v596
  let c0_423 : Index := 0#32
  ![3, v606.toNat, 0]
def k0_off148 (i : grid0.Coords) (k0_t4 : Fin (k0_t4_loop i).trips) : Fin 3 → Nat :=
  let c4_424 : Index := 4#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v609 : Index := Scalar.indexCast v596
  let c0_425 : Index := 0#32
  ![4, v609.toNat, 0]
def k0_off149 (i : grid0.Coords) (k0_t4 : Fin (k0_t4_loop i).trips) : Fin 3 → Nat :=
  let c5_426 : Index := 5#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v612 : Index := Scalar.indexCast v596
  let c0_427 : Index := 0#32
  ![5, v612.toNat, 0]
def k0_off150 (i : grid0.Coords) (k0_t4 : Fin (k0_t4_loop i).trips) : Fin 3 → Nat :=
  let c6_428 : Index := 6#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v615 : Index := Scalar.indexCast v596
  let c0_429 : Index := 0#32
  ![6, v615.toNat, 0]
def k0_off151 (i : grid0.Coords) (k0_t4 : Fin (k0_t4_loop i).trips) : Fin 3 → Nat :=
  let c7_430 : Index := 7#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v618 : Index := Scalar.indexCast v596
  let c0_431 : Index := 0#32
  ![7, v618.toNat, 0]
def k0_off152 (i : grid0.Coords) (k0_t4 : Fin (k0_t4_loop i).trips) : Fin 3 → Nat :=
  let c0_432 : Index := 0#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v621 : Index := Scalar.indexCast v596
  let c0_433 : Index := 0#32
  ![0, v621.toNat, 0]
def k0_off153 (i : grid0.Coords) (k0_t4 : Fin (k0_t4_loop i).trips) : Fin 3 → Nat :=
  let c1_434 : Index := 1#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v624 : Index := Scalar.indexCast v596
  let c0_435 : Index := 0#32
  ![1, v624.toNat, 0]
def k0_off154 (i : grid0.Coords) (k0_t4 : Fin (k0_t4_loop i).trips) : Fin 3 → Nat :=
  let c2_436 : Index := 2#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v627 : Index := Scalar.indexCast v596
  let c0_437 : Index := 0#32
  ![2, v627.toNat, 0]
def k0_off155 (i : grid0.Coords) (k0_t4 : Fin (k0_t4_loop i).trips) : Fin 3 → Nat :=
  let c3_438 : Index := 3#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v630 : Index := Scalar.indexCast v596
  let c0_439 : Index := 0#32
  ![3, v630.toNat, 0]
def k0_off156 (i : grid0.Coords) (k0_t4 : Fin (k0_t4_loop i).trips) : Fin 3 → Nat :=
  let c4_440 : Index := 4#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v633 : Index := Scalar.indexCast v596
  let c0_441 : Index := 0#32
  ![4, v633.toNat, 0]
def k0_off157 (i : grid0.Coords) (k0_t4 : Fin (k0_t4_loop i).trips) : Fin 3 → Nat :=
  let c5_442 : Index := 5#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v636 : Index := Scalar.indexCast v596
  let c0_443 : Index := 0#32
  ![5, v636.toNat, 0]
def k0_off158 (i : grid0.Coords) (k0_t4 : Fin (k0_t4_loop i).trips) : Fin 3 → Nat :=
  let c6_444 : Index := 6#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v639 : Index := Scalar.indexCast v596
  let c0_445 : Index := 0#32
  ![6, v639.toNat, 0]
def k0_off159 (i : grid0.Coords) (k0_t4 : Fin (k0_t4_loop i).trips) : Fin 3 → Nat :=
  let c7_446 : Index := 7#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let c256_i32_415 : BitVec 32 := 256#32
  let v595 : BitVec 32 := Scalar.muli v591 c256_i32_415
  let v596 : BitVec 32 := v595
  let v642 : Index := Scalar.indexCast v596
  let c0_447 : Index := 0#32
  ![7, v642.toNat, 0]
def k0_off160 (i : grid0.Coords) (k0_t4 : Fin (k0_t4_loop i).trips) (c0_i32_464 : BitVec 32) : Fin 4 → Nat :=
  let c0_465 : Index := 0#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v661 : BitVec 32 := Scalar.addi v591 c0_i32_464
  let v662 : Index := Scalar.indexCast v661
  let c0_466 : Index := 0#32
  let c0_467 : Index := 0#32
  ![0, v662.toNat, 0, 0]
def k0_off161 (i : grid0.Coords) (k0_t4 : Fin (k0_t4_loop i).trips) (c0_i32_480 : BitVec 32) : Fin 4 → Nat :=
  let c1_481 : Index := 1#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v687 : BitVec 32 := Scalar.addi v591 c0_i32_480
  let v688 : Index := Scalar.indexCast v687
  let c0_482 : Index := 0#32
  let c0_483 : Index := 0#32
  ![1, v688.toNat, 0, 0]
def k0_off162 (i : grid0.Coords) (k0_t4 : Fin (k0_t4_loop i).trips) (c0_i32_496 : BitVec 32) : Fin 4 → Nat :=
  let c2_497 : Index := 2#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v713 : BitVec 32 := Scalar.addi v591 c0_i32_496
  let v714 : Index := Scalar.indexCast v713
  let c0_498 : Index := 0#32
  let c0_499 : Index := 0#32
  ![2, v714.toNat, 0, 0]
def k0_off163 (i : grid0.Coords) (k0_t4 : Fin (k0_t4_loop i).trips) (c0_i32_512 : BitVec 32) : Fin 4 → Nat :=
  let c3_513 : Index := 3#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v739 : BitVec 32 := Scalar.addi v591 c0_i32_512
  let v740 : Index := Scalar.indexCast v739
  let c0_514 : Index := 0#32
  let c0_515 : Index := 0#32
  ![3, v740.toNat, 0, 0]
def k0_off164 (i : grid0.Coords) (k0_t4 : Fin (k0_t4_loop i).trips) (c0_i32_528 : BitVec 32) : Fin 4 → Nat :=
  let c4_529 : Index := 4#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v765 : BitVec 32 := Scalar.addi v591 c0_i32_528
  let v766 : Index := Scalar.indexCast v765
  let c0_530 : Index := 0#32
  let c0_531 : Index := 0#32
  ![4, v766.toNat, 0, 0]
def k0_off165 (i : grid0.Coords) (k0_t4 : Fin (k0_t4_loop i).trips) (c0_i32_544 : BitVec 32) : Fin 4 → Nat :=
  let c5_545 : Index := 5#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v791 : BitVec 32 := Scalar.addi v591 c0_i32_544
  let v792 : Index := Scalar.indexCast v791
  let c0_546 : Index := 0#32
  let c0_547 : Index := 0#32
  ![5, v792.toNat, 0, 0]
def k0_off166 (i : grid0.Coords) (k0_t4 : Fin (k0_t4_loop i).trips) (c0_i32_560 : BitVec 32) : Fin 4 → Nat :=
  let c6_561 : Index := 6#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v817 : BitVec 32 := Scalar.addi v591 c0_i32_560
  let v818 : Index := Scalar.indexCast v817
  let c0_562 : Index := 0#32
  let c0_563 : Index := 0#32
  ![6, v818.toNat, 0, 0]
def k0_off167 (i : grid0.Coords) (k0_t4 : Fin (k0_t4_loop i).trips) (c0_i32_576 : BitVec 32) : Fin 4 → Nat :=
  let c7_577 : Index := 7#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v843 : BitVec 32 := Scalar.addi v591 c0_i32_576
  let v844 : Index := Scalar.indexCast v843
  let c0_578 : Index := 0#32
  let c0_579 : Index := 0#32
  ![7, v844.toNat, 0, 0]
def k0_off168 (i : grid0.Coords) (k0_t4 : Fin (k0_t4_loop i).trips) (c0_i32_593 : BitVec 32) : Fin 4 → Nat :=
  let c0_594 : Index := 0#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v870 : BitVec 32 := Scalar.addi v591 c0_i32_593
  let v871 : Index := Scalar.indexCast v870
  let c0_595 : Index := 0#32
  let c0_596 : Index := 0#32
  ![0, v871.toNat, 0, 0]
def k0_off169 (i : grid0.Coords) (k0_t4 : Fin (k0_t4_loop i).trips) (c0_i32_610 : BitVec 32) : Fin 4 → Nat :=
  let c1_611 : Index := 1#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v895 : BitVec 32 := Scalar.addi v591 c0_i32_610
  let v896 : Index := Scalar.indexCast v895
  let c0_612 : Index := 0#32
  let c0_613 : Index := 0#32
  ![1, v896.toNat, 0, 0]
def k0_off170 (i : grid0.Coords) (k0_t4 : Fin (k0_t4_loop i).trips) (c0_i32_627 : BitVec 32) : Fin 4 → Nat :=
  let c2_628 : Index := 2#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v920 : BitVec 32 := Scalar.addi v591 c0_i32_627
  let v921 : Index := Scalar.indexCast v920
  let c0_629 : Index := 0#32
  let c0_630 : Index := 0#32
  ![2, v921.toNat, 0, 0]
def k0_off171 (i : grid0.Coords) (k0_t4 : Fin (k0_t4_loop i).trips) (c0_i32_644 : BitVec 32) : Fin 4 → Nat :=
  let c3_645 : Index := 3#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v945 : BitVec 32 := Scalar.addi v591 c0_i32_644
  let v946 : Index := Scalar.indexCast v945
  let c0_646 : Index := 0#32
  let c0_647 : Index := 0#32
  ![3, v946.toNat, 0, 0]
def k0_off172 (i : grid0.Coords) (k0_t4 : Fin (k0_t4_loop i).trips) (c0_i32_661 : BitVec 32) : Fin 4 → Nat :=
  let c4_662 : Index := 4#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v970 : BitVec 32 := Scalar.addi v591 c0_i32_661
  let v971 : Index := Scalar.indexCast v970
  let c0_663 : Index := 0#32
  let c0_664 : Index := 0#32
  ![4, v971.toNat, 0, 0]
def k0_off173 (i : grid0.Coords) (k0_t4 : Fin (k0_t4_loop i).trips) (c0_i32_678 : BitVec 32) : Fin 4 → Nat :=
  let c5_679 : Index := 5#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v995 : BitVec 32 := Scalar.addi v591 c0_i32_678
  let v996 : Index := Scalar.indexCast v995
  let c0_680 : Index := 0#32
  let c0_681 : Index := 0#32
  ![5, v996.toNat, 0, 0]
def k0_off174 (i : grid0.Coords) (k0_t4 : Fin (k0_t4_loop i).trips) (c0_i32_695 : BitVec 32) : Fin 4 → Nat :=
  let c6_696 : Index := 6#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v1020 : BitVec 32 := Scalar.addi v591 c0_i32_695
  let v1021 : Index := Scalar.indexCast v1020
  let c0_697 : Index := 0#32
  let c0_698 : Index := 0#32
  ![6, v1021.toNat, 0, 0]
def k0_off175 (i : grid0.Coords) (k0_t4 : Fin (k0_t4_loop i).trips) (c0_i32_712 : BitVec 32) : Fin 4 → Nat :=
  let c7_713 : Index := 7#32
  let arg1 : BitVec 32 := BitVec.ofNat 32 (i 1).val
  let c1_i32_411 : BitVec 32 := 1#32
  let v588 : BitVec 32 := Scalar.addi arg1 c1_i32_411
  let c15_i32 : BitVec 32 := 15#32
  let v421 : BitVec 32 := Scalar.subi c15_i32 arg1
  let c2_i32 : BitVec 32 := 2#32
  let c0_i32_293 : BitVec 32 := 0#32
  let v422 : BitVec 1 := Scalar.cmpi .eq c2_i32 c0_i32_293
  let c1_i32 : BitVec 32 := 1#32
  let v423 : BitVec 32 := Scalar.select v422 c1_i32 c2_i32
  let v424 : BitVec 32 := Scalar.remsi v421 v423
  let c0_i32_295 : BitVec 32 := 0#32
  let v426 : BitVec 1 := Scalar.cmpi .slt v424 c0_i32_295
  let c0_i32_296 : BitVec 32 := 0#32
  let v427 : BitVec 1 := Scalar.cmpi .slt v423 c0_i32_296
  let v428 : BitVec 1 := Scalar.xori v426 v427
  let c0_i32_294 : BitVec 32 := 0#32
  let v425 : BitVec 1 := Scalar.cmpi .ne v424 c0_i32_294
  let v429 : BitVec 1 := Scalar.andi v428 v425
  let v430 : BitVec 32 := Scalar.addi v424 v423
  let v431 : BitVec 32 := Scalar.select v429 v430 v424
  let v589 : BitVec 32 := Scalar.addi v588 v431
  let c2_i32_412 : BitVec 32 := 2#32
  let c0_i32_310 : BitVec 32 := 0#32
  let c15_i32_302 : BitVec 32 := 15#32
  let v442 : BitVec 32 := Scalar.subi c15_i32_302 arg1
  let c0_i32_304 : BitVec 32 := 0#32
  let v444 : BitVec 1 := Scalar.cmpi .sgt v442 c0_i32_304
  let v445 : BitVec 32 := Scalar.extui v444
  let c0_i32_305 : BitVec 32 := 0#32
  let v446 : BitVec 1 := Scalar.cmpi .slt v442 c0_i32_305
  let v447 : BitVec 32 := Scalar.extui v446
  let v448 : BitVec 32 := Scalar.subi v445 v447
  let c2_i32_303 : BitVec 32 := 2#32
  let c0_i32_306 : BitVec 32 := 0#32
  let v449 : BitVec 1 := Scalar.cmpi .sgt c2_i32_303 c0_i32_306
  let v450 : BitVec 32 := Scalar.extui v449
  let c0_i32_307 : BitVec 32 := 0#32
  let v451 : BitVec 1 := Scalar.cmpi .slt c2_i32_303 c0_i32_307
  let v452 : BitVec 32 := Scalar.extui v451
  let v453 : BitVec 32 := Scalar.subi v450 v452
  let v454 : BitVec 1 := Scalar.cmpi .ne v448 v453
  let v455 : BitVec 32 := Scalar.remsi v442 c2_i32_303
  let c0_i32_308 : BitVec 32 := 0#32
  let v456 : BitVec 1 := Scalar.cmpi .ne v455 c0_i32_308
  let v457 : BitVec 1 := Scalar.andi v454 v456
  let v443 : BitVec 32 := Scalar.divsi v442 c2_i32_303
  let c1_i32_309 : BitVec 32 := 1#32
  let v458 : BitVec 32 := Scalar.subi v443 c1_i32_309
  let v459 : BitVec 32 := Scalar.select v457 v458 v443
  let v460 : BitVec 32 := Scalar.subi v459 c0_i32_310
  let c1_i32_311 : BitVec 32 := 1#32
  let v462 : BitVec 32 := Scalar.divsi v460 c1_i32_311
  let v463 : BitVec 32 := Scalar.muli v462 c1_i32_311
  let v464 : BitVec 32 := Scalar.addi c0_i32_310 v463
  let c1_i32_313 : BitVec 32 := 1#32
  let arg17 : BitVec 32 := Scf.iv v464 c1_i32_313 k0_t4
  let v590 : BitVec 32 := Scalar.muli c2_i32_412 arg17
  let v591 : BitVec 32 := Scalar.addi v589 v590
  let v1045 : BitVec 32 := Scalar.addi v591 c0_i32_712
  let v1046 : Index := Scalar.indexCast v1045
  let c0_714 : Index := 0#32
  let c0_715 : Index := 0#32
  ![7, v1046.toNat, 0, 0]
def k0_off176 (i : grid0.Coords) : Fin 4 → Nat :=
  let c0_321 : Index := 0#32
  let arg1 : BitVec 32 := BitVec.ofNat 32 (i 1).val
  let v475 : Index := Scalar.indexCast arg1
  let c0_322 : Index := 0#32
  let c0_323 : Index := 0#32
  ![0, v475.toNat, 0, 0]
def k0_off177 (i : grid0.Coords) : Fin 4 → Nat :=
  let c1_333 : Index := 1#32
  let arg1 : BitVec 32 := BitVec.ofNat 32 (i 1).val
  let v490 : Index := Scalar.indexCast arg1
  let c0_334 : Index := 0#32
  let c0_335 : Index := 0#32
  ![1, v490.toNat, 0, 0]
def k0_off178 (i : grid0.Coords) : Fin 4 → Nat :=
  let c2_345 : Index := 2#32
  let arg1 : BitVec 32 := BitVec.ofNat 32 (i 1).val
  let v505 : Index := Scalar.indexCast arg1
  let c0_346 : Index := 0#32
  let c0_347 : Index := 0#32
  ![2, v505.toNat, 0, 0]
def k0_off179 (i : grid0.Coords) : Fin 4 → Nat :=
  let c3_357 : Index := 3#32
  let arg1 : BitVec 32 := BitVec.ofNat 32 (i 1).val
  let v520 : Index := Scalar.indexCast arg1
  let c0_358 : Index := 0#32
  let c0_359 : Index := 0#32
  ![3, v520.toNat, 0, 0]
def k0_off180 (i : grid0.Coords) : Fin 4 → Nat :=
  let c4_369 : Index := 4#32
  let arg1 : BitVec 32 := BitVec.ofNat 32 (i 1).val
  let v535 : Index := Scalar.indexCast arg1
  let c0_370 : Index := 0#32
  let c0_371 : Index := 0#32
  ![4, v535.toNat, 0, 0]
def k0_off181 (i : grid0.Coords) : Fin 4 → Nat :=
  let c5_381 : Index := 5#32
  let arg1 : BitVec 32 := BitVec.ofNat 32 (i 1).val
  let v550 : Index := Scalar.indexCast arg1
  let c0_382 : Index := 0#32
  let c0_383 : Index := 0#32
  ![5, v550.toNat, 0, 0]
def k0_off182 (i : grid0.Coords) : Fin 4 → Nat :=
  let c6_393 : Index := 6#32
  let arg1 : BitVec 32 := BitVec.ofNat 32 (i 1).val
  let v565 : Index := Scalar.indexCast arg1
  let c0_394 : Index := 0#32
  let c0_395 : Index := 0#32
  ![6, v565.toNat, 0, 0]
def k0_off183 (i : grid0.Coords) : Fin 4 → Nat :=
  let c7_405 : Index := 7#32
  let arg1 : BitVec 32 := BitVec.ofNat 32 (i 1).val
  let v580 : Index := Scalar.indexCast arg1
  let c0_406 : Index := 0#32
  let c0_407 : Index := 0#32
  ![7, v580.toNat, 0, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x80x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x16x8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x16x8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FoxBwdIdeal.lean ====
variable {F : FTy → Type} [FloatOps F] [Named F]
def κ : String → Option EReal := fun
  | "mask" => some ⊥
  | _ => none
-- ==== FoxGradIdeal.lean ====
abbrev S8x4096x64 : Shape := ⟨3, ![8, 4096, 64]⟩
abbrev S8x4096 : Shape := ⟨2, ![8, 4096]⟩
abbrev S_ : Shape := ⟨0, ![]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩

abbrev nBuf : Space → Nat
  | .hbm => 109
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096, .f32⟩
  | .hbm, ⟨4, _⟩ => ⟨S8x4096x64, .f32⟩
  | .hbm, ⟨5, _⟩ => ⟨S_, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S8x4096x1, .f32⟩
  | .hbm, ⟨13, _⟩ => ⟨S8x4096x4096, .f32⟩
  | .hbm, ⟨14, _⟩ => ⟨S8x4096x4096, .f32⟩
  | .hbm, ⟨15, _⟩ => ⟨S8x1x4096, .f32⟩
  | .hbm, ⟨16, _⟩ => ⟨S8x4096x4096, .f32⟩
  | .hbm, ⟨17, _⟩ => ⟨S8x4096x4096, .f32⟩
  | .hbm, ⟨18, _⟩ => ⟨S4096, .i32⟩
  | .hbm, ⟨19, _⟩ => ⟨S1x4096, .i32⟩
  | .hbm, ⟨20, _⟩ => ⟨S4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x4096, .f32⟩
  | .hbm, ⟨36, _⟩ => ⟨S8x4096x4096, .i1⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .i1⟩
  | .hbm, ⟨46, _⟩ => ⟨S_, .f32⟩
  | .hbm, ⟨47, _⟩ => ⟨S8x4096, .f32⟩
  | .hbm, ⟨48, _⟩ => ⟨S8x4096, .i1⟩
  | .hbm, ⟨49, _⟩ => ⟨S_, .f32⟩
  | .hbm, ⟨50, _⟩ => ⟨S8x4096, .f32⟩
  | .hbm, ⟨51, _⟩ => ⟨S_, .f32⟩
  | .hbm, ⟨52, _⟩ => ⟨S8x4096, .f32⟩
  | .hbm, ⟨53, _⟩ => ⟨S_, .f32⟩
  | .hbm, ⟨54, _⟩ => ⟨S8x4096, .f32⟩
  | .hbm, ⟨55, _⟩ => ⟨S8x4096, .f32⟩
  | .hbm, ⟨56, _⟩ => ⟨S8x4096, .f32⟩
  | .hbm, ⟨57, _⟩ => ⟨S8x4096x1, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S_, .f32⟩
  | .hbm, ⟨62, _⟩ => ⟨S8x4096, .f32⟩
  | .hbm, ⟨63, _⟩ => ⟨S8x4096x1, .f32⟩
  | .hbm, ⟨64, _⟩ => ⟨S8x4096x4096, .f32⟩
  | .hbm, ⟨65, _⟩ => ⟨S8x4096x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S8x4096x64, .f32⟩
  | .hbm, ⟨71, _⟩ => ⟨S8x64x4096, .f32⟩
  | .hbm, ⟨72, _⟩ => ⟨S8x4096x64, .f32⟩
  | .hbm, ⟨73, _⟩ => ⟨S8x4096x4096, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x1, .f32⟩
  | .hbm, ⟨80, _⟩ => ⟨S8x4096x1, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096x4096, .f32⟩
  | .hbm, ⟨90, _⟩ => ⟨S8x4096x4096, .f32⟩
  | .hbm, ⟨91, _⟩ => ⟨S8x4096x4096, .f32⟩
  | .hbm, ⟨92, _⟩ => ⟨S_, .f32⟩
  | .hbm, ⟨93, _⟩ => ⟨S8x4096, .f32⟩
  | .hbm, ⟨94, _⟩ => ⟨S8x1x4096, .f32⟩
  | .hbm, ⟨95, _⟩ => ⟨S_, .f32⟩
  | .hbm, ⟨96, _⟩ => ⟨S8x4096, .f32⟩
  | .hbm, ⟨97, _⟩ => ⟨S_, .f32⟩
  | .hbm, ⟨98, _⟩ => ⟨S8x4096, .f32⟩
  | .hbm, ⟨99, _⟩ => ⟨S8x4096x1, .f32⟩
  | .hbm, ⟨100, _⟩ => ⟨S_, .f32⟩
  | .hbm, ⟨101, _⟩ => ⟨S8x4096, .f32⟩
  | .hbm, ⟨102, _⟩ => ⟨S8x4096, .f32⟩
  | .hbm, ⟨103, _⟩ => ⟨S_, .f32⟩
  | .hbm, ⟨104, _⟩ => ⟨S8x4096x4096, .f32⟩
  | .hbm, ⟨105, _⟩ => ⟨S8x4096x4096, .f32⟩
  | .hbm, ⟨106, _⟩ => ⟨S8x4096x64, .f32⟩
  | .hbm, ⟨107, _⟩ => ⟨S8x4096x64, .f32⟩
  | .hbm, ⟨108, _⟩ => ⟨S8x4096x64, .bf16⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_call1_v0 : Ref sig .tc := ⟨.hbm, 26, rfl⟩
abbrev main_v17_1 : Ref sig .tc := ⟨.hbm, 27, rfl⟩
abbrev main_call1_v2 : Ref sig .tc := ⟨.hbm, 28, rfl⟩
abbrev main_v17_0 : Ref sig .tc := ⟨.hbm, 29, rfl⟩
abbrev main_call1_cst : Ref sig .tc := ⟨.hbm, 30, rfl⟩
abbrev main_v17_2 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call2_cst : Ref sig .tc := ⟨.hbm, 88, rfl⟩
abbrev main_call2_v0 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_v70 : Ref sig .tc := ⟨.hbm, 102, rfl⟩
abbrev main_cst_17 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩

abbrev nD : Nat := 1
abbrev τ : Topo := Topo.v7x

variable {F : FTy → Type} [FloatOps F]

def κ : String → Option EReal := fun
  | "mask" => some ⊥
  | _ => none
-- ==== FoxPost.lean ====
abbrev S4096x512 : Shape := ⟨2, ![4096, 512]⟩
abbrev S4096x8 : Shape := ⟨2, ![4096, 8]⟩
abbrev S1x8 : Shape := ⟨2, ![1, 8]⟩
abbrev S1x64 : Shape := ⟨2, ![1, 64]⟩
abbrev S8x4096x64 : Shape := ⟨3, ![8, 4096, 64]⟩
abbrev S8x4096 : Shape := ⟨2, ![8, 4096]⟩
abbrev S_ : Shape := ⟨0, ![]⟩
abbrev S4096x1536 : Shape := ⟨2, ![4096, 1536]⟩
abbrev S4096x1024 : Shape := ⟨2, ![4096, 1024]⟩
abbrev S4096x120 : Shape := ⟨2, ![4096, 120]⟩
abbrev S4096x1152 : Shape := ⟨2, ![4096, 1152]⟩
abbrev S1x120 : Shape := ⟨2, ![1, 120]⟩
abbrev S1x128 : Shape := ⟨2, ![1, 128]⟩
abbrev S1x512 : Shape := ⟨2, ![1, 512]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S8x4096x1 : Shape := ⟨3, ![8, 4096, 1]⟩
abbrev S8x4096x63 : Shape := ⟨3, ![8, 4096, 63]⟩
abbrev S8x4096x128 : Shape := ⟨3, ![8, 4096, 128]⟩
abbrev S8x4096x3 : Shape := ⟨3, ![8, 4096, 3]⟩
abbrev S8x4096x60 : Shape := ⟨3, ![8, 4096, 60]⟩
abbrev S4096x128 : Shape := ⟨2, ![4096, 128]⟩
abbrev S256x512 : Shape := ⟨2, ![256, 512]⟩
abbrev S256x128 : Shape := ⟨2, ![256, 128]⟩
abbrev S8x256x128 : Shape := ⟨3, ![8, 256, 128]⟩
abbrev S8x256x64 : Shape := ⟨3, ![8, 256, 64]⟩
abbrev S1x256x128 : Shape := ⟨3, ![1, 256, 128]⟩
abbrev S256x256 : Shape := ⟨2, ![256, 256]⟩
abbrev S256x1 : Shape := ⟨2, ![256, 1]⟩
abbrev S256x64 : Shape := ⟨2, ![256, 64]⟩
abbrev S512 : Shape := ⟨1, ![512]⟩
abbrev S128 : Shape := ⟨1, ![128]⟩
abbrev S1x256x64 : Shape := ⟨3, ![1, 256, 64]⟩

abbrev nBuf : Space → Nat
  | .hbm => 58
  | .vmem => 28
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x8, .f32⟩
  | .hbm, ⟨3, _⟩ => ⟨S1x8, .f32⟩
  | .hbm, ⟨4, _⟩ => ⟨S1x64, .f32⟩
  | .hbm, ⟨5, _⟩ => ⟨S1x64, .f32⟩
  | .hbm, ⟨6, _⟩ => ⟨S8x4096x64, .f32⟩
  | .hbm, ⟨7, _⟩ => ⟨S8x4096x64, .f32⟩
  | .hbm, ⟨8, _⟩ => ⟨S8x4096x64, .f32⟩
  | .hbm, ⟨9, _⟩ => ⟨S8x4096, .f32⟩
  | .hbm, ⟨10, _⟩ => ⟨S8x4096, .f32⟩
  | .hbm, ⟨11, _⟩ => ⟨S_, .f32⟩
  | .hbm, ⟨12, _⟩ => ⟨S4096x512, .f32⟩
  | .hbm, ⟨13, _⟩ => ⟨S4096x1536, .f32⟩
  | .hbm, ⟨14, _⟩ => ⟨S_, .f32⟩
  | .hbm, ⟨15, _⟩ => ⟨S4096x1024, .f32⟩
  | .hbm, ⟨16, _⟩ => ⟨S_, .f32⟩
  | .hbm, ⟨17, _⟩ => ⟨S4096x120, .f32⟩
  | .hbm, ⟨18, _⟩ => ⟨S4096x1152, .f32⟩
  | .hbm, ⟨19, _⟩ => ⟨S_, .f32⟩
  | .hbm, ⟨20, _⟩ => ⟨S1x120, .f32⟩
  | .hbm, ⟨21, _⟩ => ⟨S1x128, .f32⟩
  | .hbm, ⟨22, _⟩ => ⟨S1x512, .f32⟩
  | .hbm, ⟨23, _⟩ => ⟨S1x512, .f32⟩
  | .hbm, ⟨24, _⟩ => ⟨S8x8, .i32⟩
  | .hbm, ⟨25, _⟩ => ⟨S8x8, .i32⟩
  | .hbm, ⟨26, _⟩ => ⟨S_, .i32⟩
  | .hbm, ⟨27, _⟩ => ⟨S8x8, .i32⟩
  | .hbm, ⟨28, _⟩ => ⟨S8x8, .i32⟩
  | .hbm, ⟨29, _⟩ => ⟨S8x8, .i1⟩
  | .hbm, ⟨30, _⟩ => ⟨S8x8, .f32⟩
  | .hbm, ⟨31, _⟩ => ⟨S_, .f32⟩
  | .hbm, ⟨32, _⟩ => ⟨S64x64, .f32⟩
  | .hbm, ⟨33, _⟩ => ⟨S8x1x8x1, .f32⟩
  | .hbm, ⟨34, _⟩ => ⟨S1x64x1x64, .f32⟩
  | .hbm, ⟨35, _⟩ => ⟨S8x64x8x64, .f32⟩
  | .hbm, ⟨36, _⟩ => ⟨S8x64x8x64, .f32⟩
  | .hbm, ⟨37, _⟩ => ⟨S8x64x8x64, .f32⟩
  | .hbm, ⟨38, _⟩ => ⟨S512x512, .f32⟩
  | .hbm, ⟨39, _⟩ => ⟨S512x512, .bf16⟩
  | .hbm, ⟨40, _⟩ => ⟨S8x4096x1, .f32⟩
  | .hbm, ⟨41, _⟩ => ⟨S_, .f32⟩
  | .hbm, ⟨42, _⟩ => ⟨S8x4096x63, .f32⟩
  | .hbm, ⟨43, _⟩ => ⟨S8x4096x128, .f32⟩
  | .hbm, ⟨44, _⟩ => ⟨S_, .f32⟩
  | .hbm, ⟨45, _⟩ => ⟨S8x4096x3, .f32⟩
  | .hbm, ⟨46, _⟩ => ⟨S8x4096x1, .f32⟩
  | .hbm, ⟨47, _⟩ => ⟨S_, .f32⟩
  | .hbm, ⟨48, _⟩ => ⟨S8x4096x60, .f32⟩
  | .hbm, ⟨49, _⟩ => ⟨S8x4096x128, .f32⟩
  | .hbm, ⟨50, _⟩ => ⟨S8x4096x64, .bf16⟩
  | .hbm, ⟨51, _⟩ => ⟨S4096x512, .bf16⟩
  | .hbm, ⟨52, _⟩ => ⟨S4096x512, .bf16⟩
  | .hbm, ⟨53, _⟩ => ⟨S4096x512, .bf16⟩
  | .hbm, ⟨54, _⟩ => ⟨S4096x128, .bf16⟩
  | .hbm, ⟨55, _⟩ => ⟨S1x64, .f32⟩
  | .hbm, ⟨56, _⟩ => ⟨S1x64, .f32⟩
  | .hbm, ⟨57, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x512, .f32⟩
  | .local _ .vmem, ⟨8, _⟩ => ⟨S1x512, .f32⟩
  | .local _ .vmem, ⟨9, _⟩ => ⟨S512x512, .bf16⟩
  | .local _ .vmem, ⟨10, _⟩ => ⟨S8x256x128, .f32⟩
  | .local _ .vmem, ⟨11, _⟩ => ⟨S8x256x128, .f32⟩
  | .local _ .vmem, ⟨12, _⟩ => ⟨S8x256x128, .f32⟩
  | .local _ .vmem, ⟨13, _⟩ => ⟨S8x256x128, .f32⟩
  | .local _ .vmem, ⟨14, _⟩ => ⟨S8x256x64, .bf16⟩
  | .local _ .vmem, ⟨15, _⟩ => ⟨S8x256x64, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x128, .bf16⟩
  | .local _ .vmem, ⟨23, _⟩ => ⟨S256x128, .bf16⟩
  | .local _ .vmem, ⟨24, _⟩ => ⟨S1x64, .f32⟩
  | .local _ .vmem, ⟨25, _⟩ => ⟨S1x64, .f32⟩
  | .local _ .vmem, ⟨26, _⟩ => ⟨S1x128, .f32⟩
  | .local _ .vmem, ⟨27, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26_0 : Ref sig .tc := ⟨.hbm, 51, rfl⟩
abbrev main_v26_1 : Ref sig .tc := ⟨.hbm, 52, rfl⟩
abbrev main_v26_2 : Ref sig .tc := ⟨.hbm, 53, rfl⟩
abbrev main_v26_3 : Ref sig .tc := ⟨.hbm, 54, rfl⟩
abbrev main_v26_4 : Ref sig .tc := ⟨.hbm, 55, rfl⟩
abbrev main_v26_5 : Ref sig .tc := ⟨.hbm, 56, rfl⟩
abbrev main_v26_6 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c8_i32 : BitVec 32 := 8#32
  let c0_i32 : BitVec 32 := 0#32
  ![v0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== FoxPostGradIdeal.lean ====
abbrev S4096x512 : Shape := ⟨2, ![4096, 512]⟩
abbrev S4096x8 : Shape := ⟨2, ![4096, 8]⟩
abbrev S1x8 : Shape := ⟨2, ![1, 8]⟩
abbrev S1x64 : Shape := ⟨2, ![1, 64]⟩
abbrev S8x4096x64 : Shape := ⟨3, ![8, 4096, 64]⟩
abbrev S8x4096 : Shape := ⟨2, ![8, 4096]⟩
abbrev S_ : Shape := ⟨0, ![]⟩
abbrev S4096x8x64 : Shape := ⟨3, ![4096, 8, 64]⟩
abbrev S64 : Shape := ⟨1, ![64]⟩
abbrev S8x4096x1 : Shape := ⟨3, ![8, 4096, 1]⟩
abbrev S1x1x64 : Shape := ⟨3, ![1, 1, 64]⟩
abbrev S8 : Shape := ⟨1, ![8]⟩
abbrev S4096x120 : Shape := ⟨2, ![4096, 120]⟩
abbrev S4096x128 : Shape := ⟨2, ![4096, 128]⟩
abbrev S1x120 : Shape := ⟨2, ![1, 120]⟩
abbrev S1x128 : Shape := ⟨2, ![1, 128]⟩

abbrev nBuf : Space → Nat
  | .hbm => 207
  | .vmem => 0
  | .smem => 0
  | _ => 0

abbrev hbmTy0_0 (i : Nat) : BufTy := match i % 128 with
  | 0 => ⟨S4096x512, .f32⟩
  | 1 => ⟨S4096x512, .f32⟩
  | 2 => ⟨S4096x8, .f32⟩
  | 3 => ⟨S1x8, .f32⟩
  | 4 => ⟨S1x64, .f32⟩
  | 5 => ⟨S1x64, .f32⟩
  | 6 => ⟨S8x4096x64, .f32⟩
  | 7 => ⟨S8x4096x64, .f32⟩
  | 8 => ⟨S8x4096x64, .f32⟩
  | 9 => ⟨S8x4096, .f32⟩
  | 10 => ⟨S8x4096, .f32⟩
  | 11 => ⟨S_, .f32⟩
  | 12 => ⟨S4096x512, .f32⟩
  | 13 => ⟨S4096x8x64, .f32⟩
  | 14 => ⟨S8x4096x64, .f32⟩
  | 15 => ⟨S64, .f32⟩
  | 16 => ⟨S8x4096x64, .f32⟩
  | 17 => ⟨S_, .f32⟩
  | 18 => ⟨S8x4096, .f32⟩
  | 19 => ⟨S8x4096x1, .f32⟩
  | 20 => ⟨S_, .f32⟩
  | 21 => ⟨S8x4096x1, .f32⟩
  | 22 => ⟨S8x4096x1, .f32⟩
  | 23 => ⟨S_, .f32⟩
  | 24 => ⟨S8x4096x1, .f32⟩
  | 25 => ⟨S8x4096x1, .f32⟩
  | 26 => ⟨S8x4096x1, .f32⟩
  | 27 => ⟨S8x4096x1, .f32⟩
  | 28 => ⟨S_, .f32⟩
  | 29 => ⟨S8x4096x1, .f32⟩
  | 30 => ⟨S8x4096x1, .f32⟩
  | 31 => ⟨S8x4096x64, .f32⟩
  | 32 => ⟨S8x4096x64, .f32⟩
  | 33 => ⟨S1x1x64, .f32⟩
  | 34 => ⟨S8x4096x64, .f32⟩
  | 35 => ⟨S8x4096x64, .f32⟩
  | 36 => ⟨S4096x8x64, .f32⟩
  | 37 => ⟨S8x4096x64, .f32⟩
  | 38 => ⟨S64, .f32⟩
  | 39 => ⟨S8x4096x64, .f32⟩
  | 40 => ⟨S_, .f32⟩
  | 41 => ⟨S8x4096, .f32⟩
  | 42 => ⟨S8x4096x1, .f32⟩
  | 43 => ⟨S_, .f32⟩
  | 44 => ⟨S8x4096x1, .f32⟩
  | 45 => ⟨S8x4096x1, .f32⟩
  | 46 => ⟨S_, .f32⟩
  | 47 => ⟨S8x4096x1, .f32⟩
  | 48 => ⟨S8x4096x1, .f32⟩
  | 49 => ⟨S8x4096x1, .f32⟩
  | 50 => ⟨S8x4096x1, .f32⟩
  | 51 => ⟨S_, .f32⟩
  | 52 => ⟨S8x4096x1, .f32⟩
  | 53 => ⟨S8x4096x1, .f32⟩
  | 54 => ⟨S8x4096x64, .f32⟩
  | 55 => ⟨S8x4096x64, .f32⟩
  | 56 => ⟨S1x1x64, .f32⟩
  | 57 => ⟨S8x4096x64, .f32⟩
  | 58 => ⟨S8x4096x64, .f32⟩
  | 59 => ⟨S8, .f32⟩
  | 60 => ⟨S1x8, .f32⟩
  | 61 => ⟨S4096x8, .f32⟩
  | 62 => ⟨S4096x8, .f32⟩
  | 63 => ⟨S4096x8, .f32⟩
  | 64 => ⟨S_, .f32⟩
  | 65 => ⟨S4096x8, .f32⟩
  | 66 => ⟨S4096x8, .f32⟩
  | 67 => ⟨S4096x8, .f32⟩
  | 68 => ⟨S4096x8, .f32⟩
  | 69 => ⟨S4096x8, .i1⟩
  | 70 => ⟨S4096x8, .f32⟩
  | 71 => ⟨S4096x8, .f32⟩
  | 72 => ⟨S4096x8, .f32⟩
  | 73 => ⟨S4096x8, .f32⟩
  | 74 => ⟨S4096x8, .f32⟩
  | 75 => ⟨S4096x8, .f32⟩
  | 76 => ⟨S4096x8, .f32⟩
  | 77 => ⟨S4096x8, .f32⟩
  | 78 => ⟨S_, .f32⟩
  | 79 => ⟨S4096x8, .f32⟩
  | 80 => ⟨S4096x8, .i1⟩
  | 81 => ⟨S_, .f32⟩
  | 82 => ⟨S4096x8, .f32⟩
  | 83 => ⟨S4096x8, .f32⟩
  | 84 => ⟨S_, .f32⟩
  | 85 => ⟨S4096x8, .f32⟩
  | 86 => ⟨S4096x8, .i1⟩
  | 87 => ⟨S_, .f32⟩
  | 88 => ⟨S4096x8, .f32⟩
  | 89 => ⟨S4096x8, .f32⟩
  | 90 => ⟨S4096x8, .f32⟩
  | 91 => ⟨S4096x8, .f32⟩
  | 92 => ⟨S_, .f32⟩
  | 93 => ⟨S_, .f32⟩
  | 94 => ⟨S_, .i1⟩
  | 95 => ⟨S_, .f32⟩
  | 96 => ⟨S_, .f32⟩
  | 97 => ⟨S_, .f32⟩
  | 98 => ⟨S_, .f32⟩
  | 99 => ⟨S4096x8, .f32⟩
  | 100 => ⟨S4096x8, .i1⟩
  | 101 => ⟨S_, .f32⟩
  | 102 => ⟨S4096x8, .f32⟩
  | 103 => ⟨S4096x8, .f32⟩
  | 104 => ⟨S4096x8, .f32⟩
  | 105 => ⟨S4096x8, .f32⟩
  | 106 => ⟨S4096x8, .f32⟩
  | 107 => ⟨S_, .f32⟩
  | 108 => ⟨S4096x8, .f32⟩
  | 109 => ⟨S4096x8, .f32⟩
  | 110 => ⟨S4096x8, .f32⟩
  | 111 => ⟨S8x4096, .f32⟩
  | 112 => ⟨S_, .f32⟩
  | 113 => ⟨S_, .f32⟩
  | 114 => ⟨S8x4096, .f32⟩
  | 115 => ⟨S_, .f32⟩
  | 116 => ⟨S8x4096x64, .f32⟩
  | 117 => ⟨S8x4096x64, .f32⟩
  | 118 => ⟨S4096x8x64, .f32⟩
  | 119 => ⟨S8x4096x64, .f32⟩
  | 120 => ⟨S8x4096, .f32⟩
  | 121 => ⟨S8x4096, .f32⟩
  | 122 => ⟨S8x4096, .f32⟩
  | 123 => ⟨S4096x8x64, .f32⟩
  | 124 => ⟨S4096x512, .f32⟩
  | 125 => ⟨S_, .f32⟩
  | 126 => ⟨S8x4096x64, .f32⟩
  | 127 => ⟨S8x4096x64, .f32⟩
  | _ => ⟨S4096x512, .f32⟩

abbrev hbmTy0_1 (i : Nat) : BufTy := match i % 128 with
  | 0 => ⟨S_, .f32⟩
  | 1 => ⟨S_, .f32⟩
  | 2 => ⟨S8x4096, .f32⟩
  | 3 => ⟨S4096x8, .f32⟩
  | 4 => ⟨S4096x8, .f32⟩
  | 5 => ⟨S4096x8, .f32⟩
  | 6 => ⟨S4096x8, .f32⟩
  | 7 => ⟨S_, .f32⟩
  | 8 => ⟨S8, .f32⟩
  | 9 => ⟨S1x8, .f32⟩
  | 10 => ⟨S_, .f32⟩
  | 11 => ⟨S8, .f32⟩
  | 12 => ⟨S1x8, .f32⟩
  | 13 => ⟨S8x4096x64, .f32⟩
  | 14 => ⟨S_, .f32⟩
  | 15 => ⟨S64, .f32⟩
  | 16 => ⟨S1x1x64, .f32⟩
  | 17 => ⟨S8x4096x64, .f32⟩
  | 18 => ⟨S8x4096x64, .f32⟩
  | 19 => ⟨S_, .f32⟩
  | 20 => ⟨S64, .f32⟩
  | 21 => ⟨S8x4096x64, .f32⟩
  | 22 => ⟨S_, .f32⟩
  | 23 => ⟨S8x4096, .f32⟩
  | 24 => ⟨S8x4096x1, .f32⟩
  | 25 => ⟨S8x4096x64, .f32⟩
  | 26 => ⟨S8x4096x64, .f32⟩
  | 27 => ⟨S8x4096x1, .f32⟩
  | 28 => ⟨S_, .f32⟩
  | 29 => ⟨S8x4096x1, .f32⟩
  | 30 => ⟨S8x4096x1, .f32⟩
  | 31 => ⟨S_, .f32⟩
  | 32 => ⟨S8x4096, .f32⟩
  | 33 => ⟨S8x4096x64, .f32⟩
  | 34 => ⟨S8x4096x64, .f32⟩
  | 35 => ⟨S8x4096x64, .f32⟩
  | 36 => ⟨S8x4096x64, .f32⟩
  | 37 => ⟨S8x4096x64, .f32⟩
  | 38 => ⟨S1x64, .f32⟩
  | 39 => ⟨S4096x8x64, .f32⟩
  | 40 => ⟨S4096x512, .f32⟩
  | 41 => ⟨S8x4096x64, .f32⟩
  | 42 => ⟨S_, .f32⟩
  | 43 => ⟨S64, .f32⟩
  | 44 => ⟨S1x1x64, .f32⟩
  | 45 => ⟨S8x4096x64, .f32⟩
  | 46 => ⟨S8x4096x64, .f32⟩
  | 47 => ⟨S_, .f32⟩
  | 48 => ⟨S64, .f32⟩
  | 49 => ⟨S8x4096x64, .f32⟩
  | 50 => ⟨S_, .f32⟩
  | 51 => ⟨S8x4096, .f32⟩
  | 52 => ⟨S8x4096x1, .f32⟩
  | 53 => ⟨S8x4096x64, .f32⟩
  | 54 => ⟨S8x4096x64, .f32⟩
  | 55 => ⟨S8x4096x1, .f32⟩
  | 56 => ⟨S_, .f32⟩
  | 57 => ⟨S8x4096x1, .f32⟩
  | 58 => ⟨S8x4096x1, .f32⟩
  | 59 => ⟨S_, .f32⟩
  | 60 => ⟨S8x4096, .f32⟩
  | 61 => ⟨S8x4096x64, .f32⟩
  | 62 => ⟨S8x4096x64, .f32⟩
  | 63 => ⟨S8x4096x64, .f32⟩
  | 64 => ⟨S8x4096x64, .f32⟩
  | 65 => ⟨S8x4096x64, .f32⟩
  | 66 => ⟨S1x64, .f32⟩
  | 67 => ⟨S4096x8x64, .f32⟩
  | 68 => ⟨S4096x512, .f32⟩
  | 69 => ⟨S4096x512, .bf16⟩
  | 70 => ⟨S4096x512, .bf16⟩
  | 71 => ⟨S4096x512, .bf16⟩
  | 72 => ⟨S_, .f32⟩
  | 73 => ⟨S4096x120, .f32⟩
  | 74 => ⟨S4096x128, .f32⟩
  | 75 => ⟨S4096x128, .bf16⟩
  | 76 => ⟨S_, .f32⟩
  | 77 => ⟨S1x120, .f32⟩
  | 78 => ⟨S1x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call0_v0 : Ref sig .tc := ⟨.hbm, 63, rfl⟩
abbrev main_call0_call0_cst : Ref sig .tc := ⟨.hbm, 64, rfl⟩
abbrev main_call0_call0_v0 : Ref sig .tc := ⟨.hbm, 65, rfl⟩
abbrev main_call0_call0_v1 : Ref sig .tc := ⟨.hbm, 66, rfl⟩
abbrev main_call0_call0_v2 : Ref sig .tc := ⟨.hbm, 67, rfl⟩
abbrev main_call0_call0_v3 : Ref sig .tc := ⟨.hbm, 68, rfl⟩
abbrev main_call0_call0_v4 : Ref sig .tc := ⟨.hbm, 69, rfl⟩
abbrev main_call0_call0_v5 : Ref sig .tc := ⟨.hbm, 70, rfl⟩
abbrev main_call0_call0_v6 : Ref sig .tc := ⟨.hbm, 71, rfl⟩
abbrev main_call0_call0_v7 : Ref sig .tc := ⟨.hbm, 72, rfl⟩
abbrev main_call0_call0_v8 : Ref sig .tc := ⟨.hbm, 73, rfl⟩
abbrev main_call0_call0_v9 : Ref sig .tc := ⟨.hbm, 74, rfl⟩
abbrev main_call0_call0_v10 : Ref sig .tc := ⟨.hbm, 75, rfl⟩
abbrev main_call0_call0_v11 : Ref sig .tc := ⟨.hbm, 76, rfl⟩
abbrev main_call0_v1_0 : Ref sig .tc := ⟨.hbm, 77, rfl⟩
abbrev main_call0_call0_cst_0 : Ref sig .tc := ⟨.hbm, 78, rfl⟩
abbrev main_call0_call0_v13 : Ref sig .tc := ⟨.hbm, 79, rfl⟩
abbrev main_call0_call0_v14 : Ref sig .tc := ⟨.hbm, 80, rfl⟩
abbrev main_call0_call0_cst_1 : Ref sig .tc := ⟨.hbm, 81, rfl⟩
abbrev main_call0_call0_v15 : Ref sig .tc := ⟨.hbm, 82, rfl⟩
abbrev main_call0_call0_v16 : Ref sig .tc := ⟨.hbm, 83, rfl⟩
abbrev main_call0_call0_cst_2 : Ref sig .tc := ⟨.hbm, 84, rfl⟩
abbrev main_call0_call0_v17 : Ref sig .tc := ⟨.hbm, 85, rfl⟩
abbrev main_call0_call0_v18 : Ref sig .tc := ⟨.hbm, 86, rfl⟩
abbrev main_call0_call0_cst_3 : Ref sig .tc := ⟨.hbm, 87, rfl⟩
abbrev main_call0_call0_v19 : Ref sig .tc := ⟨.hbm, 88, rfl⟩
abbrev main_call0_call0_v20 : Ref sig .tc := ⟨.hbm, 89, rfl⟩
abbrev main_call0_call0_v21 : Ref sig .tc := ⟨.hbm, 90, rfl⟩
abbrev main_v43_1 : Ref sig .tc := ⟨.hbm, 91, rfl⟩
abbrev main_call0_call0_cst_4 : Ref sig .tc := ⟨.hbm, 92, rfl⟩
abbrev main_call0_call0_cst_5 : Ref sig .tc := ⟨.hbm, 93, rfl⟩
abbrev main_call0_call0_v23 : Ref sig .tc := ⟨.hbm, 94, rfl⟩
abbrev main_call0_call0_cst_6 : Ref sig .tc := ⟨.hbm, 95, rfl⟩
abbrev main_call0_call0_cst_7 : Ref sig .tc := ⟨.hbm, 96, rfl⟩
abbrev main_call0_call0_v24 : Ref sig .tc := ⟨.hbm, 97, rfl⟩
abbrev main_call0_call0_cst_8 : Ref sig .tc := ⟨.hbm, 98, rfl⟩
abbrev main_call0_call0_v25 : Ref sig .tc := ⟨.hbm, 99, rfl⟩
abbrev main_call0_call0_v26 : Ref sig .tc := ⟨.hbm, 100, rfl⟩
abbrev main_call0_call0_cst_9 : Ref sig .tc := ⟨.hbm, 101, rfl⟩
abbrev main_call0_call0_v27 : Ref sig .tc := ⟨.hbm, 102, rfl⟩
abbrev main_call0_call0_v28 : Ref sig .tc := ⟨.hbm, 103, rfl⟩
abbrev main_call0_call0_v29 : Ref sig .tc := ⟨.hbm, 104, rfl⟩
abbrev main_call0_call0_v30 : Ref sig .tc := ⟨.hbm, 105, rfl⟩
abbrev main_call0_call0_v31 : Ref sig .tc := ⟨.hbm, 106, rfl⟩
abbrev main_call0_call0_cst_10 : Ref sig .tc := ⟨.hbm, 107, rfl⟩
abbrev main_call0_call0_v32 : Ref sig .tc := ⟨.hbm, 108, rfl⟩
abbrev main_v43_2 : Ref sig .tc := ⟨.hbm, 109, rfl⟩
abbrev main_v43_0 : Ref sig .tc := ⟨.hbm, 110, rfl⟩
abbrev main_v44 : Ref sig .tc := ⟨.hbm, 111, rfl⟩
abbrev main_call1_call0_cst : Ref sig .tc := ⟨.hbm, 112, rfl⟩
abbrev main_call1_call0_v0 : Ref sig .tc := ⟨.hbm, 113, rfl⟩
abbrev main_v45 : Ref sig .tc := ⟨.hbm, 114, rfl⟩
abbrev main_cst_8 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_cst_9 : Ref sig .tc := ⟨.hbm, 125, rfl⟩
abbrev main_v55 : Ref sig .tc := ⟨.hbm, 126, rfl⟩
abbrev main_v56 : Ref sig .tc := ⟨.hbm, 127, rfl⟩
abbrev main_call2_call0_cst : Ref sig .tc := ⟨.hbm, 128, rfl⟩
abbrev main_call2_call0_v0 : Ref sig .tc := ⟨.hbm, 129, rfl⟩
abbrev main_v57 : Ref sig .tc := ⟨.hbm, 130, rfl⟩
abbrev main_v58 : Ref sig .tc := ⟨.hbm, 131, rfl⟩
abbrev main_call3_v0 : Ref sig .tc := ⟨.hbm, 132, rfl⟩
abbrev main_call3_v1 : Ref sig .tc := ⟨.hbm, 133, rfl⟩
abbrev main_v59 : Ref sig .tc := ⟨.hbm, 134, rfl⟩
abbrev main_cst_10 : Ref sig .tc := ⟨.hbm, 135, rfl⟩
abbrev main_v60 : Ref sig .tc := ⟨.hbm, 136, rfl⟩
abbrev main_v61 : Ref sig .tc := ⟨.hbm, 137, rfl⟩
abbrev main_cst_11 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_cst_12 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_cst_13 : Ref sig .tc := ⟨.hbm, 147, rfl⟩
abbrev main_v69 : Ref sig .tc := ⟨.hbm, 148, rfl⟩
abbrev main_v70 : Ref sig .tc := ⟨.hbm, 149, rfl⟩
abbrev main_cst_14 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_cst_15 : Ref sig .tc := ⟨.hbm, 156, rfl⟩
abbrev main_v76 : Ref sig .tc := ⟨.hbm, 157, rfl⟩
abbrev main_v77 : Ref sig .tc := ⟨.hbm, 158, rfl⟩
abbrev main_cst_16 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_cst_17 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_cst_18 : Ref sig .tc := ⟨.hbm, 175, rfl⟩
abbrev main_v92 : Ref sig .tc := ⟨.hbm, 176, rfl⟩
abbrev main_v93 : Ref sig .tc := ⟨.hbm, 177, rfl⟩
abbrev main_cst_19 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_cst_20 : Ref sig .tc := ⟨.hbm, 184, rfl⟩
abbrev main_v99 : Ref sig .tc := ⟨.hbm, 185, rfl⟩
abbrev main_v100 : Ref sig .tc := ⟨.hbm, 186, rfl⟩
abbrev main_cst_21 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_cst_22 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_cst_23 : Ref sig .tc := ⟨.hbm, 204, rfl⟩
abbrev main_v116 : Ref sig .tc := ⟨.hbm, 205, rfl⟩
abbrev main_v117 : Ref sig .tc := ⟨.hbm, 206, rfl⟩

abbrev nD : Nat := 1
abbrev τ : Topo := Topo.v7x

variable {F : FTy → Type} [FloatOps F]
-- ==== MemPrep.lean ====
abbrev S256x1024 : Shape := ⟨2, ![256, 1024]⟩
abbrev S1x1024 : Shape := ⟨2, ![1, 1024]⟩
abbrev S1024x512 : Shape := ⟨2, ![1024, 512]⟩
abbrev S1x64 : Shape := ⟨2, ![1, 64]⟩
abbrev S256x256 : Shape := ⟨2, ![256, 256]⟩
abbrev S256 : Shape := ⟨1, ![256]⟩
abbrev S256x1 : Shape := ⟨2, ![256, 1]⟩
abbrev S256x512 : Shape := ⟨2, ![256, 512]⟩
abbrev S256x64 : Shape := ⟨2, ![256, 64]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .bf16⟩
  | .hbm, ⟨3, _⟩ => ⟨S1x64, .f32⟩
  | .hbm, ⟨4, _⟩ => ⟨S256x256, .bf16⟩
  | .hbm, ⟨5, _⟩ => ⟨S256x256, .bf16⟩
  | .local _ .vmem, ⟨0, _⟩ => ⟨S256x1024, .f32⟩
  | .local _ .vmem, ⟨1, _⟩ => ⟨S1x1024, .f32⟩
  | .local _ .vmem, ⟨2, _⟩ => ⟨S1024x512, .bf16⟩
  | .local _ .vmem, ⟨3, _⟩ => ⟨S1x64, .f32⟩
  | .local _ .vmem, ⟨4, _⟩ => ⟨S256x256, .bf16⟩
  | .local _ .vmem, ⟨5, _⟩ => ⟨S256x256, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MemPlainIdeal.lean ====
abbrev S256x1024 : Shape := ⟨2, ![256, 1024]⟩
abbrev S1x1024 : Shape := ⟨2, ![1, 1024]⟩
abbrev S1024x512 : Shape := ⟨2, ![1024, 512]⟩
abbrev S1x64 : Shape := ⟨2, ![1, 64]⟩
abbrev S1024 : Shape := ⟨1, ![1024]⟩
abbrev S_ : Shape := ⟨0, ![]⟩
abbrev S256 : Shape := ⟨1, ![256]⟩
abbrev S256x1 : Shape := ⟨2, ![256, 1]⟩
abbrev S256x512 : Shape := ⟨2, ![256, 512]⟩
abbrev S256x256 : Shape := ⟨2, ![256, 256]⟩
abbrev S256x4x64 : Shape := ⟨3, ![256, 4, 64]⟩
abbrev S64 : Shape := ⟨1, ![64]⟩
abbrev S256x4 : Shape := ⟨2, ![256, 4]⟩
abbrev S256x4x1 : Shape := ⟨3, ![256, 4, 1]⟩
abbrev S1x1x64 : Shape := ⟨3, ![1, 1, 64]⟩

abbrev nBuf : Space → Nat
  | .hbm => 46
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .bf16⟩
  | .hbm, ⟨3, _⟩ => ⟨S1x64, .f32⟩
  | .hbm, ⟨4, _⟩ => ⟨S1024x512, .f32⟩
  | .hbm, ⟨5, _⟩ => ⟨S1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x512, .f32⟩
  | .hbm, ⟨23, _⟩ => ⟨S256x256, .f32⟩
  | .hbm, ⟨24, _⟩ => ⟨S256x4x64, .f32⟩
  | .hbm, ⟨25, _⟩ => ⟨S64, .f32⟩
  | .hbm, ⟨26, _⟩ => ⟨S256x4x64, .f32⟩
  | .hbm, ⟨27, _⟩ => ⟨S_, .f32⟩
  | .hbm, ⟨28, _⟩ => ⟨S256x4, .f32⟩
  | .hbm, ⟨29, _⟩ => ⟨S256x4x1, .f32⟩
  | .hbm, ⟨30, _⟩ => ⟨S_, .f32⟩
  | .hbm, ⟨31, _⟩ => ⟨S256x4x1, .f32⟩
  | .hbm, ⟨32, _⟩ => ⟨S256x4x1, .f32⟩
  | .hbm, ⟨33, _⟩ => ⟨S_, .f32⟩
  | .hbm, ⟨34, _⟩ => ⟨S256x4x1, .f32⟩
  | .hbm, ⟨35, _⟩ => ⟨S256x4x1, .f32⟩
  | .hbm, ⟨36, _⟩ => ⟨S256x4x1, .f32⟩
  | .hbm, ⟨37, _⟩ => ⟨S256x4x64, .f32⟩
  | .hbm, ⟨38, _⟩ => ⟨S256x4x64, .f32⟩
  | .hbm, ⟨39, _⟩ => ⟨S1x1x64, .f32⟩
  | .hbm, ⟨40, _⟩ => ⟨S256x4x64, .f32⟩
  | .hbm, ⟨41, _⟩ => ⟨S256x4x64, .f32⟩
  | .hbm, ⟨42, _⟩ => ⟨S256x256, .f32⟩
  | .hbm, ⟨43, _⟩ => ⟨S256x256, .f32⟩
  | .hbm, ⟨44, _⟩ => ⟨S256x256, .bf16⟩
  | .hbm, ⟨45, _⟩ => ⟨S256x256, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== GradX.lean ====
abbrev S4096x1024 : Shape := ⟨2, ![4096, 1024]⟩
abbrev S1x1024 : Shape := ⟨2, ![1, 1024]⟩
abbrev S1024x3080 : Shape := ⟨2, ![1024, 3080]⟩
abbrev S4096x3080 : Shape := ⟨2, ![4096, 3080]⟩
abbrev S1024x2048 : Shape := ⟨2, ![1024, 2048]⟩
abbrev S1024x1024 : Shape := ⟨2, ![1024, 1024]⟩
abbrev S1024x8 : Shape := ⟨2, ![1024, 8]⟩
abbrev S_ : Shape := ⟨0, ![]⟩
abbrev S1024x120 : Shape := ⟨2, ![1024, 120]⟩
abbrev S1024x3200 : Shape := ⟨2, ![1024, 3200]⟩
abbrev S4096x8 : Shape := ⟨2, ![4096, 8]⟩
abbrev S4096x120 : Shape := ⟨2, ![4096, 120]⟩
abbrev S4096x128 : Shape := ⟨2, ![4096, 128]⟩
abbrev S4096x512 : Shape := ⟨2, ![4096, 512]⟩
abbrev S256x512 : Shape := ⟨2, ![256, 512]⟩
abbrev S256x128 : Shape := ⟨2, ![256, 128]⟩
abbrev S256x1024 : Shape := ⟨2, ![256, 1024]⟩
abbrev S1024x128 : Shape := ⟨2, ![1024, 128]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 31
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3080, .f32⟩
  | .hbm, ⟨3, _⟩ => ⟨S4096x3080, .f32⟩
  | .hbm, ⟨4, _⟩ => ⟨S4096x1024, .f32⟩
  | .hbm, ⟨5, _⟩ => ⟨S1024x2048, .f32⟩
  | .hbm, ⟨6, _⟩ => ⟨S1024x1024, .f32⟩
  | .hbm, ⟨7, _⟩ => ⟨S1024x8, .f32⟩
  | .hbm, ⟨8, _⟩ => ⟨S_, .f32⟩
  | .hbm, ⟨9, _⟩ => ⟨S1024x120, .f32⟩
  | .hbm, ⟨10, _⟩ => ⟨S1024x3200, .f32⟩
  | .hbm, ⟨11, _⟩ => ⟨S1024x3200, .bf16⟩
  | .hbm, ⟨12, _⟩ => ⟨S4096x8, .f32⟩
  | .hbm, ⟨13, _⟩ => ⟨S_, .f32⟩
  | .hbm, ⟨14, _⟩ => ⟨S4096x120, .f32⟩
  | .hbm, ⟨15, _⟩ => ⟨S4096x128, .f32⟩
  | .hbm, ⟨16, _⟩ => ⟨S4096x128, .bf16⟩
  | .hbm, ⟨17, _⟩ => ⟨S4096x512, .f32⟩
  | .hbm, ⟨18, _⟩ => ⟨S4096x512, .bf16⟩
  | .hbm, ⟨19, _⟩ => ⟨S4096x512, .f32⟩
  | .hbm, ⟨20, _⟩ => ⟨S4096x512, .bf16⟩
  | .hbm, ⟨21, _⟩ => ⟨S4096x512, .f32⟩
  | .hbm, ⟨22, _⟩ => ⟨S4096x512, .bf16⟩
  | .hbm, ⟨23, _⟩ => ⟨S4096x512, .f32⟩
  | .hbm, ⟨24, _⟩ => ⟨S4096x512, .bf16⟩
  | .hbm, ⟨25, _⟩ => ⟨S4096x512, .f32⟩
  | .hbm, ⟨26, _⟩ => ⟨S4096x512, .bf16⟩
  | .hbm, ⟨27, _⟩ => ⟨S4096x512, .f32⟩
  | .hbm, ⟨28, _⟩ => ⟨S4096x512, .bf16⟩
  | .hbm, ⟨29, _⟩ => ⟨S4096x1024, .f32⟩
  | .hbm, ⟨30, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x128, .bf16⟩
  | .local _ .vmem, ⟨13, _⟩ => ⟨S256x128, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1024x3200, .bf16⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x3200 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== NormGradIdeal.lean ====
abbrev S4096x1024 : Shape := ⟨2, ![4096, 1024]⟩
abbrev S1x1024 : Shape := ⟨2, ![1, 1024]⟩
abbrev S1024x3080 : Shape := ⟨2, ![1024, 3080]⟩
abbrev S4096x3080 : Shape := ⟨2, ![4096, 3080]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3080, .f32⟩
  | .hbm, ⟨3, _⟩ => ⟨S4096x3080, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x3080, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== GradW.lean ====
abbrev S4096x1024 : Shape := ⟨2, ![4096, 1024]⟩
abbrev S1024x3080 : Shape := ⟨2, ![1024, 3080]⟩
abbrev S4096x3080 : Shape := ⟨2, ![4096, 3080]⟩
abbrev S4096x8 : Shape := ⟨2, ![4096, 8]⟩
abbrev S_ : Shape := ⟨0, ![]⟩
abbrev S4096x120 : Shape := ⟨2, ![4096, 120]⟩
abbrev S4096x128 : Shape := ⟨2, ![4096, 128]⟩
abbrev S4096x512 : Shape := ⟨2, ![4096, 512]⟩
abbrev S8x400x1024 : Shape := ⟨3, ![8, 400, 1024]⟩
abbrev S512x1024 : Shape := ⟨2, ![512, 1024]⟩
abbrev S512x512 : Shape := ⟨2, ![512, 512]⟩
abbrev S512x128 : Shape := ⟨2, ![512, 128]⟩
abbrev S1024x3200 : Shape := ⟨2, ![1024, 3200]⟩
abbrev S1024x512 : Shape := ⟨2, ![1024, 512]⟩
abbrev S1024x128 : Shape := ⟨2, ![1024, 128]⟩
abbrev S1024x385 : Shape := ⟨2, ![1024, 385]⟩
abbrev S1024x127 : Shape := ⟨2, ![1024, 127]⟩
abbrev S400x1024 : Shape := ⟨2, ![400, 1024]⟩
abbrev S1x400x1024 : Shape := ⟨3, ![1, 400, 1024]⟩
abbrev S1024x123 : Shape := ⟨2, ![1024, 123]⟩
abbrev S1024x8 : Shape := ⟨2, ![1024, 8]⟩
abbrev S1024x254 : Shape := ⟨2, ![1024, 254]⟩

abbrev nBuf : Space → Nat
  | .hbm => 22
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024x3080, .f32⟩
  | .hbm, ⟨2, _⟩ => ⟨S4096x3080, .f32⟩
  | .hbm, ⟨3, _⟩ => ⟨S4096x8, .f32⟩
  | .hbm, ⟨4, _⟩ => ⟨S_, .f32⟩
  | .hbm, ⟨5, _⟩ => ⟨S4096x120, .f32⟩
  | .hbm, ⟨6, _⟩ => ⟨S4096x128, .f32⟩
  | .hbm, ⟨7, _⟩ => ⟨S4096x128, .bf16⟩
  | .hbm, ⟨8, _⟩ => ⟨S4096x512, .f32⟩
  | .hbm, ⟨9, _⟩ => ⟨S4096x512, .bf16⟩
  | .hbm, ⟨10, _⟩ => ⟨S4096x512, .f32⟩
  | .hbm, ⟨11, _⟩ => ⟨S4096x512, .bf16⟩
  | .hbm, ⟨12, _⟩ => ⟨S4096x512, .f32⟩
  | .hbm, ⟨13, _⟩ => ⟨S4096x512, .bf16⟩
  | .hbm, ⟨14, _⟩ => ⟨S4096x512, .f32⟩
  | .hbm, ⟨15, _⟩ => ⟨S4096x512, .bf16⟩
  | .hbm, ⟨16, _⟩ => ⟨S4096x512, .f32⟩
  | .hbm, ⟨17, _⟩ => ⟨S4096x512, .bf16⟩
  | .hbm, ⟨18, _⟩ => ⟨S4096x512, .f32⟩
  | .hbm, ⟨19, _⟩ => ⟨S4096x512, .bf16⟩
  | .hbm, ⟨20, _⟩ => ⟨S4096x1024, .bf16⟩
  | .hbm, ⟨21, _⟩ => ⟨S8x400x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x128, .bf16⟩
  | .local _ .vmem, ⟨15, _⟩ => ⟨S512x128, .bf16⟩
  | .local _ .vmem, ⟨16, _⟩ => ⟨S8x400x1024, .bf16⟩
  | .local _ .vmem, ⟨17, _⟩ => ⟨S1024x3200, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v61 : BitVec 1 := Scalar.cmpi .eq arg0 c7_i32
  let v62 : BitVec 32 := Scalar.extui v61
  let c0_i32_44 : BitVec 32 := 0#32
  let v63 : BitVec 1 := Scalar.cmpi .ne v62 c0_i32_44
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x400x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== WeightGradIdeal.lean ====
abbrev S4096x1024 : Shape := ⟨2, ![4096, 1024]⟩
abbrev S1024x3080 : Shape := ⟨2, ![1024, 3080]⟩
abbrev S4096x3080 : Shape := ⟨2, ![4096, 3080]⟩
abbrev S3080x1024 : Shape := ⟨2, ![3080, 1024]⟩
abbrev S8x385x1024 : Shape := ⟨3, ![8, 385, 1024]⟩
abbrev S_ : Shape := ⟨0, ![]⟩
abbrev S8x15x1024 : Shape := ⟨3, ![8, 15, 1024]⟩
abbrev S8x400x1024 : Shape := ⟨3, ![8, 400, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3080, .f32⟩
  | .hbm, ⟨2, _⟩ => ⟨S4096x3080, .f32⟩
  | .hbm, ⟨3, _⟩ => ⟨S4096x3080, .f32⟩
  | .hbm, ⟨4, _⟩ => ⟨S3080x1024, .f32⟩
  | .hbm, ⟨5, _⟩ => ⟨S1024x3080, .f32⟩
  | .hbm, ⟨6, _⟩ => ⟨S3080x1024, .f32⟩
  | .hbm, ⟨7, _⟩ => ⟨S8x385x1024, .f32⟩
  | .hbm, ⟨8, _⟩ => ⟨S_, .f32⟩
  | .hbm, ⟨9, _⟩ => ⟨S8x15x1024, .f32⟩
  | .hbm, ⟨10, _⟩ => ⟨S8x400x1024, .f32⟩
  | .hbm, ⟨11, _⟩ => ⟨S8x400x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.MemKernel.lean ====
module

public import proofs.«01_k».proof.Proof.Gen.MemBwdIdeal.Value
public import Idealize.ShloMosaic.Lib.Pipeline.ValueKit
public import Idealize.ShloMosaic.Lib.Pipeline.ReadBack
public import Idealize.ShloMosaic.Lib.Pointwise

/-! What the memory backward kernel leaves in its three outputs, as sums over its six arguments.

`gain`, `lit64` and the like are the closed forms; the reference is read to the same forms in
`MemReference`. -/

@[expose] public section

set_option maxRecDepth 16384

noncomputable section

namespace Cert.MemSpec

open Idealize.ShloMosaic

abbrev Mat (a b : Nat) := Fin a → Fin b → EReal

/-- The epsilon of every norm. -/
abbrev eps : EReal := Ideal.ofBits FTy.f32 897988541#32

/-- A row's mean square plus the epsilon, `N` the row's length. -/
def ms {n : Nat} (N : EReal) (q : Fin n → EReal) : EReal := Ideal.div (∑ x, q x * q x) N + eps

/-- The normalised memory row, without its gain. -/
def unitRow (X : Mat 256 1024) (i : Fin 256) (k : Fin 1024) : EReal :=
  X i k * Ideal.rsqrt (ms (Ideal.ofBits FTy.f32 1149239296#32) (X i))

/-- Keys and values of the memory, side by side. -/
def kv (X : Mat 256 1024) (G : Fin 1024 → EReal) (W : Mat 1024 512) (i : Fin 256) (c : Fin 512) : EReal :=
  ∑ k, unitRow X i k * G k * W k c

/-- The number of lanes of a head. -/
abbrev lit64 : EReal := Ideal.ofBits FTy.f32 1115684864#32

/-- The gradient of one head's normalised row `q` with gain `g`, from the cotangent `d`, written out. -/
def headGrad (q g d : Fin 64 → EReal) (b : Fin 64) : EReal :=
  Ideal.rsqrt (ms lit64 q) *
    (d b * g b - q b * Ideal.rsqrt (ms lit64 q) *
      Ideal.div (∑ x, d x * g x * (q x * Ideal.rsqrt (ms lit64 q))) lit64)

/-- Head `h` of a row of four heads. -/
def head {n : Nat} (h : Fin 4) (hn : 256 ≤ n) (r : Fin n → EReal) (x : Fin 64) : EReal := r ⟨64 * h.val + x.val, by omega⟩

/-- The gradient of keys and values side by side. -/
def dkv (K : Mat 256 512) (g : Fin 64 → EReal) (DK DV : Mat 256 256) (i : Fin 256) (c : Fin 512) : EReal :=
  if h : c.val < 256 then headGrad (head ⟨c.val / 64, by omega⟩ (by omega) (K i)) g (head ⟨c.val / 64, by omega⟩ le_rfl (DK i)) ⟨c.val % 64, by omega⟩
  else DV i ⟨c.val - 256, by omega⟩

/-- The gradient of the weights. -/
def dw (X : Mat 256 1024) (G : Fin 1024 → EReal) (W : Mat 1024 512) (g : Fin 64 → EReal) (DK DV : Mat 256 256) (a : Fin 1024) (b : Fin 512) : EReal :=
  ∑ k, unitRow X k a * G a * dkv (kv X G W) g DK DV k b

/-- The gradient of the memory norm's gain. -/
def dg (X : Mat 256 1024) (G : Fin 1024 → EReal) (W : Mat 1024 512) (g : Fin 64 → EReal) (DK DV : Mat 256 256) (b : Fin 1024) : EReal :=
  ∑ x, (∑ c, dkv (kv X G W) g DK DV x c * W b c) * unitRow X x b

/-- The gradient of the key norm's gain. -/
def dgk (X : Mat 256 1024) (G : Fin 1024 → EReal) (W : Mat 1024 512) (DK : Mat 256 256) (b : Fin 64) : EReal :=
  ∑ i, ∑ h, head h le_rfl (DK i) b * (head h (by omega) (kv X G W i) b * Ideal.rsqrt (ms lit64 (head h (by omega) (kv X G W i))))

/-- An array of two axes as a matrix. -/
abbrev mat {a b : Nat} (X : Shape.Idx ⟨2, ![a, b]⟩ → EReal) : Mat a b := fun i j => X (ix2 i j)

/-- An array of one row as that row. -/
abbrev row {b : Nat} (X : Shape.Idx ⟨2, ![1, b]⟩ → EReal) : Fin b → EReal := fun j => X (ix2 0 j)

end Cert.MemSpec

namespace Cert.MemKernel

open Cert.MemBwdIdeal Cert.MemBwdIdeal.Gen Cert.MemSpec Idealize.ShloMosaic Idealize.ShloMosaic.TcCoe Idealize.SL.Sem
open Idealize.ShloMosaic.Pipeline (Dat)

/-! ## The payloads at an index -/

theorem unit_at (x0 : Vec Ideal S256x1024 .f32) (a : Fin 256) (b : Fin 1024) :
    k0_pay1 (F := Ideal) x0 (ix2 a b) = unitRow (mat x0) a b := by
  unfold_payloads
  pointwise
  rfl

theorem gained_at (x0 : Vec Ideal S256x1024 .f32) (x1 : Vec Ideal S1x1024 .f32) (a : Fin 256) (b : Fin 1024) :
    k0_pay2 (F := Ideal) x0 x1 (ix2 a b) = unitRow (mat x0) a b * row x1 b := by
  unfold_payloads
  pointwise
  rfl

theorem kv_at (x0 : Vec Ideal S256x1024 .f32) (x1 : Vec Ideal S1x1024 .f32) (x2 : Vec Ideal S1024x512 .bf16) (a : Fin 256) (b : Fin 512) :
    k0_pay3 (F := Ideal) x0 x1 x2 (ix2 a b) = kv (mat x0) (row x1) (mat x2) a b := by
  unfold_payloads
  pointwise
  rfl

theorem head0_at (x0 : Vec Ideal S256x1024 .f32) (x1 : Vec Ideal S1x1024 .f32) (x2 : Vec Ideal S1024x512 .bf16) (g : Vec Ideal S1x64 .f32) (d : Vec Ideal S256x64 .f32) (a : Fin 256) (b : Fin 64) :
    k0_pay10 (F := Ideal) (k0_pay6 x0 x1 x2) (k0_pay8 g d) (k0_pay9 x0 x1 x2 g d) (ix2 a b) =
      headGrad (head 0 (by omega) (mat (k0_pay3 x0 x1 x2) a)) (row g) (mat d a) b := by
  unfold k0_pay10 k0_pay9 k0_pay8 k0_pay7 k0_pay6 k0_pay5
  generalize k0_pay3 x0 x1 x2 = kv
  pointwise
  unfold headGrad ms head
  simp only [Fin.val_zero, Nat.mul_zero, Nat.zero_add]

theorem head1_at (kv : FVec Ideal S256x512 .f32) (g : Vec Ideal S1x64 .f32) (d : Vec Ideal S256x64 .f32) (a : Fin 256) (b : Fin 64) :
    k0_pay14 (F := Ideal) kv g d (ix2 a b) = headGrad (head 1 (by omega) (mat kv a)) (row g) (mat d a) b := by
  unfold_payloads
  pointwise
  rfl

theorem head2_at (kv : FVec Ideal S256x512 .f32) (g : Vec Ideal S1x64 .f32) (d : Vec Ideal S256x64 .f32) (a : Fin 256) (b : Fin 64) :
    k0_pay20 (F := Ideal) (k0_pay16 kv) (k0_pay17 kv) g d (ix2 a b) = headGrad (head 2 (by omega) (mat kv a)) (row g) (mat d a) b := by
  unfold_payloads
  pointwise
  rfl

theorem head3_at (kv : FVec Ideal S256x512 .f32) (g : Vec Ideal S1x64 .f32) (d : Vec Ideal S256x64 .f32) (a : Fin 256) (b : Fin 64) :
    k0_pay26 (F := Ideal) (k0_pay23 kv) (k0_pay24 kv) (k0_pay25 g d) (ix2 a b) = headGrad (head 3 (by omega) (mat kv a)) (row g) (mat d a) b := by
  unfold_payloads
  pointwise
  rfl

theorem values_at (d : Vec Ideal S256x256 .f32) (a : Fin 256) (b : Fin 256) : k0_pay27 (F := Ideal) d (ix2 a b) = mat d a b := by
  unfold_payloads
  pointwise

theorem dw_at (x0 : FVec Ideal S256x1024 .bf16) (x1 : Vec Ideal S256x512 .bf16) (a : Fin 1024) (b : Fin 512) :
    k0_pay29 (F := Ideal) x0 x1 (ix2 a b) = ∑ k, x0 (ix2 k a) * x1 (ix2 k b) := by
  unfold_payloads
  pointwise

theorem dg_at (x2 : Vec Ideal S1024x512 .bf16) (x0 : FVec Ideal S256x1024 .f32) (x1 : Vec Ideal S256x512 .bf16) (a : Fin 1) (b : Fin 1024) :
    k0_pay30 (F := Ideal) x0 x1 x2 (ix2 a b) = ∑ x, (∑ c, x1 (ix2 x c) * x2 (ix2 b c)) * x0 (ix2 x b) := by
  unfold_payloads
  pointwise

/-- The four heads' products with the normalised keys, summed over the rows. -/
theorem dgk_at (x0 : Vec Ideal S256x1024 .f32) (x1 : Vec Ideal S1x1024 .f32) (x2 : Vec Ideal S1024x512 .bf16)
    (d0 d1 d2 d3 : Vec Ideal S256x64 .f32) (a : Fin 1) (b : Fin 64) (kv : FVec Ideal S256x512 .f32) (hkv : k0_pay3 x0 x1 x2 = kv) :
    k0_pay28 (F := Ideal) (k0_pay21 (k0_pay15 kv k0_pay4 (k0_pay7 x0 x1 x2) d0 d1) (k0_pay16 kv) (k0_pay17 kv) d2) (k0_pay24 kv) d3 (ix2 a b) =
      ∑ i, ∑ h : Fin 4, (![d0, d1, d2, d3] h) (ix2 i b) *
        (head h (by omega) (mat kv i) b * Ideal.rsqrt (ms lit64 (head h (by omega) (mat kv i)))) := by
  unfold k0_pay7 k0_pay6 k0_pay5
  rw [hkv]
  unfold_payloads
  pointwise
  refine Finset.sum_congr rfl fun i _ => ?_
  rw [Fin.sum_univ_four]
  unfold ms head
  simp only [Ideal.ofBits, Fin.val_zero, Nat.mul_zero, Nat.zero_add]
  rfl

/-! ## The scratch the kernel gathers the keys' and values' gradient in -/

/-- Five stores, side by side, read back whole. -/
theorem scratch {sp : Space} (v : View sig .tc sp S256x512 .bf16) (W : Mat 256 512)
    (q1 : (Rect.unit (s := S256x512) ![0, 256] ![256, 256] inb_S256x512_S256x256_0_256).shape.Idx → EReal)
    (q2 : (Rect.unit (s := S256x512) ![0, 192] ![256, 64] inb_S256x512_S256x64_0_192).shape.Idx → EReal)
    (q3 : (Rect.unit (s := S256x512) ![0, 128] ![256, 64] inb_S256x512_S256x64_0_128).shape.Idx → EReal)
    (q4 : (Rect.unit (s := S256x512) ![0, 64] ![256, 64] inb_S256x512_S256x64_0_64).shape.Idx → EReal)
    (q5 : (Rect.unit (s := S256x512) ![0, 0] ![256, 64] inb_S256x512_S256x64_0_0).shape.Idx → EReal)
    (h1 : ∀ (a : Fin 256) (b : Fin 256), q1 (ix2 a b) = W a ⟨256 + b.val, by omega⟩)
    (h2 : ∀ (a : Fin 256) (b : Fin 64), q2 (ix2 a b) = W a ⟨192 + b.val, by omega⟩)
    (h3 : ∀ (a : Fin 256) (b : Fin 64), q3 (ix2 a b) = W a ⟨128 + b.val, by omega⟩)
    (h4 : ∀ (a : Fin 256) (b : Fin 64), q4 (ix2 a b) = W a ⟨64 + b.val, by omega⟩)
    (h5 : ∀ (a : Fin 256) (b : Fin 64), q5 (ix2 a b) = W a ⟨b.val, by omega⟩) (a : Fin 256) (b : Fin 512) :
    View.readCov (Val := Elt Ideal) v [⟨Rect.unit (s := S256x512) ![0, 256] ![256, 256] inb_S256x512_S256x256_0_256, q1⟩,
        ⟨Rect.unit (s := S256x512) ![0, 192] ![256, 64] inb_S256x512_S256x64_0_192, q2⟩,
        ⟨Rect.unit (s := S256x512) ![0, 128] ![256, 64] inb_S256x512_S256x64_0_128, q3⟩,
        ⟨Rect.unit (s := S256x512) ![0, 64] ![256, 64] inb_S256x512_S256x64_0_64, q4⟩,
        ⟨Rect.unit (s := S256x512) ![0, 0] ![256, 64] inb_S256x512_S256x64_0_0, q5⟩]
      (Rect.unit (s := S256x512) ![0, 0] ![256, 512] inb_S256x512_S256x512_0_0).toLoadRect (ix2 a b) = W a b := by
  rw [View.readCov_eq_canon']
  have cover : ∀ z : S256x512.Idx, ∃ p ∈ ([⟨Rect.unit (s := S256x512) ![0, 256] ![256, 256] inb_S256x512_S256x256_0_256, q1⟩,
        ⟨Rect.unit (s := S256x512) ![0, 192] ![256, 64] inb_S256x512_S256x64_0_192, q2⟩,
        ⟨Rect.unit (s := S256x512) ![0, 128] ![256, 64] inb_S256x512_S256x64_0_128, q3⟩,
        ⟨Rect.unit (s := S256x512) ![0, 64] ![256, 64] inb_S256x512_S256x64_0_64, q4⟩,
        ⟨Rect.unit (s := S256x512) ![0, 0] ![256, 64] inb_S256x512_S256x64_0_0, q5⟩] : List (View.Piece (Elt Ideal) S256x512 .bf16)), z ∈ p.1.set := by
    intro z
    have h0 : (z 0).val < 256 := (z 0).isLt
    have h1 : (z 1).val < 512 := (z 1).isLt
    simp [Rect.mem_set_unit]
    omega
  show View.canon _ _ = _
  generalize hy : (Rect.toLoadRect (Rect.unit (s := S256x512) ![0, 0] ![256, 512] inb_S256x512_S256x512_0_0)).idx (ix2 a b) = y
  have hy0 : (y 0).val = a.val := by subst hy; simp [LoadRect.idx]
  have hy1 : (y 1).val = b.val := by subst hy; simp [LoadRect.idx]
  canon_tiles z hz using cover y
  all_goals
    have ez := eq_ix2 z
    rw [ez]
  · exact (h1 (z 0) (z 1)).trans (congrArg₂ W (Fin.ext (by omega)) (Fin.ext (by simp only; omega)))
  · exact (h2 (z 0) (z 1)).trans (congrArg₂ W (Fin.ext (by omega)) (Fin.ext (by simp only; omega)))
  · exact (h3 (z 0) (z 1)).trans (congrArg₂ W (Fin.ext (by omega)) (Fin.ext (by simp only; omega)))
  · exact (h4 (z 0) (z 1)).trans (congrArg₂ W (Fin.ext (by omega)) (Fin.ext (by simp only; omega)))
  · exact (h5 (z 0) (z 1)).trans (congrArg₂ W (Fin.ext (by omega)) (Fin.ext (by simp only; omega)))

/-! ## The blocks and the outputs -/

variable (m : (ℓ : Loc nD τ sig) → Buf (Elt Ideal) ℓ)

theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] := by decide +kernel

theorem blk0 (c : Dev nD) (t : Fin cfg0.N) : iblk m c 0 t = m (c.tc.loc main_arg0) := by
  funext i
  blk_ext [iblk, V, idx t]

theorem blk1 (c : Dev nD) (t : Fin cfg0.N) : iblk m c 1 t = m (c.tc.loc main_arg1) := by
  funext i
  blk_ext [iblk, V, idx t]

theorem blk2 (c : Dev nD) (t : Fin cfg0.N) : iblk m c 2 t = m (c.tc.loc main_arg2) := by
  funext i
  blk_ext [iblk, V, idx t]

theorem blk3 (c : Dev nD) (t : Fin cfg0.N) : iblk m c 3 t = m (c.tc.loc main_arg3) := by
  funext i
  blk_ext [iblk, V, idx t]

theorem blk4 (c : Dev nD) (t : Fin cfg0.N) : iblk m c 4 t = m (c.tc.loc main_arg4) := by
  funext i
  blk_ext [iblk, V, idx t]

theorem blk5 (c : Dev nD) (t : Fin cfg0.N) : iblk m c 5 t = m (c.tc.loc main_arg5) := by
  funext i
  blk_ext [iblk, V, idx t]

/-- The closed forms at the kernel's arguments. -/
abbrev X (c : Dev nD) : Mat 256 1024 := mat (a := 256) (b := 1024) (m (c.tc.loc main_arg0))
abbrev G (c : Dev nD) : Fin 1024 → EReal := row (b := 1024) (m (c.tc.loc main_arg1))
abbrev W (c : Dev nD) : Mat 1024 512 := mat (a := 1024) (b := 512) (m (c.tc.loc main_arg2))
abbrev g (c : Dev nD) : Fin 64 → EReal := row (b := 64) (m (c.tc.loc main_arg3))
abbrev DK (c : Dev nD) : Mat 256 256 := mat (a := 256) (b := 256) (m (c.tc.loc main_arg4))
abbrev DV (c : Dev nD) : Mat 256 256 := mat (a := 256) (b := 256) (m (c.tc.loc main_arg5))

/-- A head's columns of the gradient of keys and values. -/
theorem dkv_head (K : Mat 256 512) (γ : Fin 64 → EReal) (dK dV : Mat 256 256) (i : Fin 256) (h : Fin 4) (b : Fin 64) (c : Fin 512)
    (hc : c.val = 64 * h.val + b.val) : dkv K γ dK dV i c = headGrad (head h (by omega) (K i)) γ (head h le_rfl (dK i)) b := by
  unfold dkv
  rw [dif_pos (by omega)]
  have e1 : (⟨c.val / 64, by omega⟩ : Fin 4) = h := Fin.ext (by simp only; omega)
  have e2 : (⟨c.val % 64, by omega⟩ : Fin 64) = b := Fin.ext (by simp only; omega)
  rw [e1, e2]

theorem kv_mat (x0 : Vec Ideal S256x1024 .f32) (x1 : Vec Ideal S1x1024 .f32) (x2 : Vec Ideal S1024x512 .bf16) :
    mat (k0_pay3 (F := Ideal) x0 x1 x2) = kv (mat x0) (row x1) (mat x2) :=
  funext fun _ => funext fun _ => kv_at ..

/-- A head's columns of the keys' cotangent. -/
theorem ld_head (D : S256x256.Idx → EReal) (o : Nat) (inb) (h : Fin 4) (ho : o = 64 * h.val) (a : Fin 256) :
    mat (a := 256) (b := 64) (View.ld (Val := Elt Ideal) (e' := .f32) D (Rect.unit (s := S256x256) ![0, o] ![256, 64] inb)) a = head h le_rfl (mat (a := 256) (b := 256) D a) := by
  funext x
  subst ho
  show D _ = D _
  congr 1
  idx_ext

/-- The scratch after its five stores is the gradient of keys and values. -/
theorem gathered {sp : Space} (v : View sig .tc sp S256x512 .bf16) (a : Fin 256) (b : Fin 512)
    (x0 : Vec Ideal S256x1024 .f32) (x1 : Vec Ideal S1x1024 .f32) (x2 : Vec Ideal S1024x512 .bf16) (x3 : Vec Ideal S1x64 .f32)
    (x4 x5 : Vec Ideal S256x256 .f32) :
    View.readCov (Val := Elt Ideal) v
      [⟨Rect.unit (s := S256x512) ![0, 256] ![256, 256] inb_S256x512_S256x256_0_256, k0_pay27 x5⟩,
        ⟨Rect.unit (s := S256x512) ![0, 192] ![256, 64] inb_S256x512_S256x64_0_192, k0_pay26 (k0_pay23 (k0_pay3 x0 x1 x2)) (k0_pay24 (k0_pay3 x0 x1 x2))
          (k0_pay25 x3 (View.ld (Val := Elt Ideal) (e' := .f32) x4 (Rect.unit (s := S256x256) ![0, 192] ![256, 64] inb_S256x256_S256x64_0_192)))⟩,
        ⟨Rect.unit (s := S256x512) ![0, 128] ![256, 64] inb_S256x512_S256x64_0_128, k0_pay20 (k0_pay16 (k0_pay3 x0 x1 x2)) (k0_pay17 (k0_pay3 x0 x1 x2)) x3
          (View.ld (Val := Elt Ideal) (e' := .f32) x4 (Rect.unit (s := S256x256) ![0, 128] ![256, 64] inb_S256x256_S256x64_0_128))⟩,
        ⟨Rect.unit (s := S256x512) ![0, 64] ![256, 64] inb_S256x512_S256x64_0_64, k0_pay14 (k0_pay3 x0 x1 x2) x3
          (View.ld (Val := Elt Ideal) (e' := .f32) x4 (Rect.unit (s := S256x256) ![0, 64] ![256, 64] inb_S256x256_S256x64_0_64))⟩,
        ⟨Rect.unit (s := S256x512) ![0, 0] ![256, 64] inb_S256x512_S256x64_0_0, k0_pay10 (k0_pay6 x0 x1 x2)
          (k0_pay8 x3 (View.ld (Val := Elt Ideal) (e' := .f32) x4 (Rect.unit (s := S256x256) ![0, 0] ![256, 64] inb_S256x256_S256x64_0_0)))
          (k0_pay9 x0 x1 x2 x3 (View.ld (Val := Elt Ideal) (e' := .f32) x4 (Rect.unit (s := S256x256) ![0, 0] ![256, 64] inb_S256x256_S256x64_0_0)))⟩]
      (Rect.unit (s := S256x512) ![0, 0] ![256, 512] inb_S256x512_S256x512_0_0).toLoadRect (ix2 a b) =
      dkv (kv (mat x0) (row x1) (mat x2)) (row x3) (mat x4) (mat x5) a b := by
  refine scratch _ _ _ _ _ _ _ ?_ ?_ ?_ ?_ ?_ a b
  · intro a b
    rw [values_at]
    unfold dkv
    rw [dif_neg (by simp only; omega)]
    exact congrArg _ (Fin.ext (by simp only; omega))
  · intro a b
    rw [head3_at, dkv_head _ _ _ _ _ 3 b _ rfl, kv_mat, ld_head _ 192 _ 3 rfl]
  · intro a b
    rw [head2_at, dkv_head _ _ _ _ _ 2 b _ rfl, kv_mat, ld_head _ 128 _ 2 rfl]
  · intro a b
    rw [head1_at, dkv_head _ _ _ _ _ 1 b _ rfl, kv_mat, ld_head _ 64 _ 1 rfl]
  · intro a b
    rw [head0_at, dkv_head _ _ _ _ _ 0 b _ (by simp), kv_mat, ld_head _ 0 _ 0 rfl]

theorem out_dw (c : Dev nD) (t : Fin cfg0.N) (a : Fin 1024) (b : Fin 512) :
    (outsAt0 m c t).1 (ix2 a b) = dw (X m c) (G m c) (W m c) (g m c) (DK m c) (DV m c) a b := by
  generalize hs : dw (X m c) (G m c) (W m c) (g m c) (DK m c) (DV m c) a b = s
  unfold outsAt0
  frame_out
  simp only [read_unread_whole]
  rw [blk0, blk1, blk2, blk3, blk4, blk5, dw_at, ← hs]
  refine Finset.sum_congr rfl fun k _ => ?_
  rw [gained_at]
  exact congrArg _ (gathered ..)

theorem out_dg (c : Dev nD) (t : Fin cfg0.N) (a : Fin 1) (b : Fin 1024) :
    (outsAt0 m c t).2.1 (ix2 a b) = dg (X m c) (G m c) (W m c) (g m c) (DK m c) (DV m c) b := by
  generalize hs : dg (X m c) (G m c) (W m c) (g m c) (DK m c) (DV m c) b = s
  unfold outsAt0
  frame_out
  simp only [read_unread_whole]
  rw [blk0, blk1, blk2, blk3, blk4, blk5, dg_at, ← hs]
  refine Finset.sum_congr rfl fun x _ => ?_
  rw [unit_at]
  refine congrArg (· * _) (Finset.sum_congr rfl fun y _ => ?_)
  exact congrArg (· * _) (gathered ..)

theorem out_dgk (c : Dev nD) (t : Fin cfg0.N) (a : Fin 1) (b : Fin 64) :
    (outsAt0 m c t).2.2 (ix2 a b) = dgk (X m c) (G m c) (W m c) (DK m c) b := by
  generalize hs : dgk (X m c) (G m c) (W m c) (DK m c) b = s
  unfold outsAt0
  frame_out
  simp only [read_unread_whole]
  rw [blk0, blk1, blk2, blk4, dgk_at _ _ _ _ _ _ _ _ _ _ rfl, ← hs]
  refine Finset.sum_congr rfl fun i _ => Finset.sum_congr rfl fun h _ => ?_
  rw [kv_mat]
  congr 1
  fin_cases h
  · exact congrFun (ld_head _ 0 _ 0 rfl i) b
  · exact congrFun (ld_head _ 64 _ 1 rfl i) b
  · exact congrFun (ld_head _ 128 _ 2 rfl i) b
  · exact congrFun (ld_head _ 192 _ 3 rfl i) b

theorem idxO : ∀ t : Fin grid0.N, win0_6.index t = ![0, 0] ∧ win0_7.index t = ![0, 0] ∧ win0_8.index t = ![0, 0] := by decide +kernel

/-- The three arrays after the run. -/
theorem arr_dw (c : Dev nD) : (dats m 0 c).arrAt 6 cfg0.N = fun i : S1024x512.Idx => dw (X m c) (G m c) (W m c) (g m c) (DK m c) (DV m c) (i 0) (i 1) := by
  refine (dats m 0 c).arrAt_eq_of_covers 6 _ (by decide +kernel) fun t hf y => ?_
  blk_simp
  rw [after0_6]
  have e : (win0_6.blk t).view.emb y = y := by blk_ext [idxO t]
  rw [e, eq_ix2 (f := y)]
  exact out_dw m c t (y 0) (y 1)

theorem arr_dg (c : Dev nD) : (dats m 0 c).arrAt 7 cfg0.N = fun i : S1x1024.Idx => dg (X m c) (G m c) (W m c) (g m c) (DK m c) (DV m c) (i 1) := by
  refine (dats m 0 c).arrAt_eq_of_covers 7 _ (by decide +kernel) fun t hf y => ?_
  blk_simp
  rw [after0_7]
  have e : (win0_7.blk t).view.emb y = y := by blk_ext [idxO t]
  rw [e, eq_ix2 (f := y)]
  exact out_dg m c t (y 0) (y 1)

theorem arr_dgk (c : Dev nD) : (dats m 0 c).arrAt 8 cfg0.N = fun i : S1x64.Idx => dgk (X m c) (G m c) (W m c) (DK m c) (i 1) := by
  refine (dats m 0 c).arrAt_eq_of_covers 8 _ (by decide +kernel) fun t hf y => ?_
  blk_simp
  rw [after0_8]
  have e : (win0_8.blk t).view.emb y = y := by blk_ext [idxO t]
  rw [e, eq_ix2 (f := y)]
  exact out_dgk m c t (y 0) (y 1)

end Cert.MemKernel
-- ==== Proof.RmsGrad.lean ====
module

public import Idealize.ShloMosaic.PureOps.Ideal
public import Idealize.ShloMosaic.PureOps.Ideal.Laws
public import Mathlib.Data.EReal.Operations

/-! The gradient of an RMS normalisation, over the extended reals.

With `v` the mean square plus the epsilon and `r = rsqrt v`, a row `x` is normalised to `x·r`. The
gradient with respect to the row is written two ways: by hand as `r·(d - (x·r)·mean (d·(x·r)))`, and
by differentiating the two uses of `x`, as `d·r + x·w + w·x` with `w` the gradient that flows back
through the mean square. The two are one value at every positive `v`, infinite or not. -/

@[expose] public section

noncomputable section

namespace Cert.RmsGrad

open Idealize.ShloMosaic

/-- A real factor that is not negative goes into a sum of extended reals. -/
theorem coe_mul_sum {ι : Type*} (s : Finset ι) (f : ι → EReal) (c : ℝ) (hc : 0 ≤ c) :
    (c : EReal) * ∑ k ∈ s, f k = ∑ k ∈ s, (c : EReal) * f k := by
  classical
  induction s using Finset.induction_on with
  | empty => simp
  | insert a s ha ih =>
    rw [Finset.sum_insert ha, Finset.sum_insert ha, ← ih,
      EReal.left_distrib_of_nonneg_of_ne_top (by exact_mod_cast hc) (EReal.coe_ne_top c)]

/-- A real factor that is not negative goes into a difference of extended reals. -/
theorem coe_mul_sub (a b : EReal) (c : ℝ) (hc : 0 ≤ c) :
    (c : EReal) * (a - b) = c * a - c * b := by
  rw [sub_eq_add_neg, EReal.left_distrib_of_nonneg_of_ne_top (by exact_mod_cast hc) (EReal.coe_ne_top c),
    mul_neg, ← sub_eq_add_neg]

/-- Twice a half of a real multiple is the multiple. -/
theorem add_halves (y : EReal) (q : ℝ) (hq : 0 ≤ q) :
    y * ((-q : ℝ) : EReal) + y * ((-q : ℝ) : EReal) = -(y * ((2 * q : ℝ) : EReal)) := by
  have h : ∀ z : EReal, z * ((2 * q : ℝ) : EReal) = z * (q : EReal) + z * (q : EReal) := fun z => by
    rw [mul_comm z, mul_comm z, ← EReal.right_distrib_of_nonneg (by exact_mod_cast hq) (by exact_mod_cast hq),
      ← EReal.coe_add, two_mul]
  rw [← neg_mul y, h (-y), EReal.coe_neg, mul_neg, neg_mul]

/-- What flows back to the row through its mean square. -/
def back (N v T : EReal) : EReal :=
  Ideal.div (T * (((-(1 / 2) : ℝ) : EReal) * Ideal.div (Ideal.rsqrt v) v)) N

/-- The two writings of the gradient of an RMS normalisation are one value. -/
theorem grad_eq {ι : Type*} (s : Finset ι) (n : ℝ) (hn : 0 < n) (v : EReal) (hv : 0 < v) (x d : ι → EReal) (j : ι) :
    Ideal.rsqrt v * (d j - x j * Ideal.rsqrt v * Ideal.div (∑ k ∈ s, d k * (x k * Ideal.rsqrt v)) n) =
      d j * Ideal.rsqrt v + x j * back n v (∑ k ∈ s, x k * d k) + back n v (∑ k ∈ s, x k * d k) * x j := by
  induction v using EReal.rec with
  | bot => exact absurd hv (by simp)
  | top =>
    have h0 : Ideal.div 0 (⊤ : EReal) = 0 := by simp [Ideal.div]
    have hb : ∀ T, back n ⊤ T = 0 := fun T => by
      unfold back
      rw [Ideal.rsqrt_top, h0, mul_zero, mul_zero, Ideal.div_coe hn.ne', zero_mul]
    simp only [Ideal.rsqrt_top, hb, zero_mul, mul_zero, add_zero]
  | coe v =>
    have hv' : 0 < v := by exact_mod_cast hv
    obtain ⟨ρ, hρ, hr⟩ : ∃ ρ : ℝ, 0 < ρ ∧ Ideal.rsqrt (v : EReal) = (ρ : EReal) :=
      ⟨(Real.sqrt v)⁻¹, by positivity, by
        rw [Ideal.rsqrt_coe, if_neg (not_lt.mpr hv'.le), if_neg hv'.ne']⟩
    have hS : ∑ k ∈ s, d k * (x k * (ρ : EReal)) = (ρ : EReal) * ∑ k ∈ s, x k * d k := by
      rw [coe_mul_sum s _ ρ hρ.le]
      exact Finset.sum_congr rfl fun k _ => by ac_rfl
    have hρv : ρ * (1 / v) = ρ ^ 3 := by
      have : ρ = (Real.sqrt v)⁻¹ := by
        have h2 : Ideal.rsqrt (v : EReal) = (((Real.sqrt v)⁻¹ : ℝ) : EReal) := by
          rw [Ideal.rsqrt_coe, if_neg (not_lt.mpr hv'.le), if_neg hv'.ne']
        exact_mod_cast hr.symm.trans h2
      have h3 : ρ ^ 2 = 1 / v := by
        rw [this, inv_pow, Real.sq_sqrt hv'.le, one_div]
      rw [← h3]; ring
    have hb : ∀ T, back n v T = T * ((-(ρ ^ 3 / n / 2) : ℝ) : EReal) := fun T => by
      unfold back
      rw [hr, Ideal.div_coe hv'.ne', Ideal.div_coe hn.ne', ← EReal.coe_mul, ← EReal.coe_mul, mul_assoc, ← EReal.coe_mul]
      congr 2
      rw [hρv]; ring
    rw [hr, hb, hS, Ideal.div_coe hn.ne', coe_mul_sub _ _ ρ hρ.le, mul_comm _ (x j), ← mul_assoc (x j), add_assoc,
      add_halves _ _ (by positivity), ← sub_eq_add_neg, mul_comm (ρ : EReal) (d j)]
    congr 1
    have e : (2 * (ρ ^ 3 / n / 2) : ℝ) = ρ * ρ * ρ * (1 / n) := by ring
    rw [e, EReal.coe_mul, EReal.coe_mul, EReal.coe_mul]
    ac_rfl

end Cert.RmsGrad
-- ==== Proof.HostSums.lean ====
module

public import Idealize.ShloMosaic.Lib.Pointwise

/-! Host sums over the two leading axes of an array of three. -/

@[expose] public section

namespace Cert.HostSums

open Idealize.ShloMosaic

variable {n0 n1 n2 : Nat}

/-- A host sum over the two leading axes of three, at an index. -/
theorem leading (h : (⟨3, ![n0, n1, n2]⟩ : Shape).ReducesTo [0, 1] ⟨1, ![n2]⟩) (v : (⟨3, ![n0, n1, n2]⟩ : Shape).Idx → EReal)
    (init : EReal) (b : Fin n2) :
    Ideal.hostReduceAdd h v init (ix1 b) = init + ∑ p, ∑ q, v (ix3 p q b) := by
  unfold Ideal.hostReduceAdd
  congr 1
  rw [← Fintype.sum_prod_type']
  have key : ∀ i : (⟨3, ![n0, n1, n2]⟩ : Shape).Idx, h.drop i = ix1 b ↔ i 2 = b := fun i => by
    have e : (h.drop i 0 : Nat) = i 2 := h.drop_apply_val i 0
    constructor
    · intro hd
      exact Fin.ext (e.symm.trans (by rw [hd]; rfl))
    · intro hd
      funext k
      obtain rfl : k = 0 := Subsingleton.elim _ _
      exact Fin.ext (e.trans (by rw [hd]; rfl))
  refine Finset.sum_nbij' (fun i => (i 0, i 1)) (fun p => ix3 p.1 p.2 b) ?_ ?_ ?_ ?_ ?_
  · intro i _; exact Finset.mem_univ _
  · intro p _
    exact Finset.mem_filter.mpr ⟨Finset.mem_univ _, (key _).mpr rfl⟩
  · intro i hi
    have := (key i).mp (Finset.mem_filter.mp hi).2
    subst this
    exact (eq_ix3 i).symm
  · intro p _; rfl
  · intro i hi
    have := (key i).mp (Finset.mem_filter.mp hi).2
    subst this
    exact congrArg v (eq_ix3 i)

end Cert.HostSums
-- ==== Proof.MemReference.lean ====
module

public import proofs.«01_k».proof.Defs
public import proofs.«01_k».proof.Proof.MemKernel
public import proofs.«01_k».proof.Proof.RmsGrad
public import proofs.«01_k».proof.Proof.HostSums
public import proofs.«01_k».proof.Proof.Gen.MemGradIdeal.Read
public import proofs.«01_k».proof.Proof.Gen.MemBwdIdeal.Value

/-! The reference of the memory backward kernel, read to the closed forms of `MemSpec`.

The reference differentiates the two norms; the kernel has their gradients written out. The one step
that is more than reading is `RmsGrad.grad_eq`. -/

@[expose] public section

set_option maxRecDepth 16384

noncomputable section

namespace Cert.MemReference

open Cert.MemGradIdeal Cert.MemGradIdeal.Read Cert.MemSpec Idealize.ShloMosaic Idealize.ShloMosaic.TcCoe Idealize.SL.Sem

/-! ## Literals and signs -/

theorem lit64_eq : lit64 = ((64 : ℝ) : EReal) := by
  simp [lit64, Ideal.ofBits, Ideal.ieee]
  rw [← EReal.coe_mul]
  norm_num

theorem half_eq : Ideal.ofBits FTy.f32 3204448256#32 = ((-(1 / 2) : ℝ) : EReal) := by
  simp [Ideal.ofBits, Ideal.ieee]
  rw [← EReal.coe_mul]
  norm_num

theorem zero_eq : Ideal.ofBits FTy.f32 0#32 = 0 := by
  simp [Ideal.ofBits, Ideal.ieee]

theorem eps_pos : 0 < eps := by
  simp [eps, Ideal.ofBits, Ideal.ieee]
  rw [← EReal.coe_mul]
  exact EReal.coe_pos.2 (by positivity)

theorem sq_nonneg (q : EReal) : 0 ≤ q * q := by
  rcases le_total 0 q with h | h
  · exact mul_nonneg h h
  · rw [← neg_mul_neg]
    have : 0 ≤ -q := by rwa [EReal.le_neg, neg_zero]
    exact mul_nonneg this this

theorem ms_pos {n : Nat} (q : Fin n → EReal) : 0 < ms lit64 q := by
  unfold ms
  rw [lit64_eq, Ideal.div_coe (by norm_num)]
  refine lt_of_lt_of_le eps_pos (le_add_of_nonneg_left (mul_nonneg (Finset.sum_nonneg fun k _ => sq_nonneg _) ?_))
  exact_mod_cast (by norm_num : (0 : ℝ) ≤ 1 / 64)

/-- A head's gradient, the norm differentiated. -/
theorem headGrad_eq (q g d : Fin 64 → EReal) (b : Fin 64) :
    headGrad q g d b = d b * g b * Ideal.rsqrt (ms lit64 q) + q b * RmsGrad.back lit64 (ms lit64 q) (∑ x, q x * (d x * g x)) +
      RmsGrad.back lit64 (ms lit64 q) (∑ x, q x * (d x * g x)) * q b := by
  have h := RmsGrad.grad_eq (Finset.univ : Finset (Fin 64)) 64 (by norm_num) (ms lit64 q) (ms_pos q) q (fun x => d x * g x) b
  unfold headGrad
  rw [← lit64_eq] at h
  exact h

/-! ## The reference's stages -/

variable (x0 : (⟨S256x1024, .f32⟩ : BufTy).Contents (Elt Ideal)) (x1 : (⟨S1x1024, .f32⟩ : BufTy).Contents (Elt Ideal))
  (x2 : (⟨S1024x512, .bf16⟩ : BufTy).Contents (Elt Ideal)) (x3 : (⟨S1x64, .f32⟩ : BufTy).Contents (Elt Ideal))
  (x4 x5 : (⟨S256x256, .f32⟩ : BufTy).Contents (Elt Ideal))

theorem unit_at (a : Fin 256) (b : Fin 1024) : val_main_v11 (F := Ideal) x0 (ix2 a b) = unitRow (mat x0) a b := by
  unfold val_main_v11 val_main_v10 val_main_v9 val_main_v8 val_main_v7 val_main_v6 val_main_v5 val_main_v4 val_main_v3 val_main_v2
    val_main_cst val_main_cst_0 val_main_cst_1
  pointwise
  rfl

theorem gained_at (a : Fin 256) (b : Fin 1024) : val_main_v14 (F := Ideal) x0 x1 (ix2 a b) = unitRow (mat x0) a b * row x1 b := by
  unfold val_main_v14 val_main_v13 val_main_v12 val_main_v1
  pointwise
  rw [unit_at]

theorem kv_at (a : Fin 256) (b : Fin 512) : val_main_v15 (F := Ideal) x0 x1 x2 (ix2 a b) = kv (mat x0) (row x1) (mat x2) a b := by
  unfold val_main_v15 val_main_v0
  pointwise
  exact Finset.sum_congr rfl fun k _ => by rw [gained_at]

theorem head_ix (K : Fin 256 → EReal) (h : Fin 4) (b : Fin 64) (p) : K ⟨h.val * 64 + b.val, p⟩ = head h le_rfl K b :=
  congrArg K (Fin.ext (by simp only [Nat.mul_comm]))

theorem head_ix' (K : Fin 512 → EReal) (h : Fin 4) (b : Fin 64) (p) : K ⟨h.val * 64 + b.val, p⟩ = head h (by omega) K b :=
  congrArg K (Fin.ext (by simp only [Nat.mul_comm]))

theorem key_at (a : Fin 256) (h : Fin 4) (b : Fin 64) :
    val_main_v58 (F := Ideal) x0 x1 x2 x3 x4 (ix3 a h b) =
      headGrad (head h (by omega) (kv (mat x0) (row x1) (mat x2) a)) (row x3) (head h le_rfl (mat x4 a)) b := by
  have hK : mat (a := 256) (b := 512) (val_main_v15 (F := Ideal) x0 x1 x2) = kv (mat x0) (row x1) (mat x2) :=
    funext fun _ => funext fun _ => kv_at ..
  rw [headGrad_eq, ← hK]
  unfold val_main_v58 val_main_v57 val_main_v56 val_main_v55 val_main_v54 val_main_v53 val_main_v52 val_main_v50 val_main_v49 val_main_v51
    val_main_v48 val_main_v47 val_main_v46 val_main_v45 val_main_v43 val_main_v42 val_main_v38 val_main_v32 val_main_v18
    val_main_v29 val_main_v28 val_main_v27 val_main_v26 val_main_v25 val_main_v24 val_main_v23 val_main_v22 val_main_v21 val_main_v20
    val_main_v19 val_main_v17 val_main_v16 val_main_cst_2 val_main_cst_3 val_main_cst_4 val_main_cst_5 val_main_cst_9 val_main_cst_10 val_main_cst_11
  generalize val_main_v15 (F := Ideal) x0 x1 x2 = K
  pointwise
  simp only [zero_eq, zero_add, half_eq, Finset.univ_unique, Finset.sum_singleton]
  have e1 : ∀ (x : Fin 64) p, K (ix2 a ⟨h.val * 64 + x.val, p⟩) = head h (by omega) (mat (a := 256) (b := 512) K a) x := fun x p => head_ix' (mat (a := 256) (b := 512) K a) h x p
  have e2 : ∀ (x : Fin 64) p, x4 (ix2 a ⟨h.val * 64 + x.val, p⟩) = head h le_rfl (mat (a := 256) (b := 256) x4 a) x := fun x p => head_ix (mat (a := 256) (b := 256) x4 a) h x p
  simp only [e1, e2]
  rfl

theorem dkv_at (a : Fin 256) (b : Fin 512) :
    val_main_v62 (F := Ideal) x0 x1 x2 x3 x4 x5 (ix2 a b) = dkv (kv (mat x0) (row x1) (mat x2)) (row x3) (mat x4) (mat x5) a b := by
  unfold val_main_v62 val_main_v61 val_main_v60 val_main_v37 val_main_cst_6 val_main_cst_12
  pointwise
  unfold dkv
  by_cases hb : b.val < 256
  · have h2 : ¬ (256 ≤ b.val ∧ b.val - 256 < 256) := by omega
    simp only [dif_pos hb, dif_neg h2]
    rw [key_at, zero_add]
  · have h2 : 256 ≤ b.val ∧ b.val - 256 < 256 := by omega
    simp only [dif_neg hb, dif_pos h2, add_zero]

theorem dgk_at (b : Fin 64) : val_main_v59 (F := Ideal) x0 x1 x2 x4 (ix2 0 b) = dgk (mat x0) (row x1) (mat x2) (mat x4) b := by
  have hK : mat (a := 256) (b := 512) (val_main_v15 (F := Ideal) x0 x1 x2) = kv (mat x0) (row x1) (mat x2) :=
    funext fun _ => funext fun _ => kv_at ..
  unfold val_main_v59 val_main_v44 val_main_v41 val_main_v40 val_main_cst_7 val_main_cst_8
  pointwise
  rw [HostSums.leading]
  pointwise
  simp only [Host.reduceAdd, Ideal.hostReduceAdd_def, HostSums.leading]
  unfold val_main_v39 val_main_v38 val_main_v31 val_main_v30 val_main_v26 val_main_v25 val_main_v24 val_main_v23 val_main_v22 val_main_v21 val_main_v20
    val_main_v19 val_main_v17 val_main_v16 val_main_cst_2 val_main_cst_3 val_main_cst_4
  unfold dgk
  rw [← hK]
  generalize val_main_v15 (F := Ideal) x0 x1 x2 = K
  pointwise
  simp only [Finset.univ_unique, Finset.sum_singleton]
  refine Finset.sum_congr rfl fun i _ => Finset.sum_congr rfl fun h _ => ?_
  have e1 : ∀ (x : Fin 64) p, K (ix2 i ⟨h.val * 64 + x.val, p⟩) = head h (by omega) (mat (a := 256) (b := 512) K i) x := fun x p => head_ix' (mat (a := 256) (b := 512) K i) h x p
  have e2 : ∀ (x : Fin 64) p, x4 (ix2 i ⟨h.val * 64 + x.val, p⟩) = head h le_rfl (mat (a := 256) (b := 256) x4 i) x := fun x p => head_ix (mat (a := 256) (b := 256) x4 i) h x p
  simp only [e1, e2]
  rw [mul_comm]
  rfl

theorem dw_at (a : Fin 1024) (b : Fin 512) : val_main_v71 (F := Ideal) x0 x1 x2 x3 x4 x5 (ix2 a b) = dw (mat x0) (row x1) (mat x2) (row x3) (mat x4) (mat x5) a b := by
  unfold val_main_v71 val_main_v64 val_main_v63
  pointwise
  exact Finset.sum_congr rfl fun k _ => by rw [dkv_at, gained_at, mul_comm]

theorem dg_at (b : Fin 1024) : val_main_v70 (F := Ideal) x0 x1 x2 x3 x4 x5 (ix2 0 b) = dg (mat x0) (row x1) (mat x2) (row x3) (mat x4) (mat x5) b := by
  unfold val_main_v70 val_main_v69 val_main_v68 val_main_v67 val_main_v66 val_main_v65 val_main_v0 val_main_cst_13 val_main_cst_14
  pointwise
  simp only [zero_eq, zero_add, Finset.univ_unique, Finset.sum_singleton]
  exact Finset.sum_congr rfl fun k _ => by
    rw [unit_at, mul_comm]
    exact congrArg (· * _) (Finset.sum_congr rfl fun y _ => by rw [dkv_at])

/-! ## The pair -/

/-- Both programs, from the same arguments, end with the three gradients of `MemSpec`. -/
theorem algebraic : Cert.algebraic_MemBwdIdeal_MemGradIdeal := by
  intro m g m' g' _ hm
  refine ⟨fun c => fun i : S1024x512.Idx => dw (MemKernel.X m c) (MemKernel.G m c) (MemKernel.W m c) (MemKernel.g m c) (MemKernel.DK m c) (MemKernel.DV m c) (i 0) (i 1),
    fun c => fun i : S1x1024.Idx => dg (MemKernel.X m c) (MemKernel.G m c) (MemKernel.W m c) (MemKernel.g m c) (MemKernel.DK m c) (MemKernel.DV m c) (i 1),
    fun c => fun i : S1x64.Idx => dgk (MemKernel.X m c) (MemKernel.G m c) (MemKernel.W m c) (MemKernel.DK m c) (i 1), ?_, ?_⟩
  · refine (θ_run Cert.MemBwdIdeal.defs _ _).mono (fun r h c => ?_) (Cert.MemBwdIdeal.Value.run_blocks (F := Ideal) m g)
    obtain ⟨h0, h1, h2, rest⟩ := h c
    exact ⟨h0.trans (MemKernel.arr_dw m c), h1.trans (MemKernel.arr_dg m c), h2.trans (MemKernel.arr_dgk m c), rest⟩
  · refine (θ_run defs _ _).mono (fun r h c => ?_) (Cert.MemGradIdeal.Value.run (F := Ideal) m' g')
    obtain ⟨h0, h1, h2, rest⟩ := h c
    obtain ⟨a0, a1, a2, a3, a4, a5⟩ := hm c
    refine ⟨h0.trans ?_, h1.trans ?_, h2.trans ?_, rest⟩
    · rw [val_main_v71_eq, a0, a1, a2, a3, a4, a5]
      funext i
      rw [eq_ix2 i]
      exact dw_at ..
    · rw [val_main_v70_eq, a0, a1, a2, a3, a4, a5]
      funext i
      rw [eq_ix2 i, show i 0 = (0 : Fin 1) from Subsingleton.elim (α := Fin 1) _ _]
      exact dg_at ..
    · rw [val_main_v59_eq, a0, a1, a2, a4]
      funext i
      rw [eq_ix2 i, show i 0 = (0 : Fin 1) from Subsingleton.elim (α := Fin 1) _ _]
      exact dgk_at ..

/-- The reference's frame: its run keeps the arguments, and it has no semaphore. -/
theorem frame : Cert.quiescent_MemGradIdeal := fun m g _ =>
  (θ_run defs _ _).mono (fun _ h => ⟨fun c => (h c).2.2.2, funext fun s => nomatch s⟩) (Cert.MemGradIdeal.Value.run (F := Ideal) m g)

end Cert.MemReference
-- ==== Proof.FoxBase.lean ====
module

public import proofs.«01_k».proof.Defs
public import proofs.«01_k».proof.Proof.Gen.FoxBwdIdeal.Launch
public import proofs.«01_k».proof.Proof.Gen.FoxBwdIdeal.Skeleton
public import proofs.«01_k».proof.Proof.Gen.FoxBwdIdeal.Loops
public import proofs.«01_k».proof.Proof.Gen.FoxBwdIdeal.Points
public import proofs.«01_k».proof.Proof.Gen.FoxBwdIdeal.Frame
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Fox

open Cert.FoxBwdIdeal Cert.FoxBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ
abbrev 𝒱₀ : Variants := Variants.none

/-- A box of a buffer, as a buffer of its own. -/
def sub {sp} {s : Shape} {e : EltTy} (m : Memref sig .tc sp s e) (r : Rect s) (hr : ∀ a, r.stride a = 1) : Memref sig .tc sp r.shape e := m.slice r hr

/-- The semaphore of transfer `n` in an array of sixteen. -/
def cell (a : DmaSems sig S16) (n : Fin 16) : DmaSems sig S_ :=
  (a.slice (Rect.unit (s := S16) ![n.val] S1.size (fun d => by have := n.isLt; fin_cases d; show n.val + 1 ≤ 16; omega))).squeeze S_ squeezes_S1_S_

@[sl_canon] theorem cellL0 (a : DmaSems sig S16) (h) : (a.slice (Rect.unit (s := S16) ![0] S1.size h)).squeeze S_ squeezes_S1_S_ = cell a 0 := rfl
@[sl_canon] theorem cellL1 (a : DmaSems sig S16) (h) : (a.slice (Rect.unit (s := S16) ![1] S1.size h)).squeeze S_ squeezes_S1_S_ = cell a 1 := rfl
@[sl_canon] theorem cellL2 (a : DmaSems sig S16) (h) : (a.slice (Rect.unit (s := S16) ![2] S1.size h)).squeeze S_ squeezes_S1_S_ = cell a 2 := rfl
@[sl_canon] theorem cellL3 (a : DmaSems sig S16) (h) : (a.slice (Rect.unit (s := S16) ![3] S1.size h)).squeeze S_ squeezes_S1_S_ = cell a 3 := rfl
@[sl_canon] theorem cellL4 (a : DmaSems sig S16) (h) : (a.slice (Rect.unit (s := S16) ![4] S1.size h)).squeeze S_ squeezes_S1_S_ = cell a 4 := rfl
@[sl_canon] theorem cellL5 (a : DmaSems sig S16) (h) : (a.slice (Rect.unit (s := S16) ![5] S1.size h)).squeeze S_ squeezes_S1_S_ = cell a 5 := rfl
@[sl_canon] theorem cellL6 (a : DmaSems sig S16) (h) : (a.slice (Rect.unit (s := S16) ![6] S1.size h)).squeeze S_ squeezes_S1_S_ = cell a 6 := rfl
@[sl_canon] theorem cellL7 (a : DmaSems sig S16) (h) : (a.slice (Rect.unit (s := S16) ![7] S1.size h)).squeeze S_ squeezes_S1_S_ = cell a 7 := rfl
@[sl_canon] theorem cellL8 (a : DmaSems sig S16) (h) : (a.slice (Rect.unit (s := S16) ![8] S1.size h)).squeeze S_ squeezes_S1_S_ = cell a 8 := rfl
@[sl_canon] theorem cellL9 (a : DmaSems sig S16) (h) : (a.slice (Rect.unit (s := S16) ![9] S1.size h)).squeeze S_ squeezes_S1_S_ = cell a 9 := rfl
@[sl_canon] theorem cellL10 (a : DmaSems sig S16) (h) : (a.slice (Rect.unit (s := S16) ![10] S1.size h)).squeeze S_ squeezes_S1_S_ = cell a 10 := rfl
@[sl_canon] theorem cellL11 (a : DmaSems sig S16) (h) : (a.slice (Rect.unit (s := S16) ![11] S1.size h)).squeeze S_ squeezes_S1_S_ = cell a 11 := rfl
@[sl_canon] theorem cellL12 (a : DmaSems sig S16) (h) : (a.slice (Rect.unit (s := S16) ![12] S1.size h)).squeeze S_ squeezes_S1_S_ = cell a 12 := rfl
@[sl_canon] theorem cellL13 (a : DmaSems sig S16) (h) : (a.slice (Rect.unit (s := S16) ![13] S1.size h)).squeeze S_ squeezes_S1_S_ = cell a 13 := rfl
@[sl_canon] theorem cellL14 (a : DmaSems sig S16) (h) : (a.slice (Rect.unit (s := S16) ![14] S1.size h)).squeeze S_ squeezes_S1_S_ = cell a 14 := rfl
@[sl_canon] theorem cellL15 (a : DmaSems sig S16) (h) : (a.slice (Rect.unit (s := S16) ![15] S1.size h)).squeeze S_ squeezes_S1_S_ = cell a 15 := rfl

/-- Rows `256 n` to `256 n + 255` of every head. -/
def rowsQ (n : Fin 16) : Rect S8x4096x128 := Rect.unit (s := S8x4096x128) ![0, 256 * n.val, 0] S8x256x128.size
  (fun d => by have := n.isLt; fin_cases d <;> simp [S8x4096x128, S8x256x128, Shape.size] <;> omega)
def rowsD (n : Fin 16) : Rect S8x4096x64 := Rect.unit (s := S8x4096x64) ![0, 256 * n.val, 0] S8x256x64.size
  (fun d => by have := n.isLt; fin_cases d <;> simp [S8x4096x64, S8x256x64, Shape.size] <;> omega)

def tq {sp} (m : Memref sig .tc sp S8x4096x128 .bf16) (n : Fin 16) : Memref sig .tc sp S8x256x128 .bf16 := m.slice (rowsQ n) (fun _ => rfl)
def td {sp} (m : Memref sig .tc sp S8x4096x64 .bf16) (n : Fin 16) : Memref sig .tc sp S8x256x64 .bf16 := m.slice (rowsD n) (fun _ => rfl)

@[sl_canon] theorem tqL0 {sp} (m : Memref sig .tc sp S8x4096x128 .bf16) (h hs) : m.slice (Rect.unit (s := S8x4096x128) ![0, 0, 0] S8x256x128.size h) hs = tq m 0 := rfl
@[sl_canon] theorem tdL0 {sp} (m : Memref sig .tc sp S8x4096x64 .bf16) (h hs) : m.slice (Rect.unit (s := S8x4096x64) ![0, 0, 0] S8x256x64.size h) hs = td m 0 := rfl
@[sl_canon] theorem tqL1 {sp} (m : Memref sig .tc sp S8x4096x128 .bf16) (h hs) : m.slice (Rect.unit (s := S8x4096x128) ![0, 256, 0] S8x256x128.size h) hs = tq m 1 := rfl
@[sl_canon] theorem tdL1 {sp} (m : Memref sig .tc sp S8x4096x64 .bf16) (h hs) : m.slice (Rect.unit (s := S8x4096x64) ![0, 256, 0] S8x256x64.size h) hs = td m 1 := rfl
@[sl_canon] theorem tqL2 {sp} (m : Memref sig .tc sp S8x4096x128 .bf16) (h hs) : m.slice (Rect.unit (s := S8x4096x128) ![0, 512, 0] S8x256x128.size h) hs = tq m 2 := rfl
@[sl_canon] theorem tdL2 {sp} (m : Memref sig .tc sp S8x4096x64 .bf16) (h hs) : m.slice (Rect.unit (s := S8x4096x64) ![0, 512, 0] S8x256x64.size h) hs = td m 2 := rfl
@[sl_canon] theorem tqL3 {sp} (m : Memref sig .tc sp S8x4096x128 .bf16) (h hs) : m.slice (Rect.unit (s := S8x4096x128) ![0, 768, 0] S8x256x128.size h) hs = tq m 3 := rfl
@[sl_canon] theorem tdL3 {sp} (m : Memref sig .tc sp S8x4096x64 .bf16) (h hs) : m.slice (Rect.unit (s := S8x4096x64) ![0, 768, 0] S8x256x64.size h) hs = td m 3 := rfl
@[sl_canon] theorem tqL4 {sp} (m : Memref sig .tc sp S8x4096x128 .bf16) (h hs) : m.slice (Rect.unit (s := S8x4096x128) ![0, 1024, 0] S8x256x128.size h) hs = tq m 4 := rfl
@[sl_canon] theorem tdL4 {sp} (m : Memref sig .tc sp S8x4096x64 .bf16) (h hs) : m.slice (Rect.unit (s := S8x4096x64) ![0, 1024, 0] S8x256x64.size h) hs = td m 4 := rfl
@[sl_canon] theorem tqL5 {sp} (m : Memref sig .tc sp S8x4096x128 .bf16) (h hs) : m.slice (Rect.unit (s := S8x4096x128) ![0, 1280, 0] S8x256x128.size h) hs = tq m 5 := rfl
@[sl_canon] theorem tdL5 {sp} (m : Memref sig .tc sp S8x4096x64 .bf16) (h hs) : m.slice (Rect.unit (s := S8x4096x64) ![0, 1280, 0] S8x256x64.size h) hs = td m 5 := rfl
@[sl_canon] theorem tqL6 {sp} (m : Memref sig .tc sp S8x4096x128 .bf16) (h hs) : m.slice (Rect.unit (s := S8x4096x128) ![0, 1536, 0] S8x256x128.size h) hs = tq m 6 := rfl
@[sl_canon] theorem tdL6 {sp} (m : Memref sig .tc sp S8x4096x64 .bf16) (h hs) : m.slice (Rect.unit (s := S8x4096x64) ![0, 1536, 0] S8x256x64.size h) hs = td m 6 := rfl
@[sl_canon] theorem tqL7 {sp} (m : Memref sig .tc sp S8x4096x128 .bf16) (h hs) : m.slice (Rect.unit (s := S8x4096x128) ![0, 1792, 0] S8x256x128.size h) hs = tq m 7 := rfl
@[sl_canon] theorem tdL7 {sp} (m : Memref sig .tc sp S8x4096x64 .bf16) (h hs) : m.slice (Rect.unit (s := S8x4096x64) ![0, 1792, 0] S8x256x64.size h) hs = td m 7 := rfl
@[sl_canon] theorem tqL8 {sp} (m : Memref sig .tc sp S8x4096x128 .bf16) (h hs) : m.slice (Rect.unit (s := S8x4096x128) ![0, 2048, 0] S8x256x128.size h) hs = tq m 8 := rfl
@[sl_canon] theorem tdL8 {sp} (m : Memref sig .tc sp S8x4096x64 .bf16) (h hs) : m.slice (Rect.unit (s := S8x4096x64) ![0, 2048, 0] S8x256x64.size h) hs = td m 8 := rfl
@[sl_canon] theorem tqL9 {sp} (m : Memref sig .tc sp S8x4096x128 .bf16) (h hs) : m.slice (Rect.unit (s := S8x4096x128) ![0, 2304, 0] S8x256x128.size h) hs = tq m 9 := rfl
@[sl_canon] theorem tdL9 {sp} (m : Memref sig .tc sp S8x4096x64 .bf16) (h hs) : m.slice (Rect.unit (s := S8x4096x64) ![0, 2304, 0] S8x256x64.size h) hs = td m 9 := rfl
@[sl_canon] theorem tqL10 {sp} (m : Memref sig .tc sp S8x4096x128 .bf16) (h hs) : m.slice (Rect.unit (s := S8x4096x128) ![0, 2560, 0] S8x256x128.size h) hs = tq m 10 := rfl
@[sl_canon] theorem tdL10 {sp} (m : Memref sig .tc sp S8x4096x64 .bf16) (h hs) : m.slice (Rect.unit (s := S8x4096x64) ![0, 2560, 0] S8x256x64.size h) hs = td m 10 := rfl
@[sl_canon] theorem tqL11 {sp} (m : Memref sig .tc sp S8x4096x128 .bf16) (h hs) : m.slice (Rect.unit (s := S8x4096x128) ![0, 2816, 0] S8x256x128.size h) hs = tq m 11 := rfl
@[sl_canon] theorem tdL11 {sp} (m : Memref sig .tc sp S8x4096x64 .bf16) (h hs) : m.slice (Rect.unit (s := S8x4096x64) ![0, 2816, 0] S8x256x64.size h) hs = td m 11 := rfl
@[sl_canon] theorem tqL12 {sp} (m : Memref sig .tc sp S8x4096x128 .bf16) (h hs) : m.slice (Rect.unit (s := S8x4096x128) ![0, 3072, 0] S8x256x128.size h) hs = tq m 12 := rfl
@[sl_canon] theorem tdL12 {sp} (m : Memref sig .tc sp S8x4096x64 .bf16) (h hs) : m.slice (Rect.unit (s := S8x4096x64) ![0, 3072, 0] S8x256x64.size h) hs = td m 12 := rfl
@[sl_canon] theorem tqL13 {sp} (m : Memref sig .tc sp S8x4096x128 .bf16) (h hs) : m.slice (Rect.unit (s := S8x4096x128) ![0, 3328, 0] S8x256x128.size h) hs = tq m 13 := rfl
@[sl_canon] theorem tdL13 {sp} (m : Memref sig .tc sp S8x4096x64 .bf16) (h hs) : m.slice (Rect.unit (s := S8x4096x64) ![0, 3328, 0] S8x256x64.size h) hs = td m 13 := rfl
@[sl_canon] theorem tqL14 {sp} (m : Memref sig .tc sp S8x4096x128 .bf16) (h hs) : m.slice (Rect.unit (s := S8x4096x128) ![0, 3584, 0] S8x256x128.size h) hs = tq m 14 := rfl
@[sl_canon] theorem tdL14 {sp} (m : Memref sig .tc sp S8x4096x64 .bf16) (h hs) : m.slice (Rect.unit (s := S8x4096x64) ![0, 3584, 0] S8x256x64.size h) hs = td m 14 := rfl
@[sl_canon] theorem tqL15 {sp} (m : Memref sig .tc sp S8x4096x128 .bf16) (h hs) : m.slice (Rect.unit (s := S8x4096x128) ![0, 3840, 0] S8x256x128.size h) hs = tq m 15 := rfl
@[sl_canon] theorem tdL15 {sp} (m : Memref sig .tc sp S8x4096x64 .bf16) (h hs) : m.slice (Rect.unit (s := S8x4096x64) ![0, 3840, 0] S8x256x64.size h) hs = td m 15 := rfl

abbrev own (c : Dev nD) {sp} {s : Shape} {e : EltTy} (m : Memref sig .tc sp s e) (f : Buf (Elt F) (m.view.loc (c : Thread nD τ))) : sProp 𝕄 :=
  m.view.loc (c : Thread nD τ) ↦[m.view.set]{fullShare} f

theorem sep16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), 1, 2, 3, 4, 5, 6, 7, 8, 9, 10, 11, 12, 13, 14, 15] (by decide) (by decide) Φ

/-! ## Rows that have landed -/

/-- The first `n` blocks of rows of every head. -/
def upQ (n : ℕ) : Rect S8x4096x128 := Rect.unit (s := S8x4096x128) ![0, 0, 0] ![8, min (256 * n) 4096, 128]
  (fun d => by fin_cases d <;> simp [S8x4096x128, Shape.size])
def upD (n : ℕ) : Rect S8x4096x64 := Rect.unit (s := S8x4096x64) ![0, 0, 0] ![8, min (256 * n) 4096, 64]
  (fun d => by fin_cases d <;> simp [S8x4096x64, Shape.size])

theorem upQ_unit (n : ℕ) : ∀ a, (upQ n).stride a = 1 := fun _ => rfl
theorem upD_unit (n : ℕ) : ∀ a, (upD n).stride a = 1 := fun _ => rfl

theorem mem_upQ (n : ℕ) (y : S8x4096x128.Idx) : y ∈ (upQ n).toLoadRect.set ↔ (y 1 : ℕ) < 256 * n := by
  have h0 : (y 0 : ℕ) < 8 := (y 0).isLt
  have h1 : (y 1 : ℕ) < 4096 := (y 1).isLt
  have h2 : (y 2 : ℕ) < 128 := (y 2).isLt
  refine Rect.mem_set_unit.trans ⟨fun h => ?_, fun h d => ?_⟩
  · have := h 1; simp at this; omega
  · fin_cases d <;> simp <;> omega
theorem mem_upD (n : ℕ) (y : S8x4096x64.Idx) : y ∈ (upD n).toLoadRect.set ↔ (y 1 : ℕ) < 256 * n := by
  have h0 : (y 0 : ℕ) < 8 := (y 0).isLt
  have h1 : (y 1 : ℕ) < 4096 := (y 1).isLt
  have h2 : (y 2 : ℕ) < 64 := (y 2).isLt
  refine Rect.mem_set_unit.trans ⟨fun h => ?_, fun h d => ?_⟩
  · have := h 1; simp at this; omega
  · fin_cases d <;> simp <;> omega
theorem mem_rowsQ (n : Fin 16) (y : S8x4096x128.Idx) : y ∈ (rowsQ n).toLoadRect.set ↔ 256 * n.val ≤ (y 1 : ℕ) ∧ (y 1 : ℕ) < 256 * n.val + 256 := by
  have h0 : (y 0 : ℕ) < 8 := (y 0).isLt
  have h2 : (y 2 : ℕ) < 128 := (y 2).isLt
  refine Rect.mem_set_unit.trans ⟨fun h => ?_, fun h d => ?_⟩
  · have := h 1; simp [S8x256x128, Shape.size] at this; omega
  · fin_cases d <;> simp [S8x256x128, Shape.size] <;> omega
theorem mem_rowsD (n : Fin 16) (y : S8x4096x64.Idx) : y ∈ (rowsD n).toLoadRect.set ↔ 256 * n.val ≤ (y 1 : ℕ) ∧ (y 1 : ℕ) < 256 * n.val + 256 := by
  have h0 : (y 0 : ℕ) < 8 := (y 0).isLt
  have h2 : (y 2 : ℕ) < 64 := (y 2).isLt
  refine Rect.mem_set_unit.trans ⟨fun h => ?_, fun h d => ?_⟩
  · have := h 1; simp [S8x256x64, Shape.size] at this; omega
  · fin_cases d <;> simp [S8x256x64, Shape.size] <;> omega

/-- A box inside another is read inside it. -/
theorem access_sub {sp} {s : Shape} {e : EltTy} (m : Memref sig .tc sp s e) (r S : Rect s) (hS : ∀ a, S.stride a = 1)
    (h : r.toLoadRect.set ⊆ S.toLoadRect.set) : (m.access r).set ⊆ (sub m S hS).view.set := by
  show (m.view.slice r).set ⊆ (m.view.slice S).set
  rw [View.set_slice, View.set_slice]
  exact Finset.map_subset_map.mpr h

theorem inclQ {sp} (m : Memref sig .tc sp S8x4096x128 .bf16) (n : ℕ) {off : Fin 3 → ℕ} (hb : ∀ a, off a + S1x256x128.size a ≤ S8x4096x128.size a)
    (h : off 1 + 256 ≤ 256 * n) : (m.access (Rect.unit (s := S8x4096x128) off S1x256x128.size hb)).set ⊆ (sub m (upQ n) (upQ_unit n)).view.set := by
  refine access_sub m _ _ _ fun y hy => ?_
  rw [mem_upQ]
  have := (Rect.mem_set_unit.mp hy) 1
  simp [S1x256x128, Shape.size] at this; omega
theorem inclD {sp} (m : Memref sig .tc sp S8x4096x64 .bf16) (n : ℕ) {off : Fin 3 → ℕ} (hb : ∀ a, off a + S1x256x64.size a ≤ S8x4096x64.size a)
    (h : off 1 + 256 ≤ 256 * n) : (m.access (Rect.unit (s := S8x4096x64) off S1x256x64.size hb)).set ⊆ (sub m (upD n) (upD_unit n)).view.set := by
  refine access_sub m _ _ _ fun y hy => ?_
  rw [mem_upD]
  have := (Rect.mem_set_unit.mp hy) 1
  simp [S1x256x64, Shape.size] at this; omega

theorem split_view {κ : Kind} {sp} {s : Shape} {e : EltTy} (v : View sig κ sp s e) (K I J : Rect s)
    (h : ∀ y, y ∈ K.toLoadRect.set ↔ y ∈ I.toLoadRect.set ∨ y ∈ J.toLoadRect.set) (y) :
    y ∈ (v.slice K).set ↔ y ∈ (v.slice I).set ∨ y ∈ (v.slice J).set := by
  rw [View.set_slice, View.set_slice, View.set_slice]
  simp only [Finset.mem_map]
  constructor
  · rintro ⟨z, hz, rfl⟩
    exact ((h z).mp hz).imp (fun u => ⟨z, u, rfl⟩) (fun u => ⟨z, u, rfl⟩)
  · rintro (⟨z, hz, rfl⟩ | ⟨z, hz, rfl⟩)
    · exact ⟨z, (h z).mpr (.inl hz), rfl⟩
    · exact ⟨z, (h z).mpr (.inr hz), rfl⟩

theorem disjoint_view {κ : Kind} {sp} {s : Shape} {e : EltTy} (v : View sig κ sp s e) (I J : Rect s)
    (h : ∀ y, y ∈ I.toLoadRect.set → y ∈ J.toLoadRect.set → False) : Disjoint (v.slice I).set (v.slice J).set := by
  rw [View.set_slice, View.set_slice, Finset.disjoint_map, Finset.disjoint_left]
  exact fun {y} h1 h2 => h y h1 h2

theorem join_own {ℓ : Loc nD τ sig} {I J K : Finset (Idx ℓ)} {f g : Buf (Elt F) ℓ} (hu : ∀ y, y ∈ K ↔ y ∈ I ∨ y ∈ J) (hd : Disjoint I J)
    (hg : ∀ y ∈ J, g y = f y) : iprop((ℓ ↦[I]{fullShare} f) ∗ (ℓ ↦[J]{fullShare} g)) ⊢ (ℓ ↦[K]{fullShare} f : sProp 𝕄) := by
  rw [show K = I ∪ J from Finset.ext fun y => (hu y).trans Finset.mem_union.symm, pointsTo_congr hg]
  exact (pointsTo_union hd).2

theorem own_none {ℓ : Loc nD τ sig} {I : Finset (Idx ℓ)} {f : Buf (Elt F) ℓ} (h : I = ∅) : (emp : sProp 𝕄) ⊢ (ℓ ↦[I]{fullShare} f) := by
  subst h; rw [pointsTo_empty]

theorem join_sub {c : Dev nD} {sp} {s : Shape} {e : EltTy} (m : Memref sig .tc sp s e) (S S' R : Rect s)
    (hS : ∀ a, S.stride a = 1) (hS' : ∀ a, S'.stride a = 1) (hR : ∀ a, R.stride a = 1)
    (h : ∀ y, y ∈ S'.toLoadRect.set ↔ y ∈ S.toLoadRect.set ∨ y ∈ R.toLoadRect.set)
    (hd : ∀ y, y ∈ S.toLoadRect.set → y ∈ R.toLoadRect.set → False) (f g : Buf (Elt F) (m.view.loc (c : Thread nD τ)))
    (hg : ∀ y ∈ (sub m R hR).view.set, g y = f y) :
    iprop(own c (sub m S hS) f ∗ own c (sub m R hR) g) ⊢ (own c (sub m S' hS') f : sProp 𝕄) :=
  join_own (split_view m.view S' S R h) (disjoint_view m.view S R hd) hg

theorem inclQ2 {sp} (m : Memref sig .tc sp S8x4096x128 .bf16) (n : ℕ) {off : Fin 3 → ℕ} (hb : ∀ a, off a + S1x512x128.size a ≤ S8x4096x128.size a)
    (h : off 1 + 512 ≤ 256 * n) : (m.access (Rect.unit (s := S8x4096x128) off S1x512x128.size hb)).set ⊆ (sub m (upQ n) (upQ_unit n)).view.set := by
  refine access_sub m _ _ _ fun y hy => ?_
  rw [mem_upQ]
  have := (Rect.mem_set_unit.mp hy) 1
  simp [S1x512x128, Shape.size] at this; omega
theorem inclD2 {sp} (m : Memref sig .tc sp S8x4096x64 .bf16) (n : ℕ) {off : Fin 3 → ℕ} (hb : ∀ a, off a + S1x512x64.size a ≤ S8x4096x64.size a)
    (h : off 1 + 512 ≤ 256 * n) : (m.access (Rect.unit (s := S8x4096x64) off S1x512x64.size hb)).set ⊆ (sub m (upD n) (upD_unit n)).view.set := by
  refine access_sub m _ _ _ fun y hy => ?_
  rw [mem_upD]
  have := (Rect.mem_set_unit.mp hy) 1
  simp [S1x512x64, Shape.size] at this; omega

section State
variable (c : Dev nD)
  (arg2 : Memref sig .tc .hbm S8x4096x128 .bf16) (arg6 : Memref sig .tc .hbm S8x4096x64 .bf16)
  (arg13 : Memref sig .tc .vmem S8x4096x128 .bf16) (arg14 : Memref sig .tc .vmem S8x4096x64 .bf16)
  (arg15 arg16 : DmaSems sig S16)
  (f2 : Buf (Elt F) (arg2.view.loc (c : Thread nD τ))) (f6 : Buf (Elt F) (arg6.view.loc (c : Thread nD τ)))
  (fq : Buf (Elt F) (arg13.view.loc (c : Thread nD τ))) (fd : Buf (Elt F) (arg14.view.loc (c : Thread nD τ)))

/-- The first `n` blocks of rows, held at the array that arrives. -/
abbrev preQ (n : ℕ) : sProp 𝕄 := own c (sub arg13 (upQ n) (upQ_unit n)) fq
abbrev preD (n : ℕ) : sProp 𝕄 := own c (sub arg14 (upD n) (upD_unit n)) fd

/-- What transfer `n` leaves in its rows. -/
abbrev landQ (f : Buf (Elt F) (arg13.view.loc (c : Thread nD τ))) (n : Fin 16) : Buf (Elt F) ((tq arg13 n).view.loc (c : Thread nD τ)) :=
  (tq arg13 n).view.writes (Elt F) f [⟨Rect.whole S8x256x128, ReadAs.same.apply ((tq arg2 n).view.read (Elt F) f2)⟩]
abbrev landD (f : Buf (Elt F) (arg14.view.loc (c : Thread nD τ))) (n : Fin 16) : Buf (Elt F) ((td arg14 n).view.loc (c : Thread nD τ)) :=
  (td arg14 n).view.writes (Elt F) f [⟨Rect.whole S8x256x64, ReadAs.same.apply ((td arg6 n).view.read (Elt F) f6)⟩]

abbrev cell0 (a : DmaSems sig S16) (n : Fin 16) : sProp 𝕄 := semVal ((c : Thread nD τ), SemLoc.dma (cell a n).sem) 0

/-- Transfers `n` under way. -/
def flyQ (n : Fin 16) : sProp 𝕄 :=
  iprop(∃ f : Buf (Elt F) (arg13.view.loc (c : Thread nD τ)), Transfers.Flight countersEmb (c : Thread nD τ) (SemLoc.dma (cell arg15 n).sem) () 16384
    iprop(own c (tq arg13 n) (landQ c arg2 arg13 f2 f n) ∗ own c (tq arg2 n) f2))
def flyD (n : Fin 16) : sProp 𝕄 :=
  iprop(∃ f : Buf (Elt F) (arg14.view.loc (c : Thread nD τ)), Transfers.Flight countersEmb (c : Thread nD τ) (SemLoc.dma (cell arg16 n).sem) () 16384
    iprop(own c (td arg14 n) (landD c arg6 arg14 f6 f n) ∗ own c (td arg6 n) f6))
/-- Transfers `n` done: their sources and their cells. -/
def done (n : Fin 16) : sProp 𝕄 :=
  iprop(own c (tq arg2 n) f2 ∗ own c (td arg6 n) f6 ∗ cell0 c arg15 n ∗ cell0 c arg16 n)
def stage (n : ℕ) (s : Fin 16) : sProp 𝕄 :=
  if s.val < n then done c arg2 arg6 arg15 arg16 f2 f6 s else iprop(flyQ c arg2 arg13 arg15 f2 s ∗ flyD c arg6 arg14 arg16 f6 s)

/-- The first `n` blocks of rows have landed, the others are under way. -/
def QS (n : ℕ) : sProp 𝕄 :=
  iprop(preQ c arg13 fq n ∗ preD c arg14 fd n
    ∗ bigSep Finset.univ (stage c arg2 arg6 arg13 arg14 arg15 arg16 f2 f6 n) ∗ ∃ W, owes (c : Thread nD τ) 0 W)

theorem stage_open (n : ℕ) (hn : n < 16) : bigSep Finset.univ (stage c arg2 arg6 arg13 arg14 arg15 arg16 f2 f6 n)
    ⊢ iprop((flyQ c arg2 arg13 arg15 f2 ⟨n, hn⟩ ∗ flyD c arg6 arg14 arg16 f6 ⟨n, hn⟩)
      ∗ (done c arg2 arg6 arg15 arg16 f2 f6 ⟨n, hn⟩ -∗ bigSep Finset.univ (stage c arg2 arg6 arg13 arg14 arg15 arg16 f2 f6 (n + 1)))) := by
  have h := bigSep_univ_update (Φ := stage c arg2 arg6 arg13 arg14 arg15 arg16 f2 f6 n) (Ψ := stage c arg2 arg6 arg13 arg14 arg15 arg16 f2 f6 (n + 1))
    ⟨n, hn⟩ (fun j hj => by
      have : j.val ≠ n := fun e => hj (Fin.ext e)
      unfold stage
      by_cases h1 : j.val < n
      · rw [if_pos h1, if_pos (by omega)]
      · rw [if_neg h1, if_neg (by omega)])
  rw [show stage c arg2 arg6 arg13 arg14 arg15 arg16 f2 f6 n ⟨n, hn⟩ = iprop(flyQ c arg2 arg13 arg15 f2 ⟨n, hn⟩ ∗ flyD c arg6 arg14 arg16 f6 ⟨n, hn⟩) from if_neg (by simp),
    show stage c arg2 arg6 arg13 arg14 arg15 arg16 f2 f6 (n + 1) ⟨n, hn⟩ = done c arg2 arg6 arg15 arg16 f2 f6 ⟨n, hn⟩ from if_pos (by simp)] at h
  exact h

theorem joinQ (n : ℕ) (hn : n < 16) (g : Buf (Elt F) (arg13.view.loc (c : Thread nD τ)))
    (hg : ∀ y ∈ (tq arg13 ⟨n, hn⟩).view.set, g y = fq y) :
    iprop(preQ c arg13 fq n ∗ own c (tq arg13 ⟨n, hn⟩) g) ⊢ preQ c arg13 fq (n + 1) :=
  join_sub arg13 (upQ n) (upQ (n + 1)) (rowsQ ⟨n, hn⟩) (upQ_unit n) (upQ_unit (n + 1)) (fun _ => rfl)
    (fun y => by rw [mem_upQ, mem_upQ, mem_rowsQ]; dsimp only; omega)
    (fun y h1 h2 => by rw [mem_upQ] at h1; rw [mem_rowsQ] at h2; dsimp only at h2; omega) fq g hg

theorem joinD (n : ℕ) (hn : n < 16) (g : Buf (Elt F) (arg14.view.loc (c : Thread nD τ)))
    (hg : ∀ y ∈ (td arg14 ⟨n, hn⟩).view.set, g y = fd y) :
    iprop(preD c arg14 fd n ∗ own c (td arg14 ⟨n, hn⟩) g) ⊢ preD c arg14 fd (n + 1) :=
  join_sub arg14 (upD n) (upD (n + 1)) (rowsD ⟨n, hn⟩) (upD_unit n) (upD_unit (n + 1)) (fun _ => rfl)
    (fun y => by rw [mem_upD, mem_upD, mem_rowsD]; dsimp only; omega)
    (fun y h1 h2 => by rw [mem_upD] at h1; rw [mem_rowsD] at h2; dsimp only at h2; omega) fd g hg

/-- Before block `n` is waited for: its transfers, and what their landing gives back. -/
theorem QS_open (n : ℕ) (hn : n < 16)
    (hfq : ∀ f n, ∀ y ∈ (tq arg13 n).view.set, landQ c arg2 arg13 f2 f n y = fq y)
    (hfd : ∀ f n, ∀ y ∈ (td arg14 n).view.set, landD c arg6 arg14 f6 f n y = fd y) :
    QS c arg2 arg6 arg13 arg14 arg15 arg16 f2 f6 fq fd n ⊢
      iprop(flyQ c arg2 arg13 arg15 f2 ⟨n, hn⟩ ∗ flyD c arg6 arg14 arg16 f6 ⟨n, hn⟩ ∗ (∃ W, owes (c : Thread nD τ) 0 W)
        ∗ (iprop((∃ f, own c (tq arg13 ⟨n, hn⟩) (landQ c arg2 arg13 f2 f ⟨n, hn⟩)) ∗ (∃ f, own c (td arg14 ⟨n, hn⟩) (landD c arg6 arg14 f6 f ⟨n, hn⟩))
            ∗ done c arg2 arg6 arg15 arg16 f2 f6 ⟨n, hn⟩ ∗ (∃ W, owes (c : Thread nD τ) 0 W))
          -∗ QS c arg2 arg6 arg13 arg14 arg15 arg16 f2 f6 fq fd (n + 1))) := by
  unfold QS
  iintro ⟨Hq, Hd, Hs, HW⟩
  ihave Hs := (stage_open c arg2 arg6 arg13 arg14 arg15 arg16 f2 f6 n hn) $$ Hs
  icases Hs with ⟨⟨HA, HB⟩, Hback⟩
  isplitl [HA]; · iexact HA
  isplitl [HB]; · iexact HB
  isplitl [HW]; · iexact HW
  iintro ⟨⟨%f, H1⟩, ⟨%g, H2⟩, H3, HW⟩
  isplitl [Hq H1]
  · iapply (joinQ c arg13 fq n hn _ (hfq f ⟨n, hn⟩)); isplitl [Hq]; · iexact Hq
    iexact H1
  isplitl [Hd H2]
  · iapply (joinD c arg14 fd n hn _ (hfd g ⟨n, hn⟩)); isplitl [Hd]; · iexact Hd
    iexact H2
  isplitl [H3 Hback]
  · iapply Hback; iexact H3
  iexact HW

end State

/-- The arrays that arrive are `fq` and `fd`, whatever stood in the buffers before. -/
def Lands (c : Dev nD) (arg2 : Memref sig .tc .hbm S8x4096x128 .bf16) (arg6 : Memref sig .tc .hbm S8x4096x64 .bf16)
    (arg13 : Memref sig .tc .vmem S8x4096x128 .bf16) (arg14 : Memref sig .tc .vmem S8x4096x64 .bf16)
    (f2 : Buf (Elt F) (arg2.view.loc (c : Thread nD τ))) (f6 : Buf (Elt F) (arg6.view.loc (c : Thread nD τ)))
    (fq : Buf (Elt F) (arg13.view.loc (c : Thread nD τ))) (fd : Buf (Elt F) (arg14.view.loc (c : Thread nD τ))) : Prop :=
  (∀ f n, ∀ y ∈ (tq arg13 n).view.set, landQ c arg2 arg13 f2 f n y = fq y)
    ∧ ∀ f n, ∀ y ∈ (td arg14 n).view.set, landD c arg6 arg14 f6 f n y = fd y

/-- The blocks of rows in hand before block `x` is met: all of them once the first step is past. -/
def pos (i : grid0.Coords) (x : ℕ) : ℕ := if (i 1).val = 0 then x else 16

/-- The states of a counted loop. -/
def loopSt {T : ℕ} {α γ : Type} (R : Fin T → α → γ → α × γ) (s : α × γ) : ℕ → α × γ
  | 0 => s
  | k + 1 => if h : k < T then R ⟨k, h⟩ (loopSt R s k).1 (loopSt R s k).2 else loopSt R s k

theorem loopSt_succ {T : ℕ} {α γ : Type} (R : Fin T → α → γ → α × γ) (s : α × γ) (k : Fin T) :
    loopSt R s (k.val + 1) = R k (loopSt R s k.val).1 (loopSt R s k.val).2 := by
  show (if h : k.val < T then _ else _) = _
  rw [dif_pos k.isLt]

theorem cell_of (a : DmaSems sig S16) (n : Fin 16) {off : Fin 1 → ℕ} (h : off = ![n.val]) (hb) :
    (a.slice (Rect.unit (s := S16) off S1.size hb)).squeeze S_ squeezes_S1_S_ = cell a n := by subst h; rfl
theorem tq_of {sp} (m : Memref sig .tc sp S8x4096x128 .bf16) (n : Fin 16) {off : Fin 3 → ℕ} (h : off = ![0, 256 * n.val, 0]) (hb) :
    m.slice (Rect.unit (s := S8x4096x128) off S8x256x128.size hb) (fun _ => rfl) = tq m n := by subst h; rfl
theorem td_of {sp} (m : Memref sig .tc sp S8x4096x64 .bf16) (n : Fin 16) {off : Fin 3 → ℕ} (h : off = ![0, 256 * n.val, 0]) (hb) :
    m.slice (Rect.unit (s := S8x4096x64) off S8x256x64.size hb) (fun _ => rfl) = td m n := by subst h; rfl

/-- Nothing has landed yet: every transfer is under way. -/
theorem QS_zero (c : Dev nD) (arg2 : Memref sig .tc .hbm S8x4096x128 .bf16) (arg6 : Memref sig .tc .hbm S8x4096x64 .bf16)
    (arg13 : Memref sig .tc .vmem S8x4096x128 .bf16) (arg14 : Memref sig .tc .vmem S8x4096x64 .bf16) (arg15 arg16 : DmaSems sig S16)
    (f2 : Buf (Elt F) (arg2.view.loc (c : Thread nD τ))) (f6 : Buf (Elt F) (arg6.view.loc (c : Thread nD τ)))
    (fq : Buf (Elt F) (arg13.view.loc (c : Thread nD τ))) (fd : Buf (Elt F) (arg14.view.loc (c : Thread nD τ))) :
    iprop(bigSep Finset.univ (fun n => iprop(flyQ c arg2 arg13 arg15 f2 n ∗ flyD c arg6 arg14 arg16 f6 n)) ∗ ∃ W, owes (c : Thread nD τ) 0 W)
      ⊢ QS c arg2 arg6 arg13 arg14 arg15 arg16 f2 f6 fq fd 0 := by
  have e1 : (sub arg13 (upQ 0) (upQ_unit 0)).view.set = ∅ := by
    show (arg13.view.slice (upQ 0)).set = ∅
    rw [View.set_slice, Finset.map_eq_empty]
    exact Finset.eq_empty_of_forall_notMem fun y hy => by have := (mem_upQ 0 y).mp hy; omega
  have e2 : (sub arg14 (upD 0) (upD_unit 0)).view.set = ∅ := by
    show (arg14.view.slice (upD 0)).set = ∅
    rw [View.set_slice, Finset.map_eq_empty]
    exact Finset.eq_empty_of_forall_notMem fun y hy => by have := (mem_upD 0 y).mp hy; omega
  unfold QS preQ preD own
  rw [
    show stage c arg2 arg6 arg13 arg14 arg15 arg16 f2 f6 0 = (fun n => iprop(flyQ c arg2 arg13 arg15 f2 n ∗ flyD c arg6 arg14 arg16 f6 n)) from
      funext fun s => if_neg (Nat.not_lt_zero _)]
  iintro ⟨H, HW⟩
  isplitr; · iapply (own_none e1); iempintro
  isplitr; · iapply (own_none e2); iempintro
  isplitl [H]; · iexact H
  iexact HW

/-- Nothing has landed yet, whatever the two buffers hold. -/
theorem QS_start (c : Dev nD) (arg2 : Memref sig .tc .hbm S8x4096x128 .bf16) (arg6 : Memref sig .tc .hbm S8x4096x64 .bf16)
    (arg13 : Memref sig .tc .vmem S8x4096x128 .bf16) (arg14 : Memref sig .tc .vmem S8x4096x64 .bf16) (arg15 arg16 : DmaSems sig S16)
    (f2 : Buf (Elt F) (arg2.view.loc (c : Thread nD τ))) (f6 : Buf (Elt F) (arg6.view.loc (c : Thread nD τ)))
    (fq : Buf (Elt F) (arg13.view.loc (c : Thread nD τ))) (fd : Buf (Elt F) (arg14.view.loc (c : Thread nD τ)))
    (f13 : Buf (Elt F) (arg13.view.loc (c : Thread nD τ))) (f14 : Buf (Elt F) (arg14.view.loc (c : Thread nD τ))) :
    iprop(bigSep Finset.univ (fun n => Transfers.Flight countersEmb (c : Thread nD τ) (SemLoc.dma (cell arg15 n).sem) () 16384
          iprop(own c (tq arg13 n) (landQ c arg2 arg13 f2 f13 n) ∗ own c (tq arg2 n) f2))
        ∗ bigSep Finset.univ (fun n => Transfers.Flight countersEmb (c : Thread nD τ) (SemLoc.dma (cell arg16 n).sem) () 16384
          iprop(own c (td arg14 n) (landD c arg6 arg14 f6 f14 n) ∗ own c (td arg6 n) f6)) ∗ ∃ W, owes (c : Thread nD τ) 0 W)
      ⊢ QS c arg2 arg6 arg13 arg14 arg15 arg16 f2 f6 fq fd 0 := by
  refine .trans ?_ (QS_zero c arg2 arg6 arg13 arg14 arg15 arg16 f2 f6 fq fd)
  refine (show _ ⊢ iprop((bigSep Finset.univ (fun n => flyQ c arg2 arg13 arg15 f2 n) ∗ bigSep Finset.univ (fun n => flyD c arg6 arg14 arg16 f6 n))
      ∗ ∃ W, owes (c : Thread nD τ) 0 W) from ?_).trans (sep_mono_l (Entails.of_eq (bigSep_sep _ _ _).symm))
  have hA n : iprop(Transfers.Flight countersEmb (c : Thread nD τ) (SemLoc.dma (cell arg15 n).sem) () 16384
      iprop(own c (tq arg13 n) (landQ c arg2 arg13 f2 f13 n) ∗ own c (tq arg2 n) f2)) ⊢ flyQ c arg2 arg13 arg15 f2 n := by
    unfold flyQ; iintro H; iexists f13; iexact H
  have hB n : iprop(Transfers.Flight countersEmb (c : Thread nD τ) (SemLoc.dma (cell arg16 n).sem) () 16384
      iprop(own c (td arg14 n) (landD c arg6 arg14 f6 f14 n) ∗ own c (td arg6 n) f6)) ⊢ flyD c arg6 arg14 arg16 f6 n := by
    unfold flyD; iintro H; iexists f14; iexact H
  have hA' : iprop(bigSep Finset.univ _) ⊢ bigSep Finset.univ (fun n => flyQ c arg2 arg13 arg15 f2 n) := bigSep_mono fun n _ => hA n
  have hB' : iprop(bigSep Finset.univ _) ⊢ bigSep Finset.univ (fun n => flyD c arg6 arg14 arg16 f6 n) := bigSep_mono fun n _ => hB n
  iintro ⟨HA, HB, HW⟩
  isplitr [HW]
  · isplitl [HA]
    · iapply hA'; iexact HA
    · iapply hB'; iexact HB
  · iexact HW

/-- A conditional whose two branches go on alike: what holds between, proved once. -/
theorem wp_dite_mid {c : Dev nD} {β : Type} {p : Prop} [Decidable p] {A : p → Prog (TpuEff nD τ sig (Elt F) Λ₀ .tc) β}
    {N : Prog (TpuEff nD τ sig (Elt F) Λ₀ .tc) β} {R MID : sProp 𝕄} {Q : β → sProp 𝕄}
    (hN : MID ⊢ wp frame (wpE (defs₀ (F := F)) 𝒱₀ (c : Thread nD τ) none) Set.univ N Q)
    (hA : ∀ h, (MID ⊢ wp frame (wpE (defs₀ (F := F)) 𝒱₀ (c : Thread nD τ) none) Set.univ N Q) →
      R ⊢ wp frame (wpE (defs₀ (F := F)) 𝒱₀ (c : Thread nD τ) none) Set.univ (A h) Q)
    (hn : ¬ p → R ⊢ MID) :
    R ⊢ wp frame (wpE (defs₀ (F := F)) 𝒱₀ (c : Thread nD τ) none) Set.univ (dite p A (fun _ => N)) Q := by
  by_cases h : p
  · rw [dif_pos h]; exact hA h hN
  · rw [dif_neg h]; exact (hn h).trans hN

/-- The same when only part of what is held takes part. -/
theorem wp_dite_q {c : Dev nD} {β : Type} {p : Prop} [Decidable p] {A : p → Prog (TpuEff nD τ sig (Elt F) Λ₀ .tc) β}
    {N : Prog (TpuEff nD τ sig (Elt F) Λ₀ .tc) β} (R M : sProp 𝕄) {Q : β → sProp 𝕄}
    (hA : ∀ h, iprop(R ∗ (M -∗ wp frame (wpE (defs₀ (F := F)) 𝒱₀ (c : Thread nD τ) none) Set.univ N Q))
      ⊢ wp frame (wpE (defs₀ (F := F)) 𝒱₀ (c : Thread nD τ) none) Set.univ (A h) Q)
    (hn : ¬ p → R ⊢ M) :
    iprop(R ∗ (M -∗ wp frame (wpE (defs₀ (F := F)) 𝒱₀ (c : Thread nD τ) none) Set.univ N Q))
      ⊢ wp frame (wpE (defs₀ (F := F)) 𝒱₀ (c : Thread nD τ) none) Set.univ (dite p A (fun _ => N)) Q := by
  by_cases h : p
  · rw [dif_pos h]; exact hA h
  · rw [dif_neg h]
    iintro ⟨HR, Hgo⟩
    iapply Hgo
    iapply (hn h); iexact HR

end Cert.Fox
end
-- ==== Proof.FoxTrip1.lean ====
module

public import proofs.«01_k».proof.Defs
public import proofs.«01_k».proof.Proof.FoxBase
public import proofs.«01_k».proof.Proof.Gen.FoxBwdIdeal.Launch
public import proofs.«01_k».proof.Proof.Gen.FoxBwdIdeal.Skeleton
public import proofs.«01_k».proof.Proof.Gen.FoxBwdIdeal.Loops
public import proofs.«01_k».proof.Proof.Gen.FoxBwdIdeal.Points
public import proofs.«01_k».proof.Proof.Gen.FoxBwdIdeal.Frame
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Fox

open Cert.FoxBwdIdeal Cert.FoxBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem off63_eq : ∀ (i : grid0.Coords) (k : Fin (k0_t1_loop i).trips), k0_off63 i k = ![0, (i 1).val + 1 + k.val, 0, 0] := by decide +kernel
instance (i : grid0.Coords) (k : Fin (k0_t1_loop i).trips) : ClosedOff (k0_off63 i k) := ⟨![0, (i 1).val + 1 + k.val, 0, 0], off63_eq i k⟩
theorem off64_eq : ∀ (i : grid0.Coords) (k : Fin (k0_t1_loop i).trips), k0_off64 i k = ![1, (i 1).val + 1 + k.val, 0, 0] := by decide +kernel
instance (i : grid0.Coords) (k : Fin (k0_t1_loop i).trips) : ClosedOff (k0_off64 i k) := ⟨![1, (i 1).val + 1 + k.val, 0, 0], off64_eq i k⟩
theorem off65_eq : ∀ (i : grid0.Coords) (k : Fin (k0_t1_loop i).trips), k0_off65 i k = ![2, (i 1).val + 1 + k.val, 0, 0] := by decide +kernel
instance (i : grid0.Coords) (k : Fin (k0_t1_loop i).trips) : ClosedOff (k0_off65 i k) := ⟨![2, (i 1).val + 1 + k.val, 0, 0], off65_eq i k⟩
theorem off66_eq : ∀ (i : grid0.Coords) (k : Fin (k0_t1_loop i).trips), k0_off66 i k = ![3, (i 1).val + 1 + k.val, 0, 0] := by decide +kernel
instance (i : grid0.Coords) (k : Fin (k0_t1_loop i).trips) : ClosedOff (k0_off66 i k) := ⟨![3, (i 1).val + 1 + k.val, 0, 0], off66_eq i k⟩
theorem off67_eq : ∀ (i : grid0.Coords) (k : Fin (k0_t1_loop i).trips), k0_off67 i k = ![4, (i 1).val + 1 + k.val, 0, 0] := by decide +kernel
instance (i : grid0.Coords) (k : Fin (k0_t1_loop i).trips) : ClosedOff (k0_off67 i k) := ⟨![4, (i 1).val + 1 + k.val, 0, 0], off67_eq i k⟩
theorem off68_eq : ∀ (i : grid0.Coords) (k : Fin (k0_t1_loop i).trips), k0_off68 i k = ![5, (i 1).val + 1 + k.val, 0, 0] := by decide +kernel
instance (i : grid0.Coords) (k : Fin (k0_t1_loop i).trips) : ClosedOff (k0_off68 i k) := ⟨![5, (i 1).val + 1 + k.val, 0, 0], off68_eq i k⟩
theorem off69_eq : ∀ (i : grid0.Coords) (k : Fin (k0_t1_loop i).trips), k0_off69 i k = ![6, (i 1).val + 1 + k.val, 0, 0] := by decide +kernel
instance (i : grid0.Coords) (k : Fin (k0_t1_loop i).trips) : ClosedOff (k0_off69 i k) := ⟨![6, (i 1).val + 1 + k.val, 0, 0], off69_eq i k⟩
theorem off70_eq : ∀ (i : grid0.Coords) (k : Fin (k0_t1_loop i).trips), k0_off70 i k = ![7, (i 1).val + 1 + k.val, 0, 0] := by decide +kernel
instance (i : grid0.Coords) (k : Fin (k0_t1_loop i).trips) : ClosedOff (k0_off70 i k) := ⟨![7, (i 1).val + 1 + k.val, 0, 0], off70_eq i k⟩

section Trip1
variable (c : Dev nD) (i : grid0.Coords)
  (arg2 : Memref sig .tc .hbm S8x4096x128 .bf16) (harg2 : arg2.IsWhole)
  (arg3 : Memref sig .tc .vmem S8x256x128 .bf16) (harg3 : arg3.IsWhole)
  (arg4 : Memref sig .tc .vmem S8x1x80x256 .bf16) (harg4 : arg4.IsWhole)
  (arg5 : Memref sig .tc .vmem S8x256x64 .bf16) (harg5 : arg5.IsWhole)
  (arg6 : Memref sig .tc .hbm S8x4096x64 .bf16) (harg6 : arg6.IsWhole)
  (arg7 : Memref sig .tc .vmem S8x16x8x256 .f32) (harg7 : arg7.IsWhole)
  (arg8 : Memref sig .tc .vmem S8x16x8x256 .f32) (harg8 : arg8.IsWhole)
  (arg9 : Memref sig .tc .vmem S8x256x128 .f32) (harg9 : arg9.IsWhole)
  (arg10 : Memref sig .tc .vmem S8x256x128 .f32) (harg10 : arg10.IsWhole)
  (arg11 : Memref sig .tc .vmem S8x256x64 .bf16) (harg11 : arg11.IsWhole)
  (arg12 : Memref sig .tc .vmem S8x16x72x256 .f32) (harg12 : arg12.IsWhole)
  (arg13 : Memref sig .tc .vmem S8x4096x128 .bf16) (harg13 : arg13.IsWhole)
  (arg14 : Memref sig .tc .vmem S8x4096x64 .bf16) (harg14 : arg14.IsWhole)
  (arg15 arg16 : DmaSems sig S16)
  (arg1 : BitVec 32)
  (v9 v11 v13 v15 v17 v19 v21 v23 : FVec F S256x128 .bf16)
  (v25 v27 v29 v31 v33 v35 v37 v39 : FVec F S72x256 .bf16)
  (v41 v43 v45 v47 v49 v51 v53 v55 : FVec F S256x64 .bf16)
  (v70 : FVec F S256x128 .f32) (v71 : FVec F S256x64 .f32) (v100 : FVec F S256x128 .bf16) (v124 : FVec F S256x64 .bf16) (v300 : FVec F S256x256 .bf16) (v308 : FVec F S256x256 .bf16) (v320 : FVec F S256x128 .f32) (v322 : FVec F S256x64 .f32) (v334 : FVec F S256x128 .f32) (v336 : FVec F S256x64 .f32) (v348 : FVec F S256x128 .f32) (v350 : FVec F S256x64 .f32) (v362 : FVec F S256x128 .f32) (v364 : FVec F S256x64 .f32) (v376 : FVec F S256x128 .f32) (v378 : FVec F S256x64 .f32) (v390 : FVec F S256x128 .f32) (v392 : FVec F S256x64 .f32) (v404 : FVec F S256x128 .f32) (v406 : FVec F S256x64 .f32) (v407 : FVec F S72x256 .f32) (v408 : BitVec 32) (v432 : BitVec 32)

abbrev A16 (F : FTy → Type) := FVec F S256x128 .f32 × FVec F S256x64 .f32 × FVec F S256x128 .f32 × FVec F S256x64 .f32 × FVec F S256x128 .f32 × FVec F S256x64 .f32 × FVec F S256x128 .f32 × FVec F S256x64 .f32 × FVec F S256x128 .f32 × FVec F S256x64 .f32 × FVec F S256x128 .f32 × FVec F S256x64 .f32 × FVec F S256x128 .f32 × FVec F S256x64 .f32 × FVec F S256x128 .f32 × FVec F S256x64 .f32

abbrev trip1 (k : Fin (k0_t1_loop i).trips) (acc : A16 F) : Prog (TpuEff nD τ sig (Elt F) Λ₀ .tc) (A16 F) :=
  k0_t1_body (F := F) i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v70 v71 v100 v124 v300 v308 v320 v322 v334 v336 v348 v350 v362 v364 v376 v378 v390 v392 v404 v406 v407 v408 v432 k acc

theorem k0_off39_row : ∀ (i : grid0.Coords) (k : Fin (k0_t1_loop i).trips), k0_off39 i k 1 = 256 * ((i 1).val + 1 + k.val) := by decide +kernel
theorem k0_off40_row : ∀ (i : grid0.Coords) (k : Fin (k0_t1_loop i).trips), k0_off40 i k 1 = 256 * ((i 1).val + 1 + k.val) := by decide +kernel
theorem k0_off41_row : ∀ (i : grid0.Coords) (k : Fin (k0_t1_loop i).trips), k0_off41 i k 1 = 256 * ((i 1).val + 1 + k.val) := by decide +kernel
theorem k0_off42_row : ∀ (i : grid0.Coords) (k : Fin (k0_t1_loop i).trips), k0_off42 i k 1 = 256 * ((i 1).val + 1 + k.val) := by decide +kernel
theorem k0_off43_row : ∀ (i : grid0.Coords) (k : Fin (k0_t1_loop i).trips), k0_off43 i k 1 = 256 * ((i 1).val + 1 + k.val) := by decide +kernel
theorem k0_off44_row : ∀ (i : grid0.Coords) (k : Fin (k0_t1_loop i).trips), k0_off44 i k 1 = 256 * ((i 1).val + 1 + k.val) := by decide +kernel
theorem k0_off45_row : ∀ (i : grid0.Coords) (k : Fin (k0_t1_loop i).trips), k0_off45 i k 1 = 256 * ((i 1).val + 1 + k.val) := by decide +kernel
theorem k0_off46_row : ∀ (i : grid0.Coords) (k : Fin (k0_t1_loop i).trips), k0_off46 i k 1 = 256 * ((i 1).val + 1 + k.val) := by decide +kernel
theorem k0_off47_row : ∀ (i : grid0.Coords) (k : Fin (k0_t1_loop i).trips), k0_off47 i k 1 = 256 * ((i 1).val + 1 + k.val) := by decide +kernel
theorem k0_off48_row : ∀ (i : grid0.Coords) (k : Fin (k0_t1_loop i).trips), k0_off48 i k 1 = 256 * ((i 1).val + 1 + k.val) := by decide +kernel
theorem k0_off49_row : ∀ (i : grid0.Coords) (k : Fin (k0_t1_loop i).trips), k0_off49 i k 1 = 256 * ((i 1).val + 1 + k.val) := by decide +kernel
theorem k0_off50_row : ∀ (i : grid0.Coords) (k : Fin (k0_t1_loop i).trips), k0_off50 i k 1 = 256 * ((i 1).val + 1 + k.val) := by decide +kernel
theorem k0_off51_row : ∀ (i : grid0.Coords) (k : Fin (k0_t1_loop i).trips), k0_off51 i k 1 = 256 * ((i 1).val + 1 + k.val) := by decide +kernel
theorem k0_off52_row : ∀ (i : grid0.Coords) (k : Fin (k0_t1_loop i).trips), k0_off52 i k 1 = 256 * ((i 1).val + 1 + k.val) := by decide +kernel
theorem k0_off53_row : ∀ (i : grid0.Coords) (k : Fin (k0_t1_loop i).trips), k0_off53 i k 1 = 256 * ((i 1).val + 1 + k.val) := by decide +kernel
theorem k0_off54_row : ∀ (i : grid0.Coords) (k : Fin (k0_t1_loop i).trips), k0_off54 i k 1 = 256 * ((i 1).val + 1 + k.val) := by decide +kernel

theorem one_of_cond4 : ∀ (i : grid0.Coords) (k : Fin (k0_t1_loop i).trips), k0_cond4 i = 1#1 →
    ((i 1).val = 0 ∧ k.val = 0) ∧ k0_off36 i k = ![1] ∧ k0_off37 i k = ![0, 256, 0] ∧ k0_off38 i k = ![0, 256, 0] := by decide +kernel

set_option maxHeartbeats 4000000 in
set_option backward.proofsInPublic true in
def tripRun1 (k : Fin (k0_t1_loop i).trips) (acc : A16 F)
    (f2 : Buf (Elt F) (arg2.view.loc (c : Thread nD τ))) (f6 : Buf (Elt F) (arg6.view.loc (c : Thread nD τ)))
    (fq : Buf (Elt F) (arg13.view.loc (c : Thread nD τ))) (fd : Buf (Elt F) (arg14.view.loc (c : Thread nD τ)))
    (f7 : Buf (Elt F) (arg7.view.loc (c : Thread nD τ))) (f8 : Buf (Elt F) (arg8.view.loc (c : Thread nD τ)))
    (fa : Buf (Elt F) (arg12.view.loc (c : Thread nD τ))) :
    { w : A16 F × List (View.Piece (Elt F) S8x16x72x256 .f32) //
      ∀ (n m : ℕ) (hc : k0_cond4 i = 1#1 → n = 1 ∧ m = 2) (hn : ¬ k0_cond4 i = 1#1 → n = m ∧ (i 1).val + k.val + 2 ≤ m)
        (hfq : ∀ f n, ∀ y ∈ (tq arg13 n).view.set, landQ c arg2 arg13 f2 f n y = fq y)
        (hfd : ∀ f n, ∀ y ∈ (td arg14 n).view.set, landD c arg6 arg14 f6 f n y = fd y),
      iprop(QS c arg2 arg6 arg13 arg14 arg15 arg16 f2 f6 fq fd n ∗ own c arg7 f7 ∗ own c arg8 f8 ∗ own c arg12 fa)
        ⊢ wp frame (wpE (defs₀ (F := F)) 𝒱₀ (c : Thread nD τ) none) Set.univ
        (trip1 i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v70 v71 v100 v124 v300 v308 v320 v322 v334 v336 v348 v350 v362 v364 v376 v378 v390 v392 v404 v406 v407 v408 v432 k acc)
        (fun a => iprop(⌜a = w.1⌝ ∗ QS c arg2 arg6 arg13 arg14 arg15 arg16 f2 f6 fq fd m ∗ own c arg7 f7 ∗ own c arg8 f8 ∗ own c arg12 (arg12.view.writes (Elt F) fa w.2))) } := by
  obtain ⟨a18, a19, a20, a21, a22, a23, a24, a25, a26, a27, a28, a29, a30, a31, a32, a33⟩ := acc
  refine ⟨⟨?_, ?_⟩, ?run⟩
  case run =>
    intro n m hc hn hfq hfd
    have hm : (i 1).val + k.val + 2 ≤ m := by
      by_cases h : k0_cond4 i = 1#1
      · have := (one_of_cond4 i k h).1; have := hc h; omega
      · exact (hn h).2
    dsimp only [trip1]
    sl_unfold [k0_t1_body]
    rw [k0_part6_eq_skeleton]
    unfold k0_part6_skel
    dsimp -proj only
    rw [wp_bind]
    refine wp_dite_mid (MID := iprop(QS c arg2 arg6 arg13 arg14 arg15 arg16 f2 f6 fq fd m ∗ own c arg7 f7 ∗ own c arg8 f8 ∗ own c arg12 fa)) ?hN ?hA ?hnn
    case hN =>
      have h39 : (arg13.access (Rect.unit (s := S8x4096x128) (k0_off39 i k) S1x256x128.size (k0_off39_inb i k))).set ⊆ (sub arg13 (upQ m) (upQ_unit m)).view.set := inclQ arg13 m (k0_off39_inb i k) (by rw [k0_off39_row i k]; omega)
      have h40 : (arg13.access (Rect.unit (s := S8x4096x128) (k0_off40 i k) S1x256x128.size (k0_off40_inb i k))).set ⊆ (sub arg13 (upQ m) (upQ_unit m)).view.set := inclQ arg13 m (k0_off40_inb i k) (by rw [k0_off40_row i k]; omega)
      have h41 : (arg13.access (Rect.unit (s := S8x4096x128) (k0_off41 i k) S1x256x128.size (k0_off41_inb i k))).set ⊆ (sub arg13 (upQ m) (upQ_unit m)).view.set := inclQ arg13 m (k0_off41_inb i k) (by rw [k0_off41_row i k]; omega)
      have h42 : (arg13.access (Rect.unit (s := S8x4096x128) (k0_off42 i k) S1x256x128.size (k0_off42_inb i k))).set ⊆ (sub arg13 (upQ m) (upQ_unit m)).view.set := inclQ arg13 m (k0_off42_inb i k) (by rw [k0_off42_row i k]; omega)
      have h43 : (arg13.access (Rect.unit (s := S8x4096x128) (k0_off43 i k) S1x256x128.size (k0_off43_inb i k))).set ⊆ (sub arg13 (upQ m) (upQ_unit m)).view.set := inclQ arg13 m (k0_off43_inb i k) (by rw [k0_off43_row i k]; omega)
      have h44 : (arg13.access (Rect.unit (s := S8x4096x128) (k0_off44 i k) S1x256x128.size (k0_off44_inb i k))).set ⊆ (sub arg13 (upQ m) (upQ_unit m)).view.set := inclQ arg13 m (k0_off44_inb i k) (by rw [k0_off44_row i k]; omega)
      have h45 : (arg13.access (Rect.unit (s := S8x4096x128) (k0_off45 i k) S1x256x128.size (k0_off45_inb i k))).set ⊆ (sub arg13 (upQ m) (upQ_unit m)).view.set := inclQ arg13 m (k0_off45_inb i k) (by rw [k0_off45_row i k]; omega)
      have h46 : (arg13.access (Rect.unit (s := S8x4096x128) (k0_off46 i k) S1x256x128.size (k0_off46_inb i k))).set ⊆ (sub arg13 (upQ m) (upQ_unit m)).view.set := inclQ arg13 m (k0_off46_inb i k) (by rw [k0_off46_row i k]; omega)
      have h47 : (arg14.access (Rect.unit (s := S8x4096x64) (k0_off47 i k) S1x256x64.size (k0_off47_inb i k))).set ⊆ (sub arg14 (upD m) (upD_unit m)).view.set := inclD arg14 m (k0_off47_inb i k) (by rw [k0_off47_row i k]; omega)
      have h48 : (arg14.access (Rect.unit (s := S8x4096x64) (k0_off48 i k) S1x256x64.size (k0_off48_inb i k))).set ⊆ (sub arg14 (upD m) (upD_unit m)).view.set := inclD arg14 m (k0_off48_inb i k) (by rw [k0_off48_row i k]; omega)
      have h49 : (arg14.access (Rect.unit (s := S8x4096x64) (k0_off49 i k) S1x256x64.size (k0_off49_inb i k))).set ⊆ (sub arg14 (upD m) (upD_unit m)).view.set := inclD arg14 m (k0_off49_inb i k) (by rw [k0_off49_row i k]; omega)
      have h50 : (arg14.access (Rect.unit (s := S8x4096x64) (k0_off50 i k) S1x256x64.size (k0_off50_inb i k))).set ⊆ (sub arg14 (upD m) (upD_unit m)).view.set := inclD arg14 m (k0_off50_inb i k) (by rw [k0_off50_row i k]; omega)
      have h51 : (arg14.access (Rect.unit (s := S8x4096x64) (k0_off51 i k) S1x256x64.size (k0_off51_inb i k))).set ⊆ (sub arg14 (upD m) (upD_unit m)).view.set := inclD arg14 m (k0_off51_inb i k) (by rw [k0_off51_row i k]; omega)
      have h52 : (arg14.access (Rect.unit (s := S8x4096x64) (k0_off52 i k) S1x256x64.size (k0_off52_inb i k))).set ⊆ (sub arg14 (upD m) (upD_unit m)).view.set := inclD arg14 m (k0_off52_inb i k) (by rw [k0_off52_row i k]; omega)
      have h53 : (arg14.access (Rect.unit (s := S8x4096x64) (k0_off53 i k) S1x256x64.size (k0_off53_inb i k))).set ⊆ (sub arg14 (upD m) (upD_unit m)).view.set := inclD arg14 m (k0_off53_inb i k) (by rw [k0_off53_row i k]; omega)
      have h54 : (arg14.access (Rect.unit (s := S8x4096x64) (k0_off54 i k) S1x256x64.size (k0_off54_inb i k))).set ⊆ (sub arg14 (upD m) (upD_unit m)).view.set := inclD arg14 m (k0_off54_inb i k) (by rw [k0_off54_row i k]; omega)
      unfold QS preQ preD
      generalize upQ_unit m = hS at *
      generalize upD_unit m = hT at *
      generalize upQ m = S at *
      generalize upD m = T at *
      iintro ⟨⟨Hq, Hd, Hs, %W, HW⟩, H7, H8, Ha⟩
      rw [← wp_bind]
      sl_exec
      sl_step
      isplitr
      · ipureintro; rfl
      · isplitl [Hq Hd Hs HW]
        · isplitl [Hq]; · iexact Hq
          isplitl [Hd]; · iexact Hd
          isplitl [Hs]; · iexact Hs
          iexists W; iexact HW
        · isplitl [H7]; · iexact H7
          isplitl [H8]; · iexact H8
          iexact Ha
    case hnn => intro h; rw [(hn h).1]
    case hA =>
      intro h hgo
      have hk := one_of_cond4 i k h
      obtain ⟨rfl, rfl⟩ := hc h
      have hcanon1 := cell_of arg15 ⟨1, by decide⟩ hk.2.1 (k0_off36_inb i k h)
      have hcanon2 := cell_of arg16 ⟨1, by decide⟩ hk.2.1 (k0_off36_inb i k h)
      have hcanon3 := tq_of arg13 ⟨1, by decide⟩ hk.2.2.1 (k0_off37_inb i k h)
      have hcanon4 := tq_of arg2 ⟨1, by decide⟩ hk.2.2.1 (k0_off37_inb i k h)
      have hcanon5 := td_of arg14 ⟨1, by decide⟩ hk.2.2.2 (k0_off38_inb i k h)
      have hcanon6 := td_of arg6 ⟨1, by decide⟩ hk.2.2.2 (k0_off38_inb i k h)
      refine ((sep_mono (QS_open c arg2 arg6 arg13 arg14 arg15 arg16 f2 f6 fq fd 1 (by decide) hfq hfd) .rfl).trans ?_)
      unfold flyQ flyD done
      iintro ⟨⟨⟨%fx, HA⟩, ⟨%fy, HB⟩, ⟨%W, HW⟩, Hback⟩, Hrest⟩
      sl_exec
      iapply hgo
      isplitl [HA HA_dst HA_src HB HB_dst HB_src HW Hback]
      · iapply Hback
        isplitl [HA_dst]; · iexists fx; iexact HA_dst
        isplitl [HB_dst]; · iexists fy; iexact HB_dst
        isplitl [HA HA_src HB HB_src]
        · isplitl [HA_src]; · iexact HA_src
          isplitl [HB_src]; · iexact HB_src
          isplitl [HA]; · iexact HA
          iexact HB
        iexists _; iexact HW
      iexact Hrest

end Trip1

end Cert.Fox
end
-- ==== Proof.FoxTrip3.lean ====
module

public import proofs.«01_k».proof.Defs
public import proofs.«01_k».proof.Proof.FoxTrip1
public import proofs.«01_k».proof.Proof.Gen.FoxBwdIdeal.Launch
public import proofs.«01_k».proof.Proof.Gen.FoxBwdIdeal.Skeleton
public import proofs.«01_k».proof.Proof.Gen.FoxBwdIdeal.Loops
public import proofs.«01_k».proof.Proof.Gen.FoxBwdIdeal.Points
public import proofs.«01_k».proof.Proof.Gen.FoxBwdIdeal.Frame
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Fox

open Cert.FoxBwdIdeal Cert.FoxBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem off133_0_eq : ∀ (i : grid0.Coords) (k : Fin (k0_t3_loop i).trips), k0_off133 i k 0#32 = ![0, (i 1).val + 1 + (15 - (i 1).val) % 2 + 2 * k.val + 0, 0, 0] := by decide +kernel
instance (i : grid0.Coords) (k : Fin (k0_t3_loop i).trips) : ClosedOff (k0_off133 i k 0#32) := ⟨![0, (i 1).val + 1 + (15 - (i 1).val) % 2 + 2 * k.val + 0, 0, 0], off133_0_eq i k⟩
theorem off133_1_eq : ∀ (i : grid0.Coords) (k : Fin (k0_t3_loop i).trips), k0_off133 i k 1#32 = ![0, (i 1).val + 1 + (15 - (i 1).val) % 2 + 2 * k.val + 1, 0, 0] := by decide +kernel
instance (i : grid0.Coords) (k : Fin (k0_t3_loop i).trips) : ClosedOff (k0_off133 i k 1#32) := ⟨![0, (i 1).val + 1 + (15 - (i 1).val) % 2 + 2 * k.val + 1, 0, 0], off133_1_eq i k⟩
theorem off134_0_eq : ∀ (i : grid0.Coords) (k : Fin (k0_t3_loop i).trips), k0_off134 i k 0#32 = ![1, (i 1).val + 1 + (15 - (i 1).val) % 2 + 2 * k.val + 0, 0, 0] := by decide +kernel
instance (i : grid0.Coords) (k : Fin (k0_t3_loop i).trips) : ClosedOff (k0_off134 i k 0#32) := ⟨![1, (i 1).val + 1 + (15 - (i 1).val) % 2 + 2 * k.val + 0, 0, 0], off134_0_eq i k⟩
theorem off134_1_eq : ∀ (i : grid0.Coords) (k : Fin (k0_t3_loop i).trips), k0_off134 i k 1#32 = ![1, (i 1).val + 1 + (15 - (i 1).val) % 2 + 2 * k.val + 1, 0, 0] := by decide +kernel
instance (i : grid0.Coords) (k : Fin (k0_t3_loop i).trips) : ClosedOff (k0_off134 i k 1#32) := ⟨![1, (i 1).val + 1 + (15 - (i 1).val) % 2 + 2 * k.val + 1, 0, 0], off134_1_eq i k⟩
theorem off135_0_eq : ∀ (i : grid0.Coords) (k : Fin (k0_t3_loop i).trips), k0_off135 i k 0#32 = ![2, (i 1).val + 1 + (15 - (i 1).val) % 2 + 2 * k.val + 0, 0, 0] := by decide +kernel
instance (i : grid0.Coords) (k : Fin (k0_t3_loop i).trips) : ClosedOff (k0_off135 i k 0#32) := ⟨![2, (i 1).val + 1 + (15 - (i 1).val) % 2 + 2 * k.val + 0, 0, 0], off135_0_eq i k⟩
theorem off135_1_eq : ∀ (i : grid0.Coords) (k : Fin (k0_t3_loop i).trips), k0_off135 i k 1#32 = ![2, (i 1).val + 1 + (15 - (i 1).val) % 2 + 2 * k.val + 1, 0, 0] := by decide +kernel
instance (i : grid0.Coords) (k : Fin (k0_t3_loop i).trips) : ClosedOff (k0_off135 i k 1#32) := ⟨![2, (i 1).val + 1 + (15 - (i 1).val) % 2 + 2 * k.val + 1, 0, 0], off135_1_eq i k⟩
theorem off136_0_eq : ∀ (i : grid0.Coords) (k : Fin (k0_t3_loop i).trips), k0_off136 i k 0#32 = ![3, (i 1).val + 1 + (15 - (i 1).val) % 2 + 2 * k.val + 0, 0, 0] := by decide +kernel
instance (i : grid0.Coords) (k : Fin (k0_t3_loop i).trips) : ClosedOff (k0_off136 i k 0#32) := ⟨![3, (i 1).val + 1 + (15 - (i 1).val) % 2 + 2 * k.val + 0, 0, 0], off136_0_eq i k⟩
theorem off136_1_eq : ∀ (i : grid0.Coords) (k : Fin (k0_t3_loop i).trips), k0_off136 i k 1#32 = ![3, (i 1).val + 1 + (15 - (i 1).val) % 2 + 2 * k.val + 1, 0, 0] := by decide +kernel
instance (i : grid0.Coords) (k : Fin (k0_t3_loop i).trips) : ClosedOff (k0_off136 i k 1#32) := ⟨![3, (i 1).val + 1 + (15 - (i 1).val) % 2 + 2 * k.val + 1, 0, 0], off136_1_eq i k⟩
theorem off137_0_eq : ∀ (i : grid0.Coords) (k : Fin (k0_t3_loop i).trips), k0_off137 i k 0#32 = ![4, (i 1).val + 1 + (15 - (i 1).val) % 2 + 2 * k.val + 0, 0, 0] := by decide +kernel
instance (i : grid0.Coords) (k : Fin (k0_t3_loop i).trips) : ClosedOff (k0_off137 i k 0#32) := ⟨![4, (i 1).val + 1 + (15 - (i 1).val) % 2 + 2 * k.val + 0, 0, 0], off137_0_eq i k⟩
theorem off137_1_eq : ∀ (i : grid0.Coords) (k : Fin (k0_t3_loop i).trips), k0_off137 i k 1#32 = ![4, (i 1).val + 1 + (15 - (i 1).val) % 2 + 2 * k.val + 1, 0, 0] := by decide +kernel
instance (i : grid0.Coords) (k : Fin (k0_t3_loop i).trips) : ClosedOff (k0_off137 i k 1#32) := ⟨![4, (i 1).val + 1 + (15 - (i 1).val) % 2 + 2 * k.val + 1, 0, 0], off137_1_eq i k⟩
theorem off138_0_eq : ∀ (i : grid0.Coords) (k : Fin (k0_t3_loop i).trips), k0_off138 i k 0#32 = ![5, (i 1).val + 1 + (15 - (i 1).val) % 2 + 2 * k.val + 0, 0, 0] := by decide +kernel
instance (i : grid0.Coords) (k : Fin (k0_t3_loop i).trips) : ClosedOff (k0_off138 i k 0#32) := ⟨![5, (i 1).val + 1 + (15 - (i 1).val) % 2 + 2 * k.val + 0, 0, 0], off138_0_eq i k⟩
theorem off138_1_eq : ∀ (i : grid0.Coords) (k : Fin (k0_t3_loop i).trips), k0_off138 i k 1#32 = ![5, (i 1).val + 1 + (15 - (i 1).val) % 2 + 2 * k.val + 1, 0, 0] := by decide +kernel
instance (i : grid0.Coords) (k : Fin (k0_t3_loop i).trips) : ClosedOff (k0_off138 i k 1#32) := ⟨![5, (i 1).val + 1 + (15 - (i 1).val) % 2 + 2 * k.val + 1, 0, 0], off138_1_eq i k⟩
theorem off139_0_eq : ∀ (i : grid0.Coords) (k : Fin (k0_t3_loop i).trips), k0_off139 i k 0#32 = ![6, (i 1).val + 1 + (15 - (i 1).val) % 2 + 2 * k.val + 0, 0, 0] := by decide +kernel
instance (i : grid0.Coords) (k : Fin (k0_t3_loop i).trips) : ClosedOff (k0_off139 i k 0#32) := ⟨![6, (i 1).val + 1 + (15 - (i 1).val) % 2 + 2 * k.val + 0, 0, 0], off139_0_eq i k⟩
theorem off139_1_eq : ∀ (i : grid0.Coords) (k : Fin (k0_t3_loop i).trips), k0_off139 i k 1#32 = ![6, (i 1).val + 1 + (15 - (i 1).val) % 2 + 2 * k.val + 1, 0, 0] := by decide +kernel
instance (i : grid0.Coords) (k : Fin (k0_t3_loop i).trips) : ClosedOff (k0_off139 i k 1#32) := ⟨![6, (i 1).val + 1 + (15 - (i 1).val) % 2 + 2 * k.val + 1, 0, 0], off139_1_eq i k⟩
theorem off140_0_eq : ∀ (i : grid0.Coords) (k : Fin (k0_t3_loop i).trips), k0_off140 i k 0#32 = ![7, (i 1).val + 1 + (15 - (i 1).val) % 2 + 2 * k.val + 0, 0, 0] := by decide +kernel
instance (i : grid0.Coords) (k : Fin (k0_t3_loop i).trips) : ClosedOff (k0_off140 i k 0#32) := ⟨![7, (i 1).val + 1 + (15 - (i 1).val) % 2 + 2 * k.val + 0, 0, 0], off140_0_eq i k⟩
theorem off140_1_eq : ∀ (i : grid0.Coords) (k : Fin (k0_t3_loop i).trips), k0_off140 i k 1#32 = ![7, (i 1).val + 1 + (15 - (i 1).val) % 2 + 2 * k.val + 1, 0, 0] := by decide +kernel
instance (i : grid0.Coords) (k : Fin (k0_t3_loop i).trips) : ClosedOff (k0_off140 i k 1#32) := ⟨![7, (i 1).val + 1 + (15 - (i 1).val) % 2 + 2 * k.val + 1, 0, 0], off140_1_eq i k⟩
section Trip3
variable (c : Dev nD) (i : grid0.Coords)
  (arg2 : Memref sig .tc .hbm S8x4096x128 .bf16) (harg2 : arg2.IsWhole)
  (arg3 : Memref sig .tc .vmem S8x256x128 .bf16) (harg3 : arg3.IsWhole)
  (arg4 : Memref sig .tc .vmem S8x1x80x256 .bf16) (harg4 : arg4.IsWhole)
  (arg5 : Memref sig .tc .vmem S8x256x64 .bf16) (harg5 : arg5.IsWhole)
  (arg6 : Memref sig .tc .hbm S8x4096x64 .bf16) (harg6 : arg6.IsWhole)
  (arg7 : Memref sig .tc .vmem S8x16x8x256 .f32) (harg7 : arg7.IsWhole)
  (arg8 : Memref sig .tc .vmem S8x16x8x256 .f32) (harg8 : arg8.IsWhole)
  (arg9 : Memref sig .tc .vmem S8x256x128 .f32) (harg9 : arg9.IsWhole)
  (arg10 : Memref sig .tc .vmem S8x256x128 .f32) (harg10 : arg10.IsWhole)
  (arg11 : Memref sig .tc .vmem S8x256x64 .bf16) (harg11 : arg11.IsWhole)
  (arg12 : Memref sig .tc .vmem S8x16x72x256 .f32) (harg12 : arg12.IsWhole)
  (arg13 : Memref sig .tc .vmem S8x4096x128 .bf16) (harg13 : arg13.IsWhole)
  (arg14 : Memref sig .tc .vmem S8x4096x64 .bf16) (harg14 : arg14.IsWhole)
  (arg15 arg16 : DmaSems sig S16)
  (arg1 : BitVec 32)
  (v9 : FVec F S256x128 .bf16)
  (v11 : FVec F S256x128 .bf16)
  (v13 : FVec F S256x128 .bf16)
  (v15 : FVec F S256x128 .bf16)
  (v17 : FVec F S256x128 .bf16)
  (v19 : FVec F S256x128 .bf16)
  (v21 : FVec F S256x128 .bf16)
  (v23 : FVec F S256x128 .bf16)
  (v25 : FVec F S72x256 .bf16)
  (v27 : FVec F S72x256 .bf16)
  (v29 : FVec F S72x256 .bf16)
  (v31 : FVec F S72x256 .bf16)
  (v33 : FVec F S72x256 .bf16)
  (v35 : FVec F S72x256 .bf16)
  (v37 : FVec F S72x256 .bf16)
  (v39 : FVec F S72x256 .bf16)
  (v41 : FVec F S256x64 .bf16)
  (v43 : FVec F S256x64 .bf16)
  (v45 : FVec F S256x64 .bf16)
  (v47 : FVec F S256x64 .bf16)
  (v49 : FVec F S256x64 .bf16)
  (v51 : FVec F S256x64 .bf16)
  (v53 : FVec F S256x64 .bf16)
  (v55 : FVec F S256x64 .bf16)
  (v431 : BitVec 32)
  (v441_0 : FVec F S256x128 .f32)
  (v441_1 : FVec F S256x64 .f32)
  (v441_2 : FVec F S256x128 .f32)
  (v441_3 : FVec F S256x64 .f32)
  (v441_4 : FVec F S256x128 .f32)
  (v441_5 : FVec F S256x64 .f32)
  (v441_6 : FVec F S256x128 .f32)
  (v441_7 : FVec F S256x64 .f32)
  (v441_8 : FVec F S256x128 .f32)
  (v441_9 : FVec F S256x64 .f32)
  (v441_10 : FVec F S256x128 .f32)
  (v441_11 : FVec F S256x64 .f32)
  (v441_12 : FVec F S256x128 .f32)
  (v441_13 : FVec F S256x64 .f32)
  (v441_14 : FVec F S256x128 .f32)
  (v441_15 : FVec F S256x64 .f32)
  (v442 : BitVec 32)
  (c2_i32_303 : BitVec 32)
  (v443 : BitVec 32)
  (v445 : BitVec 32)
  (v446 : BitVec 1)

abbrev trip3 (k : Fin (k0_t3_loop i).trips) (acc : A16 F) : Prog (TpuEff nD τ sig (Elt F) Λ₀ .tc) (A16 F) :=
  k0_t3_body (F := F) i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 v441_0 v441_1 v441_2 v441_3 v441_4 v441_5 v441_6 v441_7 v441_8 v441_9 v441_10 v441_11 v441_12 v441_13 v441_14 v441_15 v442 c2_i32_303 v443 v445 v446 k acc

theorem k0_off109_row : ∀ (i : grid0.Coords) (k : Fin (k0_t3_loop i).trips), k0_off109 i k 1 = 256 * ((i 1).val + 1 + (15 - (i 1).val) % 2 + 2 * k.val) := by decide +kernel
theorem k0_off110_row : ∀ (i : grid0.Coords) (k : Fin (k0_t3_loop i).trips), k0_off110 i k 1 = 256 * ((i 1).val + 1 + (15 - (i 1).val) % 2 + 2 * k.val) := by decide +kernel
theorem k0_off111_row : ∀ (i : grid0.Coords) (k : Fin (k0_t3_loop i).trips), k0_off111 i k 1 = 256 * ((i 1).val + 1 + (15 - (i 1).val) % 2 + 2 * k.val) := by decide +kernel
theorem k0_off112_row : ∀ (i : grid0.Coords) (k : Fin (k0_t3_loop i).trips), k0_off112 i k 1 = 256 * ((i 1).val + 1 + (15 - (i 1).val) % 2 + 2 * k.val) := by decide +kernel
theorem k0_off113_row : ∀ (i : grid0.Coords) (k : Fin (k0_t3_loop i).trips), k0_off113 i k 1 = 256 * ((i 1).val + 1 + (15 - (i 1).val) % 2 + 2 * k.val) := by decide +kernel
theorem k0_off114_row : ∀ (i : grid0.Coords) (k : Fin (k0_t3_loop i).trips), k0_off114 i k 1 = 256 * ((i 1).val + 1 + (15 - (i 1).val) % 2 + 2 * k.val) := by decide +kernel
theorem k0_off115_row : ∀ (i : grid0.Coords) (k : Fin (k0_t3_loop i).trips), k0_off115 i k 1 = 256 * ((i 1).val + 1 + (15 - (i 1).val) % 2 + 2 * k.val) := by decide +kernel
theorem k0_off116_row : ∀ (i : grid0.Coords) (k : Fin (k0_t3_loop i).trips), k0_off116 i k 1 = 256 * ((i 1).val + 1 + (15 - (i 1).val) % 2 + 2 * k.val) := by decide +kernel
theorem k0_off117_row : ∀ (i : grid0.Coords) (k : Fin (k0_t3_loop i).trips), k0_off117 i k 1 = 256 * ((i 1).val + 1 + (15 - (i 1).val) % 2 + 2 * k.val) := by decide +kernel
theorem k0_off118_row : ∀ (i : grid0.Coords) (k : Fin (k0_t3_loop i).trips), k0_off118 i k 1 = 256 * ((i 1).val + 1 + (15 - (i 1).val) % 2 + 2 * k.val) := by decide +kernel
theorem k0_off119_row : ∀ (i : grid0.Coords) (k : Fin (k0_t3_loop i).trips), k0_off119 i k 1 = 256 * ((i 1).val + 1 + (15 - (i 1).val) % 2 + 2 * k.val) := by decide +kernel
theorem k0_off120_row : ∀ (i : grid0.Coords) (k : Fin (k0_t3_loop i).trips), k0_off120 i k 1 = 256 * ((i 1).val + 1 + (15 - (i 1).val) % 2 + 2 * k.val) := by decide +kernel
theorem k0_off121_row : ∀ (i : grid0.Coords) (k : Fin (k0_t3_loop i).trips), k0_off121 i k 1 = 256 * ((i 1).val + 1 + (15 - (i 1).val) % 2 + 2 * k.val) := by decide +kernel
theorem k0_off122_row : ∀ (i : grid0.Coords) (k : Fin (k0_t3_loop i).trips), k0_off122 i k 1 = 256 * ((i 1).val + 1 + (15 - (i 1).val) % 2 + 2 * k.val) := by decide +kernel
theorem k0_off123_row : ∀ (i : grid0.Coords) (k : Fin (k0_t3_loop i).trips), k0_off123 i k 1 = 256 * ((i 1).val + 1 + (15 - (i 1).val) % 2 + 2 * k.val) := by decide +kernel
theorem k0_off124_row : ∀ (i : grid0.Coords) (k : Fin (k0_t3_loop i).trips), k0_off124 i k 1 = 256 * ((i 1).val + 1 + (15 - (i 1).val) % 2 + 2 * k.val) := by decide +kernel

theorem two_of_cond6 : ∀ (i : grid0.Coords) (k : Fin (k0_t3_loop i).trips), k0_cond6 i = 1#1 →
    (i 1).val = 0 ∧ 2 * k.val + 3 < 16 ∧ k0_off106 i k 0#32 = ![2 * k.val + 2] ∧ k0_off106 i k 1#32 = ![2 * k.val + 3]
      ∧ k0_off107 i k 0#32 = ![0, 256 * (2 * k.val + 2), 0] ∧ k0_off107 i k 1#32 = ![0, 256 * (2 * k.val + 3), 0]
      ∧ k0_off108 i k 0#32 = ![0, 256 * (2 * k.val + 2), 0] ∧ k0_off108 i k 1#32 = ![0, 256 * (2 * k.val + 3), 0] := by decide +kernel

set_option maxHeartbeats 4000000 in
set_option backward.proofsInPublic true in
def tripRun3 (k : Fin (k0_t3_loop i).trips) (acc : A16 F)
    (f2 : Buf (Elt F) (arg2.view.loc (c : Thread nD τ))) (f6 : Buf (Elt F) (arg6.view.loc (c : Thread nD τ)))
    (fq : Buf (Elt F) (arg13.view.loc (c : Thread nD τ))) (fd : Buf (Elt F) (arg14.view.loc (c : Thread nD τ)))
    (f7 : Buf (Elt F) (arg7.view.loc (c : Thread nD τ))) (f8 : Buf (Elt F) (arg8.view.loc (c : Thread nD τ)))
    (fa : Buf (Elt F) (arg12.view.loc (c : Thread nD τ))) :
    { w : A16 F × List (View.Piece (Elt F) S8x16x72x256 .f32) //
      ∀ (n m : ℕ) (hc : k0_cond6 i = 1#1 → n = 2 * k.val + 2 ∧ m = 2 * k.val + 4) (hn : ¬ k0_cond6 i = 1#1 → n = m ∧ (i 1).val + 1 + (15 - (i 1).val) % 2 + 2 * k.val + 2 ≤ m)
        (hfq : ∀ f n, ∀ y ∈ (tq arg13 n).view.set, landQ c arg2 arg13 f2 f n y = fq y)
        (hfd : ∀ f n, ∀ y ∈ (td arg14 n).view.set, landD c arg6 arg14 f6 f n y = fd y),
      iprop(QS c arg2 arg6 arg13 arg14 arg15 arg16 f2 f6 fq fd n ∗ own c arg7 f7 ∗ own c arg8 f8 ∗ own c arg12 fa)
        ⊢ wp frame (wpE (defs₀ (F := F)) 𝒱₀ (c : Thread nD τ) none) Set.univ
        (trip3 i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 v441_0 v441_1 v441_2 v441_3 v441_4 v441_5 v441_6 v441_7 v441_8 v441_9 v441_10 v441_11 v441_12 v441_13 v441_14 v441_15 v442 c2_i32_303 v443 v445 v446 k acc)
        (fun a => iprop(⌜a = w.1⌝ ∗ QS c arg2 arg6 arg13 arg14 arg15 arg16 f2 f6 fq fd m ∗ own c arg7 f7 ∗ own c arg8 f8 ∗ own c arg12 (arg12.view.writes (Elt F) fa w.2))) } := by
  obtain ⟨a18, a19, a20, a21, a22, a23, a24, a25, a26, a27, a28, a29, a30, a31, a32, a33⟩ := acc
  refine ⟨⟨?_, ?_⟩, ?run⟩
  case run =>
    intro n m hc hn hfq hfd
    have hm : (i 1).val + 1 + (15 - (i 1).val) % 2 + 2 * k.val + 2 ≤ m := by
      by_cases h : k0_cond6 i = 1#1
      · have := (two_of_cond6 i k h).1; have := hc h; omega
      · exact (hn h).2
    dsimp only [trip3]
    sl_unfold [k0_t3_body]
    rw [k0_part22_eq_skeleton]
    unfold k0_part22_skel
    dsimp -proj only
    rw [wp_bind]
    refine wp_dite_mid (MID := iprop(QS c arg2 arg6 arg13 arg14 arg15 arg16 f2 f6 fq fd m ∗ own c arg7 f7 ∗ own c arg8 f8 ∗ own c arg12 fa)) ?hN ?hA ?hnn
    case hN =>
      have h109 : (arg13.access (Rect.unit (s := S8x4096x128) (k0_off109 i k) S1x512x128.size (k0_off109_inb i k))).set ⊆ (sub arg13 (upQ m) (upQ_unit m)).view.set := inclQ2 arg13 m (k0_off109_inb i k) (by rw [k0_off109_row i k]; omega)
      have h110 : (arg13.access (Rect.unit (s := S8x4096x128) (k0_off110 i k) S1x512x128.size (k0_off110_inb i k))).set ⊆ (sub arg13 (upQ m) (upQ_unit m)).view.set := inclQ2 arg13 m (k0_off110_inb i k) (by rw [k0_off110_row i k]; omega)
      have h111 : (arg13.access (Rect.unit (s := S8x4096x128) (k0_off111 i k) S1x512x128.size (k0_off111_inb i k))).set ⊆ (sub arg13 (upQ m) (upQ_unit m)).view.set := inclQ2 arg13 m (k0_off111_inb i k) (by rw [k0_off111_row i k]; omega)
      have h112 : (arg13.access (Rect.unit (s := S8x4096x128) (k0_off112 i k) S1x512x128.size (k0_off112_inb i k))).set ⊆ (sub arg13 (upQ m) (upQ_unit m)).view.set := inclQ2 arg13 m (k0_off112_inb i k) (by rw [k0_off112_row i k]; omega)
      have h113 : (arg13.access (Rect.unit (s := S8x4096x128) (k0_off113 i k) S1x512x128.size (k0_off113_inb i k))).set ⊆ (sub arg13 (upQ m) (upQ_unit m)).view.set := inclQ2 arg13 m (k0_off113_inb i k) (by rw [k0_off113_row i k]; omega)
      have h114 : (arg13.access (Rect.unit (s := S8x4096x128) (k0_off114 i k) S1x512x128.size (k0_off114_inb i k))).set ⊆ (sub arg13 (upQ m) (upQ_unit m)).view.set := inclQ2 arg13 m (k0_off114_inb i k) (by rw [k0_off114_row i k]; omega)
      have h115 : (arg13.access (Rect.unit (s := S8x4096x128) (k0_off115 i k) S1x512x128.size (k0_off115_inb i k))).set ⊆ (sub arg13 (upQ m) (upQ_unit m)).view.set := inclQ2 arg13 m (k0_off115_inb i k) (by rw [k0_off115_row i k]; omega)
      have h116 : (arg13.access (Rect.unit (s := S8x4096x128) (k0_off116 i k) S1x512x128.size (k0_off116_inb i k))).set ⊆ (sub arg13 (upQ m) (upQ_unit m)).view.set := inclQ2 arg13 m (k0_off116_inb i k) (by rw [k0_off116_row i k]; omega)
      have h117 : (arg14.access (Rect.unit (s := S8x4096x64) (k0_off117 i k) S1x512x64.size (k0_off117_inb i k))).set ⊆ (sub arg14 (upD m) (upD_unit m)).view.set := inclD2 arg14 m (k0_off117_inb i k) (by rw [k0_off117_row i k]; omega)
      have h118 : (arg14.access (Rect.unit (s := S8x4096x64) (k0_off118 i k) S1x512x64.size (k0_off118_inb i k))).set ⊆ (sub arg14 (upD m) (upD_unit m)).view.set := inclD2 arg14 m (k0_off118_inb i k) (by rw [k0_off118_row i k]; omega)
      have h119 : (arg14.access (Rect.unit (s := S8x4096x64) (k0_off119 i k) S1x512x64.size (k0_off119_inb i k))).set ⊆ (sub arg14 (upD m) (upD_unit m)).view.set := inclD2 arg14 m (k0_off119_inb i k) (by rw [k0_off119_row i k]; omega)
      have h120 : (arg14.access (Rect.unit (s := S8x4096x64) (k0_off120 i k) S1x512x64.size (k0_off120_inb i k))).set ⊆ (sub arg14 (upD m) (upD_unit m)).view.set := inclD2 arg14 m (k0_off120_inb i k) (by rw [k0_off120_row i k]; omega)
      have h121 : (arg14.access (Rect.unit (s := S8x4096x64) (k0_off121 i k) S1x512x64.size (k0_off121_inb i k))).set ⊆ (sub arg14 (upD m) (upD_unit m)).view.set := inclD2 arg14 m (k0_off121_inb i k) (by rw [k0_off121_row i k]; omega)
      have h122 : (arg14.access (Rect.unit (s := S8x4096x64) (k0_off122 i k) S1x512x64.size (k0_off122_inb i k))).set ⊆ (sub arg14 (upD m) (upD_unit m)).view.set := inclD2 arg14 m (k0_off122_inb i k) (by rw [k0_off122_row i k]; omega)
      have h123 : (arg14.access (Rect.unit (s := S8x4096x64) (k0_off123 i k) S1x512x64.size (k0_off123_inb i k))).set ⊆ (sub arg14 (upD m) (upD_unit m)).view.set := inclD2 arg14 m (k0_off123_inb i k) (by rw [k0_off123_row i k]; omega)
      have h124 : (arg14.access (Rect.unit (s := S8x4096x64) (k0_off124 i k) S1x512x64.size (k0_off124_inb i k))).set ⊆ (sub arg14 (upD m) (upD_unit m)).view.set := inclD2 arg14 m (k0_off124_inb i k) (by rw [k0_off124_row i k]; omega)
      unfold QS preQ preD
      generalize upQ_unit m = hS at *
      generalize upD_unit m = hT at *
      generalize upQ m = S at *
      generalize upD m = T at *
      iintro ⟨⟨Hq, Hd, Hs, %W, HW⟩, H7, H8, Ha⟩
      rw [← wp_bind]
      sl_exec
      sl_step
      isplitr
      · ipureintro; rfl
      · isplitl [Hq Hd Hs HW]
        · isplitl [Hq]; · iexact Hq
          isplitl [Hd]; · iexact Hd
          isplitl [Hs]; · iexact Hs
          iexists W; iexact HW
        · isplitl [H7]; · iexact H7
          isplitl [H8]; · iexact H8
          iexact Ha
    case hnn => intro h; rw [(hn h).1]
    case hA =>
      intro h hgo
      obtain ⟨hi, hlt, e106_0, e106_1, e107_0, e107_1, e108_0, e108_1⟩ := two_of_cond6 i k h
      obtain ⟨rfl, rfl⟩ := hc h
      have h0 : 2 * k.val + 2 < 16 := by omega
      have h1 : 2 * k.val + 2 + 1 < 16 := by omega
      have hcanon1 := cell_of arg15 ⟨2 * k.val + 2, h0⟩ e106_0 (k0_off106_inb i k h 0)
      have hcanon2 := cell_of arg16 ⟨2 * k.val + 2, h0⟩ e106_0 (k0_off106_inb i k h 0)
      have hcanon3 := tq_of arg13 ⟨2 * k.val + 2, h0⟩ e107_0 (k0_off107_inb i k h 0)
      have hcanon4 := tq_of arg2 ⟨2 * k.val + 2, h0⟩ e107_0 (k0_off107_inb i k h 0)
      have hcanon5 := td_of arg14 ⟨2 * k.val + 2, h0⟩ e108_0 (k0_off108_inb i k h 0)
      have hcanon6 := td_of arg6 ⟨2 * k.val + 2, h0⟩ e108_0 (k0_off108_inb i k h 0)
      have hcanon7 := cell_of arg15 ⟨2 * k.val + 2 + 1, h1⟩ e106_1 (k0_off106_inb i k h 1)
      have hcanon8 := cell_of arg16 ⟨2 * k.val + 2 + 1, h1⟩ e106_1 (k0_off106_inb i k h 1)
      have hcanon9 := tq_of arg13 ⟨2 * k.val + 2 + 1, h1⟩ e107_1 (k0_off107_inb i k h 1)
      have hcanon10 := tq_of arg2 ⟨2 * k.val + 2 + 1, h1⟩ e107_1 (k0_off107_inb i k h 1)
      have hcanon11 := td_of arg14 ⟨2 * k.val + 2 + 1, h1⟩ e108_1 (k0_off108_inb i k h 1)
      have hcanon12 := td_of arg6 ⟨2 * k.val + 2 + 1, h1⟩ e108_1 (k0_off108_inb i k h 1)
      refine ((sep_mono (QS_open c arg2 arg6 arg13 arg14 arg15 arg16 f2 f6 fq fd (2 * k.val + 2) h0 hfq hfd) .rfl).trans ?_)
      have step := QS_open c arg2 arg6 arg13 arg14 arg15 arg16 f2 f6 fq fd (2 * k.val + 2 + 1) h1 hfq hfd
      unfold flyQ flyD done at step ⊢
      iintro ⟨⟨⟨%fx, HA⟩, ⟨%fy, HB⟩, ⟨%W, HW⟩, Hback⟩, Hrest⟩
      sl_exec
      ihave H := step $$ [HA HA_dst HA_src HB HB_dst HB_src HW Hback]
      · iapply Hback
        isplitl [HA_dst]; · iexists fx; iexact HA_dst
        isplitl [HB_dst]; · iexists fy; iexact HB_dst
        isplitl [HA HA_src HB HB_src]
        · isplitl [HA_src]; · iexact HA_src
          isplitl [HB_src]; · iexact HB_src
          isplitl [HA]; · iexact HA
          iexact HB
        iexists _; iexact HW
      icases H with ⟨⟨%gx, HC⟩, ⟨%gy, HD⟩, ⟨%W', HW⟩, Hback⟩
      sl_exec
      iapply hgo
      isplitl [HC HC_dst HC_src HD HD_dst HD_src HW Hback]
      · iapply Hback
        isplitl [HC_dst]; · iexists gx; iexact HC_dst
        isplitl [HD_dst]; · iexists gy; iexact HD_dst
        isplitl [HC HC_src HD HD_src]
        · isplitl [HC_src]; · iexact HC_src
          isplitl [HD_src]; · iexact HD_src
          isplitl [HC]; · iexact HC
          iexact HD
        iexists _; iexact HW
      iexact Hrest

end Trip3

end Cert.Fox
end
-- ==== Proof.FoxLoops.lean ====
module

public import proofs.«01_k».proof.Defs
public import proofs.«01_k».proof.Proof.FoxTrip1
public import proofs.«01_k».proof.Proof.FoxTrip3
public import proofs.«01_k».proof.Proof.Gen.FoxBwdIdeal.Launch
public import proofs.«01_k».proof.Proof.Gen.FoxBwdIdeal.Skeleton
public import proofs.«01_k».proof.Proof.Gen.FoxBwdIdeal.Loops
public import proofs.«01_k».proof.Proof.Gen.FoxBwdIdeal.Points
public import proofs.«01_k».proof.Proof.Gen.FoxBwdIdeal.Frame
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Fox

open Cert.FoxBwdIdeal Cert.FoxBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- A value no trip reads. -/
def fill {s : Shape} {t : FTy} : FVec F s t := fun _ => FloatOps.ofBits t 0

section Loops
variable (c : Dev nD) (i : grid0.Coords)
  (arg2 : Memref sig .tc .hbm S8x4096x128 .bf16) (harg2 : arg2.IsWhole)
  (arg3 : Memref sig .tc .vmem S8x256x128 .bf16) (harg3 : arg3.IsWhole)
  (arg4 : Memref sig .tc .vmem S8x1x80x256 .bf16) (harg4 : arg4.IsWhole)
  (arg5 : Memref sig .tc .vmem S8x256x64 .bf16) (harg5 : arg5.IsWhole)
  (arg6 : Memref sig .tc .hbm S8x4096x64 .bf16) (harg6 : arg6.IsWhole)
  (arg7 : Memref sig .tc .vmem S8x16x8x256 .f32) (harg7 : arg7.IsWhole)
  (arg8 : Memref sig .tc .vmem S8x16x8x256 .f32) (harg8 : arg8.IsWhole)
  (arg9 : Memref sig .tc .vmem S8x256x128 .f32) (harg9 : arg9.IsWhole)
  (arg10 : Memref sig .tc .vmem S8x256x128 .f32) (harg10 : arg10.IsWhole)
  (arg11 : Memref sig .tc .vmem S8x256x64 .bf16) (harg11 : arg11.IsWhole)
  (arg12 : Memref sig .tc .vmem S8x16x72x256 .f32) (harg12 : arg12.IsWhole)
  (arg13 : Memref sig .tc .vmem S8x4096x128 .bf16) (harg13 : arg13.IsWhole)
  (arg14 : Memref sig .tc .vmem S8x4096x64 .bf16) (harg14 : arg14.IsWhole)
  (arg15 arg16 : DmaSems sig S16)

section T1
variable   (arg1 : BitVec 32)
  (v9 : FVec F S256x128 .bf16)
  (v11 : FVec F S256x128 .bf16)
  (v13 : FVec F S256x128 .bf16)
  (v15 : FVec F S256x128 .bf16)
  (v17 : FVec F S256x128 .bf16)
  (v19 : FVec F S256x128 .bf16)
  (v21 : FVec F S256x128 .bf16)
  (v23 : FVec F S256x128 .bf16)
  (v25 : FVec F S72x256 .bf16)
  (v27 : FVec F S72x256 .bf16)
  (v29 : FVec F S72x256 .bf16)
  (v31 : FVec F S72x256 .bf16)
  (v33 : FVec F S72x256 .bf16)
  (v35 : FVec F S72x256 .bf16)
  (v37 : FVec F S72x256 .bf16)
  (v39 : FVec F S72x256 .bf16)
  (v41 : FVec F S256x64 .bf16)
  (v43 : FVec F S256x64 .bf16)
  (v45 : FVec F S256x64 .bf16)
  (v47 : FVec F S256x64 .bf16)
  (v49 : FVec F S256x64 .bf16)
  (v51 : FVec F S256x64 .bf16)
  (v53 : FVec F S256x64 .bf16)
  (v55 : FVec F S256x64 .bf16)
  (v432 : BitVec 32)
  (init : A16 F)

variable (f2 : Buf (Elt F) (arg2.view.loc (c : Thread nD τ))) (f6 : Buf (Elt F) (arg6.view.loc (c : Thread nD τ))) (fq : Buf (Elt F) (arg13.view.loc (c : Thread nD τ))) (fd : Buf (Elt F) (arg14.view.loc (c : Thread nD τ)))
  (f7 : Buf (Elt F) (arg7.view.loc (c : Thread nD τ))) (f8 : Buf (Elt F) (arg8.view.loc (c : Thread nD τ))) (fa : Buf (Elt F) (arg12.view.loc (c : Thread nD τ)))

/-- One trip's carried values and accumulator. -/
def next1 (k : Fin (k0_t1_loop i).trips) (acc : A16 F) (g : Buf (Elt F) (arg12.view.loc (c : Thread nD τ))) : A16 F × Buf (Elt F) (arg12.view.loc (c : Thread nD τ)) :=
  ((tripRun1 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 fill fill fill fill fill fill fill fill fill fill fill fill fill fill fill fill fill fill fill fill fill 0#32 v432 k acc f2 f6 fq fd f7 f8 g).1.1, arg12.view.writes (Elt F) g (tripRun1 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 fill fill fill fill fill fill fill fill fill fill fill fill fill fill fill fill fill fill fill fill fill 0#32 v432 k acc f2 f6 fq fd f7 f8 g).1.2)

abbrev st1 (k : ℕ) : A16 F × Buf (Elt F) (arg12.view.loc (c : Thread nD τ)) :=
  loopSt (next1 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v432 f2 f6 fq fd f7 f8) (init, fa) k

theorem pos1_at : ∀ (i : grid0.Coords) (k : Fin (k0_t1_loop i).trips),
    (k0_cond4 i = 1#1 → pos i (1 + k.val) = 1 ∧ pos i (1 + (k.val + 1)) = 2)
      ∧ (¬ k0_cond4 i = 1#1 → pos i (1 + k.val) = pos i (1 + (k.val + 1))
        ∧ (i 1).val + k.val + 2 ≤ pos i (1 + (k.val + 1))) := by decide +kernel

/-- The accumulator before trip `k`. -/
def acc1 : ℕ → Buf (Elt F) (arg12.view.loc (c : Thread nD τ))
  | 0 => fa
  | k + 1 => (st1 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v432 init f2 f6 fq fd f7 f8 fa (k + 1)).2

theorem acc1_eq (k : ℕ) : acc1 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v432 init f2 f6 fq fd f7 f8 fa k = (st1 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v432 init f2 f6 fq fd f7 f8 fa k).2 := by
  cases k <;> rfl

/-- What holds before trip `k`. -/
def inv1 (k : ℕ) (acc : A16 F) : sProp 𝕄 :=
  iprop(⌜Lands c arg2 arg6 arg13 arg14 f2 f6 fq fd⌝ ∗ ⌜acc = (st1 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v432 init f2 f6 fq fd f7 f8 fa k).1⌝
    ∗ QS c arg2 arg6 arg13 arg14 arg15 arg16 f2 f6 fq fd (pos i (1 + k)) ∗ own c arg7 f7 ∗ own c arg8 f8
    ∗ own c arg12 (acc1 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v432 init f2 f6 fq fd f7 f8 fa k))

theorem inv1_step (k : Fin (k0_t1_loop i).trips) (acc : A16 F) :
    inv1 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v432 init f2 f6 fq fd f7 f8 fa k.val acc
      ⊢ wp Idealize.ShloMosaic.frame (wpE (defs₀ (F := F)) 𝒱₀ (c : Thread nD τ) none) Set.univ (trip1 i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 fill fill fill fill fill fill fill fill fill fill fill fill fill fill fill fill fill fill fill fill fill 0#32 v432 k acc)
          (fun a => inv1 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v432 init f2 f6 fq fd f7 f8 fa (k.val + 1) a) := by
  unfold inv1
  rw [acc1_eq, acc1_eq]
  unfold st1
  iintro ⟨%hL, %hacc, HQ, H7, H8, Ha⟩
  rw [ loopSt_succ (next1 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v432 f2 f6 fq fd f7 f8) (init, fa) k]
  rw [← show acc = (loopSt (next1 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v432 f2 f6 fq fd f7 f8) (init, fa) k.val).1 from hacc]
  generalize loopSt (next1 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v432 f2 f6 fq fd f7 f8) (init, fa) k.val = s at *
  unfold next1
  have ht := (tripRun1 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 fill fill fill fill fill fill fill fill fill fill fill fill fill fill fill fill fill fill fill fill fill 0#32 v432 k acc f2 f6 fq fd f7 f8 s.2).2
  generalize (tripRun1 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 fill fill fill fill fill fill fill fill fill fill fill fill fill fill fill fill fill fill fill fill fill 0#32 v432 k acc f2 f6 fq fd f7 f8 s.2).1 = w at ht ⊢
  iapply (wp_wand_r Idealize.ShloMosaic.frame (wpE (defs₀ (F := F)) 𝒱₀ (c : Thread nD τ) none) Set.univ)
  isplitl [HQ H7 H8 Ha]
  · iapply (ht _ _ (pos1_at i k).1 (pos1_at i k).2 hL.1 hL.2)
    isplitl [HQ]; · iexact HQ
    isplitl [H7]; · iexact H7
    isplitl [H8]; · iexact H8
    iexact Ha
  · iintro %_ ⟨%ha, HQ, H7, H8, Ha⟩
    isplitr; · ipureintro; exact hL
    isplitr; · ipureintro; exact ha
    isplitl [HQ]; · iexact HQ
    isplitl [H7]; · iexact H7
    isplitl [H8]; · iexact H8
    iexact Ha

set_option warn.classDefReducibility false in
/-- The loop over the later blocks of rows. -/
@[sl_loop] def loopInv1 : LoopInvTy_k0_t1 (F := F) Unit ℕ (Pipeline.UD sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 fill fill fill fill fill fill fill fill fill fill fill fill fill fill fill fill fill fill fill fill fill 0#32 v432 init where
  inv k acc := iprop(⌜Lands c arg2 arg6 arg13 arg14 f2 f6 fq fd⌝ ∗ ⌜acc = (st1 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v432 init f2 f6 fq fd f7 f8 fa k).1⌝
    ∗ (preQ c arg13 fq (pos i (1 + k)) ∗ preD c arg14 fd (pos i (1 + k))
      ∗ bigSep Finset.univ (stage c arg2 arg6 arg13 arg14 arg15 arg16 f2 f6 (pos i (1 + k))) ∗ ∃ W, owes (c : Thread nD τ) 0 W)
    ∗ own c arg7 f7 ∗ own c arg8 f8
    ∗ own c arg12 (acc1 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v432 init f2 f6 fq fd f7 f8 fa k))
  step k acc := inv1_step c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v432 init f2 f6 fq fd f7 f8 fa k acc

end T1

section T2
variable   (arg1 : BitVec 32)
  (v9 : FVec F S256x128 .bf16)
  (v11 : FVec F S256x128 .bf16)
  (v13 : FVec F S256x128 .bf16)
  (v15 : FVec F S256x128 .bf16)
  (v17 : FVec F S256x128 .bf16)
  (v19 : FVec F S256x128 .bf16)
  (v21 : FVec F S256x128 .bf16)
  (v23 : FVec F S256x128 .bf16)
  (v25 : FVec F S72x256 .bf16)
  (v27 : FVec F S72x256 .bf16)
  (v29 : FVec F S72x256 .bf16)
  (v31 : FVec F S72x256 .bf16)
  (v33 : FVec F S72x256 .bf16)
  (v35 : FVec F S72x256 .bf16)
  (v37 : FVec F S72x256 .bf16)
  (v39 : FVec F S72x256 .bf16)
  (v41 : FVec F S256x64 .bf16)
  (v43 : FVec F S256x64 .bf16)
  (v45 : FVec F S256x64 .bf16)
  (v47 : FVec F S256x64 .bf16)
  (v49 : FVec F S256x64 .bf16)
  (v51 : FVec F S256x64 .bf16)
  (v53 : FVec F S256x64 .bf16)
  (v55 : FVec F S256x64 .bf16)
  (v439 : BitVec 32)
  (init : A16 F)

set_option warn.classDefReducibility false in
/-- A loop without a trip. -/
@[sl_loop] def loopInv2 : LoopInvTy_k0_t2 (F := F) Unit ℕ (Pipeline.UD sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 fill fill fill fill fill fill fill fill fill fill fill fill fill fill fill fill fill fill fill fill fill 0#32 v439 init where
  inv _ acc := iprop(⌜acc = init⌝)
  step k _ := (Nat.not_lt_zero _ (lt_of_lt_of_le k.isLt (k0_t2_abs i).2.1)).elim

end T2

section T3
variable   (arg1 : BitVec 32)
  (v9 : FVec F S256x128 .bf16)
  (v11 : FVec F S256x128 .bf16)
  (v13 : FVec F S256x128 .bf16)
  (v15 : FVec F S256x128 .bf16)
  (v17 : FVec F S256x128 .bf16)
  (v19 : FVec F S256x128 .bf16)
  (v21 : FVec F S256x128 .bf16)
  (v23 : FVec F S256x128 .bf16)
  (v25 : FVec F S72x256 .bf16)
  (v27 : FVec F S72x256 .bf16)
  (v29 : FVec F S72x256 .bf16)
  (v31 : FVec F S72x256 .bf16)
  (v33 : FVec F S72x256 .bf16)
  (v35 : FVec F S72x256 .bf16)
  (v37 : FVec F S72x256 .bf16)
  (v39 : FVec F S72x256 .bf16)
  (v41 : FVec F S256x64 .bf16)
  (v43 : FVec F S256x64 .bf16)
  (v45 : FVec F S256x64 .bf16)
  (v47 : FVec F S256x64 .bf16)
  (v49 : FVec F S256x64 .bf16)
  (v51 : FVec F S256x64 .bf16)
  (v53 : FVec F S256x64 .bf16)
  (v55 : FVec F S256x64 .bf16)
  (v431 : BitVec 32)
  (init : A16 F)

variable (f2 : Buf (Elt F) (arg2.view.loc (c : Thread nD τ))) (f6 : Buf (Elt F) (arg6.view.loc (c : Thread nD τ))) (fq : Buf (Elt F) (arg13.view.loc (c : Thread nD τ))) (fd : Buf (Elt F) (arg14.view.loc (c : Thread nD τ)))
  (f7 : Buf (Elt F) (arg7.view.loc (c : Thread nD τ))) (f8 : Buf (Elt F) (arg8.view.loc (c : Thread nD τ))) (fa : Buf (Elt F) (arg12.view.loc (c : Thread nD τ)))

/-- One trip's carried values and accumulator. -/
def next3 (k : Fin (k0_t3_loop i).trips) (acc : A16 F) (g : Buf (Elt F) (arg12.view.loc (c : Thread nD τ))) : A16 F × Buf (Elt F) (arg12.view.loc (c : Thread nD τ)) :=
  ((tripRun3 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 fill fill fill fill fill fill fill fill fill fill fill fill fill fill fill fill 0#32 0#32 0#32 0#32 0#1 k acc f2 f6 fq fd f7 f8 g).1.1, arg12.view.writes (Elt F) g (tripRun3 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 fill fill fill fill fill fill fill fill fill fill fill fill fill fill fill fill 0#32 0#32 0#32 0#32 0#1 k acc f2 f6 fq fd f7 f8 g).1.2)

abbrev st3 (k : ℕ) : A16 F × Buf (Elt F) (arg12.view.loc (c : Thread nD τ)) :=
  loopSt (next3 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 f2 f6 fq fd f7 f8) (init, fa) k

theorem pos3_at : ∀ (i : grid0.Coords) (k : Fin (k0_t3_loop i).trips),
    (k0_cond6 i = 1#1 → pos i (1 + (k0_t1_loop i).trips + k.val + k.val) = 2 * k.val + 2 ∧ pos i (1 + (k0_t1_loop i).trips + (k.val + 1) + (k.val + 1)) = 2 * k.val + 4)
      ∧ (¬ k0_cond6 i = 1#1 → pos i (1 + (k0_t1_loop i).trips + k.val + k.val) = pos i (1 + (k0_t1_loop i).trips + (k.val + 1) + (k.val + 1))
        ∧ (i 1).val + 1 + (15 - (i 1).val) % 2 + 2 * k.val + 2 ≤ pos i (1 + (k0_t1_loop i).trips + (k.val + 1) + (k.val + 1))) := by decide +kernel

/-- The accumulator before trip `k`. -/
def acc3 : ℕ → Buf (Elt F) (arg12.view.loc (c : Thread nD τ))
  | 0 => fa
  | k + 1 => (st3 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 init f2 f6 fq fd f7 f8 fa (k + 1)).2

theorem acc3_eq (k : ℕ) : acc3 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 init f2 f6 fq fd f7 f8 fa k = (st3 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 init f2 f6 fq fd f7 f8 fa k).2 := by
  cases k <;> rfl

/-- What holds before trip `k`. -/
def inv3 (k : ℕ) (acc : A16 F) : sProp 𝕄 :=
  iprop(⌜Lands c arg2 arg6 arg13 arg14 f2 f6 fq fd⌝ ∗ ⌜acc = (st3 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 init f2 f6 fq fd f7 f8 fa k).1⌝
    ∗ QS c arg2 arg6 arg13 arg14 arg15 arg16 f2 f6 fq fd (pos i (1 + (k0_t1_loop i).trips + k + k)) ∗ own c arg7 f7 ∗ own c arg8 f8
    ∗ own c arg12 (acc3 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 init f2 f6 fq fd f7 f8 fa k))

theorem inv3_step (k : Fin (k0_t3_loop i).trips) (acc : A16 F) :
    inv3 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 init f2 f6 fq fd f7 f8 fa k.val acc
      ⊢ wp Idealize.ShloMosaic.frame (wpE (defs₀ (F := F)) 𝒱₀ (c : Thread nD τ) none) Set.univ (trip3 i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 fill fill fill fill fill fill fill fill fill fill fill fill fill fill fill fill 0#32 0#32 0#32 0#32 0#1 k acc)
          (fun a => inv3 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 init f2 f6 fq fd f7 f8 fa (k.val + 1) a) := by
  unfold inv3
  rw [acc3_eq, acc3_eq]
  unfold st3
  iintro ⟨%hL, %hacc, HQ, H7, H8, Ha⟩
  rw [ loopSt_succ (next3 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 f2 f6 fq fd f7 f8) (init, fa) k]
  rw [← show acc = (loopSt (next3 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 f2 f6 fq fd f7 f8) (init, fa) k.val).1 from hacc]
  generalize loopSt (next3 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 f2 f6 fq fd f7 f8) (init, fa) k.val = s at *
  unfold next3
  have ht := (tripRun3 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 fill fill fill fill fill fill fill fill fill fill fill fill fill fill fill fill 0#32 0#32 0#32 0#32 0#1 k acc f2 f6 fq fd f7 f8 s.2).2
  generalize (tripRun3 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 fill fill fill fill fill fill fill fill fill fill fill fill fill fill fill fill 0#32 0#32 0#32 0#32 0#1 k acc f2 f6 fq fd f7 f8 s.2).1 = w at ht ⊢
  iapply (wp_wand_r Idealize.ShloMosaic.frame (wpE (defs₀ (F := F)) 𝒱₀ (c : Thread nD τ) none) Set.univ)
  isplitl [HQ H7 H8 Ha]
  · iapply (ht _ _ (pos3_at i k).1 (pos3_at i k).2 hL.1 hL.2)
    isplitl [HQ]; · iexact HQ
    isplitl [H7]; · iexact H7
    isplitl [H8]; · iexact H8
    iexact Ha
  · iintro %_ ⟨%ha, HQ, H7, H8, Ha⟩
    isplitr; · ipureintro; exact hL
    isplitr; · ipureintro; exact ha
    isplitl [HQ]; · iexact HQ
    isplitl [H7]; · iexact H7
    isplitl [H8]; · iexact H8
    iexact Ha

set_option warn.classDefReducibility false in
/-- The loop over the later blocks of rows. -/
@[sl_loop] def loopInv3 : LoopInvTy_k0_t3 (F := F) Unit ℕ (Pipeline.UD sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 fill fill fill fill fill fill fill fill fill fill fill fill fill fill fill fill 0#32 0#32 0#32 0#32 0#1 init where
  inv k acc := iprop(⌜Lands c arg2 arg6 arg13 arg14 f2 f6 fq fd⌝ ∗ ⌜acc = (st3 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 init f2 f6 fq fd f7 f8 fa k).1⌝
    ∗ (preQ c arg13 fq (pos i (1 + (k0_t1_loop i).trips + k + k)) ∗ preD c arg14 fd (pos i (1 + (k0_t1_loop i).trips + k + k))
      ∗ bigSep Finset.univ (stage c arg2 arg6 arg13 arg14 arg15 arg16 f2 f6 (pos i (1 + (k0_t1_loop i).trips + k + k))) ∗ ∃ W, owes (c : Thread nD τ) 0 W)
    ∗ own c arg7 f7 ∗ own c arg8 f8
    ∗ own c arg12 (acc3 c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 init f2 f6 fq fd f7 f8 fa k))
  step k acc := inv3_step c i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 init f2 f6 fq fd f7 f8 fa k acc

end T3

section T4
variable   (arg1 : BitVec 32)
  (v9 : FVec F S256x128 .bf16)
  (v11 : FVec F S256x128 .bf16)
  (v13 : FVec F S256x128 .bf16)
  (v15 : FVec F S256x128 .bf16)
  (v17 : FVec F S256x128 .bf16)
  (v19 : FVec F S256x128 .bf16)
  (v21 : FVec F S256x128 .bf16)
  (v23 : FVec F S256x128 .bf16)
  (v25 : FVec F S72x256 .bf16)
  (v27 : FVec F S72x256 .bf16)
  (v29 : FVec F S72x256 .bf16)
  (v31 : FVec F S72x256 .bf16)
  (v33 : FVec F S72x256 .bf16)
  (v35 : FVec F S72x256 .bf16)
  (v37 : FVec F S72x256 .bf16)
  (v39 : FVec F S72x256 .bf16)
  (v41 : FVec F S256x64 .bf16)
  (v43 : FVec F S256x64 .bf16)
  (v45 : FVec F S256x64 .bf16)
  (v47 : FVec F S256x64 .bf16)
  (v49 : FVec F S256x64 .bf16)
  (v51 : FVec F S256x64 .bf16)
  (v53 : FVec F S256x64 .bf16)
  (v55 : FVec F S256x64 .bf16)
  (v431 : BitVec 32)
  (v464 : BitVec 32)
  (init : A16 F)

set_option warn.classDefReducibility false in
/-- A loop without a trip. -/
@[sl_loop] def loopInv4 : LoopInvTy_k0_t4 (F := F) Unit ℕ (Pipeline.UD sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 arg16 arg1 v9 v11 v13 v15 v17 v19 v21 v23 v25 v27 v29 v31 v33 v35 v37 v39 v41 v43 v45 v47 v49 v51 v53 v55 v431 fill fill fill fill fill fill fill fill fill fill fill fill fill fill fill fill 0#32 0#32 0#32 0#32 0#1 v464 init where
  inv _ acc := iprop(⌜acc = init⌝)
  step k _ := (Nat.not_lt_zero _ (lt_of_lt_of_le k.isLt (k0_t4_abs i).2.1)).elim

end T4

end Loops

end Cert.Fox
end
-- ==== Proof.FoxBody.lean ====
module

public import Idealize.ShloMosaic.Lib.VecWindow
public import proofs.«01_k».proof.Defs
public import proofs.«01_k».proof.Proof.FoxLoops
public import proofs.«01_k».proof.Proof.Gen.FoxBwdIdeal.Launch
public import proofs.«01_k».proof.Proof.Gen.FoxBwdIdeal.Skeleton
public import proofs.«01_k».proof.Proof.Gen.FoxBwdIdeal.Loops
public import proofs.«01_k».proof.Proof.Gen.FoxBwdIdeal.Points
public import proofs.«01_k».proof.Proof.Gen.FoxBwdIdeal.Frame
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Fox

open Cert.FoxBwdIdeal Cert.FoxBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section Body
variable (c : Dev nD) (i : grid0.Coords)
  (arg2 : Memref sig .tc .hbm S8x4096x128 .bf16) (harg2 : arg2.IsWhole)
  (arg3 : Memref sig .tc .vmem S8x256x128 .bf16) (harg3 : arg3.IsWhole)
  (arg4 : Memref sig .tc .vmem S8x1x80x256 .bf16) (harg4 : arg4.IsWhole)
  (arg5 : Memref sig .tc .vmem S8x256x64 .bf16) (harg5 : arg5.IsWhole)
  (arg6 : Memref sig .tc .hbm S8x4096x64 .bf16) (harg6 : arg6.IsWhole)
  (arg7 : Memref sig .tc .vmem S8x16x8x256 .f32) (harg7 : arg7.IsWhole)
  (arg8 : Memref sig .tc .vmem S8x16x8x256 .f32) (harg8 : arg8.IsWhole)
  (arg9 : Memref sig .tc .vmem S8x256x128 .f32) (harg9 : arg9.IsWhole)
  (arg10 : Memref sig .tc .vmem S8x256x128 .f32) (harg10 : arg10.IsWhole)
  (arg11 : Memref sig .tc .vmem S8x256x64 .bf16) (harg11 : arg11.IsWhole)
  (arg12 : Memref sig .tc .vmem S8x16x72x256 .f32) (harg12 : arg12.IsWhole)
  (arg13 : Memref sig .tc .vmem S8x4096x128 .bf16) (harg13 : arg13.IsWhole)
  (arg14 : Memref sig .tc .vmem S8x4096x64 .bf16) (harg14 : arg14.IsWhole)
  (arg15 arg16 : DmaSems sig S16)

/-- Before the transfers: both sources by blocks of rows, both buffers at anything, every cell at zero. -/
def raw (f2 : Buf (Elt F) (arg2.view.loc (c : Thread nD τ))) (f6 : Buf (Elt F) (arg6.view.loc (c : Thread nD τ))) : sProp 𝕄 :=
  iprop(bigSep Finset.univ (fun n => own c (tq arg2 n) f2) ∗ bigSep Finset.univ (fun n => own c (td arg6 n) f6)
    ∗ (∃ f13 : Buf (Elt F) (arg13.view.loc (c : Thread nD τ)), bigSep Finset.univ (fun n => own c (tq arg13 n) f13))
    ∗ (∃ f14 : Buf (Elt F) (arg14.view.loc (c : Thread nD τ)), bigSep Finset.univ (fun n => own c (td arg14 n) f14))
    ∗ bigSep Finset.univ (fun n => cell0 c arg15 n) ∗ bigSep Finset.univ (fun n => cell0 c arg16 n) ∗ ∃ W, owes (c : Thread nD τ) 0 W)

/-- What a step finds of the transfers. -/
def find (f2 : Buf (Elt F) (arg2.view.loc (c : Thread nD τ))) (f6 : Buf (Elt F) (arg6.view.loc (c : Thread nD τ)))
    (fq : Buf (Elt F) (arg13.view.loc (c : Thread nD τ))) (fd : Buf (Elt F) (arg14.view.loc (c : Thread nD τ))) : sProp 𝕄 :=
  if (i 1).val = 0 then raw c arg2 arg6 arg13 arg14 arg15 arg16 f2 f6 else QS c arg2 arg6 arg13 arg14 arg15 arg16 f2 f6 fq fd 16

theorem k0_off4_row : ∀ (i : grid0.Coords), k0_off4 i 1 = 256 * (i 1).val := by decide +kernel
theorem k0_off5_row : ∀ (i : grid0.Coords), k0_off5 i 1 = 256 * (i 1).val := by decide +kernel
theorem k0_off6_row : ∀ (i : grid0.Coords), k0_off6 i 1 = 256 * (i 1).val := by decide +kernel
theorem k0_off7_row : ∀ (i : grid0.Coords), k0_off7 i 1 = 256 * (i 1).val := by decide +kernel
theorem k0_off8_row : ∀ (i : grid0.Coords), k0_off8 i 1 = 256 * (i 1).val := by decide +kernel
theorem k0_off9_row : ∀ (i : grid0.Coords), k0_off9 i 1 = 256 * (i 1).val := by decide +kernel
theorem k0_off10_row : ∀ (i : grid0.Coords), k0_off10 i 1 = 256 * (i 1).val := by decide +kernel
theorem k0_off11_row : ∀ (i : grid0.Coords), k0_off11 i 1 = 256 * (i 1).val := by decide +kernel
theorem k0_off12_row : ∀ (i : grid0.Coords), k0_off12 i 1 = 256 * (i 1).val := by decide +kernel
theorem k0_off13_row : ∀ (i : grid0.Coords), k0_off13 i 1 = 256 * (i 1).val := by decide +kernel
theorem k0_off14_row : ∀ (i : grid0.Coords), k0_off14 i 1 = 256 * (i 1).val := by decide +kernel
theorem k0_off15_row : ∀ (i : grid0.Coords), k0_off15 i 1 = 256 * (i 1).val := by decide +kernel
theorem k0_off16_row : ∀ (i : grid0.Coords), k0_off16 i 1 = 256 * (i 1).val := by decide +kernel
theorem k0_off17_row : ∀ (i : grid0.Coords), k0_off17 i 1 = 256 * (i 1).val := by decide +kernel
theorem k0_off18_row : ∀ (i : grid0.Coords), k0_off18 i 1 = 256 * (i 1).val := by decide +kernel
theorem k0_off19_row : ∀ (i : grid0.Coords), k0_off19 i 1 = 256 * (i 1).val := by decide +kernel

/-- What a step finds of the accumulator: at the first one it holds anything. -/
def find12 (f12 : Buf (Elt F) (arg12.view.loc (c : Thread nD τ))) : sProp 𝕄 :=
  if (i 1).val = 0 then iprop(∃ f, own c arg12 f) else own c arg12 f12

theorem cond2_at : ∀ i : grid0.Coords, Scalar.cmpi CmpIPredicate.ne (Scalar.extui (Scalar.cmpi CmpIPredicate.eq (BitVec.ofNat 32 (i 1).val) 0#32)) 0#32 = 1#1
    ↔ (i 1).val = 0 := by decide +kernel

theorem pos_facts : ∀ i : grid0.Coords, (k0_cond1 i = 1#1 ↔ (i 1).val = 0) ∧ (k0_cond3 i = 1#1 ↔ (i 1).val = 0)
    ∧ pos i (1 + (k0_t1_loop i).trips + (k0_t3_loop i).trips + (k0_t3_loop i).trips) = 16 ∧ (i 1).val < pos i 1 := by decide +kernel

theorem zero_of_cond3 : ∀ i : grid0.Coords, k0_cond3 i = 1#1 → k0_off1 i = ![0] ∧ k0_off2 i = ![0, 0, 0] ∧ k0_off3 i = ![0, 0, 0] := by decide +kernel

set_option maxHeartbeats 8000000 in
set_option backward.proofsInPublic true in
def bodyRun (f2 : Buf (Elt F) (arg2.view.loc (c : Thread nD τ))) (f3 f4 f5) (f6 : Buf (Elt F) (arg6.view.loc (c : Thread nD τ))) (f7 f8) (f12 : Buf (Elt F) (arg12.view.loc (c : Thread nD τ)))
    (fq : Buf (Elt F) (arg13.view.loc (c : Thread nD τ))) (fd : Buf (Elt F) (arg14.view.loc (c : Thread nD τ)))  :
    { w : (List (View.Piece (Elt F) S8x256x128 .f32) × List (View.Piece (Elt F) S8x256x128 .f32) × List (View.Piece (Elt F) S8x256x64 .bf16)) × Buf (Elt F) (arg12.view.loc (c : Thread nD τ)) //
      ∀ (f9 f10 f11) (hL : Lands c arg2 arg6 arg13 arg14 f2 f6 fq fd) (hz : (i 1).val = 0 → f12 = arg12.view.rep (k0_pay358 (F := F))) (Q : PUnit → sProp 𝕄),
      iprop((find c i arg2 arg6 arg13 arg14 arg15 arg16 f2 f6 fq fd ∗ own c arg3 f3 ∗ own c arg4 f4 ∗ own c arg5 f5 ∗ own c arg7 f7 ∗ own c arg8 f8 ∗ own c arg9 f9 ∗ own c arg10 f10 ∗ own c arg11 f11 ∗ find12 c i arg12 f12)
        ∗ ((QS c arg2 arg6 arg13 arg14 arg15 arg16 f2 f6 fq fd 16 ∗ own c arg3 f3 ∗ own c arg4 f4 ∗ own c arg5 f5 ∗ own c arg7 f7 ∗ own c arg8 f8
            ∗ own c arg9 (arg9.view.writes (Elt F) f9 w.1.1) ∗ own c arg10 (arg10.view.writes (Elt F) f10 w.1.2.1) ∗ own c arg11 (arg11.view.writes (Elt F) f11 w.1.2.2) ∗ own c arg12 w.2) -∗ Q ⟨⟩))
      ⊢ wp frame (wpE (defs₀ (F := F)) 𝒱₀ (c : Thread nD τ) none) Set.univ
        (cc0_fox_bwd i arg2 harg2 arg3 harg3 arg4 harg4 arg5 harg5 arg6 harg6 arg7 harg7 arg8 harg8 arg9 harg9 arg10 harg10 arg11 harg11 arg12 harg12 arg13 harg13 arg14 harg14 arg15 arg16) Q } := by
  refine ⟨⟨⟨?_, ?_, ?_⟩, ?_⟩, ?run⟩
  case run =>
    intro f9 f10 f11 hL hz Q
    have pf := pos_facts i
    sl_unfold [cc0_fox_bwd]
    unfold cc0_fox_bwd_skel
    rw [k0_part48_eq_skeleton]
    unfold k0_part48_skel
    dsimp -proj only
    rw [wp_bind]
    iintro ⟨⟨HF, Hrest⟩, Hk⟩
    iapply (wp_dite_q (find c i arg2 arg6 arg13 arg14 arg15 arg16 f2 f6 fq fd) (QS c arg2 arg6 arg13 arg14 arg15 arg16 f2 f6 fq fd (pos i 0)) ?hA ?hn)
    case hn =>
      intro h
      unfold find pos
      rw [if_neg (fun e => h (pf.1.mpr e)), if_neg (fun e => h (pf.1.mpr e))]
    case hA =>
      intro h
      unfold find pos
      rw [if_pos (pf.1.mp h), if_pos (pf.1.mp h)]
      unfold raw
      rw [sep16, sep16, sep16, sep16]
      iintro ⟨⟨⟨P0, P1, P2, P3, P4, P5, P6, P7, P8, P9, P10, P11, P12, P13, P14, P15⟩, ⟨R0, R1, R2, R3, R4, R5, R6, R7, R8, R9, R10, R11, R12, R13, R14, R15⟩, ⟨%f13, HS⟩, ⟨%f14, HT⟩, ⟨U0, U1, U2, U3, U4, U5, U6, U7, U8, U9, U10, U11, U12, U13, U14, U15⟩, ⟨V0, V1, V2, V3, V4, V5, V6, V7, V8, V9, V10, V11, V12, V13, V14, V15⟩, %W, HW⟩, Hgo⟩
      ihave HS := (Entails.of_eq (sep16 _)) $$ HS
      ihave HT := (Entails.of_eq (sep16 _)) $$ HT
      icases HS with ⟨S0, S1, S2, S3, S4, S5, S6, S7, S8, S9, S10, S11, S12, S13, S14, S15⟩
      icases HT with ⟨T0, T1, T2, T3, T4, T5, T6, T7, T8, T9, T10, T11, T12, T13, T14, T15⟩
      sl_exec
      iapply Hgo
      iapply (QS_start c arg2 arg6 arg13 arg14 arg15 arg16 f2 f6 fq fd f13 f14)
      rw [sep16, sep16]
      unfold landQ landD
      sl_close
    isplitl [HF]; · iexact HF
    iintro HQ
    icases Hrest with ⟨H3, H4, H5, H7, H8, H9, H10, H11, H12⟩
    iapply (wp_dite_q (find12 c i arg12 f12) (own c arg12 f12) ?hA2 ?hn2)
    case hn2 =>
      intro h
      unfold find12
      rw [if_neg (fun e => h ((cond2_at i).mpr e))]
    case hA2 =>
      intro h
      unfold find12
      rw [if_pos ((cond2_at i).mp h), hz ((cond2_at i).mp h)]
      iintro ⟨⟨%f, H12⟩, Hgo⟩
      sl_exec
      iapply Hgo
      ihave H12 := (pointsTo_rep_entails (c : Thread nD τ) arg12 _ fullShare) $$ H12
      rw [View.read_writes_full arg12.view f]
      iexact H12
    isplitl [H12]; · iexact H12
    iintro H12
    rw [← wp_bind]
    sl_exec
    iapply (wp_dite_q (QS c arg2 arg6 arg13 arg14 arg15 arg16 f2 f6 fq fd (pos i 0)) (QS c arg2 arg6 arg13 arg14 arg15 arg16 f2 f6 fq fd (pos i 1)) ?hA3 ?hn3)
    case hn3 =>
      intro h
      unfold pos
      rw [if_neg (fun e => h (pf.2.1.mpr e)), if_neg (fun e => h (pf.2.1.mpr e))]
    case hA3 =>
      intro h
      unfold pos
      rw [if_pos (pf.2.1.mp h), if_pos (pf.2.1.mp h)]
      obtain ⟨e1, e2, e3⟩ := zero_of_cond3 i h
      have hcanon1 := cell_of arg15 ⟨0, by decide⟩ e1 (k0_off1_inb i h)
      have hcanon2 := cell_of arg16 ⟨0, by decide⟩ e1 (k0_off1_inb i h)
      have hcanon3 := tq_of arg13 ⟨0, by decide⟩ e2 (k0_off2_inb i h)
      have hcanon4 := tq_of arg2 ⟨0, by decide⟩ e2 (k0_off2_inb i h)
      have hcanon5 := td_of arg14 ⟨0, by decide⟩ e3 (k0_off3_inb i h)
      have hcanon6 := td_of arg6 ⟨0, by decide⟩ e3 (k0_off3_inb i h)
      refine ((sep_mono (QS_open c arg2 arg6 arg13 arg14 arg15 arg16 f2 f6 fq fd 0 (by decide) hL.1 hL.2) .rfl).trans ?_)
      unfold flyQ flyD done
      iintro ⟨⟨⟨%fx, HA⟩, ⟨%fy, HB⟩, ⟨%W, HW⟩, Hback⟩, Hgo⟩
      sl_exec
      iapply Hgo
      iapply Hback
      isplitl [HA_dst]; · iexists fx; iexact HA_dst
      isplitl [HB_dst]; · iexists fy; iexact HB_dst
      isplitl [HA HA_src HB HB_src]
      · isplitl [HA_src]; · iexact HA_src
        isplitl [HB_src]; · iexact HB_src
        isplitl [HA]; · iexact HA
        iexact HB
      iexists _; iexact HW
    isplitl [HQ]; · iexact HQ
    iintro HQ
    have hp := pf.2.2.2
    have h4 : (arg13.access (Rect.unit (s := S8x4096x128) (k0_off4 i) S1x256x128.size (k0_off4_inb i))).set ⊆ (sub arg13 (upQ (pos i 1)) (upQ_unit (pos i 1))).view.set := inclQ arg13 _ (k0_off4_inb i) (by rw [k0_off4_row i]; omega)
    have h5 : (arg13.access (Rect.unit (s := S8x4096x128) (k0_off5 i) S1x256x128.size (k0_off5_inb i))).set ⊆ (sub arg13 (upQ (pos i 1)) (upQ_unit (pos i 1))).view.set := inclQ arg13 _ (k0_off5_inb i) (by rw [k0_off5_row i]; omega)
    have h6 : (arg13.access (Rect.unit (s := S8x4096x128) (k0_off6 i) S1x256x128.size (k0_off6_inb i))).set ⊆ (sub arg13 (upQ (pos i 1)) (upQ_unit (pos i 1))).view.set := inclQ arg13 _ (k0_off6_inb i) (by rw [k0_off6_row i]; omega)
    have h7 : (arg13.access (Rect.unit (s := S8x4096x128) (k0_off7 i) S1x256x128.size (k0_off7_inb i))).set ⊆ (sub arg13 (upQ (pos i 1)) (upQ_unit (pos i 1))).view.set := inclQ arg13 _ (k0_off7_inb i) (by rw [k0_off7_row i]; omega)
    have h8 : (arg13.access (Rect.unit (s := S8x4096x128) (k0_off8 i) S1x256x128.size (k0_off8_inb i))).set ⊆ (sub arg13 (upQ (pos i 1)) (upQ_unit (pos i 1))).view.set := inclQ arg13 _ (k0_off8_inb i) (by rw [k0_off8_row i]; omega)
    have h9 : (arg13.access (Rect.unit (s := S8x4096x128) (k0_off9 i) S1x256x128.size (k0_off9_inb i))).set ⊆ (sub arg13 (upQ (pos i 1)) (upQ_unit (pos i 1))).view.set := inclQ arg13 _ (k0_off9_inb i) (by rw [k0_off9_row i]; omega)
    have h10 : (arg13.access (Rect.unit (s := S8x4096x128) (k0_off10 i) S1x256x128.size (k0_off10_inb i))).set ⊆ (sub arg13 (upQ (pos i 1)) (upQ_unit (pos i 1))).view.set := inclQ arg13 _ (k0_off10_inb i) (by rw [k0_off10_row i]; omega)
    have h11 : (arg13.access (Rect.unit (s := S8x4096x128) (k0_off11 i) S1x256x128.size (k0_off11_inb i))).set ⊆ (sub arg13 (upQ (pos i 1)) (upQ_unit (pos i 1))).view.set := inclQ arg13 _ (k0_off11_inb i) (by rw [k0_off11_row i]; omega)
    have h12 : (arg14.access (Rect.unit (s := S8x4096x64) (k0_off12 i) S1x256x64.size (k0_off12_inb i))).set ⊆ (sub arg14 (upD (pos i 1)) (upD_unit (pos i 1))).view.set := inclD arg14 _ (k0_off12_inb i) (by rw [k0_off12_row i]; omega)
    have h13 : (arg14.access (Rect.unit (s := S8x4096x64) (k0_off13 i) S1x256x64.size (k0_off13_inb i))).set ⊆ (sub arg14 (upD (pos i 1)) (upD_unit (pos i 1))).view.set := inclD arg14 _ (k0_off13_inb i) (by rw [k0_off13_row i]; omega)
    have h14 : (arg14.access (Rect.unit (s := S8x4096x64) (k0_off14 i) S1x256x64.size (k0_off14_inb i))).set ⊆ (sub arg14 (upD (pos i 1)) (upD_unit (pos i 1))).view.set := inclD arg14 _ (k0_off14_inb i) (by rw [k0_off14_row i]; omega)
    have h15 : (arg14.access (Rect.unit (s := S8x4096x64) (k0_off15 i) S1x256x64.size (k0_off15_inb i))).set ⊆ (sub arg14 (upD (pos i 1)) (upD_unit (pos i 1))).view.set := inclD arg14 _ (k0_off15_inb i) (by rw [k0_off15_row i]; omega)
    have h16 : (arg14.access (Rect.unit (s := S8x4096x64) (k0_off16 i) S1x256x64.size (k0_off16_inb i))).set ⊆ (sub arg14 (upD (pos i 1)) (upD_unit (pos i 1))).view.set := inclD arg14 _ (k0_off16_inb i) (by rw [k0_off16_row i]; omega)
    have h17 : (arg14.access (Rect.unit (s := S8x4096x64) (k0_off17 i) S1x256x64.size (k0_off17_inb i))).set ⊆ (sub arg14 (upD (pos i 1)) (upD_unit (pos i 1))).view.set := inclD arg14 _ (k0_off17_inb i) (by rw [k0_off17_row i]; omega)
    have h18 : (arg14.access (Rect.unit (s := S8x4096x64) (k0_off18 i) S1x256x64.size (k0_off18_inb i))).set ⊆ (sub arg14 (upD (pos i 1)) (upD_unit (pos i 1))).view.set := inclD arg14 _ (k0_off18_inb i) (by rw [k0_off18_row i]; omega)
    have h19 : (arg14.access (Rect.unit (s := S8x4096x64) (k0_off19 i) S1x256x64.size (k0_off19_inb i))).set ⊆ (sub arg14 (upD (pos i 1)) (upD_unit (pos i 1))).view.set := inclD arg14 _ (k0_off19_inb i) (by rw [k0_off19_row i]; omega)
    unfold QS
    icases HQ with ⟨Hq, Hd, Hs, %W, HW⟩
    sl_exec
    rw [show pos i (1 + Scf.trips (k0_t1_loop i).lb (k0_t1_loop i).ub (k0_t1_loop i).st) = pos i (1 + (k0_t1_loop i).trips + 0 + 0) from rfl]
    sl_exec
    rw [show pos i (1 + (k0_t1_loop i).trips + Scf.trips (k0_t3_loop i).lb (k0_t3_loop i).ub (k0_t3_loop i).st + Scf.trips (k0_t3_loop i).lb (k0_t3_loop i).ub (k0_t3_loop i).st) = 16 from pf.2.2.1]
    sl_step
    iapply Hk
    sl_close

end Body

end Cert.Fox
end
-- ==== Proof.FoxWhole.lean ====
module

public import proofs.«01_k».proof.Proof.FoxBase
public import Idealize.ShloMosaic.Lib.Ring

@[expose] public section

set_option maxRecDepth 16384

noncomputable section

namespace Cert.Fox

open Cert.FoxBwdIdeal Cert.FoxBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! # The buffers of the call, whole and by blocks of rows -/

abbrev M2 : Memref sig .tc .hbm S8x4096x128 .bf16 := Memref.whole main_v52
abbrev M6 : Memref sig .tc .hbm S8x4096x64 .bf16 := Memref.whole main_v60
abbrev M12 : Memref sig .tc .vmem S8x16x72x256 .f32 := Memref.whole cc0_scratch0
abbrev M13 : Memref sig .tc .vmem S8x4096x128 .bf16 := Memref.whole cc0_scratch1
abbrev M14 : Memref sig .tc .vmem S8x4096x64 .bf16 := Memref.whole cc0_scratch2
abbrev M15 : DmaSems sig S16 := cc0_scratch3
abbrev M16 : DmaSems sig S16 := cc0_scratch4

theorem mem_rowsQ' (n : Fin 16) (y : S8x4096x128.Idx) : y ∈ (rowsQ n).toLoadRect.set ↔ 256 * n.val ≤ (y 1).val ∧ (y 1).val < 256 * n.val + 256 := mem_rowsQ n y
theorem mem_rowsD' (n : Fin 16) (y : S8x4096x64.Idx) : y ∈ (rowsD n).toLoadRect.set ↔ 256 * n.val ≤ (y 1).val ∧ (y 1).val < 256 * n.val + 256 := mem_rowsD n y

theorem rowsQ_disjoint : ∀ a b : Fin 16, a ≠ b → Disjoint (rowsQ a).toLoadRect.set (rowsQ b).toLoadRect.set := by
  intro a b hne; rw [Finset.disjoint_left]; intro y h1 h2
  have h1 := (mem_rowsQ' a y).mp h1; have h2 := (mem_rowsQ' b y).mp h2
  exact hne (Fin.ext (by omega))
theorem rowsD_disjoint : ∀ a b : Fin 16, a ≠ b → Disjoint (rowsD a).toLoadRect.set (rowsD b).toLoadRect.set := by
  intro a b hne; rw [Finset.disjoint_left]; intro y h1 h2
  have h1 := (mem_rowsD' a y).mp h1; have h2 := (mem_rowsD' b y).mp h2
  exact hne (Fin.ext (by omega))
theorem rowsQ_cover : (Finset.univ : Finset (Fin 16)).biUnion (fun n => (rowsQ n).toLoadRect.set) = Finset.univ := by
  ext y
  have hy : (y 1).val < 4096 := (y 1).isLt
  simp only [Finset.mem_biUnion, Finset.mem_univ, true_and, iff_true]
  exact ⟨⟨(y 1).val / 256, by omega⟩, (mem_rowsQ' _ y).mpr (by dsimp only; omega)⟩
theorem rowsD_cover : (Finset.univ : Finset (Fin 16)).biUnion (fun n => (rowsD n).toLoadRect.set) = Finset.univ := by
  ext y
  have hy : (y 1).val < 4096 := (y 1).isLt
  simp only [Finset.mem_biUnion, Finset.mem_univ, true_and, iff_true]
  exact ⟨⟨(y 1).val / 256, by omega⟩, (mem_rowsD' _ y).mpr (by dsimp only; omega)⟩

/-- A whole buffer is its sixteen blocks of rows. -/
theorem whole2 (c : Dev nD) (f : Buf (Elt F) ((c : Thread nD τ).loc main_v52)) :
    (((c : Thread nD τ).loc main_v52) ↦{fullShare} f : sProp 𝕄) = bigSep Finset.univ (fun n => own c (tq M2 n) f) := by
  rw [Ring.pointsTo_blocks (ℓ := (c : Thread nD τ).loc main_v52) (fun n => (rowsQ n).toLoadRect.set) rowsQ_disjoint rowsQ_cover]
  exact bigSep_congr fun n _ => congrArg (fun S => (_ ↦[S]{fullShare} f : sProp 𝕄)) (View.set_slice_whole main_v52 (rowsQ n)).symm
theorem whole6 (c : Dev nD) (f : Buf (Elt F) ((c : Thread nD τ).loc main_v60)) :
    (((c : Thread nD τ).loc main_v60) ↦{fullShare} f : sProp 𝕄) = bigSep Finset.univ (fun n => own c (td M6 n) f) := by
  rw [Ring.pointsTo_blocks (ℓ := (c : Thread nD τ).loc main_v60) (fun n => (rowsD n).toLoadRect.set) rowsD_disjoint rowsD_cover]
  exact bigSep_congr fun n _ => congrArg (fun S => (_ ↦[S]{fullShare} f : sProp 𝕄)) (View.set_slice_whole main_v60 (rowsD n)).symm
theorem whole13 (c : Dev nD) (f : Buf (Elt F) ((c : Thread nD τ).loc cc0_scratch1)) :
    (((c : Thread nD τ).loc cc0_scratch1) ↦{fullShare} f : sProp 𝕄) = bigSep Finset.univ (fun n => own c (tq M13 n) f) := by
  rw [Ring.pointsTo_blocks (ℓ := (c : Thread nD τ).loc cc0_scratch1) (fun n => (rowsQ n).toLoadRect.set) rowsQ_disjoint rowsQ_cover]
  exact bigSep_congr fun n _ => congrArg (fun S => (_ ↦[S]{fullShare} f : sProp 𝕄)) (View.set_slice_whole cc0_scratch1 (rowsQ n)).symm
theorem whole14 (c : Dev nD) (f : Buf (Elt F) ((c : Thread nD τ).loc cc0_scratch2)) :
    (((c : Thread nD τ).loc cc0_scratch2) ↦{fullShare} f : sProp 𝕄) = bigSep Finset.univ (fun n => own c (td M14 n) f) := by
  rw [Ring.pointsTo_blocks (ℓ := (c : Thread nD τ).loc cc0_scratch2) (fun n => (rowsD n).toLoadRect.set) rowsD_disjoint rowsD_cover]
  exact bigSep_congr fun n _ => congrArg (fun S => (_ ↦[S]{fullShare} f : sProp 𝕄)) (View.set_slice_whole cc0_scratch2 (rowsD n)).symm

/-- All rows are the whole buffer. -/
theorem preQ_all (c : Dev nD) (f : Buf (Elt F) ((c : Thread nD τ).loc cc0_scratch1)) :
    (preQ c M13 f 16 : sProp 𝕄) = (((c : Thread nD τ).loc cc0_scratch1) ↦{fullShare} f) :=
  congrArg (fun S => (_ ↦[S]{fullShare} f : sProp 𝕄)) ((View.set_slice_whole cc0_scratch1 (upQ 16)).trans
    (Finset.eq_univ_iff_forall.mpr fun (y : S8x4096x128.Idx) => (mem_upQ 16 y).mpr (y 1).isLt))
theorem preD_all (c : Dev nD) (f : Buf (Elt F) ((c : Thread nD τ).loc cc0_scratch2)) :
    (preD c M14 f 16 : sProp 𝕄) = (((c : Thread nD τ).loc cc0_scratch2) ↦{fullShare} f) :=
  congrArg (fun S => (_ ↦[S]{fullShare} f : sProp 𝕄)) ((View.set_slice_whole cc0_scratch2 (upD 16)).trans
    (Finset.eq_univ_iff_forall.mpr fun (y : S8x4096x64.Idx) => (mem_upD 16 y).mpr (y 1).isLt))

/-- The two sources, as the buffers they are copied to hold them. -/
def fq (c : Dev nD) (f2 : Buf (Elt F) ((c : Thread nD τ).loc main_v52)) : Buf (Elt F) ((c : Thread nD τ).loc cc0_scratch1) := fun (y : S8x4096x128.Idx) => f2 y
def fd (c : Dev nD) (f6 : Buf (Elt F) ((c : Thread nD τ).loc main_v60)) : Buf (Elt F) ((c : Thread nD τ).loc cc0_scratch2) := fun (y : S8x4096x64.Idx) => f6 y

theorem lands (c : Dev nD) (f2 : Buf (Elt F) ((c : Thread nD τ).loc main_v52)) (f6 : Buf (Elt F) ((c : Thread nD τ).loc main_v60)) :
    Lands c M2 M6 M13 M14 f2 f6 (fq c f2) (fd c f6) := by
  constructor
  · intro f n y hy
    obtain ⟨x, -, rfl⟩ := Finset.mem_map.mp hy
    have h := congrFun (View.read_writes_whole (Val := Elt F) (tq M13 n).view f (ReadAs.same.apply ((tq M2 n).view.read (Elt F) f2))) x
    rw [View.read_apply] at h
    have e1 : (tq M13 n).view.emb x = (rowsQ n).emb x := rfl
    have e2 : (tq M2 n).view.emb x = (rowsQ n).emb x := rfl
    refine (cast_eq _ _).symm.trans (h.trans ?_)
    show View.read (Elt F) (tq M2 n).view f2 x = fq c f2 ((tq M13 n).view.emb x)
    exact (View.read_apply (Val := Elt F) _ _).trans (cast_eq _ _)
  · intro f n y hy
    obtain ⟨x, -, rfl⟩ := Finset.mem_map.mp hy
    have h := congrFun (View.read_writes_whole (Val := Elt F) (td M14 n).view f (ReadAs.same.apply ((td M6 n).view.read (Elt F) f6))) x
    rw [View.read_apply] at h
    have e1 : (td M14 n).view.emb x = (rowsD n).emb x := rfl
    have e2 : (td M6 n).view.emb x = (rowsD n).emb x := rfl
    refine (cast_eq _ _).symm.trans (h.trans ?_)
    show View.read (Elt F) (td M6 n).view f6 x = fd c f6 ((td M14 n).view.emb x)
    exact (View.read_apply (Val := Elt F) _ _).trans (cast_eq _ _)

end Cert.Fox
end
-- ==== Proof.FoxLaunch.lean ====
module

public import proofs.«01_k».proof.Proof.FoxBody
public import proofs.«01_k».proof.Proof.FoxWhole
public import Idealize.ShloMosaic.Lib.Pipeline.FrameSuffix

@[expose] public section

set_option maxRecDepth 16384

noncomputable section

namespace Cert.Fox

open Cert.FoxBwdIdeal Cert.FoxBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ)

/-! # The launch of the attention's backward kernel -/

/-- The kernel's own cells: sixteen for each of the two sources. -/
def osem : Fin 16 ⊕ Fin 16 → SemLoc sig := fun k => match k with
  | .inl n => .dma (cell M15 n).sem
  | .inr n => .dma (cell M16 n).sem
theorem ownSemFacts : Pipeline.OwnSemFacts spec0 osem := by decide

abbrev src2 (c : Dev nD) : Buf (Elt F) ((c : Thread nD τ).loc main_v52) := V m c main_v52
abbrev src6 (c : Dev nD) : Buf (Elt F) ((c : Thread nD τ).loc main_v60) := V m c main_v60

/-- One step from accumulator `fa`. -/
def stepRun (c : Dev nD) (t : Fin cfg0.N) (fa : Buf (Elt F) ((c : Thread nD τ).loc cc0_scratch0)) :=
  bodyRun (F := F) c (grid0.coords t) M2 (Memref.isWhole_whole _)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    M6 (Memref.isWhole_whole _)
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    M12 (Memref.isWhole_whole _) M13 (Memref.isWhole_whole _) M14 (Memref.isWhole_whole _) M15 M16
    (src2 m c) ((st0_0 t).view.rep (iblk m c 0 t)) ((st0_1 t).view.rep (iblk m c 1 t)) ((st0_2 t).view.rep (iblk m c 2 t))
    (src6 m c) ((st0_3 t).view.rep (iblk m c 3 t)) ((st0_4 t).view.rep (iblk m c 4 t)) fa (fq c (src2 m c)) (fd c (src6 m c))

/-- The accumulator after `n` steps. -/
def DQ (c : Dev nD) : ℕ → Buf (Elt F) ((c : Thread nD τ).loc cc0_scratch0)
  | 0 => M12.view.rep (k0_pay358 (F := F))
  | n + 1 => if h : n < cfg0.N then (stepRun m c ⟨n, h⟩ (DQ c n)).1.2 else DQ c n

theorem DQ_succ (c : Dev nD) (t : Fin cfg0.N) : DQ m c (t.val + 1) = (stepRun m c t (DQ m c t.val)).1.2 := by
  show (if h : t.val < cfg0.N then (stepRun m c ⟨t.val, h⟩ (DQ m c t.val)).1.2 else DQ m c t.val) = _
  exact dif_pos t.isLt

/-- What a step stores to the three result blocks. -/
def out5 (c : Dev nD) (t : Fin cfg0.N) : (cfg0.win 5).block.Idx → Elt F (cfg0.win 5).elt := View.canon (stepRun m c t (DQ m c t.val)).1.1.1
def out6 (c : Dev nD) (t : Fin cfg0.N) : (cfg0.win 6).block.Idx → Elt F (cfg0.win 6).elt := View.canon (stepRun m c t (DQ m c t.val)).1.1.2.1
def out7 (c : Dev nD) (t : Fin cfg0.N) : (cfg0.win 7).block.Idx → Elt F (cfg0.win 7).elt := View.canon (stepRun m c t (DQ m c t.val)).1.1.2.2

/-- Between steps: before the first one nothing has been copied, afterwards everything has. -/
def held (c : Dev nD) (n : ℕ) : sProp 𝕄 :=
  if n = 0 then iprop(bigSep Finset.univ (fun n => own c (tq M2 n) (src2 m c)) ∗ bigSep Finset.univ (fun n => own c (td M6 n) (src6 m c))
    ∗ (∃ f13 : Buf (Elt F) ((c : Thread nD τ).loc cc0_scratch1), bigSep Finset.univ (fun n => own c (tq M13 n) f13))
    ∗ (∃ f14 : Buf (Elt F) ((c : Thread nD τ).loc cc0_scratch2), bigSep Finset.univ (fun n => own c (td M14 n) f14))
    ∗ bigSep Finset.univ (fun n => cell0 c M15 n) ∗ bigSep Finset.univ (fun n => cell0 c M16 n) ∗ ∃ f, own c M12 f)
  else iprop(preQ c M13 (fq c (src2 m c)) 16 ∗ preD c M14 (fd c (src6 m c)) 16
    ∗ bigSep Finset.univ (stage c M2 M6 M13 M14 M15 M16 (src2 m c) (src6 m c) 16) ∗ own c M12 (DQ m c n))

def Φ (c : Dev nD) (t : Fin (cfg0.N + 1)) : sProp 𝕄 := iprop((∃ r, prngReg c r) ∗ held m c t.val)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
    | ⟨7, _⟩ => out7 m c t
  Φ t := Φ m c t
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = out5 m c t := by dsimp only [dats]
theorem after_w6 (c : Dev nD) (t : Fin cfg0.N) : (dats m 0 c).after 6 t = out6 m c t := by dsimp only [dats]
theorem after_w7 (c : Dev nD) (t : Fin cfg0.N) : (dats m 0 c).after 7 t = out7 m c t := by dsimp only [dats]

theorem A_w (c : Dev nD) (w : Fin cfg0.W) : (dats m 0 c).A w = V m c (Pipeline.arrRef spec0 w) := rfl

theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rw [A_w]) t d).trans
    (by unfold Dat.fetched Dat.blockOf iblk; rw [A_w]; rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rw [A_w]) t d).trans
    (by unfold Dat.fetched Dat.blockOf iblk; rw [A_w]; rfl)
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rw [A_w]) t d).trans
    (by unfold Dat.fetched Dat.blockOf iblk; rw [A_w]; rfl)
theorem before_w3 (c : Dev nD) (t : Fin cfg0.N) (d) : (dats m 0 c).before 3 t d = iblk m c 3 t :=
  ((dats m 0 c).before_in_eq_fetched 3 rfl (fun _ => rfl) (fun _ _ _ => rfl) (fun t => by rw [after_w3]; unfold Dat.blockOf iblk; rw [A_w]) t d).trans
    (by unfold Dat.fetched Dat.blockOf iblk; rw [A_w]; rfl)
theorem before_w4 (c : Dev nD) (t : Fin cfg0.N) (d) : (dats m 0 c).before 4 t d = iblk m c 4 t :=
  ((dats m 0 c).before_in_eq_fetched 4 rfl (fun _ => rfl) (fun _ _ _ => rfl) (fun t => by rw [after_w4]; unfold Dat.blockOf iblk; rw [A_w]) t d).trans
    (by unfold Dat.fetched Dat.blockOf iblk; rw [A_w]; rfl)

theorem coords_at : ∀ t : Fin cfg0.N, ((grid0.coords t) 1).val = t.val := by decide +kernel

theorem defs_tc : (defs₀ (F := F)) .tc cfg0.body
    = fun a => cc0_fox_bwd (grid0.coords a.1) M2 (Memref.isWhole_whole _) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) M6 (Memref.isWhole_whole _) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7)) M12 (Memref.isWhole_whole _) M13 (Memref.isWhole_whole _) M14 (Memref.isWhole_whole _) M15 M16 := rfl
theorem prog_eq (t : Fin cfg0.N) : (defs₀ (F := F)) .tc cfg0.body (cfg0.bodyArgs t (cfg0.slots t)) = bodyAt0 t := (congrFun defs_tc _).trans rfl

/-- The rectangle `r` holds the index `y` when `y` lies on head `n`. -/
def OnHead {s : Shape} (y : s.Idx) (a : Fin s.rank) (n : ℕ) (r : Rect s) : Prop := (y a).val = n → y ∈ r.set

/-- Every element of the three result blocks is stored to: by the piece of its head. -/
theorem cover_of_heads {s : Shape} {e : EltTy} (L : List (View.Piece (Elt F) s e)) (y : s.Idx) (a : Fin s.rank) (hy : (y a).val < 8)
    (h : ∀ n : Fin 8, ∃ r ∈ L.map Sigma.fst, OnHead y a n.val r) : ∃ p ∈ L, y ∈ p.1.set := by
  obtain ⟨r, hr, hm⟩ := h ⟨(y a).val, hy⟩
  obtain ⟨p, hp, rfl⟩ := List.mem_map.mp hr
  exact ⟨p, hp, hm rfl⟩

theorem mem_head128 (n : ℕ) (hin) (y : S8x256x128.Idx) : OnHead y (0 : Fin 3) n (Rect.unit (s := S8x256x128) ![n, 0, 0] ![1, 256, 128] hin) := by
  intro h
  have h : (y 0).val = n := h
  have h1 : (y 1).val < 256 := (y 1).isLt
  have h2 : (y 2).val < 128 := (y 2).isLt
  refine Rect.mem_set_unit.mpr fun d => ?_
  fin_cases d
  · show n ≤ (y 0).val ∧ (y 0).val < n + 1; omega
  · show 0 ≤ (y 1).val ∧ (y 1).val < 0 + 256; omega
  · show 0 ≤ (y 2).val ∧ (y 2).val < 0 + 128; omega
theorem mem_head64 (n : ℕ) (hin) (y : S8x256x64.Idx) : OnHead y (0 : Fin 3) n (Rect.unit (s := S8x256x64) ![n, 0, 0] ![1, 256, 64] hin) := by
  intro h
  have h : (y 0).val = n := h
  have h1 : (y 1).val < 256 := (y 1).isLt
  have h2 : (y 2).val < 64 := (y 2).isLt
  refine Rect.mem_set_unit.mpr fun d => ?_
  fin_cases d
  · show n ≤ (y 0).val ∧ (y 0).val < n + 1; omega
  · show 0 ≤ (y 1).val ∧ (y 1).val < 0 + 256; omega
  · show 0 ≤ (y 2).val ∧ (y 2).val < 0 + 64; omega

theorem cover5 (c : Dev nD) (t : Fin cfg0.N) (y : S8x256x128.Idx) : ∃ p ∈ (stepRun m c t (DQ m c t.val)).1.1.1, y ∈ p.1.set := by
  refine cover_of_heads _ y (0 : Fin 3) (y 0).isLt fun n => ?_
  unfold stepRun bodyRun
  simp only [List.map_cons, List.map_nil, List.mem_cons, exists_eq_or_imp, List.not_mem_nil, false_and, exists_false, or_false, exists_eq_left]
  fin_cases n <;> simp only [mem_head128, true_or, or_true]
theorem cover6 (c : Dev nD) (t : Fin cfg0.N) (y : S8x256x128.Idx) : ∃ p ∈ (stepRun m c t (DQ m c t.val)).1.1.2.1, y ∈ p.1.set := by
  refine cover_of_heads _ y (0 : Fin 3) (y 0).isLt fun n => ?_
  unfold stepRun bodyRun
  simp only [List.map_cons, List.map_nil, List.mem_cons, exists_eq_or_imp, List.not_mem_nil, false_and, exists_false, or_false, exists_eq_left]
  fin_cases n <;> simp only [mem_head128, true_or, or_true]
theorem cover7 (c : Dev nD) (t : Fin cfg0.N) (y : S8x256x64.Idx) : ∃ p ∈ (stepRun m c t (DQ m c t.val)).1.1.2.2, y ∈ p.1.set := by
  refine cover_of_heads _ y (0 : Fin 3) (y 0).isLt fun n => ?_
  unfold stepRun bodyRun
  simp only [List.map_cons, List.map_nil, List.mem_cons, exists_eq_or_imp, List.not_mem_nil, false_and, exists_false, or_false, exists_eq_left]
  fin_cases n <;> simp only [mem_head64, true_or, or_true]

theorem held_find (c : Dev nD) (t : Fin cfg0.N) (W) :
    iprop(held m c t.val ∗ owes (c : Thread nD τ) 0 W)
      ⊢ (iprop(find c (grid0.coords t) M2 M6 M13 M14 M15 M16 (src2 m c) (src6 m c) (fq c (src2 m c)) (fd c (src6 m c))
          ∗ find12 c (grid0.coords t) M12 (DQ m c t.val)) : sProp 𝕄) := by
  unfold held find find12
  by_cases h : t.val = 0
  · rw [if_pos h, if_pos ((coords_at t).trans h), if_pos ((coords_at t).trans h)]
    unfold raw
    iintro ⟨⟨H1, H2, H3, H4, H5, H6, H7⟩, HW⟩
    isplitr [H7]
    · isplitl [H1]; · iexact H1
      isplitl [H2]; · iexact H2
      isplitl [H3]; · iexact H3
      isplitl [H4]; · iexact H4
      isplitl [H5]; · iexact H5
      isplitl [H6]; · iexact H6
      iexists W; iexact HW
    iexact H7
  · rw [if_neg h, if_neg (fun e => h ((coords_at t).symm.trans e)), if_neg (fun e => h ((coords_at t).symm.trans e))]
    unfold QS
    iintro ⟨⟨H1, H2, H3, H4⟩, HW⟩
    isplitr [H4]
    · isplitl [H1]; · iexact H1
      isplitl [H2]; · iexact H2
      isplitl [H3]; · iexact H3
      iexists W; iexact HW
    iexact H4

theorem DQ_first (c : Dev nD) (t : Fin cfg0.N) : ((grid0.coords t) 1).val = 0 → DQ m c t.val = M12.view.rep (k0_pay358 (F := F)) := by
  intro h; rw [(coords_at t).symm.trans h]; rfl

set_option maxHeartbeats 4000000 in
set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, before_w4, after_w0, after_w1, after_w2, after_w3, after_w4, after_w5, after_w6, after_w7]
  rw [show (dats m 0 c).Φ t.castSucc = Φ m c t.castSucc from rfl, show (dats m 0 c).Φ t.succ = Φ m c t.succ from rfl]
  unfold Dat.owesAt Pipeline.owesWithin
  rw [show (dats m 0 c).owed t.castSucc = 0 from rfl, show (dats m 0 c).owed t.succ = 0 from rfl]
  unfold owns Φ
  iintro ⟨⟨HP, HF⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, -, H5⟩, ⟨%d6, %g6, -, H6⟩, ⟨%d7, %g7, -, H7⟩⟩
  ihave H0' := (pointsTo_rep_entails (c : Thread nD τ) (st0_0 t) g0 fullShare) $$ H0
  ihave H1' := (pointsTo_rep_entails (c : Thread nD τ) (st0_1 t) g1 fullShare) $$ H1
  ihave H2' := (pointsTo_rep_entails (c : Thread nD τ) (st0_2 t) g2 fullShare) $$ H2
  ihave H3' := (pointsTo_rep_entails (c : Thread nD τ) (st0_3 t) g3 fullShare) $$ H3
  ihave H4' := (pointsTo_rep_entails (c : Thread nD τ) (st0_4 t) g4 fullShare) $$ H4
  rw [hg0, hg1, hg2, hg3, hg4]
  ihave HX := (held_find m c t W) $$ [HF HW]
  · isplitl [HF]; · iexact HF
    iexact HW
  icases HX with ⟨HF, HA⟩
  sl_rw [prog_eq t]
  iapply ((stepRun m c t (DQ m c t.val)).2 g5 g6 g7 (lands c (src2 m c) (src6 m c)) (DQ_first m c t) _)
  isplitl [HF H0' H1' H2' H3' H4' H5 H6 H7 HA]
  · isplitl [HF]; · iexact HF
    isplitl [H0']; · iexact H0'
    isplitl [H1']; · iexact H1'
    isplitl [H2']; · iexact H2'
    isplitl [H3']; · iexact H3'
    isplitl [H4']; · iexact H4'
    isplitl [H5]; · iexact H5
    isplitl [H6]; · iexact H6
    isplitl [H7]; · iexact H7
    iexact HA
  unfold QS
  iintro ⟨⟨Q1, Q2, Q3, ⟨%W', HW⟩⟩, H0, H1, H2, H3, H4, H5, H6, H7, HA⟩
  isplitl [HP Q1 Q2 Q3 HA]
  · isplitl [HP]; · iexact HP
    unfold held
    rw [if_neg (show ¬ t.succ.val = 0 from Nat.succ_ne_zero _)]
    isplitl [Q1]; · iexact Q1
    isplitl [Q2]; · iexact Q2
    isplitl [Q3]; · iexact Q3
    rw [show t.succ.val = t.val + 1 from rfl, DQ_succ]
    iexact HA
  isplitl [HW]
  · iexists W'; isplitr; · ipureintro; exact fun _ _ => Or.inl trivial
    iexact HW
  isplitl [H0]; · iexists _; isplitr; (· ipureintro; exact View.read_rep _ _); iexact H0
  isplitl [H1]; · iexists _; isplitr; (· ipureintro; exact View.read_rep _ _); iexact H1
  isplitl [H2]; · iexists _; isplitr; (· ipureintro; exact View.read_rep _ _); iexact H2
  isplitl [H3]; · iexists _; isplitr; (· ipureintro; exact View.read_rep _ _); iexact H3
  isplitl [H4]; · iexists _; isplitr; (· ipureintro; exact View.read_rep _ _); iexact H4
  isplitl [H5]; · iexists ((st0_5 t).view.writes (Elt F) g5 (stepRun m c t (DQ m c t.val)).1.1.1); isplitr; (· ipureintro; exact View.read_writes_eq_canon _ _ _ (cover5 m c t)); iexact H5
  isplitl [H6]; · iexists ((st0_6 t).view.writes (Elt F) g6 (stepRun m c t (DQ m c t.val)).1.1.2.1); isplitr; (· ipureintro; exact View.read_writes_eq_canon _ _ _ (cover6 m c t)); iexact H6
  iexists ((st0_7 t).view.writes (Elt F) g7 (stepRun m c t (DQ m c t.val)).1.1.2.2); isplitr; (· ipureintro; exact View.read_writes_eq_canon _ _ _ (cover7 m c t)); iexact H7

/-! ## The run -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3] [hostOps1] (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The two operands the kernel copies itself. -/
def H26 : Finset (Ref sig .tc) := {main_v52, main_v60}

theorem H26_rest : H26 ⊆ Pipeline.restRefs sig spec0 := by
  intro b hb
  simp only [H26, Finset.mem_insert, Finset.mem_singleton] at hb
  rcases hb with rfl | rfl <;> exact Pipeline.mem_restRefs_of _ (by decide) (by decide)

theorem bigSep_H26 (f : Ref sig .tc → sProp 𝕄) : bigSep H26 f = iprop(f main_v52 ∗ f main_v60) := by
  unfold H26
  rw [bigSep_insert (by decide), bigSep_singleton]; rfl

theorem own12 (c : Dev nD) (f : Buf (Elt F) ((c : Thread nD τ).loc cc0_scratch0)) :
    (own c M12 f : sProp 𝕄) = (((c : Thread nD τ).loc cc0_scratch0) ↦{fullShare} f) :=
  congrArg (fun S => (_ ↦[S]{fullShare} f : sProp 𝕄)) (View.set_whole cc0_scratch0)

theorem ownSems_eq (c : Dev nD) : (Pipeline.ownSems0 (Ix := Unit) (Name := ℕ) (U := Pipeline.UD sig nD τ) (Lvl := ℕ) (Val := Elt F) (τ := τ) osem c : sProp 𝕄)
    = iprop(bigSep Finset.univ (fun n => cell0 c M15 n) ∗ bigSep Finset.univ (fun n => cell0 c M16 n)) := by
  unfold Pipeline.ownSems0; rw [bigSep_univ_sum]; rfl

set_option backward.isDefEq.respectTransparency.types false in
theorem hin (c : Dev nD) : Pipeline.ΦD osem spec0 H26 (V m) c ⊢ (dats (F := F) m 0 c).Φ 0 := by
  rw [show (dats m 0 c).Φ 0 = Φ m c 0 from rfl, Pipeline.ΦD_eq, scopedRest0_eq, ownSems_eq, bigSep_H26, whole2, whole6]
  unfold Φ held
  rw [if_pos (show (0 : Fin (cfg0.N + 1)).val = 0 from rfl)]
  iintro ⟨⟨⟨%f12, H12⟩, ⟨%f13, H13⟩, ⟨%f14, H14⟩⟩, HP, ⟨HC, HD⟩, H2, H6⟩
  isplitl [HP]; · iexact HP
  isplitl [H2]; · iexact H2
  isplitl [H6]; · iexact H6
  isplitl [H13]
  · iexists f13; iapply (Entails.of_eq (whole13 c f13)); iexact H13
  isplitl [H14]
  · iexists f14; iapply (Entails.of_eq (whole14 c f14)); iexact H14
  isplitl [HC]; · iexact HC
  isplitl [HD]; · iexact HD
  iexists f12; iapply (Entails.of_eq (own12 c f12).symm); iexact H12

set_option backward.isDefEq.respectTransparency.types false in
theorem stage_all (c : Dev nD) : bigSep Finset.univ (stage c M2 M6 M13 M14 M15 M16 (src2 m c) (src6 m c) 16)
    = (iprop(bigSep Finset.univ (fun n => own c (tq M2 n) (src2 m c)) ∗ bigSep Finset.univ (fun n => own c (td M6 n) (src6 m c))
      ∗ bigSep Finset.univ (fun n => cell0 c M15 n) ∗ bigSep Finset.univ (fun n => cell0 c M16 n)) : sProp 𝕄) := by
  refine (bigSep_congr (Ψ := done c M2 M6 M15 M16 (src2 m c) (src6 m c)) fun n _ => by unfold stage; rw [if_pos n.isLt]).trans ?_
  unfold done
  exact (bigSep_sep _ _ _).trans (congrArg _ ((bigSep_sep _ _ _).trans (congrArg _ (bigSep_sep _ _ _))))

set_option backward.isDefEq.respectTransparency.types false in
theorem hout (c : Dev nD) : (dats (F := F) m 0 c).Φ (Fin.last cfg0.N) ⊢ Pipeline.ΦD osem spec0 H26 (V m) c := by
  rw [show (dats m 0 c).Φ (Fin.last cfg0.N) = Φ m c (Fin.last cfg0.N) from rfl, Pipeline.ΦD_eq, scopedRest0_eq, ownSems_eq, bigSep_H26, whole2, whole6]
  unfold Φ held
  rw [if_neg (show ¬ (Fin.last cfg0.N).val = 0 by decide), stage_all, preQ_all, preD_all, own12]
  iintro ⟨HP, H13, H14, ⟨H2, H6, HC, HD⟩, H12⟩
  isplitl [H12 H13 H14]
  · isplitl [H12]; · iexists _; iexact H12
    isplitl [H13]; · iexists _; iexact H13
    iexists _; iexact H14
  isplitl [HP]; · iexact HP
  isplitl [HC HD]
  · isplitl [HC]; · iexact HC
    iexact HD
  isplitl [H2]; · iexact H2
  iexact H6

theorem sfx_but : ∀ ops ∈ ([hostOps1] : List (List (HloOp τ sig (Elt F)))), ∀ op ∈ ops,
    op.bufs ⊆ Pipeline.tailRefsBut sig Pipeline.Prefetch.none spec0 H26 := by
  intro ops hops op hop
  simp only [List.mem_cons, List.mem_nil_iff, or_false] at hops
  rcases hops with rfl
  refine Pipeline.sub_tailRefsBut _ spec0 H26 op ((List.forall_iff_forall_mem.mp hostOps1_sub) op hop) (fun k => k.elim0) fun b hb => ?_
  simp only [H26, Finset.mem_insert, Finset.mem_singleton] at hb
  simp only [hostOps1, List.mem_cons, List.mem_nil_iff, or_false] at hop
  rcases hb with rfl | rfl <;> rcases hop with rfl | rfl | rfl | rfl | rfl | rfl | rfl | rfl | rfl | rfl
  all_goals
    simp only [StableHlo.nullary_bufs, StableHlo.unary_bufs, StableHlo.binary_bufs, StableHlo.reshape_bufs, Finset.mem_insert, Finset.mem_singleton, not_or]
    repeat' apply And.intro
    all_goals exact StableHlo.devRef_ne_of_ne (by decide)

set_option backward.isDefEq.respectTransparency.types false in
/-- Every weakly fair run ends with the arrays of the call at what its steps left there and every counter at zero. -/
theorem run_main (ρ : Dev nD → PrngReg) :
    θ_run defs (onTc (τ := τ) (main (F := F))) (s₀ m ρ) (fun r => Pipeline.FramePost cfgs (dats m) 0 (Pipeline.afterTail₀ cfgs (dats m) 0 (V0 m) [hostOps1]) r
      ∧ r.2.sem = fun _ => 0) :=
  Pipeline.θ_run_frame_dma_around cfgs (dats m) (0 : Fin 1) launch0 osem defs₀ 𝒱₀ ownSemFacts H26 H26_rest m ρ main
    (fun c => (body_obligation m c).loose) (fun c => (dats m 0 c).share_full fun _ => rfl) (fun _ _ => rfl) (V0 m) [hostOps1]
    sfx_but sfx_fresh sfx_keeps (hmainD m 𝒱₀) (fun _ _ => rfl) (hin m) (hout m) _ (fun _ h => h)

end Cert.Fox
end
-- ==== Proof.FoxFrame.lean ====
module

public import proofs.«01_k».proof.Defs
public import proofs.«01_k».proof.Proof.FoxLaunch
public import proofs.«01_k».proof.Proof.Gen.FoxBwdIdeal.Frame
public import proofs.«01_k».proof.Proof.Gen.FoxBwd
public import proofs.«01_k».proof.Proof.Gen.Pre_fox_finite

@[expose] public section

set_option maxRecDepth 16384

noncomputable section

namespace Cert.Fox

open Cert.FoxBwdIdeal Cert.FoxBwdIdeal.Gen
open Idealize.ShloMosaic
open Idealize.ShloMosaic.TcCoe
open Idealize.SL.Sem

variable {F : FTy → Type} [FloatOps F] [Named F]
variable (m : (ℓ : Loc nD τ sig) → Buf (Elt F) ℓ)

/-- An array no operation after the call writes, that is no array of the call and that the operations before it leave as
it was, is at its first contents once the operations after the call have run. -/
theorem tail_keeps (c : Dev nD) (b : Ref sig .tc)
    (htail : ∀ op ∈ ([hostOps1] : List (List (HloOp τ sig (Elt F)))).flatten, Proc.devRef .tc b ∉ op.writes)
    (hw : ∀ w, Pipeline.arrRef spec0 w ≠ b) (hV : V m c b = m ((c : Thread nD τ).loc b)) :
    Pipeline.afterTail₀ cfgs (dats m) 0 (V0 m) [hostOps1] c b = m ((c : Thread nD τ).loc b) := by
  unfold Pipeline.afterTail₀
  rw [StableHlo.after_of_forall_not_mem (b := Proc.devRef .tc b) _ _ htail, Pipeline.withArrays_of_ne _ c (V0 m c) _ b hw]
  exact hV

/-- The operations after the call write none of the arguments. -/
theorem tail_avoids (b : Ref sig .tc) (hb : b ∈ [main_arg0, main_arg1, main_arg2, main_arg3, main_arg4]) :
    ∀ op ∈ ([hostOps1] : List (List (HloOp τ sig (Elt F)))).flatten, Proc.devRef .tc b ∉ op.writes := by
  refine List.forall_iff_forall_mem.mp ?_
  simp only [hostOps1, List.flatten_cons, List.flatten_nil, List.append_nil, List.Forall, StableHlo.nullary_writes, StableHlo.unary_writes,
    StableHlo.binary_writes, StableHlo.reshape_writes, Finset.mem_singleton]
  simp only [List.mem_cons, List.not_mem_nil, or_false] at hb
  rcases hb with rfl | rfl | rfl | rfl | rfl
  all_goals
    repeat' apply And.intro
    all_goals exact StableHlo.devRef_ne_of_ne (by decide)

set_option backward.isDefEq.respectTransparency.types false in
/-- Every run ends with the arguments as they were and every counter at zero. -/
theorem run_args (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ)
  have keep := fun (b : Ref sig .tc) hr hw hV hb => ((h.1 c).2 b hr).trans (tail_keeps m c b (tail_avoids b hb) hw hV)
  exact ⟨keep main_arg0 (Pipeline.mem_restRefs_of main_arg0 (by decide) (by decide)) (by decide) (V_main_arg0 m c) (by decide),
    keep main_arg1 (Pipeline.mem_restRefs_of main_arg1 (by decide) (by decide)) (by decide) (V_main_arg1 m c) (by decide),
    keep main_arg2 (Pipeline.mem_restRefs_of main_arg2 (by decide) (by decide)) (by decide) (V_main_arg2 m c) (by decide),
    keep main_arg3 (Pipeline.mem_restRefs_of main_arg3 (by decide) (by decide)) (by decide) (V_main_arg3 m c) (by decide),
    keep main_arg4 (Pipeline.mem_restRefs_of main_arg4 (by decide) (by decide)) (by decide) (V_main_arg4 m c) (by decide)⟩

theorem frame_ideal : Cert.quiescent_FoxBwdIdeal := fun m ρ _ => run_args m ρ
theorem frame_ideal_pre : Cert.quiescent_FoxBwdIdeal_pre_fox_finite := fun m ρ _ => run_args m ρ

/-- On bit patterns the named mask is the pattern itself. -/
@[reducible] def maskBits : Named Bits where
  named _ _ φ b := FloatOps.ofBits φ b

/-- The program as printed and the program with its mask named are one text, so the one run speaks of both. -/
theorem frame_bits : Cert.quiescent_FoxBwd := by
  have h := fun m ρ (_ : Cert.Pre_FoxBwd m) => @run_args Bits _ maskBits m ρ
  exact Eq.mp (by sl_kernel_rfl) h

end Cert.Fox
end
-- ==== Proof.FoxReal.lean ====
module

public import proofs.«01_k».proof.Proof.Gen.FoxGradIdeal.Read
public import Idealize.ShloMosaic.Lib.Pointwise

@[expose] public section

set_option maxRecDepth 16384

noncomputable section

namespace Cert.FoxReal

open Idealize.ShloMosaic
open Idealize.ShloMosaic.TcCoe Idealize.ShloMosaic.Tactic

/-! Facts about extended reals that are real numbers, and the attention's gradients over the reals. -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_coe {ι : Type} {s : Finset ι} {g : ι → EReal} {f : ι → ℝ} (h : ∀ i ∈ s, g i = (f i : EReal)) : ∑ i ∈ s, g i = ((∑ i ∈ s, f i : ℝ) : EReal) :=
  (Finset.sum_congr rfl h).trans (coe_sum s f).symm

theorem div_coe (x y : ℝ) (hy : y ≠ 0) : Ideal.div (x : EReal) (y : EReal) = ((x / y : ℝ) : EReal) := by
  unfold Ideal.div
  rw [if_neg (by rwa [EReal.coe_eq_zero]), div_eq_mul_inv, EReal.coe_mul, EReal.coe_inv]

theorem exp_coe (x : ℝ) : Ideal.exp (x : EReal) = ((Real.exp x : ℝ) : EReal) := rfl
theorem exp_bot : Ideal.exp ⊥ = ((0 : ℝ) : EReal) := rfl
theorem log_coe (x : ℝ) (hx : 0 < x) : Ideal.log (x : EReal) = ((Real.log x : ℝ) : EReal) := by
  show (if x ≤ 0 then (⊥ : EReal) else (Real.log x : EReal)) = _
  rw [if_neg (not_le.mpr hx)]
theorem bot_sub (x : ℝ) : (⊥ : EReal) - (x : EReal) = ⊥ := by rw [sub_eq_add_neg, EReal.bot_add]

theorem bits_zero : (Ideal.ofBits .f32 0x00000000#32 : EReal) = ((0 : ℝ) : EReal) := by
  simp [Ideal.ofBits, Ideal.ieee]
theorem bits_eighth : (Ideal.ofBits .f32 0x3E000000#32 : EReal) = ((0.125 : ℝ) : EReal) := by
  simp [Ideal.ofBits, Ideal.ieee]
  rw [← EReal.coe_mul]; norm_num
theorem bits_one : (Ideal.ofBits .f32 0x3F800000#32 : EReal) = ((1 : ℝ) : EReal) := by
  simp [Ideal.ofBits, Ideal.ieee]
  rw [← EReal.coe_mul]; norm_num
theorem bits_bot : (Ideal.ofBits .f32 0xFF800000#32 : EReal) = ⊥ := by
  simp [Ideal.ofBits, Ideal.ieee]

/-- A left fold of additions of real numbers is a real number. -/
theorem foldl_coe {ι : Type} (L : List ι) (g : ι → EReal) (hg : ∀ i, ∃ x : ℝ, g i = x) : ∀ a : EReal, (∃ x : ℝ, a = x) → ∃ x : ℝ, L.foldl (fun r i => r + g i) a = x := by
  induction L with
  | nil => exact fun a h => h
  | cons i L ih =>
    intro a ⟨x, hx⟩
    obtain ⟨y, hy⟩ := hg i
    exact ih _ ⟨x + y, by show a + g i = _; rw [hx, hy, EReal.coe_add]⟩

/-- The greatest of real numbers and minus infinities, one at least a real number, is a real number. -/
theorem fold_max_coe {n : ℕ} (g : Fin n → EReal) (hg : ∀ i, g i = ⊥ ∨ ∃ x : ℝ, g i = x) (i₀ : Fin n) (h₀ : ∃ x : ℝ, g i₀ = x) :
    ∃ x : ℝ, Finset.univ.fold max ⊥ g = x := by
  have e : Finset.univ.fold max ⊥ g = Finset.univ.sup g := rfl
  rw [e]
  obtain ⟨j, _, hj⟩ := Finset.exists_mem_eq_sup Finset.univ ⟨i₀, Finset.mem_univ _⟩ g
  obtain ⟨x, hx⟩ := h₀
  rcases hg j with h | h
  · exfalso
    have := Finset.le_sup (f := g) (Finset.mem_univ i₀)
    rw [hj, h, hx] at this
    exact absurd (le_bot_iff.mp this) (EReal.coe_ne_bot x)
  · rw [hj]; exact h

/-! The attention over the reals: `q`, `k`, `v` the queries, keys and values of the heads, `f` the sums of the
log gates, `d` the cotangent of the output and `u` the numbers subtracted from the rows before the exponential. -/

section Math
variable (q k v d : Fin 8 → Fin 4096 → Fin 64 → ℝ) (f u : Fin 8 → Fin 4096 → ℝ) (h : Fin 8) (t s : Fin 4096)

def z : ℝ := (∑ r, q h t r * k h s r) * 0.125 + f h t - f h s
def e : ℝ := if s ≤ t then Real.exp (z q k f h t s - u h t) else 0
def l : ℝ := ∑ s, e q k f u h t s
def p : ℝ := e q k f u h t s / l q k f u h t
def dp : ℝ := ∑ r, d h t r * v h s r
def dl : ℝ := ∑ s, dp v d h t s * p q k f u h t s
def ds : ℝ := p q k f u h t s * (dp v d h t s - dl q k v d f u h t)

theorem e_nonneg : 0 ≤ e q k f u h t s := by unfold e; split <;> positivity
theorem l_pos : 0 < l q k f u h t := by
  unfold l
  refine Finset.sum_pos' (fun s _ => e_nonneg q k f u h t s) ⟨t, Finset.mem_univ _, ?_⟩
  unfold e; rw [if_pos le_rfl]; positivity
theorem l_ne : l q k f u h t ≠ 0 := (l_pos q k f u h t).ne'
theorem p_zero (hs : ¬ s ≤ t) : p q k f u h t s = 0 := by unfold p e; rw [if_neg hs, zero_div]
theorem ds_zero (hs : ¬ s ≤ t) : ds q k v d f u h t s = 0 := by unfold ds; rw [p_zero q k f u h t s hs, zero_mul]
/-- The probability from the row's log-sum. -/
theorem p_exp (hs : s ≤ t) : Real.exp (z q k f h t s - (u h t + Real.log (l q k f u h t))) = p q k f u h t s := by
  unfold p e
  rw [if_pos hs, ← sub_sub, Real.exp_sub, Real.exp_log (l_pos q k f u h t)]
end Math

/-! The packed operands over the reals. -/
section Packed
variable (q k : Fin 8 → Fin 4096 → Fin 64 → ℝ) (f : Fin 8 → Fin 4096 → ℝ) (h : Fin 8) (t s : Fin 4096) (r : Fin 128)

def qaR : ℝ := if hr : r.val < 64 then q h t ⟨r.val, hr⟩ * 0.125 else if r.val = 64 then f h t else if r.val < 67 then 0 else if r.val < 70 then 1 else 0
def kaR : ℝ := if hr : r.val < 64 then k h t ⟨r.val, hr⟩ else if r.val < 67 then 1 else if r.val = 67 then -f h t else 0

/-- The product of the packed rows is the score. -/
theorem packed_sum : ∑ r, kaR k f h s r * qaR q f h t r = z q k f h t s := by
  have e0 : ∑ r : Fin 128, kaR k f h s r * qaR q f h t r
      = ∑ r : Fin 64, kaR k f h s (Fin.castAdd 64 r) * qaR q f h t (Fin.castAdd 64 r)
        + ∑ r : Fin 64, kaR k f h s (Fin.natAdd 64 r) * qaR q f h t (Fin.natAdd 64 r) :=
    Fin.sum_univ_add (a := 64) (b := 64) fun r => kaR k f h s r * qaR q f h t r
  have e1 : ∑ r : Fin 64, kaR k f h s (Fin.natAdd 64 r) * qaR q f h t (Fin.natAdd 64 r)
      = ∑ r : Fin 6, kaR k f h s (Fin.natAdd 64 (Fin.castAdd 58 r)) * qaR q f h t (Fin.natAdd 64 (Fin.castAdd 58 r))
        + ∑ r : Fin 58, kaR k f h s (Fin.natAdd 64 (Fin.natAdd 6 r)) * qaR q f h t (Fin.natAdd 64 (Fin.natAdd 6 r)) :=
    Fin.sum_univ_add (a := 6) (b := 58) fun r => kaR k f h s (Fin.natAdd 64 r) * qaR q f h t (Fin.natAdd 64 r)
  have e2 : ∀ r : Fin 64, kaR k f h s (Fin.castAdd 64 r) * qaR q f h t (Fin.castAdd 64 r) = (q h t r * k h s r) * 0.125 := fun r => by
    unfold kaR qaR
    rw [dif_pos (show (Fin.castAdd 64 r).val < 64 from r.isLt), dif_pos (show (Fin.castAdd 64 r).val < 64 from r.isLt)]
    show k h s r * (q h t r * 0.125) = _
    ring
  have e3 : ∀ r : Fin 58, kaR k f h s (Fin.natAdd 64 (Fin.natAdd 6 r)) * qaR q f h t (Fin.natAdd 64 (Fin.natAdd 6 r)) = 0 := fun r => by
    have hr : (Fin.natAdd 64 (Fin.natAdd 6 r)).val = 64 + (6 + r.val) := rfl
    unfold qaR
    rw [dif_neg (by omega), if_neg (by omega), if_neg (by omega), if_neg (by omega), mul_zero]
  rw [e0, e1, Finset.sum_congr rfl fun r _ => e2 r, Finset.sum_congr rfl fun r _ => e3 r, Fin.sum_univ_six]
  unfold kaR qaR z
  simp only [Fin.natAdd, Fin.castAdd, Fin.castLE, Finset.sum_const_zero]
  norm_num
  rw [Finset.sum_mul]
  ring
end Packed

/-! A sum over the rows is a sum over the tiles of sums over a tile's rows. -/
theorem sum_tiles (g : Fin 4096 → ℝ) (w : Fin 16 → Fin 256 → Fin 4096) (hw : ∀ n t, (w n t).val = 256 * n.val + t.val) :
    ∑ n, ∑ t, g (w n t) = ∑ u, g u := by
  rw [← Fintype.sum_prod_type' (f := fun n t => g (w n t))]
  refine Fintype.sum_equiv (finProdFinEquiv (m := 16) (n := 256)) _ _ fun x => congrArg g (Fin.ext ?_)
  rw [hw]
  show 256 * x.1.val + x.2.val = x.2.val + 256 * x.1.val
  omega

end Cert.FoxReal
end
-- ==== Proof.FoxHost.lean ====
module

public import proofs.«01_k».proof.Proof.FoxReal
public import proofs.«01_k».proof.Proof.Gen.FoxBwdIdeal.Frame

@[expose] public section

set_option maxRecDepth 16384

noncomputable section

namespace Cert.FoxHost

open Cert.FoxBwdIdeal Cert.FoxBwdIdeal.Gen Cert.FoxReal
open Idealize.ShloMosaic
open Idealize.ShloMosaic.TcCoe Idealize.ShloMosaic.Tactic

/-! What the host lines before the call compute, as functions of the arguments. -/

section Terms
variable (x0 x1 x2 x4 : FVec Ideal S8x4096x64 .f32) (x3 : FVec Ideal S8x4096 .f32)

/-- The sums of the log gates. -/
def cum : FVec Ideal S8x4096 .f32 := Cert.FoxGradIdeal.Read.val_main_v0 (F := Ideal) x3
/-- The rows' maxima, exponentials and their sums, of the masked scores `S`. -/
def top (S : FVec Ideal S8x4096x4096 .f32) : FVec Ideal S8x4096x1 .f32 :=
  broadcastInDim S8x4096x1 ![0, 1] bcast_S8x4096_S8x4096x1_0_1 (Host.reduce FloatOps.maximumf S (constant S_ .f32 0xFF800000#32) reducesTo_S8x4096x4096_S8x4096_d2 h_S_)
def ex (S : FVec Ideal S8x4096x4096 .f32) : FVec Ideal S8x4096x4096 .f32 :=
  Host.exp (subf S (broadcastInDim S8x4096x4096 ![0, 1, 2] bcast_S8x4096x1_S8x4096x4096_0_1_2 (top S)))
def tot (S : FVec Ideal S8x4096x4096 .f32) : FVec Ideal S8x4096x1 .f32 :=
  broadcastInDim S8x4096x1 ![0, 1] bcast_S8x4096_S8x4096x1_0_1 (Host.reduceAdd (ex S) (constant S_ .f32 0x00000000#32) reducesTo_S8x4096x4096_S8x4096_d2 h_S_)
/-- The rows' log-sums. -/
def lse (S : FVec Ideal S8x4096x4096 .f32) : FVec Ideal S8x4096 .f32 := shapeCast S8x4096 (addf (top S) (Host.log (tot S))) shapeCasts_S8x4096x1_S8x4096
/-- The output. -/
def outp (S : FVec Ideal S8x4096x4096 .f32) : FVec Ideal S8x4096x64 .f32 :=
  Host.dotGeneral dot_S8x4096x4096_S8x4096x64_S8x4096x64_2_1_1_2_0_0 none
    (Host.divf (ex S) (broadcastInDim S8x4096x4096 ![0, 1, 2] bcast_S8x4096x1_S8x4096x4096_0_1_2 (tot S))) x2
/-- The rows' sums of cotangent times output. -/
def del (S : FVec Ideal S8x4096x4096 .f32) : FVec Ideal S8x4096 .f32 :=
  Host.reduceAdd (mulf x4 (outp x2 S)) (constant S_ .f32 0x00000000#32) reducesTo_S8x4096x64_S8x4096_d2 h_S_

def rem1 : FVec Ideal S8x4096 .f32 := subf (cum x3) (extf .f32 (truncf .bf16 (cum x3) bitsLt_bf16_f32) bitsLt_bf16_f32)
def rem2 : FVec Ideal S8x4096 .f32 := subf (rem1 x3) (extf .f32 (truncf .bf16 (rem1 x3) bitsLt_bf16_f32) bitsLt_bf16_f32)
/-- A row's column of the packed operands. -/
def col (x : FVec Ideal S8x4096 .f32) : FVec Ideal S8x4096x1 .f32 :=
  broadcastInDim S8x4096x1 ![0, 1] bcast_S8x4096_S8x4096x1_0_1 (extf .f32 (truncf .bf16 x bitsLt_bf16_f32) bitsLt_bf16_f32)
/-- The sums of the log gates cut into three terms. -/
def terms : FVec Ideal S8x4096x3 .f32 :=
  concatenate S8x4096x3 2 [⟨S8x4096x1, col (cum x3)⟩, ⟨S8x4096x1, col (rem1 x3)⟩, ⟨S8x4096x1, col (rem2 x3)⟩] concatenates_S8x4096x1_S8x4096x1_S8x4096x1_S8x4096x3_d2
def ones : FVec Ideal S8x4096x3 .f32 := broadcastInDim S8x4096x3 ![] bcast_S_S8x4096x3 (constant S_ .f32 0x3F800000#32)
def noth : FVec Ideal S8x4096x58 .f32 := broadcastInDim S8x4096x58 ![] bcast_S_S8x4096x58 (constant S_ .f32 0x00000000#32)
/-- The packed queries and keys, the keys tile by tile with columns and rows exchanged, a row's number spread over eight rows. -/
def qa : FVec Ideal S8x4096x128 .bf16 :=
  truncf .bf16 (concatenate S8x4096x128 2 [⟨S8x4096x64, mulf x0 (broadcastInDim S8x4096x64 ![] bcast_S_S8x4096x64 (constant S_ .f32 0x3E000000#32))⟩,
    ⟨S8x4096x3, terms x3⟩, ⟨S8x4096x3, ones⟩, ⟨S8x4096x58, noth⟩] concatenates_S8x4096x64_S8x4096x3_S8x4096x3_S8x4096x58_S8x4096x128_d2) bitsLt_bf16_f32
def ka : FVec Ideal S8x4096x128 .bf16 :=
  truncf .bf16 (concatenate S8x4096x128 2 [⟨S8x4096x64, x1⟩,
    ⟨S8x4096x3, ones⟩, ⟨S8x4096x3, Host.negf (terms x3)⟩, ⟨S8x4096x58, noth⟩] concatenates_S8x4096x64_S8x4096x3_S8x4096x3_S8x4096x58_S8x4096x128_d2) bitsLt_bf16_f32
def kt : FVec Ideal S8x16x80x256 .bf16 :=
  extractStridedSlice S8x16x80x256 ![0, 0, 0, 0] (transpose S8x16x128x256 [0, 1, 3, 2] (shapeCast S8x16x256x128 (ka x1 x3) shapeCasts_S8x4096x128_S8x16x256x128)
    transposes_S8x16x256x128_S8x16x128x256_0_1_3_2) slices_S8x16x128x256_S8x16x80x256_0_0_0_0
def rows (x : FVec Ideal S8x4096 .f32) : FVec Ideal S8x16x8x256 .f32 :=
  broadcastInDim S8x16x8x256 ![0, 1, 2, 3] bcast_S8x16x1x256_S8x16x8x256_0_1_2_3 (shapeCast S8x16x1x256 x shapeCasts_S8x4096_S8x16x1x256)
end Terms

variable (m : (b : Dev nD × DevRef τ sig) → Buf (Elt Ideal) b) (c : Dev nD)

abbrev A0 : FVec Ideal S8x4096x64 .f32 := m ((c.tc : Thread nD τ).loc main_arg0)
abbrev A1 : FVec Ideal S8x4096x64 .f32 := m ((c.tc : Thread nD τ).loc main_arg1)
abbrev A2 : FVec Ideal S8x4096x64 .f32 := m ((c.tc : Thread nD τ).loc main_arg2)
abbrev A3 : FVec Ideal S8x4096 .f32 := m ((c.tc : Thread nD τ).loc main_arg3)
abbrev A4 : FVec Ideal S8x4096x64 .f32 := m ((c.tc : Thread nD τ).loc main_arg4)

/-- The masked scores. -/
def S17 : FVec Ideal S8x4096x4096 .f32 := Cert.FoxGradIdeal.Read.val_main_v17_0 (F := Ideal) (A0 m c) (A1 m c) (A3 m c)

/-- What the arrays hold once the scores are in, the rest of the lines being still to run. -/
abbrev mid : Valuation τ sig (Elt Ideal) := StableHlo.after (List.flatten [hostOps0, hostOps0_1, hostOps0_2]) (fun b => m (c, b))

theorem V_mid (b : Ref sig .tc) : V m c b = StableHlo.after hostOps0_3 (mid m c) (Proc.devRef .tc b) := by
  have e : (List.flatten [hostOps0, hostOps0_1, hostOps0_2, hostOps0_3] : List (HloOp τ sig (Elt Ideal))) = List.flatten [hostOps0, hostOps0_1, hostOps0_2] ++ hostOps0_3 := by
    simp only [List.flatten_cons, List.flatten_nil, List.append_nil, List.append_assoc]
  show StableHlo.after _ _ _ = _
  rw [e, StableHlo.after_append]

theorem mid_scores : mid m c (Proc.devRef .tc main_v17) = S17 m c := by
  simp only [mid, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl
theorem mid_cum : mid m c (Proc.devRef .tc main_v0) = cum (A3 m c) := by
  simp only [mid, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl
theorem mid_arg2 : mid m c (Proc.devRef .tc main_arg2) = A2 m c := by
  simp only [mid, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl
theorem mid_arg4 : mid m c (Proc.devRef .tc main_arg4) = A4 m c := by
  simp only [mid, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

section Rest
variable (W : Valuation τ sig (Elt Ideal))
theorem rest62 : StableHlo.after hostOps0_3 W (Proc.devRef .tc main_v62) = rows (lse (W (Proc.devRef .tc main_v17))) := by
  simp only [hostOps0_3]
  after_results_simp <;> rfl
theorem rest64 : StableHlo.after hostOps0_3 W (Proc.devRef .tc main_v64)
    = rows (del (W (Proc.devRef .tc main_arg2)) (W (Proc.devRef .tc main_arg4)) (W (Proc.devRef .tc main_v17))) := by
  simp only [hostOps0_3]
  after_results_simp <;> rfl
end Rest

theorem v62 : V m c main_v62 = rows (lse (S17 m c)) := by
  rw [V_mid, rest62, mid_scores]
theorem v64 : V m c main_v64 = rows (del (A2 m c) (A4 m c) (S17 m c)) := by
  rw [V_mid, rest64, mid_scores, mid_arg2, mid_arg4]

theorem v59 : V m c main_v59 = (truncf .bf16 (A2 m c) bitsLt_bf16_f32 : FVec Ideal S8x4096x64 .bf16) := by
  simp only [V, V0, hostOps0, hostOps0_1, hostOps0_2, hostOps0_3, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v60 : V m c main_v60 = (truncf .bf16 (A4 m c) bitsLt_bf16_f32 : FVec Ideal S8x4096x64 .bf16) := by
  simp only [V, V0, hostOps0, hostOps0_1, hostOps0_2, hostOps0_3, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v52 : V m c main_v52 = qa (A0 m c) (A3 m c) := by
  simp only [V, V0, hostOps0, hostOps0_1, hostOps0_2, hostOps0_3, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v55 : V m c main_v55 = ka (A1 m c) (A3 m c) := by
  simp only [V, V0, hostOps0, hostOps0_1, hostOps0_2, hostOps0_3, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v58 : V m c main_v58 = kt (A1 m c) (A3 m c) := by
  simp only [V, V0, hostOps0, hostOps0_1, hostOps0_2, hostOps0_3, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

end Cert.FoxHost
end
-- ==== Proof.FoxRef.lean ====
module

public import proofs.«01_k».proof.Proof.FoxReal

@[expose] public section

set_option maxRecDepth 16384

noncomputable section

namespace Cert.FoxRef

open Cert.FoxGradIdeal Cert.FoxGradIdeal.Gen Cert.FoxGradIdeal.Read Cert.FoxReal
open Idealize.ShloMosaic
open Idealize.ShloMosaic.TcCoe Idealize.ShloMosaic.Tactic

/-- The cumulative sums of real numbers are real numbers. -/
theorem sums_real (x3 : S8x4096.Idx → EReal) (h3 : ∀ i, ∃ a : ℝ, x3 i = a) (i : S8x4096.Idx) : ∃ a : ℝ, val_main_v0 (F := Ideal) x3 i = a := by
  unfold val_main_v0
  have h0 : ∃ a : ℝ, val_main_call0_call0_v0 (F := Ideal) (Shape.Idx.first h_S_) = a := ⟨0, by
    rw [val_main_call0_call0_v0_apply, val_main_call0_call0_cst_apply]; exact bits_zero⟩
  simp only [Host.reduceWindowAdd, Ideal.hostReduceWindowAdd_def, Ideal.hostReduceWindowAdd, Host.reduceWindow]
  refine foldl_coe _ _ (fun n => ?_) _ h0
  split
  · exact h3 _
  · exact h0

theorem first_zero (w : EReal) (hw : w = Ideal.ofBits .f32 0x00000000#32) (x : ℝ) : w + (x : EReal) = (x : EReal) := by
  rw [hw, bits_zero, ← EReal.coe_add, zero_add]

section Stages
variable (x0 x1 x2 x4 : S8x4096x64.Idx → EReal) (x3 : S8x4096.Idx → EReal)
  (q k v d : Fin 8 → Fin 4096 → Fin 64 → ℝ) (f u : Fin 8 → Fin 4096 → ℝ)
  (hq : ∀ h t r, x0 (ix3 h t r) = (q h t r : EReal)) (hk : ∀ h t r, x1 (ix3 h t r) = (k h t r : EReal))
  (hv : ∀ h t r, x2 (ix3 h t r) = (v h t r : EReal)) (hd : ∀ h t r, x4 (ix3 h t r) = (d h t r : EReal))
  (hf : ∀ h t, val_main_v0 (F := Ideal) x3 (ix2 h t) = (f h t : EReal))
  (h : Fin 8) (t s : Fin 4096) (r : Fin 64)

include hq hk in
theorem st1 : val_main_v1 (F := Ideal) x0 x1 (ix3 h t s) = ((∑ r, q h t r * k h s r : ℝ) : EReal) := by
  unfold val_main_v1; pointwise
  exact sum_coe fun r _ => by rw [hq, hk, EReal.coe_mul]

include hq hk hf in
theorem st9 : val_main_v9 (F := Ideal) x0 x1 x3 (ix3 h t s) = (z q k f h t s : EReal) := by
  unfold val_main_v9 val_main_v6 val_main_v3 val_main_v2 val_main_v8 val_main_v7 val_main_v5 val_main_v4 val_main_cst
  pointwise
  rw [st1 x0 x1 q k hq hk h t s, hf, hf]
  unfold z
  rw [EReal.coe_sub, EReal.coe_add, EReal.coe_mul, ← bits_eighth]

theorem sle_bits (t s : Fin 4096) : IntOp.cmpi .sle (BitVec.ofNat 32 s.val) (BitVec.ofNat 32 t.val) = if s ≤ t then 1#1 else 0#1 := by
  have hs := s.isLt
  have ht := t.isLt
  have e1 : (BitVec.ofNat 32 s.val).toInt = (s.val : ℤ) := by
    rw [BitVec.toInt_eq_toNat_of_lt (by rw [BitVec.toNat_ofNat]; omega), BitVec.toNat_ofNat]; omega
  have e2 : (BitVec.ofNat 32 t.val).toInt = (t.val : ℤ) := by
    rw [BitVec.toInt_eq_toNat_of_lt (by rw [BitVec.toNat_ofNat]; omega), BitVec.toNat_ofNat]; omega
  by_cases h : s ≤ t
  · have : s.val ≤ t.val := h
    rw [if_pos h]
    simp [IntOp.cmpi, BitVec.sle, e1, e2, this]
  · have : ¬ s.val ≤ t.val := h
    rw [if_neg h]
    simp [IntOp.cmpi, BitVec.sle, e1, e2, this]

theorem mask_val : val_main_v17_1 (F := Ideal) (ix3 h t s) = if s ≤ t then 1#1 else 0#1 := by
  rw [val_main_v17_1_apply, val_main_v16_apply, val_main_v14_apply, val_main_v15_apply, val_main_v13_apply, val_main_v11_apply, val_main_v12_apply, val_main_v10_apply]
  exact sle_bits t s

include hq hk hf in
theorem st17 : val_main_v17_0 (F := Ideal) x0 x1 x3 (ix3 h t s) = if s ≤ t then (z q k f h t s : EReal) else ⊥ := by
  rw [val_main_v17_0_apply, st9 x0 x1 x3 q k f hq hk hf h t s, mask_val, val_main_call1_v2_apply, val_main_call1_v0_apply, val_main_cst_0_apply]
  split
  · rfl
  · exact bits_bot

include hq hk hf in
theorem max_real : ∃ a : ℝ, val_main_v18 (F := Ideal) x0 x1 x3 (ix2 h t) = a := by
  have key : val_main_v18 (F := Ideal) x0 x1 x3 (ix2 h t) = Finset.univ.fold max ⊥ fun s : Fin 4096 => val_main_v17_0 (F := Ideal) x0 x1 x3 (ix3 h t s) := by
    unfold val_main_v18
    generalize val_main_v17_0 (F := Ideal) x0 x1 x3 = y
    pointwise
    rw [val_main_cst_1_apply]
    exact congrArg (fun b => Finset.univ.fold max b _) bits_bot
  rw [key]
  refine fold_max_coe _ (fun s => ?_) t ⟨z q k f h t t, ?_⟩
  · rw [st17 x0 x1 x3 q k f hq hk hf h t s]
    split
    · exact Or.inr ⟨_, rfl⟩
    · exact Or.inl rfl
  · rw [st17 x0 x1 x3 q k f hq hk hf h t t, if_pos le_rfl]

variable (hu : ∀ h t, val_main_v18 (F := Ideal) x0 x1 x3 (ix2 h t) = (u h t : EReal))

include hu in
theorem st36 : val_main_v36 (F := Ideal) x0 x1 x3 (ix3 h t s) = (u h t : EReal) := by
  rw [val_main_v36_apply, val_main_v35_apply, val_main_v25_apply, val_main_v24_apply, val_main_cst_3_apply]
  have e : idx_main_v35 (idx_main_v36 (ix3 h t s)) = ix2 h t := by funext a; fin_cases a <;> rfl
  rw [e, hu]
  show max (Ideal.ofBits .f32 0xFF800000#32 : EReal) _ = _
  rw [bits_bot, max_eq_right bot_le]

include hq hk hf hu in
theorem st38 : val_main_v38 (F := Ideal) x0 x1 x3 (ix3 h t s) = (e q k f u h t s : EReal) := by
  rw [val_main_v38_apply, val_main_v37_apply, st17 x0 x1 x3 q k f hq hk hf h t s, st36 x0 x1 x3 u h t s hu]
  unfold e
  split
  · show Ideal.exp ((z q k f h t s : EReal) - (u h t : EReal)) = _
    rw [← EReal.coe_sub, exp_coe]
  · show Ideal.exp (⊥ - (u h t : EReal)) = _
    rw [bot_sub, exp_bot]

include hq hk hf hu in
theorem st39 : val_main_v39 (F := Ideal) x0 x1 x3 (ix2 h t) = (l q k f u h t : EReal) := by
  rw [val_main_v39_apply, sum_coe fun s _ => (congrArg _ (show idx_main_v39 (ix2 h t) s = ix3 h t s by funext a; fin_cases a <;> rfl)).trans (st38 x0 x1 x3 q k f u hq hk hf h t s hu)]
  exact first_zero _ (val_main_cst_9_apply _) _

include hq hk hf hu in
theorem st40 (z : Fin 1) : val_main_v40 (F := Ideal) x0 x1 x3 (ix3 h t z) = (l q k f u h t : EReal) := by
  rw [val_main_v40_apply, show idx_main_v40 (ix3 h t z) = ix2 h t by funext a; fin_cases a <;> rfl]
  exact st39 x0 x1 x3 q k f u hq hk hf h t hu

include hq hk hf hu in
theorem st42 : val_main_v42 (F := Ideal) x0 x1 x3 (ix3 h t s) = (p q k f u h t s : EReal) := by
  rw [val_main_v42_apply, st38 x0 x1 x3 q k f u hq hk hf h t s hu, val_main_v41_apply,
    show idx_main_v41 (ix3 h t s) = ix3 h t 0 by funext a; fin_cases a <;> rfl, st40 x0 x1 x3 q k f u hq hk hf h t hu 0]
  exact div_coe _ _ (l_ne q k f u h t)

include hq hk hf hu in
theorem st45 (z : Fin 1) : val_main_v45 (F := Ideal) x0 x1 x3 (ix3 h t z) = ((1 / (l q k f u h t * l q k f u h t) : ℝ) : EReal) := by
  rw [val_main_v45_apply, val_main_v43_apply, st40 x0 x1 x3 q k f u hq hk hf h t hu z, val_main_v44_apply, val_main_cst_10_apply]
  show Ideal.div (Ideal.ofBits .f32 0x3F800000#32) ((l q k f u h t : EReal) * (l q k f u h t : EReal)) = _
  rw [bits_one, ← EReal.coe_mul]
  exact div_coe _ _ (mul_ne_zero (l_ne q k f u h t) (l_ne q k f u h t))

include hv hd in
theorem st49 : val_main_v49 (F := Ideal) x2 x4 (ix3 h t s) = (dp v d h t s : EReal) := by
  rw [val_main_v49_apply]
  exact sum_coe fun r _ => by
    rw [show lidx_main_v49 (ix3 h t s) r = ix3 h t r by funext a; fin_cases a <;> rfl,
      show ridx_main_v49 (ix3 h t s) r = ix3 h s r by funext a; fin_cases a <;> rfl, hd, hv, EReal.coe_mul]

/-- The row's sum that softmax's derivative subtracts. -/
def sub : ℝ := ∑ s, dp v d h t s * (1 / (l q k f u h t * l q k f u h t)) * e q k f u h t s
theorem sub_eq : sub q k v d f u h t * l q k f u h t = dl q k v d f u h t := by
  unfold sub dl p
  rw [Finset.sum_mul]
  refine Finset.sum_congr rfl fun s _ => ?_
  have := l_ne q k f u h t
  field_simp

include hq hk hv hd hf hu in
theorem st52 : val_main_v52 (F := Ideal) x0 x1 x2 x3 x4 (ix3 h t s) = ((dp v d h t s * (1 / (l q k f u h t * l q k f u h t)) * e q k f u h t s : ℝ) : EReal) := by
  rw [val_main_v52_apply, val_main_v51_apply, st49 x2 x4 v d hv hd h t s, val_main_v50_apply, st38 x0 x1 x3 q k f u hq hk hf h t s hu,
    show idx_main_v50 (ix3 h t s) = ix3 h t 0 by funext a; fin_cases a <;> rfl, st45 x0 x1 x3 q k f u hq hk hf h t hu 0, EReal.coe_mul, EReal.coe_mul]
  rfl

include hq hk hv hd hf hu in
theorem st53 : val_main_v53 (F := Ideal) x0 x1 x2 x3 x4 (ix2 h t) = (sub q k v d f u h t : EReal) := by
  rw [val_main_v53_apply, sum_coe fun s _ => (congrArg _ (show idx_main_v53 (ix2 h t) s = ix3 h t s by funext a; fin_cases a <;> rfl)).trans (st52 x0 x1 x2 x4 x3 q k v d f u hq hk hv hd hf h t s hu)]
  exact first_zero _ (val_main_cst_11_apply _) _

theorem fold54 (z : Fin 1) : idx_main_v54 (ix3 h t z) = ix2 h t := by
  funext a
  fin_cases a
  · exact Fin.ext (by show ((h.val * 4096 + t.val) * 1 + z.val) / 4096 = h.val; omega)
  · exact Fin.ext (by show ((h.val * 4096 + t.val) * 1 + z.val) % 4096 = t.val; omega)
theorem fold68 (z : Fin 1) : idx_main_v68 (ix3 h t z) = ix2 h t := by
  funext a
  fin_cases a
  · exact Fin.ext (by show ((h.val * 4096 + t.val) * 1 + z.val) / 4096 = h.val; omega)
  · exact Fin.ext (by show ((h.val * 4096 + t.val) * 1 + z.val) % 4096 = t.val; omega)

include hq hk hv hd hf hu in
theorem st58 : val_main_v58 (F := Ideal) x0 x1 x2 x3 x4 (ix2 h t) = ((-sub q k v d f u h t : ℝ) : EReal) := by
  rw [val_main_v58_apply, sum_coe (f := fun _ => -sub q k v d f u h t) fun z _ => by
    rw [show idx_main_v58 (ix2 h t) z = ix3 h t z by funext a; fin_cases a <;> rfl, val_main_v55_apply, val_main_v54_apply,
      fold54 h t z, st53 x0 x1 x2 x4 x3 q k v d f u hq hk hv hd hf h t hu, EReal.coe_neg]
    rfl]
  rw [first_zero _ (val_main_cst_12_apply _) _]
  simp

include hq hk hv hd hf hu in
theorem st62 : val_main_v62 (F := Ideal) x0 x1 x2 x3 x4 (ix3 h t s) = (ds q k v d f u h t s : EReal) := by
  rw [val_main_v62_apply, mask_val]
  by_cases hs : s ≤ t
  · rw [if_pos hs]
    show val_main_v61 (F := Ideal) x0 x1 x2 x3 x4 (ix3 h t s) = _
    rw [val_main_v61_apply, val_main_v60_apply, val_main_v57_apply, val_main_v56_apply, val_main_v59_apply, st49 x2 x4 v d hv hd h t s, st38 x0 x1 x3 q k f u hq hk hf h t s hu,
      show idx_main_v56 (ix3 h t s) = ix3 h t 0 by funext a; fin_cases a <;> rfl, st40 x0 x1 x3 q k f u hq hk hf h t hu 0,
      show idx_main_v59 (ix3 h t s) = ix2 h t by funext a; fin_cases a <;> rfl, st58 x0 x1 x2 x4 x3 q k v d f u hq hk hv hd hf h t hu]
    show (Ideal.div (dp v d h t s : EReal) (l q k f u h t : EReal) + ((-sub q k v d f u h t : ℝ) : EReal)) * (e q k f u h t s : EReal) = _
    rw [div_coe _ _ (l_ne q k f u h t), ← EReal.coe_add, ← EReal.coe_mul]
    refine congrArg _ ?_
    unfold ds
    rw [← sub_eq]
    unfold p
    have := l_ne q k f u h t
    field_simp
    ring
  · rw [if_neg hs, ds_zero q k v d f u h t s hs]
    show val_main_call2_v0 (F := Ideal) (ix3 h t s) = _
    rw [val_main_call2_v0_apply, val_main_call2_cst_apply]
    exact bits_zero

include hq hk hv hd hf hu in
theorem st72 : val_main_v72 (F := Ideal) x0 x1 x2 x3 x4 (ix3 h t s) = ((ds q k v d f u h t s * 0.125 : ℝ) : EReal) := by
  rw [val_main_v72_apply, st62 x0 x1 x2 x4 x3 q k v d f u hq hk hv hd hf h t s hu, val_main_v71_apply, val_main_cst_17_apply, EReal.coe_mul, ← bits_eighth]
  rfl

/-! The four gradients. -/
include hq hk hv hd hf hu in
theorem ref_dq : val_main_v74 (F := Ideal) x0 x1 x2 x3 x4 (ix3 h t r) = ((∑ s, ds q k v d f u h t s * 0.125 * k h s r : ℝ) : EReal) := by
  rw [val_main_v74_apply]
  exact sum_coe fun s _ => by
    rw [show lidx_main_v74 (ix3 h t r) s = ix3 h t s by funext a; fin_cases a <;> rfl,
      show ridx_main_v74 (ix3 h t r) s = ix3 h s r by funext a; fin_cases a <;> rfl, hk, st72 x0 x1 x2 x4 x3 q k v d f u hq hk hv hd hf h t s hu]
    exact (EReal.coe_mul _ _).symm
include hq hk hv hd hf hu in
theorem ref_dk : val_main_v73 (F := Ideal) x0 x1 x2 x3 x4 (ix3 h s r) = ((∑ t, ds q k v d f u h t s * 0.125 * q h t r : ℝ) : EReal) := by
  rw [val_main_v73_apply]
  exact sum_coe fun t _ => by
    rw [show lidx_main_v73 (ix3 h s r) t = ix3 h t s by funext a; fin_cases a <;> rfl,
      show ridx_main_v73 (ix3 h s r) t = ix3 h t r by funext a; fin_cases a <;> rfl, hq, st72 x0 x1 x2 x4 x3 q k v d f u hq hk hv hd hf h t s hu]
    exact (EReal.coe_mul _ _).symm
include hq hk hd hf hu in
theorem ref_dv : val_main_v75 (F := Ideal) x0 x1 x3 x4 (ix3 h s r) = ((∑ t, d h t r * p q k f u h t s : ℝ) : EReal) := by
  rw [val_main_v75_apply, val_main_v48_apply, val_main_v47_apply]
  exact sum_coe fun t _ => by
    rw [show lidx_main_v47 (idx_main_v48 (ix3 h s r)) t = ix3 h t r by funext a; fin_cases a <;> rfl,
      show ridx_main_v47 (idx_main_v48 (ix3 h s r)) t = ix3 h t s by funext a; fin_cases a <;> rfl, hd, st42 x0 x1 x3 q k f u hq hk hf h t s hu, EReal.coe_mul]

include hq hk hv hd hf hu in
theorem st64 : val_main_v64 (F := Ideal) x0 x1 x2 x3 x4 (ix2 h s) = ((∑ t, -ds q k v d f u h t s : ℝ) : EReal) := by
  rw [val_main_v64_apply, sum_coe fun t _ => by
    rw [show idx_main_v64 (ix2 h s) t = ix3 h t s by funext a; fin_cases a <;> rfl, val_main_v63_apply,
      st62 x0 x1 x2 x4 x3 q k v d f u hq hk hv hd hf h t s hu]
    exact (EReal.coe_neg _).symm]
  exact first_zero _ (val_main_cst_13_apply _) _
include hq hk hv hd hf hu in
theorem st66 : val_main_v66 (F := Ideal) x0 x1 x2 x3 x4 (ix2 h s) = ((∑ t, -ds q k v d f u h t s : ℝ) : EReal) := by
  rw [val_main_v66_apply, sum_coe (f := fun _ => ∑ t, -ds q k v d f u h t s) fun z _ => by
    have hz : z = 0 := Subsingleton.elim _ _
    rw [val_main_v65_apply, show idx_main_v65 (idx_main_v66 (ix2 h s) z) = ix2 h s by
      subst hz
      funext a
      fin_cases a
      · exact Fin.ext (by show ((h.val * 1 + 0) * 4096 + s.val) / 4096 = h.val; omega)
      · exact Fin.ext (by show ((h.val * 1 + 0) * 4096 + s.val) % 4096 = s.val; omega)]
    exact st64 x0 x1 x2 x4 x3 q k v d f u hq hk hv hd hf h s hu]
  rw [first_zero _ (val_main_cst_14_apply _) _]
  simp
include hq hk hv hd hf hu in
theorem st67 : val_main_v67 (F := Ideal) x0 x1 x2 x3 x4 (ix2 h t) = ((∑ s, ds q k v d f u h t s : ℝ) : EReal) := by
  rw [val_main_v67_apply, sum_coe fun s _ => by
    rw [show idx_main_v67 (ix2 h t) s = ix3 h t s by funext a; fin_cases a <;> rfl]
    exact st62 x0 x1 x2 x4 x3 q k v d f u hq hk hv hd hf h t s hu]
  exact first_zero _ (val_main_cst_15_apply _) _
include hq hk hv hd hf hu in
theorem st69 : val_main_v69 (F := Ideal) x0 x1 x2 x3 x4 (ix2 h t) = ((∑ s, ds q k v d f u h t s : ℝ) : EReal) := by
  rw [val_main_v69_apply, sum_coe (f := fun _ => ∑ s, ds q k v d f u h t s) fun z _ => by
    rw [show idx_main_v69 (ix2 h t) z = ix3 h t z by funext a; fin_cases a <;> rfl, val_main_v68_apply,
      fold68 h t z]
    exact st67 x0 x1 x2 x4 x3 q k v d f u hq hk hv hd hf h t hu]
  rw [first_zero _ (val_main_cst_16_apply _) _]
  simp
include hq hk hv hd hf hu in
theorem ref_df : val_main_v70 (F := Ideal) x0 x1 x2 x3 x4 (ix2 h t) = ((∑ s, ds q k v d f u h t s - ∑ w, ds q k v d f u h w t : ℝ) : EReal) := by
  rw [val_main_v70_apply, st66 x0 x1 x2 x4 x3 q k v d f u hq hk hv hd hf h t hu, st69 x0 x1 x2 x4 x3 q k v d f u hq hk hv hd hf h t hu]
  refine (EReal.coe_add _ _).symm.trans (congrArg _ ?_)
  rw [Finset.sum_neg_distrib]
  ring

end Stages
end Cert.FoxRef
end
-- ==== Proof.FoxPack.lean ====
module

public import proofs.«01_k».proof.Proof.FoxHost
public import proofs.«01_k».proof.Proof.FoxRef

@[expose] public section

set_option maxRecDepth 16384

noncomputable section

namespace Cert.FoxPack

open Cert.FoxBwdIdeal Cert.FoxBwdIdeal.Gen Cert.FoxReal Cert.FoxHost Cert.FoxRef
open Idealize.ShloMosaic
open Idealize.ShloMosaic.TcCoe Idealize.ShloMosaic.Tactic

/-! The packed operands' elements where the arguments are real numbers. -/

section Pack
variable (x0 x1 x2 x4 : FVec Ideal S8x4096x64 .f32) (x3 : FVec Ideal S8x4096 .f32)
variable (h : Fin 8) (t s : Fin 4096)

theorem cat4_at {a : FVec Ideal S8x4096x64 .f32} {b c : FVec Ideal S8x4096x3 .f32} {d : FVec Ideal S8x4096x58 .f32} (r : Fin 128) :
    (concatenate S8x4096x128 2 [⟨S8x4096x64, a⟩, ⟨S8x4096x3, b⟩, ⟨S8x4096x3, c⟩, ⟨S8x4096x58, d⟩]
      concatenates_S8x4096x64_S8x4096x3_S8x4096x3_S8x4096x58_S8x4096x128_d2 : FVec Ideal S8x4096x128 .f32) (ix3 h t r)
    = if hr : r.val < 64 then a (ix3 h t ⟨r.val, hr⟩) else if hr' : r.val < 67 then b (ix3 h t ⟨r.val - 64, by omega⟩)
      else if hr'' : r.val < 70 then c (ix3 h t ⟨r.val - 67, by omega⟩) else d (ix3 h t ⟨r.val - 70, by omega⟩) := by
  pointwise
  by_cases h1 : r.val < 64
  · rw [dif_pos h1, dif_pos h1]
  rw [dif_neg h1, dif_neg h1]
  by_cases h2 : r.val < 67
  · rw [dif_pos (by omega), dif_pos h2]
  rw [dif_neg (by omega), dif_neg h2]
  by_cases h3 : r.val < 70
  · rw [dif_pos (by omega), dif_pos h3]
    exact congrArg (fun i => c (ix3 h t i)) (Fin.ext (by show r.val - 64 - 3 = r.val - 67; omega))
  · rw [dif_neg (by omega), dif_neg h3]
    exact congrArg (fun i => d (ix3 h t i)) (Fin.ext (by show r.val - 64 - 3 - 3 = r.val - 70; omega))
theorem rows_at (x : FVec Ideal S8x4096 .f32) (n : Fin 16) (a : Fin 8) (t : Fin 256) : rows x (ix4 h n a t) = x (ix2 h ⟨256 * n.val + t.val, by omega⟩) := by
  unfold rows
  pointwise
  exact congrArg (fun i => x (ix2 h i)) (Fin.ext (by show n.val * 256 + t.val = 256 * n.val + t.val; omega))
theorem kt_at (n : Fin 16) (r : Fin 80) (s : Fin 256) : kt x1 x3 (ix4 h n r s) = ka x1 x3 (ix3 h ⟨256 * n.val + s.val, by omega⟩ ⟨r.val, by omega⟩) := by
  unfold kt
  generalize ka x1 x3 = y
  pointwise
  exact congrArg (fun i => y (ix3 h i _)) (Fin.ext (by show n.val * 256 + s.val = 256 * n.val + s.val; omega))
theorem col_at (x : FVec Ideal S8x4096 .f32) (z : Fin 1) : col x (ix3 h t z) = x (ix2 h t) := by
  unfold col
  pointwise
theorem ones_at (z : Fin 3) : ones (ix3 h t z) = ((1 : ℝ) : EReal) := by
  unfold ones
  pointwise
  rfl
theorem noth_at (z : Fin 58) : noth (ix3 h t z) = ((0 : ℝ) : EReal) := by
  unfold noth
  pointwise
  rfl
theorem terms_at (z : Fin 3) : terms x3 (ix3 h t z) = if z.val = 0 then cum x3 (ix2 h t) else if z.val = 1 then rem1 x3 (ix2 h t) else rem2 x3 (ix2 h t) := by
  unfold terms
  generalize cum x3 = a
  generalize rem1 x3 = b
  generalize rem2 x3 = c
  have ha := col_at h t a; have hb := col_at h t b; have hc := col_at h t c
  generalize col a = a' at *; generalize col b = b' at *; generalize col c = c' at *
  pointwise
  by_cases h1 : z.val = 0
  · rw [dif_pos (by omega), if_pos h1, ha]
  rw [dif_neg (by omega), if_neg h1]
  by_cases h2 : z.val = 1
  · rw [dif_pos (by omega), if_pos h2, hb]
  · rw [dif_neg (by omega), if_neg h2, hc]

variable (q k v d : Fin 8 → Fin 4096 → Fin 64 → ℝ) (f u : Fin 8 → Fin 4096 → ℝ)
variable (hq : ∀ h t r, x0 (ix3 h t r) = (q h t r : EReal)) (hk : ∀ h t r, x1 (ix3 h t r) = (k h t r : EReal))
variable (hv : ∀ h t r, x2 (ix3 h t r) = (v h t r : EReal)) (hd : ∀ h t r, x4 (ix3 h t r) = (d h t r : EReal))
variable (hf : ∀ h t, Cert.FoxGradIdeal.Read.val_main_v0 (F := Ideal) x3 (ix2 h t) = (f h t : EReal))
variable (hu : ∀ h t, Cert.FoxGradIdeal.Read.val_main_v18 (F := Ideal) x0 x1 x3 (ix2 h t) = (u h t : EReal))

include hf in
theorem rem1_zero : rem1 x3 (ix2 h t) = ((0 : ℝ) : EReal) := by
  have e : rem1 x3 (ix2 h t) = cum x3 (ix2 h t) - cum x3 (ix2 h t) := by
    unfold rem1
    generalize cum x3 = y
    pointwise
  rw [e, show cum x3 (ix2 h t) = (f h t : EReal) from hf h t, ← EReal.coe_sub, sub_self]
include hf in
theorem rem2_zero : rem2 x3 (ix2 h t) = ((0 : ℝ) : EReal) := by
  have e : rem2 x3 (ix2 h t) = rem1 x3 (ix2 h t) - rem1 x3 (ix2 h t) := by
    unfold rem2
    generalize rem1 x3 = y
    pointwise
  rw [e, rem1_zero x3 h t f hf, ← EReal.coe_sub, sub_self]
include hf in
theorem terms_real (z : Fin 3) : terms x3 (ix3 h t z) = ((if z.val = 0 then f h t else 0 : ℝ) : EReal) := by
  rw [terms_at, rem1_zero x3 h t f hf, rem2_zero x3 h t f hf]
  by_cases h1 : z.val = 0
  · rw [if_pos h1, if_pos h1]; exact hf h t
  · rw [if_neg h1, if_neg h1, ite_self]

include hq hf in
theorem qa_real (r : Fin 128) : qa x0 x3 (ix3 h t r) = (qaR q f h t r : EReal) := by
  unfold qa
  refine (cat4_at h t r).trans ?_
  unfold qaR
  by_cases h1 : r.val < 64
  · rw [dif_pos h1, dif_pos h1, EReal.coe_mul, ← hq, ← bits_eighth]
    pointwise
  rw [dif_neg h1, dif_neg h1]
  by_cases h2 : r.val < 67
  · rw [dif_pos h2, terms_real x3 h t f hf, if_pos h2]
    by_cases h3 : r.val = 64
    · rw [if_pos h3, if_pos (by show r.val - 64 = 0; omega)]
    · rw [if_neg h3, if_neg (by show ¬ r.val - 64 = 0; omega)]
  rw [dif_neg h2, if_neg h2, if_neg (by omega)]
  by_cases h3 : r.val < 70
  · rw [dif_pos h3, if_pos h3, ones_at]
  · rw [dif_neg h3, if_neg h3, noth_at]

include hk hf in
theorem ka_real (r : Fin 128) : ka x1 x3 (ix3 h t r) = (kaR k f h t r : EReal) := by
  unfold ka
  refine (cat4_at h t r).trans ?_
  unfold kaR
  by_cases h1 : r.val < 64
  · rw [dif_pos h1, dif_pos h1, hk]
  rw [dif_neg h1, dif_neg h1]
  by_cases h2 : r.val < 67
  · rw [dif_pos h2, if_pos h2, ones_at]
  rw [dif_neg h2, if_neg h2]
  by_cases h3 : r.val < 70
  · rw [dif_pos h3]
    show -(terms x3 (ix3 h t ⟨r.val - 67, by omega⟩)) = _
    rw [terms_real x3 h t f hf, ← EReal.coe_neg]
    by_cases h4 : r.val = 67
    · rw [if_pos h4, if_pos (by show r.val - 67 = 0; omega)]
    · rw [if_neg h4, if_neg (by show ¬ r.val - 67 = 0; omega), neg_zero]
  · rw [dif_neg h3, noth_at, if_neg (by omega)]

/-! The rows' log-sums and the rows' sums of cotangent times output. -/

section Rows
variable (S : FVec Ideal S8x4096x4096 .f32)
theorem spread (w : FVec Ideal S8x4096x1 .f32) :
    (broadcastInDim S8x4096x4096 ![0, 1, 2] bcast_S8x4096x1_S8x4096x4096_0_1_2 w : FVec Ideal S8x4096x4096 .f32) (ix3 h t s) = w (ix3 h t 0) :=
  broadcastInDim_apply _ bcast_S8x4096x1_S8x4096x4096_0_1_2 w (ix3 h t s) (ix3 h t 0) fun a => by fin_cases a <;> rfl
theorem ex_at : ex S (ix3 h t s) = Ideal.exp (S (ix3 h t s) - top S (ix3 h t 0)) := by
  unfold ex
  generalize top S = w
  exact congrArg (fun b => Ideal.exp (S (ix3 h t s) - b)) (spread h t s w)
theorem tot_at : tot S (ix3 h t 0) = Ideal.ofBits .f32 0x00000000#32 + ∑ s, ex S (ix3 h t s) := by
  unfold tot
  generalize ex S = w
  pointwise
theorem drop_at (x : FVec Ideal S8x4096x1 .f32) : (shapeCast S8x4096 x shapeCasts_S8x4096x1_S8x4096 : FVec Ideal S8x4096 .f32) (ix2 h t) = x (ix3 h t 0) := by
  pointwise
theorem addlog_at (a b : FVec Ideal S8x4096x1 .f32) (i : S8x4096x1.Idx) : addf a (Host.log b) i = a i + Ideal.log (b i) := by
  pointwise
theorem lse_at : lse S (ix2 h t) = top S (ix3 h t 0) + Ideal.log (tot S (ix3 h t 0)) :=
  (drop_at h t (addf (top S) (Host.log (tot S)))).trans (addlog_at (top S) (tot S) (ix3 h t 0))
theorem outp_at (r : Fin 64) : outp x2 S (ix3 h t r) = ∑ s, Ideal.div (ex S (ix3 h t s)) (tot S (ix3 h t 0)) * x2 (ix3 h s r) := by
  unfold outp
  generalize ex S = a
  generalize tot S = b
  pointwise
theorem del_at : del x2 x4 S (ix2 h t) = Ideal.ofBits .f32 0x00000000#32 + ∑ r, x4 (ix3 h t r) * outp x2 S (ix3 h t r) := by
  unfold del
  generalize outp x2 S = a
  pointwise
end Rows

local notation "SC" => Cert.FoxGradIdeal.Read.val_main_v17_0 (F := Ideal) x0 x1 x3

include hu in
theorem top_real : top SC (ix3 h t 0) = (u h t : EReal) := by
  rw [← hu]
  unfold top Cert.FoxGradIdeal.Read.val_main_v18
  generalize SC = y
  pointwise
  rfl
include hq hk hf hu in
theorem ex_real : ex SC (ix3 h t s) = (e q k f u h t s : EReal) := by
  rw [ex_at, st17 x0 x1 x3 q k f hq hk hf h t s, top_real x0 x1 x3 h t u hu]
  unfold e
  split
  · rw [← EReal.coe_sub, exp_coe]
  · rw [bot_sub, exp_bot]
include hq hk hf hu in
theorem tot_real : tot SC (ix3 h t 0) = (l q k f u h t : EReal) := by
  rw [tot_at, sum_coe fun s _ => ex_real x0 x1 x3 h t s q k f u hq hk hf hu]
  exact first_zero _ rfl _
include hq hk hf hu in
theorem lse_real : lse SC (ix2 h t) = ((u h t + Real.log (l q k f u h t) : ℝ) : EReal) := by
  rw [lse_at, top_real x0 x1 x3 h t u hu, tot_real x0 x1 x3 h t q k f u hq hk hf hu, log_coe _ (l_pos q k f u h t), EReal.coe_add]
include hq hk hv hf hu in
theorem outp_real (r : Fin 64) : outp x2 SC (ix3 h t r) = ((∑ s, p q k f u h t s * v h s r : ℝ) : EReal) := by
  rw [outp_at]
  exact sum_coe fun s _ => by
    rw [ex_real x0 x1 x3 h t s q k f u hq hk hf hu, tot_real x0 x1 x3 h t q k f u hq hk hf hu, div_coe _ _ (l_ne q k f u h t), hv, EReal.coe_mul]
    rfl
include hq hk hv hd hf hu in
theorem del_real : del x2 x4 SC (ix2 h t) = (dl q k v d f u h t : EReal) := by
  rw [del_at, sum_coe (f := fun r => d h t r * ∑ s, p q k f u h t s * v h s r) fun r _ => by
    rw [hd, outp_real x0 x1 x2 x3 h t q k v f u hq hk hv hf hu, EReal.coe_mul]]
  rw [first_zero _ rfl]
  refine congrArg _ ?_
  unfold dl dp
  simp only [Finset.mul_sum, Finset.sum_mul]
  rw [Finset.sum_comm]
  exact Finset.sum_congr rfl fun s _ => Finset.sum_congr rfl fun r _ => by ring
end Pack
end Cert.FoxPack
end
-- ==== Proof.FoxHeads.lean ====
module

public import proofs.«01_k».proof.Proof.FoxLaunch
import all proofs.«01_k».proof.Proof.FoxTrip1
import all proofs.«01_k».proof.Proof.FoxTrip3
import all proofs.«01_k».proof.Proof.FoxBody

@[expose] public section

set_option maxRecDepth 16384

noncomputable section

namespace Cert.Fox

open Cert.FoxBwdIdeal Cert.FoxBwdIdeal.Gen
open Idealize.ShloMosaic
open Idealize.ShloMosaic.TcCoe Idealize.ShloMosaic.Tactic

variable {F : FTy → Type} [FloatOps F] [Named F]

/-- One of eight things, by head. -/
def pick {α : Type} (x0 x1 x2 x3 x4 x5 x6 x7 : α) : Fin 8 → α
  | 0 => x0 | 1 => x1 | 2 => x2 | 3 => x3 | 4 => x4 | 5 => x5 | 6 => x6 | 7 => x7

/-- The sums carried for a head: of the keys' gradient, -/
def dkOf (a : A16 F) : Fin 8 → FVec F S256x128 .f32 :=
  pick a.1 a.2.2.1 a.2.2.2.2.1 a.2.2.2.2.2.2.1 a.2.2.2.2.2.2.2.2.1 a.2.2.2.2.2.2.2.2.2.2.1 a.2.2.2.2.2.2.2.2.2.2.2.2.1 a.2.2.2.2.2.2.2.2.2.2.2.2.2.2.1
/-- and of the values'. -/
def dvOf (a : A16 F) : Fin 8 → FVec F S256x64 .f32 :=
  pick a.2.1 a.2.2.2.1 a.2.2.2.2.2.1 a.2.2.2.2.2.2.2.1 a.2.2.2.2.2.2.2.2.2.1 a.2.2.2.2.2.2.2.2.2.2.2.1 a.2.2.2.2.2.2.2.2.2.2.2.2.2.1 a.2.2.2.2.2.2.2.2.2.2.2.2.2.2.2

/-- Where the rows of a head lie in the buffers of queries, of cotangents, of row statistics and of the queries' gradient. -/
abbrev OffQ (n : ℕ) := { off : Fin 3 → ℕ // ∀ a : Fin 3, off a + (![1, n, 128] : Fin 3 → ℕ) a ≤ S8x4096x128.size a }
abbrev OffD (n : ℕ) := { off : Fin 3 → ℕ // ∀ a : Fin 3, off a + (![1, n, 64] : Fin 3 → ℕ) a ≤ S8x4096x64.size a }
abbrev OffL := { off : Fin 4 → ℕ // ∀ a : Fin 4, off a + (![1, 1, 1, 256] : Fin 4 → ℕ) a ≤ S8x16x8x256.size a }
abbrev OffA := { off : Fin 4 → ℕ // ∀ a : Fin 4, off a + (![1, 1, 72, 256] : Fin 4 → ℕ) a ≤ S8x16x72x256.size a }

section Reads
variable {c : Dev nD} {arg7 : Memref sig .tc .vmem S8x16x8x256 .f32} {arg12 : Memref sig .tc .vmem S8x16x72x256 .f32}
  {arg13 : Memref sig .tc .vmem S8x4096x128 .bf16} {arg14 : Memref sig .tc .vmem S8x4096x64 .bf16}

/-- 256 rows of queries, of cotangents, a row of statistics and a tile of the queries' gradient, as a step reads them. -/
def qAt (fq : Buf (Elt F) (arg13.view.loc (c : Thread nD τ))) (o : OffQ 256) : FVec F S256x128 .bf16 :=
  shapeCast S256x128 (View.readAt (Elt F) arg13.view (Rect.unit (s := S8x4096x128) o.1 S1x256x128.size o.2).toLoadRect fq) shapeCasts_S1x256x128_S256x128
def dAt (fd : Buf (Elt F) (arg14.view.loc (c : Thread nD τ))) (o : OffD 256) : FVec F S256x64 .bf16 :=
  shapeCast S256x64 (View.readAt (Elt F) arg14.view (Rect.unit (s := S8x4096x64) o.1 S1x256x64.size o.2).toLoadRect fd) shapeCasts_S1x256x64_S256x64
def q2At (fq : Buf (Elt F) (arg13.view.loc (c : Thread nD τ))) (o : OffQ 512) : FVec F S512x128 .bf16 :=
  shapeCast S512x128 (View.readAt (Elt F) arg13.view (Rect.unit (s := S8x4096x128) o.1 S1x512x128.size o.2).toLoadRect fq) shapeCasts_S1x512x128_S512x128
def d2At (fd : Buf (Elt F) (arg14.view.loc (c : Thread nD τ))) (o : OffD 512) : FVec F S512x64 .bf16 :=
  shapeCast S512x64 (View.readAt (Elt F) arg14.view (Rect.unit (s := S8x4096x64) o.1 S1x512x64.size o.2).toLoadRect fd) shapeCasts_S1x512x64_S512x64
def lAt (f7 : Buf (Elt F) (arg7.view.loc (c : Thread nD τ))) (o : OffL) : FVec F S1x256 .f32 :=
  shapeCast S1x256 (View.readAt (Elt F) arg7.view (Rect.unit (s := S8x16x8x256) o.1 S1x1x1x256.size o.2).toLoadRect f7) shapeCasts_S1x1x1x256_S1x256
def aAt (g : Buf (Elt F) (arg12.view.loc (c : Thread nD τ))) (o : OffA) : FVec F S72x256 .f32 :=
  shapeCast S72x256 (View.readAt (Elt F) arg12.view (Rect.unit (s := S8x16x72x256) o.1 S1x1x72x256.size o.2).toLoadRect g) shapeCasts_S1x1x72x256_S72x256
end Reads

/-! One head's arithmetic over 256 rows of queries, and over 512. -/

def sV (k q : FVec F S256x128 .bf16) : FVec F S256x256 .f32 :=
  matmul dot_S256x128_S256x128_S256x256_1_1_0_0_n_n none k q (constant S256x256 .f32 0x00000000#32)
/-- The scores of a tile on the diagonal: the pairs whose key comes after the query are masked. -/
def mV (k q : FVec F S256x128 .bf16) : FVec F S256x256 .f32 :=
  select (cmpi .sle (iota .tc S256x256 32 [0] iota_S256x256_d0_w32) (iota .tc S256x256 32 [1] iota_S256x256_d1_w32)) (sV k q)
    (broadcast S256x256 (Named.named κ "mask" 0xF149F2CA#32))
def dpV (v d : FVec F S256x64 .bf16) : FVec F S256x256 .f32 :=
  matmul dot_S256x64_S256x64_S256x256_1_1_0_0_n_n none v d (constant S256x256 .f32 0x00000000#32)
def pV (s : FVec F S256x256 .f32) (l : FVec F S1x256 .f32) : FVec F S256x256 .f32 := exp (subf s (broadcastTo S256x256 l broadcasts_S1x256_S256x256))
def dsV (p dp : FVec F S256x256 .f32) (l : FVec F S1x256 .f32) : FVec F S256x256 .bf16 :=
  truncf .bf16 (mulf p (subf dp (broadcastTo S256x256 l broadcasts_S1x256_S256x256))) bitsLt_bf16_f32
def dkV (ds : FVec F S256x256 .bf16) (q : FVec F S256x128 .bf16) : FVec F S256x128 .f32 :=
  matmul dot_S256x256_S256x128_S256x128_1_0_0_1_n_n none ds q (constant S256x128 .f32 0x00000000#32)
def dvV (p : FVec F S256x256 .f32) (d : FVec F S256x64 .bf16) : FVec F S256x64 .f32 :=
  matmul dot_S256x256_S256x64_S256x64_1_0_0_1_n_n none (truncf .bf16 p bitsLt_bf16_f32) d (constant S256x64 .f32 0x00000000#32)
def dqV (kt : FVec F S72x256 .bf16) (ds : FVec F S256x256 .bf16) : FVec F S72x256 .f32 :=
  matmul dot_S72x256_S256x256_S72x256_1_0_0_1_n_n none kt ds (constant S72x256 .f32 0x00000000#32)

def s2V (k : FVec F S256x128 .bf16) (q : FVec F S512x128 .bf16) : FVec F S256x512 .f32 :=
  matmul dot_S256x128_S512x128_S256x512_1_1_0_0_n_n none k q (constant S256x512 .f32 0x00000000#32)
def dp2V (v : FVec F S256x64 .bf16) (d : FVec F S512x64 .bf16) : FVec F S256x512 .f32 :=
  matmul dot_S256x64_S512x64_S256x512_1_1_0_0_n_n none v d (constant S256x512 .f32 0x00000000#32)
def l2V (l l' : FVec F S1x256 .f32) : FVec F S256x512 .f32 :=
  broadcastTo S256x512 (concatenate S1x512 1 [⟨S1x256, l⟩, ⟨S1x256, l'⟩] concatenates_S1x256_S1x256_S1x512_d1) broadcasts_S1x512_S256x512
def p2V (s l : FVec F S256x512 .f32) : FVec F S256x512 .f32 := exp (subf s l)
def ds2V (p dp l : FVec F S256x512 .f32) : FVec F S256x512 .bf16 := truncf .bf16 (mulf p (subf dp l)) bitsLt_bf16_f32
def dk2V (ds : FVec F S256x512 .bf16) (q : FVec F S512x128 .bf16) : FVec F S256x128 .f32 :=
  matmul dot_S256x512_S512x128_S256x128_1_0_0_1_n_n none ds q (constant S256x128 .f32 0x00000000#32)
def dv2V (p : FVec F S256x512 .f32) (d : FVec F S512x64 .bf16) : FVec F S256x64 .f32 :=
  matmul dot_S256x512_S512x64_S256x64_1_0_0_1_n_n none (truncf .bf16 p bitsLt_bf16_f32) d (constant S256x64 .f32 0x00000000#32)
def dq2V (kt : FVec F S72x256 .bf16) (ds : FVec F S256x512 .bf16) : FVec F S72x512 .f32 :=
  matmul dot_S72x256_S256x512_S72x512_1_0_0_1_n_n none kt ds (constant S72x512 .f32 0x00000000#32)

/-- The tile of the queries' gradient with a product added, as it is stored. -/
def addA (old new : FVec F S72x256 .f32) : FVec F S1x1x72x256 .f32 := shapeCast S1x1x72x256 (addf old new) shapeCasts_S72x256_S1x1x72x256
def pieceA (o : OffA) (w : FVec F S1x1x72x256 .f32) : View.Piece (Elt F) S8x16x72x256 .f32 := ⟨Rect.unit (s := S8x16x72x256) o.1 S1x1x72x256.size o.2, w⟩

/-- The eight heads, last first. -/
abbrev heads : List (Fin 8) := [7, 6, 5, 4, 3, 2, 1, 0]

section Offs
variable (i : grid0.Coords)
def offQ0 : Fin 8 → OffQ 256 := pick ⟨k0_off4 i, k0_off4_inb i⟩ ⟨k0_off5 i, k0_off5_inb i⟩ ⟨k0_off6 i, k0_off6_inb i⟩ ⟨k0_off7 i, k0_off7_inb i⟩ ⟨k0_off8 i, k0_off8_inb i⟩ ⟨k0_off9 i, k0_off9_inb i⟩ ⟨k0_off10 i, k0_off10_inb i⟩ ⟨k0_off11 i, k0_off11_inb i⟩
def offD0 : Fin 8 → OffD 256 := pick ⟨k0_off12 i, k0_off12_inb i⟩ ⟨k0_off13 i, k0_off13_inb i⟩ ⟨k0_off14 i, k0_off14_inb i⟩ ⟨k0_off15 i, k0_off15_inb i⟩ ⟨k0_off16 i, k0_off16_inb i⟩ ⟨k0_off17 i, k0_off17_inb i⟩ ⟨k0_off18 i, k0_off18_inb i⟩ ⟨k0_off19 i, k0_off19_inb i⟩
def offL0 : Fin 8 → OffL := pick ⟨k0_off20 i, k0_off20_inb i⟩ ⟨k0_off21 i, k0_off21_inb i⟩ ⟨k0_off22 i, k0_off22_inb i⟩ ⟨k0_off23 i, k0_off23_inb i⟩ ⟨k0_off24 i, k0_off24_inb i⟩ ⟨k0_off25 i, k0_off25_inb i⟩ ⟨k0_off26 i, k0_off26_inb i⟩ ⟨k0_off27 i, k0_off27_inb i⟩
def offA0 : Fin 8 → OffA := pick ⟨k0_off28 i, k0_off28_inb i⟩ ⟨k0_off29 i, k0_off29_inb i⟩ ⟨k0_off30 i, k0_off30_inb i⟩ ⟨k0_off31 i, k0_off31_inb i⟩ ⟨k0_off32 i, k0_off32_inb i⟩ ⟨k0_off33 i, k0_off33_inb i⟩ ⟨k0_off34 i, k0_off34_inb i⟩ ⟨k0_off35 i, k0_off35_inb i⟩
def offA9 : Fin 8 → OffA := pick ⟨k0_off176 i, k0_off176_inb i⟩ ⟨k0_off177 i, k0_off177_inb i⟩ ⟨k0_off178 i, k0_off178_inb i⟩ ⟨k0_off179 i, k0_off179_inb i⟩ ⟨k0_off180 i, k0_off180_inb i⟩ ⟨k0_off181 i, k0_off181_inb i⟩ ⟨k0_off182 i, k0_off182_inb i⟩ ⟨k0_off183 i, k0_off183_inb i⟩
def offQ1 (k : Fin (k0_t1_loop i).trips) : Fin 8 → OffQ 256 := pick ⟨k0_off39 i k, k0_off39_inb i k⟩ ⟨k0_off40 i k, k0_off40_inb i k⟩ ⟨k0_off41 i k, k0_off41_inb i k⟩ ⟨k0_off42 i k, k0_off42_inb i k⟩ ⟨k0_off43 i k, k0_off43_inb i k⟩ ⟨k0_off44 i k, k0_off44_inb i k⟩ ⟨k0_off45 i k, k0_off45_inb i k⟩ ⟨k0_off46 i k, k0_off46_inb i k⟩
def offD1 (k : Fin (k0_t1_loop i).trips) : Fin 8 → OffD 256 := pick ⟨k0_off47 i k, k0_off47_inb i k⟩ ⟨k0_off48 i k, k0_off48_inb i k⟩ ⟨k0_off49 i k, k0_off49_inb i k⟩ ⟨k0_off50 i k, k0_off50_inb i k⟩ ⟨k0_off51 i k, k0_off51_inb i k⟩ ⟨k0_off52 i k, k0_off52_inb i k⟩ ⟨k0_off53 i k, k0_off53_inb i k⟩ ⟨k0_off54 i k, k0_off54_inb i k⟩
def offL1 (k : Fin (k0_t1_loop i).trips) : Fin 8 → OffL := pick ⟨k0_off55 i k, k0_off55_inb i k⟩ ⟨k0_off56 i k, k0_off56_inb i k⟩ ⟨k0_off57 i k, k0_off57_inb i k⟩ ⟨k0_off58 i k, k0_off58_inb i k⟩ ⟨k0_off59 i k, k0_off59_inb i k⟩ ⟨k0_off60 i k, k0_off60_inb i k⟩ ⟨k0_off61 i k, k0_off61_inb i k⟩ ⟨k0_off62 i k, k0_off62_inb i k⟩
def offA1 (k : Fin (k0_t1_loop i).trips) : Fin 8 → OffA := pick ⟨k0_off63 i k, k0_off63_inb i k⟩ ⟨k0_off64 i k, k0_off64_inb i k⟩ ⟨k0_off65 i k, k0_off65_inb i k⟩ ⟨k0_off66 i k, k0_off66_inb i k⟩ ⟨k0_off67 i k, k0_off67_inb i k⟩ ⟨k0_off68 i k, k0_off68_inb i k⟩ ⟨k0_off69 i k, k0_off69_inb i k⟩ ⟨k0_off70 i k, k0_off70_inb i k⟩
def offQ3 (k : Fin (k0_t3_loop i).trips) : Fin 8 → OffQ 512 := pick ⟨k0_off109 i k, k0_off109_inb i k⟩ ⟨k0_off110 i k, k0_off110_inb i k⟩ ⟨k0_off111 i k, k0_off111_inb i k⟩ ⟨k0_off112 i k, k0_off112_inb i k⟩ ⟨k0_off113 i k, k0_off113_inb i k⟩ ⟨k0_off114 i k, k0_off114_inb i k⟩ ⟨k0_off115 i k, k0_off115_inb i k⟩ ⟨k0_off116 i k, k0_off116_inb i k⟩
def offD3 (k : Fin (k0_t3_loop i).trips) : Fin 8 → OffD 512 := pick ⟨k0_off117 i k, k0_off117_inb i k⟩ ⟨k0_off118 i k, k0_off118_inb i k⟩ ⟨k0_off119 i k, k0_off119_inb i k⟩ ⟨k0_off120 i k, k0_off120_inb i k⟩ ⟨k0_off121 i k, k0_off121_inb i k⟩ ⟨k0_off122 i k, k0_off122_inb i k⟩ ⟨k0_off123 i k, k0_off123_inb i k⟩ ⟨k0_off124 i k, k0_off124_inb i k⟩
def offL3_0 (k : Fin (k0_t3_loop i).trips) : Fin 8 → OffL := pick ⟨k0_off125 i k 0#32, k0_off125_inb i k 0⟩ ⟨k0_off126 i k 0#32, k0_off126_inb i k 0⟩ ⟨k0_off127 i k 0#32, k0_off127_inb i k 0⟩ ⟨k0_off128 i k 0#32, k0_off128_inb i k 0⟩ ⟨k0_off129 i k 0#32, k0_off129_inb i k 0⟩ ⟨k0_off130 i k 0#32, k0_off130_inb i k 0⟩ ⟨k0_off131 i k 0#32, k0_off131_inb i k 0⟩ ⟨k0_off132 i k 0#32, k0_off132_inb i k 0⟩
def offA3_0 (k : Fin (k0_t3_loop i).trips) : Fin 8 → OffA := pick ⟨k0_off133 i k 0#32, k0_off133_inb i k 0⟩ ⟨k0_off134 i k 0#32, k0_off134_inb i k 0⟩ ⟨k0_off135 i k 0#32, k0_off135_inb i k 0⟩ ⟨k0_off136 i k 0#32, k0_off136_inb i k 0⟩ ⟨k0_off137 i k 0#32, k0_off137_inb i k 0⟩ ⟨k0_off138 i k 0#32, k0_off138_inb i k 0⟩ ⟨k0_off139 i k 0#32, k0_off139_inb i k 0⟩ ⟨k0_off140 i k 0#32, k0_off140_inb i k 0⟩
def offL3_1 (k : Fin (k0_t3_loop i).trips) : Fin 8 → OffL := pick ⟨k0_off125 i k 1#32, k0_off125_inb i k 1⟩ ⟨k0_off126 i k 1#32, k0_off126_inb i k 1⟩ ⟨k0_off127 i k 1#32, k0_off127_inb i k 1⟩ ⟨k0_off128 i k 1#32, k0_off128_inb i k 1⟩ ⟨k0_off129 i k 1#32, k0_off129_inb i k 1⟩ ⟨k0_off130 i k 1#32, k0_off130_inb i k 1⟩ ⟨k0_off131 i k 1#32, k0_off131_inb i k 1⟩ ⟨k0_off132 i k 1#32, k0_off132_inb i k 1⟩
def offA3_1 (k : Fin (k0_t3_loop i).trips) : Fin 8 → OffA := pick ⟨k0_off133 i k 1#32, k0_off133_inb i k 1⟩ ⟨k0_off134 i k 1#32, k0_off134_inb i k 1⟩ ⟨k0_off135 i k 1#32, k0_off135_inb i k 1⟩ ⟨k0_off136 i k 1#32, k0_off136_inb i k 1⟩ ⟨k0_off137 i k 1#32, k0_off137_inb i k 1⟩ ⟨k0_off138 i k 1#32, k0_off138_inb i k 1⟩ ⟨k0_off139 i k 1#32, k0_off139_inb i k 1⟩ ⟨k0_off140 i k 1#32, k0_off140_inb i k 1⟩
end Offs

section Trips
variable (c : Dev nD) (i : grid0.Coords)
  (arg2 : Memref sig .tc .hbm S8x4096x128 .bf16) (harg2 : arg2.IsWhole)
  (arg3 : Memref sig .tc .vmem S8x256x128 .bf16) (harg3 : arg3.IsWhole)
  (arg4 : Memref sig .tc .vmem S8x1x80x256 .bf16) (harg4 : arg4.IsWhole)
  (arg5 : Memref sig .tc .vmem S8x256x64 .bf16) (harg5 : arg5.IsWhole)
  (arg6 : Memref sig .tc .hbm S8x4096x64 .bf16) (harg6 : arg6.IsWhole)
  (arg7 : Memref sig .tc .vmem S8x16x8x256 .f32) (harg7 : arg7.IsWhole)
  (arg8 : Memref sig .tc .vmem S8x16x8x256 .f32) (harg8 : arg8.IsWhole)
  (arg9 : Memref sig .tc .vmem S8x256x128 .f32) (harg9 : arg9.IsWhole)
  (arg10 : Memref sig .tc .vmem S8x256x128 .f32) (harg10 : arg10.IsWhole)
  (arg11 : Memref sig .tc .vmem S8x256x64 .bf16) (harg11 : arg11.IsWhole)
  (arg12 : Memref sig .tc .vmem S8x16x72x256 .f32) (harg12 : arg12.IsWhole)
  (arg13 : Memref sig .tc .vmem S8x4096x128 .bf16) (harg13 : arg13.IsWhole)
  (arg14 : Memref sig .tc .vmem S8x4096x64 .bf16) (harg14 : arg14.IsWhole)
  (arg15 arg16 : DmaSems sig S16)
  (arg1 : BitVec 32) (vk : Fin 8 → FVec F S256x128 .bf16) (vkt : Fin 8 → FVec F S72x256 .bf16) (vv : Fin 8 → FVec F S256x64 .bf16) (vz : BitVec 32)
  (f2 : Buf (Elt F) (arg2.view.loc (c : Thread nD τ))) (f6 : Buf (Elt F) (arg6.view.loc (c : Thread nD τ))) (fq : Buf (Elt F) (arg13.view.loc (c : Thread nD τ))) (fd : Buf (Elt F) (arg14.view.loc (c : Thread nD τ)))
  (f7 : Buf (Elt F) (arg7.view.loc (c : Thread nD τ))) (f8 : Buf (Elt F) (arg8.view.loc (c : Thread nD τ))) (g : Buf (Elt F) (arg12.view.loc (c : Thread nD τ)))

section One
variable (k : Fin (k0_t1_loop i).trips) (acc : A16 F)
/-- A trip over one block of queries: a head's probabilities and the gradient of its scores. -/
def p1 (h : Fin 8) : FVec F S256x256 .f32 := pV (sV (vk h) (qAt fq (offQ1 i k h))) (lAt f7 (offL1 i k h))
def ds1 (h : Fin 8) : FVec F S256x256 .bf16 := dsV (p1 c i arg7 arg13 vk fq f7 k h) (dpV (vv h) (dAt fd (offD1 i k h))) (lAt f8 (offL1 i k h))

theorem next1_dk (h : Fin 8) : dkOf (next1 c i arg2 harg2 arg3 harg3 arg4 harg4 arg5 harg5 arg6 harg6 arg7 harg7 arg8 harg8 arg9 harg9 arg10 harg10 arg11 harg11 arg12 harg12 arg13 harg13 arg14 harg14 arg15 arg16 arg1 (vk 0) (vk 1) (vk 2) (vk 3) (vk 4) (vk 5) (vk 6) (vk 7) (vkt 0) (vkt 1) (vkt 2) (vkt 3) (vkt 4) (vkt 5) (vkt 6) (vkt 7) (vv 0) (vv 1) (vv 2) (vv 3) (vv 4) (vv 5) (vv 6) (vv 7) vz f2 f6 fq fd f7 f8 k acc g).1 h = addf (dkOf acc h) (dkV (ds1 c i arg7 arg8 arg13 arg14 vk vv fq fd f7 f8 k h) (qAt fq (offQ1 i k h))) := by
  obtain ⟨a18, a19, a20, a21, a22, a23, a24, a25, a26, a27, a28, a29, a30, a31, a32, a33⟩ := acc
  fin_cases h <;> rfl
theorem next1_dv (h : Fin 8) : dvOf (next1 c i arg2 harg2 arg3 harg3 arg4 harg4 arg5 harg5 arg6 harg6 arg7 harg7 arg8 harg8 arg9 harg9 arg10 harg10 arg11 harg11 arg12 harg12 arg13 harg13 arg14 harg14 arg15 arg16 arg1 (vk 0) (vk 1) (vk 2) (vk 3) (vk 4) (vk 5) (vk 6) (vk 7) (vkt 0) (vkt 1) (vkt 2) (vkt 3) (vkt 4) (vkt 5) (vkt 6) (vkt 7) (vv 0) (vv 1) (vv 2) (vv 3) (vv 4) (vv 5) (vv 6) (vv 7) vz f2 f6 fq fd f7 f8 k acc g).1 h = addf (dvOf acc h) (dvV (p1 c i arg7 arg13 vk fq f7 k h) (dAt fd (offD1 i k h))) := by
  obtain ⟨a18, a19, a20, a21, a22, a23, a24, a25, a26, a27, a28, a29, a30, a31, a32, a33⟩ := acc
  fin_cases h <;> rfl
theorem next1_dq : (next1 c i arg2 harg2 arg3 harg3 arg4 harg4 arg5 harg5 arg6 harg6 arg7 harg7 arg8 harg8 arg9 harg9 arg10 harg10 arg11 harg11 arg12 harg12 arg13 harg13 arg14 harg14 arg15 arg16 arg1 (vk 0) (vk 1) (vk 2) (vk 3) (vk 4) (vk 5) (vk 6) (vk 7) (vkt 0) (vkt 1) (vkt 2) (vkt 3) (vkt 4) (vkt 5) (vkt 6) (vkt 7) (vv 0) (vv 1) (vv 2) (vv 3) (vv 4) (vv 5) (vv 6) (vv 7) vz f2 f6 fq fd f7 f8 k acc g).2 = arg12.view.writes (Elt F) g
    (heads.map fun h => pieceA (offA1 i k h) (addA (aAt g (offA1 i k h)) (dqV (vkt h) (ds1 c i arg7 arg8 arg13 arg14 vk vv fq fd f7 f8 k h)))) := by
  obtain ⟨a18, a19, a20, a21, a22, a23, a24, a25, a26, a27, a28, a29, a30, a31, a32, a33⟩ := acc
  sl_kernel_rfl
end One

section Two
variable (k : Fin (k0_t3_loop i).trips) (acc : A16 F)
/-- A trip over two blocks of queries. -/
def p3 (h : Fin 8) : FVec F S256x512 .f32 := p2V (s2V (vk h) (q2At fq (offQ3 i k h))) (l2V (lAt f7 (offL3_0 i k h)) (lAt f7 (offL3_1 i k h)))
def ds3 (h : Fin 8) : FVec F S256x512 .bf16 :=
  ds2V (p3 c i arg7 arg13 vk fq f7 k h) (dp2V (vv h) (d2At fd (offD3 i k h))) (l2V (lAt f8 (offL3_0 i k h)) (lAt f8 (offL3_1 i k h)))

theorem next3_dk (h : Fin 8) : dkOf (next3 c i arg2 harg2 arg3 harg3 arg4 harg4 arg5 harg5 arg6 harg6 arg7 harg7 arg8 harg8 arg9 harg9 arg10 harg10 arg11 harg11 arg12 harg12 arg13 harg13 arg14 harg14 arg15 arg16 arg1 (vk 0) (vk 1) (vk 2) (vk 3) (vk 4) (vk 5) (vk 6) (vk 7) (vkt 0) (vkt 1) (vkt 2) (vkt 3) (vkt 4) (vkt 5) (vkt 6) (vkt 7) (vv 0) (vv 1) (vv 2) (vv 3) (vv 4) (vv 5) (vv 6) (vv 7) vz f2 f6 fq fd f7 f8 k acc g).1 h = addf (dkOf acc h) (dk2V (ds3 c i arg7 arg8 arg13 arg14 vk vv fq fd f7 f8 k h) (q2At fq (offQ3 i k h))) := by
  obtain ⟨a18, a19, a20, a21, a22, a23, a24, a25, a26, a27, a28, a29, a30, a31, a32, a33⟩ := acc
  fin_cases h <;> rfl
theorem next3_dv (h : Fin 8) : dvOf (next3 c i arg2 harg2 arg3 harg3 arg4 harg4 arg5 harg5 arg6 harg6 arg7 harg7 arg8 harg8 arg9 harg9 arg10 harg10 arg11 harg11 arg12 harg12 arg13 harg13 arg14 harg14 arg15 arg16 arg1 (vk 0) (vk 1) (vk 2) (vk 3) (vk 4) (vk 5) (vk 6) (vk 7) (vkt 0) (vkt 1) (vkt 2) (vkt 3) (vkt 4) (vkt 5) (vkt 6) (vkt 7) (vv 0) (vv 1) (vv 2) (vv 3) (vv 4) (vv 5) (vv 6) (vv 7) vz f2 f6 fq fd f7 f8 k acc g).1 h = addf (dvOf acc h) (dv2V (p3 c i arg7 arg13 vk fq f7 k h) (d2At fd (offD3 i k h))) := by
  obtain ⟨a18, a19, a20, a21, a22, a23, a24, a25, a26, a27, a28, a29, a30, a31, a32, a33⟩ := acc
  fin_cases h <;> rfl
theorem next3_dq : (next3 c i arg2 harg2 arg3 harg3 arg4 harg4 arg5 harg5 arg6 harg6 arg7 harg7 arg8 harg8 arg9 harg9 arg10 harg10 arg11 harg11 arg12 harg12 arg13 harg13 arg14 harg14 arg15 arg16 arg1 (vk 0) (vk 1) (vk 2) (vk 3) (vk 4) (vk 5) (vk 6) (vk 7) (vkt 0) (vkt 1) (vkt 2) (vkt 3) (vkt 4) (vkt 5) (vkt 6) (vkt 7) (vv 0) (vv 1) (vv 2) (vv 3) (vv 4) (vv 5) (vv 6) (vv 7) vz f2 f6 fq fd f7 f8 k acc g).2 = arg12.view.writes (Elt F) g
    (heads.flatMap fun h => [pieceA (offA3_1 i k h) (addA (aAt g (offA3_1 i k h)) (extractStridedSlice S72x256 ![0, 256] (dq2V (vkt h) (ds3 c i arg7 arg8 arg13 arg14 vk vv fq fd f7 f8 k h)) slices_S72x512_o0_256_S72x256)),
      pieceA (offA3_0 i k h) (addA (aAt g (offA3_0 i k h)) (extractStridedSlice S72x256 ![0, 0] (dq2V (vkt h) (ds3 c i arg7 arg8 arg13 arg14 vk vv fq fd f7 f8 k h)) slices_S72x512_o0_0_S72x256))]) := by
  obtain ⟨a18, a19, a20, a21, a22, a23, a24, a25, a26, a27, a28, a29, a30, a31, a32, a33⟩ := acc
  sl_kernel_rfl
end Two
end Trips

end Cert.Fox
end
-- ==== Proof.FoxDiag.lean ====
module

public import proofs.«01_k».proof.Proof.FoxHeads
import all proofs.«01_k».proof.Proof.FoxTrip1
import all proofs.«01_k».proof.Proof.FoxTrip3
import all proofs.«01_k».proof.Proof.FoxBody

@[expose] public section

set_option maxRecDepth 16384

noncomputable section

namespace Cert.Fox

open Cert.FoxBwdIdeal Cert.FoxBwdIdeal.Gen
open Idealize.ShloMosaic
open Idealize.ShloMosaic.TcCoe Idealize.ShloMosaic.Tactic

variable {F : FTy → Type} [FloatOps F] [Named F]

theorem headK (h : Fin 8) : ∀ a : Fin 3, (![h.val, 0, 0] : Fin 3 → ℕ) a + S1x256x128.size a ≤ S8x256x128.size a := by revert h; decide
theorem headV (h : Fin 8) : ∀ a : Fin 3, (![h.val, 0, 0] : Fin 3 → ℕ) a + S1x256x64.size a ≤ S8x256x64.size a := by revert h; decide
theorem headT (h : Fin 8) : ∀ a : Fin 4, (![h.val, 0, 0, 0] : Fin 4 → ℕ) a + S1x1x72x256.size a ≤ S8x1x80x256.size a := by revert h; decide

section Body
variable (c : Dev nD) (i : grid0.Coords)
  (arg2 : Memref sig .tc .hbm S8x4096x128 .bf16) (harg2 : arg2.IsWhole)
  (arg3 : Memref sig .tc .vmem S8x256x128 .bf16) (harg3 : arg3.IsWhole)
  (arg4 : Memref sig .tc .vmem S8x1x80x256 .bf16) (harg4 : arg4.IsWhole)
  (arg5 : Memref sig .tc .vmem S8x256x64 .bf16) (harg5 : arg5.IsWhole)
  (arg6 : Memref sig .tc .hbm S8x4096x64 .bf16) (harg6 : arg6.IsWhole)
  (arg7 : Memref sig .tc .vmem S8x16x8x256 .f32) (harg7 : arg7.IsWhole)
  (arg8 : Memref sig .tc .vmem S8x16x8x256 .f32) (harg8 : arg8.IsWhole)
  (arg9 : Memref sig .tc .vmem S8x256x128 .f32) (harg9 : arg9.IsWhole)
  (arg10 : Memref sig .tc .vmem S8x256x128 .f32) (harg10 : arg10.IsWhole)
  (arg11 : Memref sig .tc .vmem S8x256x64 .bf16) (harg11 : arg11.IsWhole)
  (arg12 : Memref sig .tc .vmem S8x16x72x256 .f32) (harg12 : arg12.IsWhole)
  (arg13 : Memref sig .tc .vmem S8x4096x128 .bf16) (harg13 : arg13.IsWhole)
  (arg14 : Memref sig .tc .vmem S8x4096x64 .bf16) (harg14 : arg14.IsWhole)
  (arg15 arg16 : DmaSems sig S16)
  (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ))) (f8 : Buf (Elt F) (arg8.view.loc (c : Thread nD τ))) (f12 : Buf (Elt F) (arg12.view.loc (c : Thread nD τ)))
  (fq : Buf (Elt F) (arg13.view.loc (c : Thread nD τ))) (fd : Buf (Elt F) (arg14.view.loc (c : Thread nD τ)))

/-- A step's block of keys, the keys transposed, and the values, by head. -/
def kOf (h : Fin 8) : FVec F S256x128 .bf16 :=
  shapeCast S256x128 (View.readAt (Elt F) arg3.view (Rect.unit (s := S8x256x128) ![h.val, 0, 0] S1x256x128.size (headK h)).toLoadRect f3) shapeCasts_S1x256x128_S256x128
def ktOf (h : Fin 8) : FVec F S72x256 .bf16 :=
  shapeCast S72x256 (View.readAt (Elt F) arg4.view (Rect.unit (s := S8x1x80x256) ![h.val, 0, 0, 0] S1x1x72x256.size (headT h)).toLoadRect f4) shapeCasts_S1x1x72x256_S72x256
def vOf (h : Fin 8) : FVec F S256x64 .bf16 :=
  shapeCast S256x64 (View.readAt (Elt F) arg5.view (Rect.unit (s := S8x256x64) ![h.val, 0, 0] S1x256x64.size (headV h)).toLoadRect f5) shapeCasts_S1x256x64_S256x64

/-- The block on the diagonal. -/
def p0 (h : Fin 8) : FVec F S256x256 .f32 := pV (mV (kOf c arg3 f3 h) (qAt fq (offQ0 i h))) (lAt f7 (offL0 i h))
def ds0 (h : Fin 8) : FVec F S256x256 .bf16 := dsV (p0 c i arg3 arg7 arg13 f3 f7 fq h) (dpV (vOf c arg5 f5 h) (dAt fd (offD0 i h))) (lAt f8 (offL0 i h))
def dk0 (h : Fin 8) : FVec F S256x128 .f32 :=
  addf (broadcast S256x128 (Scalar.ofBits .f32 0x00000000#32)) (dkV (ds0 c i arg3 arg5 arg7 arg8 arg13 arg14 f3 f5 f7 f8 fq fd h) (qAt fq (offQ0 i h)))
def dv0 (h : Fin 8) : FVec F S256x64 .f32 :=
  addf (broadcast S256x64 (Scalar.ofBits .f32 0x00000000#32)) (dvV (p0 c i arg3 arg7 arg13 f3 f7 fq h) (dAt fd (offD0 i h)))
def g0 : Buf (Elt F) (arg12.view.loc (c : Thread nD τ)) := arg12.view.writes (Elt F) f12
  (heads.map fun h => pieceA (offA0 i h) (addA (aAt f12 (offA0 i h)) (dqV (ktOf c arg4 f4 h) (ds0 c i arg3 arg5 arg7 arg8 arg13 arg14 f3 f5 f7 f8 fq fd h))))

/-- The sums after the diagonal, after the single blocks and after the pairs of blocks; the queries' gradient beside them. -/
def init0 : A16 F := (dk0 c i arg3 arg5 arg7 arg8 arg13 arg14 f3 f5 f7 f8 fq fd 0, dv0 c i arg3 arg7 arg13 arg14 f3 f7 fq fd 0, dk0 c i arg3 arg5 arg7 arg8 arg13 arg14 f3 f5 f7 f8 fq fd 1, dv0 c i arg3 arg7 arg13 arg14 f3 f7 fq fd 1, dk0 c i arg3 arg5 arg7 arg8 arg13 arg14 f3 f5 f7 f8 fq fd 2, dv0 c i arg3 arg7 arg13 arg14 f3 f7 fq fd 2, dk0 c i arg3 arg5 arg7 arg8 arg13 arg14 f3 f5 f7 f8 fq fd 3, dv0 c i arg3 arg7 arg13 arg14 f3 f7 fq fd 3, dk0 c i arg3 arg5 arg7 arg8 arg13 arg14 f3 f5 f7 f8 fq fd 4, dv0 c i arg3 arg7 arg13 arg14 f3 f7 fq fd 4, dk0 c i arg3 arg5 arg7 arg8 arg13 arg14 f3 f5 f7 f8 fq fd 5, dv0 c i arg3 arg7 arg13 arg14 f3 f7 fq fd 5, dk0 c i arg3 arg5 arg7 arg8 arg13 arg14 f3 f5 f7 f8 fq fd 6, dv0 c i arg3 arg7 arg13 arg14 f3 f7 fq fd 6, dk0 c i arg3 arg5 arg7 arg8 arg13 arg14 f3 f5 f7 f8 fq fd 7, dv0 c i arg3 arg7 arg13 arg14 f3 f7 fq fd 7)
abbrev T1 := Scf.trips (k0_t1_loop i).lb (k0_t1_loop i).ub (k0_t1_loop i).st
abbrev T3 := Scf.trips (k0_t3_loop i).lb (k0_t3_loop i).ub (k0_t3_loop i).st
def S1 (n : ℕ) : A16 F × Buf (Elt F) (arg12.view.loc (c : Thread nD τ)) :=
  st1 c i arg2 harg2 arg3 harg3 arg4 harg4 arg5 harg5 arg6 harg6 arg7 harg7 arg8 harg8 arg9 harg9 arg10 harg10 arg11 harg11 arg12 harg12 arg13 harg13 arg14 harg14 arg15 arg16 (BitVec.ofNat 32 (i 1).val) (kOf c arg3 f3 0) (kOf c arg3 f3 1) (kOf c arg3 f3 2) (kOf c arg3 f3 3) (kOf c arg3 f3 4) (kOf c arg3 f3 5) (kOf c arg3 f3 6) (kOf c arg3 f3 7) (ktOf c arg4 f4 0) (ktOf c arg4 f4 1) (ktOf c arg4 f4 2) (ktOf c arg4 f4 3) (ktOf c arg4 f4 4) (ktOf c arg4 f4 5) (ktOf c arg4 f4 6) (ktOf c arg4 f4 7) (vOf c arg5 f5 0) (vOf c arg5 f5 1) (vOf c arg5 f5 2) (vOf c arg5 f5 3) (vOf c arg5 f5 4) (vOf c arg5 f5 5) (vOf c arg5 f5 6) (vOf c arg5 f5 7) (bodyRun.sl.v432 i) (init0 c i arg3 arg5 arg7 arg8 arg13 arg14 f3 f5 f7 f8 fq fd) f2 f6 fq fd f7 f8 (g0 c i arg3 arg4 arg5 arg7 arg8 arg12 arg13 arg14 f3 f4 f5 f7 f8 f12 fq fd) n
def g1 : Buf (Elt F) (arg12.view.loc (c : Thread nD τ)) :=
  acc1 c i arg2 harg2 arg3 harg3 arg4 harg4 arg5 harg5 arg6 harg6 arg7 harg7 arg8 harg8 arg9 harg9 arg10 harg10 arg11 harg11 arg12 harg12 arg13 harg13 arg14 harg14 arg15 arg16 (BitVec.ofNat 32 (i 1).val) (kOf c arg3 f3 0) (kOf c arg3 f3 1) (kOf c arg3 f3 2) (kOf c arg3 f3 3) (kOf c arg3 f3 4) (kOf c arg3 f3 5) (kOf c arg3 f3 6) (kOf c arg3 f3 7) (ktOf c arg4 f4 0) (ktOf c arg4 f4 1) (ktOf c arg4 f4 2) (ktOf c arg4 f4 3) (ktOf c arg4 f4 4) (ktOf c arg4 f4 5) (ktOf c arg4 f4 6) (ktOf c arg4 f4 7) (vOf c arg5 f5 0) (vOf c arg5 f5 1) (vOf c arg5 f5 2) (vOf c arg5 f5 3) (vOf c arg5 f5 4) (vOf c arg5 f5 5) (vOf c arg5 f5 6) (vOf c arg5 f5 7) (bodyRun.sl.v432 i) (init0 c i arg3 arg5 arg7 arg8 arg13 arg14 f3 f5 f7 f8 fq fd) f2 f6 fq fd f7 f8 (g0 c i arg3 arg4 arg5 arg7 arg8 arg12 arg13 arg14 f3 f4 f5 f7 f8 f12 fq fd) (T1 i)
theorem g1_eq : g1 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd = (S1 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd (T1 i)).2 := acc1_eq ..
def S3 (n : ℕ) : A16 F × Buf (Elt F) (arg12.view.loc (c : Thread nD τ)) :=
  st3 c i arg2 harg2 arg3 harg3 arg4 harg4 arg5 harg5 arg6 harg6 arg7 harg7 arg8 harg8 arg9 harg9 arg10 harg10 arg11 harg11 arg12 harg12 arg13 harg13 arg14 harg14 arg15 arg16 (BitVec.ofNat 32 (i 1).val) (kOf c arg3 f3 0) (kOf c arg3 f3 1) (kOf c arg3 f3 2) (kOf c arg3 f3 3) (kOf c arg3 f3 4) (kOf c arg3 f3 5) (kOf c arg3 f3 6) (kOf c arg3 f3 7) (ktOf c arg4 f4 0) (ktOf c arg4 f4 1) (ktOf c arg4 f4 2) (ktOf c arg4 f4 3) (ktOf c arg4 f4 4) (ktOf c arg4 f4 5) (ktOf c arg4 f4 6) (ktOf c arg4 f4 7) (vOf c arg5 f5 0) (vOf c arg5 f5 1) (vOf c arg5 f5 2) (vOf c arg5 f5 3) (vOf c arg5 f5 4) (vOf c arg5 f5 5) (vOf c arg5 f5 6) (vOf c arg5 f5 7) (bodyRun.sl.v431 i) (S1 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd (T1 i)).1 f2 f6 fq fd f7 f8 (g1 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd) n
def g3 : Buf (Elt F) (arg12.view.loc (c : Thread nD τ)) :=
  acc3 c i arg2 harg2 arg3 harg3 arg4 harg4 arg5 harg5 arg6 harg6 arg7 harg7 arg8 harg8 arg9 harg9 arg10 harg10 arg11 harg11 arg12 harg12 arg13 harg13 arg14 harg14 arg15 arg16 (BitVec.ofNat 32 (i 1).val) (kOf c arg3 f3 0) (kOf c arg3 f3 1) (kOf c arg3 f3 2) (kOf c arg3 f3 3) (kOf c arg3 f3 4) (kOf c arg3 f3 5) (kOf c arg3 f3 6) (kOf c arg3 f3 7) (ktOf c arg4 f4 0) (ktOf c arg4 f4 1) (ktOf c arg4 f4 2) (ktOf c arg4 f4 3) (ktOf c arg4 f4 4) (ktOf c arg4 f4 5) (ktOf c arg4 f4 6) (ktOf c arg4 f4 7) (vOf c arg5 f5 0) (vOf c arg5 f5 1) (vOf c arg5 f5 2) (vOf c arg5 f5 3) (vOf c arg5 f5 4) (vOf c arg5 f5 5) (vOf c arg5 f5 6) (vOf c arg5 f5 7) (bodyRun.sl.v431 i) (S1 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd (T1 i)).1 f2 f6 fq fd f7 f8 (g1 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd) (T3 i)
theorem g3_eq : g3 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd = (S3 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd (T3 i)).2 := acc3_eq ..

/-- A tile of the queries' gradient as it leaves: transposed, with zeros after the 72 kept columns. -/
def outA (a : FVec F S72x256 .f32) : FVec F S1x256x128 .f32 :=
  shapeCast S1x256x128 (transpose S256x128 [1, 0] (concatenate S128x256 0 [⟨S72x256, a⟩, ⟨S56x256, broadcast S56x256 (Scalar.ofBits .f32 0x00000000#32)⟩] concatenates_S72x256_S56x256_S128x256_d0) transposes_S128x256_p1_0_S256x128) shapeCasts_S256x128_S1x256x128

theorem body_g : (bodyRun c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd).1.2 = g3 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd := by
  sl_kernel_rfl
theorem body_dq : (bodyRun c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd).1.1.1 = heads.map fun h =>
    (⟨Rect.unit (s := S8x256x128) ![h.val, 0, 0] S1x256x128.size (headK h), outA (aAt (g3 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd) (offA9 i h))⟩ : View.Piece (Elt F) S8x256x128 .f32) := by
  sl_kernel_rfl
theorem body_dk : (bodyRun c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd).1.1.2.1 = heads.map fun h =>
    (⟨Rect.unit (s := S8x256x128) ![h.val, 0, 0] S1x256x128.size (headK h), shapeCast S1x256x128 (dkOf (S3 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd (T3 i)).1 h) shapeCasts_S256x128_S1x256x128⟩ : View.Piece (Elt F) S8x256x128 .f32) := by
  sl_kernel_rfl
theorem body_dv : (bodyRun c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd).1.1.2.2 = heads.map fun h =>
    (⟨Rect.unit (s := S8x256x64) ![h.val, 0, 0] S1x256x64.size (headV h), shapeCast S1x256x64 (truncf .bf16 (dvOf (S3 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd (T3 i)).1 h) bitsLt_bf16_f32) shapeCasts_S256x64_S1x256x64⟩ : View.Piece (Elt F) S8x256x64 .bf16) := by
  sl_kernel_rfl
end Body

end Cert.Fox
end
-- ==== Proof.FoxVec.lean ====
module

public import proofs.«01_k».proof.Proof.FoxDiag
public import Idealize.ShloMosaic.Lib.Pipeline.ValueKit
public import Idealize.ShloMosaic.Lib.Pipeline.ReadBack
public import Idealize.ShloMosaic.Lib.Pointwise
public import Idealize.ShloMosaic.Lib.WritesUnit

@[expose] public section

set_option maxRecDepth 16384

noncomputable section

namespace Cert.Fox

open Cert.FoxBwdIdeal Cert.FoxBwdIdeal.Gen
open Idealize.ShloMosaic
open Idealize.ShloMosaic.TcCoe Idealize.ShloMosaic.Tactic

theorem le_at : ∀ s t : Fin 256, IntOp.cmpi CmpIPredicate.sle (BitVec.ofNat 32 s.val) (BitVec.ofNat 32 t.val) = if s.val ≤ t.val then 1#1 else 0#1 := by decide +kernel

/-! One head's arithmetic, entry by entry. -/

theorem sV_at (k q : FVec Ideal S256x128 .bf16) (s t : Fin 256) : sV (F := Ideal) k q (ix2 s t) = ∑ r : Fin 128, k (ix2 s r) * q (ix2 t r) := by
  unfold sV; pointwise
theorem mV_at (k q : FVec Ideal S256x128 .bf16) (s t : Fin 256) : mV (F := Ideal) k q (ix2 s t) = if s.val ≤ t.val then ∑ r : Fin 128, k (ix2 s r) * q (ix2 t r) else ⊥ := by
  unfold mV sV; pointwise
  rw [le_at]
  split <;> rfl
theorem dpV_at (v d : FVec Ideal S256x64 .bf16) (s t : Fin 256) : dpV (F := Ideal) v d (ix2 s t) = ∑ r : Fin 64, v (ix2 s r) * d (ix2 t r) := by
  unfold dpV; pointwise
theorem pV_at (x : FVec Ideal S256x256 .f32) (l : FVec Ideal S1x256 .f32) (s t : Fin 256) : pV (F := Ideal) x l (ix2 s t) = Ideal.exp (x (ix2 s t) - l (ix2 0 t)) := by
  unfold pV; pointwise
theorem dsV_at (p dp : FVec Ideal S256x256 .f32) (l : FVec Ideal S1x256 .f32) (s t : Fin 256) : dsV (F := Ideal) p dp l (ix2 s t) = p (ix2 s t) * (dp (ix2 s t) - l (ix2 0 t)) := by
  unfold dsV; pointwise
theorem dkV_at (ds : FVec Ideal S256x256 .bf16) (q : FVec Ideal S256x128 .bf16) (s : Fin 256) (r : Fin 128) : dkV (F := Ideal) ds q (ix2 s r) = ∑ t : Fin 256, ds (ix2 s t) * q (ix2 t r) := by
  unfold dkV; pointwise
theorem dvV_at (p : FVec Ideal S256x256 .f32) (d : FVec Ideal S256x64 .bf16) (s : Fin 256) (r : Fin 64) : dvV (F := Ideal) p d (ix2 s r) = ∑ t : Fin 256, p (ix2 s t) * d (ix2 t r) := by
  unfold dvV; pointwise
theorem dqV_at (kt : FVec Ideal S72x256 .bf16) (ds : FVec Ideal S256x256 .bf16) (r : Fin 72) (t : Fin 256) : dqV (F := Ideal) kt ds (ix2 r t) = ∑ s : Fin 256, kt (ix2 r s) * ds (ix2 s t) := by
  unfold dqV; pointwise

theorem s2V_at (k : FVec Ideal S256x128 .bf16) (q : FVec Ideal S512x128 .bf16) (s : Fin 256) (t : Fin 512) : s2V (F := Ideal) k q (ix2 s t) = ∑ r : Fin 128, k (ix2 s r) * q (ix2 t r) := by
  unfold s2V; pointwise
theorem dp2V_at (v : FVec Ideal S256x64 .bf16) (d : FVec Ideal S512x64 .bf16) (s : Fin 256) (t : Fin 512) : dp2V (F := Ideal) v d (ix2 s t) = ∑ r : Fin 64, v (ix2 s r) * d (ix2 t r) := by
  unfold dp2V; pointwise
theorem l2V_lo (l l' : FVec Ideal S1x256 .f32) (s : Fin 256) (t : Fin 256) : l2V (F := Ideal) l l' (ix2 s (Fin.castAdd 256 t : Fin (256 + 256))) = l (ix2 0 t) := by
  unfold l2V; pointwise
  exact dif_pos t.isLt
theorem l2V_hi (l l' : FVec Ideal S1x256 .f32) (s : Fin 256) (t : Fin 256) : l2V (F := Ideal) l l' (ix2 s (Fin.natAdd 256 t : Fin (256 + 256))) = l' (ix2 0 t) := by
  unfold l2V; pointwise
  rw [dif_neg (by simp)]; simp
theorem p2V_at (x l : FVec Ideal S256x512 .f32) (s : Fin 256) (t : Fin 512) : p2V (F := Ideal) x l (ix2 s t) = Ideal.exp (x (ix2 s t) - l (ix2 s t)) := by
  unfold p2V; pointwise
theorem ds2V_at (p dp l : FVec Ideal S256x512 .f32) (s : Fin 256) (t : Fin 512) : ds2V (F := Ideal) p dp l (ix2 s t) = p (ix2 s t) * (dp (ix2 s t) - l (ix2 s t)) := by
  unfold ds2V; pointwise
theorem dk2V_at (ds : FVec Ideal S256x512 .bf16) (q : FVec Ideal S512x128 .bf16) (s : Fin 256) (r : Fin 128) : dk2V (F := Ideal) ds q (ix2 s r) = ∑ t : Fin 512, ds (ix2 s t) * q (ix2 t r) := by
  unfold dk2V; pointwise
theorem dv2V_at (p : FVec Ideal S256x512 .f32) (d : FVec Ideal S512x64 .bf16) (s : Fin 256) (r : Fin 64) : dv2V (F := Ideal) p d (ix2 s r) = ∑ t : Fin 512, p (ix2 s t) * d (ix2 t r) := by
  unfold dv2V; pointwise
theorem dq2V_at (kt : FVec Ideal S72x256 .bf16) (ds : FVec Ideal S256x512 .bf16) (r : Fin 72) (t : Fin 512) : dq2V (F := Ideal) kt ds (ix2 r t) = ∑ s : Fin 256, kt (ix2 r s) * ds (ix2 s t) := by
  unfold dq2V; pointwise
theorem lo_at (x : FVec Ideal S72x512 .f32) (r : Fin 72) (t : Fin 256) : extractStridedSlice S72x256 ![0, 0] x slices_S72x512_o0_0_S72x256 (ix2 r t) = x (ix2 r (Fin.castAdd 256 t : Fin (256 + 256))) := by
  pointwise; rfl
theorem hi_at (x : FVec Ideal S72x512 .f32) (r : Fin 72) (t : Fin 256) : extractStridedSlice S72x256 ![0, 256] x slices_S72x512_o0_256_S72x256 (ix2 r t) = x (ix2 r (Fin.natAdd 256 t : Fin (256 + 256))) := by
  pointwise; rfl
theorem addA_at (a b : FVec Ideal S72x256 .f32) (r : Fin 72) (t : Fin 256) : addA (F := Ideal) a b (ix4 0 0 r t) = a (ix2 r t) + b (ix2 r t) := by
  unfold addA; pointwise
theorem outA_at (a : FVec Ideal S72x256 .f32) (t : Fin 256) (r : Fin 128) : outA (F := Ideal) a (ix3 0 t r) = if h : r.val < 72 then a (ix2 ⟨r.val, h⟩ t) else 0 := by
  unfold outA; pointwise

end Cert.Fox
end
-- ==== Proof.FoxTiles.lean ====
module

public import proofs.«01_k».proof.Proof.FoxVec

@[expose] public section

set_option maxRecDepth 16384

noncomputable section

namespace Cert.Fox

open Cert.FoxBwdIdeal Cert.FoxBwdIdeal.Gen
open Idealize.ShloMosaic
open Idealize.ShloMosaic.TcCoe Idealize.ShloMosaic.Tactic

/-! Where the tiles lie. -/

theorem offQ0_eq : ∀ i h, (offQ0 i h).1 = ![h.val, 256 * (i 1).val, 0] := by decide +kernel
theorem offD0_eq : ∀ i h, (offD0 i h).1 = ![h.val, 256 * (i 1).val, 0] := by decide +kernel
theorem offL0_eq : ∀ i h, (offL0 i h).1 = ![h.val, (i 1).val, 0, 0] := by decide +kernel
theorem offA0_eq : ∀ i h, (offA0 i h).1 = ![h.val, (i 1).val, 0, 0] := by decide +kernel
theorem offA9_eq : ∀ i h, (offA9 i h).1 = ![h.val, (i 1).val, 0, 0] := by decide +kernel
theorem offQ1_eq : ∀ i k h, (offQ1 i k h).1 = ![h.val, 256 * ((i 1).val + 1 + k.val), 0] := by decide +kernel
theorem offD1_eq : ∀ i k h, (offD1 i k h).1 = ![h.val, 256 * ((i 1).val + 1 + k.val), 0] := by decide +kernel
theorem offL1_eq : ∀ i k h, (offL1 i k h).1 = ![h.val, (i 1).val + 1 + k.val, 0, 0] := by decide +kernel
theorem offA1_eq : ∀ i k h, (offA1 i k h).1 = ![h.val, (i 1).val + 1 + k.val, 0, 0] := by decide +kernel
theorem offQ3_eq : ∀ i k h, (offQ3 i k h).1 = ![h.val, 256 * ((i 1).val + 1 + T1 i + 2 * k.val), 0] := by decide +kernel
theorem offD3_eq : ∀ i k h, (offD3 i k h).1 = ![h.val, 256 * ((i 1).val + 1 + T1 i + 2 * k.val), 0] := by decide +kernel
theorem offL3_0_eq : ∀ i k h, (offL3_0 i k h).1 = ![h.val, (i 1).val + 1 + T1 i + 2 * k.val, 0, 0] := by decide +kernel
theorem offL3_1_eq : ∀ i k h, (offL3_1 i k h).1 = ![h.val, (i 1).val + 1 + T1 i + 2 * k.val + 1, 0, 0] := by decide +kernel
theorem offA3_0_eq : ∀ i k h, (offA3_0 i k h).1 = ![h.val, (i 1).val + 1 + T1 i + 2 * k.val, 0, 0] := by decide +kernel
theorem offA3_1_eq : ∀ i k h, (offA3_1 i k h).1 = ![h.val, (i 1).val + 1 + T1 i + 2 * k.val + 1, 0, 0] := by decide +kernel
theorem trips_eq : ∀ i : grid0.Coords, (i 1).val + 1 + T1 i + 2 * T3 i = 16 := by decide +kernel

/-- Tile `n`, and a row of it. -/
def tl (n : ℕ) : Fin 16 := Fin.ofNat 16 n
theorem tl_val {n : ℕ} (h : n < 16) : (tl n).val = n := Nat.mod_eq_of_lt h
theorem tl_fin (n : Fin 16) : tl n.val = n := Fin.ext (tl_val n.isLt)
def rowAt (n : Fin 16) (t : Fin 256) : Fin 4096 := ⟨256 * n.val + t.val, by omega⟩

theorem castQ {f : FTy} (x : FVec Ideal S1x256x128 f) (t : Fin 256) (r : Fin 128) : shapeCast S256x128 x shapeCasts_S1x256x128_S256x128 (ix2 t r) = x (ix3 0 t r) := by pointwise
theorem castD {f : FTy} (x : FVec Ideal S1x256x64 f) (t : Fin 256) (r : Fin 64) : shapeCast S256x64 x shapeCasts_S1x256x64_S256x64 (ix2 t r) = x (ix3 0 t r) := by pointwise
theorem castQ2 {f : FTy} (x : FVec Ideal S1x512x128 f) (t : Fin 512) (r : Fin 128) : shapeCast S512x128 x shapeCasts_S1x512x128_S512x128 (ix2 t r) = x (ix3 0 t r) := by pointwise
theorem castD2 {f : FTy} (x : FVec Ideal S1x512x64 f) (t : Fin 512) (r : Fin 64) : shapeCast S512x64 x shapeCasts_S1x512x64_S512x64 (ix2 t r) = x (ix3 0 t r) := by pointwise
theorem castL {f : FTy} (x : FVec Ideal S1x1x1x256 f) (t : Fin 256) : shapeCast S1x256 x shapeCasts_S1x1x1x256_S1x256 (ix2 0 t) = x (ix4 0 0 0 t) := by pointwise
theorem castA {f : FTy} (x : FVec Ideal S1x1x72x256 f) (r : Fin 72) (t : Fin 256) : shapeCast S72x256 x shapeCasts_S1x1x72x256_S72x256 (ix2 r t) = x (ix4 0 0 r t) := by pointwise

section Reads
variable {c : Dev nD} {arg7 : Memref sig .tc .vmem S8x16x8x256 .f32} {arg12 : Memref sig .tc .vmem S8x16x72x256 .f32}
  {arg13 : Memref sig .tc .vmem S8x4096x128 .bf16} {arg14 : Memref sig .tc .vmem S8x4096x64 .bf16}

theorem qAt_at (fq : Buf (Elt Ideal) (arg13.view.loc (c : Thread nD τ))) (o : OffQ 256) (h : Fin 8) {n : ℕ} (hn : n < 16) (ho : o.1 = ![h.val, 256 * n, 0]) (t : Fin 256) (r : Fin 128) :
    qAt fq o (ix2 t r) = arg13.view.read (Elt Ideal) fq (ix3 h (rowAt (tl n) t) r) := by
  obtain ⟨o, io⟩ := o
  subst ho
  refine (castQ _ _ _).trans ?_
  refine congrArg (arg13.view.read (Elt Ideal) fq) (funext fun a => Fin.ext ?_)
  fin_cases a <;> simp [rowAt, tl_val hn]
theorem dAt_at (fd : Buf (Elt Ideal) (arg14.view.loc (c : Thread nD τ))) (o : OffD 256) (h : Fin 8) {n : ℕ} (hn : n < 16) (ho : o.1 = ![h.val, 256 * n, 0]) (t : Fin 256) (r : Fin 64) :
    dAt fd o (ix2 t r) = arg14.view.read (Elt Ideal) fd (ix3 h (rowAt (tl n) t) r) := by
  obtain ⟨o, io⟩ := o
  subst ho
  refine (castD _ _ _).trans ?_
  refine congrArg (arg14.view.read (Elt Ideal) fd) (funext fun a => Fin.ext ?_)
  fin_cases a <;> simp [rowAt, tl_val hn]
theorem q2At_lo (fq : Buf (Elt Ideal) (arg13.view.loc (c : Thread nD τ))) (o : OffQ 512) (h : Fin 8) {n : ℕ} (hn : n < 16) (ho : o.1 = ![h.val, 256 * n, 0]) (t : Fin 256) (r : Fin 128) :
    q2At fq o (ix2 (Fin.castAdd 256 t : Fin (256 + 256)) r) = arg13.view.read (Elt Ideal) fq (ix3 h (rowAt (tl n) t) r) := by
  obtain ⟨o, io⟩ := o
  subst ho
  refine (castQ2 _ _ _).trans ?_
  refine congrArg (arg13.view.read (Elt Ideal) fq) (funext fun a => Fin.ext ?_)
  fin_cases a <;> simp [rowAt, tl_val hn]
theorem q2At_hi (fq : Buf (Elt Ideal) (arg13.view.loc (c : Thread nD τ))) (o : OffQ 512) (h : Fin 8) {n : ℕ} (hn : n + 1 < 16) (ho : o.1 = ![h.val, 256 * n, 0]) (t : Fin 256) (r : Fin 128) :
    q2At fq o (ix2 (Fin.natAdd 256 t : Fin (256 + 256)) r) = arg13.view.read (Elt Ideal) fq (ix3 h (rowAt (tl (n + 1)) t) r) := by
  obtain ⟨o, io⟩ := o
  subst ho
  refine (castQ2 _ _ _).trans ?_
  refine congrArg (arg13.view.read (Elt Ideal) fq) (funext fun a => Fin.ext ?_)
  fin_cases a <;> simp [rowAt, tl_val hn]; try omega
theorem d2At_lo (fd : Buf (Elt Ideal) (arg14.view.loc (c : Thread nD τ))) (o : OffD 512) (h : Fin 8) {n : ℕ} (hn : n < 16) (ho : o.1 = ![h.val, 256 * n, 0]) (t : Fin 256) (r : Fin 64) :
    d2At fd o (ix2 (Fin.castAdd 256 t : Fin (256 + 256)) r) = arg14.view.read (Elt Ideal) fd (ix3 h (rowAt (tl n) t) r) := by
  obtain ⟨o, io⟩ := o
  subst ho
  refine (castD2 _ _ _).trans ?_
  refine congrArg (arg14.view.read (Elt Ideal) fd) (funext fun a => Fin.ext ?_)
  fin_cases a <;> simp [rowAt, tl_val hn]
theorem d2At_hi (fd : Buf (Elt Ideal) (arg14.view.loc (c : Thread nD τ))) (o : OffD 512) (h : Fin 8) {n : ℕ} (hn : n + 1 < 16) (ho : o.1 = ![h.val, 256 * n, 0]) (t : Fin 256) (r : Fin 64) :
    d2At fd o (ix2 (Fin.natAdd 256 t : Fin (256 + 256)) r) = arg14.view.read (Elt Ideal) fd (ix3 h (rowAt (tl (n + 1)) t) r) := by
  obtain ⟨o, io⟩ := o
  subst ho
  refine (castD2 _ _ _).trans ?_
  refine congrArg (arg14.view.read (Elt Ideal) fd) (funext fun a => Fin.ext ?_)
  fin_cases a <;> simp [rowAt, tl_val hn]; try omega
theorem lAt_at (f7 : Buf (Elt Ideal) (arg7.view.loc (c : Thread nD τ))) (o : OffL) (h : Fin 8) {n : ℕ} (hn : n < 16) (ho : o.1 = ![h.val, n, 0, 0]) (t : Fin 256) :
    lAt f7 o (ix2 0 t) = arg7.view.read (Elt Ideal) f7 (ix4 h (tl n) 0 t) := by
  obtain ⟨o, io⟩ := o
  subst ho
  refine (castL _ _).trans ?_
  refine congrArg (arg7.view.read (Elt Ideal) f7) (funext fun a => Fin.ext ?_)
  fin_cases a <;> simp [tl_val hn]
theorem aAt_at (g : Buf (Elt Ideal) (arg12.view.loc (c : Thread nD τ))) (o : OffA) (h : Fin 8) {n : ℕ} (hn : n < 16) (ho : o.1 = ![h.val, n, 0, 0]) (r : Fin 72) (t : Fin 256) :
    aAt g o (ix2 r t) = arg12.view.read (Elt Ideal) g (ix4 h (tl n) r t) := by
  obtain ⟨o, io⟩ := o
  subst ho
  refine (castA _ _ _).trans ?_
  refine congrArg (arg12.view.read (Elt Ideal) g) (funext fun a => Fin.ext ?_)
  fin_cases a <;> simp [tl_val hn]

theorem mem_heads : ∀ h : Fin 8, h ∈ heads := by decide

/-- A tile of head `h` with `w` added, read back: changed inside the tile only. -/
theorem read_piece (g : Buf (Elt Ideal) (arg12.view.loc (c : Thread nD τ))) (L : List (View.Piece (Elt Ideal) S8x16x72x256 .f32)) (o : OffA) (h : Fin 8) {n : ℕ} (hn : n < 16)
    (ho : o.1 = ![h.val, n, 0, 0]) (w : FVec Ideal S72x256 .f32) (h' : Fin 8) (m : Fin 16) (r : Fin 72) (t : Fin 256) :
    arg12.view.read (Elt Ideal) (arg12.view.writes (Elt Ideal) g (pieceA o (addA (aAt g o) w) :: L)) (ix4 h' m r t)
      = if h' = h ∧ m.val = n then arg12.view.read (Elt Ideal) g (ix4 h' m r t) + w (ix2 r t)
        else arg12.view.read (Elt Ideal) (arg12.view.writes (Elt Ideal) g L) (ix4 h' m r t) := by
  split
  · rename_i hh
    obtain ⟨rfl, rfl⟩ := hh
    have e := View.read_writes_cons_unit_of_mem (v := arg12.view) (Val := Elt Ideal) (f := g) o.2 (addA (aAt g o) w) L (ix4 h' m r t) (ix4 0 0 r t) ho (by
      intro a; fin_cases a <;> simp)
    refine e.trans ?_
    rw [addA_at, aAt_at g o h' m.isLt ho, tl_fin]
  · rename_i hh
    by_cases e : h' = h
    · exact View.read_writes_cons_unit_of_not_mem _ _ o.2 _ L _ ho 1 (by
        have : m.val ≠ n := fun q => hh ⟨e, q⟩
        simp; omega)
    · exact View.read_writes_cons_unit_of_not_mem _ _ o.2 _ L _ ho 0 (by
        have : h'.val ≠ h.val := fun q => e (Fin.ext q)
        simp; omega)

theorem read_tile (g : Buf (Elt Ideal) (arg12.view.loc (c : Thread nD τ))) (o : Fin 8 → OffA) {n : ℕ} (hn : n < 16)
    (ho : ∀ h : Fin 8, (o h).1 = ![h.val, n, 0, 0]) (w : Fin 8 → FVec Ideal S72x256 .f32) (h : Fin 8) (m : Fin 16) (r : Fin 72) (t : Fin 256) :
    arg12.view.read (Elt Ideal) (arg12.view.writes (Elt Ideal) g (heads.map fun h => pieceA (o h) (addA (aAt g (o h)) (w h)))) (ix4 h m r t)
      = arg12.view.read (Elt Ideal) g (ix4 h m r t) + if m.val = n then w h (ix2 r t) else 0 := by
  have hl : ∀ l : List (Fin 8), arg12.view.read (Elt Ideal) (arg12.view.writes (Elt Ideal) g (l.map fun h => pieceA (o h) (addA (aAt g (o h)) (w h)))) (ix4 h m r t)
      = arg12.view.read (Elt Ideal) g (ix4 h m r t) + if h ∈ l ∧ m.val = n then w h (ix2 r t) else 0 := by
    intro l
    induction l with
    | nil => simp
    | cons a l ih =>
      rw [List.map_cons, read_piece g _ (o a) a hn (ho a), ih]
      by_cases e : h = a ∧ m.val = n
      · obtain ⟨rfl, e⟩ := e; simp [e]
      · rw [if_neg e]
        by_cases e' : m.val = n
        · have : h ≠ a := fun q => e ⟨q, e'⟩
          simp [e', this]
        · simp [e']
  rw [hl]
  have : h ∈ heads := mem_heads h
  simp [this]

theorem read_tiles (g : Buf (Elt Ideal) (arg12.view.loc (c : Thread nD τ))) (o o' : Fin 8 → OffA) {n : ℕ} (hn : n + 1 < 16)
    (ho : ∀ h : Fin 8, (o h).1 = ![h.val, n, 0, 0]) (ho' : ∀ h : Fin 8, (o' h).1 = ![h.val, n + 1, 0, 0]) (w w' : Fin 8 → FVec Ideal S72x256 .f32) (h : Fin 8) (m : Fin 16) (r : Fin 72) (t : Fin 256) :
    arg12.view.read (Elt Ideal) (arg12.view.writes (Elt Ideal) g (heads.flatMap fun h => [pieceA (o' h) (addA (aAt g (o' h)) (w' h)), pieceA (o h) (addA (aAt g (o h)) (w h))])) (ix4 h m r t)
      = arg12.view.read (Elt Ideal) g (ix4 h m r t) + (if m.val = n then w h (ix2 r t) else 0) + if m.val = n + 1 then w' h (ix2 r t) else 0 := by
  have hl : ∀ l : List (Fin 8), arg12.view.read (Elt Ideal) (arg12.view.writes (Elt Ideal) g (l.flatMap fun h => [pieceA (o' h) (addA (aAt g (o' h)) (w' h)), pieceA (o h) (addA (aAt g (o h)) (w h))])) (ix4 h m r t)
      = arg12.view.read (Elt Ideal) g (ix4 h m r t) + (if h ∈ l ∧ m.val = n then w h (ix2 r t) else 0) + if h ∈ l ∧ m.val = n + 1 then w' h (ix2 r t) else 0 := by
    intro l
    induction l with
    | nil => simp
    | cons a l ih =>
      rw [List.flatMap_cons, List.cons_append, List.cons_append, List.nil_append, read_piece g _ (o' a) a hn (ho' a), read_piece g _ (o a) a (by omega) (ho a), ih]
      by_cases e : h = a
      · subst e
        by_cases e1 : m.val = n + 1
        · simp [e1]
        · by_cases e2 : m.val = n <;> simp [e1, e2]
      · simp [e]
  rw [hl]
  have : h ∈ heads := mem_heads h
  simp [this]
end Reads

end Cert.Fox
end
-- ==== Proof.FoxStep.lean ====
module

public import proofs.«01_k».proof.Proof.FoxTiles

@[expose] public section

set_option maxRecDepth 16384

noncomputable section

namespace Cert.Fox

open Cert.FoxBwdIdeal Cert.FoxBwdIdeal.Gen
open Idealize.ShloMosaic
open Idealize.ShloMosaic.TcCoe Idealize.ShloMosaic.Tactic

/-- What a step works on: its block of keys, the same transposed, its block of values, and of the
whole sequence the queries, the cotangents, the rows' log-sums and the rows' sums of cotangent times output. -/
structure Dat where
  K : Fin 8 → Fin 256 → Fin 128 → EReal
  KT : Fin 8 → Fin 72 → Fin 256 → EReal
  V : Fin 8 → Fin 256 → Fin 64 → EReal
  Q : Fin 8 → Fin 4096 → Fin 128 → EReal
  D : Fin 8 → Fin 4096 → Fin 64 → EReal
  L : Fin 8 → Fin 16 → Fin 256 → EReal
  E : Fin 8 → Fin 16 → Fin 256 → EReal

namespace Dat
variable (X : Dat) (j : ℕ) (h : Fin 8) (n : ℕ) (s t : Fin 256)
/-- The scores of key `s` of the block against query `t` of tile `n`: masked on the diagonal. -/
def sc : EReal :=
  if n = j then (if s.val ≤ t.val then ∑ r : Fin 128, X.K h s r * X.Q h (rowAt (tl n) t) r else ⊥) else ∑ r : Fin 128, X.K h s r * X.Q h (rowAt (tl n) t) r
/-- The probabilities. -/
def pm : EReal := Ideal.exp (X.sc j h n s t - X.L h (tl n) t)
/-- The gradient of the scores. -/
def dm : EReal := X.pm j h n s t * (∑ r : Fin 64, X.V h s r * X.D h (rowAt (tl n) t) r - X.E h (tl n) t)
/-- The sums over the tiles from `j` up to `n`, and the addition of one tile to the queries' gradient. -/
def dk (r : Fin 128) : EReal := ∑ m ∈ Finset.Ico j n, ∑ t, X.dm j h m s t * X.Q h (rowAt (tl m) t) r
def dv (r : Fin 64) : EReal := ∑ m ∈ Finset.Ico j n, ∑ t, X.pm j h m s t * X.D h (rowAt (tl m) t) r
def dq (r : Fin 72) : EReal := ∑ s, X.KT h r s * X.dm j h n s t
end Dat

theorem splitT (f : Fin 512 → EReal) : ∑ t, f t = ∑ t : Fin 256, f (Fin.castAdd 256 t : Fin (256 + 256)) + ∑ t : Fin 256, f (Fin.natAdd 256 t : Fin (256 + 256)) :=
  Fin.sum_univ_add (a := 256) (b := 256) f

/-- What the running sums and the buffer `b` of the queries' gradient hold once the tiles from `j` up to `n` are in. -/
structure Upto (X : Dat) (j : ℕ) (f b : S8x16x72x256.Idx → EReal) (n : ℕ) (a : A16 Ideal) : Prop where
  dk : ∀ h s r, dkOf a h (ix2 s r) = X.dk j h n s r
  dv : ∀ h s r, dvOf a h (ix2 s r) = X.dv j h n s r
  dq : ∀ (h : Fin 8) (m : Fin 16) (r : Fin 72) (t : Fin 256), b (ix4 h m r t) = f (ix4 h m r t) + if j ≤ m.val ∧ m.val < n then X.dq j h m.val t r else 0

section Trips
variable (c : Dev nD) (i : grid0.Coords)
  (arg2 : Memref sig .tc .hbm S8x4096x128 .bf16) (harg2 : arg2.IsWhole)
  (arg3 : Memref sig .tc .vmem S8x256x128 .bf16) (harg3 : arg3.IsWhole)
  (arg4 : Memref sig .tc .vmem S8x1x80x256 .bf16) (harg4 : arg4.IsWhole)
  (arg5 : Memref sig .tc .vmem S8x256x64 .bf16) (harg5 : arg5.IsWhole)
  (arg6 : Memref sig .tc .hbm S8x4096x64 .bf16) (harg6 : arg6.IsWhole)
  (arg7 : Memref sig .tc .vmem S8x16x8x256 .f32) (harg7 : arg7.IsWhole)
  (arg8 : Memref sig .tc .vmem S8x16x8x256 .f32) (harg8 : arg8.IsWhole)
  (arg9 : Memref sig .tc .vmem S8x256x128 .f32) (harg9 : arg9.IsWhole)
  (arg10 : Memref sig .tc .vmem S8x256x128 .f32) (harg10 : arg10.IsWhole)
  (arg11 : Memref sig .tc .vmem S8x256x64 .bf16) (harg11 : arg11.IsWhole)
  (arg12 : Memref sig .tc .vmem S8x16x72x256 .f32) (harg12 : arg12.IsWhole)
  (arg13 : Memref sig .tc .vmem S8x4096x128 .bf16) (harg13 : arg13.IsWhole)
  (arg14 : Memref sig .tc .vmem S8x4096x64 .bf16) (harg14 : arg14.IsWhole)
  (arg15 arg16 : DmaSems sig S16)
  (arg1 : BitVec 32) (vk : Fin 8 → FVec Ideal S256x128 .bf16) (vkt : Fin 8 → FVec Ideal S72x256 .bf16) (vv : Fin 8 → FVec Ideal S256x64 .bf16) (vz : BitVec 32)
  (f2 : Buf (Elt Ideal) (arg2.view.loc (c : Thread nD τ))) (f6 : Buf (Elt Ideal) (arg6.view.loc (c : Thread nD τ))) (fq : Buf (Elt Ideal) (arg13.view.loc (c : Thread nD τ))) (fd : Buf (Elt Ideal) (arg14.view.loc (c : Thread nD τ)))
  (f7 : Buf (Elt Ideal) (arg7.view.loc (c : Thread nD τ))) (f8 : Buf (Elt Ideal) (arg8.view.loc (c : Thread nD τ))) (g : Buf (Elt Ideal) (arg12.view.loc (c : Thread nD τ)))

/-- The arrays a trip reads. -/
def dat : Dat where
  K h s r := vk h (ix2 s r)
  KT h r s := vkt h (ix2 r s)
  V h s r := vv h (ix2 s r)
  Q h u r := arg13.view.read (Elt Ideal) fq (ix3 h u r)
  D h u r := arg14.view.read (Elt Ideal) fd (ix3 h u r)
  L h n t := arg7.view.read (Elt Ideal) f7 (ix4 h n 0 t)
  E h n t := arg8.view.read (Elt Ideal) f8 (ix4 h n 0 t)

section One
variable (k : Fin (k0_t1_loop i).trips) (acc : A16 Ideal)
theorem lt1 : (i 1).val + 1 + k.val < 16 := by
  have := trips_eq i; have : k.val < T1 i := k.isLt; omega

theorem p1_at (h : Fin 8) (s t : Fin 256) : (p1 c i arg7 arg13 vk fq f7 k h) (ix2 s t) = Dat.pm (dat c arg7 arg8 arg13 arg14 vk vkt vv fq fd f7 f8) (i 1).val h ((i 1).val + 1 + k.val) s t := by
  have hq := fun t r => qAt_at fq (offQ1 i k h) h (lt1 i k) (offQ1_eq i k h) t r
  unfold p1
  rw [pV_at, sV_at, lAt_at f7 (offL1 i k h) h (lt1 i k) (offL1_eq i k h)]
  simp only [hq]
  unfold Dat.pm Dat.sc
  rw [if_neg (by omega)]
  rfl
theorem ds1_at (h : Fin 8) (s t : Fin 256) : (ds1 c i arg7 arg8 arg13 arg14 vk vv fq fd f7 f8 k h) (ix2 s t) = Dat.dm (dat c arg7 arg8 arg13 arg14 vk vkt vv fq fd f7 f8) (i 1).val h ((i 1).val + 1 + k.val) s t := by
  have hd := fun t r => dAt_at fd (offD1 i k h) h (lt1 i k) (offD1_eq i k h) t r
  unfold ds1
  rw [dsV_at, dpV_at, lAt_at f8 (offL1 i k h) h (lt1 i k) (offL1_eq i k h), p1_at c i arg7 arg8 arg13 arg14 vk vkt vv fq fd f7 f8]
  simp only [hd]
  rfl

theorem upto1 (f : S8x16x72x256.Idx → EReal) (H : Upto (dat c arg7 arg8 arg13 arg14 vk vkt vv fq fd f7 f8) (i 1).val f (arg12.view.read (Elt Ideal) g) ((i 1).val + 1 + k.val) acc) :
    Upto (dat c arg7 arg8 arg13 arg14 vk vkt vv fq fd f7 f8) (i 1).val f (arg12.view.read (Elt Ideal) (next1 c i arg2 harg2 arg3 harg3 arg4 harg4 arg5 harg5 arg6 harg6 arg7 harg7 arg8 harg8 arg9 harg9 arg10 harg10 arg11 harg11 arg12 harg12 arg13 harg13 arg14 harg14 arg15 arg16 arg1 (vk 0) (vk 1) (vk 2) (vk 3) (vk 4) (vk 5) (vk 6) (vk 7) (vkt 0) (vkt 1) (vkt 2) (vkt 3) (vkt 4) (vkt 5) (vkt 6) (vkt 7) (vv 0) (vv 1) (vv 2) (vv 3) (vv 4) (vv 5) (vv 6) (vv 7) vz f2 f6 fq fd f7 f8 k acc g).2) ((i 1).val + 1 + k.val + 1) (next1 c i arg2 harg2 arg3 harg3 arg4 harg4 arg5 harg5 arg6 harg6 arg7 harg7 arg8 harg8 arg9 harg9 arg10 harg10 arg11 harg11 arg12 harg12 arg13 harg13 arg14 harg14 arg15 arg16 arg1 (vk 0) (vk 1) (vk 2) (vk 3) (vk 4) (vk 5) (vk 6) (vk 7) (vkt 0) (vkt 1) (vkt 2) (vkt 3) (vkt 4) (vkt 5) (vkt 6) (vkt 7) (vv 0) (vv 1) (vv 2) (vv 3) (vv 4) (vv 5) (vv 6) (vv 7) vz f2 f6 fq fd f7 f8 k acc g).1 where
  dk h s r := by
    have hq := fun t r => qAt_at fq (offQ1 i k h) h (lt1 i k) (offQ1_eq i k h) t r
    rw [next1_dk]
    show dkOf acc h (ix2 s r) + dkV _ _ (ix2 s r) = _
    rw [H.dk, dkV_at]
    simp only [hq, ds1_at c i arg7 arg8 arg13 arg14 vk vkt vv fq fd f7 f8]
    unfold Dat.dk
    rw [Finset.sum_Ico_succ_top (by omega)]
    rfl
  dv h s r := by
    have hd := fun t r => dAt_at fd (offD1 i k h) h (lt1 i k) (offD1_eq i k h) t r
    rw [next1_dv]
    show dvOf acc h (ix2 s r) + dvV _ _ (ix2 s r) = _
    rw [H.dv, dvV_at]
    simp only [hd, p1_at c i arg7 arg8 arg13 arg14 vk vkt vv fq fd f7 f8]
    unfold Dat.dv
    rw [Finset.sum_Ico_succ_top (by omega)]
    rfl
  dq h m r t := by
    rw [next1_dq, read_tile g (offA1 i k) (lt1 i k) (offA1_eq i k), H.dq, dqV_at, add_assoc]
    simp only [ds1_at c i arg7 arg8 arg13 arg14 vk vkt vv fq fd f7 f8]
    congr 1
    by_cases e : m.val = (i 1).val + 1 + k.val
    · rw [if_neg (by omega), if_pos e, if_pos (by omega), zero_add, e]; rfl
    · rw [if_neg e, add_zero]
      exact if_congr (by omega) rfl rfl
end One

section Two
variable (k : Fin (k0_t3_loop i).trips) (acc : A16 Ideal)
theorem lt3 : (i 1).val + 1 + T1 i + 2 * k.val + 1 < 16 := by
  have := trips_eq i; have : k.val < T3 i := k.isLt; omega

theorem p3_lo (h : Fin 8) (s t : Fin 256) : (p3 c i arg7 arg13 vk fq f7 k h) (ix2 s (Fin.castAdd 256 t : Fin (256 + 256))) = Dat.pm (dat c arg7 arg8 arg13 arg14 vk vkt vv fq fd f7 f8) (i 1).val h ((i 1).val + 1 + T1 i + 2 * k.val) s t := by
  have hq := fun t r => q2At_lo fq (offQ3 i k h) h (n := (i 1).val + 1 + T1 i + 2 * k.val) (by have := lt3 i k; omega) (offQ3_eq i k h) t r
  unfold p3
  rw [p2V_at, s2V_at, l2V_lo, lAt_at f7 (offL3_0 i k h) h (by have := lt3 i k; omega) (offL3_0_eq i k h)]
  simp only [hq]
  unfold Dat.pm Dat.sc
  rw [if_neg (by omega)]
  rfl
theorem p3_hi (h : Fin 8) (s t : Fin 256) : (p3 c i arg7 arg13 vk fq f7 k h) (ix2 s (Fin.natAdd 256 t : Fin (256 + 256))) = Dat.pm (dat c arg7 arg8 arg13 arg14 vk vkt vv fq fd f7 f8) (i 1).val h ((i 1).val + 1 + T1 i + 2 * k.val + 1) s t := by
  have hq := fun t r => q2At_hi fq (offQ3 i k h) h (n := (i 1).val + 1 + T1 i + 2 * k.val) (lt3 i k) (offQ3_eq i k h) t r
  unfold p3
  rw [p2V_at, s2V_at, l2V_hi, lAt_at f7 (offL3_1 i k h) h (lt3 i k) (offL3_1_eq i k h)]
  simp only [hq]
  unfold Dat.pm Dat.sc
  rw [if_neg (by omega)]
  rfl
theorem ds3_lo (h : Fin 8) (s t : Fin 256) : (ds3 c i arg7 arg8 arg13 arg14 vk vv fq fd f7 f8 k h) (ix2 s (Fin.castAdd 256 t : Fin (256 + 256))) = Dat.dm (dat c arg7 arg8 arg13 arg14 vk vkt vv fq fd f7 f8) (i 1).val h ((i 1).val + 1 + T1 i + 2 * k.val) s t := by
  have hd := fun t r => d2At_lo fd (offD3 i k h) h (n := (i 1).val + 1 + T1 i + 2 * k.val) (by have := lt3 i k; omega) (offD3_eq i k h) t r
  unfold ds3
  rw [ds2V_at, dp2V_at, l2V_lo, lAt_at f8 (offL3_0 i k h) h (by have := lt3 i k; omega) (offL3_0_eq i k h), p3_lo c i arg7 arg8 arg13 arg14 vk vkt vv fq fd f7 f8]
  simp only [hd]
  rfl
theorem ds3_hi (h : Fin 8) (s t : Fin 256) : (ds3 c i arg7 arg8 arg13 arg14 vk vv fq fd f7 f8 k h) (ix2 s (Fin.natAdd 256 t : Fin (256 + 256))) = Dat.dm (dat c arg7 arg8 arg13 arg14 vk vkt vv fq fd f7 f8) (i 1).val h ((i 1).val + 1 + T1 i + 2 * k.val + 1) s t := by
  have hd := fun t r => d2At_hi fd (offD3 i k h) h (n := (i 1).val + 1 + T1 i + 2 * k.val) (lt3 i k) (offD3_eq i k h) t r
  unfold ds3
  rw [ds2V_at, dp2V_at, l2V_hi, lAt_at f8 (offL3_1 i k h) h (lt3 i k) (offL3_1_eq i k h), p3_hi c i arg7 arg8 arg13 arg14 vk vkt vv fq fd f7 f8]
  simp only [hd]
  rfl

theorem upto3 (f : S8x16x72x256.Idx → EReal) (H : Upto (dat c arg7 arg8 arg13 arg14 vk vkt vv fq fd f7 f8) (i 1).val f (arg12.view.read (Elt Ideal) g) ((i 1).val + 1 + T1 i + 2 * k.val) acc) :
    Upto (dat c arg7 arg8 arg13 arg14 vk vkt vv fq fd f7 f8) (i 1).val f (arg12.view.read (Elt Ideal) (next3 c i arg2 harg2 arg3 harg3 arg4 harg4 arg5 harg5 arg6 harg6 arg7 harg7 arg8 harg8 arg9 harg9 arg10 harg10 arg11 harg11 arg12 harg12 arg13 harg13 arg14 harg14 arg15 arg16 arg1 (vk 0) (vk 1) (vk 2) (vk 3) (vk 4) (vk 5) (vk 6) (vk 7) (vkt 0) (vkt 1) (vkt 2) (vkt 3) (vkt 4) (vkt 5) (vkt 6) (vkt 7) (vv 0) (vv 1) (vv 2) (vv 3) (vv 4) (vv 5) (vv 6) (vv 7) vz f2 f6 fq fd f7 f8 k acc g).2) ((i 1).val + 1 + T1 i + 2 * k.val + 1 + 1) (next3 c i arg2 harg2 arg3 harg3 arg4 harg4 arg5 harg5 arg6 harg6 arg7 harg7 arg8 harg8 arg9 harg9 arg10 harg10 arg11 harg11 arg12 harg12 arg13 harg13 arg14 harg14 arg15 arg16 arg1 (vk 0) (vk 1) (vk 2) (vk 3) (vk 4) (vk 5) (vk 6) (vk 7) (vkt 0) (vkt 1) (vkt 2) (vkt 3) (vkt 4) (vkt 5) (vkt 6) (vkt 7) (vv 0) (vv 1) (vv 2) (vv 3) (vv 4) (vv 5) (vv 6) (vv 7) vz f2 f6 fq fd f7 f8 k acc g).1 where
  dk h s r := by
    have hl := fun t r => q2At_lo fq (offQ3 i k h) h (n := (i 1).val + 1 + T1 i + 2 * k.val) (by have := lt3 i k; omega) (offQ3_eq i k h) t r
    have hh := fun t r => q2At_hi fq (offQ3 i k h) h (n := (i 1).val + 1 + T1 i + 2 * k.val) (lt3 i k) (offQ3_eq i k h) t r
    rw [next3_dk]
    show dkOf acc h (ix2 s r) + dk2V _ _ (ix2 s r) = _
    rw [H.dk, dk2V_at, splitT]
    simp only [hl, hh, ds3_lo c i arg7 arg8 arg13 arg14 vk vkt vv fq fd f7 f8, ds3_hi c i arg7 arg8 arg13 arg14 vk vkt vv fq fd f7 f8]
    unfold Dat.dk
    rw [Finset.sum_Ico_succ_top (by omega), Finset.sum_Ico_succ_top (by omega)]
    exact (add_assoc _ _ _).symm
  dv h s r := by
    have hl := fun t r => d2At_lo fd (offD3 i k h) h (n := (i 1).val + 1 + T1 i + 2 * k.val) (by have := lt3 i k; omega) (offD3_eq i k h) t r
    have hh := fun t r => d2At_hi fd (offD3 i k h) h (n := (i 1).val + 1 + T1 i + 2 * k.val) (lt3 i k) (offD3_eq i k h) t r
    rw [next3_dv]
    show dvOf acc h (ix2 s r) + dv2V _ _ (ix2 s r) = _
    rw [H.dv, dv2V_at, splitT]
    simp only [hl, hh, p3_lo c i arg7 arg8 arg13 arg14 vk vkt vv fq fd f7 f8, p3_hi c i arg7 arg8 arg13 arg14 vk vkt vv fq fd f7 f8]
    unfold Dat.dv
    rw [Finset.sum_Ico_succ_top (by omega), Finset.sum_Ico_succ_top (by omega)]
    exact (add_assoc _ _ _).symm
  dq h m r t := by
    rw [next3_dq, read_tiles g (offA3_0 i k) (offA3_1 i k) (lt3 i k) (offA3_0_eq i k) (offA3_1_eq i k) (fun h => _) (fun h => _), H.dq, lo_at, hi_at, dq2V_at, dq2V_at, add_assoc, add_assoc]
    simp only [ds3_lo c i arg7 arg8 arg13 arg14 vk vkt vv fq fd f7 f8, ds3_hi c i arg7 arg8 arg13 arg14 vk vkt vv fq fd f7 f8]
    congr 1
    by_cases e : m.val = (i 1).val + 1 + T1 i + 2 * k.val
    · rw [if_neg (by omega), if_pos e, if_neg (by omega), if_pos (by omega), zero_add, add_zero, e]; rfl
    · by_cases e' : m.val = (i 1).val + 1 + T1 i + 2 * k.val + 1
      · rw [if_neg (by omega), if_neg e, if_pos e', if_pos (by omega), zero_add, zero_add, e']; rfl
      · rw [if_neg e, if_neg e', add_zero, add_zero]
        exact if_congr (by omega) rfl rfl
end Two
end Trips

end Cert.Fox
end
-- ==== Proof.FoxOut.lean ====
module

public import proofs.«01_k».proof.Proof.FoxStep

@[expose] public section

set_option maxRecDepth 16384

noncomputable section

namespace Cert.Fox

open Cert.FoxBwdIdeal Cert.FoxBwdIdeal.Gen
open Idealize.ShloMosaic
open Idealize.ShloMosaic.TcCoe Idealize.ShloMosaic.Tactic

section Body
variable (c : Dev nD) (i : grid0.Coords)
  (arg2 : Memref sig .tc .hbm S8x4096x128 .bf16) (harg2 : arg2.IsWhole)
  (arg3 : Memref sig .tc .vmem S8x256x128 .bf16) (harg3 : arg3.IsWhole)
  (arg4 : Memref sig .tc .vmem S8x1x80x256 .bf16) (harg4 : arg4.IsWhole)
  (arg5 : Memref sig .tc .vmem S8x256x64 .bf16) (harg5 : arg5.IsWhole)
  (arg6 : Memref sig .tc .hbm S8x4096x64 .bf16) (harg6 : arg6.IsWhole)
  (arg7 : Memref sig .tc .vmem S8x16x8x256 .f32) (harg7 : arg7.IsWhole)
  (arg8 : Memref sig .tc .vmem S8x16x8x256 .f32) (harg8 : arg8.IsWhole)
  (arg9 : Memref sig .tc .vmem S8x256x128 .f32) (harg9 : arg9.IsWhole)
  (arg10 : Memref sig .tc .vmem S8x256x128 .f32) (harg10 : arg10.IsWhole)
  (arg11 : Memref sig .tc .vmem S8x256x64 .bf16) (harg11 : arg11.IsWhole)
  (arg12 : Memref sig .tc .vmem S8x16x72x256 .f32) (harg12 : arg12.IsWhole)
  (arg13 : Memref sig .tc .vmem S8x4096x128 .bf16) (harg13 : arg13.IsWhole)
  (arg14 : Memref sig .tc .vmem S8x4096x64 .bf16) (harg14 : arg14.IsWhole)
  (arg15 arg16 : DmaSems sig S16)
  (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ)))
  (f6 : Buf (Elt Ideal) (arg6.view.loc (c : Thread nD τ))) (f7 : Buf (Elt Ideal) (arg7.view.loc (c : Thread nD τ))) (f8 : Buf (Elt Ideal) (arg8.view.loc (c : Thread nD τ))) (f12 : Buf (Elt Ideal) (arg12.view.loc (c : Thread nD τ)))
  (fq : Buf (Elt Ideal) (arg13.view.loc (c : Thread nD τ))) (fd : Buf (Elt Ideal) (arg14.view.loc (c : Thread nD τ)))

theorem p0_at (h : Fin 8) (s t : Fin 256) : (p0 c i arg3 arg7 arg13 f3 f7 fq h) (ix2 s t) = Dat.pm (dat c arg7 arg8 arg13 arg14 (kOf c arg3 f3) (ktOf c arg4 f4) (vOf c arg5 f5) fq fd f7 f8) (i 1).val h (i 1).val s t := by
  have hq := fun t r => qAt_at fq (offQ0 i h) h (i 1).isLt (offQ0_eq i h) t r
  unfold p0
  rw [pV_at, mV_at, lAt_at f7 (offL0 i h) h (i 1).isLt (offL0_eq i h)]
  simp only [hq]
  unfold Dat.pm Dat.sc
  rw [if_pos rfl]
  rfl
theorem ds0_at (h : Fin 8) (s t : Fin 256) : (ds0 c i arg3 arg5 arg7 arg8 arg13 arg14 f3 f5 f7 f8 fq fd h) (ix2 s t) = Dat.dm (dat c arg7 arg8 arg13 arg14 (kOf c arg3 f3) (ktOf c arg4 f4) (vOf c arg5 f5) fq fd f7 f8) (i 1).val h (i 1).val s t := by
  have hd := fun t r => dAt_at fd (offD0 i h) h (i 1).isLt (offD0_eq i h) t r
  unfold ds0
  rw [dsV_at, dpV_at, lAt_at f8 (offL0 i h) h (i 1).isLt (offL0_eq i h), p0_at c i arg3 arg4 arg5 arg7 arg8 arg13 arg14 f3 f4 f5 f7 f8 fq fd]
  simp only [hd]
  rfl
theorem init_dk (h : Fin 8) : dkOf (init0 c i arg3 arg5 arg7 arg8 arg13 arg14 f3 f5 f7 f8 fq fd) h = dk0 c i arg3 arg5 arg7 arg8 arg13 arg14 f3 f5 f7 f8 fq fd h := by
  fin_cases h <;> rfl
theorem init_dv (h : Fin 8) : dvOf (init0 c i arg3 arg5 arg7 arg8 arg13 arg14 f3 f5 f7 f8 fq fd) h = dv0 c i arg3 arg7 arg13 arg14 f3 f7 fq fd h := by
  fin_cases h <;> rfl
theorem zeroBits : Scalar.ofBits (F := Ideal) .f32 0x00000000#32 = (0 : EReal) := by
  show Ideal.ofBits .f32 0x00000000#32 = 0
  simp [Ideal.ofBits, Ideal.ieee]

theorem upto0 : Upto (dat c arg7 arg8 arg13 arg14 (kOf c arg3 f3) (ktOf c arg4 f4) (vOf c arg5 f5) fq fd f7 f8) (i 1).val (arg12.view.read (Elt Ideal) f12) (arg12.view.read (Elt Ideal) (g0 c i arg3 arg4 arg5 arg7 arg8 arg12 arg13 arg14 f3 f4 f5 f7 f8 f12 fq fd)) ((i 1).val + 1) (init0 c i arg3 arg5 arg7 arg8 arg13 arg14 f3 f5 f7 f8 fq fd) where
  dk h s r := by
    have hq := fun t r => qAt_at fq (offQ0 i h) h (i 1).isLt (offQ0_eq i h) t r
    rw [init_dk]
    show Scalar.ofBits (F := Ideal) .f32 0x00000000#32 + dkV _ _ (ix2 s r) = _
    rw [zeroBits, zero_add, dkV_at]
    simp only [hq, ds0_at c i arg3 arg4 arg5 arg7 arg8 arg13 arg14 f3 f4 f5 f7 f8 fq fd]
    unfold Dat.dk
    rw [Nat.Ico_succ_singleton, Finset.sum_singleton]
    rfl
  dv h s r := by
    have hd := fun t r => dAt_at fd (offD0 i h) h (i 1).isLt (offD0_eq i h) t r
    rw [init_dv]
    show Scalar.ofBits (F := Ideal) .f32 0x00000000#32 + dvV _ _ (ix2 s r) = _
    rw [zeroBits, zero_add, dvV_at]
    simp only [hd, p0_at c i arg3 arg4 arg5 arg7 arg8 arg13 arg14 f3 f4 f5 f7 f8 fq fd]
    unfold Dat.dv
    rw [Nat.Ico_succ_singleton, Finset.sum_singleton]
    rfl
  dq h m r t := by
    unfold g0
    rw [read_tile f12 (offA0 i) (i 1).isLt (offA0_eq i), dqV_at]
    simp only [ds0_at c i arg3 arg4 arg5 arg7 arg8 arg13 arg14 f3 f4 f5 f7 f8 fq fd]
    congr 1
    by_cases e : m.val = (i 1).val
    · rw [if_pos e, if_pos (by omega), e]; rfl
    · rw [if_neg e, if_neg (by omega)]

theorem uptoS1 (n : ℕ) (hn : n ≤ T1 i) : Upto (dat c arg7 arg8 arg13 arg14 (kOf c arg3 f3) (ktOf c arg4 f4) (vOf c arg5 f5) fq fd f7 f8) (i 1).val (arg12.view.read (Elt Ideal) f12) (arg12.view.read (Elt Ideal) (S1 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd n).2) ((i 1).val + 1 + n) (S1 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd n).1 := by
  induction n with
  | zero =>
    have e : (S1 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd 0) = ((init0 c i arg3 arg5 arg7 arg8 arg13 arg14 f3 f5 f7 f8 fq fd), (g0 c i arg3 arg4 arg5 arg7 arg8 arg12 arg13 arg14 f3 f4 f5 f7 f8 f12 fq fd)) := by sl_kernel_rfl
    rw [e, Nat.add_zero]
    dsimp only
    exact upto0 c i arg3 arg4 arg5 arg7 arg8 arg12 arg13 arg14 f3 f4 f5 f7 f8 f12 fq fd
  | succ n ih =>
    have e : S1 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd (n + 1) = next1 c i arg2 harg2 arg3 harg3 arg4 harg4 arg5 harg5 arg6 harg6 arg7 harg7 arg8 harg8 arg9 harg9 arg10 harg10 arg11 harg11 arg12 harg12 arg13 harg13 arg14 harg14 arg15 arg16 (BitVec.ofNat 32 (i 1).val) (kOf c arg3 f3 0) (kOf c arg3 f3 1) (kOf c arg3 f3 2) (kOf c arg3 f3 3) (kOf c arg3 f3 4) (kOf c arg3 f3 5) (kOf c arg3 f3 6) (kOf c arg3 f3 7) (ktOf c arg4 f4 0) (ktOf c arg4 f4 1) (ktOf c arg4 f4 2) (ktOf c arg4 f4 3) (ktOf c arg4 f4 4) (ktOf c arg4 f4 5) (ktOf c arg4 f4 6) (ktOf c arg4 f4 7) (vOf c arg5 f5 0) (vOf c arg5 f5 1) (vOf c arg5 f5 2) (vOf c arg5 f5 3) (vOf c arg5 f5 4) (vOf c arg5 f5 5) (vOf c arg5 f5 6) (vOf c arg5 f5 7) (bodyRun.sl.v432 i) f2 f6 fq fd f7 f8 ⟨n, hn⟩ (S1 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd n).1 (S1 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd n).2 := loopSt_succ _ _ (⟨n, hn⟩ : Fin (k0_t1_loop i).trips)
    rw [e]
    exact upto1 c i arg2 harg2 arg3 harg3 arg4 harg4 arg5 harg5 arg6 harg6 arg7 harg7 arg8 harg8 arg9 harg9 arg10 harg10 arg11 harg11 arg12 harg12 arg13 harg13 arg14 harg14 arg15 arg16 (BitVec.ofNat 32 (i 1).val) (kOf c arg3 f3) (ktOf c arg4 f4) (vOf c arg5 f5) (bodyRun.sl.v432 i) f2 f6 fq fd f7 f8 (S1 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd n).2 ⟨n, hn⟩ (S1 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd n).1 _ (ih (by omega))

theorem uptoS3 (n : ℕ) (hn : n ≤ T3 i) : Upto (dat c arg7 arg8 arg13 arg14 (kOf c arg3 f3) (ktOf c arg4 f4) (vOf c arg5 f5) fq fd f7 f8) (i 1).val (arg12.view.read (Elt Ideal) f12) (arg12.view.read (Elt Ideal) (S3 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd n).2) ((i 1).val + 1 + T1 i + 2 * n) (S3 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd n).1 := by
  induction n with
  | zero =>
    have e : (S3 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd 0) = ((S1 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd (T1 i)).1, g1 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd) := rfl
    rw [e, g1_eq]
    dsimp only
    exact uptoS1 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd (T1 i) le_rfl
  | succ n ih =>
    have e : S3 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd (n + 1) = next3 c i arg2 harg2 arg3 harg3 arg4 harg4 arg5 harg5 arg6 harg6 arg7 harg7 arg8 harg8 arg9 harg9 arg10 harg10 arg11 harg11 arg12 harg12 arg13 harg13 arg14 harg14 arg15 arg16 (BitVec.ofNat 32 (i 1).val) (kOf c arg3 f3 0) (kOf c arg3 f3 1) (kOf c arg3 f3 2) (kOf c arg3 f3 3) (kOf c arg3 f3 4) (kOf c arg3 f3 5) (kOf c arg3 f3 6) (kOf c arg3 f3 7) (ktOf c arg4 f4 0) (ktOf c arg4 f4 1) (ktOf c arg4 f4 2) (ktOf c arg4 f4 3) (ktOf c arg4 f4 4) (ktOf c arg4 f4 5) (ktOf c arg4 f4 6) (ktOf c arg4 f4 7) (vOf c arg5 f5 0) (vOf c arg5 f5 1) (vOf c arg5 f5 2) (vOf c arg5 f5 3) (vOf c arg5 f5 4) (vOf c arg5 f5 5) (vOf c arg5 f5 6) (vOf c arg5 f5 7) (bodyRun.sl.v431 i) f2 f6 fq fd f7 f8 ⟨n, hn⟩ (S3 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd n).1 (S3 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd n).2 := loopSt_succ _ _ (⟨n, hn⟩ : Fin (k0_t3_loop i).trips)
    rw [e]
    exact upto3 c i arg2 harg2 arg3 harg3 arg4 harg4 arg5 harg5 arg6 harg6 arg7 harg7 arg8 harg8 arg9 harg9 arg10 harg10 arg11 harg11 arg12 harg12 arg13 harg13 arg14 harg14 arg15 arg16 (BitVec.ofNat 32 (i 1).val) (kOf c arg3 f3) (ktOf c arg4 f4) (vOf c arg5 f5) (bodyRun.sl.v431 i) f2 f6 fq fd f7 f8 (S3 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd n).2 ⟨n, hn⟩ (S3 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd n).1 _ (ih (by omega))

/-- A step adds its block of keys to the queries' gradient and gathers all the tiles from the diagonal on. -/
theorem upto_all : Upto (dat c arg7 arg8 arg13 arg14 (kOf c arg3 f3) (ktOf c arg4 f4) (vOf c arg5 f5) fq fd f7 f8) (i 1).val (arg12.view.read (Elt Ideal) f12) (arg12.view.read (Elt Ideal) (g3 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd)) 16 (S3 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd (T3 i)).1 := by
  rw [g3_eq, ← trips_eq i]
  exact uptoS3 c i arg2 harg2 arg3 harg3 arg4 harg4 arg5 harg5 arg6 harg6 arg7 harg7 arg8 harg8 arg9 harg9 arg10 harg10 arg11 harg11 arg12 harg12 arg13 harg13 arg14 harg14 arg15 arg16 f2 f3 f4 f5 f6 f7 f8 f12 fq fd (T3 i) le_rfl
end Body

theorem canon_k (w : Fin 8 → FVec Ideal S1x256x128 .f32) (h : Fin 8) (s : Fin 256) (r : Fin 128) :
    View.canon (heads.map fun h => (⟨Rect.unit (s := S8x256x128) ![h.val, 0, 0] S1x256x128.size (headK h), w h⟩ : View.Piece (Elt Ideal) S8x256x128 .f32)) (ix3 h s r) = w h (ix3 0 s r) := by
  have hl : ∀ l : List (Fin 8), h ∈ l →
      View.canon (l.map fun h => (⟨Rect.unit (s := S8x256x128) ![h.val, 0, 0] S1x256x128.size (headK h), w h⟩ : View.Piece (Elt Ideal) S8x256x128 .f32)) (ix3 h s r) = w h (ix3 0 s r) := by
    intro l
    induction l with
    | nil => simp
    | cons a l ih =>
      intro hm
      rw [List.map_cons]
      by_cases e : h = a
      · subst e
        have e' : (ix3 h s r : S8x256x128.Idx) = (Rect.unit (s := S8x256x128) ![h.val, 0, 0] S1x256x128.size (headK h)).emb (ix3 0 s r) := by
          funext d; apply Fin.ext
          fin_cases d
          · show h.val = h.val + 1 * 0; omega
          · show s.val = 0 + 1 * s.val; omega
          · show r.val = 0 + 1 * r.val; omega
        rw [e']
        exact View.canon_cons_emb _ _ _ _
      · rw [View.canon_cons_of_not_mem]
        · exact ih ((List.mem_cons.mp hm).resolve_left e)
        · intro hmem
          have := (Rect.mem_set_unit (inb := headK a)).mp hmem 0
          have hne : h.val ≠ a.val := fun q => e (Fin.ext q)
          have h1 : a.val ≤ h.val ∧ h.val < a.val + 1 := this
          omega
  exact hl _ (mem_heads h)

theorem canon_v (w : Fin 8 → FVec Ideal S1x256x64 .bf16) (h : Fin 8) (s : Fin 256) (r : Fin 64) :
    View.canon (heads.map fun h => (⟨Rect.unit (s := S8x256x64) ![h.val, 0, 0] S1x256x64.size (headV h), w h⟩ : View.Piece (Elt Ideal) S8x256x64 .bf16)) (ix3 h s r) = w h (ix3 0 s r) := by
  have hl : ∀ l : List (Fin 8), h ∈ l →
      View.canon (l.map fun h => (⟨Rect.unit (s := S8x256x64) ![h.val, 0, 0] S1x256x64.size (headV h), w h⟩ : View.Piece (Elt Ideal) S8x256x64 .bf16)) (ix3 h s r) = w h (ix3 0 s r) := by
    intro l
    induction l with
    | nil => simp
    | cons a l ih =>
      intro hm
      rw [List.map_cons]
      by_cases e : h = a
      · subst e
        have e' : (ix3 h s r : S8x256x64.Idx) = (Rect.unit (s := S8x256x64) ![h.val, 0, 0] S1x256x64.size (headV h)).emb (ix3 0 s r) := by
          funext d; apply Fin.ext
          fin_cases d
          · show h.val = h.val + 1 * 0; omega
          · show s.val = 0 + 1 * s.val; omega
          · show r.val = 0 + 1 * r.val; omega
        rw [e']
        exact View.canon_cons_emb _ _ _ _
      · rw [View.canon_cons_of_not_mem]
        · exact ih ((List.mem_cons.mp hm).resolve_left e)
        · intro hmem
          have := (Rect.mem_set_unit (inb := headV a)).mp hmem 0
          have hne : h.val ≠ a.val := fun q => e (Fin.ext q)
          have h1 : a.val ≤ h.val ∧ h.val < a.val + 1 := this
          omega
  exact hl _ (mem_heads h)

theorem storeK (x : FVec Ideal S256x128 .f32) (s : Fin 256) (r : Fin 128) : shapeCast S1x256x128 x shapeCasts_S256x128_S1x256x128 (ix3 0 s r) = x (ix2 s r) := by pointwise
theorem storeV (x : FVec Ideal S256x64 .f32) (s : Fin 256) (r : Fin 64) : shapeCast S1x256x64 (truncf .bf16 x bitsLt_bf16_f32) shapeCasts_S256x64_S1x256x64 (ix3 0 s r) = x (ix2 s r) := by pointwise

end Cert.Fox
end
-- ==== Proof.FoxArr.lean ====
module

public import proofs.«01_k».proof.Proof.FoxOut

@[expose] public section

set_option maxRecDepth 16384

noncomputable section

namespace Cert.Fox

open Cert.FoxBwdIdeal Cert.FoxBwdIdeal.Gen
open Idealize.ShloMosaic
open Idealize.ShloMosaic.TcCoe Idealize.ShloMosaic.Tactic

variable (m : (b : Dev nD × DevRef τ sig) → Buf (Elt Ideal) b)

/-- The arrays the call is given, and what step `n` of it works on. -/
def gd (c : Dev nD) (n : ℕ) : Dat where
  K h s r := (V m c main_v55 : S8x4096x128.Idx → EReal) (ix3 h (rowAt (tl n) s) r)
  KT h r s := (V m c main_v58 : S8x16x80x256.Idx → EReal) (ix4 h (tl n) ⟨r.val, by omega⟩ s)
  V h s r := (V m c main_v59 : S8x4096x64.Idx → EReal) (ix3 h (rowAt (tl n) s) r)
  Q h u r := (V m c main_v52 : S8x4096x128.Idx → EReal) (ix3 h u r)
  D h u r := (V m c main_v60 : S8x4096x64.Idx → EReal) (ix3 h u r)
  L h n t := (V m c main_v62 : S8x16x8x256.Idx → EReal) (ix4 h n 0 t)
  E h n t := (V m c main_v64 : S8x16x8x256.Idx → EReal) (ix4 h n 0 t)

theorem idxI : ∀ t : Fin grid0.N, win0_0.index t = ![0, t.val, 0] ∧ win0_1.index t = ![0, t.val, 0, 0] ∧ win0_2.index t = ![0, t.val, 0]
    ∧ win0_3.index t = ![0, 0, 0, 0] ∧ win0_4.index t = ![0, 0, 0, 0] := by decide +kernel
theorem idxO : ∀ t : Fin grid0.N, win0_5.index t = ![0, t.val, 0] ∧ win0_6.index t = ![0, t.val, 0] ∧ win0_7.index t = ![0, t.val, 0] := by decide +kernel

theorem row_val (t : Fin 16) (s : Fin 256) : t.val * 256 + s.val = (rowAt (tl t.val) s).val := by
  rw [tl_fin]; show _ = 256 * t.val + s.val; omega
theorem win_read0 (c : Dev nD) (t : Fin cfg0.N) (h : Fin 8) (s : Fin 256) (r : Fin 128) (A : Buf (Elt Ideal) ((c : Thread nD τ).loc main_v55)) :
    (win0_0.blk t).view.read (Elt Ideal) A (ix3 h s r) = A (ix3 h (rowAt (tl t.val) s) r) := by
  blk_ext [idxI t]
  exact row_val t s
theorem blk0 (c : Dev nD) (t : Fin cfg0.N) (h : Fin 8) (s : Fin 256) (r : Fin 128) : iblk m c 0 t (ix3 h s r) = V m c main_v55 (ix3 h (rowAt (tl t.val) s) r) :=
  win_read0 c t h s r (V m c main_v55)
theorem win_read1 (c : Dev nD) (t : Fin cfg0.N) (h : Fin 8) (r : Fin 80) (s : Fin 256) (A : Buf (Elt Ideal) ((c : Thread nD τ).loc main_v58)) :
    (win0_1.blk t).view.read (Elt Ideal) A (ix4 h 0 r s) = A (ix4 h (tl t.val) r s) := by
  blk_ext [idxI t]
  exact (tl_val t.isLt).symm
theorem blk1 (c : Dev nD) (t : Fin cfg0.N) (h : Fin 8) (r : Fin 80) (s : Fin 256) : iblk m c 1 t (ix4 h 0 r s) = V m c main_v58 (ix4 h (tl t.val) r s) :=
  win_read1 c t h r s (V m c main_v58)
theorem win_read2 (c : Dev nD) (t : Fin cfg0.N) (h : Fin 8) (s : Fin 256) (r : Fin 64) (A : Buf (Elt Ideal) ((c : Thread nD τ).loc main_v59)) :
    (win0_2.blk t).view.read (Elt Ideal) A (ix3 h s r) = A (ix3 h (rowAt (tl t.val) s) r) := by
  blk_ext [idxI t]
  exact row_val t s
theorem blk2 (c : Dev nD) (t : Fin cfg0.N) (h : Fin 8) (s : Fin 256) (r : Fin 64) : iblk m c 2 t (ix3 h s r) = V m c main_v59 (ix3 h (rowAt (tl t.val) s) r) :=
  win_read2 c t h s r (V m c main_v59)
theorem win_read3 (c : Dev nD) (t : Fin cfg0.N) (h : Fin 8) (n : Fin 16) (q : Fin 8) (s : Fin 256) (A : Buf (Elt Ideal) ((c : Thread nD τ).loc main_v62)) :
    (win0_3.blk t).view.read (Elt Ideal) A (ix4 h n q s) = A (ix4 h n q s) := by
  blk_ext [idxI t]
theorem blk3 (c : Dev nD) (t : Fin cfg0.N) (h : Fin 8) (n : Fin 16) (q : Fin 8) (s : Fin 256) : iblk m c 3 t (ix4 h n q s) = V m c main_v62 (ix4 h n q s) :=
  win_read3 c t h n q s (V m c main_v62)
theorem win_read4 (c : Dev nD) (t : Fin cfg0.N) (h : Fin 8) (n : Fin 16) (q : Fin 8) (s : Fin 256) (A : Buf (Elt Ideal) ((c : Thread nD τ).loc main_v64)) :
    (win0_4.blk t).view.read (Elt Ideal) A (ix4 h n q s) = A (ix4 h n q s) := by
  blk_ext [idxI t]
theorem blk4 (c : Dev nD) (t : Fin cfg0.N) (h : Fin 8) (n : Fin 16) (q : Fin 8) (s : Fin 256) : iblk m c 4 t (ix4 h n q s) = V m c main_v64 (ix4 h n q s) :=
  win_read4 c t h n q s (V m c main_v64)

theorem k_at (c : Dev nD) (t : Fin cfg0.N) (h : Fin 8) (s : Fin 256) (r : Fin 128) : kOf c (win0_0.stage (cfg0.slots t 0)) ((st0_0 t).view.rep (iblk m c 0 t)) h (ix2 s r) = V m c main_v55 (ix3 h (rowAt (tl t.val) s) r) := by
  refine (castQ _ s r).trans (Eq.trans ?_ (blk0 m c t h s r))
  refine (congrFun (View.read_rep (st0_0 t).view (iblk m c 0 t)) _).trans (congrArg (iblk m c 0 t) (funext fun a => Fin.ext ?_))
  fin_cases a
  · show h.val + 1 * 0 = h.val; omega
  · show 0 + 1 * s.val = s.val; omega
  · show 0 + 1 * r.val = r.val; omega
theorem kt_at (c : Dev nD) (t : Fin cfg0.N) (h : Fin 8) (r : Fin 72) (s : Fin 256) : ktOf c (win0_1.stage (cfg0.slots t 1)) ((st0_1 t).view.rep (iblk m c 1 t)) h (ix2 r s) = V m c main_v58 (ix4 h (tl t.val) ⟨r.val, by omega⟩ s) := by
  refine (castA _ r s).trans (Eq.trans ?_ (blk1 m c t h ⟨r.val, by omega⟩ s))
  refine (congrFun (View.read_rep (st0_1 t).view (iblk m c 1 t)) _).trans (congrArg (iblk m c 1 t) (funext fun a => Fin.ext ?_))
  fin_cases a
  · show h.val + 1 * 0 = h.val; omega
  · rfl
  · show 0 + 1 * r.val = r.val; omega
  · show 0 + 1 * s.val = s.val; omega
theorem v_at (c : Dev nD) (t : Fin cfg0.N) (h : Fin 8) (s : Fin 256) (r : Fin 64) : vOf c (win0_2.stage (cfg0.slots t 2)) ((st0_2 t).view.rep (iblk m c 2 t)) h (ix2 s r) = V m c main_v59 (ix3 h (rowAt (tl t.val) s) r) := by
  refine (castD _ s r).trans (Eq.trans ?_ (blk2 m c t h s r))
  refine (congrFun (View.read_rep (st0_2 t).view (iblk m c 2 t)) _).trans (congrArg (iblk m c 2 t) (funext fun a => Fin.ext ?_))
  fin_cases a
  · show h.val + 1 * 0 = h.val; omega
  · show 0 + 1 * s.val = s.val; omega
  · show 0 + 1 * r.val = r.val; omega

/-- Step `t` works on the arrays' block `t`. -/
theorem dat_eq (c : Dev nD) (t : Fin cfg0.N) : dat c (win0_3.stage (cfg0.slots t 3)) (win0_4.stage (cfg0.slots t 4)) M13 M14 (kOf c (win0_0.stage (cfg0.slots t 0)) ((st0_0 t).view.rep (iblk m c 0 t))) (ktOf c (win0_1.stage (cfg0.slots t 1)) ((st0_1 t).view.rep (iblk m c 1 t))) (vOf c (win0_2.stage (cfg0.slots t 2)) ((st0_2 t).view.rep (iblk m c 2 t))) (fq c (src2 m c)) (fd c (src6 m c)) ((st0_3 t).view.rep (iblk m c 3 t)) ((st0_4 t).view.rep (iblk m c 4 t)) = gd m c t.val := by
  have hK : (fun (h : Fin 8) (s : Fin 256) (r : Fin 128) => kOf c (win0_0.stage (cfg0.slots t 0)) ((st0_0 t).view.rep (iblk m c 0 t)) h (ix2 s r)) = fun h s r => V m c main_v55 (ix3 h (rowAt (tl t.val) s) r) := funext fun h => funext fun s => funext fun r => k_at m c t h s r
  have hT : (fun (h : Fin 8) (r : Fin 72) (s : Fin 256) => ktOf c (win0_1.stage (cfg0.slots t 1)) ((st0_1 t).view.rep (iblk m c 1 t)) h (ix2 r s)) = fun h r s => V m c main_v58 (ix4 h (tl t.val) ⟨r.val, by omega⟩ s) := funext fun h => funext fun s => funext fun r => kt_at m c t h s r
  have hV : (fun (h : Fin 8) (s : Fin 256) (r : Fin 64) => vOf c (win0_2.stage (cfg0.slots t 2)) ((st0_2 t).view.rep (iblk m c 2 t)) h (ix2 s r)) = fun h s r => V m c main_v59 (ix3 h (rowAt (tl t.val) s) r) := funext fun h => funext fun s => funext fun r => v_at m c t h s r
  have hL : (fun (h : Fin 8) (n : Fin 16) (s : Fin 256) => (win0_3.stage (cfg0.slots t 3)).view.read (Elt Ideal) ((st0_3 t).view.rep (iblk m c 3 t)) (ix4 h n 0 s)) = fun h n s => V m c main_v62 (ix4 h n 0 s) :=
    funext fun h => funext fun n => funext fun s => (congrFun (View.read_rep (st0_3 t).view (iblk m c 3 t)) _).trans (blk3 m c t h n 0 s)
  have hE : (fun (h : Fin 8) (n : Fin 16) (s : Fin 256) => (win0_4.stage (cfg0.slots t 4)).view.read (Elt Ideal) ((st0_4 t).view.rep (iblk m c 4 t)) (ix4 h n 0 s)) = fun h n s => V m c main_v64 (ix4 h n 0 s) :=
    funext fun h => funext fun n => funext fun s => (congrFun (View.read_rep (st0_4 t).view (iblk m c 4 t)) _).trans (blk4 m c t h n 0 s)
  unfold dat gd
  rw [hK, hT, hV, hL, hE]
  rfl

section Step
variable (c : Dev nD) (t : Fin cfg0.N) (fa : Buf (Elt Ideal) ((c : Thread nD τ).loc cc0_scratch0))
/-- The buffer and the sums a step leaves. -/
def gT : S8x16x72x256.Idx → EReal := g3 c (grid0.coords t) M2 (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) M6 (Memref.isWhole_whole _) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) M12 (Memref.isWhole_whole _) M13 (Memref.isWhole_whole _) M14 (Memref.isWhole_whole _) M15 M16 (src2 m c) ((st0_0 t).view.rep (iblk m c 0 t)) ((st0_1 t).view.rep (iblk m c 1 t)) ((st0_2 t).view.rep (iblk m c 2 t)) (src6 m c) ((st0_3 t).view.rep (iblk m c 3 t)) ((st0_4 t).view.rep (iblk m c 4 t)) fa (fq c (src2 m c)) (fd c (src6 m c))
def sT : A16 Ideal := (S3 c (grid0.coords t) M2 (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) M6 (Memref.isWhole_whole _) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) M12 (Memref.isWhole_whole _) M13 (Memref.isWhole_whole _) M14 (Memref.isWhole_whole _) M15 M16 (src2 m c) ((st0_0 t).view.rep (iblk m c 0 t)) ((st0_1 t).view.rep (iblk m c 1 t)) ((st0_2 t).view.rep (iblk m c 2 t)) (src6 m c) ((st0_3 t).view.rep (iblk m c 3 t)) ((st0_4 t).view.rep (iblk m c 4 t)) fa (fq c (src2 m c)) (fd c (src6 m c)) (T3 (grid0.coords t))).1

theorem step_upto : Upto (gd m c t.val) t.val (fun y => fa y) (fun y => gT m c t fa y) 16 (sT m c t fa) := by
  have h := upto_all c (grid0.coords t) M2 (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) M6 (Memref.isWhole_whole _) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) M12 (Memref.isWhole_whole _) M13 (Memref.isWhole_whole _) M14 (Memref.isWhole_whole _) M15 M16 (src2 m c) ((st0_0 t).view.rep (iblk m c 0 t)) ((st0_1 t).view.rep (iblk m c 1 t)) ((st0_2 t).view.rep (iblk m c 2 t)) (src6 m c) ((st0_3 t).view.rep (iblk m c 3 t)) ((st0_4 t).view.rep (iblk m c 4 t)) fa (fq c (src2 m c)) (fd c (src6 m c))
  rw [dat_eq m c t, coords_at t] at h
  exact h
theorem step_g : (stepRun m c t fa).1.2 = gT m c t fa := body_g c (grid0.coords t) M2 (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) M6 (Memref.isWhole_whole _) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) M12 (Memref.isWhole_whole _) M13 (Memref.isWhole_whole _) M14 (Memref.isWhole_whole _) M15 M16 (src2 m c) ((st0_0 t).view.rep (iblk m c 0 t)) ((st0_1 t).view.rep (iblk m c 1 t)) ((st0_2 t).view.rep (iblk m c 2 t)) (src6 m c) ((st0_3 t).view.rep (iblk m c 3 t)) ((st0_4 t).view.rep (iblk m c 4 t)) fa (fq c (src2 m c)) (fd c (src6 m c))
theorem step_dq (h : Fin 8) (s : Fin 256) (r : Fin 128) : View.canon (stepRun m c t fa).1.1.1 (ix3 h s r)
    = if hr : r.val < 72 then gT m c t fa (ix4 h (tl t.val) ⟨r.val, hr⟩ s) else 0 := by
  have e := body_dq c (grid0.coords t) M2 (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) M6 (Memref.isWhole_whole _) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) M12 (Memref.isWhole_whole _) M13 (Memref.isWhole_whole _) M14 (Memref.isWhole_whole _) M15 M16 (src2 m c) ((st0_0 t).view.rep (iblk m c 0 t)) ((st0_1 t).view.rep (iblk m c 1 t)) ((st0_2 t).view.rep (iblk m c 2 t)) (src6 m c) ((st0_3 t).view.rep (iblk m c 3 t)) ((st0_4 t).view.rep (iblk m c 4 t)) fa (fq c (src2 m c)) (fd c (src6 m c))
  refine (congrFun (congrArg View.canon e) _).trans ((canon_k _ h s r).trans ((outA_at _ s r).trans ?_))
  split
  · rename_i hr
    refine (aAt_at (arg12 := M12) _ (offA9 (grid0.coords t) h) h (n := t.val) t.isLt ((offA9_eq _ h).trans (by rw [coords_at t])) ⟨r.val, hr⟩ s).trans ?_
    rfl
  · rfl
theorem step_dk (h : Fin 8) (s : Fin 256) (r : Fin 128) : View.canon (stepRun m c t fa).1.1.2.1 (ix3 h s r) = dkOf (sT m c t fa) h (ix2 s r) := by
  have e := body_dk c (grid0.coords t) M2 (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) M6 (Memref.isWhole_whole _) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) M12 (Memref.isWhole_whole _) M13 (Memref.isWhole_whole _) M14 (Memref.isWhole_whole _) M15 M16 (src2 m c) ((st0_0 t).view.rep (iblk m c 0 t)) ((st0_1 t).view.rep (iblk m c 1 t)) ((st0_2 t).view.rep (iblk m c 2 t)) (src6 m c) ((st0_3 t).view.rep (iblk m c 3 t)) ((st0_4 t).view.rep (iblk m c 4 t)) fa (fq c (src2 m c)) (fd c (src6 m c))
  exact (congrFun (congrArg View.canon e) _).trans ((canon_k _ h s r).trans (storeK _ s r))
theorem step_dv (h : Fin 8) (s : Fin 256) (r : Fin 64) : View.canon (stepRun m c t fa).1.1.2.2 (ix3 h s r) = dvOf (sT m c t fa) h (ix2 s r) := by
  have e := body_dv c (grid0.coords t) M2 (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) M6 (Memref.isWhole_whole _) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) M12 (Memref.isWhole_whole _) M13 (Memref.isWhole_whole _) M14 (Memref.isWhole_whole _) M15 M16 (src2 m c) ((st0_0 t).view.rep (iblk m c 0 t)) ((st0_1 t).view.rep (iblk m c 1 t)) ((st0_2 t).view.rep (iblk m c 2 t)) (src6 m c) ((st0_3 t).view.rep (iblk m c 3 t)) ((st0_4 t).view.rep (iblk m c 4 t)) fa (fq c (src2 m c)) (fd c (src6 m c))
  exact (congrFun (congrArg View.canon e) _).trans ((canon_v _ h s r).trans (storeV _ s r))
end Step

end Cert.Fox
end
-- ==== Proof.FoxFinal.lean ====
module

public import proofs.«01_k».proof.Proof.FoxArr

@[expose] public section

set_option maxRecDepth 16384

noncomputable section

namespace Cert.Fox

open Cert.FoxBwdIdeal Cert.FoxBwdIdeal.Gen
open Idealize.ShloMosaic
open Idealize.ShloMosaic.TcCoe Idealize.ShloMosaic.Tactic

variable (m : (b : Dev nD × DevRef τ sig) → Buf (Elt Ideal) b)

theorem whole_rep {sig : RefSig} {κ : Kind} {Val : EltTy → Type} [∀ e, Inhabited (Val e)] (b : Ref sig κ) (x : b.ty.Contents Val) : (View.whole b).rep x = x :=
  (View.read_whole b _).symm.trans (View.read_rep _ x)
theorem dq_start (c : Dev nD) : DQ m c 0 = k0_pay358 (F := Ideal) := whole_rep (Val := Elt Ideal) cc0_scratch0 _

/-- The sum of the queries' gradient of tile `k`, over the first `n` blocks of keys. -/
def acc (c : Dev nD) (n : ℕ) (h : Fin 8) (k : Fin 16) (r : Fin 72) (t : Fin 256) : EReal :=
  ∑ j ∈ Finset.range n, if j ≤ k.val then (gd m c j).dq j h k.val t r else 0

theorem pay_zero (i : S8x16x72x256.Idx) : k0_pay358 (F := Ideal) i = (0 : EReal) := by
  unfold k0_pay358
  pointwise

theorem dq_at (c : Dev nD) : ∀ n : ℕ, n ≤ 16 → ∀ (h : Fin 8) (k : Fin 16) (r : Fin 72) (t : Fin 256), DQ m c n (ix4 h k r t) = acc m c n h k r t
  | 0, _, h, k, r, t => (congrFun (dq_start m c) _).trans ((pay_zero _).trans rfl)
  | n + 1, hn, h, k, r, t => by
    have hN : n < cfg0.N := hn
    rw [DQ_succ m c ⟨n, hN⟩, step_g]
    refine ((step_upto m c ⟨n, hN⟩ (DQ m c n)).dq h k r t).trans ?_
    rw [dq_at c n (Nat.le_of_succ_le hn) h k r t]
    unfold acc
    rw [Finset.sum_range_succ]
    dsimp only
    simp only [k.isLt, and_true]

/-- The three arrays the call leaves. -/
def dqA (c : Dev nD) (i : S8x4096x128.Idx) : EReal :=
  if hr : (i 2).val < 72 then acc m c ((i 1).val / 256 + 1) (i 0) (tl ((i 1).val / 256)) ⟨(i 2).val, hr⟩ ⟨(i 1).val % 256, Nat.mod_lt _ (by norm_num)⟩ else 0
def dkA (c : Dev nD) (i : S8x4096x128.Idx) : EReal :=
  (gd m c ((i 1).val / 256)).dk ((i 1).val / 256) (i 0) 16 ⟨(i 1).val % 256, Nat.mod_lt _ (by norm_num)⟩ (i 2)
def dvA (c : Dev nD) (i : S8x4096x64.Idx) : EReal :=
  (gd m c ((i 1).val / 256)).dv ((i 1).val / 256) (i 0) 16 ⟨(i 1).val % 256, Nat.mod_lt _ (by norm_num)⟩ (i 2)

theorem row_div (t : Fin 16) (s : Fin 256) : (rowAt (tl t.val) s).val / 256 = t.val := by
  rw [tl_fin]; show (256 * t.val + s.val) / 256 = _; omega
theorem row_mod (t : Fin 16) (s : Fin 256) : (⟨(rowAt (tl t.val) s).val % 256, Nat.mod_lt _ (by norm_num)⟩ : Fin 256) = s :=
  Fin.ext (by rw [tl_fin]; show (256 * t.val + s.val) % 256 = _; omega)

theorem dqA_at (c : Dev nD) (t : Fin 16) (h : Fin 8) (s : Fin 256) (r : Fin 128) :
    dqA m c (ix3 h (rowAt (tl t.val) s) r) = if hr : r.val < 72 then acc m c (t.val + 1) h (tl t.val) ⟨r.val, hr⟩ s else 0 := by
  show (if hr : r.val < 72 then acc m c ((rowAt (tl t.val) s).val / 256 + 1) h (tl ((rowAt (tl t.val) s).val / 256)) ⟨r.val, hr⟩ ⟨(rowAt (tl t.val) s).val % 256, Nat.mod_lt _ (by norm_num)⟩ else (0 : EReal)) = _
  rw [row_div, row_mod]
theorem dkA_at (c : Dev nD) (t : Fin 16) (h : Fin 8) (s : Fin 256) (r : Fin 128) :
    dkA m c (ix3 h (rowAt (tl t.val) s) r) = (gd m c t.val).dk t.val h 16 s r := by
  show (gd m c ((rowAt (tl t.val) s).val / 256)).dk ((rowAt (tl t.val) s).val / 256) h 16 ⟨(rowAt (tl t.val) s).val % 256, Nat.mod_lt _ (by norm_num)⟩ r = _
  rw [row_div, row_mod]
theorem dvA_at (c : Dev nD) (t : Fin 16) (h : Fin 8) (s : Fin 256) (r : Fin 64) :
    dvA m c (ix3 h (rowAt (tl t.val) s) r) = (gd m c t.val).dv t.val h 16 s r := by
  show (gd m c ((rowAt (tl t.val) s).val / 256)).dv ((rowAt (tl t.val) s).val / 256) h 16 ⟨(rowAt (tl t.val) s).val % 256, Nat.mod_lt _ (by norm_num)⟩ r = _
  rw [row_div, row_mod]

theorem arr_dq (c : Dev nD) : (dats m 0 c).arrAt 5 cfg0.N = dqA m c := by
  refine (dats m 0 c).arrAt_eq_of_covers 5 _ (by decide +kernel) fun t hf y => ?_
  blk_simp
  rw [after_w5]
  obtain ⟨h, s, r, rfl⟩ : ∃ (h : Fin 8) (s : Fin 256) (r : Fin 128), y = ix3 h s r := ⟨y 0, y 1, y 2, eq_ix3 y⟩
  have e : (win0_5.blk t).view.emb (ix3 h s r) = ix3 h (rowAt (tl t.val) s) r := by
    blk_ext [idxO t]
    exact row_val t s
  rw [e]
  refine (step_dq m c t (DQ m c t.val) h s r).trans ?_
  refine Eq.trans ?_ (dqA_at m c t h s r).symm
  split
  · rename_i hr
    refine ((step_upto m c t (DQ m c t.val)).dq h (tl t.val) ⟨r.val, hr⟩ s).trans ?_
    have h16 : t.val < 16 := t.isLt
    have hv : (tl t.val).val = t.val := tl_val h16
    rw [dq_at m c t.val (Nat.le_of_lt h16) h (tl t.val) ⟨r.val, hr⟩ s]
    unfold acc
    rw [hv, Finset.sum_range_succ]
    simp only [le_refl, h16, and_true, if_true]
  · rfl

theorem arr_dk (c : Dev nD) : (dats m 0 c).arrAt 6 cfg0.N = dkA m c := by
  refine (dats m 0 c).arrAt_eq_of_covers 6 _ (by decide +kernel) fun t hf y => ?_
  blk_simp
  rw [after_w6]
  obtain ⟨h, s, r, rfl⟩ : ∃ (h : Fin 8) (s : Fin 256) (r : Fin 128), y = ix3 h s r := ⟨y 0, y 1, y 2, eq_ix3 y⟩
  have e : (win0_6.blk t).view.emb (ix3 h s r) = ix3 h (rowAt (tl t.val) s) r := by
    blk_ext [idxO t]
    exact row_val t s
  rw [e]
  refine (step_dk m c t (DQ m c t.val) h s r).trans ?_
  refine Eq.trans ?_ (dkA_at m c t h s r).symm
  exact (step_upto m c t (DQ m c t.val)).dk h s r

theorem arr_dv (c : Dev nD) : (dats m 0 c).arrAt 7 cfg0.N = dvA m c := by
  refine (dats m 0 c).arrAt_eq_of_covers 7 _ (by decide +kernel) fun t hf y => ?_
  blk_simp
  rw [after_w7]
  obtain ⟨h, s, r, rfl⟩ : ∃ (h : Fin 8) (s : Fin 256) (r : Fin 64), y = ix3 h s r := ⟨y 0, y 1, y 2, eq_ix3 y⟩
  have e : (win0_7.blk t).view.emb (ix3 h s r) = ix3 h (rowAt (tl t.val) s) r := by
    blk_ext [idxO t]
    exact row_val t s
  rw [e]
  refine (step_dv m c t (DQ m c t.val) h s r).trans ?_
  refine Eq.trans ?_ (dvA_at m c t h s r).symm
  exact (step_upto m c t (DQ m c t.val)).dv h s r

end Cert.Fox
end
-- ==== Proof.FoxVals.lean ====
module

public import proofs.«01_k».proof.Proof.FoxPack
public import proofs.«01_k».proof.Proof.FoxFinal

@[expose] public section

set_option maxRecDepth 16384

noncomputable section

namespace Cert.FoxVals

open Cert.FoxBwdIdeal Cert.FoxBwdIdeal.Gen Cert.FoxReal Cert.FoxHost Cert.FoxRef Cert.FoxPack Cert.Fox
open Idealize.ShloMosaic
open Idealize.ShloMosaic.TcCoe Idealize.ShloMosaic.Tactic

/-! What the call leaves where the arguments are real numbers. -/

theorem row_le {j n : ℕ} (hj : j < 16) (hn : n < 16) (s t : Fin 256) : rowAt (tl j) s ≤ rowAt (tl n) t ↔ 256 * j + s.val ≤ 256 * n + t.val := by
  show 256 * (tl j).val + s.val ≤ 256 * (tl n).val + t.val ↔ _
  rw [tl_val hj, tl_val hn]

theorem all_tiles (g : Fin 4096 → ℝ) : ∑ n ∈ Finset.range 16, ∑ t, g (rowAt (tl n) t) = ∑ u, g u := by
  rw [Finset.sum_range fun n => ∑ t, g (rowAt (tl n) t)]
  exact sum_tiles g (fun n t => rowAt (tl n.val) t) fun n t => by rw [tl_fin]; rfl
theorem tail_tiles (g : Fin 4096 → ℝ) (j : ℕ) (hg : ∀ n, n < j → ∀ t, g (rowAt (tl n) t) = 0) :
    ∑ n ∈ Finset.Ico j 16, ∑ t, g (rowAt (tl n) t) = ∑ u, g u := by
  rw [← all_tiles g]
  refine Finset.sum_subset (fun n hn => Finset.mem_range.mpr (Finset.mem_Ico.mp hn).2) fun n hn h' => Finset.sum_eq_zero fun t _ => hg n ?_ t
  by_contra hc
  exact h' (Finset.mem_Ico.mpr ⟨Nat.le_of_not_lt hc, Finset.mem_range.mp hn⟩)
theorem head_tiles (g : Fin 4096 → ℝ) (k : ℕ) (hk : k < 16) (hg : ∀ n, k < n → n < 16 → ∀ t, g (rowAt (tl n) t) = 0) :
    ∑ n ∈ Finset.range (k + 1), ∑ t, g (rowAt (tl n) t) = ∑ u, g u := by
  rw [← all_tiles g]
  refine Finset.sum_subset (Finset.range_mono hk) fun n hn h' => Finset.sum_eq_zero fun t _ => hg n ?_ (Finset.mem_range.mp hn) t
  by_contra hc
  exact h' (Finset.mem_range.mpr (by omega))

section Real
variable (m : (b : Dev nD × DevRef τ sig) → Buf (Elt Ideal) b) (c : Dev nD)
variable (q k v d : Fin 8 → Fin 4096 → Fin 64 → ℝ) (f u : Fin 8 → Fin 4096 → ℝ)
variable (hq : ∀ h t r, A0 m c (ix3 h t r) = (q h t r : EReal)) (hk : ∀ h t r, A1 m c (ix3 h t r) = (k h t r : EReal))
variable (hv : ∀ h t r, A2 m c (ix3 h t r) = (v h t r : EReal)) (hd : ∀ h t r, A4 m c (ix3 h t r) = (d h t r : EReal))
variable (hf : ∀ h t, Cert.FoxGradIdeal.Read.val_main_v0 (F := Ideal) (A3 m c) (ix2 h t) = (f h t : EReal))
variable (hu : ∀ h t, Cert.FoxGradIdeal.Read.val_main_v18 (F := Ideal) (A0 m c) (A1 m c) (A3 m c) (ix2 h t) = (u h t : EReal))
variable (j n : ℕ) (h : Fin 8) (s t : Fin 256)

include hq hf in
theorem gd_Q (w : Fin 4096) (r : Fin 128) : (gd m c j).Q h w r = (qaR q f h w r : EReal) :=
  (congrFun (v52 m c) _).trans (qa_real (A0 m c) (A3 m c) h w q f hq hf r)
include hk hf in
theorem gd_K (r : Fin 128) : (gd m c j).K h s r = (kaR k f h (rowAt (tl j) s) r : EReal) :=
  (congrFun (v55 m c) _).trans (ka_real (A1 m c) (A3 m c) h (rowAt (tl j) s) k f hk hf r)
include hk hf in
theorem gd_KT (r : Fin 72) : (gd m c j).KT h r s = (kaR k f h (rowAt (tl j) s) ⟨r.val, by omega⟩ : EReal) :=
  (congrFun (v58 m c) _).trans ((kt_at (A1 m c) (A3 m c) h (tl j) ⟨r.val, by omega⟩ s).trans (ka_real (A1 m c) (A3 m c) h (rowAt (tl j) s) k f hk hf _))
include hv in
theorem gd_V (r : Fin 64) : (gd m c j).V h s r = (v h (rowAt (tl j) s) r : EReal) :=
  (congrFun (v59 m c) _).trans (hv h (rowAt (tl j) s) r)
include hd in
theorem gd_D (w : Fin 4096) (r : Fin 64) : (gd m c j).D h w r = (d h w r : EReal) :=
  (congrFun (v60 m c) _).trans (hd h w r)
include hq hk hf hu in
theorem gd_L (n : Fin 16) : (gd m c j).L h n t = ((u h (rowAt n t) + Real.log (l q k f u h (rowAt n t)) : ℝ) : EReal) :=
  (congrFun (v62 m c) _).trans ((rows_at h _ n 0 t).trans (lse_real (A0 m c) (A1 m c) (A3 m c) h (rowAt n t) q k f u hq hk hf hu))
include hq hk hv hd hf hu in
theorem gd_E (n : Fin 16) : (gd m c j).E h n t = (dl q k v d f u h (rowAt n t) : EReal) :=
  (congrFun (v64 m c) _).trans ((rows_at h _ n 0 t).trans (del_real (A0 m c) (A1 m c) (A2 m c) (A4 m c) (A3 m c) h (rowAt n t) q k v d f u hq hk hv hd hf hu))

variable (hjn : j ≤ n) (hn : n < 16)

include hq hk hf hjn hn in
theorem sc_real : (gd m c j).sc j h n s t = if rowAt (tl j) s ≤ rowAt (tl n) t then (z q k f h (rowAt (tl n) t) (rowAt (tl j) s) : EReal) else ⊥ := by
  have e : ∑ r : Fin 128, (gd m c j).K h s r * (gd m c j).Q h (rowAt (tl n) t) r = (z q k f h (rowAt (tl n) t) (rowAt (tl j) s) : EReal) := by
    rw [← packed_sum]
    exact sum_coe fun r _ => by rw [gd_K m c k f hk hf, gd_Q m c q f hq hf, EReal.coe_mul]
  unfold Dat.sc
  rw [e]
  have hle := row_le (Nat.lt_of_le_of_lt hjn hn) hn s t
  by_cases h1 : n = j
  · rw [if_pos h1]
    by_cases h2 : s.val ≤ t.val
    · rw [if_pos h2, if_pos (hle.mpr (by omega))]
    · rw [if_neg h2, if_neg fun h3 => h2 (by have := hle.mp h3; omega)]
  · rw [if_neg h1, if_pos (hle.mpr (by omega))]

include hq hk hf hu hjn hn in
theorem pm_real : (gd m c j).pm j h n s t = (p q k f u h (rowAt (tl n) t) (rowAt (tl j) s) : EReal) := by
  unfold Dat.pm
  rw [sc_real m c q k f hq hk hf j n h s t hjn hn, gd_L m c q k f u hq hk hf hu]
  by_cases h1 : rowAt (tl j) s ≤ rowAt (tl n) t
  · rw [if_pos h1, ← EReal.coe_sub, exp_coe, p_exp q k f u h _ _ h1]
  · rw [if_neg h1, bot_sub, exp_bot, p_zero q k f u h _ _ h1]

include hq hk hv hd hf hu hjn hn in
theorem dm_real : (gd m c j).dm j h n s t = (ds q k v d f u h (rowAt (tl n) t) (rowAt (tl j) s) : EReal) := by
  unfold Dat.dm
  rw [pm_real m c q k f u hq hk hf hu j n h s t hjn hn, gd_E m c q k v d f u hq hk hv hd hf hu,
    sum_coe (f := fun r => d h (rowAt (tl n) t) r * v h (rowAt (tl j) s) r) fun r _ => by
      rw [gd_V m c v hv, gd_D m c d hd, EReal.coe_mul, mul_comm], ← EReal.coe_sub, ← EReal.coe_mul]
  rfl

include hq hk hv hd hf hu in
theorem dk_real (hj : j < 16) (r : Fin 128) :
    (gd m c j).dk j h 16 s r = ((∑ w, ds q k v d f u h w (rowAt (tl j) s) * qaR q f h w r : ℝ) : EReal) := by
  unfold Dat.dk
  rw [← tail_tiles (fun w => ds q k v d f u h w (rowAt (tl j) s) * qaR q f h w r) j fun n hn t => by
    rw [ds_zero q k v d f u h _ _ fun h1 => by have := (row_le hj (Nat.lt_trans hn hj) s t).mp h1; omega, zero_mul]]
  refine sum_coe fun n hn => sum_coe fun t _ => ?_
  rw [dm_real m c q k v d f u hq hk hv hd hf hu j n h s t (Finset.mem_Ico.mp hn).1 (Finset.mem_Ico.mp hn).2, gd_Q m c q f hq hf, EReal.coe_mul]

include hq hk hd hf hu in
theorem dv_real (hj : j < 16) (r : Fin 64) :
    (gd m c j).dv j h 16 s r = ((∑ w, d h w r * p q k f u h w (rowAt (tl j) s) : ℝ) : EReal) := by
  unfold Dat.dv
  rw [← tail_tiles (fun w => d h w r * p q k f u h w (rowAt (tl j) s)) j fun n hn t => by
    rw [p_zero q k f u h _ _ fun h1 => by have := (row_le hj (Nat.lt_trans hn hj) s t).mp h1; omega, mul_zero]]
  refine sum_coe fun n hn => sum_coe fun t _ => ?_
  rw [pm_real m c q k f u hq hk hf hu j n h s t (Finset.mem_Ico.mp hn).1 (Finset.mem_Ico.mp hn).2, gd_D m c d hd, EReal.coe_mul, mul_comm]

include hq hk hv hd hf hu in
theorem acc_real (n : ℕ) (h : Fin 8) (t : Fin 256) (hn : n < 16) (r : Fin 72) :
    acc m c (n + 1) h (tl n) r t = ((∑ w, kaR k f h w ⟨r.val, by omega⟩ * ds q k v d f u h (rowAt (tl n) t) w : ℝ) : EReal) := by
  unfold acc
  rw [← head_tiles (fun w => kaR k f h w ⟨r.val, by omega⟩ * ds q k v d f u h (rowAt (tl n) t) w) n hn fun i hi hi' s => by
    rw [ds_zero q k v d f u h _ _ fun h1 => by have := (row_le hi' hn s t).mp h1; omega, mul_zero]]
  refine sum_coe fun j hj => ?_
  have hjn : j ≤ n := Nat.le_of_lt_succ (Finset.mem_range.mp hj)
  rw [tl_val hn, if_pos hjn]
  unfold Dat.dq
  exact sum_coe fun s _ => by
    rw [dm_real m c q k v d f u hq hk hv hd hf hu j n h s t hjn hn, gd_KT m c k f hk hf, EReal.coe_mul]

/-! The three arrays, element by element. -/
theorem row_eta (w : Fin 4096) : ∃ (n : Fin 16) (t : Fin 256), w = rowAt (tl n.val) t :=
  ⟨⟨w.val / 256, by omega⟩, ⟨w.val % 256, by omega⟩, Fin.ext (by rw [tl_fin]; show w.val = 256 * (w.val / 256) + w.val % 256; omega)⟩

include hq hk hv hd hf hu in
theorem dqA_real (w : Fin 4096) (r : Fin 128) (hr : r.val < 72) :
    dqA m c (ix3 h w r) = ((∑ x, kaR k f h x r * ds q k v d f u h w x : ℝ) : EReal) := by
  obtain ⟨n, t, rfl⟩ := row_eta w
  rw [dqA_at, dif_pos hr]
  exact acc_real m c q k v d f u hq hk hv hd hf hu 0 0 n.val h t n.isLt ⟨r.val, hr⟩
include hq hk hv hd hf hu in
theorem dkA_real (w : Fin 4096) (r : Fin 128) : dkA m c (ix3 h w r) = ((∑ x, ds q k v d f u h x w * qaR q f h x r : ℝ) : EReal) := by
  obtain ⟨n, t, rfl⟩ := row_eta w
  rw [dkA_at]
  exact dk_real m c q k v d f u hq hk hv hd hf hu n.val h t n.isLt r
include hq hk hd hf hu in
theorem dvA_real (w : Fin 4096) (r : Fin 64) : dvA m c (ix3 h w r) = ((∑ x, d h x r * p q k f u h x w : ℝ) : EReal) := by
  obtain ⟨n, t, rfl⟩ := row_eta w
  rw [dvA_at]
  exact dv_real m c q k d f u hq hk hd hf hu n.val h t n.isLt r

end Real
end Cert.FoxVals
end
-- ==== Proof.FoxTail.lean ====
module

public import proofs.«01_k».proof.Proof.FoxFrame
public import proofs.«01_k».proof.Proof.FoxVals

@[expose] public section

set_option maxRecDepth 16384

noncomputable section

namespace Cert.FoxTail

open Cert.FoxBwdIdeal Cert.FoxBwdIdeal.Gen Cert.Fox
open Idealize.ShloMosaic
open Idealize.ShloMosaic.TcCoe Idealize.ShloMosaic.Tactic
open Idealize.SL.Sem

/-! The host lines after the call. -/

section Lines
variable (W : Valuation τ sig (Elt Ideal))
/-- The queries' gradient, the keys' and the sums', of the arrays the call leaves. -/
def outQ (x : FVec Ideal S8x4096x128 .f32) : FVec Ideal S8x4096x64 .f32 :=
  mulf (extractStridedSlice S8x4096x64 ![0, 0, 0] x slices_S8x4096x128_S8x4096x64_0_0_0) (broadcastInDim S8x4096x64 ![] bcast_S_S8x4096x64 (constant S_ .f32 0x3E000000#32))
def outK (x : FVec Ideal S8x4096x128 .f32) : FVec Ideal S8x4096x64 .f32 :=
  extractStridedSlice S8x4096x64 ![0, 0, 0] x slices_S8x4096x128_S8x4096x64_0_0_0
def outF (x y : FVec Ideal S8x4096x128 .f32) : FVec Ideal S8x4096 .f32 :=
  subf (shapeCast S8x4096 (extractStridedSlice S8x4096x1 ![0, 0, 64] x slices_S8x4096x128_S8x4096x1_0_0_64) shapeCasts_S8x4096x1_S8x4096)
    (shapeCast S8x4096 (extractStridedSlice S8x4096x1 ![0, 0, 67] y slices_S8x4096x128_S8x4096x1_0_0_67) shapeCasts_S8x4096x1_S8x4096)

theorem line68 : StableHlo.after hostOps1 W (Proc.devRef .tc main_v68) = outQ (W (Proc.devRef .tc main_v65_0)) := by
  simp only [hostOps1]
  after_results_simp <;> rfl
theorem line69 : StableHlo.after hostOps1 W (Proc.devRef .tc main_v69) = outK (W (Proc.devRef .tc main_v65_1)) := by
  simp only [hostOps1]
  after_results_simp <;> rfl
theorem line74 : StableHlo.after hostOps1 W (Proc.devRef .tc main_v74) = outF (W (Proc.devRef .tc main_v65_0)) (W (Proc.devRef .tc main_v65_1)) := by
  simp only [hostOps1]
  after_results_simp <;> rfl
end Lines

section At
variable (x y : FVec Ideal S8x4096x128 .f32) (h : Fin 8) (t : Fin 4096) (r : Fin 64)
theorem outQ_at : outQ x (ix3 h t r) = x (ix3 h t ⟨r.val, by omega⟩) * Ideal.ofBits .f32 0x3E000000#32 := by
  unfold outQ
  pointwise
theorem outK_at : outK x (ix3 h t r) = x (ix3 h t ⟨r.val, by omega⟩) := by
  unfold outK
  pointwise
theorem outF_at : outF x y (ix2 h t) = x (ix3 h t 64) - y (ix3 h t 67) := by
  unfold outF
  pointwise
end At

section Run
variable (m : (b : Dev nD × DevRef τ sig) → Buf (Elt Ideal) b) (c : Dev nD)

/-- What the arrays hold as the lines after the call begin. -/
abbrev left : Valuation τ sig (Elt Ideal) := Pipeline.withArrays spec0 c (V0 m c) (fun w => (dats m 0 c).arrAt w cfg0.N)

theorem left_dq : left m c (Proc.devRef .tc main_v65_0) = dqA m c :=
  (Pipeline.withArrays_arr spec0 (by decide) c (V0 m c) (fun w => (dats m 0 c).arrAt w cfg0.N) 5).trans (arr_dq m c)
theorem left_dk : left m c (Proc.devRef .tc main_v65_1) = dkA m c :=
  (Pipeline.withArrays_arr spec0 (by decide) c (V0 m c) (fun w => (dats m 0 c).arrAt w cfg0.N) 6).trans (arr_dk m c)

theorem tail_eq (b : Ref sig .tc) : Pipeline.afterTail₀ cfgs (dats m) 0 (V0 m) [hostOps1] c b = StableHlo.after hostOps1 (left m c) (Proc.devRef .tc b) := rfl

set_option backward.isDefEq.respectTransparency.types false in
/-- Every run ends with the four results at these values, and the arguments as they were. -/
theorem run_results (ρ : Dev nD → PrngReg) :
    θ_run defs (onTc (τ := τ) (main (F := Ideal))) ⟨m, fun _ => 0, ρ⟩ (fun r => ∀ c : Dev nD,
      r.2.mem ((c.tc : Thread nD τ).loc main_v68) = outQ (dqA m c)
      ∧ r.2.mem ((c.tc : Thread nD τ).loc main_v69) = outK (dkA m c)
      ∧ r.2.mem ((c.tc : Thread nD τ).loc main_v65_2) = dvA m c
      ∧ r.2.mem ((c.tc : Thread nD τ).loc main_v74) = outF (dqA m c) (dkA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ)
  have keep := fun (b : Ref sig .tc) hr hw hV hb => ((h.1 c).2 b hr).trans (tail_keeps m c b (tail_avoids b hb) hw hV)
  have res := fun (b : Ref sig .tc) hr => ((h.1 c).2 b hr).trans (tail_eq m c b)
  exact ⟨(res main_v68 (Pipeline.mem_restRefs_of main_v68 (by decide) (by decide))).trans ((line68 _).trans (congrArg outQ (left_dq m c))),
    (res main_v69 (Pipeline.mem_restRefs_of main_v69 (by decide) (by decide))).trans ((line69 _).trans (congrArg outK (left_dk m c))),
    ((h.1 c).1 7).trans (arr_dv m c),
    (res main_v74 (Pipeline.mem_restRefs_of main_v74 (by decide) (by decide))).trans ((line74 _).trans (congrArg₂ outF (left_dq m c) (left_dk m c))),
    keep main_arg0 (Pipeline.mem_restRefs_of main_arg0 (by decide) (by decide)) (by decide) (V_main_arg0 m c) (by decide),
    keep main_arg1 (Pipeline.mem_restRefs_of main_arg1 (by decide) (by decide)) (by decide) (V_main_arg1 m c) (by decide),
    keep main_arg2 (Pipeline.mem_restRefs_of main_arg2 (by decide) (by decide)) (by decide) (V_main_arg2 m c) (by decide),
    keep main_arg3 (Pipeline.mem_restRefs_of main_arg3 (by decide) (by decide)) (by decide) (V_main_arg3 m c) (by decide),
    keep main_arg4 (Pipeline.mem_restRefs_of main_arg4 (by decide) (by decide)) (by decide) (V_main_arg4 m c) (by decide)⟩
end Run
end Cert.FoxTail
end
-- ==== Proof.FoxPre.lean ====
module

public import proofs.«01_k».proof.Proof.FoxReal
public import proofs.«01_k».proof.Proof.Gen.Pre_fox_finite
public import Idealize.ShloMosaic.Lib.ReduceAll

@[expose] public section

set_option maxRecDepth 16384

noncomputable section

namespace Cert.FoxPre

open Cert.Pre_fox_finite Cert.Pre_fox_finite.Gen
open Idealize.ShloMosaic
open Idealize.ShloMosaic.TcCoe Idealize.ShloMosaic.Tactic

/-! Where the precondition holds every element of the arguments is a real number. -/

theorem real_of_lt (x : EReal) (h : Ideal.cmp .olt (max x (-x)) (Ideal.ofBits .f32 0x7F800000#32) = 1#1) : ∃ a : ℝ, x = a := by
  have e : (Ideal.ofBits .f32 0x7F800000#32 : EReal) = ⊤ := by simp [Ideal.ofBits, Ideal.ieee]
  rw [e] at h
  have hlt : max x (-x) < ⊤ := by
    by_contra hc
    simp [Ideal.cmp, hc] at h
  induction x using EReal.rec with
  | bot => simp at hlt
  | coe a => exact ⟨a, rfl⟩
  | top => simp at hlt

instance : Subsingleton S_.Idx := ⟨fun a b => funext fun i => i.elim0⟩

theorem and_one (a b : BitVec 1) (h : IntOp.andi a b = 1#1) : a = 1#1 ∧ b = 1#1 := by
  revert a b; decide

section Fn
variable (a0 a1 a2 : FVec Ideal S8x4096x64 .f32) (a3 : FVec Ideal S8x4096 .f32) (a4 : FVec Ideal S8x4096x64 .f32)
/-- One conjunct of the precondition: all elements of an array are below infinity in size. -/
def all3 (x : FVec Ideal S8x4096x64 .f32) : IVec S_ 1 :=
  Host.reduce IntOp.andi (cmpf .olt (Host.absf x) (broadcastInDim S8x4096x64 ![] bcast_S_S8x4096x64 (constant S_ .f32 0x7F800000#32))) (constantI S_ 1 1#1) reducesTo_S8x4096x64_S_d0_1_2 h_S_
def all2 (x : FVec Ideal S8x4096 .f32) : IVec S_ 1 :=
  Host.reduce IntOp.andi (cmpf .olt (Host.absf x) (broadcastInDim S8x4096 ![] bcast_S_S8x4096 (constant S_ .f32 0x7F800000#32))) (constantI S_ 1 1#1) reducesTo_S8x4096_S_d0_1 h_S_

theorem fn_eq : fn (F := Ideal) a0 a1 a2 a3 a4 = andi (andi (andi (andi (all3 a0) (all3 a1)) (all3 a2)) (all2 a3)) (all3 a4) := rfl

theorem all3_real (x : FVec Ideal S8x4096x64 .f32) (j : S_.Idx) (h : all3 x j = 1#1) (i : S8x4096x64.Idx) : ∃ a : ℝ, x i = a :=
  real_of_lt (x i) (Host.reduce_andi_all _ _ _ _ j h i)
theorem all2_real (x : FVec Ideal S8x4096 .f32) (j : S_.Idx) (h : all2 x j = 1#1) (i : S8x4096.Idx) : ∃ a : ℝ, x i = a :=
  real_of_lt (x i) (Host.reduce_andi_all _ _ _ _ j h i)

theorem all_real (h : fn (F := Ideal) a0 a1 a2 a3 a4 = fun _ => 1#1) :
    (∀ i, ∃ a : ℝ, a0 i = a) ∧ (∀ i, ∃ a : ℝ, a1 i = a) ∧ (∀ i, ∃ a : ℝ, a2 i = a) ∧ (∀ i, ∃ a : ℝ, a3 i = a) ∧ (∀ i, ∃ a : ℝ, a4 i = a) := by
  have j : S_.Idx := Shape.Idx.first h_S_
  rw [fn_eq] at h
  have h0 := congrFun h j
  obtain ⟨h1, e4⟩ := and_one _ _ h0
  obtain ⟨h2, e3⟩ := and_one _ _ h1
  obtain ⟨h3, e2⟩ := and_one _ _ h2
  obtain ⟨e0, e1⟩ := and_one _ _ h3
  exact ⟨all3_real a0 j e0, all3_real a1 j e1, all3_real a2 j e2, all2_real a3 j e3, all3_real a4 j e4⟩
end Fn
end Cert.FoxPre
end
-- ==== Proof.FoxGrads.lean ====
module

public import proofs.«01_k».proof.Proof.FoxTail
public import proofs.«01_k».proof.Proof.FoxPre

@[expose] public section

set_option maxRecDepth 16384

noncomputable section

namespace Cert.FoxGrads

open Cert.FoxBwdIdeal Cert.FoxBwdIdeal.Gen Cert.Fox Cert.FoxReal Cert.FoxHost Cert.FoxRef Cert.FoxVals Cert.FoxTail
open Idealize.ShloMosaic
open Idealize.ShloMosaic.TcCoe Idealize.ShloMosaic.Tactic
open Idealize.SL.Sem

/-! The kernel's four results are the reference's. -/

theorem ext3 {α : Type} (x y : S8x4096x64.Idx → α) (e : ∀ (h : Fin 8) (t : Fin 4096) (r : Fin 64), x (ix3 h t r) = y (ix3 h t r)) : x = y :=
  funext fun i => (congrArg x (eq_ix3 i)).trans ((e (i 0) (i 1) (i 2)).trans (congrArg y (eq_ix3 i)).symm)
theorem ext2 {α : Type} (x y : S8x4096.Idx → α) (e : ∀ (h : Fin 8) (t : Fin 4096), x (ix2 h t) = y (ix2 h t)) : x = y :=
  funext fun i => (congrArg x (eq_ix2 i)).trans ((e (i 0) (i 1)).trans (congrArg y (eq_ix2 i)).symm)

section Results
variable (m : (b : Dev nD × DevRef τ sig) → Buf (Elt Ideal) b) (c : Dev nD)

/-- The reference's results of the kernel's arguments. -/
def rq : FVec Ideal S8x4096x64 .f32 := Cert.FoxGradIdeal.Read.val_main_v74 (F := Ideal) (A0 m c) (A1 m c) (A2 m c) (A3 m c) (A4 m c)
def rk : FVec Ideal S8x4096x64 .f32 := Cert.FoxGradIdeal.Read.val_main_v73 (F := Ideal) (A0 m c) (A1 m c) (A2 m c) (A3 m c) (A4 m c)
def rv : FVec Ideal S8x4096x64 .bf16 := Cert.FoxGradIdeal.Read.val_main_v75 (F := Ideal) (A0 m c) (A1 m c) (A3 m c) (A4 m c)
def rf : FVec Ideal S8x4096 .f32 := Cert.FoxGradIdeal.Read.val_main_v70 (F := Ideal) (A0 m c) (A1 m c) (A2 m c) (A3 m c) (A4 m c)

/-- The arguments are real numbers: so are the sums of the log gates and the rows' maxima. -/
theorem reals (h : Cert.Pre_FoxBwdIdeal_fox_finite m) : ∃ (q k v d : Fin 8 → Fin 4096 → Fin 64 → ℝ) (f u : Fin 8 → Fin 4096 → ℝ),
    (∀ h t r, A0 m c (ix3 h t r) = (q h t r : EReal)) ∧ (∀ h t r, A1 m c (ix3 h t r) = (k h t r : EReal))
    ∧ (∀ h t r, A2 m c (ix3 h t r) = (v h t r : EReal)) ∧ (∀ h t r, A4 m c (ix3 h t r) = (d h t r : EReal))
    ∧ (∀ h t, Cert.FoxGradIdeal.Read.val_main_v0 (F := Ideal) (A3 m c) (ix2 h t) = (f h t : EReal))
    ∧ (∀ h t, Cert.FoxGradIdeal.Read.val_main_v18 (F := Ideal) (A0 m c) (A1 m c) (A3 m c) (ix2 h t) = (u h t : EReal)) := by
  obtain ⟨h0, h1, h2, h3, h4⟩ := Cert.FoxPre.all_real (A0 m c) (A1 m c) (A2 m c) (A3 m c) (A4 m c) (h c)
  choose q hq using fun h t r => h0 (ix3 h t r)
  choose k hk using fun h t r => h1 (ix3 h t r)
  choose v hv using fun h t r => h2 (ix3 h t r)
  choose d hd using fun h t r => h4 (ix3 h t r)
  choose f hf using fun h t => sums_real (A3 m c) h3 (ix2 h t)
  choose u hu using fun h t => max_real (A0 m c) (A1 m c) (A3 m c) q k f hq hk hf h t
  exact ⟨q, k, v, d, f, u, hq, hk, hv, hd, hf, hu⟩

variable (hp : Cert.Pre_FoxBwdIdeal_fox_finite m)
include hp

theorem out_dq : outQ (dqA m c) = rq m c := by
  obtain ⟨q, k, v, d, f, u, hq, hk, hv, hd, hf, hu⟩ := reals m c hp
  refine ext3 _ _ fun h t r => ?_
  refine Eq.trans ?_ (ref_dq (A0 m c) (A1 m c) (A2 m c) (A4 m c) (A3 m c) q k v d f u hq hk hv hd hf h t r hu).symm
  rw [outQ_at, dqA_real m c q k v d f u hq hk hv hd hf hu _ _ _ (by show r.val < 72; omega), bits_eighth, ← EReal.coe_mul]
  refine congrArg _ ?_
  rw [Finset.sum_mul]
  refine Finset.sum_congr rfl fun w _ => ?_
  unfold kaR
  rw [dif_pos (show r.val < 64 from r.isLt)]
  show k h w r * _ * _ = _
  ring

theorem out_dk : outK (dkA m c) = rk m c := by
  obtain ⟨q, k, v, d, f, u, hq, hk, hv, hd, hf, hu⟩ := reals m c hp
  refine ext3 _ _ fun h t r => ?_
  refine Eq.trans ?_ (ref_dk (A0 m c) (A1 m c) (A2 m c) (A4 m c) (A3 m c) q k v d f u hq hk hv hd hf h t r hu).symm
  rw [outK_at, dkA_real m c q k v d f u hq hk hv hd hf hu]
  refine congrArg _ (Finset.sum_congr rfl fun w _ => ?_)
  unfold qaR
  rw [dif_pos (show r.val < 64 from r.isLt)]
  show _ * (q h w r * _) = _
  ring

theorem out_dv : dvA m c = rv m c := by
  obtain ⟨q, k, v, d, f, u, hq, hk, hv, hd, hf, hu⟩ := reals m c hp
  refine ext3 _ _ fun h t r => ?_
  refine Eq.trans ?_ (ref_dv (A0 m c) (A1 m c) (A4 m c) (A3 m c) q k d f u hq hk hd hf h t r hu).symm
  exact dvA_real m c q k d f u hq hk hd hf hu h t r

theorem out_df : outF (dqA m c) (dkA m c) = rf m c := by
  obtain ⟨q, k, v, d, f, u, hq, hk, hv, hd, hf, hu⟩ := reals m c hp
  refine ext2 _ _ fun h t => ?_
  refine Eq.trans ?_ (ref_df (A0 m c) (A1 m c) (A2 m c) (A4 m c) (A3 m c) q k v d f u hq hk hv hd hf h t hu).symm
  rw [outF_at, dqA_real m c q k v d f u hq hk hv hd hf hu _ _ _ (by decide), dkA_real m c q k v d f u hq hk hv hd hf hu, ← EReal.coe_sub]
  refine congrArg _ (congrArg₂ _ (Finset.sum_congr rfl fun w _ => ?_) (Finset.sum_congr rfl fun w _ => ?_))
  · unfold kaR
    norm_num
  · unfold qaR
    norm_num
end Results

theorem algebraic : Cert.algebraic_FoxBwdIdeal_FoxGradIdeal_pre_fox_finite := by
  intro m g m' g' hp hm
  refine ⟨rq m, rk m, rv m, rf m, ?_, ?_⟩
  · refine (θ_run defs _ _).mono (fun r h c => ?_) (run_results m g)
    obtain ⟨h0, h1, h2, h3, rest⟩ := h c
    exact ⟨h0.trans (out_dq m c hp), h1.trans (out_dk m c hp), h2.trans (out_dv m c hp), h3.trans (out_df m c hp), rest⟩
  · refine (θ_run Cert.FoxGradIdeal.defs _ _).mono (fun r h c => ?_) (Cert.FoxGradIdeal.Value.run (F := Ideal) m' g')
    obtain ⟨h0, h1, h2, h3, rest⟩ := h c
    obtain ⟨a0, a1, a2, a3, a4⟩ := hm c
    refine ⟨h0.trans ?_, h1.trans ?_, h2.trans ?_, h3.trans ?_, rest⟩
    · rw [Cert.FoxGradIdeal.Read.val_main_v74_eq, a0, a1, a2, a3, a4]; rfl
    · rw [Cert.FoxGradIdeal.Read.val_main_v73_eq, a0, a1, a2, a3, a4]; rfl
    · rw [Cert.FoxGradIdeal.Read.val_main_v75_eq, a0, a1, a3, a4]; rfl
    · rw [Cert.FoxGradIdeal.Read.val_main_v70_eq, a0, a1, a2, a3, a4]; rfl

/-- The reference's frame: its run keeps the arguments, and it has no semaphore. -/
theorem ref_frame : Cert.quiescent_FoxGradIdeal := fun m g _ =>
  (θ_run Cert.FoxGradIdeal.defs _ _).mono (fun _ h => ⟨fun c => (h c).2.2.2.2, funext fun s => nomatch s⟩) (Cert.FoxGradIdeal.Value.run (F := Ideal) m g)
theorem ref_frame_pre : Cert.quiescent_FoxGradIdeal_pre_fox_finite := fun m g _ => ref_frame m g trivial

end Cert.FoxGrads
end
-- ==== Proof.PostVec.lean ====
module

public import proofs.«01_k».proof.Proof.Gen.FoxPostIdeal.Value
public import proofs.«01_k».proof.Proof.FoxReal
public import proofs.«01_k».proof.Proof.RmsGrad
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.ValueLayout

@[expose] public section

set_option maxRecDepth 16384

noncomputable section

namespace Cert.Post

open Cert.FoxPostIdeal Cert.FoxPostIdeal.Gen
open Idealize.ShloMosaic
open Idealize.ShloMosaic.TcCoe Idealize.ShloMosaic.Tactic

/-! What one grid step of the heads' backward kernel stores, as functions of its tiles. -/

/-- One head's rows of a tile. -/
def head (x : Vec Ideal S8x256x128 .f32) (h : Fin 8) : FVec Ideal S256x128 .f32 := fun i => x (ix3 h (i 0) (i 1))
/-- One head's value rows of a tile. -/
def vhead (x : Vec Ideal S8x256x64 .bf16) (h : Fin 8) : Vec Ideal S1x256x64 .bf16 := fun i => x (ix3 h (i 1) (i 2))

theorem z2 : (![0, 0] : Fin 2 → Nat) = fun _ => 0 := funext fun a => by fin_cases a <;> rfl

theorem head_ld (x : Vec Ideal S8x256x128 .f32) (h : Fin 8) (off : Fin 3 → Nat) (hb) (w : S1x256x128.ShapeCasts S256x128) (ho : off = ![h.val, 0, 0]) :
    shapeCast S256x128 (View.ld x (Rect.unit off ![1, 256, 128] hb)) w = head x h := by
  subst ho
  funext i
  obtain ⟨a, b, rfl⟩ : ∃ a b, i = ix2 a b := ⟨i 0, i 1, eq_ix2 i⟩
  refine (ValueIdx.shapeCast_1ab_ab_apply _ w a b).trans ?_
  exact View.ld_unit_apply_of x _ _ _ _ _ fun r => by fin_cases r <;> first | rfl | exact (Nat.zero_add _).symm
theorem vhead_ld (x : Vec Ideal S8x256x64 .bf16) (h : Fin 8) (off : Fin 3 → Nat) (hb) (ho : off = ![h.val, 0, 0]) :
    View.ld x (Rect.unit off ![1, 256, 64] hb) = vhead x h := by
  subst ho
  funext i
  exact View.ld_unit_apply_of x _ _ _ _ _ fun r => by fin_cases r <;> first | rfl | exact (Nat.zero_add _).symm | exact congrArg (h.val + ·) (Fin.val_eq_zero (i 0)).symm

/-- The column number of every entry. -/
abbrev cols : IVec S256x128 32 := iota .tc S256x128 32 [1] iota_S256x128_d1_w32
/-- The reciprocal root mean squares of the query rows. -/
def rqV (x0 : Vec Ideal S256x512 .f32) (s : Vec Ideal S512x512 .bf16) : FVec Ideal S256x512 .f32 := k0_pay31 (F := Ideal) (k0_pay29 s x0) (k0_pay30 s x0)
/-- The query rows' gradient. -/
def dqV (x0 : Vec Ideal S256x512 .f32) (x4 : Vec Ideal S1x512 .f32) (s : Vec Ideal S512x512 .bf16) (x7 : Vec Ideal S8x256x128 .f32) : FVec Ideal S256x512 .bf16 :=
  k0_pay44 (F := Ideal) s (head x7 0) (head x7 1) (head x7 2) (head x7 3) (head x7 4) (head x7 5) (head x7 6) (head x7 7) x0 (rqV x0 s) x4
/-- The query gain's gradient, row by row. -/
def gqV (x0 : Vec Ideal S256x512 .f32) (s : Vec Ideal S512x512 .bf16) (x7 : Vec Ideal S8x256x128 .f32) : FVec Ideal S256x512 .f32 :=
  k0_pay43 (F := Ideal) (head x7 0) (head x7 1) (head x7 2) (head x7 3) (head x7 4) (head x7 5) (head x7 6) (head x7 7) x0 (rqV x0 s)
/-- The key rows' gradient. -/
def dkV (x1 : Vec Ideal S256x512 .f32) (x5 : Vec Ideal S1x512 .f32) (s : Vec Ideal S512x512 .bf16) (x8 : Vec Ideal S8x256x128 .f32) : FVec Ideal S256x512 .bf16 :=
  k0_pay53 (F := Ideal) s (head x8 0) (head x8 1) (head x8 2) (head x8 3) (head x8 4) (head x8 5) (head x8 6) (head x8 7) x1 (k0_pay32 s x1) x5
/-- The key gain's gradient, row by row. -/
def gkV (x1 : Vec Ideal S256x512 .f32) (s : Vec Ideal S512x512 .bf16) (x8 : Vec Ideal S8x256x128 .f32) : FVec Ideal S256x512 .f32 :=
  k0_pay52 (F := Ideal) (head x8 0) (head x8 1) (head x8 2) (head x8 3) (head x8 4) (head x8 5) (head x8 6) (head x8 7) x1 (k0_pay32 s x1)
/-- The value rows' gradient. -/
def dvV (x9 : Vec Ideal S8x256x64 .bf16) : FVec Ideal S256x512 .bf16 :=
  k0_pay1 (F := Ideal) (k0_pay55 (vhead x9 0)) (k0_pay56 (vhead x9 1)) (k0_pay57 (vhead x9 2)) (k0_pay58 (vhead x9 3)) (k0_pay59 (vhead x9 4)) (k0_pay60 (vhead x9 5)) (vhead x9 6) (vhead x9 7)
/-- The first three heads' columns of the running gate's gradient. -/
def cum3V (x7 x8 : Vec Ideal S8x256x128 .f32) : FVec Ideal S256x128 .f32 :=
  k0_pay33 (F := Ideal) cols (head x7 0) (head x7 1) (head x7 2) (head x8 0) (head x8 1) (head x8 2)
/-- All heads' columns of the running gate's gradient. -/
def cumV (x7 x8 : Vec Ideal S8x256x128 .f32) : FVec Ideal S256x128 .f32 :=
  k0_pay34 (F := Ideal) cols (head x7 3) (head x7 4) (head x7 5) (head x7 6) (head x7 7) (head x8 3) (head x8 4) (head x8 5) (head x8 6) (head x8 7) (cum3V x7 x8) 3#32
/-- Its sums over the later rows of the tile, beside the later tiles' carry. -/
def sufV (x7 x8 : Vec Ideal S8x256x128 .f32) (xs : Vec Ideal S1x128 .f32) : FVec Ideal S256x128 .f32 :=
  k0_pay40 (F := Ideal) k0_pay35 (truncf .bf16 (cumV x7 x8) bitsLt_bf16_f32) (truncf .bf16 (subf (cumV x7 x8) (extf .f32 (truncf .bf16 (cumV x7 x8) bitsLt_bf16_f32) bitsLt_bf16_f32)) bitsLt_bf16_f32)
    (truncf .bf16 (subf (subf (cumV x7 x8) (extf .f32 (truncf .bf16 (cumV x7 x8) bitsLt_bf16_f32) bitsLt_bf16_f32))
      (extf .f32 (truncf .bf16 (subf (cumV x7 x8) (extf .f32 (truncf .bf16 (cumV x7 x8) bitsLt_bf16_f32) bitsLt_bf16_f32)) bitsLt_bf16_f32) bitsLt_bf16_f32)) bitsLt_bf16_f32) xs
/-- The gate's gradient. -/
def dfV (x2 : Vec Ideal S256x128 .f32) (x3 : Vec Ideal S1x128 .f32) (x7 x8 : Vec Ideal S8x256x128 .f32) (xs : Vec Ideal S1x128 .f32) : FVec Ideal S256x128 .f32 :=
  k0_pay47 (F := Ideal) cols (sufV x7 x8 xs) x2 x3

section steps
variable (c : Dev nD) (i : grid0.Coords) (a1 : Memref sig .tc .vmem S256x512 .f32) (h1 : a1.IsWhole) (a2 : Memref sig .tc .vmem S256x512 .f32) (h2 : a2.IsWhole) (a3 : Memref sig .tc .vmem S256x128 .f32) (h3 : a3.IsWhole) (a4 : Memref sig .tc .vmem S1x128 .f32) (h4 : a4.IsWhole) (a5 : Memref sig .tc .vmem S1x512 .f32) (h5 : a5.IsWhole) (a6 : Memref sig .tc .vmem S1x512 .f32) (h6 : a6.IsWhole) (a7 : Memref sig .tc .vmem S512x512 .bf16) (h7 : a7.IsWhole) (a8 : Memref sig .tc .vmem S8x256x128 .f32) (h8 : a8.IsWhole) (a9 : Memref sig .tc .vmem S8x256x128 .f32) (h9 : a9.IsWhole) (a10 : Memref sig .tc .vmem S8x256x64 .bf16) (h10 : a10.IsWhole) (a11 : Memref sig .tc .vmem S256x512 .bf16) (h11 : a11.IsWhole) (a12 : Memref sig .tc .vmem S256x512 .bf16) (h12 : a12.IsWhole) (a13 : Memref sig .tc .vmem S256x512 .bf16) (h13 : a13.IsWhole) (a14 : Memref sig .tc .vmem S256x128 .bf16) (h14 : a14.IsWhole) (a15 : Memref sig .tc .vmem S1x64 .f32) (h15 : a15.IsWhole) (a16 : Memref sig .tc .vmem S1x64 .f32) (h16 : a16.IsWhole) (a17 : Memref sig .tc .vmem S1x128 .f32) (h17 : a17.IsWhole) (a18 : Memref sig .tc .vmem S1x128 .f32) (h18 : a18.IsWhole)
variable (x0 : Vec Ideal S256x512 .f32) (x1 : Vec Ideal S256x512 .f32) (x2 : Vec Ideal S256x128 .f32) (x3 : Vec Ideal S1x128 .f32) (x4 : Vec Ideal S1x512 .f32) (x5 : Vec Ideal S1x512 .f32) (x6 : Vec Ideal S512x512 .bf16) (x7 : Vec Ideal S8x256x128 .f32) (x8 : Vec Ideal S8x256x128 .f32) (x9 : Vec Ideal S8x256x64 .bf16) (xo14 : Vec Ideal S1x64 .f32) (xo15 : Vec Ideal S1x64 .f32) (xo16 : Vec Ideal S1x128 .f32) (xs0 : Vec Ideal S1x128 .f32)

theorem outB10 (hc : ¬cond0_0 i) : out0_B_10 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xo14 xo15 xo16 xs0 = dqV x0 x4 x6 x7 := by
  unfold out0_B_10 dqV rqV
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xo14 xo15 xo16 xs0)]
  unfold kernelRun0_B
  dsimp only
  sl_unfold_words
  rw [View.canon_unit_zero (S := S256x512) z2]
  simp only [View.readAt_eq_ld, h1.read_unread, h2.read_unread, h3.read_unread, h4.read_unread, h5.read_unread, h6.read_unread, h7.read_unread, h8.read_unread, h9.read_unread, h10.read_unread, h15.read_unread, h16.read_unread, h17.read_unread, h18.read_unread, View.ld_unit_zero (S := S256x512) z2, View.ld_unit_zero (S := S256x128) z2, View.ld_unit_zero (S := S1x128) z2, View.ld_unit_zero (S := S1x512) z2, View.ld_unit_zero (S := S1x64) z2, View.ld_unit_zero (S := S512x512) z2, k0_pay6, k0_pay23, k0_pay24, k0_pay7, k0_pay8, k0_pay9, k0_pay10, k0_pay11, k0_pay12, k0_pay13, k0_pay14, k0_pay15, k0_pay16, k0_pay17, k0_pay18, k0_pay19, k0_pay20, k0_pay21, k0_pay22, shapeCast_self, head_ld x7 0 ![0, 0, 0] _ _ rfl, head_ld x7 1 ![1, 0, 0] _ _ rfl, head_ld x7 2 ![2, 0, 0] _ _ rfl, head_ld x7 3 ![3, 0, 0] _ _ rfl, head_ld x7 4 ![4, 0, 0] _ _ rfl, head_ld x7 5 ![5, 0, 0] _ _ rfl, head_ld x7 6 ![6, 0, 0] _ _ rfl, head_ld x7 7 ![7, 0, 0] _ _ rfl]
theorem outB11 (hc : ¬cond0_0 i) : out0_B_11 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xo14 xo15 xo16 xs0 = dkV x1 x5 x6 x8 := by
  unfold out0_B_11 dkV
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xo14 xo15 xo16 xs0)]
  unfold kernelRun0_B
  dsimp only
  sl_unfold_words
  rw [View.canon_unit_zero (S := S256x512) z2]
  simp only [View.readAt_eq_ld, h1.read_unread, h2.read_unread, h3.read_unread, h4.read_unread, h5.read_unread, h6.read_unread, h7.read_unread, h8.read_unread, h9.read_unread, h10.read_unread, h15.read_unread, h16.read_unread, h17.read_unread, h18.read_unread, View.ld_unit_zero (S := S256x512) z2, View.ld_unit_zero (S := S256x128) z2, View.ld_unit_zero (S := S1x128) z2, View.ld_unit_zero (S := S1x512) z2, View.ld_unit_zero (S := S1x64) z2, View.ld_unit_zero (S := S512x512) z2, k0_pay6, k0_pay23, k0_pay24, k0_pay7, k0_pay8, k0_pay9, k0_pay10, k0_pay11, k0_pay12, k0_pay13, k0_pay14, k0_pay15, k0_pay16, k0_pay17, k0_pay18, k0_pay19, k0_pay20, k0_pay21, k0_pay22, shapeCast_self, head_ld x8 0 ![0, 0, 0] _ _ rfl, head_ld x8 1 ![1, 0, 0] _ _ rfl, head_ld x8 2 ![2, 0, 0] _ _ rfl, head_ld x8 3 ![3, 0, 0] _ _ rfl, head_ld x8 4 ![4, 0, 0] _ _ rfl, head_ld x8 5 ![5, 0, 0] _ _ rfl, head_ld x8 6 ![6, 0, 0] _ _ rfl, head_ld x8 7 ![7, 0, 0] _ _ rfl]
theorem outB12 (hc : ¬cond0_0 i) : out0_B_12 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xo14 xo15 xo16 xs0 = dvV x9 := by
  unfold out0_B_12 dvV
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xo14 xo15 xo16 xs0)]
  unfold kernelRun0_B
  dsimp only
  sl_unfold_words
  rw [View.canon_unit_zero (S := S256x512) z2]
  simp only [View.readAt_eq_ld, h1.read_unread, h2.read_unread, h3.read_unread, h4.read_unread, h5.read_unread, h6.read_unread, h7.read_unread, h8.read_unread, h9.read_unread, h10.read_unread, h15.read_unread, h16.read_unread, h17.read_unread, h18.read_unread, View.ld_unit_zero (S := S256x512) z2, View.ld_unit_zero (S := S256x128) z2, View.ld_unit_zero (S := S1x128) z2, View.ld_unit_zero (S := S1x512) z2, View.ld_unit_zero (S := S1x64) z2, View.ld_unit_zero (S := S512x512) z2, shapeCast_self, vhead_ld x9 0 ![0, 0, 0] _ rfl, vhead_ld x9 1 ![1, 0, 0] _ rfl, vhead_ld x9 2 ![2, 0, 0] _ rfl, vhead_ld x9 3 ![3, 0, 0] _ rfl, vhead_ld x9 4 ![4, 0, 0] _ rfl, vhead_ld x9 5 ![5, 0, 0] _ rfl, vhead_ld x9 6 ![6, 0, 0] _ rfl, vhead_ld x9 7 ![7, 0, 0] _ rfl]
theorem outB13 (hc : ¬cond0_0 i) : out0_B_13 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xo14 xo15 xo16 xs0 = truncf .bf16 (dfV x2 x3 x7 x8 xs0) bitsLt_bf16_f32 := by
  unfold out0_B_13 dfV sufV cumV cum3V
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xo14 xo15 xo16 xs0)]
  unfold kernelRun0_B
  dsimp only
  sl_unfold_words
  rw [View.canon_unit_zero (S := S256x128) z2]
  simp only [View.readAt_eq_ld, h1.read_unread, h2.read_unread, h3.read_unread, h4.read_unread, h5.read_unread, h6.read_unread, h7.read_unread, h8.read_unread, h9.read_unread, h10.read_unread, h15.read_unread, h16.read_unread, h17.read_unread, h18.read_unread, View.ld_unit_zero (S := S256x512) z2, View.ld_unit_zero (S := S256x128) z2, View.ld_unit_zero (S := S1x128) z2, View.ld_unit_zero (S := S1x512) z2, View.ld_unit_zero (S := S1x64) z2, View.ld_unit_zero (S := S512x512) z2, k0_pay6, k0_pay23, k0_pay24, k0_pay7, k0_pay8, k0_pay9, k0_pay10, k0_pay11, k0_pay12, k0_pay13, k0_pay14, k0_pay15, k0_pay16, k0_pay17, k0_pay18, k0_pay19, k0_pay20, k0_pay21, k0_pay22, k0_pay36, k0_pay37, k0_pay38, k0_pay39, k0_pay48, shapeCast_self, head_ld x7 0 ![0, 0, 0] _ _ rfl, head_ld x7 1 ![1, 0, 0] _ _ rfl, head_ld x7 2 ![2, 0, 0] _ _ rfl, head_ld x7 3 ![3, 0, 0] _ _ rfl, head_ld x7 4 ![4, 0, 0] _ _ rfl, head_ld x7 5 ![5, 0, 0] _ _ rfl, head_ld x7 6 ![6, 0, 0] _ _ rfl, head_ld x7 7 ![7, 0, 0] _ _ rfl, head_ld x8 0 ![0, 0, 0] _ _ rfl, head_ld x8 1 ![1, 0, 0] _ _ rfl, head_ld x8 2 ![2, 0, 0] _ _ rfl, head_ld x8 3 ![3, 0, 0] _ _ rfl, head_ld x8 4 ![4, 0, 0] _ _ rfl, head_ld x8 5 ![5, 0, 0] _ _ rfl, head_ld x8 6 ![6, 0, 0] _ _ rfl, head_ld x8 7 ![7, 0, 0] _ _ rfl]
theorem outB14 (hc : ¬cond0_0 i) : out0_B_14 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xo14 xo15 xo16 xs0 = k0_pay45 (F := Ideal) (gqV x0 x6 x7) xo14 := by
  unfold out0_B_14 gqV rqV
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xo14 xo15 xo16 xs0)]
  unfold kernelRun0_B
  dsimp only
  sl_unfold_words
  rw [View.canon_unit_zero (S := S1x64) z2]
  simp only [View.readAt_eq_ld, h1.read_unread, h2.read_unread, h3.read_unread, h4.read_unread, h5.read_unread, h6.read_unread, h7.read_unread, h8.read_unread, h9.read_unread, h10.read_unread, h15.read_unread, h16.read_unread, h17.read_unread, h18.read_unread, View.ld_unit_zero (S := S256x512) z2, View.ld_unit_zero (S := S256x128) z2, View.ld_unit_zero (S := S1x128) z2, View.ld_unit_zero (S := S1x512) z2, View.ld_unit_zero (S := S1x64) z2, View.ld_unit_zero (S := S512x512) z2, k0_pay6, k0_pay23, k0_pay24, k0_pay7, k0_pay8, k0_pay9, k0_pay10, k0_pay11, k0_pay12, k0_pay13, k0_pay14, k0_pay15, k0_pay16, k0_pay17, k0_pay18, k0_pay19, k0_pay20, k0_pay21, k0_pay22, shapeCast_self, head_ld x7 0 ![0, 0, 0] _ _ rfl, head_ld x7 1 ![1, 0, 0] _ _ rfl, head_ld x7 2 ![2, 0, 0] _ _ rfl, head_ld x7 3 ![3, 0, 0] _ _ rfl, head_ld x7 4 ![4, 0, 0] _ _ rfl, head_ld x7 5 ![5, 0, 0] _ _ rfl, head_ld x7 6 ![6, 0, 0] _ _ rfl, head_ld x7 7 ![7, 0, 0] _ _ rfl]
theorem outB15 (hc : ¬cond0_0 i) : out0_B_15 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xo14 xo15 xo16 xs0 = k0_pay54 (F := Ideal) (gkV x1 x6 x8) xo15 := by
  unfold out0_B_15 gkV
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xo14 xo15 xo16 xs0)]
  unfold kernelRun0_B
  dsimp only
  sl_unfold_words
  rw [View.canon_unit_zero (S := S1x64) z2]
  simp only [View.readAt_eq_ld, h1.read_unread, h2.read_unread, h3.read_unread, h4.read_unread, h5.read_unread, h6.read_unread, h7.read_unread, h8.read_unread, h9.read_unread, h10.read_unread, h15.read_unread, h16.read_unread, h17.read_unread, h18.read_unread, View.ld_unit_zero (S := S256x512) z2, View.ld_unit_zero (S := S256x128) z2, View.ld_unit_zero (S := S1x128) z2, View.ld_unit_zero (S := S1x512) z2, View.ld_unit_zero (S := S1x64) z2, View.ld_unit_zero (S := S512x512) z2, k0_pay6, k0_pay23, k0_pay24, k0_pay7, k0_pay8, k0_pay9, k0_pay10, k0_pay11, k0_pay12, k0_pay13, k0_pay14, k0_pay15, k0_pay16, k0_pay17, k0_pay18, k0_pay19, k0_pay20, k0_pay21, k0_pay22, shapeCast_self, head_ld x8 0 ![0, 0, 0] _ _ rfl, head_ld x8 1 ![1, 0, 0] _ _ rfl, head_ld x8 2 ![2, 0, 0] _ _ rfl, head_ld x8 3 ![3, 0, 0] _ _ rfl, head_ld x8 4 ![4, 0, 0] _ _ rfl, head_ld x8 5 ![5, 0, 0] _ _ rfl, head_ld x8 6 ![6, 0, 0] _ _ rfl, head_ld x8 7 ![7, 0, 0] _ _ rfl]
theorem outB16 (hc : ¬cond0_0 i) : out0_B_16 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xo14 xo15 xo16 xs0 = k0_pay49 (F := Ideal) (dfV x2 x3 x7 x8 xs0) xo16 := by
  unfold out0_B_16 dfV sufV cumV cum3V
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xo14 xo15 xo16 xs0)]
  unfold kernelRun0_B
  dsimp only
  sl_unfold_words
  rw [View.canon_unit_zero (S := S1x128) z2]
  simp only [View.readAt_eq_ld, h1.read_unread, h2.read_unread, h3.read_unread, h4.read_unread, h5.read_unread, h6.read_unread, h7.read_unread, h8.read_unread, h9.read_unread, h10.read_unread, h15.read_unread, h16.read_unread, h17.read_unread, h18.read_unread, View.ld_unit_zero (S := S256x512) z2, View.ld_unit_zero (S := S256x128) z2, View.ld_unit_zero (S := S1x128) z2, View.ld_unit_zero (S := S1x512) z2, View.ld_unit_zero (S := S1x64) z2, View.ld_unit_zero (S := S512x512) z2, k0_pay6, k0_pay23, k0_pay24, k0_pay7, k0_pay8, k0_pay9, k0_pay10, k0_pay11, k0_pay12, k0_pay13, k0_pay14, k0_pay15, k0_pay16, k0_pay17, k0_pay18, k0_pay19, k0_pay20, k0_pay21, k0_pay22, k0_pay36, k0_pay37, k0_pay38, k0_pay39, shapeCast_self, head_ld x7 0 ![0, 0, 0] _ _ rfl, head_ld x7 1 ![1, 0, 0] _ _ rfl, head_ld x7 2 ![2, 0, 0] _ _ rfl, head_ld x7 3 ![3, 0, 0] _ _ rfl, head_ld x7 4 ![4, 0, 0] _ _ rfl, head_ld x7 5 ![5, 0, 0] _ _ rfl, head_ld x7 6 ![6, 0, 0] _ _ rfl, head_ld x7 7 ![7, 0, 0] _ _ rfl, head_ld x8 0 ![0, 0, 0] _ _ rfl, head_ld x8 1 ![1, 0, 0] _ _ rfl, head_ld x8 2 ![2, 0, 0] _ _ rfl, head_ld x8 3 ![3, 0, 0] _ _ rfl, head_ld x8 4 ![4, 0, 0] _ _ rfl, head_ld x8 5 ![5, 0, 0] _ _ rfl, head_ld x8 6 ![6, 0, 0] _ _ rfl, head_ld x8 7 ![7, 0, 0] _ _ rfl]
theorem soutB (hc : ¬cond0_0 i) : sout0_B_0 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xo14 xo15 xo16 xs0 = k0_pay46 (F := Ideal) (sufV x7 x8 xs0) := by
  unfold sout0_B_0 sufV cumV cum3V
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xo14 xo15 xo16 xs0)]
  unfold kernelRun0_B
  dsimp only
  sl_unfold_words
  rw [View.canon_unit_zero (S := S1x128) z2]
  simp only [View.readAt_eq_ld, h1.read_unread, h2.read_unread, h3.read_unread, h4.read_unread, h5.read_unread, h6.read_unread, h7.read_unread, h8.read_unread, h9.read_unread, h10.read_unread, h15.read_unread, h16.read_unread, h17.read_unread, h18.read_unread, View.ld_unit_zero (S := S256x512) z2, View.ld_unit_zero (S := S256x128) z2, View.ld_unit_zero (S := S1x128) z2, View.ld_unit_zero (S := S1x512) z2, View.ld_unit_zero (S := S1x64) z2, View.ld_unit_zero (S := S512x512) z2, k0_pay6, k0_pay23, k0_pay24, k0_pay7, k0_pay8, k0_pay9, k0_pay10, k0_pay11, k0_pay12, k0_pay13, k0_pay14, k0_pay15, k0_pay16, k0_pay17, k0_pay18, k0_pay19, k0_pay20, k0_pay21, k0_pay22, k0_pay36, k0_pay37, k0_pay38, k0_pay39, shapeCast_self, head_ld x7 0 ![0, 0, 0] _ _ rfl, head_ld x7 1 ![1, 0, 0] _ _ rfl, head_ld x7 2 ![2, 0, 0] _ _ rfl, head_ld x7 3 ![3, 0, 0] _ _ rfl, head_ld x7 4 ![4, 0, 0] _ _ rfl, head_ld x7 5 ![5, 0, 0] _ _ rfl, head_ld x7 6 ![6, 0, 0] _ _ rfl, head_ld x7 7 ![7, 0, 0] _ _ rfl, head_ld x8 0 ![0, 0, 0] _ _ rfl, head_ld x8 1 ![1, 0, 0] _ _ rfl, head_ld x8 2 ![2, 0, 0] _ _ rfl, head_ld x8 3 ![3, 0, 0] _ _ rfl, head_ld x8 4 ![4, 0, 0] _ _ rfl, head_ld x8 5 ![5, 0, 0] _ _ rfl, head_ld x8 6 ![6, 0, 0] _ _ rfl, head_ld x8 7 ![7, 0, 0] _ _ rfl]
theorem outA10 (hc : cond0_0 i) : out0_A_10 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 = dqV x0 x4 x6 x7 := by
  unfold out0_A_10 dqV rqV
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9)]
  unfold kernelRun0_A
  dsimp only
  sl_unfold_words
  rw [View.canon_unit_zero (S := S256x512) z2]
  simp only [View.readAt_eq_ld, h1.read_unread, h2.read_unread, h3.read_unread, h4.read_unread, h5.read_unread, h6.read_unread, h7.read_unread, h8.read_unread, h9.read_unread, h10.read_unread, h15.read_unread, h16.read_unread, h17.read_unread, h18.read_unread, View.ld_unit_zero (S := S256x512) z2, View.ld_unit_zero (S := S256x128) z2, View.ld_unit_zero (S := S1x128) z2, View.ld_unit_zero (S := S1x512) z2, View.ld_unit_zero (S := S1x64) z2, View.ld_unit_zero (S := S512x512) z2, View.readCov_unit_zero (S := S1x128) _ z2, View.readCov_unit_zero (S := S1x64) _ z2, k0_pay6, k0_pay23, k0_pay24, k0_pay7, k0_pay8, k0_pay9, k0_pay10, k0_pay11, k0_pay12, k0_pay13, k0_pay14, k0_pay15, k0_pay16, k0_pay17, k0_pay18, k0_pay19, k0_pay20, k0_pay21, k0_pay22, shapeCast_self, head_ld x7 0 ![0, 0, 0] _ _ rfl, head_ld x7 1 ![1, 0, 0] _ _ rfl, head_ld x7 2 ![2, 0, 0] _ _ rfl, head_ld x7 3 ![3, 0, 0] _ _ rfl, head_ld x7 4 ![4, 0, 0] _ _ rfl, head_ld x7 5 ![5, 0, 0] _ _ rfl, head_ld x7 6 ![6, 0, 0] _ _ rfl, head_ld x7 7 ![7, 0, 0] _ _ rfl]
theorem outA11 (hc : cond0_0 i) : out0_A_11 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 = dkV x1 x5 x6 x8 := by
  unfold out0_A_11 dkV
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9)]
  unfold kernelRun0_A
  dsimp only
  sl_unfold_words
  rw [View.canon_unit_zero (S := S256x512) z2]
  simp only [View.readAt_eq_ld, h1.read_unread, h2.read_unread, h3.read_unread, h4.read_unread, h5.read_unread, h6.read_unread, h7.read_unread, h8.read_unread, h9.read_unread, h10.read_unread, h15.read_unread, h16.read_unread, h17.read_unread, h18.read_unread, View.ld_unit_zero (S := S256x512) z2, View.ld_unit_zero (S := S256x128) z2, View.ld_unit_zero (S := S1x128) z2, View.ld_unit_zero (S := S1x512) z2, View.ld_unit_zero (S := S1x64) z2, View.ld_unit_zero (S := S512x512) z2, View.readCov_unit_zero (S := S1x128) _ z2, View.readCov_unit_zero (S := S1x64) _ z2, k0_pay6, k0_pay23, k0_pay24, k0_pay7, k0_pay8, k0_pay9, k0_pay10, k0_pay11, k0_pay12, k0_pay13, k0_pay14, k0_pay15, k0_pay16, k0_pay17, k0_pay18, k0_pay19, k0_pay20, k0_pay21, k0_pay22, shapeCast_self, head_ld x8 0 ![0, 0, 0] _ _ rfl, head_ld x8 1 ![1, 0, 0] _ _ rfl, head_ld x8 2 ![2, 0, 0] _ _ rfl, head_ld x8 3 ![3, 0, 0] _ _ rfl, head_ld x8 4 ![4, 0, 0] _ _ rfl, head_ld x8 5 ![5, 0, 0] _ _ rfl, head_ld x8 6 ![6, 0, 0] _ _ rfl, head_ld x8 7 ![7, 0, 0] _ _ rfl]
theorem outA12 (hc : cond0_0 i) : out0_A_12 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 = dvV x9 := by
  unfold out0_A_12 dvV
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9)]
  unfold kernelRun0_A
  dsimp only
  sl_unfold_words
  rw [View.canon_unit_zero (S := S256x512) z2]
  simp only [View.readAt_eq_ld, h1.read_unread, h2.read_unread, h3.read_unread, h4.read_unread, h5.read_unread, h6.read_unread, h7.read_unread, h8.read_unread, h9.read_unread, h10.read_unread, h15.read_unread, h16.read_unread, h17.read_unread, h18.read_unread, View.ld_unit_zero (S := S256x512) z2, View.ld_unit_zero (S := S256x128) z2, View.ld_unit_zero (S := S1x128) z2, View.ld_unit_zero (S := S1x512) z2, View.ld_unit_zero (S := S1x64) z2, View.ld_unit_zero (S := S512x512) z2, View.readCov_unit_zero (S := S1x128) _ z2, View.readCov_unit_zero (S := S1x64) _ z2, shapeCast_self, vhead_ld x9 0 ![0, 0, 0] _ rfl, vhead_ld x9 1 ![1, 0, 0] _ rfl, vhead_ld x9 2 ![2, 0, 0] _ rfl, vhead_ld x9 3 ![3, 0, 0] _ rfl, vhead_ld x9 4 ![4, 0, 0] _ rfl, vhead_ld x9 5 ![5, 0, 0] _ rfl, vhead_ld x9 6 ![6, 0, 0] _ rfl, vhead_ld x9 7 ![7, 0, 0] _ rfl]
theorem outA13 (hc : cond0_0 i) : out0_A_13 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 = truncf .bf16 (dfV x2 x3 x7 x8 (k0_pay2 (F := Ideal))) bitsLt_bf16_f32 := by
  unfold out0_A_13 dfV sufV cumV cum3V
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9)]
  unfold kernelRun0_A
  dsimp only
  sl_unfold_words
  rw [View.canon_unit_zero (S := S256x128) z2]
  simp only [View.readAt_eq_ld, h1.read_unread, h2.read_unread, h3.read_unread, h4.read_unread, h5.read_unread, h6.read_unread, h7.read_unread, h8.read_unread, h9.read_unread, h10.read_unread, h15.read_unread, h16.read_unread, h17.read_unread, h18.read_unread, View.ld_unit_zero (S := S256x512) z2, View.ld_unit_zero (S := S256x128) z2, View.ld_unit_zero (S := S1x128) z2, View.ld_unit_zero (S := S1x512) z2, View.ld_unit_zero (S := S1x64) z2, View.ld_unit_zero (S := S512x512) z2, View.readCov_unit_zero (S := S1x128) _ z2, View.readCov_unit_zero (S := S1x64) _ z2, k0_pay6, k0_pay23, k0_pay24, k0_pay7, k0_pay8, k0_pay9, k0_pay10, k0_pay11, k0_pay12, k0_pay13, k0_pay14, k0_pay15, k0_pay16, k0_pay17, k0_pay18, k0_pay19, k0_pay20, k0_pay21, k0_pay22, k0_pay36, k0_pay37, k0_pay38, k0_pay39, k0_pay48, shapeCast_self, head_ld x7 0 ![0, 0, 0] _ _ rfl, head_ld x7 1 ![1, 0, 0] _ _ rfl, head_ld x7 2 ![2, 0, 0] _ _ rfl, head_ld x7 3 ![3, 0, 0] _ _ rfl, head_ld x7 4 ![4, 0, 0] _ _ rfl, head_ld x7 5 ![5, 0, 0] _ _ rfl, head_ld x7 6 ![6, 0, 0] _ _ rfl, head_ld x7 7 ![7, 0, 0] _ _ rfl, head_ld x8 0 ![0, 0, 0] _ _ rfl, head_ld x8 1 ![1, 0, 0] _ _ rfl, head_ld x8 2 ![2, 0, 0] _ _ rfl, head_ld x8 3 ![3, 0, 0] _ _ rfl, head_ld x8 4 ![4, 0, 0] _ _ rfl, head_ld x8 5 ![5, 0, 0] _ _ rfl, head_ld x8 6 ![6, 0, 0] _ _ rfl, head_ld x8 7 ![7, 0, 0] _ _ rfl]
theorem outA14 (hc : cond0_0 i) : out0_A_14 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 = k0_pay45 (F := Ideal) (gqV x0 x6 x7) (k0_pay3 (F := Ideal)) := by
  unfold out0_A_14 gqV rqV
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9)]
  unfold kernelRun0_A
  dsimp only
  sl_unfold_words
  rw [View.canon_cons_unit_zero (S := S1x64) z2]
  simp only [View.readAt_eq_ld, h1.read_unread, h2.read_unread, h3.read_unread, h4.read_unread, h5.read_unread, h6.read_unread, h7.read_unread, h8.read_unread, h9.read_unread, h10.read_unread, h15.read_unread, h16.read_unread, h17.read_unread, h18.read_unread, View.ld_unit_zero (S := S256x512) z2, View.ld_unit_zero (S := S256x128) z2, View.ld_unit_zero (S := S1x128) z2, View.ld_unit_zero (S := S1x512) z2, View.ld_unit_zero (S := S1x64) z2, View.ld_unit_zero (S := S512x512) z2, View.readCov_unit_zero (S := S1x128) _ z2, View.readCov_unit_zero (S := S1x64) _ z2, k0_pay6, k0_pay23, k0_pay24, k0_pay7, k0_pay8, k0_pay9, k0_pay10, k0_pay11, k0_pay12, k0_pay13, k0_pay14, k0_pay15, k0_pay16, k0_pay17, k0_pay18, k0_pay19, k0_pay20, k0_pay21, k0_pay22, shapeCast_self, head_ld x7 0 ![0, 0, 0] _ _ rfl, head_ld x7 1 ![1, 0, 0] _ _ rfl, head_ld x7 2 ![2, 0, 0] _ _ rfl, head_ld x7 3 ![3, 0, 0] _ _ rfl, head_ld x7 4 ![4, 0, 0] _ _ rfl, head_ld x7 5 ![5, 0, 0] _ _ rfl, head_ld x7 6 ![6, 0, 0] _ _ rfl, head_ld x7 7 ![7, 0, 0] _ _ rfl]
theorem outA15 (hc : cond0_0 i) : out0_A_15 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 = k0_pay54 (F := Ideal) (gkV x1 x6 x8) (k0_pay4 (F := Ideal)) := by
  unfold out0_A_15 gkV
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9)]
  unfold kernelRun0_A
  dsimp only
  sl_unfold_words
  rw [View.canon_cons_unit_zero (S := S1x64) z2]
  simp only [View.readAt_eq_ld, h1.read_unread, h2.read_unread, h3.read_unread, h4.read_unread, h5.read_unread, h6.read_unread, h7.read_unread, h8.read_unread, h9.read_unread, h10.read_unread, h15.read_unread, h16.read_unread, h17.read_unread, h18.read_unread, View.ld_unit_zero (S := S256x512) z2, View.ld_unit_zero (S := S256x128) z2, View.ld_unit_zero (S := S1x128) z2, View.ld_unit_zero (S := S1x512) z2, View.ld_unit_zero (S := S1x64) z2, View.ld_unit_zero (S := S512x512) z2, View.readCov_unit_zero (S := S1x128) _ z2, View.readCov_unit_zero (S := S1x64) _ z2, k0_pay6, k0_pay23, k0_pay24, k0_pay7, k0_pay8, k0_pay9, k0_pay10, k0_pay11, k0_pay12, k0_pay13, k0_pay14, k0_pay15, k0_pay16, k0_pay17, k0_pay18, k0_pay19, k0_pay20, k0_pay21, k0_pay22, shapeCast_self, head_ld x8 0 ![0, 0, 0] _ _ rfl, head_ld x8 1 ![1, 0, 0] _ _ rfl, head_ld x8 2 ![2, 0, 0] _ _ rfl, head_ld x8 3 ![3, 0, 0] _ _ rfl, head_ld x8 4 ![4, 0, 0] _ _ rfl, head_ld x8 5 ![5, 0, 0] _ _ rfl, head_ld x8 6 ![6, 0, 0] _ _ rfl, head_ld x8 7 ![7, 0, 0] _ _ rfl]
theorem outA16 (hc : cond0_0 i) : out0_A_16 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 = k0_pay49 (F := Ideal) (dfV x2 x3 x7 x8 (k0_pay2 (F := Ideal))) (k0_pay5 (F := Ideal)) := by
  unfold out0_A_16 dfV sufV cumV cum3V
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9)]
  unfold kernelRun0_A
  dsimp only
  sl_unfold_words
  rw [View.canon_cons_unit_zero (S := S1x128) z2]
  simp only [View.readAt_eq_ld, h1.read_unread, h2.read_unread, h3.read_unread, h4.read_unread, h5.read_unread, h6.read_unread, h7.read_unread, h8.read_unread, h9.read_unread, h10.read_unread, h15.read_unread, h16.read_unread, h17.read_unread, h18.read_unread, View.ld_unit_zero (S := S256x512) z2, View.ld_unit_zero (S := S256x128) z2, View.ld_unit_zero (S := S1x128) z2, View.ld_unit_zero (S := S1x512) z2, View.ld_unit_zero (S := S1x64) z2, View.ld_unit_zero (S := S512x512) z2, View.readCov_unit_zero (S := S1x128) _ z2, View.readCov_unit_zero (S := S1x64) _ z2, k0_pay6, k0_pay23, k0_pay24, k0_pay7, k0_pay8, k0_pay9, k0_pay10, k0_pay11, k0_pay12, k0_pay13, k0_pay14, k0_pay15, k0_pay16, k0_pay17, k0_pay18, k0_pay19, k0_pay20, k0_pay21, k0_pay22, k0_pay36, k0_pay37, k0_pay38, k0_pay39, shapeCast_self, head_ld x7 0 ![0, 0, 0] _ _ rfl, head_ld x7 1 ![1, 0, 0] _ _ rfl, head_ld x7 2 ![2, 0, 0] _ _ rfl, head_ld x7 3 ![3, 0, 0] _ _ rfl, head_ld x7 4 ![4, 0, 0] _ _ rfl, head_ld x7 5 ![5, 0, 0] _ _ rfl, head_ld x7 6 ![6, 0, 0] _ _ rfl, head_ld x7 7 ![7, 0, 0] _ _ rfl, head_ld x8 0 ![0, 0, 0] _ _ rfl, head_ld x8 1 ![1, 0, 0] _ _ rfl, head_ld x8 2 ![2, 0, 0] _ _ rfl, head_ld x8 3 ![3, 0, 0] _ _ rfl, head_ld x8 4 ![4, 0, 0] _ _ rfl, head_ld x8 5 ![5, 0, 0] _ _ rfl, head_ld x8 6 ![6, 0, 0] _ _ rfl, head_ld x8 7 ![7, 0, 0] _ _ rfl]
theorem soutA (hc : cond0_0 i) : sout0_A_0 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 = k0_pay46 (F := Ideal) (sufV x7 x8 (k0_pay2 (F := Ideal))) := by
  unfold sout0_A_0 sufV cumV cum3V
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9)]
  unfold kernelRun0_A
  dsimp only
  sl_unfold_words
  rw [View.canon_cons_unit_zero (S := S1x128) z2]
  simp only [View.readAt_eq_ld, h1.read_unread, h2.read_unread, h3.read_unread, h4.read_unread, h5.read_unread, h6.read_unread, h7.read_unread, h8.read_unread, h9.read_unread, h10.read_unread, h15.read_unread, h16.read_unread, h17.read_unread, h18.read_unread, View.ld_unit_zero (S := S256x512) z2, View.ld_unit_zero (S := S256x128) z2, View.ld_unit_zero (S := S1x128) z2, View.ld_unit_zero (S := S1x512) z2, View.ld_unit_zero (S := S1x64) z2, View.ld_unit_zero (S := S512x512) z2, View.readCov_unit_zero (S := S1x128) _ z2, View.readCov_unit_zero (S := S1x64) _ z2, k0_pay6, k0_pay23, k0_pay24, k0_pay7, k0_pay8, k0_pay9, k0_pay10, k0_pay11, k0_pay12, k0_pay13, k0_pay14, k0_pay15, k0_pay16, k0_pay17, k0_pay18, k0_pay19, k0_pay20, k0_pay21, k0_pay22, k0_pay36, k0_pay37, k0_pay38, k0_pay39, shapeCast_self, head_ld x7 0 ![0, 0, 0] _ _ rfl, head_ld x7 1 ![1, 0, 0] _ _ rfl, head_ld x7 2 ![2, 0, 0] _ _ rfl, head_ld x7 3 ![3, 0, 0] _ _ rfl, head_ld x7 4 ![4, 0, 0] _ _ rfl, head_ld x7 5 ![5, 0, 0] _ _ rfl, head_ld x7 6 ![6, 0, 0] _ _ rfl, head_ld x7 7 ![7, 0, 0] _ _ rfl, head_ld x8 0 ![0, 0, 0] _ _ rfl, head_ld x8 1 ![1, 0, 0] _ _ rfl, head_ld x8 2 ![2, 0, 0] _ _ rfl, head_ld x8 3 ![3, 0, 0] _ _ rfl, head_ld x8 4 ![4, 0, 0] _ _ rfl, head_ld x8 5 ![5, 0, 0] _ _ rfl, head_ld x8 6 ![6, 0, 0] _ _ rfl, head_ld x8 7 ![7, 0, 0] _ _ rfl]

end steps
end Cert.Post
-- ==== Proof.PostAt.lean ====
module

public import proofs.«01_k».proof.Proof.PostVec

@[expose] public section

set_option maxRecDepth 16384

noncomputable section

namespace Cert.Post

open Cert.FoxPostIdeal Cert.FoxPostIdeal.Gen
open Idealize.ShloMosaic
open Idealize.ShloMosaic.TcCoe Idealize.ShloMosaic.Tactic

/-! One grid step's tiles, entry by entry, over the reals. -/

/-- The column of a head's dimension. -/
def col (h : Fin 8) (d : Fin 64) : Fin 512 := ⟨64 * h.val + d.val, by omega⟩
/-- The column of a head's dimension among the first or the last four heads. -/
def col4 (h : Fin 4) (d : Fin 64) : Fin 256 := ⟨64 * h.val + d.val, by omega⟩

theorem col_surj (c : Fin 512) : ∃ h d, c = col h d :=
  ⟨⟨c.val / 64, by omega⟩, ⟨c.val % 64, by omega⟩, Fin.ext (by show c.val = 64 * (c.val / 64) + c.val % 64; omega)⟩

theorem sum_col4 (f : Fin 256 → ℝ) : ∑ k, f k = ∑ a, ∑ e, f (col4 a e) := by
  rw [← Fintype.sum_prod_type' (f := fun a e => f (col4 a e))]
  refine (Fintype.sum_equiv (finProdFinEquiv (m := 4) (n := 64)) _ _ fun x => congrArg f (Fin.ext ?_)).symm
  show 64 * x.1.val + x.2.val = x.2.val + 64 * x.1.val
  omega

/-- Every head's mean, spread over its columns. -/
def meanV (z : FVec Ideal S256x512 .f32) (s : FVec Ideal S512x512 .bf16) : FVec Ideal S256x512 .f32 :=
  concatenate S256x512 1 [
    ⟨S256x256, addf
      (matmul dot_S256x256_S256x256_S256x256_1_0_0_1_n_n none (extractStridedSlice S256x256 ![0, 0] (truncf .bf16 z bitsLt_bf16_f32) slices_S256x512_o0_0_S256x256) (extractStridedSlice S256x256 ![0, 0] s slices_S512x512_o0_0_S256x256) (constant S256x256 .f32 0x00000000#32))
      (matmul dot_S256x256_S256x256_S256x256_1_0_0_1_n_n none (extractStridedSlice S256x256 ![0, 0] (truncf .bf16 (subf z (extf .f32 (truncf .bf16 z bitsLt_bf16_f32) bitsLt_bf16_f32)) bitsLt_bf16_f32) slices_S256x512_o0_0_S256x256) (extractStridedSlice S256x256 ![0, 0] s slices_S512x512_o0_0_S256x256) (constant S256x256 .f32 0x00000000#32))⟩,
    ⟨S256x256, addf
      (matmul dot_S256x256_S256x256_S256x256_1_0_0_1_n_n none (extractStridedSlice S256x256 ![0, 256] (truncf .bf16 z bitsLt_bf16_f32) slices_S256x512_o0_256_S256x256) (extractStridedSlice S256x256 ![0, 0] s slices_S512x512_o0_0_S256x256) (constant S256x256 .f32 0x00000000#32))
      (matmul dot_S256x256_S256x256_S256x256_1_0_0_1_n_n none (extractStridedSlice S256x256 ![0, 256] (truncf .bf16 (subf z (extf .f32 (truncf .bf16 z bitsLt_bf16_f32) bitsLt_bf16_f32)) bitsLt_bf16_f32) slices_S256x512_o0_256_S256x256) (extractStridedSlice S256x256 ![0, 0] s slices_S512x512_o0_0_S256x256) (constant S256x256 .f32 0x00000000#32))⟩]
    concatenates_S256x256_S256x256_S256x512_d1

/-- The reciprocal root mean squares. -/
def rV (x : FVec Ideal S256x512 .f32) (s : FVec Ideal S512x512 .bf16) : FVec Ideal S256x512 .f32 :=
  rsqrt (addf (meanV (mulf x x) s) (broadcast S256x512 (Scalar.ofBits .f32 0x358637BD#32)))
/-- The norm's gradient of rows `x` for the rows `y` flowing back. -/
def backV (x y : FVec Ideal S256x512 .f32) (g : Vec Ideal S1x512 .f32) (s : FVec Ideal S512x512 .bf16) : FVec Ideal S256x512 .f32 :=
  mulf (rV x s) (subf (mulf y (broadcastTo S256x512 g broadcasts_S1x512_S256x512))
    (mulf (mulf x (rV x s)) (meanV (mulf (mulf y (broadcastTo S256x512 g broadcasts_S1x512_S256x512)) (mulf x (rV x s))) s)))

theorem rqV_eq (x : Vec Ideal S256x512 .f32) (s : Vec Ideal S512x512 .bf16) : rqV x s = rV x s := by
  unfold rqV rV meanV k0_pay31 k0_pay29 k0_pay30 k0_pay28 k0_pay27 k0_pay26 k0_pay25 k0_pay23
  dsimp only
  rw [show shapeCast S256x512 x shapeCasts_S256x512_S256x512 = x from shapeCast_self _ _]
theorem rkV_eq (x : Vec Ideal S256x512 .f32) (s : Vec Ideal S512x512 .bf16) : k0_pay32 (F := Ideal) s x = rV x s := by
  unfold rV meanV k0_pay32
  rfl
theorem dqV_eq (x0 x4 s x7) : dqV x0 x4 s x7 = truncf .bf16 (backV x0 (k0_pay41 (F := Ideal) (head x7 0) (head x7 1) (head x7 2) (head x7 3) (head x7 4) (head x7 5) (head x7 6) (head x7 7)) x4 s) bitsLt_bf16_f32 := by
  unfold dqV backV k0_pay44 k0_pay42 meanV
  rw [rqV_eq]
  dsimp only
  rw [show shapeCast S1x512 x4 shapeCasts_S1x512_S1x512 = x4 from shapeCast_self _ _]
theorem dkV_eq (x1 x5 s x8) : dkV x1 x5 s x8 = truncf .bf16 (backV x1 (k0_pay50 (F := Ideal) (head x8 0) (head x8 1) (head x8 2) (head x8 3) (head x8 4) (head x8 5) (head x8 6) (head x8 7)) x5 s) bitsLt_bf16_f32 := by
  unfold dkV backV k0_pay53 k0_pay51 meanV
  rw [rkV_eq]
  dsimp only
  rw [show shapeCast S1x512 x5 shapeCasts_S1x512_S1x512 = x5 from shapeCast_self _ _]

/-- A product with the heads' averaging matrix, its small part included, is a head's mean. -/
theorem half (f g : Fin 256 → EReal) (Z : Fin 4 → Fin 64 → ℝ) (h : Fin 4) (hf : ∀ a e, f (col4 a e) = (Z a e : ℝ))
    (hg : ∀ a e, g (col4 a e) = ((if a = h then 1 / 64 else 0 : ℝ) : EReal)) :
    (∑ k, f k * g k) + ∑ k, (f k - f k) * g k = (((∑ e, Z h e) / 64 : ℝ) : EReal) := by
  have surj : ∀ k : Fin 256, k = col4 ⟨k.val / 64, by omega⟩ ⟨k.val % 64, by omega⟩ := fun k => Fin.ext (by show k.val = 64 * (k.val / 64) + k.val % 64; omega)
  have e1 : ∑ k, f k * g k = ((∑ k : Fin 256, Z ⟨k.val / 64, by omega⟩ ⟨k.val % 64, by omega⟩ * (if (⟨k.val / 64, by omega⟩ : Fin 4) = h then 1 / 64 else 0) : ℝ) : EReal) :=
    FoxReal.sum_coe fun k _ => by rw [surj k, hf, hg, ← EReal.coe_mul, ← surj k]
  have e2 : ∑ k, (f k - f k) * g k = ((∑ k : Fin 256, (0 : ℝ) : ℝ) : EReal) :=
    FoxReal.sum_coe fun k _ => by rw [surj k, hf, hg, ← EReal.coe_sub, ← EReal.coe_mul, sub_self, zero_mul]
  rw [e1, e2, ← EReal.coe_add, Finset.sum_const_zero, add_zero, sum_col4]
  congr 1
  have e3 : ∀ a e, Z ⟨(col4 a e).val / 64, by omega⟩ ⟨(col4 a e).val % 64, by omega⟩ * (if (⟨(col4 a e).val / 64, by omega⟩ : Fin 4) = h then 1 / 64 else 0) = if a = h then Z a e / 64 else 0 := fun a e => by
    have ha : (⟨(col4 a e).val / 64, by omega⟩ : Fin 4) = a := Fin.ext (by show (64 * a.val + e.val) / 64 = a.val; omega)
    have he : (⟨(col4 a e).val % 64, by omega⟩ : Fin 64) = e := Fin.ext (by show (64 * a.val + e.val) % 64 = e.val; omega)
    rw [ha, he]
    split <;> ring
  simp only [e3]
  rw [Finset.sum_comm]
  simp only [Finset.sum_ite_eq', Finset.mem_univ, if_true]
  rw [Finset.sum_div]

/-- The averaging matrix: a 64th inside a head's block, zero outside. -/
def Averages (s : FVec Ideal S512x512 .bf16) : Prop := ∀ a e h d, s (ix2 (col a e) (col h d)) = ((if a = h then 1 / 64 else 0 : ℝ) : EReal)

theorem mean_at (z : FVec Ideal S256x512 .f32) (s : FVec Ideal S512x512 .bf16) (hs : Averages s) (r : Fin 256) (Z : Fin 8 → Fin 64 → ℝ) (hz : ∀ h d, z (ix2 r (col h d)) = (Z h d : ℝ)) (h : Fin 8) (d : Fin 64) :
    meanV z s (ix2 r (col h d)) = (((∑ e, Z h e) / 64 : ℝ) : EReal) := by
  unfold meanV; pointwise
  split
  · rename_i hc
    have hh : h.val < 4 := by have : 64 * h.val + d.val < 256 := hc; omega
    refine half (fun k => z (ix2 r ⟨k.val, _⟩)) (fun k => s (ix2 ⟨k.val, _⟩ (col h d))) (fun a e => Z ⟨a.val, by omega⟩ e) ⟨h.val, hh⟩ (fun a e => hz ⟨a.val, by omega⟩ e) (fun a e => ?_)
    refine (hs ⟨a.val, by omega⟩ e h d).trans ?_
    simp only [Fin.ext_iff]
  · rename_i hc
    have hh : ¬ h.val < 4 := by have : ¬ 64 * h.val + d.val < 256 := hc; omega
    have e1 : ∀ (a : Fin 4) (e : Fin 64), (⟨256 + (col4 a e).val, by omega⟩ : Fin 512) = col ⟨4 + a.val, by omega⟩ e := fun a e => Fin.ext (by show 256 + (64 * a.val + e.val) = 64 * (4 + a.val) + e.val; omega)
    have e2 : (⟨(col h d).val - 256, by omega⟩ : Fin 512) = col ⟨h.val - 4, by omega⟩ d := Fin.ext (by show 64 * h.val + d.val - 256 = 64 * (h.val - 4) + d.val; omega)
    have e3 : (⟨4 + (h.val - 4), by omega⟩ : Fin 8) = h := Fin.ext (by show 4 + (h.val - 4) = h.val; omega)
    refine (half (fun k => z (ix2 r ⟨256 + k.val, _⟩)) (fun k => s (ix2 ⟨k.val, _⟩ ⟨(col h d).val - 256, _⟩)) (fun a e => Z ⟨4 + a.val, by omega⟩ e) ⟨h.val - 4, by omega⟩ (fun a e => ?_) (fun a e => ?_)).trans ?_
    · exact (congrArg (fun c => z (ix2 r c)) (e1 a e)).trans (hz _ e)
    · refine (congrArg (fun c => s (ix2 _ c)) e2).trans ((hs ⟨a.val, by omega⟩ e ⟨h.val - 4, by omega⟩ d).trans ?_)
      simp only [Fin.ext_iff]
    · simp only [e3]

/-- Eight heads beside one another, read at a head's column. -/
theorem cat8 (f : Fin 8 → Fin 128 → EReal) (c : Fin 512) (w : ∀ n, n < 64 → n < 128) (h : Fin 8) (d : Fin 64) (hc : c = col h d)
    (hl : ¬ c.val < 64 → ¬ c.val - 64 < 64 → ¬ c.val - 64 - 64 < 64 → ¬ c.val - 64 - 64 - 64 < 64 → ¬ c.val - 64 - 64 - 64 - 64 < 64 → ¬ c.val - 64 - 64 - 64 - 64 - 64 < 64 → ¬ c.val - 64 - 64 - 64 - 64 - 64 - 64 < 64 → c.val - 64 - 64 - 64 - 64 - 64 - 64 - 64 < 128) :
    (if h1 : c.val < 64 then f 0 ⟨c.val, w _ h1⟩
      else if h2 : c.val - 64 < 64 then f 1 ⟨c.val - 64, w _ h2⟩
      else if h3 : c.val - 64 - 64 < 64 then f 2 ⟨c.val - 64 - 64, w _ h3⟩
      else if h4 : c.val - 64 - 64 - 64 < 64 then f 3 ⟨c.val - 64 - 64 - 64, w _ h4⟩
      else if h5 : c.val - 64 - 64 - 64 - 64 < 64 then f 4 ⟨c.val - 64 - 64 - 64 - 64, w _ h5⟩
      else if h6 : c.val - 64 - 64 - 64 - 64 - 64 < 64 then f 5 ⟨c.val - 64 - 64 - 64 - 64 - 64, w _ h6⟩
      else if h7 : c.val - 64 - 64 - 64 - 64 - 64 - 64 < 64 then f 6 ⟨c.val - 64 - 64 - 64 - 64 - 64 - 64, w _ h7⟩
      else f 7 ⟨c.val - 64 - 64 - 64 - 64 - 64 - 64 - 64, hl h1 h2 h3 h4 h5 h6 h7⟩) = f h (d.castLE (by decide)) := by
  have hv : c.val = 64 * h.val + d.val := congrArg Fin.val hc
  have key : ∀ (j : Fin 8) (n : ℕ) (hn : n < 128), j.val = h.val → n = d.val → f j ⟨n, hn⟩ = f h (d.castLE (by decide)) := fun j n hn hj hnd => by
    obtain rfl : j = h := Fin.ext hj
    exact congrArg (f j) (Fin.ext hnd)
  have := h.isLt
  split_ifs <;> refine key _ _ _ ?_ ?_ <;> first | omega | (show (_ : ℕ) = _; omega)

theorem pay41_at (x7 : Vec Ideal S8x256x128 .f32) (r : Fin 256) (h : Fin 8) (d : Fin 64) :
    k0_pay41 (F := Ideal) (head x7 0) (head x7 1) (head x7 2) (head x7 3) (head x7 4) (head x7 5) (head x7 6) (head x7 7) (ix2 r (col h d)) = x7 (ix3 h r (d.castLE (by decide))) * Ideal.ofBits .f32 0x3E000000#32 := by
  unfold k0_pay41; pointwise
  exact congrArg (· * _) (cat8 (fun h d => head x7 h (ix2 r d)) (col h d) (fun n hn => by omega) h d rfl (fun _ _ _ _ _ _ _ => by omega))
theorem pay50_at (x8 : Vec Ideal S8x256x128 .f32) (r : Fin 256) (h : Fin 8) (d : Fin 64) :
    k0_pay50 (F := Ideal) (head x8 0) (head x8 1) (head x8 2) (head x8 3) (head x8 4) (head x8 5) (head x8 6) (head x8 7) (ix2 r (col h d)) = x8 (ix3 h r (d.castLE (by decide))) := by
  unfold k0_pay50; pointwise
  exact cat8 (fun h d => head x8 h (ix2 r d)) (col h d) (fun n hn => by omega) h d rfl (fun _ _ _ _ _ _ _ => by omega)
end Cert.Post
-- ==== Proof.PostRows.lean ====
module

public import proofs.«01_k».proof.Proof.PostAt

@[expose] public section

set_option maxRecDepth 16384

noncomputable section

namespace Cert.Post

open Cert.FoxPostIdeal Cert.FoxPostIdeal.Gen
open Idealize.ShloMosaic
open Idealize.ShloMosaic.TcCoe Idealize.ShloMosaic.Tactic

/-! One grid step's stores over the reals: the norms' gradients and the gate's. -/

/-- The norm's epsilon. -/
def eps : ℝ := (Ideal.ofBits .f32 0x358637BD#32 : EReal).toReal
theorem eps_coe : (Ideal.ofBits .f32 0x358637BD#32 : EReal) = ((eps : ℝ) : EReal) := by
  unfold eps
  simp [Ideal.ofBits, Ideal.ieee]
  rw [← EReal.coe_mul, EReal.toReal_coe]
theorem eps_pos : 0 < eps := by
  have h : (Ideal.ofBits .f32 0x358637BD#32 : EReal) > 0 := by
    simp [Ideal.ofBits, Ideal.ieee]
    rw [← EReal.coe_mul]
    norm_num
  rw [eps_coe] at h
  exact_mod_cast h

/-- A row's mean square with the epsilon. -/
def ms (X : Fin 64 → ℝ) : ℝ := (∑ e, X e * X e) / 64 + eps
theorem ms_pos (X : Fin 64 → ℝ) : 0 < ms X :=
  add_pos_of_nonneg_of_pos (div_nonneg (Finset.sum_nonneg fun e _ => mul_self_nonneg (X e)) (by norm_num)) eps_pos
/-- A row's reciprocal root mean square. -/
def rr (X : Fin 64 → ℝ) : ℝ := (Real.sqrt (ms X))⁻¹
theorem rsqrt_ms (X : Fin 64 → ℝ) : Ideal.rsqrt ((ms X : ℝ) : EReal) = (rr X : ℝ) := by
  rw [Ideal.rsqrt_coe, if_neg (not_lt.mpr (ms_pos X).le), if_neg (ms_pos X).ne']; rfl
/-- The gradient of a normalised row. -/
def rowgrad (X D : Fin 64 → ℝ) (d : Fin 64) : ℝ := rr X * (D d - X d * rr X * ((∑ e, D e * (X e * rr X)) / 64))

section rows
variable (x y : FVec Ideal S256x512 .f32) (g : Vec Ideal S1x512 .f32) (s : FVec Ideal S512x512 .bf16) (hs : Averages s) (r : Fin 256)
variable (X Y : Fin 8 → Fin 64 → ℝ) (G : Fin 64 → ℝ) (hx : ∀ h d, x (ix2 r (col h d)) = (X h d : ℝ)) (hy : ∀ h d, y (ix2 r (col h d)) = (Y h d : ℝ)) (hg : ∀ h d, g (ix2 0 (col h d)) = (G d : ℝ))
include hs hx

theorem rV_at (h : Fin 8) (d : Fin 64) : rV x s (ix2 r (col h d)) = (rr (X h) : ℝ) := by
  have e : rV x s (ix2 r (col h d)) = Ideal.rsqrt (meanV (mulf x x) s (ix2 r (col h d)) + Ideal.ofBits .f32 0x358637BD#32) := rfl
  rw [e, mean_at (mulf x x) s hs r (fun h d => X h d * X h d) (fun h d => by
    show x _ * x _ = _
    rw [hx, EReal.coe_mul]) h d, eps_coe, ← EReal.coe_add]
  exact rsqrt_ms (X h)

include hy hg
theorem backV_at (h : Fin 8) (d : Fin 64) : backV x y g s (ix2 r (col h d)) = (rowgrad (X h) (fun d => Y h d * G d) d : ℝ) := by
  have hb : ∀ h d, broadcastTo S256x512 g broadcasts_S1x512_S256x512 (ix2 r (col h d)) = (G d : ℝ) := fun h d => by
    rw [← hg h d]; pointwise
  have hr := rV_at x s hs r X hx
  have e : backV x y g s (ix2 r (col h d)) = rV x s (ix2 r (col h d)) * (y (ix2 r (col h d)) * broadcastTo S256x512 g broadcasts_S1x512_S256x512 (ix2 r (col h d)) -
      x (ix2 r (col h d)) * rV x s (ix2 r (col h d)) * meanV (mulf (mulf y (broadcastTo S256x512 g broadcasts_S1x512_S256x512)) (mulf x (rV x s))) s (ix2 r (col h d))) := rfl
  rw [e, mean_at _ s hs r (fun h d => Y h d * G d * (X h d * rr (X h))) (fun h d => by
    show y _ * broadcastTo S256x512 g broadcasts_S1x512_S256x512 _ * (x _ * rV x s _) = _
    rw [hx, hy, hb, hr, ← EReal.coe_mul, ← EReal.coe_mul, ← EReal.coe_mul]) h d, hr, hb, hx, hy]
  simp only [← EReal.coe_mul, ← EReal.coe_sub]
  rfl
end rows

theorem eighth : (Ideal.ofBits .f32 0x3E000000#32 : EReal) = ((0.125 : ℝ) : EReal) := FoxReal.bits_eighth

theorem gqV_at (x0 : Vec Ideal S256x512 .f32) (s : Vec Ideal S512x512 .bf16) (x7 : Vec Ideal S8x256x128 .f32) (hs : Averages s) (r : Fin 256) (X D : Fin 8 → Fin 64 → ℝ)
    (hx : ∀ h d, x0 (ix2 r (col h d)) = (X h d : ℝ)) (hd : ∀ h d, x7 (ix3 h r (d.castLE (by decide))) = (D h d : ℝ)) (h : Fin 8) (d : Fin 64) :
    gqV x0 s x7 (ix2 r (col h d)) = ((D h d * 0.125 * (X h d * rr (X h)) : ℝ) : EReal) := by
  have e : gqV x0 s x7 (ix2 r (col h d)) = k0_pay41 (F := Ideal) (head x7 0) (head x7 1) (head x7 2) (head x7 3) (head x7 4) (head x7 5) (head x7 6) (head x7 7) (ix2 r (col h d)) * (x0 (ix2 r (col h d)) * rqV x0 s (ix2 r (col h d))) := rfl
  rw [e, pay41_at, hd, eighth, rqV_eq, rV_at x0 s hs r X hx, hx, ← EReal.coe_mul, ← EReal.coe_mul, ← EReal.coe_mul]
theorem gkV_at (x1 : Vec Ideal S256x512 .f32) (s : Vec Ideal S512x512 .bf16) (x8 : Vec Ideal S8x256x128 .f32) (hs : Averages s) (r : Fin 256) (X D : Fin 8 → Fin 64 → ℝ)
    (hx : ∀ h d, x1 (ix2 r (col h d)) = (X h d : ℝ)) (hd : ∀ h d, x8 (ix3 h r (d.castLE (by decide))) = (D h d : ℝ)) (h : Fin 8) (d : Fin 64) :
    gkV x1 s x8 (ix2 r (col h d)) = ((D h d * (X h d * rr (X h)) : ℝ) : EReal) := by
  have e : gkV x1 s x8 (ix2 r (col h d)) = k0_pay50 (F := Ideal) (head x8 0) (head x8 1) (head x8 2) (head x8 3) (head x8 4) (head x8 5) (head x8 6) (head x8 7) (ix2 r (col h d)) * (x1 (ix2 r (col h d)) * k0_pay32 (F := Ideal) s x1 (ix2 r (col h d))) := rfl
  rw [e, pay50_at, hd, rkV_eq, rV_at x1 s hs r X hx, hx, ← EReal.coe_mul, ← EReal.coe_mul]

theorem sum8 (v : FVec Ideal S256x512 .f32) (o : EReal) (d : Fin 64) (w : ∀ n, n + 64 ≤ 512 → n + d.val < 512) (w0 : d.val < 512) :
    o + (∑ x : Fin 256, v (ix2 x ⟨d.val, w0⟩) + ∑ x : Fin 256, v (ix2 x ⟨64 + d.val, w 64 (by decide)⟩) + ∑ x : Fin 256, v (ix2 x ⟨128 + d.val, w 128 (by decide)⟩) + ∑ x : Fin 256, v (ix2 x ⟨192 + d.val, w 192 (by decide)⟩) +
      ∑ x : Fin 256, v (ix2 x ⟨256 + d.val, w 256 (by decide)⟩) + ∑ x : Fin 256, v (ix2 x ⟨320 + d.val, w 320 (by decide)⟩) + ∑ x : Fin 256, v (ix2 x ⟨384 + d.val, w 384 (by decide)⟩) + ∑ x : Fin 256, v (ix2 x ⟨448 + d.val, w 448 (by decide)⟩)) =
    o + ∑ h, ∑ r, v (ix2 r (col h d)) := by
  rw [Fin.sum_univ_eight, show (⟨d.val, w0⟩ : Fin 512) = col 0 d from Fin.ext (Nat.zero_add _).symm]
  rfl
theorem pay45_at (v : FVec Ideal S256x512 .f32) (o : Vec Ideal S1x64 .f32) (d : Fin 64) :
    k0_pay45 (F := Ideal) v o (ix2 0 d) = o (ix2 0 d) + ∑ h, ∑ r, v (ix2 r (col h d)) := by
  unfold k0_pay45; pointwise
  exact sum8 v _ d (fun n hn => by omega) _
theorem pay54_at (v : FVec Ideal S256x512 .f32) (o : Vec Ideal S1x64 .f32) (d : Fin 64) :
    k0_pay54 (F := Ideal) v o (ix2 0 d) = o (ix2 0 d) + ∑ h, ∑ r, v (ix2 r (col h d)) := by
  unfold k0_pay54; pointwise
  exact sum8 v _ d (fun n hn => by omega) _

theorem eq_bit : ∀ (c : Fin 128) (n : Fin 8), IntOp.cmpi CmpIPredicate.eq (BitVec.ofNat 32 c.val) (BitVec.ofNat 32 n.val) = if c.val = n.val then 1#1 else 0#1 := by decide +kernel
theorem lt_bit : ∀ c : Fin 128, IntOp.cmpi CmpIPredicate.slt (BitVec.ofNat 32 c.val) 8#32 = if c.val < 8 then 1#1 else 0#1 := by decide +kernel
theorem ge_bit : ∀ r c : Fin 256, IntOp.cmpi CmpIPredicate.sge (BitVec.ofNat 32 c.val) (BitVec.ofNat 32 r.val) = if r.val ≤ c.val then 1#1 else 0#1 := by decide +kernel

theorem sel (c : Fin 128) (n : ℕ) (hn : n < 8) (a b : EReal) : Scalar.select (IntOp.cmpi CmpIPredicate.eq (BitVec.ofNat 32 c.val) (BitVec.ofNat 32 n)) a b = if c.val = n then a else b := by
  rw [eq_bit c ⟨n, hn⟩]
  show Scalar.select (if c.val = n then 1#1 else 0#1) a b = _
  split <;> rfl

theorem pay33_at (x7 x8 : Vec Ideal S8x256x128 .f32) (r : Fin 256) (c : Fin 128) :
    cum3V x7 x8 (ix2 r c) = if c.val = 2 then x7 (ix3 2 r 64) - x8 (ix3 2 r 67) else if c.val = 1 then x7 (ix3 1 r 64) - x8 (ix3 1 r 67) else if c.val = 0 then x7 (ix3 0 r 64) - x8 (ix3 0 r 67) else 0 := by
  unfold cum3V k0_pay33; pointwise
  rw [sel c 2 (by decide), sel c 1 (by decide), sel c 0 (by decide)]
  rfl
theorem pay34_at (x7 x8 : Vec Ideal S8x256x128 .f32) (p : FVec Ideal S256x128 .f32) (r : Fin 256) (c : Fin 128) :
    k0_pay34 (F := Ideal) cols (head x7 3) (head x7 4) (head x7 5) (head x7 6) (head x7 7) (head x8 3) (head x8 4) (head x8 5) (head x8 6) (head x8 7) p 3#32 (ix2 r c) =
      if c.val = 7 then x7 (ix3 7 r 64) - x8 (ix3 7 r 67) else if c.val = 6 then x7 (ix3 6 r 64) - x8 (ix3 6 r 67) else if c.val = 5 then x7 (ix3 5 r 64) - x8 (ix3 5 r 67) else
      if c.val = 4 then x7 (ix3 4 r 64) - x8 (ix3 4 r 67) else if c.val = 3 then x7 (ix3 3 r 64) - x8 (ix3 3 r 67) else p (ix2 r c) := by
  unfold k0_pay34; pointwise
  rw [sel c 7 (by decide), sel c 6 (by decide), sel c 5 (by decide), sel c 4 (by decide), sel c 3 (by decide)]
  rfl
/-- The heads' columns hold the running gates' gradients, the others zero. -/
theorem cumV_at (x7 x8 : Vec Ideal S8x256x128 .f32) (r : Fin 256) (U : Fin 8 → ℝ) (hu : ∀ h, x7 (ix3 h r 64) - x8 (ix3 h r 67) = (U h : ℝ)) (c : Fin 128) :
    cumV x7 x8 (ix2 r c) = ((if h : c.val < 8 then U ⟨c.val, h⟩ else 0 : ℝ) : EReal) := by
  unfold cumV
  rw [pay34_at, pay33_at]
  by_cases h : c.val < 8
  · rw [dif_pos h, ← hu]
    have key : ∀ j : Fin 8, c.val = j.val → x7 (ix3 j r 64) - x8 (ix3 j r 67) = x7 (ix3 ⟨c.val, h⟩ r 64) - x8 (ix3 ⟨c.val, h⟩ r 67) := fun j hj => by
      rw [show j = ⟨c.val, h⟩ from Fin.ext hj.symm]
    split_ifs <;> first | omega | exact key _ (by assumption)
  · rw [dif_neg h]
    split_ifs <;> first | omega | rfl

theorem pay35_at (r c : Fin 256) : k0_pay35 (F := Ideal) (ix2 r c) = ((if r.val ≤ c.val then 1 else 0 : ℝ) : EReal) := by
  unfold k0_pay35; pointwise
  rw [ge_bit]
  split <;> rfl
theorem pay40_at (t : FVec Ideal S256x256 .bf16) (a b e : FVec Ideal S256x128 .bf16) (o : Vec Ideal S1x128 .f32) (r : Fin 256) (c : Fin 128) :
    k0_pay40 (F := Ideal) t a b e o (ix2 r c) = (∑ k, t (ix2 r k) * a (ix2 k c)) + (∑ k, t (ix2 r k) * b (ix2 k c)) + (∑ k, t (ix2 r k) * e (ix2 k c)) + o (ix2 0 c) := by
  unfold k0_pay40; pointwise
theorem pay46_at (v : FVec Ideal S256x128 .f32) (c : Fin 128) : k0_pay46 (F := Ideal) v (ix2 0 c) = v (ix2 0 c) := by
  unfold k0_pay46; pointwise
theorem pay49_at (v : FVec Ideal S256x128 .f32) (o : Vec Ideal S1x128 .f32) (c : Fin 128) : k0_pay49 (F := Ideal) v o (ix2 0 c) = o (ix2 0 c) + ∑ r, v (ix2 r c) := by
  unfold k0_pay49; pointwise
theorem pay47_at (v : FVec Ideal S256x128 .f32) (f : Vec Ideal S256x128 .f32) (b : Vec Ideal S1x128 .f32) (r : Fin 256) (c : Fin 128) :
    k0_pay47 (F := Ideal) cols v f b (ix2 r c) = if c.val < 8 then Ideal.div (v (ix2 r c)) (1 + Ideal.exp (f (ix2 r c) + b (ix2 0 c))) else ((0 : ℝ) : EReal) := by
  unfold k0_pay47; pointwise
  rw [lt_bit]
  split <;> rfl

/-- The sums over the later rows of the tile beside the later tiles' carry. -/
theorem sufV_at (x7 x8 : Vec Ideal S8x256x128 .f32) (o : Vec Ideal S1x128 .f32) (U : Fin 256 → Fin 128 → ℝ) (C : Fin 128 → ℝ)
    (hu : ∀ r c, cumV x7 x8 (ix2 r c) = (U r c : ℝ)) (ho : ∀ c, o (ix2 0 c) = (C c : ℝ)) (r : Fin 256) (c : Fin 128) :
    sufV x7 x8 o (ix2 r c) = (((∑ k, if r.val ≤ k.val then U k c else 0) + C c : ℝ) : EReal) := by
  unfold sufV
  rw [pay40_at]
  have z1 : ∀ r c, subf (cumV x7 x8) (extf .f32 (truncf .bf16 (cumV x7 x8) bitsLt_bf16_f32) bitsLt_bf16_f32) (ix2 r c) = ((0 : ℝ) : EReal) := fun r c => by
    show cumV x7 x8 (ix2 r c) - cumV x7 x8 (ix2 r c) = _
    rw [hu, ← EReal.coe_sub, sub_self]
  have e1 : ∑ k, k0_pay35 (F := Ideal) (ix2 r k) * truncf .bf16 (cumV x7 x8) bitsLt_bf16_f32 (ix2 k c) = ((∑ k : Fin 256, if r.val ≤ k.val then U k c else 0 : ℝ) : EReal) :=
    FoxReal.sum_coe fun k _ => by
      show _ * cumV x7 x8 (ix2 k c) = _
      rw [pay35_at, hu, ← EReal.coe_mul, ite_mul, one_mul, zero_mul]
  have e0 : ∀ b : FVec Ideal S256x128 .bf16, (∀ r c, b (ix2 r c) = ((0 : ℝ) : EReal)) → ∑ k, k0_pay35 (F := Ideal) (ix2 r k) * b (ix2 k c) = ((0 : ℝ) : EReal) := fun b hb => by
    rw [FoxReal.sum_coe (f := fun _ => 0) fun k _ => by rw [hb, pay35_at, ← EReal.coe_mul, mul_zero], Finset.sum_const_zero]
  rw [e1, e0 (truncf .bf16 (subf (cumV x7 x8) (extf .f32 (truncf .bf16 (cumV x7 x8) bitsLt_bf16_f32) bitsLt_bf16_f32)) bitsLt_bf16_f32) z1, e0 (truncf .bf16 (subf (subf (cumV x7 x8) (extf .f32 (truncf .bf16 (cumV x7 x8) bitsLt_bf16_f32) bitsLt_bf16_f32)) (extf .f32 (truncf .bf16 (subf (cumV x7 x8) (extf .f32 (truncf .bf16 (cumV x7 x8) bitsLt_bf16_f32) bitsLt_bf16_f32)) bitsLt_bf16_f32) bitsLt_bf16_f32)) bitsLt_bf16_f32) fun r c => by
    show subf (cumV x7 x8) (extf .f32 (truncf .bf16 (cumV x7 x8) bitsLt_bf16_f32) bitsLt_bf16_f32) (ix2 r c) - subf (cumV x7 x8) (extf .f32 (truncf .bf16 (cumV x7 x8) bitsLt_bf16_f32) bitsLt_bf16_f32) (ix2 r c) = _
    rw [z1, ← EReal.coe_sub, sub_self], ho, ← EReal.coe_add, ← EReal.coe_add, ← EReal.coe_add, add_zero, add_zero]

/-- The gate's gradient: the summed cotangent times one minus the gate. -/
theorem dfV_at (x2 : Vec Ideal S256x128 .f32) (x3 : Vec Ideal S1x128 .f32) (x7 x8 : Vec Ideal S8x256x128 .f32) (o : Vec Ideal S1x128 .f32) (r : Fin 256) (c : Fin 128) (V z b : ℝ)
    (hv : sufV x7 x8 o (ix2 r c) = (V : EReal)) (hz : x2 (ix2 r c) = (z : EReal)) (hb : x3 (ix2 0 c) = (b : EReal)) :
    dfV x2 x3 x7 x8 o (ix2 r c) = ((if c.val < 8 then V / (1 + Real.exp (z + b)) else 0 : ℝ) : EReal) := by
  unfold dfV
  rw [pay47_at, hv, hz, hb, ← EReal.coe_add, FoxReal.exp_coe, ← EReal.coe_one, ← EReal.coe_add, FoxReal.div_coe _ _ (by positivity)]
  split <;> rfl
end Cert.Post
-- ==== Proof.PostHost.lean ====
module

public import proofs.«01_k».proof.Proof.PostRows
public import Idealize.ShloMosaic.Lib.Pointwise

@[expose] public section

set_option maxRecDepth 16384

noncomputable section

namespace Cert.Post

open Cert.FoxPostIdeal Cert.FoxPostIdeal.Gen
open Idealize.ShloMosaic
open Idealize.ShloMosaic.TcCoe Idealize.ShloMosaic.Tactic

/-! What the packing before the call puts into the arrays that the call reads. -/

section Terms
variable (x0 x1 : FVec Ideal S4096x512 .f32) (x2 : FVec Ideal S4096x8 .f32) (x3 : FVec Ideal S1x8 .f32) (x4 : FVec Ideal S1x64 .f32)
  (x6 : FVec Ideal S8x4096x64 .f32) (x9 : FVec Ideal S8x4096 .f32)

def projA : FVec Ideal S4096x1536 .f32 :=
  concatenate S4096x1536 1 [⟨S4096x512, broadcastInDim S4096x512 ![] bcast_S_S4096x512 (constant S_ .f32 0x00000000#32)⟩, ⟨S4096x512, x0⟩, ⟨S4096x512, x1⟩] concatenates_S4096x512_S4096x512_S4096x512_S4096x1536_d1
def projB : FVec Ideal S4096x1152 .f32 :=
  concatenate S4096x1152 1 [⟨S4096x1024, broadcastInDim S4096x1024 ![] bcast_S_S4096x1024 (constant S_ .f32 0x00000000#32)⟩, ⟨S4096x8, x2⟩,
    ⟨S4096x120, broadcastInDim S4096x120 ![] bcast_S_S4096x120 (constant S_ .f32 0x00000000#32)⟩] concatenates_S4096x1024_S4096x8_S4096x120_S4096x1152_d1
def biasP : FVec Ideal S1x128 .f32 :=
  concatenate S1x128 1 [⟨S1x8, x3⟩, ⟨S1x120, broadcastInDim S1x120 ![] bcast_S_S1x120 (constant S_ .f32 0x00000000#32)⟩] concatenates_S1x8_S1x120_S1x128_d1
def gainP : FVec Ideal S1x512 .f32 :=
  concatenate S1x512 1 [⟨S1x64, x4⟩, ⟨S1x64, x4⟩, ⟨S1x64, x4⟩, ⟨S1x64, x4⟩, ⟨S1x64, x4⟩, ⟨S1x64, x4⟩, ⟨S1x64, x4⟩, ⟨S1x64, x4⟩] concatenates_S1x64_S1x64_S1x64_S1x64_S1x64_S1x64_S1x64_S1x64_S1x512_d1
def eyeP : FVec Ideal S8x8 .f32 :=
  uitofp .f32 (cmpi .eq (addi (iotaInDim S8x8 32 0) (broadcastInDim S8x8 ![] bcast_S_S8x8 (constantI S_ 32 0#32))) (iotaInDim S8x8 32 1))
def blkP : FVec Ideal S8x64x8x64 .f32 :=
  mulf (broadcastInDim S8x64x8x64 ![0, 1, 2, 3] bcast_S8x1x8x1_S8x64x8x64_0_1_2_3 (broadcastInDim S8x1x8x1 ![0, 2] bcast_S8x8_S8x1x8x1_0_2 eyeP))
    (broadcastInDim S8x64x8x64 ![0, 1, 2, 3] bcast_S1x64x1x64_S8x64x8x64_0_1_2_3 (broadcastInDim S1x64x1x64 ![1, 3] bcast_S64x64_S1x64x1x64_1_3
      (broadcastInDim S64x64 ![] bcast_S_S64x64 (constant S_ .f32 0x3C800000#32))))
def segP : FVec Ideal S512x512 .bf16 := truncf .bf16 (shapeCast S512x512 blkP shapeCasts_S8x64x8x64_S512x512) bitsLt_bf16_f32
def dqP : FVec Ideal S8x4096x128 .f32 :=
  concatenate S8x4096x128 2 [⟨S8x4096x64, x6⟩, ⟨S8x4096x1, broadcastInDim S8x4096x1 ![0, 1] bcast_S8x4096_S8x4096x1_0_1 x9⟩,
    ⟨S8x4096x63, broadcastInDim S8x4096x63 ![] bcast_S_S8x4096x63 (constant S_ .f32 0x00000000#32)⟩] concatenates_S8x4096x64_S8x4096x1_S8x4096x63_S8x4096x128_d2
def dkP : FVec Ideal S8x4096x128 .f32 :=
  concatenate S8x4096x128 2 [⟨S8x4096x64, x6⟩, ⟨S8x4096x3, broadcastInDim S8x4096x3 ![] bcast_S_S8x4096x3 (constant S_ .f32 0x00000000#32)⟩,
    ⟨S8x4096x1, broadcastInDim S8x4096x1 ![0, 1] bcast_S8x4096_S8x4096x1_0_1 x9⟩,
    ⟨S8x4096x60, broadcastInDim S8x4096x60 ![] bcast_S_S8x4096x60 (constant S_ .f32 0x00000000#32)⟩] concatenates_S8x4096x64_S8x4096x3_S8x4096x1_S8x4096x60_S8x4096x128_d2

theorem projA_q (t : Fin 4096) (c : Fin 512) (d : Fin 1536) (hd : d.val = 512 + c.val) : projA x0 x1 (ix2 t d) = x0 (ix2 t c) := by
  unfold projA; pointwise
  rw [dif_neg (by omega), dif_pos (by omega)]
  exact congrArg x0 (congrArg (ix2 t) (Fin.ext (by show d.val - 512 = _; omega)))
theorem projA_k (t : Fin 4096) (c : Fin 512) (d : Fin 1536) (hd : d.val = 1024 + c.val) : projA x0 x1 (ix2 t d) = x1 (ix2 t c) := by
  unfold projA; pointwise
  rw [dif_neg (by omega), dif_neg (by omega)]
  exact congrArg x1 (congrArg (ix2 t) (Fin.ext (by show d.val - 512 - 512 = _; omega)))
theorem projB_at (t : Fin 4096) (c : Fin 128) (d : Fin 1152) (hd : d.val = 1024 + c.val) :
    projB x2 (ix2 t d) = if h : c.val < 8 then x2 (ix2 t ⟨c.val, h⟩) else 0 := by
  unfold projB; pointwise
  rw [dif_neg (by omega)]
  by_cases h : c.val < 8
  · rw [dif_pos (by omega), dif_pos h]
    exact congrArg x2 (congrArg (ix2 t) (Fin.ext (by show d.val - 1024 = c.val; omega)))
  · rw [dif_neg (by omega), dif_neg h]
    try rfl
theorem biasP_at (c : Fin 128) : biasP x3 (ix2 0 c) = if h : c.val < 8 then x3 (ix2 0 ⟨c.val, h⟩) else 0 := by
  unfold biasP; pointwise
  try rfl
theorem gainP_at (h : Fin 8) (d : Fin 64) : gainP x4 (ix2 0 (col h d)) = x4 (ix2 0 d) := by
  have hc : (col h d).val = 64 * h.val + d.val := rfl
  have key : ∀ n (hn : n < 64), n = d.val → x4 (ix2 0 ⟨n, hn⟩) = x4 (ix2 0 d) := fun n hn e => congrArg x4 (congrArg (ix2 0) (Fin.ext e))
  have hh := h.isLt
  have hd := d.isLt
  unfold gainP; pointwise
  split_ifs <;> exact key _ _ (by omega)
theorem dqP_d (h : Fin 8) (t : Fin 4096) (d : Fin 64) (e : Fin 128) (he : e.val = d.val) : dqP x6 x9 (ix3 h t e) = x6 (ix3 h t d) := by
  unfold dqP; pointwise
  rw [dif_pos (by omega)]
  exact congrArg x6 (congrArg (ix3 h t) (Fin.ext he))
theorem dqP_row (h : Fin 8) (t : Fin 4096) : dqP x6 x9 (ix3 h t 64) = x9 (ix2 h t) := by
  unfold dqP; pointwise
theorem dkP_d (h : Fin 8) (t : Fin 4096) (d : Fin 64) (e : Fin 128) (he : e.val = d.val) : dkP x6 x9 (ix3 h t e) = x6 (ix3 h t d) := by
  unfold dkP; pointwise
  rw [dif_pos (by omega)]
  exact congrArg x6 (congrArg (ix3 h t) (Fin.ext he))
theorem dkP_col (h : Fin 8) (t : Fin 4096) : dkP x6 x9 (ix3 h t 67) = x9 (ix2 h t) := by
  unfold dkP; pointwise
theorem eye_bit : ∀ a b : Fin 8, IntOp.cmpi CmpIPredicate.eq (IntOp.addi (BitVec.ofNat 32 a.val) 0#32) (BitVec.ofNat 32 b.val) = if a = b then 1#1 else 0#1 := by decide +kernel
theorem eyeP_at (a b : Fin 8) : eyeP (ix2 a b) = ((if a = b then 1 else 0 : ℝ) : EReal) := by
  unfold eyeP; pointwise
  rw [eye_bit]
  split <;> simp [FloatOps.uitofp]
theorem bits_64th : (Ideal.ofBits .f32 0x3C800000#32 : EReal) = ((1 / 64 : ℝ) : EReal) := by
  simp [Ideal.ofBits, Ideal.ieee]
  rw [← EReal.coe_mul]; norm_num
theorem blkP_at (a h : Fin 8) (e d : Fin 64) : blkP (ix4 a e h d) = eyeP (ix2 a h) * Ideal.ofBits .f32 0x3C800000#32 := by
  unfold blkP
  generalize eyeP = y
  pointwise
theorem segP_at : Averages segP := fun a e h d => by
  refine (shapeCast_apply blkP shapeCasts_S8x64x8x64_S512x512 (ix2 (col a e) (col h d)) (ix4 a e h d) ?_).trans ?_
  · rw [Shape.rowMajor_val_four, Shape.rowMajor_val_two]
    show ((a.val * 64 + e.val) * 8 + h.val) * 64 + d.val = (64 * a.val + e.val) * 512 + (64 * h.val + d.val)
    omega
  · rw [blkP_at, eyeP_at, bits_64th, ← EReal.coe_mul]
    congr 1
    split <;> ring
end Terms

variable (m : (b : Dev nD × DevRef τ sig) → Buf (Elt Ideal) b) (c : Dev nD)

abbrev A0 : FVec Ideal S4096x512 .f32 := m ((c.tc : Thread nD τ).loc main_arg0)
abbrev A1 : FVec Ideal S4096x512 .f32 := m ((c.tc : Thread nD τ).loc main_arg1)
abbrev A2 : FVec Ideal S4096x8 .f32 := m ((c.tc : Thread nD τ).loc main_arg2)
abbrev A3 : FVec Ideal S1x8 .f32 := m ((c.tc : Thread nD τ).loc main_arg3)
abbrev A4 : FVec Ideal S1x64 .f32 := m ((c.tc : Thread nD τ).loc main_arg4)
abbrev A5 : FVec Ideal S1x64 .f32 := m ((c.tc : Thread nD τ).loc main_arg5)
abbrev A6 : FVec Ideal S8x4096x64 .f32 := m ((c.tc : Thread nD τ).loc main_arg6)
abbrev A7 : FVec Ideal S8x4096x64 .f32 := m ((c.tc : Thread nD τ).loc main_arg7)
abbrev A8 : FVec Ideal S8x4096x64 .f32 := m ((c.tc : Thread nD τ).loc main_arg8)
abbrev A9 : FVec Ideal S8x4096 .f32 := m ((c.tc : Thread nD τ).loc main_arg9)
abbrev A10 : FVec Ideal S8x4096 .f32 := m ((c.tc : Thread nD τ).loc main_arg10)

theorem v1 : V m c main_v1 = projA (A0 m c) (A1 m c) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.reshape, StableHlo.TRef.toBuf, StableHlo.TRef.ofBuf, cast_eq]
  after_results_simp <;> rfl
theorem v4 : V m c main_v4 = projB (A2 m c) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.reshape, StableHlo.TRef.toBuf, StableHlo.TRef.ofBuf, cast_eq]
  after_results_simp <;> rfl
theorem v6 : V m c main_v6 = biasP (A3 m c) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.reshape, StableHlo.TRef.toBuf, StableHlo.TRef.ofBuf, cast_eq]
  after_results_simp <;> rfl
theorem v7 : V m c main_v7 = gainP (A4 m c) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.reshape, StableHlo.TRef.toBuf, StableHlo.TRef.ofBuf, cast_eq]
  after_results_simp <;> rfl
theorem v8 : V m c main_v8 = gainP (A5 m c) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.reshape, StableHlo.TRef.toBuf, StableHlo.TRef.ofBuf, cast_eq]
  after_results_simp <;> rfl
theorem v17 : V m c main_v17 = segP := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.reshape, StableHlo.TRef.toBuf, StableHlo.TRef.ofBuf, cast_eq]
  after_results_simp <;> rfl
theorem v20 : V m c main_v20 = dqP (A6 m c) (A9 m c) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.reshape, StableHlo.TRef.toBuf, StableHlo.TRef.ofBuf, cast_eq]
  after_results_simp <;> rfl
theorem v24 : V m c main_v24 = dkP (A7 m c) (A10 m c) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.reshape, StableHlo.TRef.toBuf, StableHlo.TRef.ofBuf, cast_eq]
  after_results_simp <;> rfl
theorem v25 : V m c main_v25 = (truncf .bf16 (A8 m c) bitsLt_bf16_f32 : FVec Ideal S8x4096x64 .bf16) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.reshape, StableHlo.TRef.toBuf, StableHlo.TRef.ofBuf, cast_eq]
  after_results_simp <;> rfl

end Cert.Post
-- ==== Proof.PostBlk.lean ====
module

public import proofs.«01_k».proof.Proof.PostHost

@[expose] public section

set_option maxRecDepth 16384

noncomputable section

namespace Cert.Post

open Cert.FoxPostIdeal Cert.FoxPostIdeal.Gen
open Idealize.ShloMosaic
open Idealize.ShloMosaic.TcCoe Idealize.ShloMosaic.Tactic

/-! What a point of the grid reads: the tiles from the last to the first. -/

variable (m : (b : Dev nD × DevRef τ sig) → Buf (Elt Ideal) b) (c : Dev nD)

/-- The token that row `r` of point `n`'s tile is. -/
def row (n : ℕ) (r : Fin 256) : Fin 4096 := ⟨256 * (15 - n) + r.val, by have := r.isLt; omega⟩

theorem idx0 : ∀ t : Fin cfg0.N, win0_0.index t 0 = 15 - t.val ∧ win0_0.index t 1 = 1 := by decide +kernel
theorem blk0 (t : Fin cfg0.N) (r : Fin 256) (d : Fin 512) : (iblk m c 0 t : Vec Ideal S256x512 .f32) (ix2 r d) = A0 m c (ix2 (row t.val r) d) := by
  unfold iblk
  rw [View.read_apply]
  refine (congrFun (v1 m c) _).trans ?_
  refine (congrArg _ (?_ : _ = ix2 (row t.val r) ⟨512 + d.val, by have := d.isLt; omega⟩)).trans (projA_q _ _ _ _ _ rfl)
  funext a
  apply Fin.ext
  match a with
  | ⟨0, _⟩ => show win0_0.index t 0 * 256 + 1 * r.val = 256 * (15 - t.val) + r.val; rw [(idx0 t).1]; omega
  | ⟨1, _⟩ => show win0_0.index t 1 * 512 + 1 * d.val = 512 + d.val; rw [(idx0 t).2]; omega
theorem idx1 : ∀ t : Fin cfg0.N, win0_1.index t 0 = 15 - t.val ∧ win0_1.index t 1 = 2 := by decide +kernel
theorem blk1 (t : Fin cfg0.N) (r : Fin 256) (d : Fin 512) : (iblk m c 1 t : Vec Ideal S256x512 .f32) (ix2 r d) = A1 m c (ix2 (row t.val r) d) := by
  unfold iblk
  rw [View.read_apply]
  refine (congrFun (v1 m c) _).trans ?_
  refine (congrArg _ (?_ : _ = ix2 (row t.val r) ⟨1024 + d.val, by have := d.isLt; omega⟩)).trans (projA_k _ _ _ _ _ rfl)
  funext a
  apply Fin.ext
  match a with
  | ⟨0, _⟩ => show win0_1.index t 0 * 256 + 1 * r.val = 256 * (15 - t.val) + r.val; rw [(idx1 t).1]; omega
  | ⟨1, _⟩ => show win0_1.index t 1 * 512 + 1 * d.val = 1024 + d.val; rw [(idx1 t).2]; omega
theorem idx2 : ∀ t : Fin cfg0.N, win0_2.index t 0 = 15 - t.val ∧ win0_2.index t 1 = 8 := by decide +kernel
theorem blk2 (t : Fin cfg0.N) (r : Fin 256) (d : Fin 128) : (iblk m c 2 t : Vec Ideal S256x128 .f32) (ix2 r d) = if h : d.val < 8 then A2 m c (ix2 (row t.val r) ⟨d.val, h⟩) else 0 := by
  unfold iblk
  rw [View.read_apply]
  refine (congrFun (v4 m c) _).trans ?_
  refine (congrArg _ (?_ : _ = ix2 (row t.val r) ⟨1024 + d.val, by have := d.isLt; omega⟩)).trans (projB_at _ _ _ _ rfl)
  funext a
  apply Fin.ext
  match a with
  | ⟨0, _⟩ => show win0_2.index t 0 * 256 + 1 * r.val = 256 * (15 - t.val) + r.val; rw [(idx2 t).1]; omega
  | ⟨1, _⟩ => show win0_2.index t 1 * 128 + 1 * d.val = 1024 + d.val; rw [(idx2 t).2]; omega
theorem idx3 : ∀ t : Fin cfg0.N, win0_3.index t 0 = 0 ∧ win0_3.index t 1 = 0 := by decide +kernel
theorem blk3 (t : Fin cfg0.N) : (iblk m c 3 t : Vec Ideal S1x128 .f32) = biasP (A3 m c) := by
  funext j
  unfold iblk
  rw [View.read_apply]
  refine (congrFun (v6 m c) _).trans (congrArg _ ?_)
  funext a
  apply Fin.ext
  match a with
  | ⟨0, _⟩ => show win0_3.index t 0 * 1 + 1 * (j 0).val = (j 0).val; rw [(idx3 t).1]; omega
  | ⟨1, _⟩ => show win0_3.index t 1 * 128 + 1 * (j 1).val = (j 1).val; rw [(idx3 t).2]; omega
theorem idx4 : ∀ t : Fin cfg0.N, win0_4.index t 0 = 0 ∧ win0_4.index t 1 = 0 := by decide +kernel
theorem blk4 (t : Fin cfg0.N) : (iblk m c 4 t : Vec Ideal S1x512 .f32) = gainP (A4 m c) := by
  funext j
  unfold iblk
  rw [View.read_apply]
  refine (congrFun (v7 m c) _).trans (congrArg _ ?_)
  funext a
  apply Fin.ext
  match a with
  | ⟨0, _⟩ => show win0_4.index t 0 * 1 + 1 * (j 0).val = (j 0).val; rw [(idx4 t).1]; omega
  | ⟨1, _⟩ => show win0_4.index t 1 * 512 + 1 * (j 1).val = (j 1).val; rw [(idx4 t).2]; omega
theorem idx5 : ∀ t : Fin cfg0.N, win0_5.index t 0 = 0 ∧ win0_5.index t 1 = 0 := by decide +kernel
theorem blk5 (t : Fin cfg0.N) : (iblk m c 5 t : Vec Ideal S1x512 .f32) = gainP (A5 m c) := by
  funext j
  unfold iblk
  rw [View.read_apply]
  refine (congrFun (v8 m c) _).trans (congrArg _ ?_)
  funext a
  apply Fin.ext
  match a with
  | ⟨0, _⟩ => show win0_5.index t 0 * 1 + 1 * (j 0).val = (j 0).val; rw [(idx5 t).1]; omega
  | ⟨1, _⟩ => show win0_5.index t 1 * 512 + 1 * (j 1).val = (j 1).val; rw [(idx5 t).2]; omega
theorem idx6 : ∀ t : Fin cfg0.N, win0_6.index t 0 = 0 ∧ win0_6.index t 1 = 0 := by decide +kernel
theorem blk6 (t : Fin cfg0.N) : (iblk m c 6 t : Vec Ideal S512x512 .bf16) = segP := by
  funext j
  unfold iblk
  rw [View.read_apply]
  refine (congrFun (v17 m c) _).trans (congrArg _ ?_)
  funext a
  apply Fin.ext
  match a with
  | ⟨0, _⟩ => show win0_6.index t 0 * 512 + 1 * (j 0).val = (j 0).val; rw [(idx6 t).1]; omega
  | ⟨1, _⟩ => show win0_6.index t 1 * 512 + 1 * (j 1).val = (j 1).val; rw [(idx6 t).2]; omega
theorem idx7 : ∀ t : Fin cfg0.N, win0_7.index t 0 = 0 ∧ win0_7.index t 1 = 15 - t.val ∧ win0_7.index t 2 = 0 := by decide +kernel
theorem blk7 (t : Fin cfg0.N) (h : Fin 8) (r : Fin 256) (d : Fin 128) : (iblk m c 7 t : Vec Ideal S8x256x128 .f32) (ix3 h r d) = dqP (A6 m c) (A9 m c) (ix3 h (row t.val r) d) := by
  unfold iblk
  rw [View.read_apply]
  refine (congrFun (v20 m c) _).trans (congrArg _ ?_)
  funext a
  apply Fin.ext
  match a with
  | ⟨0, _⟩ => show win0_7.index t 0 * 8 + 1 * h.val = h.val; rw [(idx7 t).1]; omega
  | ⟨1, _⟩ => show win0_7.index t 1 * 256 + 1 * r.val = 256 * (15 - t.val) + r.val; rw [(idx7 t).2.1]; omega
  | ⟨2, _⟩ => show win0_7.index t 2 * 128 + 1 * d.val = d.val; rw [(idx7 t).2.2]; omega
theorem idx8 : ∀ t : Fin cfg0.N, win0_8.index t 0 = 0 ∧ win0_8.index t 1 = 15 - t.val ∧ win0_8.index t 2 = 0 := by decide +kernel
theorem blk8 (t : Fin cfg0.N) (h : Fin 8) (r : Fin 256) (d : Fin 128) : (iblk m c 8 t : Vec Ideal S8x256x128 .f32) (ix3 h r d) = dkP (A7 m c) (A10 m c) (ix3 h (row t.val r) d) := by
  unfold iblk
  rw [View.read_apply]
  refine (congrFun (v24 m c) _).trans (congrArg _ ?_)
  funext a
  apply Fin.ext
  match a with
  | ⟨0, _⟩ => show win0_8.index t 0 * 8 + 1 * h.val = h.val; rw [(idx8 t).1]; omega
  | ⟨1, _⟩ => show win0_8.index t 1 * 256 + 1 * r.val = 256 * (15 - t.val) + r.val; rw [(idx8 t).2.1]; omega
  | ⟨2, _⟩ => show win0_8.index t 2 * 128 + 1 * d.val = d.val; rw [(idx8 t).2.2]; omega
theorem idx9 : ∀ t : Fin cfg0.N, win0_9.index t 0 = 0 ∧ win0_9.index t 1 = 15 - t.val ∧ win0_9.index t 2 = 0 := by decide +kernel
theorem blk9 (t : Fin cfg0.N) (h : Fin 8) (r : Fin 256) (d : Fin 64) : (iblk m c 9 t : Vec Ideal S8x256x64 .bf16) (ix3 h r d) = A8 m c (ix3 h (row t.val r) d) := by
  unfold iblk
  rw [View.read_apply]
  refine (congrFun (v25 m c) _).trans (congrArg _ ?_)
  funext a
  apply Fin.ext
  match a with
  | ⟨0, _⟩ => show win0_9.index t 0 * 8 + 1 * h.val = h.val; rw [(idx9 t).1]; omega
  | ⟨1, _⟩ => show win0_9.index t 1 * 256 + 1 * r.val = 256 * (15 - t.val) + r.val; rw [(idx9 t).2.1]; omega
  | ⟨2, _⟩ => show win0_9.index t 2 * 64 + 1 * d.val = d.val; rw [(idx9 t).2.2]; omega

end Cert.Post
-- ==== Proof.PostFold.lean ====
module

public import proofs.«01_k».proof.Proof.PostBlk

@[expose] public section

set_option maxRecDepth 16384

noncomputable section

namespace Cert.Post

open Cert.FoxPostIdeal Cert.FoxPostIdeal.Gen
open Idealize.ShloMosaic
open Idealize.ShloMosaic.TcCoe Idealize.ShloMosaic.Tactic

/-! The points of the grid, from the last tile of tokens to the first, over real arguments. -/

/-- The real numbers that the arguments hold. -/
structure Reals where
  q : Fin 4096 → Fin 512 → ℝ
  k : Fin 4096 → Fin 512 → ℝ
  z : Fin 4096 → Fin 8 → ℝ
  b : Fin 8 → ℝ
  gq : Fin 64 → ℝ
  gk : Fin 64 → ℝ
  dq : Fin 8 → Fin 4096 → Fin 64 → ℝ
  dk : Fin 8 → Fin 4096 → Fin 64 → ℝ
  dr : Fin 8 → Fin 4096 → ℝ
  dc : Fin 8 → Fin 4096 → ℝ

/-- The arguments hold these numbers. -/
structure Reals.At (D : Reals) (x0 x1 : FVec Ideal S4096x512 .f32) (x2 : FVec Ideal S4096x8 .f32) (x3 : FVec Ideal S1x8 .f32) (x4 x5 : FVec Ideal S1x64 .f32)
    (x6 x7 : FVec Ideal S8x4096x64 .f32) (x9 x10 : FVec Ideal S8x4096 .f32) : Prop where
  q : ∀ t c, x0 (ix2 t c) = (D.q t c : ℝ)
  k : ∀ t c, x1 (ix2 t c) = (D.k t c : ℝ)
  z : ∀ t h, x2 (ix2 t h) = (D.z t h : ℝ)
  b : ∀ h, x3 (ix2 0 h) = (D.b h : ℝ)
  gq : ∀ d, x4 (ix2 0 d) = (D.gq d : ℝ)
  gk : ∀ d, x5 (ix2 0 d) = (D.gk d : ℝ)
  dq : ∀ h t d, x6 (ix3 h t d) = (D.dq h t d : ℝ)
  dk : ∀ h t d, x7 (ix3 h t d) = (D.dk h t d : ℝ)
  dr : ∀ h t, x9 (ix2 h t) = (D.dr h t : ℝ)
  dc : ∀ h t, x10 (ix2 h t) = (D.dc h t : ℝ)

namespace Reals
variable (D : Reals)
/-- A head's queries and keys at a token. -/
def Q (t : Fin 4096) (h : Fin 8) (d : Fin 64) : ℝ := D.q t (col h d)
def K (t : Fin 4096) (h : Fin 8) (d : Fin 64) : ℝ := D.k t (col h d)
/-- The gradients of the queries and keys before their norms. -/
def gradQ (t : Fin 4096) (h : Fin 8) (d : Fin 64) : ℝ := rowgrad (D.Q t h) (fun d => D.dq h t d * 0.125 * D.gq d) d
def gradK (t : Fin 4096) (h : Fin 8) (d : Fin 64) : ℝ := rowgrad (D.K t h) (fun d => D.dk h t d * D.gk d) d
/-- A token's share of the gains' gradients. -/
def shareQ (h : Fin 8) (t : Fin 4096) (d : Fin 64) : ℝ := D.dq h t d * 0.125 * (D.Q t h d * rr (D.Q t h))
def shareK (h : Fin 8) (t : Fin 4096) (d : Fin 64) : ℝ := D.dk h t d * (D.K t h d * rr (D.K t h))
/-- The running gates' cotangent, its sums from a place on, and the gates' gradient. -/
def up (c : Fin 128) (t : Fin 4096) : ℝ := if h : c.val < 8 then D.dr ⟨c.val, h⟩ t - D.dc ⟨c.val, h⟩ t else 0
def suf (c : Fin 128) (p : ℕ) : ℝ := ∑ s : Fin 4096, if p ≤ s.val then D.up c s else 0
def pre (c : Fin 128) (t : Fin 4096) : ℝ := if h : c.val < 8 then D.z t ⟨c.val, h⟩ + D.b ⟨c.val, h⟩ else 0
def gate (t : Fin 4096) (c : Fin 128) : ℝ := if c.val < 8 then D.suf c t.val / (1 + Real.exp (D.pre c t)) else 0
end Reals

/-- The sum from a row on is the sum over the later rows of its tile and the later tiles' sum. -/
theorem suf_row (D : Reals) (c : Fin 128) (n : ℕ) (hn : n < 16) (r : Fin 256) :
    (∑ k : Fin 256, if r.val ≤ k.val then D.up c (row n k) else 0) + D.suf c (256 * (16 - n)) = D.suf c (row n r).val := by
  unfold Reals.suf
  have e : ∀ s : Fin 4096, (if (row n r).val ≤ s.val then D.up c s else 0) = (if (row n r).val ≤ s.val ∧ s.val < 256 * (16 - n) then D.up c s else 0) + (if 256 * (16 - n) ≤ s.val then D.up c s else 0) := fun s => by
    have h1 : (row n r).val = 256 * (15 - n) + r.val := rfl
    have h2 := r.isLt
    split_ifs <;> first | omega | simp
  rw [Finset.sum_congr rfl fun s _ => e s, Finset.sum_add_distrib]
  congr 1
  refine Fintype.sum_of_injective (row n) (fun a b hab => ?_) _ _ (fun s hs => ?_) (fun k => ?_)
  · have := congrArg Fin.val hab
    exact Fin.ext (Nat.add_left_cancel this)
  · rw [if_neg]
    rintro ⟨h1, h2⟩
    have h3 : (row n r).val = 256 * (15 - n) + r.val := rfl
    exact hs ⟨⟨s.val - 256 * (15 - n), by omega⟩, Fin.ext (by show 256 * (15 - n) + (s.val - 256 * (15 - n)) = s.val; omega)⟩
  · have h1 : (row n r).val = 256 * (15 - n) + r.val := rfl
    have h2 : (row n k).val = 256 * (15 - n) + k.val := rfl
    have h3 := k.isLt
    split_ifs <;> first | omega | rfl

/-- The tiles' sums over all points are the sum over the tokens. -/
theorem all_rows (g : Fin 4096 → ℝ) : ∑ i ∈ Finset.range 16, ∑ r, g (row i r) = ∑ t, g t := by
  rw [Finset.sum_range, ← Equiv.sum_comp Fin.revPerm]
  refine FoxReal.sum_tiles g (fun n t => row (Fin.revPerm n).val t) fun n t => ?_
  have h1 := n.isLt
  have h2 : ((Fin.revPerm n : Fin 16)).val = 16 - (n.val + 1) := rfl
  show 256 * (15 - (Fin.revPerm n : Fin 16).val) + t.val = _
  rw [h2]; omega

theorem dvV_at (x9 : Vec Ideal S8x256x64 .bf16) (r : Fin 256) (h : Fin 8) (d : Fin 64) : dvV x9 (ix2 r (col h d)) = x9 (ix3 h r d) := by
  have hc : (col h d).val = 64 * h.val + d.val := rfl
  have key : ∀ (j : Fin 8) n (hn : n < 64), j.val = h.val → n = d.val → vhead x9 j (ix3 0 r ⟨n, hn⟩) = x9 (ix3 h r d) := fun j n hn e1 e2 => by
    obtain rfl : j = h := Fin.ext e1
    exact congrArg x9 (congrArg (ix3 j r) (Fin.ext e2))
  have hh := h.isLt
  have hd := d.isLt
  unfold dvV k0_pay1 k0_pay55 k0_pay56 k0_pay57 k0_pay58 k0_pay59 k0_pay60
  pointwise
  split_ifs <;> exact key _ _ _ (by omega) (by omega)

variable (D : Reals) (m : (b : Dev nD × DevRef τ sig) → Buf (Elt Ideal) b) (c : Dev nD)
variable (hD : D.At (A0 m c) (A1 m c) (A2 m c) (A3 m c) (A4 m c) (A5 m c) (A6 m c) (A7 m c) (A9 m c) (A10 m c)) (t : Fin cfg0.N)
include hD

theorem tq (r : Fin 256) (h : Fin 8) (d : Fin 64) : (iblk m c 0 t : Vec Ideal S256x512 .f32) (ix2 r (col h d)) = ((D.Q (row t.val r) h d : ℝ) : EReal) := by
  rw [blk0, hD.q]; rfl
theorem tk (r : Fin 256) (h : Fin 8) (d : Fin 64) : (iblk m c 1 t : Vec Ideal S256x512 .f32) (ix2 r (col h d)) = ((D.K (row t.val r) h d : ℝ) : EReal) := by
  rw [blk1, hD.k]; rfl
theorem tdq (r : Fin 256) (h : Fin 8) (d : Fin 64) : (iblk m c 7 t : Vec Ideal S8x256x128 .f32) (ix3 h r (d.castLE (by decide))) = ((D.dq h (row t.val r) d : ℝ) : EReal) := by
  rw [blk7, dqP_d _ _ h _ d _ rfl, hD.dq]
theorem tdk (r : Fin 256) (h : Fin 8) (d : Fin 64) : (iblk m c 8 t : Vec Ideal S8x256x128 .f32) (ix3 h r (d.castLE (by decide))) = ((D.dk h (row t.val r) d : ℝ) : EReal) := by
  rw [blk8, dkP_d _ _ h _ d _ rfl, hD.dk]
theorem tgq (h : Fin 8) (d : Fin 64) : (iblk m c 4 t : Vec Ideal S1x512 .f32) (ix2 0 (col h d)) = ((D.gq d : ℝ) : EReal) := by
  rw [blk4, gainP_at, hD.gq]
theorem tgk (h : Fin 8) (d : Fin 64) : (iblk m c 5 t : Vec Ideal S1x512 .f32) (ix2 0 (col h d)) = ((D.gk d : ℝ) : EReal) := by
  rw [blk5, gainP_at, hD.gk]
omit hD in
theorem tseg : Averages (iblk m c 6 t : Vec Ideal S512x512 .bf16) := by
  rw [blk6]; exact segP_at
theorem tz (r : Fin 256) (j : Fin 128) : (iblk m c 2 t : Vec Ideal S256x128 .f32) (ix2 r j) = ((if h : j.val < 8 then D.z (row t.val r) ⟨j.val, h⟩ else 0 : ℝ) : EReal) := by
  rw [blk2]
  split
  · rw [hD.z]
  · rfl
theorem tb (j : Fin 128) : (iblk m c 3 t : Vec Ideal S1x128 .f32) (ix2 0 j) = ((if h : j.val < 8 then D.b ⟨j.val, h⟩ else 0 : ℝ) : EReal) := by
  rw [blk3, biasP_at]
  split
  · rw [hD.b]
  · rfl
theorem tup (r : Fin 256) (j : Fin 128) : cumV (iblk m c 7 t) (iblk m c 8 t) (ix2 r j) = (D.up j (row t.val r) : ℝ) :=
  cumV_at _ _ r (fun h => D.dr h (row t.val r) - D.dc h (row t.val r)) (fun h => by
    rw [blk7, blk8, dqP_row, dkP_col, hD.dr, hD.dc, EReal.coe_sub]) j

theorem tileQ (r : Fin 256) (h : Fin 8) (d : Fin 64) : dqV (iblk m c 0 t) (iblk m c 4 t) (iblk m c 6 t) (iblk m c 7 t) (ix2 r (col h d)) = (D.gradQ (row t.val r) h d : ℝ) := by
  rw [dqV_eq]
  exact backV_at _ _ _ _ (tseg m c t) r (D.Q (row t.val r)) (fun h d => D.dq h (row t.val r) d * 0.125) D.gq (fun h d => tq D m c hD t r h d)
    (fun h d => by rw [pay41_at, tdq D m c hD, eighth, EReal.coe_mul]) (fun h d => tgq D m c hD t h d) h d
theorem tileK (r : Fin 256) (h : Fin 8) (d : Fin 64) : dkV (iblk m c 1 t) (iblk m c 5 t) (iblk m c 6 t) (iblk m c 8 t) (ix2 r (col h d)) = (D.gradK (row t.val r) h d : ℝ) := by
  rw [dkV_eq]
  exact backV_at _ _ _ _ (tseg m c t) r (D.K (row t.val r)) (fun h d => D.dk h (row t.val r) d) D.gk (fun h d => tk D m c hD t r h d)
    (fun h d => by rw [pay50_at, tdk D m c hD]) (fun h d => tgk D m c hD t h d) h d
theorem tileShareQ (o : Vec Ideal S1x64 .f32) (S : Fin 64 → ℝ) (ho : ∀ d, o (ix2 0 d) = (S d : ℝ)) (d : Fin 64) :
    k0_pay45 (F := Ideal) (gqV (iblk m c 0 t) (iblk m c 6 t) (iblk m c 7 t)) o (ix2 0 d) = ((S d + ∑ h, ∑ r, D.shareQ h (row t.val r) d : ℝ) : EReal) := by
  rw [pay45_at, ho, FoxReal.sum_coe fun h _ => FoxReal.sum_coe fun r _ => gqV_at _ _ _ (tseg m c t) r _ _ (fun h d => tq D m c hD t r h d) (fun h d => tdq D m c hD t r h d) h d, ← EReal.coe_add]
  rfl
theorem tileShareK (o : Vec Ideal S1x64 .f32) (S : Fin 64 → ℝ) (ho : ∀ d, o (ix2 0 d) = (S d : ℝ)) (d : Fin 64) :
    k0_pay54 (F := Ideal) (gkV (iblk m c 1 t) (iblk m c 6 t) (iblk m c 8 t)) o (ix2 0 d) = ((S d + ∑ h, ∑ r, D.shareK h (row t.val r) d : ℝ) : EReal) := by
  rw [pay54_at, ho, FoxReal.sum_coe fun h _ => FoxReal.sum_coe fun r _ => gkV_at _ _ _ (tseg m c t) r _ _ (fun h d => tk D m c hD t r h d) (fun h d => tdk D m c hD t r h d) h d, ← EReal.coe_add]
  rfl
section carry
variable (o : Vec Ideal S1x128 .f32) (ho : ∀ j, o (ix2 0 j) = (D.suf j (256 * (16 - t.val)) : ℝ))
include ho
theorem tileSuf (r : Fin 256) (j : Fin 128) : sufV (iblk m c 7 t) (iblk m c 8 t) o (ix2 r j) = (D.suf j (row t.val r).val : ℝ) := by
  rw [sufV_at _ _ o (fun r j => D.up j (row t.val r)) (fun j => D.suf j (256 * (16 - t.val))) (tup D m c hD t) ho r j]
  exact congrArg _ (suf_row D j t.val (lt_of_lt_of_eq t.isLt N_0) r)
theorem tileGate (r : Fin 256) (j : Fin 128) : dfV (iblk m c 2 t) (iblk m c 3 t) (iblk m c 7 t) (iblk m c 8 t) o (ix2 r j) = (D.gate (row t.val r) j : ℝ) := by
  rw [dfV_at _ _ _ _ _ r j _ _ _ (tileSuf D m c hD t o ho r j) (tz D m c hD t r j) (tb D m c hD t j)]
  unfold Reals.gate Reals.pre
  split_ifs <;> rfl
theorem tileCarry (j : Fin 128) : k0_pay46 (F := Ideal) (sufV (iblk m c 7 t) (iblk m c 8 t) o) (ix2 0 j) = (D.suf j (256 * (16 - (t.val + 1))) : ℝ) := by
  rw [pay46_at, tileSuf D m c hD t o ho]
  have ht := lt_of_lt_of_eq t.isLt N_0
  exact congrArg (fun p => ((D.suf j p : ℝ) : EReal)) (by show 256 * (15 - t.val) + 0 = _; omega)
theorem tileBias (b : Vec Ideal S1x128 .f32) (S : Fin 128 → ℝ) (hb : ∀ j, b (ix2 0 j) = (S j : ℝ)) (j : Fin 128) :
    k0_pay49 (F := Ideal) (dfV (iblk m c 2 t) (iblk m c 3 t) (iblk m c 7 t) (iblk m c 8 t) o) b (ix2 0 j) = ((S j + ∑ r, D.gate (row t.val r) j : ℝ) : EReal) := by
  rw [pay49_at, hb, FoxReal.sum_coe fun r _ => tileGate D m c hD t o ho r j, ← EReal.coe_add]
end carry

end Cert.Post
-- ==== Proof.PostOuts.lean ====
module

public import proofs.«01_k».proof.Proof.PostFold

@[expose] public section

set_option maxRecDepth 16384

noncomputable section

namespace Cert.Post

open Cert.FoxPostIdeal Cert.FoxPostIdeal.Gen
open Idealize.ShloMosaic
open Idealize.ShloMosaic.TcCoe Idealize.ShloMosaic.Tactic

/-! What each point leaves, by induction on the point. -/

variable (D : Reals) (m : (b : Dev nD × DevRef τ sig) → Buf (Elt Ideal) b) (c : Dev nD)

/-- What a point leaves in the output tiles, the three running sums and the carry. -/
structure Left (n : ℕ) (o : Vec Ideal S256x512 .bf16 × Vec Ideal S256x512 .bf16 × Vec Ideal S256x512 .bf16 × Vec Ideal S256x128 .bf16 × Vec Ideal S1x64 .f32 × Vec Ideal S1x64 .f32 × Vec Ideal S1x128 .f32 × Vec Ideal S1x128 .f32) : Prop where
  q : ∀ r h d, o.1 (ix2 r (col h d)) = ((D.gradQ (row n r) h d : ℝ) : EReal)
  k : ∀ r h d, o.2.1 (ix2 r (col h d)) = ((D.gradK (row n r) h d : ℝ) : EReal)
  v : ∀ r h d, o.2.2.1 (ix2 r (col h d)) = A8 m c (ix3 h (row n r) d)
  f : ∀ r j, o.2.2.2.1 (ix2 r j) = ((D.gate (row n r) j : ℝ) : EReal)
  gq : ∀ d, o.2.2.2.2.1 (ix2 0 d) = ((∑ i ∈ Finset.range (n + 1), ∑ h, ∑ r, D.shareQ h (row i r) d : ℝ) : EReal)
  gk : ∀ d, o.2.2.2.2.2.1 (ix2 0 d) = ((∑ i ∈ Finset.range (n + 1), ∑ h, ∑ r, D.shareK h (row i r) d : ℝ) : EReal)
  b : ∀ j, o.2.2.2.2.2.2.1 (ix2 0 j) = ((∑ i ∈ Finset.range (n + 1), ∑ r, D.gate (row i r) j : ℝ) : EReal)
  s : ∀ j, o.2.2.2.2.2.2.2 (ix2 0 j) = ((D.suf j (256 * (16 - (n + 1))) : ℝ) : EReal)

theorem zero_s (j : Fin 128) : k0_pay2 (F := Ideal) (ix2 0 j) = ((0 : ℝ) : EReal) := by unfold k0_pay2; pointwise; rfl
theorem zero_q (d : Fin 64) : k0_pay3 (F := Ideal) (ix2 0 d) = ((0 : ℝ) : EReal) := by unfold k0_pay3; pointwise; rfl
theorem zero_k (d : Fin 64) : k0_pay4 (F := Ideal) (ix2 0 d) = ((0 : ℝ) : EReal) := by unfold k0_pay4; pointwise; rfl
theorem zero_b (j : Fin 128) : k0_pay5 (F := Ideal) (ix2 0 j) = ((0 : ℝ) : EReal) := by unfold k0_pay5; pointwise; rfl
theorem suf_end (j : Fin 128) : D.suf j 4096 = 0 :=
  Finset.sum_eq_zero fun s _ => if_neg (by have := s.isLt; omega)

variable (hD : D.At (A0 m c) (A1 m c) (A2 m c) (A3 m c) (A4 m c) (A5 m c) (A6 m c) (A7 m c) (A9 m c) (A10 m c))
include hD

theorem left_first (t : Fin cfg0.N) (h0 : t.val % 16 = 0) : Left D m c t.val (outsAt0 m c t.val t.isLt) := by
  have ht := lt_of_lt_of_eq t.isLt N_0
  have e0 : t.val = 0 := by omega
  have es : ∀ j, k0_pay2 (F := Ideal) (ix2 0 j) = ((D.suf j (256 * (16 - t.val)) : ℝ) : EReal) := fun j => by
    rw [zero_s, e0, suf_end]
  rw [outsAt0_A m c t h0]
  refine ⟨fun r h d => ?_, fun r h d => ?_, fun r h d => ?_, fun r j => ?_, fun d => ?_, fun d => ?_, fun j => ?_, fun j => ?_⟩ <;> dsimp only
  · rw [outA10, tileQ D m c hD]
  · rw [outA11, tileK D m c hD]
  · rw [outA12, dvV_at, blk9]
  · rw [outA13]; exact tileGate D m c hD t _ es r j
  · rw [outA14, tileShareQ D m c hD t _ (fun _ => 0) zero_q, e0, Finset.sum_range_one, zero_add]
  · rw [outA15, tileShareK D m c hD t _ (fun _ => 0) zero_k, e0, Finset.sum_range_one, zero_add]
  · rw [outA16, tileBias D m c hD t _ es _ (fun _ => 0) zero_b, e0, Finset.sum_range_one, zero_add]
  · rw [soutA, tileCarry D m c hD t _ es]

theorem left_next (t : Fin cfg0.N) (h0 : ¬ t.val % 16 = 0) (hp : t.val - 1 < cfg0.N) (ih : Left D m c (t.val - 1) (outsAt0 m c (t.val - 1) hp)) :
    Left D m c t.val (outsAt0 m c t.val t.isLt) := by
  have e0 : t.val - 1 + 1 = t.val := by omega
  have es := ih.s
  have eq := ih.gq
  have ek := ih.gk
  have eb := ih.b
  rw [e0] at es eq ek eb
  rw [outsAt0_B m c t h0]
  refine ⟨fun r h d => ?_, fun r h d => ?_, fun r h d => ?_, fun r j => ?_, fun d => ?_, fun d => ?_, fun j => ?_, fun j => ?_⟩ <;> dsimp only
  · rw [outB10, tileQ D m c hD]
  · rw [outB11, tileK D m c hD]
  · rw [outB12, dvV_at, blk9]
  · rw [outB13]; exact tileGate D m c hD t _ es r j
  · rw [outB14, tileShareQ D m c hD t _ _ eq, Finset.sum_range_succ]
  · rw [outB15, tileShareK D m c hD t _ _ ek, Finset.sum_range_succ]
  · rw [outB16, tileBias D m c hD t _ es _ _ eb, Finset.sum_range_succ]
  · rw [soutB, tileCarry D m c hD t _ es]

theorem left : ∀ n (h : n < cfg0.N), Left D m c n (outsAt0 m c n h)
  | 0, h => left_first D m c hD ⟨0, h⟩ rfl
  | n + 1, h => left_next D m c hD ⟨n + 1, h⟩ (by have := lt_of_lt_of_eq h N_0; show ¬ (n + 1) % 16 = 0; omega) (Nat.lt_of_succ_lt h) (left n (Nat.lt_of_succ_lt h))

omit hD in
/-- A token's point and its row in the point's tile. -/
theorem place (u : Fin 4096) : ∃ (t : Fin cfg0.N) (r : Fin 256), row t.val r = u ∧ t.val = 15 - u.val / 256 := by
  have hu := u.isLt
  refine ⟨⟨15 - u.val / 256, lt_of_lt_of_eq (by omega) N_0.symm⟩, ⟨u.val % 256, Nat.mod_lt _ (by decide)⟩, Fin.ext ?_, rfl⟩
  show 256 * (15 - (15 - u.val / 256)) + u.val % 256 = u.val
  omega

omit hD in
theorem idx10 : ∀ t : Fin cfg0.N, win0_10.index t 0 = 15 - t.val ∧ win0_10.index t 1 = 0 := by decide +kernel
omit hD in
theorem flush10 : ∀ t : Fin cfg0.N, (cfg0.win 10).flush t = true := by decide +kernel
/-- The queries' gradients in their array. -/
theorem arr10 (u : Fin 4096) (h : Fin 8) (d : Fin 64) : (dats m 0 c).arrAt 10 cfg0.N (ix2 u (col h d)) = ((D.gradQ u h d : ℝ) : EReal) := by
  obtain ⟨t, r, rfl, -⟩ := place u
  have hb := congrFun ((Value.blocks10 m c t (flush10 t)).trans (Value.flushed10 m c t)) (ix2 r (col h d))
  rw [View.read_apply] at hb
  refine Eq.trans (congrArg ((dats m 0 c).arrAt 10 cfg0.N) ?_) (hb.trans ((left D m c hD t.val t.isLt).q r h d))
  funext a
  apply Fin.ext
  match a with
  | ⟨0, _⟩ => show 256 * (15 - t.val) + r.val = win0_10.index t 0 * 256 + 1 * r.val; rw [(idx10 t).1]; omega
  | ⟨1, _⟩ => show (col h d).val = win0_10.index t 1 * 512 + 1 * (col h d).val; rw [(idx10 t).2]; omega
omit hD in
theorem idx11 : ∀ t : Fin cfg0.N, win0_11.index t 0 = 15 - t.val ∧ win0_11.index t 1 = 0 := by decide +kernel
omit hD in
theorem flush11 : ∀ t : Fin cfg0.N, (cfg0.win 11).flush t = true := by decide +kernel
/-- The keys' gradients in their array. -/
theorem arr11 (u : Fin 4096) (h : Fin 8) (d : Fin 64) : (dats m 0 c).arrAt 11 cfg0.N (ix2 u (col h d)) = ((D.gradK u h d : ℝ) : EReal) := by
  obtain ⟨t, r, rfl, -⟩ := place u
  have hb := congrFun ((Value.blocks11 m c t (flush11 t)).trans (Value.flushed11 m c t)) (ix2 r (col h d))
  rw [View.read_apply] at hb
  refine Eq.trans (congrArg ((dats m 0 c).arrAt 11 cfg0.N) ?_) (hb.trans ((left D m c hD t.val t.isLt).k r h d))
  funext a
  apply Fin.ext
  match a with
  | ⟨0, _⟩ => show 256 * (15 - t.val) + r.val = win0_11.index t 0 * 256 + 1 * r.val; rw [(idx11 t).1]; omega
  | ⟨1, _⟩ => show (col h d).val = win0_11.index t 1 * 512 + 1 * (col h d).val; rw [(idx11 t).2]; omega
omit hD in
theorem idx12 : ∀ t : Fin cfg0.N, win0_12.index t 0 = 15 - t.val ∧ win0_12.index t 1 = 0 := by decide +kernel
omit hD in
theorem flush12 : ∀ t : Fin cfg0.N, (cfg0.win 12).flush t = true := by decide +kernel
/-- The values' gradients in their array. -/
theorem arr12 (u : Fin 4096) (h : Fin 8) (d : Fin 64) : (dats m 0 c).arrAt 12 cfg0.N (ix2 u (col h d)) = A8 m c (ix3 h u d) := by
  obtain ⟨t, r, rfl, -⟩ := place u
  have hb := congrFun ((Value.blocks12 m c t (flush12 t)).trans (Value.flushed12 m c t)) (ix2 r (col h d))
  rw [View.read_apply] at hb
  refine Eq.trans (congrArg ((dats m 0 c).arrAt 12 cfg0.N) ?_) (hb.trans ((left D m c hD t.val t.isLt).v r h d))
  funext a
  apply Fin.ext
  match a with
  | ⟨0, _⟩ => show 256 * (15 - t.val) + r.val = win0_12.index t 0 * 256 + 1 * r.val; rw [(idx12 t).1]; omega
  | ⟨1, _⟩ => show (col h d).val = win0_12.index t 1 * 512 + 1 * (col h d).val; rw [(idx12 t).2]; omega
omit hD in
theorem idx13 : ∀ t : Fin cfg0.N, win0_13.index t 0 = 15 - t.val ∧ win0_13.index t 1 = 0 := by decide +kernel
omit hD in
theorem flush13 : ∀ t : Fin cfg0.N, (cfg0.win 13).flush t = true := by decide +kernel
/-- The gates' gradients in their array. -/
theorem arr13 (u : Fin 4096) (j : Fin 128) : (dats m 0 c).arrAt 13 cfg0.N (ix2 u j) = ((D.gate u j : ℝ) : EReal) := by
  obtain ⟨t, r, rfl, -⟩ := place u
  have hb := congrFun ((Value.blocks13 m c t (flush13 t)).trans (Value.flushed13 m c t)) (ix2 r j)
  rw [View.read_apply] at hb
  refine Eq.trans (congrArg ((dats m 0 c).arrAt 13 cfg0.N) ?_) (hb.trans ((left D m c hD t.val t.isLt).f r j))
  funext a
  apply Fin.ext
  match a with
  | ⟨0, _⟩ => show 256 * (15 - t.val) + r.val = win0_13.index t 0 * 256 + 1 * r.val; rw [(idx13 t).1]; omega
  | ⟨1, _⟩ => show j.val = win0_13.index t 1 * 128 + 1 * j.val; rw [(idx13 t).2]; omega
omit hD in
theorem sum_all (g : Fin 8 → Fin 4096 → ℝ) : ∑ i ∈ Finset.range 16, ∑ h, ∑ r, g h (row i r) = ∑ h, ∑ t, g h t := by
  rw [Finset.sum_comm]
  exact Finset.sum_congr rfl fun h _ => all_rows (g h)
/-- The last point. -/
def tl : Fin cfg0.N := ⟨15, lt_of_lt_of_eq (by decide) N_0.symm⟩

section
omit hD
theorem last14 (t : Fin cfg0.N) (hf : (cfg0.win 14).flush t = true) : t = tl :=
  Fin.ext (by have := (flush0_14 t).mp hf; have h2 := lt_of_lt_of_eq t.isLt N_0; show t.val = 15; omega)
theorem whole14 : (dats m 0 c).arrAt 14 cfg0.N = (outsAt0 m c tl.val tl.isLt).2.2.2.2.1 := by
  refine (dats m 0 c).arrAt_eq_of_cover 14 _ (fun t hf => ?_) fun i => ⟨tl, (flush0_14 tl).mpr rfl, ?_⟩
  · obtain rfl := last14 t hf
    rw [Value.flushed14]
    have hz : (fun a => win0_14.index tl a * main_v26_4.ty.shape.size a) = fun _ => 0 := funext fun a => by fin_cases a <;> decide +kernel
    exact (Memref.read_access_unit_zero (Elt Ideal) main_v26_4 hz (fun a => by rw [congrFun hz a]; simp) _).symm
  · show i ∈ ((View.whole main_v26_4).slice (win0_14.rect tl)).set
    rw [View.set_slice_whole, Rect.mem_set_unit]
    intro a
    have h0 : (i 0 : Nat) < 1 := (i 0).isLt
    have h1 : (i 1 : Nat) < 64 := (i 1).isLt
    match a with
    | ⟨0, _⟩ =>
      show win0_14.index tl 0 * win0_14.size 0 ≤ (i 0 : Nat) ∧ (i 0 : Nat) < win0_14.index tl 0 * win0_14.size 0 + win0_14.xsize (grid0.coords tl) 0
      rw [show win0_14.index tl 0 * win0_14.size 0 = 0 from by decide +kernel, show win0_14.xsize (grid0.coords tl) 0 = 1 from by decide +kernel]; omega
    | ⟨1, _⟩ =>
      show win0_14.index tl 1 * win0_14.size 1 ≤ (i 1 : Nat) ∧ (i 1 : Nat) < win0_14.index tl 1 * win0_14.size 1 + win0_14.xsize (grid0.coords tl) 1
      rw [show win0_14.index tl 1 * win0_14.size 1 = 0 from by decide +kernel, show win0_14.xsize (grid0.coords tl) 1 = 64 from by decide +kernel]; omega
end
/-- The queries' gain's gradient. -/
theorem arr14 (d : Fin 64) : (dats m 0 c).arrAt 14 cfg0.N (ix2 0 d) = ((∑ h, ∑ t, D.shareQ h t d : ℝ) : EReal) := by
  rw [whole14]
  exact ((left D m c hD tl.val tl.isLt).gq d).trans (congrArg _ (sum_all fun h t => D.shareQ h t d))
section
omit hD
theorem last15 (t : Fin cfg0.N) (hf : (cfg0.win 15).flush t = true) : t = tl :=
  Fin.ext (by have := (flush0_15 t).mp hf; have h2 := lt_of_lt_of_eq t.isLt N_0; show t.val = 15; omega)
theorem whole15 : (dats m 0 c).arrAt 15 cfg0.N = (outsAt0 m c tl.val tl.isLt).2.2.2.2.2.1 := by
  refine (dats m 0 c).arrAt_eq_of_cover 15 _ (fun t hf => ?_) fun i => ⟨tl, (flush0_15 tl).mpr rfl, ?_⟩
  · obtain rfl := last15 t hf
    rw [Value.flushed15]
    have hz : (fun a => win0_15.index tl a * main_v26_5.ty.shape.size a) = fun _ => 0 := funext fun a => by fin_cases a <;> decide +kernel
    exact (Memref.read_access_unit_zero (Elt Ideal) main_v26_5 hz (fun a => by rw [congrFun hz a]; simp) _).symm
  · show i ∈ ((View.whole main_v26_5).slice (win0_15.rect tl)).set
    rw [View.set_slice_whole, Rect.mem_set_unit]
    intro a
    have h0 : (i 0 : Nat) < 1 := (i 0).isLt
    have h1 : (i 1 : Nat) < 64 := (i 1).isLt
    match a with
    | ⟨0, _⟩ =>
      show win0_15.index tl 0 * win0_15.size 0 ≤ (i 0 : Nat) ∧ (i 0 : Nat) < win0_15.index tl 0 * win0_15.size 0 + win0_15.xsize (grid0.coords tl) 0
      rw [show win0_15.index tl 0 * win0_15.size 0 = 0 from by decide +kernel, show win0_15.xsize (grid0.coords tl) 0 = 1 from by decide +kernel]; omega
    | ⟨1, _⟩ =>
      show win0_15.index tl 1 * win0_15.size 1 ≤ (i 1 : Nat) ∧ (i 1 : Nat) < win0_15.index tl 1 * win0_15.size 1 + win0_15.xsize (grid0.coords tl) 1
      rw [show win0_15.index tl 1 * win0_15.size 1 = 0 from by decide +kernel, show win0_15.xsize (grid0.coords tl) 1 = 64 from by decide +kernel]; omega
end
/-- The keys' gain's gradient. -/
theorem arr15 (d : Fin 64) : (dats m 0 c).arrAt 15 cfg0.N (ix2 0 d) = ((∑ h, ∑ t, D.shareK h t d : ℝ) : EReal) := by
  rw [whole15]
  exact ((left D m c hD tl.val tl.isLt).gk d).trans (congrArg _ (sum_all fun h t => D.shareK h t d))
section
omit hD
theorem last16 (t : Fin cfg0.N) (hf : (cfg0.win 16).flush t = true) : t = tl :=
  Fin.ext (by have := (flush0_16 t).mp hf; have h2 := lt_of_lt_of_eq t.isLt N_0; show t.val = 15; omega)
theorem whole16 : (dats m 0 c).arrAt 16 cfg0.N = (outsAt0 m c tl.val tl.isLt).2.2.2.2.2.2.1 := by
  refine (dats m 0 c).arrAt_eq_of_cover 16 _ (fun t hf => ?_) fun i => ⟨tl, (flush0_16 tl).mpr rfl, ?_⟩
  · obtain rfl := last16 t hf
    rw [Value.flushed16]
    have hz : (fun a => win0_16.index tl a * main_v26_6.ty.shape.size a) = fun _ => 0 := funext fun a => by fin_cases a <;> decide +kernel
    exact (Memref.read_access_unit_zero (Elt Ideal) main_v26_6 hz (fun a => by rw [congrFun hz a]; simp) _).symm
  · show i ∈ ((View.whole main_v26_6).slice (win0_16.rect tl)).set
    rw [View.set_slice_whole, Rect.mem_set_unit]
    intro a
    have h0 : (i 0 : Nat) < 1 := (i 0).isLt
    have h1 : (i 1 : Nat) < 128 := (i 1).isLt
    match a with
    | ⟨0, _⟩ =>
      show win0_16.index tl 0 * win0_16.size 0 ≤ (i 0 : Nat) ∧ (i 0 : Nat) < win0_16.index tl 0 * win0_16.size 0 + win0_16.xsize (grid0.coords tl) 0
      rw [show win0_16.index tl 0 * win0_16.size 0 = 0 from by decide +kernel, show win0_16.xsize (grid0.coords tl) 0 = 1 from by decide +kernel]; omega
    | ⟨1, _⟩ =>
      show win0_16.index tl 1 * win0_16.size 1 ≤ (i 1 : Nat) ∧ (i 1 : Nat) < win0_16.index tl 1 * win0_16.size 1 + win0_16.xsize (grid0.coords tl) 1
      rw [show win0_16.index tl 1 * win0_16.size 1 = 0 from by decide +kernel, show win0_16.xsize (grid0.coords tl) 1 = 128 from by decide +kernel]; omega
end
/-- The bias' gradient. -/
theorem arr16 (d : Fin 128) : (dats m 0 c).arrAt 16 cfg0.N (ix2 0 d) = ((∑ t, D.gate t d : ℝ) : EReal) := by
  rw [whole16]
  exact ((left D m c hD tl.val tl.isLt).b d).trans (congrArg _ (all_rows fun t => D.gate t d))

end Cert.Post
-- ==== Proof.PostRef.lean ====
module

public import proofs.«01_k».proof.Proof.PostRows
public import proofs.«01_k».proof.Proof.HostSums
public import proofs.«01_k».proof.Proof.Gen.FoxPostGradIdeal.Read
public import Idealize.ShloMosaic.Lib.Pointwise

@[expose] public section

set_option maxRecDepth 16384

noncomputable section

namespace Cert.PostRef

open Cert.FoxPostGradIdeal Cert.FoxPostGradIdeal.Gen Cert.FoxPostGradIdeal.Read
open Cert.Post (rr ms rowgrad col eps eps_coe ms_pos rsqrt_ms)
open Idealize.ShloMosaic
open Idealize.ShloMosaic.TcCoe Idealize.ShloMosaic.Tactic

/-! The gradients of the heads' norms, scale and gates, as the plain program computes them over real arguments. -/

theorem bits_64 : (Ideal.ofBits .f32 0x42800000#32 : EReal) = ((64 : ℝ) : EReal) := by
  simp [Ideal.ofBits, Ideal.ieee]
  rw [← EReal.coe_mul]; norm_num
theorem bits_mhalf : (Ideal.ofBits .f32 0xBF000000#32 : EReal) = ((-(1 / 2) : ℝ) : EReal) := by
  simp [Ideal.ofBits, Ideal.ieee]
  rw [← EReal.coe_mul]; norm_num

section norm
variable (x : FVec Ideal S4096x512 .f32) (X : Fin 8 → Fin 4096 → Fin 64 → ℝ) (hx : ∀ h t d, x (ix2 t (col h d)) = ((X h t d : ℝ) : EReal))

theorem heads_at (h : Fin 8) (t : Fin 4096) (d : Fin 64) : val_main_v2 (F := Ideal) x (ix3 h t d) = x (ix2 t (col h d)) := by
  rw [val_main_v2_apply]
  refine (shapeCast_apply x shapeCasts_S4096x512_S4096x8x64 _ (ix2 t (col h d)) ?_)
  rw [Shape.rowMajor_val_two, Shape.rowMajor_val_three]
  show t.val * 512 + (64 * h.val + d.val) = (t.val * 8 + h.val) * 64 + d.val
  omega
include hx
theorem ms_at (h : Fin 8) (t : Fin 4096) : val_main_v10 (F := Ideal) x (ix3 h t 0) = ((ms (X h t) : ℝ) : EReal) := by
  have e : val_main_v10 (F := Ideal) x (ix3 h t 0) = Ideal.div (Ideal.ofBits .f32 0x00000000#32 + ∑ d, val_main_v2 (F := Ideal) x (ix3 h t d) * val_main_v2 (F := Ideal) x (ix3 h t d)) (Ideal.ofBits .f32 0x42800000#32) + Ideal.ofBits .f32 0x358637BD#32 := by
    unfold val_main_v10 val_main_v9 val_main_cst_2 val_main_v8 val_main_v7 val_main_cst_1 val_main_v6 val_main_v5 val_main_cst_0 val_main_v4
    generalize val_main_v2 (F := Ideal) x = H
    pointwise
  rw [e, FoxReal.sum_coe fun d _ => by rw [heads_at, hx, ← EReal.coe_mul], bits_64, FoxReal.bits_zero, ← EReal.coe_add, FoxReal.div_coe _ _ (by norm_num), eps_coe, ← EReal.coe_add, zero_add]
  rfl
theorem rs_at (h : Fin 8) (t : Fin 4096) : val_main_v11 (F := Ideal) x (ix3 h t 0) = ((rr (X h t) : ℝ) : EReal) := by
  have e : val_main_v11 (F := Ideal) x (ix3 h t 0) = Ideal.rsqrt (val_main_v10 (F := Ideal) x (ix3 h t 0)) := by
    unfold val_main_v11
    generalize val_main_v10 (F := Ideal) x = H
    pointwise
  rw [e, ms_at x X hx, rsqrt_ms]
theorem fac_at (h : Fin 8) (t : Fin 4096) : val_main_v14 (F := Ideal) x (ix3 h t 0) = ((-(1 / 2) * (rr (X h t) / ms (X h t)) : ℝ) : EReal) := by
  have e : val_main_v14 (F := Ideal) x (ix3 h t 0) = Ideal.ofBits .f32 0xBF000000#32 * Ideal.div (val_main_v11 (F := Ideal) x (ix3 h t 0)) (val_main_v10 (F := Ideal) x (ix3 h t 0)) := by
    unfold val_main_v14 val_main_v13 val_main_cst_3 val_main_v12
    generalize val_main_v11 (F := Ideal) x = r
    generalize val_main_v10 (F := Ideal) x = H
    pointwise
  rw [e, rs_at x X hx, ms_at x X hx, bits_mhalf, FoxReal.div_coe _ _ (ms_pos _).ne', ← EReal.coe_mul]
theorem normed_at (h : Fin 8) (t : Fin 4096) (d : Fin 64) : val_main_v16 (F := Ideal) x (ix3 h t d) = ((X h t d * rr (X h t) : ℝ) : EReal) := by
  have e : val_main_v16 (F := Ideal) x (ix3 h t d) = val_main_v2 (F := Ideal) x (ix3 h t d) * val_main_v11 (F := Ideal) x (ix3 h t 0) := by
    unfold val_main_v16 val_main_v15
    generalize val_main_v11 (F := Ideal) x = r
    generalize val_main_v2 (F := Ideal) x = H
    pointwise
  rw [e, heads_at, hx, rs_at x X hx, ← EReal.coe_mul]
end norm

/-- What flows back to a row through its mean square, and the row's gradient. -/
def thru (H w : FVec Ideal S8x4096x64 .f32) (f : FVec Ideal S8x4096x1 .f32) : FVec Ideal S8x4096 .f32 :=
  Host.reduceAdd (Host.divf (mulf (shapeCast S8x4096x1 (Host.reduceAdd (mulf H w) (constant S_ .f32 0x00000000#32) reducesTo_S8x4096x64_S8x4096_d2 h_S_) shapeCasts_S8x4096_S8x4096x1) f)
    (broadcastInDim S8x4096x1 ![] bcast_S_S8x4096x1 (constant S_ .f32 0x42800000#32))) (constant S_ .f32 0x00000000#32) reducesTo_S8x4096x1_S8x4096_d2 h_S_
def backR (H w : FVec Ideal S8x4096x64 .f32) (r f : FVec Ideal S8x4096x1 .f32) : FVec Ideal S8x4096x64 .f32 :=
  addf (addf (mulf w (broadcastInDim S8x4096x64 ![0, 1, 2] bcast_S8x4096x1_S8x4096x64_0_1_2 r)) (mulf H (broadcastInDim S8x4096x64 ![0, 1] bcast_S8x4096_S8x4096x64_0_1 (thru H w f))))
    (mulf (broadcastInDim S8x4096x64 ![0, 1] bcast_S8x4096_S8x4096x64_0_1 (thru H w f)) H)
theorem v106_eq (x0 x4 x6) : val_main_v106 (F := Ideal) x0 x4 x6 = backR (val_main_v2 (F := Ideal) x0) (val_main_v91 (F := Ideal) x4 x6) (val_main_v11 (F := Ideal) x0) (val_main_v14 (F := Ideal) x0) := rfl
theorem v83_eq (x1 x5 x7) : val_main_v83 (F := Ideal) x1 x5 x7 = backR (val_main_v2 (F := Ideal) x1) (val_main_v68 (F := Ideal) x5 x7) (val_main_v11 (F := Ideal) x1) (val_main_v14 (F := Ideal) x1) := rfl

/-- The two writings of a row's gradient are one number. -/
theorem two_ways (X D : Fin 64 → ℝ) (d : Fin 64) :
    D d * rr X + X d * ((∑ e, X e * D e) * (-(1 / 2) * (rr X / ms X)) / 64) + (∑ e, X e * D e) * (-(1 / 2) * (rr X / ms X)) / 64 * X d = rowgrad X D d := by
  have hm := ms_pos X
  have hr : rr X * rr X = 1 / ms X := by
    unfold rr
    rw [← mul_inv, Real.mul_self_sqrt hm.le, one_div]
  have hs : ∑ e, D e * (X e * rr X) = rr X * ∑ e, X e * D e := by
    rw [Finset.mul_sum]; exact Finset.sum_congr rfl fun e _ => by ring
  unfold rowgrad
  rw [hs]
  have e1 : rr X / ms X = rr X * (rr X * rr X) := by rw [hr]; ring
  rw [e1]; ring

section back
variable (H w : FVec Ideal S8x4096x64 .f32) (r f : FVec Ideal S8x4096x1 .f32) (X W : Fin 8 → Fin 4096 → Fin 64 → ℝ)
  (hH : ∀ h t d, H (ix3 h t d) = ((X h t d : ℝ) : EReal)) (hw : ∀ h t d, w (ix3 h t d) = ((W h t d : ℝ) : EReal))
  (hr : ∀ h t, r (ix3 h t 0) = ((rr (X h t) : ℝ) : EReal)) (hf : ∀ h t, f (ix3 h t 0) = ((-(1 / 2) * (rr (X h t) / ms (X h t)) : ℝ) : EReal))
theorem thru_eq (h : Fin 8) (t : Fin 4096) : thru H w f (ix2 h t) =
    Ideal.ofBits .f32 0x00000000#32 + ∑ z : Fin 1, Ideal.div ((Ideal.ofBits .f32 0x00000000#32 + ∑ d, H (ix3 h t d) * w (ix3 h t d)) * f (ix3 h t z)) (Ideal.ofBits .f32 0x42800000#32) := by
  unfold thru; pointwise
include hH hw hf
theorem thru_at (h : Fin 8) (t : Fin 4096) : thru H w f (ix2 h t) = (((∑ d, X h t d * W h t d) * (-(1 / 2) * (rr (X h t) / ms (X h t))) / 64 : ℝ) : EReal) := by
  rw [thru_eq, Fin.sum_univ_one, FoxReal.sum_coe (g := fun d => H (ix3 h t d) * w (ix3 h t d)) fun d _ => by rw [hH, hw, ← EReal.coe_mul], FoxReal.bits_zero, ← EReal.coe_add]
  rw [show f (ix3 h t 0) = _ from hf h t, ← EReal.coe_mul, bits_64, FoxReal.div_coe _ _ (by norm_num), ← EReal.coe_add, zero_add, zero_add]
include hr
theorem backR_at (h : Fin 8) (t : Fin 4096) (d : Fin 64) : backR H w r f (ix3 h t d) = ((rowgrad (X h t) (W h t) d : ℝ) : EReal) := by
  have e : backR H w r f (ix3 h t d) = w (ix3 h t d) * r (ix3 h t 0) + H (ix3 h t d) * thru H w f (ix2 h t) + thru H w f (ix2 h t) * H (ix3 h t d) := by
    unfold backR
    generalize thru H w f = y
    pointwise
  rw [e, hH, hw, hr, thru_at H w f X W hH hw hf, ← EReal.coe_mul, ← EReal.coe_mul, ← EReal.coe_mul, ← EReal.coe_add, ← EReal.coe_add, two_ways]
end back

theorem scaled_at (x6 : FVec Ideal S8x4096x64 .f32) (h : Fin 8) (t : Fin 4096) (d : Fin 64) : val_main_v56 (F := Ideal) x6 (ix3 h t d) = x6 (ix3 h t d) * Ideal.ofBits .f32 0x3E000000#32 := by
  unfold val_main_v56 val_main_v55 val_main_cst_9; pointwise
theorem gain_at (x4 : FVec Ideal S1x64 .f32) (h : Fin 8) (t : Fin 4096) (d : Fin 64) : val_main_v90 (F := Ideal) x4 (ix3 h t d) = x4 (ix2 0 d) := by
  unfold val_main_v90 val_main_v17 val_main_v3; pointwise

/-- A sum over the tokens and heads kept as a row. -/
def total (v : FVec Ideal S8x4096x64 .f32) : FVec Ideal S1x64 .f32 :=
  broadcastInDim S1x64 ![1] bcast_S64_S1x64_1 (Host.reduceAdd (shapeCast S1x1x64 (Host.reduceAdd v (constant S_ .f32 0x00000000#32) reducesTo_S8x4096x64_S64_d0_1 h_S_) shapeCasts_S64_S1x1x64)
    (constant S_ .f32 0x00000000#32) reducesTo_S1x1x64_S64_d0_1 h_S_)
theorem v107_eq (x0 x6) : val_main_v107 (F := Ideal) x0 x6 = total (mulf (val_main_v16 (F := Ideal) x0) (val_main_v56 (F := Ideal) x6)) := rfl
theorem v84_eq (x1 x7) : val_main_v84 (F := Ideal) x1 x7 = total (mulf (val_main_v16 (F := Ideal) x1) x7) := rfl
theorem total_at (v : FVec Ideal S8x4096x64 .f32) (d : Fin 64) (V : Fin 8 → Fin 4096 → ℝ) (hv : ∀ h t, v (ix3 h t d) = ((V h t : ℝ) : EReal)) : total v (ix2 0 d) = ((∑ h, ∑ t, V h t : ℝ) : EReal) := by
  unfold total
  have e1 : (Host.reduceAdd v (constant (F := Ideal) S_ .f32 0x00000000#32) reducesTo_S8x4096x64_S64_d0_1 h_S_) (ix1 d) = ((∑ h, ∑ t, V h t : ℝ) : EReal) := by
    refine (HostSums.leading reducesTo_S8x4096x64_S64_d0_1 v (Ideal.ofBits .f32 0x00000000#32) d).trans ?_
    rw [FoxReal.sum_coe fun h _ => FoxReal.sum_coe fun t _ => hv h t, FoxReal.bits_zero, ← EReal.coe_add, zero_add]
  generalize Host.reduceAdd v (constant (F := Ideal) S_ .f32 0x00000000#32) reducesTo_S8x4096x64_S64_d0_1 h_S_ = y at e1 ⊢
  refine (broadcastInDim_apply _ bcast_S64_S1x64_1 _ (ix2 0 d) (ix1 d) (fun a => by fin_cases a <;> rfl)).trans ?_
  refine (HostSums.leading reducesTo_S1x1x64_S64_d0_1 _ (Ideal.ofBits .f32 0x00000000#32) d).trans ?_
  rw [Fin.sum_univ_one, Fin.sum_univ_one, show shapeCast S1x1x64 y shapeCasts_S64_S1x1x64 (ix3 0 0 d) = y (ix1 d) from by pointwise, e1, FoxReal.bits_zero, ← EReal.coe_add, zero_add]

theorem unheads_at (v : FVec Ideal S8x4096x64 .f32) (h : Fin 8) (t : Fin 4096) (d : Fin 64) :
    shapeCast S4096x512 (transpose S4096x8x64 [1, 0, 2] v transposes_S8x4096x64_S4096x8x64_1_0_2) shapeCasts_S4096x8x64_S4096x512 (ix2 t (col h d)) = v (ix3 h t d) := by
  refine (shapeCast_apply _ shapeCasts_S4096x8x64_S4096x512 _ (ix3 t h d) ?_).trans ?_
  · rw [Shape.rowMajor_val_two, Shape.rowMajor_val_three]
    show (t.val * 8 + h.val) * 64 + d.val = t.val * 512 + (64 * h.val + d.val)
    omega
  · pointwise

theorem max_coe (a b : ℝ) : ((max a b : ℝ) : EReal) = max (a : EReal) (b : EReal) := EReal.coe_strictMono.monotone.map_max
theorem absf_coe (y : ℝ) : FloatOps.absf (F := Ideal) (φ := .f32) (y : EReal) = ((|y| : ℝ) : EReal) := by
  show max (y : EReal) (-(y : EReal)) = _
  rw [← EReal.coe_neg, ← max_coe]
  rfl
theorem bits_top : (Ideal.ofBits .f32 2139095040#32 : EReal) = ⊤ := by
  simp [Ideal.ofBits, Ideal.ieee]

section gate
variable (x2 : FVec Ideal S4096x8 .f32) (x3 : FVec Ideal S1x8 .f32)
theorem neg_at (t : Fin 4096) (h : Fin 8) : val_main_call0_v0 (F := Ideal) x2 x3 (ix2 t h) = -(x2 (ix2 t h) + x3 (ix2 0 h)) := by
  unfold val_main_call0_v0 val_main_v42 val_main_v41 val_main_v40 val_main_v39; pointwise
/-- The softplus over the reals. -/
def sp (y : ℝ) : ℝ := max y 0 + Real.log (1 + Real.exp (-|y|))
theorem exp_sp (y : ℝ) : Real.exp (y - sp y) = 1 / (1 + Real.exp (-y)) := by
  unfold sp
  have h1 : (0 : ℝ) < 1 + Real.exp (-|y|) := by positivity
  have h2 : (0 : ℝ) < 1 + Real.exp (-y) := by positivity
  rw [Real.exp_sub, Real.exp_add, Real.exp_log h1]
  rcases le_total 0 y with h | h
  · rw [max_eq_left h, abs_of_nonneg h, ← div_div, div_self (Real.exp_pos y).ne']
  · rw [max_eq_right h, abs_of_nonpos h, neg_neg, Real.exp_zero, one_mul, div_eq_div_iff (by positivity) h2.ne', mul_add, ← Real.exp_add]
    simp [add_comm]
theorem sp_at (t : Fin 4096) (h : Fin 8) (y : ℝ) (hy : val_main_call0_v0 (F := Ideal) x2 x3 (ix2 t h) = (y : EReal)) : val_main_call0_v1_0 (F := Ideal) x2 x3 (ix2 t h) = ((sp y : ℝ) : EReal) := by
  unfold val_main_call0_v1_0 val_main_call0_call0_v4 val_main_call0_call0_v6 val_main_call0_call0_v11 val_main_call0_call0_v10 val_main_call0_call0_v9 val_main_call0_call0_v8 val_main_call0_call0_v7 val_main_call0_call0_v3 val_main_call0_call0_v2 val_main_call0_call0_v1 val_main_call0_call0_v0 val_main_call0_call0_cst
  generalize val_main_call0_v0 (F := Ideal) x2 x3 = Y at hy ⊢
  pointwise
  rw [if_neg (fun h => h rfl), hy, absf_coe, ← EReal.coe_neg, FoxReal.exp_coe]
  unfold Ideal.log1p
  rw [← EReal.coe_one, ← EReal.coe_add, FoxReal.log_coe _ (by positivity), ← EReal.coe_zero, ← max_coe, ← EReal.coe_add]
  rfl
theorem sig_at (t : Fin 4096) (h : Fin 8) (y : ℝ) (hy : val_main_call0_v0 (F := Ideal) x2 x3 (ix2 t h) = (y : EReal)) : val_main_v43_1 (F := Ideal) x2 x3 (ix2 t h) = ((1 / (1 + Real.exp (-y)) : ℝ) : EReal) := by
  have hs := sp_at x2 x3 t h y hy
  unfold val_main_v43_1 val_main_call0_call0_v21 val_main_call0_call0_v20 val_main_call0_call0_v19 val_main_call0_call0_v18 val_main_call0_call0_v17 val_main_call0_call0_v16 val_main_call0_call0_v15 val_main_call0_call0_v14 val_main_call0_call0_v13 val_main_call0_call0_cst_0 val_main_call0_call0_cst_1 val_main_call0_call0_cst_2 val_main_call0_call0_cst_3
  generalize val_main_call0_v0 (F := Ideal) x2 x3 = Y at hy ⊢
  generalize val_main_call0_v1_0 (F := Ideal) x2 x3 = Z at hs ⊢
  pointwise
  rw [hy, hs, bits_top, if_neg (EReal.coe_ne_top _), if_neg (EReal.coe_ne_top _), ← EReal.coe_sub, FoxReal.exp_coe, exp_sp]
end gate

/-! The sums over the later tokens. -/

theorem foldl_real {ι : Type} (L : List ι) (g : ι → EReal) (G : ι → ℝ) (hg : ∀ i, g i = ((G i : ℝ) : EReal)) : ∀ a : ℝ, L.foldl (fun r i => r + g i) (a : EReal) = ((a + (L.map G).sum : ℝ) : EReal) := by
  induction L with
  | nil => intro a; simp
  | cons i L ih =>
    intro a
    rw [List.foldl_cons, hg, ← EReal.coe_add, ih, List.map_cons, List.sum_cons, add_assoc]
/-- The window of a row. -/
abbrev Wd : Shape := ⟨2, ![1, 4096]⟩
theorem wd_one (n : Fin Wd.numel) : (Wd.rowMajor.symm n 0).val = 0 ∧ (Wd.rowMajor.symm n 1).val = n.val := by
  have h1 : (Wd.rowMajor (Wd.rowMajor.symm n)).val = n.val := by rw [Equiv.apply_symm_apply]
  rw [Shape.rowMajor_val_two] at h1
  have h0 : (Wd.rowMajor.symm n 0).val < 1 := (Wd.rowMajor.symm n 0).isLt
  have h2 : (Wd.rowMajor.symm n 0).val * 4096 + (Wd.rowMajor.symm n 1).val = n.val := h1
  omega
theorem shift (t : Fin 4096) (U : Fin 4096 → ℝ) : (∑ n : Fin 4096, if h : t.val + n.val < 4096 then U ⟨t.val + n.val, h⟩ else 0) = ∑ s : Fin 4096, if t.val ≤ s.val then U s else 0 := by
  rw [← Finset.sum_filter, ← Finset.sum_filter_add_sum_filter_not Finset.univ (fun n : Fin 4096 => t.val + n.val < 4096)]
  rw [Finset.sum_eq_zero (s := Finset.univ.filter fun n : Fin 4096 => ¬ t.val + n.val < 4096) fun n hn => dif_neg (Finset.mem_filter.mp hn).2, add_zero]
  have ht := t.isLt
  refine Finset.sum_bij (fun n hn => ⟨t.val + n.val, (Finset.mem_filter.mp hn).2⟩) (fun n hn => ?_) (fun a _ b _ hab => ?_) (fun s hs => ?_) (fun n hn => ?_)
  · exact Finset.mem_filter.mpr ⟨Finset.mem_univ _, Nat.le_add_right _ _⟩
  · exact Fin.ext (Nat.add_left_cancel (congrArg Fin.val hab))
  · have h1 := (Finset.mem_filter.mp hs).2
    have h2 := s.isLt
    exact ⟨⟨s.val - t.val, by omega⟩, Finset.mem_filter.mpr ⟨Finset.mem_univ _, by show t.val + (s.val - t.val) < 4096; omega⟩, Fin.ext (by show t.val + (s.val - t.val) = s.val; omega)⟩
  · exact dif_pos (Finset.mem_filter.mp hn).2
theorem later_at (x : FVec Ideal S8x4096 .f32) (v : FVec Ideal S_ .f32) (U : Fin 8 → Fin 4096 → ℝ) (hx : ∀ h t, x (ix2 h t) = ((U h t : ℝ) : EReal)) (hv : ∀ i, v i = ((0 : ℝ) : EReal)) (h : Fin 8) (t : Fin 4096) :
    Host.reduceWindowAdd ![1, 4096] ![1, 1] ![0, 0] ![0, 4095] x v reduceWindows_S8x4096_S8x4096_w1s1p0_0_w4096s1p0_4095 h_S_ (ix2 h t) = ((∑ s : Fin 4096, if t.val ≤ s.val then U h s else 0 : ℝ) : EReal) := by
  unfold Host.reduceWindowAdd
  show Ideal.hostReduceWindowAdd _ _ _ _ _ x _ _ = _
  unfold Ideal.hostReduceWindowAdd Host.reduceWindow
  dsimp only
  rw [hv]
  have hh := h.isLt
  have ht := t.isLt
  refine (foldl_real _ _ (fun n : Fin Wd.numel => if k : t.val + n.val < 4096 then U h ⟨t.val + n.val, k⟩ else 0) (fun n => ?_) 0).trans ?_
  · have hw := wd_one n
    split
    · next hin =>
      have h1 : 0 ≤ t.val * 1 + (Wd.rowMajor.symm n 1).val ∧ t.val * 1 + (Wd.rowMajor.symm n 1).val - 0 < 4096 := hin 1
      rw [hw.2] at h1
      rw [dif_pos (by omega)]
      refine (congrArg x (funext fun a => Fin.ext ?_)).trans (hx h ⟨t.val + n.val, by omega⟩)
      match a with
      | ⟨0, _⟩ => show h.val * 1 + (Wd.rowMajor.symm n 0).val - 0 = h.val; rw [hw.1]; omega
      | ⟨1, _⟩ => show t.val * 1 + (Wd.rowMajor.symm n 1).val - 0 = t.val + n.val; rw [hw.2]; omega
    · next hin =>
      rw [dif_neg fun hlt => hin fun a => by
        match a with
        | ⟨0, _⟩ => show 0 ≤ h.val * 1 + (Wd.rowMajor.symm n 0).val ∧ h.val * 1 + (Wd.rowMajor.symm n 0).val - 0 < 8; rw [hw.1]; omega
        | ⟨1, _⟩ => show 0 ≤ t.val * 1 + (Wd.rowMajor.symm n 1).val ∧ t.val * 1 + (Wd.rowMajor.symm n 1).val - 0 < 4096; rw [hw.2]; omega]
  · rw [zero_add, ← Fin.sum_univ_def]
    exact congrArg _ ((Fintype.sum_equiv (finCongr (show Wd.numel = 4096 by decide)) _ (fun n : Fin 4096 => if k : t.val + n.val < 4096 then U h ⟨t.val + n.val, k⟩ else 0) fun n => rfl).trans (shift t (U h)))

section gates
variable (x2 : FVec Ideal S4096x8 .f32) (x3 : FVec Ideal S1x8 .f32) (x9 x10 : FVec Ideal S8x4096 .f32) (z : Fin 4096 → Fin 8 → ℝ) (b : Fin 8 → ℝ) (r c : Fin 8 → Fin 4096 → ℝ)
  (hz : ∀ t h, x2 (ix2 t h) = ((z t h : ℝ) : EReal)) (hb : ∀ h, x3 (ix2 0 h) = ((b h : ℝ) : EReal)) (hr : ∀ h t, x9 (ix2 h t) = ((r h t : ℝ) : EReal)) (hc : ∀ h t, x10 (ix2 h t) = ((c h t : ℝ) : EReal))
include hr hc
theorem both_at (h : Fin 8) (t : Fin 4096) : val_main_v52 (F := Ideal) x9 x10 (ix2 h t) = ((r h t - c h t : ℝ) : EReal) := by
  have e : val_main_v52 (F := Ideal) x9 x10 (ix2 h t) = x9 (ix2 h t) + -x10 (ix2 h t) := by
    unfold val_main_v52 val_main_v51; pointwise
  rw [e, hr, hc, ← EReal.coe_neg, ← EReal.coe_add, sub_eq_add_neg]
theorem sums_at (h : Fin 8) (t : Fin 4096) : val_main_v57 (F := Ideal) x9 x10 (ix2 h t) = ((∑ s : Fin 4096, if t.val ≤ s.val then r h s - c h s else 0 : ℝ) : EReal) := by
  unfold val_main_v57
  refine later_at _ _ (fun h t => r h t - c h t) (both_at x9 x10 r c hr hc) (fun i => ?_) h t
  unfold val_main_call2_call0_v0 val_main_call2_call0_cst
  pointwise
  try rfl
include hz hb
theorem gate_at (t : Fin 4096) (h : Fin 8) : val_main_v59 (F := Ideal) x2 x3 x9 x10 (ix2 t h) = (((∑ s : Fin 4096, if t.val ≤ s.val then r h s - c h s else 0) / (1 + Real.exp (z t h + b h)) : ℝ) : EReal) := by
  have e : val_main_v59 (F := Ideal) x2 x3 x9 x10 (ix2 t h) = -(-(val_main_v57 (F := Ideal) x9 x10 (ix2 h t)) * val_main_v43_1 (F := Ideal) x2 x3 (ix2 t h)) := by
    unfold val_main_v59 val_main_call3_v1 val_main_call3_v0 val_main_v58
    generalize val_main_v57 (F := Ideal) x9 x10 = p
    generalize val_main_v43_1 (F := Ideal) x2 x3 = q
    pointwise
  rw [e, sums_at x9 x10 r c hr hc, sig_at x2 x3 t h (-(z t h + b h)) (by rw [neg_at, hz, hb, ← EReal.coe_add, EReal.coe_neg]), ← EReal.coe_neg, ← EReal.coe_mul, ← EReal.coe_neg]
  generalize (∑ s : Fin 4096, if t.val ≤ s.val then r h s - c h s else 0) = p
  exact congrArg (fun r : ℝ => (r : EReal)) (by rw [neg_neg]; ring)
theorem gateP_at (t : Fin 4096) (j : Fin 128) : val_main_v115 (F := Ideal) x2 x3 x9 x10 (ix2 t j) =
    ((if k : j.val < 8 then (∑ s : Fin 4096, if t.val ≤ s.val then r ⟨j.val, k⟩ s - c ⟨j.val, k⟩ s else 0) / (1 + Real.exp (z t ⟨j.val, k⟩ + b ⟨j.val, k⟩)) else 0 : ℝ) : EReal) := by
  have e : val_main_v115 (F := Ideal) x2 x3 x9 x10 (ix2 t j) = if k : j.val < 8 then val_main_v59 (F := Ideal) x2 x3 x9 x10 (ix2 t ⟨j.val, k⟩) else 0 := by
    unfold val_main_v115 val_main_v114 val_main_v113 val_main_cst_22
    generalize val_main_v59 (F := Ideal) x2 x3 x9 x10 = y
    pointwise
  rw [e]
  split
  · exact gate_at x2 x3 x9 x10 z b r c hz hb hr hc _ _
  · rfl
theorem biasP_at (j : Fin 128) : val_main_v117 (F := Ideal) x2 x3 x9 x10 (ix2 0 j) =
    ((if k : j.val < 8 then ∑ t : Fin 4096, (∑ s : Fin 4096, if t.val ≤ s.val then r ⟨j.val, k⟩ s - c ⟨j.val, k⟩ s else 0) / (1 + Real.exp (z t ⟨j.val, k⟩ + b ⟨j.val, k⟩)) else 0 : ℝ) : EReal) := by
  have e1 : ∀ h : Fin 8, val_main_v63 (F := Ideal) x2 x3 x9 x10 (ix2 0 h) = Ideal.ofBits .f32 0x00000000#32 + ∑ q : Fin 1, (Ideal.ofBits .f32 0x00000000#32 + ∑ t, val_main_v59 (F := Ideal) x2 x3 x9 x10 (ix2 t h)) := fun h => by
    unfold val_main_v63 val_main_v62 val_main_v61 val_main_v60 val_main_cst_10 val_main_cst_11
    generalize val_main_v59 (F := Ideal) x2 x3 x9 x10 = y
    pointwise
  have e : val_main_v117 (F := Ideal) x2 x3 x9 x10 (ix2 0 j) = if k : j.val < 8 then val_main_v63 (F := Ideal) x2 x3 x9 x10 (ix2 0 ⟨j.val, k⟩) else 0 := by
    unfold val_main_v117 val_main_v116 val_main_cst_23
    generalize val_main_v63 (F := Ideal) x2 x3 x9 x10 = y
    pointwise
  rw [e]
  split
  · rw [e1, Fin.sum_univ_one, FoxReal.sum_coe fun t _ => gate_at x2 x3 x9 x10 z b r c hz hb hr hc t _, FoxReal.bits_zero, ← EReal.coe_add, ← EReal.coe_add, zero_add, zero_add]
  · rfl
end gates

end Cert.PostRef
-- ==== Proof.PostPre.lean ====
module

public import proofs.«01_k».proof.Proof.FoxPre
public import proofs.«01_k».proof.Proof.Gen.Pre_post_finite
public import Idealize.ShloMosaic.Lib.ReduceAll

@[expose] public section

set_option maxRecDepth 16384

noncomputable section

namespace Cert.PostPre

open Cert.Pre_post_finite Cert.Pre_post_finite.Gen
open Idealize.ShloMosaic
open Idealize.ShloMosaic.TcCoe Idealize.ShloMosaic.Tactic

/-! Where the precondition holds every element of the arguments it reads is a real number. -/

instance : Subsingleton S_.Idx := ⟨fun a b => funext fun i => i.elim0⟩

/-- One conjunct: all elements of an array are below infinity in size. -/
def below {s : Shape} {dims : List (Fin s.rank)} (hb : S_.BroadcastsInDim s (![] : Fin 0 → Fin s.rank)) (hr : s.ReducesTo dims S_) (x : FVec Ideal s .f32) : IVec S_ 1 :=
  Host.reduce IntOp.andi (cmpf .olt (Host.absf x) (broadcastInDim s ![] hb (constant S_ .f32 0x7F800000#32))) (constantI S_ 1 1#1) hr h_S_
theorem below_real {s : Shape} {dims : List (Fin s.rank)} (hb : S_.BroadcastsInDim s (![] : Fin 0 → Fin s.rank)) (hr : s.ReducesTo dims S_) (x : FVec Ideal s .f32) (j : S_.Idx)
    (h : below hb hr x j = 1#1) (i : s.Idx) : ∃ a : ℝ, x i = a :=
  Cert.FoxPre.real_of_lt (x i) (Host.reduce_andi_all _ _ _ _ j h i)

variable (a0 a1 : FVec Ideal S4096x512 .f32) (a2 : FVec Ideal S4096x8 .f32) (a3 : FVec Ideal S1x8 .f32) (a4 a5 : FVec Ideal S1x64 .f32)
  (a6 a7 a8 : FVec Ideal S8x4096x64 .f32) (a9 a10 : FVec Ideal S8x4096 .f32)
theorem fn_eq : fn (F := Ideal) a0 a1 a2 a3 a4 a5 a6 a7 a8 a9 a10 =
    andi (andi (andi (andi (andi (andi (andi (andi (andi (below bcast_S_S4096x512 reducesTo_S4096x512_S_d0_1 a0) (below bcast_S_S4096x512 reducesTo_S4096x512_S_d0_1 a1))
      (below bcast_S_S4096x8 reducesTo_S4096x8_S_d0_1 a2)) (below bcast_S_S1x8 reducesTo_S1x8_S_d0_1 a3)) (below bcast_S_S1x64 reducesTo_S1x64_S_d0_1 a4))
      (below bcast_S_S1x64 reducesTo_S1x64_S_d0_1 a5)) (below bcast_S_S8x4096x64 reducesTo_S8x4096x64_S_d0_1_2 a6)) (below bcast_S_S8x4096x64 reducesTo_S8x4096x64_S_d0_1_2 a7))
      (below bcast_S_S8x4096 reducesTo_S8x4096_S_d0_1 a9)) (below bcast_S_S8x4096 reducesTo_S8x4096_S_d0_1 a10) := rfl

theorem all_real (h : fn (F := Ideal) a0 a1 a2 a3 a4 a5 a6 a7 a8 a9 a10 = fun _ => 1#1) :
    (∀ i, ∃ a : ℝ, a0 i = a) ∧ (∀ i, ∃ a : ℝ, a1 i = a) ∧ (∀ i, ∃ a : ℝ, a2 i = a) ∧ (∀ i, ∃ a : ℝ, a3 i = a) ∧ (∀ i, ∃ a : ℝ, a4 i = a)
    ∧ (∀ i, ∃ a : ℝ, a5 i = a) ∧ (∀ i, ∃ a : ℝ, a6 i = a) ∧ (∀ i, ∃ a : ℝ, a7 i = a) ∧ (∀ i, ∃ a : ℝ, a9 i = a) ∧ (∀ i, ∃ a : ℝ, a10 i = a) := by
  have j : S_.Idx := Shape.Idx.first h_S_
  rw [fn_eq] at h
  obtain ⟨h8, e9⟩ := Cert.FoxPre.and_one _ _ (congrFun h j)
  obtain ⟨h7, e8⟩ := Cert.FoxPre.and_one _ _ h8
  obtain ⟨h6, e7⟩ := Cert.FoxPre.and_one _ _ h7
  obtain ⟨h5, e6⟩ := Cert.FoxPre.and_one _ _ h6
  obtain ⟨h4, e5⟩ := Cert.FoxPre.and_one _ _ h5
  obtain ⟨h3, e4⟩ := Cert.FoxPre.and_one _ _ h4
  obtain ⟨h2, e3⟩ := Cert.FoxPre.and_one _ _ h3
  obtain ⟨h1, e2⟩ := Cert.FoxPre.and_one _ _ h2
  obtain ⟨e0, e1⟩ := Cert.FoxPre.and_one _ _ h1
  exact ⟨below_real _ _ a0 j e0, below_real _ _ a1 j e1, below_real _ _ a2 j e2, below_real _ _ a3 j e3, below_real _ _ a4 j e4, below_real _ _ a5 j e5,
    below_real _ _ a6 j e6, below_real _ _ a7 j e7, below_real _ _ a9 j e8, below_real _ _ a10 j e9⟩
end Cert.PostPre
end
-- ==== Proof.PostFinal.lean ====
module

public import proofs.«01_k».proof.Defs
public import proofs.«01_k».proof.Proof.PostOuts
public import proofs.«01_k».proof.Proof.PostRef
public import proofs.«01_k».proof.Proof.PostPre
public import proofs.«01_k».proof.Proof.Gen.FoxPostGradIdeal.Run

@[expose] public section

set_option maxRecDepth 16384

noncomputable section

namespace Cert.PostFinal

open Cert.FoxPostIdeal Cert.FoxPostIdeal.Gen Cert.Post Cert.PostRef
open Idealize.ShloMosaic
open Idealize.ShloMosaic.TcCoe Idealize.ShloMosaic.Tactic

/-! The reference's results over the arguments' numbers. -/

section Ref
open Cert.FoxPostGradIdeal.Read
variable (D : Reals) (x0 x1 : FVec Ideal S4096x512 .f32) (x2 : FVec Ideal S4096x8 .f32) (x3 : FVec Ideal S1x8 .f32) (x4 x5 : FVec Ideal S1x64 .f32)
    (x6 x7 x8 : FVec Ideal S8x4096x64 .f32) (x9 x10 : FVec Ideal S8x4096 .f32) (hD : D.At x0 x1 x2 x3 x4 x5 x6 x7 x9 x10)
include hD

theorem ref_q (t : Fin 4096) (h : Fin 8) (d : Fin 64) : val_main_v110 (F := Ideal) x0 x4 x6 (ix2 t (col h d)) = ((D.gradQ t h d : ℝ) : EReal) := by
  refine (unheads_at (val_main_v106 (F := Ideal) x0 x4 x6) h t d).trans ?_
  rw [v106_eq]
  refine backR_at _ _ _ _ (fun h t d => D.q t (col h d)) (fun h t d => D.dq h t d * 0.125 * D.gq d) (fun h t d => ?_) (fun h t d => ?_)
    (fun h t => rs_at x0 _ (fun h t d => hD.q t (col h d)) h t) (fun h t => fac_at x0 _ (fun h t d => hD.q t (col h d)) h t) h t d
  · rw [heads_at, hD.q]
  · show val_main_v56 (F := Ideal) x6 (ix3 h t d) * val_main_v90 (F := Ideal) x4 (ix3 h t d) = _
    rw [scaled_at, gain_at, hD.dq, hD.gq, FoxReal.bits_eighth, ← EReal.coe_mul, ← EReal.coe_mul]
theorem ref_k (t : Fin 4096) (h : Fin 8) (d : Fin 64) : val_main_v111 (F := Ideal) x1 x5 x7 (ix2 t (col h d)) = ((D.gradK t h d : ℝ) : EReal) := by
  refine (unheads_at (val_main_v83 (F := Ideal) x1 x5 x7) h t d).trans ?_
  rw [v83_eq]
  refine backR_at _ _ _ _ (fun h t d => D.k t (col h d)) (fun h t d => D.dk h t d * D.gk d) (fun h t d => ?_) (fun h t d => ?_)
    (fun h t => rs_at x1 _ (fun h t d => hD.k t (col h d)) h t) (fun h t => fac_at x1 _ (fun h t d => hD.k t (col h d)) h t) h t d
  · rw [heads_at, hD.k]
  · show x7 (ix3 h t d) * val_main_v90 (F := Ideal) x5 (ix3 h t d) = _
    rw [gain_at, hD.dk, hD.gk, ← EReal.coe_mul]
omit hD in
theorem ref_v (t : Fin 4096) (h : Fin 8) (d : Fin 64) : val_main_v112 (F := Ideal) x8 (ix2 t (col h d)) = x8 (ix3 h t d) := unheads_at x8 h t d
theorem ref_gq (d : Fin 64) : val_main_v107 (F := Ideal) x0 x6 (ix2 0 d) = ((∑ h, ∑ t, D.shareQ h t d : ℝ) : EReal) := by
  rw [v107_eq]
  refine total_at _ d (fun h t => D.shareQ h t d) fun h t => ?_
  show val_main_v16 (F := Ideal) x0 (ix3 h t d) * val_main_v56 (F := Ideal) x6 (ix3 h t d) = _
  rw [normed_at x0 _ (fun h t d => hD.q t (col h d)) h t d, scaled_at, hD.dq, FoxReal.bits_eighth, ← EReal.coe_mul, ← EReal.coe_mul]
  exact congrArg (fun r : ℝ => (r : EReal)) (mul_comm _ _)
theorem ref_gk (d : Fin 64) : val_main_v84 (F := Ideal) x1 x7 (ix2 0 d) = ((∑ h, ∑ t, D.shareK h t d : ℝ) : EReal) := by
  rw [v84_eq]
  refine total_at _ d (fun h t => D.shareK h t d) fun h t => ?_
  show val_main_v16 (F := Ideal) x1 (ix3 h t d) * x7 (ix3 h t d) = _
  rw [normed_at x1 _ (fun h t d => hD.k t (col h d)) h t d, hD.dk, ← EReal.coe_mul]
  exact congrArg (fun r : ℝ => (r : EReal)) (mul_comm _ _)
omit hD in
/-- A gate's gradient, the columns beside the gates holding zero. -/
theorem gate_eq (t : Fin 4096) (j : Fin 128) : D.gate t j =
    if k : j.val < 8 then (∑ s : Fin 4096, if t.val ≤ s.val then D.dr ⟨j.val, k⟩ s - D.dc ⟨j.val, k⟩ s else 0) / (1 + Real.exp (D.z t ⟨j.val, k⟩ + D.b ⟨j.val, k⟩)) else 0 := by
  unfold Reals.gate Reals.suf Reals.up Reals.pre
  by_cases k : j.val < 8
  · simp only [dif_pos k, if_pos k]
  · simp only [dif_neg k, if_neg k]
theorem ref_f (t : Fin 4096) (j : Fin 128) : val_main_v115 (F := Ideal) x2 x3 x9 x10 (ix2 t j) = ((D.gate t j : ℝ) : EReal) := by
  rw [gateP_at x2 x3 x9 x10 D.z D.b D.dr D.dc hD.z hD.b hD.dr hD.dc, gate_eq]
theorem ref_b (j : Fin 128) : val_main_v117 (F := Ideal) x2 x3 x9 x10 (ix2 0 j) = ((∑ t, D.gate t j : ℝ) : EReal) := by
  rw [biasP_at x2 x3 x9 x10 D.z D.b D.dr D.dc hD.z hD.b hD.dr hD.dc]
  refine congrArg (fun r : ℝ => (r : EReal)) ?_
  simp only [gate_eq]
  by_cases k : j.val < 8
  · simp only [dif_pos k]
  · simp only [dif_neg k, Finset.sum_const_zero]
end Ref

section Results
variable (m : (b : Dev nD × DevRef τ sig) → Buf (Elt Ideal) b) (c : Dev nD)

/-- The arguments the precondition reads are real numbers. -/
theorem reals (h : Cert.Pre_FoxPostIdeal_post_finite m) : ∃ D : Reals, D.At (A0 m c) (A1 m c) (A2 m c) (A3 m c) (A4 m c) (A5 m c) (A6 m c) (A7 m c) (A9 m c) (A10 m c) := by
  obtain ⟨h0, h1, h2, h3, h4, h5, h6, h7, h9, h10⟩ := Cert.PostPre.all_real (A0 m c) (A1 m c) (A2 m c) (A3 m c) (A4 m c) (A5 m c) (A6 m c) (A7 m c) (A8 m c) (A9 m c) (A10 m c) (h c)
  choose q hq using fun t c => h0 (ix2 t c)
  choose k hk using fun t c => h1 (ix2 t c)
  choose z hz using fun t c => h2 (ix2 t c)
  choose b hb using fun c => h3 (ix2 0 c)
  choose gq hgq using fun c => h4 (ix2 0 c)
  choose gk hgk using fun c => h5 (ix2 0 c)
  choose dq hdq using fun a t d => h6 (ix3 a t d)
  choose dk hdk using fun a t d => h7 (ix3 a t d)
  choose dr hdr using fun a t => h9 (ix2 a t)
  choose dc hdc using fun a t => h10 (ix2 a t)
  exact ⟨⟨q, k, z, b, gq, gk, dq, dk, dr, dc⟩, ⟨hq, hk, hz, hb, hgq, hgk, hdq, hdk, hdr, hdc⟩⟩

theorem ext_cols {α : Type} (x y : S4096x512.Idx → α) (e : ∀ (t : Fin 4096) (h : Fin 8) (d : Fin 64), x (ix2 t (col h d)) = y (ix2 t (col h d))) : x = y := by
  refine funext fun i => ?_
  obtain ⟨h, d, hc⟩ := col_surj (i 1)
  have hi : i = ix2 (i 0) (col h d) := by rw [← hc]; exact eq_ix2 i
  rw [hi]
  exact e _ _ _
theorem ext_wide {α : Type} (x y : S4096x128.Idx → α) (e : ∀ (t : Fin 4096) (j : Fin 128), x (ix2 t j) = y (ix2 t j)) : x = y :=
  funext fun i => (congrArg x (eq_ix2 i)).trans ((e (i 0) (i 1)).trans (congrArg y (eq_ix2 i)).symm)
theorem ext_row {α : Type} {n : ℕ} (x y : (⟨2, ![1, n]⟩ : Shape).Idx → α) (e : ∀ j : Fin n, x (ix2 0 j) = y (ix2 0 j)) : x = y := by
  refine funext fun i => ?_
  have hi : i = ix2 (0 : Fin 1) (i 1 : Fin n) := (eq_ix2 i).trans (congrArg (fun a : Fin 1 => ix2 a (i 1 : Fin n)) (Subsingleton.elim (α := Fin 1) _ _))
  rw [hi]
  exact e _

variable (hp : Cert.Pre_FoxPostIdeal_post_finite m)
include hp
theorem out_q : (dats m 0 c).arrAt 10 cfg0.N = Cert.FoxPostGradIdeal.Read.val_main_v110 (F := Ideal) (A0 m c) (A4 m c) (A6 m c) := by
  obtain ⟨D, hD⟩ := reals m c hp
  exact ext_cols _ _ fun t h d => (arr10 D m c hD t h d).trans (ref_q D _ _ _ _ _ _ _ _ _ _ hD t h d).symm
theorem out_k : (dats m 0 c).arrAt 11 cfg0.N = Cert.FoxPostGradIdeal.Read.val_main_v111 (F := Ideal) (A1 m c) (A5 m c) (A7 m c) := by
  obtain ⟨D, hD⟩ := reals m c hp
  exact ext_cols _ _ fun t h d => (arr11 D m c hD t h d).trans (ref_k D _ _ _ _ _ _ _ _ _ _ hD t h d).symm
theorem out_v : (dats m 0 c).arrAt 12 cfg0.N = Cert.FoxPostGradIdeal.Read.val_main_v112 (F := Ideal) (A8 m c) := by
  obtain ⟨D, hD⟩ := reals m c hp
  exact ext_cols _ _ fun t h d => (arr12 D m c hD t h d).trans (ref_v (A8 m c) t h d).symm
theorem out_f : (dats m 0 c).arrAt 13 cfg0.N = Cert.FoxPostGradIdeal.Read.val_main_v115 (F := Ideal) (A2 m c) (A3 m c) (A9 m c) (A10 m c) := by
  obtain ⟨D, hD⟩ := reals m c hp
  exact ext_wide _ _ fun t j => (arr13 D m c hD t j).trans (ref_f D _ _ _ _ _ _ _ _ _ _ hD t j).symm
theorem out_gq : (dats m 0 c).arrAt 14 cfg0.N = Cert.FoxPostGradIdeal.Read.val_main_v107 (F := Ideal) (A0 m c) (A6 m c) := by
  obtain ⟨D, hD⟩ := reals m c hp
  exact ext_row _ _ fun d => (arr14 D m c hD d).trans (ref_gq D _ _ _ _ _ _ _ _ _ _ hD d).symm
theorem out_gk : (dats m 0 c).arrAt 15 cfg0.N = Cert.FoxPostGradIdeal.Read.val_main_v84 (F := Ideal) (A1 m c) (A7 m c) := by
  obtain ⟨D, hD⟩ := reals m c hp
  exact ext_row _ _ fun d => (arr15 D m c hD d).trans (ref_gk D _ _ _ _ _ _ _ _ _ _ hD d).symm
theorem out_b : (dats m 0 c).arrAt 16 cfg0.N = Cert.FoxPostGradIdeal.Read.val_main_v117 (F := Ideal) (A2 m c) (A3 m c) (A9 m c) (A10 m c) := by
  obtain ⟨D, hD⟩ := reals m c hp
  exact ext_row _ _ fun j => (arr16 D m c hD j).trans (ref_b D _ _ _ _ _ _ _ _ _ _ hD j).symm
end Results

theorem algebraic : Cert.algebraic_FoxPostIdeal_FoxPostGradIdeal_pre_post_finite := by
  intro m g m' g' hp hm
  refine ⟨fun c => Cert.FoxPostGradIdeal.Read.val_main_v110 (F := Ideal) (A0 m c) (A4 m c) (A6 m c), fun c => Cert.FoxPostGradIdeal.Read.val_main_v111 (F := Ideal) (A1 m c) (A5 m c) (A7 m c),
    fun c => Cert.FoxPostGradIdeal.Read.val_main_v112 (F := Ideal) (A8 m c), fun c => Cert.FoxPostGradIdeal.Read.val_main_v115 (F := Ideal) (A2 m c) (A3 m c) (A9 m c) (A10 m c),
    fun c => Cert.FoxPostGradIdeal.Read.val_main_v107 (F := Ideal) (A0 m c) (A6 m c), fun c => Cert.FoxPostGradIdeal.Read.val_main_v84 (F := Ideal) (A1 m c) (A7 m c),
    fun c => Cert.FoxPostGradIdeal.Read.val_main_v117 (F := Ideal) (A2 m c) (A3 m c) (A9 m c) (A10 m c), ?_, ?_⟩
  · refine (θ_run defs _ _).mono (fun r h c => ?_) (Value.run_blocks m g)
    obtain ⟨h0, h1, h2, h3, h4, h5, h6, rest⟩ := h c
    exact ⟨h0.trans (out_q m c hp), h1.trans (out_k m c hp), h2.trans (out_v m c hp), h3.trans (out_f m c hp), h4.trans (out_gq m c hp), h5.trans (out_gk m c hp), h6.trans (out_b m c hp), rest⟩
  · refine (θ_run Cert.FoxPostGradIdeal.defs _ _).mono (fun r h c => ?_) (Cert.FoxPostGradIdeal.Value.run (F := Ideal) m' g')
    obtain ⟨h0, h1, h2, h3, h4, h5, h6, rest⟩ := h c
    obtain ⟨a0, a1, a2, a3, a4, a5, a6, a7, a8, a9, a10⟩ := hm c
    have b0 : StableHlo.launchContents m' c (Proc.tc.devRef Cert.FoxPostGradIdeal.main_arg0) = A0 m c := a0
    have b1 : StableHlo.launchContents m' c (Proc.tc.devRef Cert.FoxPostGradIdeal.main_arg1) = A1 m c := a1
    have b2 : StableHlo.launchContents m' c (Proc.tc.devRef Cert.FoxPostGradIdeal.main_arg2) = A2 m c := a2
    have b3 : StableHlo.launchContents m' c (Proc.tc.devRef Cert.FoxPostGradIdeal.main_arg3) = A3 m c := a3
    have b4 : StableHlo.launchContents m' c (Proc.tc.devRef Cert.FoxPostGradIdeal.main_arg4) = A4 m c := a4
    have b5 : StableHlo.launchContents m' c (Proc.tc.devRef Cert.FoxPostGradIdeal.main_arg5) = A5 m c := a5
    have b6 : StableHlo.launchContents m' c (Proc.tc.devRef Cert.FoxPostGradIdeal.main_arg6) = A6 m c := a6
    have b7 : StableHlo.launchContents m' c (Proc.tc.devRef Cert.FoxPostGradIdeal.main_arg7) = A7 m c := a7
    have b8 : StableHlo.launchContents m' c (Proc.tc.devRef Cert.FoxPostGradIdeal.main_arg8) = A8 m c := a8
    have b9 : StableHlo.launchContents m' c (Proc.tc.devRef Cert.FoxPostGradIdeal.main_arg9) = A9 m c := a9
    have b10 : StableHlo.launchContents m' c (Proc.tc.devRef Cert.FoxPostGradIdeal.main_arg10) = A10 m c := a10
    refine ⟨h0.trans ?_, h1.trans ?_, h2.trans ?_, h3.trans ?_, h4.trans ?_, h5.trans ?_, h6.trans ?_, rest⟩
    · rw [Cert.FoxPostGradIdeal.Read.val_main_v110_eq, b0, b4, b6]
    · rw [Cert.FoxPostGradIdeal.Read.val_main_v111_eq, b1, b5, b7]
    · rw [Cert.FoxPostGradIdeal.Read.val_main_v112_eq, b8]
    · rw [Cert.FoxPostGradIdeal.Read.val_main_v115_eq, b2, b3, b9, b10]
    · rw [Cert.FoxPostGradIdeal.Read.val_main_v107_eq, b0, b6]
    · rw [Cert.FoxPostGradIdeal.Read.val_main_v84_eq, b1, b7]
    · rw [Cert.FoxPostGradIdeal.Read.val_main_v117_eq, b2, b3, b9, b10]

/-- The reference's frame: its run keeps the arguments, and it has no semaphore. -/
theorem ref_frame : Cert.quiescent_FoxPostGradIdeal := fun m g _ =>
  (θ_run Cert.FoxPostGradIdeal.defs _ _).mono (fun _ h => ⟨fun c => (h c).2.2.2.2.2.2.2, funext fun s => nomatch s⟩) (Cert.FoxPostGradIdeal.Value.run (F := Ideal) m g)
theorem ref_frame_pre : Cert.quiescent_FoxPostGradIdeal_pre_post_finite := fun m g _ => ref_frame m g trivial

end Cert.PostFinal
end
-- ==== Proof.PrepKernel.lean ====
module

public import proofs.«01_k».proof.Proof.MemKernel
public import proofs.«01_k».proof.Proof.Gen.MemPrepIdeal.Value
public import Idealize.ShloMosaic.Lib.Pipeline.ValueKit
public import Idealize.ShloMosaic.Lib.Pointwise

/-! What the memory's forward kernel leaves in its two outputs: the normalised keys and the values,
in the closed forms of `MemSpec`. -/

@[expose] public section

set_option maxRecDepth 16384

noncomputable section

namespace Cert.PrepSpec

open Cert.MemSpec Idealize.ShloMosaic

/-- One head's normalised row with its gain. -/
def gainedHead (q g : Fin 64 → EReal) (b : Fin 64) : EReal := q b * Ideal.rsqrt (ms lit64 q) * g b

/-- The normalised keys, all heads side by side. -/
def keys (K : Mat 256 512) (g : Fin 64 → EReal) (i c : Fin 256) : EReal :=
  gainedHead (head ⟨c.val / 64, by omega⟩ (by omega) (K i)) g ⟨c.val % 64, by omega⟩

/-- The values. -/
def values (K : Mat 256 512) (i c : Fin 256) : EReal := K i ⟨c.val + 256, by omega⟩

theorem keys_head (K : Mat 256 512) (g : Fin 64 → EReal) (h : Fin 4) (i : Fin 256) (b : Fin 64) (j c : Fin 256) (hj : j.val = i.val)
    (hc : c.val = 64 * h.val + b.val) : gainedHead (head h (by omega) (K i)) g b = keys K g j c := by
  obtain rfl : j = i := Fin.ext hj
  have eh : h = ⟨c.val / 64, by omega⟩ := Fin.ext (by simp only; omega)
  have eb : b = ⟨c.val % 64, by omega⟩ := Fin.ext (by simp only; omega)
  unfold keys
  rw [← eh, ← eb]

end Cert.PrepSpec

namespace Cert.PrepKernel

open Cert.MemPrepIdeal Cert.MemPrepIdeal.Gen Cert.MemSpec Cert.PrepSpec Idealize.ShloMosaic Idealize.ShloMosaic.TcCoe Idealize.SL.Sem
open Idealize.ShloMosaic.Pipeline (Dat)

/-! ## The payloads at an index -/

theorem kv_at (x0 : Vec Ideal S256x1024 .f32) (x1 : Vec Ideal S1x1024 .f32) (x2 : Vec Ideal S1024x512 .bf16) (a : Fin 256) (b : Fin 512) :
    k0_pay2 (F := Ideal) x0 x1 x2 (ix2 a b) = kv (mat x0) (row x1) (mat x2) a b := by
  unfold_payloads
  pointwise
  rfl

theorem kv_mat (x0 : Vec Ideal S256x1024 .f32) (x1 : Vec Ideal S1x1024 .f32) (x2 : Vec Ideal S1024x512 .bf16) :
    mat (k0_pay2 (F := Ideal) x0 x1 x2) = kv (mat x0) (row x1) (mat x2) :=
  funext fun _ => funext fun _ => kv_at ..

theorem values_at (K : Vec Ideal S256x512 .f32) (a b : Fin 256) : k0_pay1 (F := Ideal) K (ix2 a b) = values (mat K) a b := by
  unfold k0_pay1
  pointwise
  exact congrArg K (congrArg (ix2 a) (Fin.ext (by simp only; omega)))

theorem key0_at (x0 : Vec Ideal S256x1024 .f32) (x1 : Vec Ideal S1x1024 .f32) (x2 : Vec Ideal S1024x512 .bf16) (g : Vec Ideal S1x64 .f32) (a : Fin 256) (b : Fin 64) :
    k0_pay3 (F := Ideal) x0 x1 x2 g (ix2 a b) = gainedHead (head 0 (by omega) (mat (k0_pay2 (F := Ideal) x0 x1 x2) a)) (row g) b := by
  unfold k0_pay3
  generalize k0_pay2 (F := Ideal) x0 x1 x2 = K
  pointwise
  unfold gainedHead ms head
  simp only [Fin.val_zero, Nat.mul_zero, Nat.zero_add]

theorem key1_at (x0 : Vec Ideal S256x1024 .f32) (x1 : Vec Ideal S1x1024 .f32) (x2 : Vec Ideal S1024x512 .bf16) (g : Vec Ideal S1x64 .f32) (a : Fin 256) (b : Fin 64) :
    k0_pay6 (F := Ideal) (k0_pay4 x0 x1 x2) (k0_pay5 x0 x1 x2) (Scalar.ofBits .f32 0x358637BD#32) g (ix2 a b) =
      gainedHead (head 1 (by omega) (mat (k0_pay2 (F := Ideal) x0 x1 x2) a)) (row g) b := by
  unfold k0_pay6 k0_pay5 k0_pay4
  generalize k0_pay2 (F := Ideal) x0 x1 x2 = K
  pointwise
  rfl

theorem key2_at (K : Vec Ideal S256x512 .f32) (g : Vec Ideal S1x64 .f32) (a : Fin 256) (b : Fin 64) :
    k0_pay7 (F := Ideal) K g (ix2 a b) = gainedHead (head 2 (by omega) (mat K a)) (row g) b := by
  unfold k0_pay7
  pointwise
  rfl

theorem key3_at (K : Vec Ideal S256x512 .f32) (g : Vec Ideal S1x64 .f32) (a : Fin 256) (b : Fin 64) :
    k0_pay8 (F := Ideal) K g (ix2 a b) = gainedHead (head 3 (by omega) (mat K a)) (row g) b := by
  unfold k0_pay8
  pointwise
  rfl

/-! ## The blocks -/

variable (m : (ℓ : Loc nD τ sig) → Buf (Elt Ideal) ℓ)

theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] := by decide +kernel

theorem blk0 (c : Dev nD) (t : Fin cfg0.N) : iblk m c 0 t = m (c.tc.loc main_arg0) := by
  funext i
  blk_ext [iblk, V, idx t]

theorem blk1 (c : Dev nD) (t : Fin cfg0.N) : iblk m c 1 t = m (c.tc.loc main_arg1) := by
  funext i
  blk_ext [iblk, V, idx t]

theorem blk2 (c : Dev nD) (t : Fin cfg0.N) : iblk m c 2 t = m (c.tc.loc main_arg2) := by
  funext i
  blk_ext [iblk, V, idx t]

theorem blk3 (c : Dev nD) (t : Fin cfg0.N) : iblk m c 3 t = m (c.tc.loc main_arg3) := by
  funext i
  blk_ext [iblk, V, idx t]

/-! ## The outputs -/

theorem out_keys (x0 : Vec Ideal S256x1024 .f32) (x1 : Vec Ideal S1x1024 .f32) (x2 : Vec Ideal S1024x512 .bf16) (g : Vec Ideal S1x64 .f32) (y : S256x256.Idx) :
    out0_4 (F := Ideal) x0 x1 x2 g y = keys (kv (mat x0) (row x1) (mat x2)) (row g) (y 0) (y 1) := by
  unfold_out out0_4
  frame_out
  canon_tiles z hz using (cover0_4 _ _ _ _) y
  all_goals
    have ez := eq_ix2 z
    rw [ez]
  · refine (key3_at _ _ (z 0) (z 1)).trans ?_
    rw [kv_mat]
    exact keys_head _ _ 3 _ _ _ _ hz0 hz1
  · refine (key2_at _ _ (z 0) (z 1)).trans ?_
    rw [kv_mat]
    exact keys_head _ _ 2 _ _ _ _ hz0 hz1
  · refine (key1_at _ _ _ _ (z 0) (z 1)).trans ?_
    rw [kv_mat]
    exact keys_head _ _ 1 _ _ _ _ hz0 hz1
  · refine (key0_at _ _ _ _ (z 0) (z 1)).trans ?_
    rw [kv_mat]
    exact keys_head _ _ 0 _ _ _ _ hz0 (hz1.trans (Nat.zero_add _).symm)

theorem out_values (x0 : Vec Ideal S256x1024 .f32) (x1 : Vec Ideal S1x1024 .f32) (x2 : Vec Ideal S1024x512 .bf16) (g : Vec Ideal S1x64 .f32) (y : S256x256.Idx) :
    out0_5 (F := Ideal) x0 x1 x2 g y = values (kv (mat x0) (row x1) (mat x2)) (y 0) (y 1) := by
  unfold_out out0_5
  frame_out
  rw [eq_ix2 (f := y)]
  refine (values_at _ (y 0) (y 1)).trans ?_
  rw [kv_mat]
  rfl

abbrev K (c : Dev nD) : Mat 256 512 :=
  kv (mat (a := 256) (b := 1024) (m (c.tc.loc main_arg0))) (row (b := 1024) (m (c.tc.loc main_arg1))) (mat (a := 1024) (b := 512) (m (c.tc.loc main_arg2)))

abbrev g (c : Dev nD) : Fin 64 → EReal := row (b := 64) (m (c.tc.loc main_arg3))

/-- The two arrays after the run. -/
theorem arr_keys (c : Dev nD) : (dats m 0 c).arrAt 4 cfg0.N = fun i : S256x256.Idx => keys (K m c) (g m c) (i 0) (i 1) := by
  refine (dats m 0 c).arrAt_eq_of_covers 4 _ (by decide +kernel) fun t hf y => ?_
  blk_simp
  rw [after0_4]
  have e : (win0_4.blk t).view.emb y = y := by blk_ext [idx t]
  rw [e, blk0, blk1, blk2, blk3]
  exact out_keys ..

theorem arr_values (c : Dev nD) : (dats m 0 c).arrAt 5 cfg0.N = fun i : S256x256.Idx => values (K m c) (i 0) (i 1) := by
  refine (dats m 0 c).arrAt_eq_of_covers 5 _ (by decide +kernel) fun t hf y => ?_
  blk_simp
  rw [after0_5]
  have e : (win0_5.blk t).view.emb y = y := by blk_ext [idx t]
  rw [e, blk0, blk1, blk2, blk3]
  exact out_values ..

end Cert.PrepKernel
-- ==== Proof.PrepFinal.lean ====
module

public import proofs.«01_k».proof.Defs
public import proofs.«01_k».proof.Proof.PrepKernel
public import proofs.«01_k».proof.Proof.Gen.MemPlainIdeal.Read

/-! The memory's forward kernel against reference.py's lines: both programs end with the keys and values of `PrepSpec`. -/

@[expose] public section

set_option maxRecDepth 16384

noncomputable section

namespace Cert.PrepFinal

open Cert.MemPlainIdeal Cert.MemPlainIdeal.Read Cert.MemSpec Cert.PrepSpec Idealize.ShloMosaic Idealize.ShloMosaic.TcCoe Idealize.SL.Sem

/-! ## The reference's stages -/

variable (x0 : (⟨S256x1024, .f32⟩ : BufTy).Contents (Elt Ideal)) (x1 : (⟨S1x1024, .f32⟩ : BufTy).Contents (Elt Ideal))
  (x2 : (⟨S1024x512, .bf16⟩ : BufTy).Contents (Elt Ideal)) (x3 : (⟨S1x64, .f32⟩ : BufTy).Contents (Elt Ideal))

theorem zero_eq : Ideal.ofBits FTy.f32 0#32 = 0 := by
  simp [Ideal.ofBits, Ideal.ieee]

theorem unit_at (a : Fin 256) (b : Fin 1024) : val_main_v11 (F := Ideal) x0 (ix2 a b) = unitRow (mat x0) a b := by
  unfold val_main_v11 val_main_v10 val_main_v9 val_main_v8 val_main_v7 val_main_v6 val_main_v5 val_main_v4 val_main_v3 val_main_v2
    val_main_cst val_main_cst_0 val_main_cst_1
  pointwise
  rfl

theorem gained_at (a : Fin 256) (b : Fin 1024) : val_main_v14 (F := Ideal) x0 x1 (ix2 a b) = unitRow (mat x0) a b * row x1 b := by
  unfold val_main_v14 val_main_v13 val_main_v12 val_main_v1
  pointwise
  rw [unit_at]

theorem kv_mat : mat (a := 256) (b := 512) (val_main_v15 (F := Ideal) x0 x1 x2) = kv (mat x0) (row x1) (mat x2) := by
  funext a b
  unfold mat val_main_v15 val_main_v0
  pointwise
  exact Finset.sum_congr rfl fun k _ => by rw [gained_at]

theorem key_at (a : Fin 256) (h : Fin 4) (b : Fin 64) :
    val_main_v31 (F := Ideal) x0 x1 x2 x3 (ix3 a h b) = gainedHead (head h (by omega) (kv (mat x0) (row x1) (mat x2) a)) (row x3) b := by
  rw [← kv_mat]
  unfold val_main_v31 val_main_v30 val_main_v29 val_main_v28 val_main_v27 val_main_v26 val_main_v25 val_main_v24 val_main_v23 val_main_v22
    val_main_v21 val_main_v20 val_main_v19 val_main_v18 val_main_v17 val_main_v16 val_main_cst_2 val_main_cst_3 val_main_cst_4
  generalize val_main_v15 (F := Ideal) x0 x1 x2 = K
  pointwise
  have e : ∀ (x : Fin 64) p, K (ix2 a ⟨h.val * 64 + x.val, p⟩) = head h (by omega) (mat (a := 256) (b := 512) K a) x := fun x p =>
    congrArg K (congrArg (ix2 a) (Fin.ext (by simp only [Nat.mul_comm])))
  simp only [e]
  rfl

theorem keys_at (a b : Fin 256) : val_main_v34 (F := Ideal) x0 x1 x2 x3 (ix2 a b) = keys (kv (mat x0) (row x1) (mat x2)) (row x3) a b := by
  unfold val_main_v34 val_main_v32
  pointwise
  exact key_at ..

theorem values_at (a b : Fin 256) : val_main_v35 (F := Ideal) x0 x1 x2 (ix2 a b) = values (kv (mat x0) (row x1) (mat x2)) a b := by
  rw [← kv_mat]
  unfold val_main_v35 val_main_v33
  generalize val_main_v15 (F := Ideal) x0 x1 x2 = K
  pointwise
  exact congrArg K (congrArg (ix2 a) (Fin.ext (by simp only; omega)))

/-! ## The pair -/

theorem algebraic : Cert.algebraic_MemPrepIdeal_MemPlainIdeal := by
  intro m g m' g' _ hm
  refine ⟨fun c => fun i : S256x256.Idx => keys (PrepKernel.K m c) (PrepKernel.g m c) (i 0) (i 1),
    fun c => fun i : S256x256.Idx => values (PrepKernel.K m c) (i 0) (i 1), ?_, ?_⟩
  · refine (θ_run Cert.MemPrepIdeal.defs _ _).mono (fun r h c => ?_) (Cert.MemPrepIdeal.Value.run_blocks (F := Ideal) m g)
    obtain ⟨h0, h1, rest⟩ := h c
    exact ⟨h0.trans (PrepKernel.arr_keys m c), h1.trans (PrepKernel.arr_values m c), rest⟩
  · refine (θ_run defs _ _).mono (fun r h c => ?_) (Cert.MemPlainIdeal.Value.run (F := Ideal) m' g')
    obtain ⟨h0, h1, rest⟩ := h c
    obtain ⟨a0, a1, a2, a3⟩ := hm c
    refine ⟨h0.trans ?_, h1.trans ?_, rest⟩
    · rw [val_main_v34_eq, a0, a1, a2, a3]
      funext i
      rw [eq_ix2 i]
      exact keys_at ..
    · rw [val_main_v35_eq, a0, a1, a2]
      funext i
      rw [eq_ix2 i]
      exact values_at ..

/-- The reference's frame: its run keeps the arguments, and it has no semaphore. -/
theorem frame : Cert.quiescent_MemPlainIdeal := fun m g _ =>
  (θ_run defs _ _).mono (fun _ h => ⟨fun c => (h c).2.2, funext fun s => nomatch s⟩) (Cert.MemPlainIdeal.Value.run (F := Ideal) m g)

end Cert.PrepFinal
-- ==== Proof.GradTile.lean ====
module

public import proofs.«01_k».proof.Proof.RmsGrad
public import proofs.«01_k».proof.Proof.Gen.GradXIdeal.Value
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.ValueLayout

@[expose] public section

set_option maxRecDepth 16384

noncomputable section

namespace Cert.Grad

open Cert.GradXIdeal Cert.GradXIdeal.Gen
open Idealize.ShloMosaic
open Idealize.ShloMosaic.TcCoe Idealize.ShloMosaic.Tactic

/-! What one grid step of the input norm's backward kernel stores, as functions of its tiles. -/

/-- A row's mean square plus the epsilon. -/
def ms (x : Fin 1024 → EReal) : EReal := Ideal.div (∑ k, x k * x k) (Ideal.ofBits FTy.f32 1149239296#32) + Ideal.ofBits FTy.f32 897988541#32
/-- A row's gradient through its norm, as the kernel writes it. -/
def rowGrad (x g d : Fin 1024 → EReal) (a : Fin 1024) : EReal :=
  Ideal.rsqrt (ms x) * (d a * g a - x a * Ideal.rsqrt (ms x) * Ideal.div (∑ k, d k * g k * (x k * Ideal.rsqrt (ms x))) (Ideal.ofBits FTy.f32 1149239296#32))
/-- A row's share of the gain's gradient. -/
def rowGain (x d : Fin 1024 → EReal) (a : Fin 1024) : EReal := d a * (x a * Ideal.rsqrt (ms x))
/-- A row's product with a weights' row, piece by piece. -/
def pieces (p0 p1 p2 p3 p4 p5 : Fin 512 → EReal) (f : Fin 128 → EReal) (w : Fin 3200 → EReal) : EReal :=
  (∑ k, f k * w ⟨3072 + k.val, by omega⟩) + (∑ k, p0 k * w ⟨k.val, by omega⟩) + (∑ k, p1 k * w ⟨512 + k.val, by omega⟩) + (∑ k, p2 k * w ⟨1024 + k.val, by omega⟩)
    + (∑ k, p3 k * w ⟨1536 + k.val, by omega⟩) + (∑ k, p4 k * w ⟨2048 + k.val, by omega⟩) + (∑ k, p5 k * w ⟨2560 + k.val, by omega⟩)

theorem z2 : (![0, 0] : Fin 2 → Nat) = fun _ => 0 := funext fun a => by fin_cases a <;> rfl

/-- The 512 columns of the packed weights from column `o`. -/
def wcol (x : Vec Ideal S1024x3200 .bf16) (o : ℕ) (ho : o + 512 ≤ 3200) : Vec Ideal S1024x512 .bf16 := fun i => x (ix2 (i 0) ⟨o + (i 1).val, by have : (i 1).val < 512 := (i 1).isLt; omega⟩)
/-- The last 128 columns of the packed weights. -/
def wlast (x : Vec Ideal S1024x3200 .bf16) : Vec Ideal S1024x128 .bf16 := fun i => x (ix2 (i 0) ⟨3072 + (i 1).val, by have : (i 1).val < 128 := (i 1).isLt; omega⟩)

theorem wcol_ld (x : Vec Ideal S1024x3200 .bf16) (o : ℕ) (ho : o + 512 ≤ 3200) (off : Fin 2 → Nat) (hb) (e : off = ![0, o]) :
    View.ld x (Rect.unit off ![1024, 512] hb) = wcol x o ho := by
  subst e
  funext i
  exact View.ld_unit_apply_of x _ _ _ _ _ fun r => by fin_cases r <;> first | rfl | exact (Nat.zero_add _).symm
theorem wlast_ld (x : Vec Ideal S1024x3200 .bf16) (off : Fin 2 → Nat) (hb) (e : off = ![0, 3072]) :
    View.ld x (Rect.unit off ![1024, 128] hb) = wlast x := by
  subst e
  funext i
  exact View.ld_unit_apply_of x _ _ _ _ _ fun r => by fin_cases r <;> first | rfl | exact (Nat.zero_add _).symm

section steps
variable (c : Dev nD) (i : grid0.Coords) (a1 : Memref sig .tc .vmem S256x512 .bf16) (h1 : a1.IsWhole) (a2 : Memref sig .tc .vmem S256x512 .bf16) (h2 : a2.IsWhole) (a3 : Memref sig .tc .vmem S256x512 .bf16) (h3 : a3.IsWhole) (a4 : Memref sig .tc .vmem S256x512 .bf16) (h4 : a4.IsWhole) (a5 : Memref sig .tc .vmem S256x512 .bf16) (h5 : a5.IsWhole) (a6 : Memref sig .tc .vmem S256x512 .bf16) (h6 : a6.IsWhole) (a7 : Memref sig .tc .vmem S256x128 .bf16) (h7 : a7.IsWhole) (a8 : Memref sig .tc .vmem S256x1024 .f32) (h8 : a8.IsWhole) (a9 : Memref sig .tc .vmem S256x1024 .f32) (h9 : a9.IsWhole) (a10 : Memref sig .tc .vmem S1024x3200 .bf16) (h10 : a10.IsWhole) (a11 : Memref sig .tc .vmem S1x1024 .f32) (h11 : a11.IsWhole) (a12 : Memref sig .tc .vmem S256x1024 .f32) (h12 : a12.IsWhole) (a13 : Memref sig .tc .vmem S1x1024 .f32) (h13 : a13.IsWhole)
variable (x0 : Vec Ideal S256x512 .bf16) (x1 : Vec Ideal S256x512 .bf16) (x2 : Vec Ideal S256x512 .bf16) (x3 : Vec Ideal S256x512 .bf16) (x4 : Vec Ideal S256x512 .bf16) (x5 : Vec Ideal S256x512 .bf16) (x6 : Vec Ideal S256x128 .bf16) (x7 : Vec Ideal S256x1024 .f32) (x8 : Vec Ideal S256x1024 .f32) (x9 : Vec Ideal S1024x3200 .bf16) (x10 : Vec Ideal S1x1024 .f32)

/-- The first five pieces' part of the product. -/
def fstV : FVec Ideal S256x1024 .f32 := k0_pay4 (F := Ideal) x6 (wlast x9) x0 (wcol x9 0 (by decide)) x1 (wcol x9 512 (by decide)) x2 (wcol x9 1024 (by decide))
/-- The fourth piece's part of the product. -/
def sndV : FVec Ideal S256x1024 .f32 := k0_pay5 (F := Ideal) x3 (wcol x9 1536 (by decide))
/-- The input rows' gradient. -/
def gxV : FVec Ideal S256x1024 .f32 :=
  k0_pay1 (F := Ideal) (k0_pay9 (F := Ideal) (fstV x0 x1 x2 x6 x9) (sndV x3 x9) x4 (wcol x9 2048 (by decide)) x5 (wcol x9 2560 (by decide)) x7 x10) x8
/-- The gain's gradient, row by row. -/
def gainV : FVec Ideal S256x1024 .f32 :=
  k0_pay10 (F := Ideal) (fstV x0 x1 x2 x6 x9) (sndV x3 x9) x4 (wcol x9 2048 (by decide)) x5 (wcol x9 2560 (by decide)) x7

/-- A row of the product. -/
def dhRow (r : Fin 256) (a : Fin 1024) : EReal :=
  pieces (fun k => x0 (ix2 r k)) (fun k => x1 (ix2 r k)) (fun k => x2 (ix2 r k)) (fun k => x3 (ix2 r k)) (fun k => x4 (ix2 r k)) (fun k => x5 (ix2 r k)) (fun k => x6 (ix2 r k)) (fun k => x9 (ix2 a k))

theorem dh_at (r : Fin 256) (a : Fin 1024) : k0_pay6 (F := Ideal) (fstV x0 x1 x2 x6 x9) (sndV x3 x9) x4 (wcol x9 2048 (by decide)) x5 (wcol x9 2560 (by decide)) (ix2 r a)
    = dhRow x0 x1 x2 x3 x4 x5 x6 x9 r a := by
  unfold k0_pay6 fstV sndV k0_pay4 k0_pay5
  pointwise
  unfold dhRow pieces wcol wlast
  simp only [Nat.zero_add]
  rfl

theorem gx_at (r : Fin 256) (a : Fin 1024) : gxV x0 x1 x2 x3 x4 x5 x6 x7 x8 x9 x10 (ix2 r a)
    = x8 (ix2 r a) + rowGrad (fun k => x7 (ix2 r k)) (fun k => x10 (ix2 0 k)) (dhRow x0 x1 x2 x3 x4 x5 x6 x9 r) a := by
  have e := fun a => dh_at x0 x1 x2 x3 x4 x5 x6 x9 r a
  unfold gxV k0_pay1 k0_pay9 k0_pay8 k0_pay7
  generalize k0_pay6 (F := Ideal) (fstV x0 x1 x2 x6 x9) (sndV x3 x9) x4 (wcol x9 2048 (by decide)) x5 (wcol x9 2560 (by decide)) = d at e ⊢
  pointwise
  simp only [e]
  rfl

theorem gain_at (r : Fin 256) (a : Fin 1024) : gainV x0 x1 x2 x3 x4 x5 x6 x7 x9 (ix2 r a)
    = rowGain (fun k => x7 (ix2 r k)) (dhRow x0 x1 x2 x3 x4 x5 x6 x9 r) a := by
  have e := fun a => dh_at x0 x1 x2 x3 x4 x5 x6 x9 r a
  unfold gainV k0_pay10 k0_pay8 k0_pay7
  generalize k0_pay6 (F := Ideal) (fstV x0 x1 x2 x6 x9) (sndV x3 x9) x4 (wcol x9 2048 (by decide)) x5 (wcol x9 2560 (by decide)) = d at e ⊢
  pointwise
  simp only [e]
  rfl

theorem total_at (v : FVec Ideal S256x1024 .f32) (p : Vec Ideal S1x1024 .f32) (a : Fin 1024) : k0_pay2 (F := Ideal) v p (ix2 0 a) = p (ix2 0 a) + ∑ r, v (ix2 r a) := by
  unfold k0_pay2
  pointwise
theorem zero_at (a : Fin 1024) : k0_pay3 (F := Ideal) (ix2 0 a) = 0 := by
  unfold k0_pay3
  pointwise

variable (xo12 : Vec Ideal S1x1024 .f32)

theorem outA11 (hc : cond0_0 i) : out0_A_11 (F := Ideal) c i a1 h1 a2 h2 a3 h3 a4 h4 a5 h5 a6 h6 a7 h7 a8 h8 a9 h9 a10 h10 a11 h11 a12 h12 a13 h13 hc x0 x1 x2 x3 x4 x5 x6 x7 x8 x9 x10 = gxV x0 x1 x2 x3 x4 x5 x6 x7 x8 x9 x10 := by
  unfold out0_A_11 gxV fstV sndV
  rw [View.read_writes_eq_canon _ _ _ (cover0_A_11 c i a1 h1 a2 h2 a3 h3 a4 h4 a5 h5 a6 h6 a7 h7 a8 h8 a9 h9 a10 h10 a11 h11 a12 h12 a13 h13 hc x0 x1 x2 x3 x4 x5 x6 x7 x8 x9 x10)]
  unfold kernelRun0_A
  dsimp only
  sl_unfold_words
  rw [View.canon_unit_zero (S := S256x1024) z2]
  simp only [View.readAt_eq_ld, h1.read_unread, h2.read_unread, h3.read_unread, h4.read_unread, h5.read_unread, h6.read_unread, h7.read_unread, h8.read_unread, h9.read_unread, h10.read_unread, h11.read_unread, h13.read_unread, View.ld_unit_zero (S := S256x512) z2, View.ld_unit_zero (S := S256x128) z2, View.ld_unit_zero (S := S256x1024) z2, View.ld_unit_zero (S := S1x1024) z2, View.readCov_unit_zero (S := S1x1024) _ z2, shapeCast_self, wcol_ld x9 0 (by decide) _ _ rfl, wcol_ld x9 512 (by decide) _ _ rfl, wcol_ld x9 1024 (by decide) _ _ rfl, wcol_ld x9 1536 (by decide) _ _ rfl, wcol_ld x9 2048 (by decide) _ _ rfl, wcol_ld x9 2560 (by decide) _ _ rfl, wlast_ld x9 _ _ rfl]

theorem outB11 (hc : ¬cond0_0 i) : out0_B_11 (F := Ideal) c i a1 h1 a2 h2 a3 h3 a4 h4 a5 h5 a6 h6 a7 h7 a8 h8 a9 h9 a10 h10 a11 h11 a12 h12 a13 h13 hc x0 x1 x2 x3 x4 x5 x6 x7 x8 x9 x10 xo12 = gxV x0 x1 x2 x3 x4 x5 x6 x7 x8 x9 x10 := by
  unfold out0_B_11 gxV fstV sndV
  rw [View.read_writes_eq_canon _ _ _ (cover0_B_11 c i a1 h1 a2 h2 a3 h3 a4 h4 a5 h5 a6 h6 a7 h7 a8 h8 a9 h9 a10 h10 a11 h11 a12 h12 a13 h13 hc x0 x1 x2 x3 x4 x5 x6 x7 x8 x9 x10 xo12)]
  unfold kernelRun0_B
  dsimp only
  sl_unfold_words
  rw [View.canon_unit_zero (S := S256x1024) z2]
  simp only [View.readAt_eq_ld, h1.read_unread, h2.read_unread, h3.read_unread, h4.read_unread, h5.read_unread, h6.read_unread, h7.read_unread, h8.read_unread, h9.read_unread, h10.read_unread, h11.read_unread, h13.read_unread, View.ld_unit_zero (S := S256x512) z2, View.ld_unit_zero (S := S256x128) z2, View.ld_unit_zero (S := S256x1024) z2, View.ld_unit_zero (S := S1x1024) z2, View.readCov_unit_zero (S := S1x1024) _ z2, shapeCast_self, wcol_ld x9 0 (by decide) _ _ rfl, wcol_ld x9 512 (by decide) _ _ rfl, wcol_ld x9 1024 (by decide) _ _ rfl, wcol_ld x9 1536 (by decide) _ _ rfl, wcol_ld x9 2048 (by decide) _ _ rfl, wcol_ld x9 2560 (by decide) _ _ rfl, wlast_ld x9 _ _ rfl]

theorem outA12 (hc : cond0_0 i) : out0_A_12 (F := Ideal) c i a1 h1 a2 h2 a3 h3 a4 h4 a5 h5 a6 h6 a7 h7 a8 h8 a9 h9 a10 h10 a11 h11 a12 h12 a13 h13 hc x0 x1 x2 x3 x4 x5 x6 x7 x8 x9 x10 = k0_pay2 (F := Ideal) (gainV x0 x1 x2 x3 x4 x5 x6 x7 x9) (k0_pay3 (F := Ideal)) := by
  unfold out0_A_12 gainV fstV sndV
  rw [View.read_writes_eq_canon _ _ _ (cover0_A_12 c i a1 h1 a2 h2 a3 h3 a4 h4 a5 h5 a6 h6 a7 h7 a8 h8 a9 h9 a10 h10 a11 h11 a12 h12 a13 h13 hc x0 x1 x2 x3 x4 x5 x6 x7 x8 x9 x10)]
  unfold kernelRun0_A
  dsimp only
  sl_unfold_words
  rw [View.canon_cons_unit_zero (S := S1x1024) z2]
  simp only [View.readAt_eq_ld, h1.read_unread, h2.read_unread, h3.read_unread, h4.read_unread, h5.read_unread, h6.read_unread, h7.read_unread, h8.read_unread, h9.read_unread, h10.read_unread, h11.read_unread, h13.read_unread, View.ld_unit_zero (S := S256x512) z2, View.ld_unit_zero (S := S256x128) z2, View.ld_unit_zero (S := S256x1024) z2, View.ld_unit_zero (S := S1x1024) z2, View.readCov_unit_zero (S := S1x1024) _ z2, shapeCast_self, wcol_ld x9 0 (by decide) _ _ rfl, wcol_ld x9 512 (by decide) _ _ rfl, wcol_ld x9 1024 (by decide) _ _ rfl, wcol_ld x9 1536 (by decide) _ _ rfl, wcol_ld x9 2048 (by decide) _ _ rfl, wcol_ld x9 2560 (by decide) _ _ rfl, wlast_ld x9 _ _ rfl]

theorem outB12 (hc : ¬cond0_0 i) : out0_B_12 (F := Ideal) c i a1 h1 a2 h2 a3 h3 a4 h4 a5 h5 a6 h6 a7 h7 a8 h8 a9 h9 a10 h10 a11 h11 a12 h12 a13 h13 hc x0 x1 x2 x3 x4 x5 x6 x7 x8 x9 x10 xo12 = k0_pay2 (F := Ideal) (gainV x0 x1 x2 x3 x4 x5 x6 x7 x9) xo12 := by
  unfold out0_B_12 gainV fstV sndV
  rw [View.read_writes_eq_canon _ _ _ (cover0_B_12 c i a1 h1 a2 h2 a3 h3 a4 h4 a5 h5 a6 h6 a7 h7 a8 h8 a9 h9 a10 h10 a11 h11 a12 h12 a13 h13 hc x0 x1 x2 x3 x4 x5 x6 x7 x8 x9 x10 xo12)]
  unfold kernelRun0_B
  dsimp only
  sl_unfold_words
  rw [View.canon_unit_zero (S := S1x1024) z2]
  simp only [View.readAt_eq_ld, h1.read_unread, h2.read_unread, h3.read_unread, h4.read_unread, h5.read_unread, h6.read_unread, h7.read_unread, h8.read_unread, h9.read_unread, h10.read_unread, h11.read_unread, h13.read_unread, View.ld_unit_zero (S := S256x512) z2, View.ld_unit_zero (S := S256x128) z2, View.ld_unit_zero (S := S256x1024) z2, View.ld_unit_zero (S := S1x1024) z2, View.readCov_unit_zero (S := S1x1024) _ z2, shapeCast_self, wcol_ld x9 0 (by decide) _ _ rfl, wcol_ld x9 512 (by decide) _ _ rfl, wcol_ld x9 1024 (by decide) _ _ rfl, wcol_ld x9 1536 (by decide) _ _ rfl, wcol_ld x9 2048 (by decide) _ _ rfl, wcol_ld x9 2560 (by decide) _ _ rfl, wlast_ld x9 _ _ rfl]

end steps

end Cert.Grad
end
-- ==== Proof.GradSum.lean ====
module

public import proofs.«01_k».proof.Proof.GradTile

@[expose] public section

set_option maxRecDepth 16384

noncomputable section

namespace Cert.Grad

/-! The product's pieces are the product; the tiles' sums are the sum over the tokens. -/

/-- Seven consecutive ranges, summed in the order in which the pieces come. -/
theorem ranges (h : ℕ → EReal) (a b c d e f g n : ℕ) (hn : n = a + b + c + d + e + f + g) :
    (∑ k ∈ Finset.range e, h (a + b + c + d + k)) + (∑ k ∈ Finset.range a, h k) + (∑ k ∈ Finset.range b, h (a + k)) + (∑ k ∈ Finset.range c, h (a + b + k))
      + (∑ k ∈ Finset.range d, h (a + b + c + k)) + (∑ k ∈ Finset.range f, h (a + b + c + d + e + k)) + (∑ k ∈ Finset.range g, h (a + b + c + d + e + f + k)) = ∑ k ∈ Finset.range n, h k := by
  subst hn
  simp only [Finset.sum_range_add]
  ac_rfl

/-- The seven pieces, with the weights' columns in the packed order, are the product over all 3080 columns. -/
theorem pieces_eq (D W : Fin 3080 → EReal) (p0 p1 p2 p3 p4 p5 : Fin 512 → EReal) (f : Fin 128 → EReal) (w : Fin 3200 → EReal)
    (e0 : ∀ k, p0 k = D ⟨k.val, by omega⟩) (e1 : ∀ k, p1 k = D ⟨512 + k.val, by omega⟩) (e2 : ∀ k, p2 k = D ⟨1024 + k.val, by omega⟩) (e3 : ∀ k, p3 k = D ⟨1536 + k.val, by omega⟩)
    (e4 : ∀ k, p4 k = D ⟨2056 + k.val, by omega⟩) (e5 : ∀ k, p5 k = D ⟨2568 + k.val, by omega⟩) (ef : ∀ k, f k = if h : k.val < 8 then D ⟨2048 + k.val, by omega⟩ else 0)
    (ew : ∀ j, w j = if h : j.val < 2048 then W ⟨j.val, by omega⟩ else if h : j.val < 3072 then W ⟨j.val + 8, by omega⟩ else if h : j.val < 3080 then W ⟨j.val - 1024, by omega⟩ else 0) :
    pieces p0 p1 p2 p3 p4 p5 f w = ∑ k, D k * W k := by
  obtain ⟨h, hh⟩ : ∃ h : ℕ → EReal, ∀ n (hn : n < 3080), h n = D ⟨n, hn⟩ * W ⟨n, hn⟩ :=
    ⟨fun n => if hn : n < 3080 then D ⟨n, hn⟩ * W ⟨n, hn⟩ else 0, fun n hn => dif_pos hn⟩
  have piece : ∀ (p : Fin 512 → EReal) (o q : ℕ) (ho : o + 512 ≤ 3080) (hq : q + 512 ≤ 3200) (_ : ∀ k : Fin 512, p k = D ⟨o + k.val, by omega⟩)
      (_ : ∀ k : Fin 512, w ⟨q + k.val, by omega⟩ = W ⟨o + k.val, by omega⟩), ∑ k : Fin 512, p k * w ⟨q + k.val, by omega⟩ = ∑ k ∈ Finset.range 512, h (o + k) := by
    intro p o q ho hq a b
    rw [Finset.sum_range]
    exact Finset.sum_congr rfl fun k _ => by rw [a, b, hh _ (by omega)]
  have low : ∀ (q : ℕ) (hq : q + 512 ≤ 2048) (k : Fin 512), w ⟨q + k.val, by omega⟩ = W ⟨q + k.val, by omega⟩ := fun q hq k => by
    rw [ew, dif_pos (by simp only; omega)]
  have high : ∀ (q o : ℕ) (_ : 2048 ≤ q) (hq : q + 512 ≤ 3072) (_ : o = q + 8) (k : Fin 512), w ⟨q + k.val, by omega⟩ = W ⟨o + k.val, by omega⟩ := fun q o hl hq ho k => by
    subst ho
    rw [ew, dif_neg (by simp only; omega), dif_pos (by simp only; omega)]
    exact congrArg W (Fin.ext (by simp only; omega))
  have s0 : ∑ k : Fin 512, p0 k * w ⟨k.val, by omega⟩ = ∑ k ∈ Finset.range 512, h k := by
    have := piece p0 0 0 (by omega) (by omega) (fun k => by simp only [Nat.zero_add]; exact e0 k) (low 0 (by omega))
    simpa only [Nat.zero_add] using this
  have sf : ∑ k : Fin 128, f k * w ⟨3072 + k.val, by omega⟩ = ∑ k ∈ Finset.range 8, h (2048 + k) := by
    have e : ∀ k : Fin 128, f k * w ⟨3072 + k.val, by omega⟩ = (fun n : ℕ => if n < 8 then h (2048 + n) else 0) k.val := fun k => by
      rw [ef, ew]
      by_cases c : k.val < 8
      · rw [dif_pos c, dif_neg (by simp only; omega), dif_neg (by simp only; omega), dif_pos (by simp only; omega)]
        simp only [if_pos c]
        rw [hh _ (by omega)]
        exact congrArg (_ * ·) (congrArg W (Fin.ext (by simp only; omega)))
      · rw [dif_neg c, zero_mul]
        exact (if_neg c).symm
    rw [Finset.sum_congr rfl fun k _ => e k, ← Finset.sum_range (n := 128) (fun n : ℕ => if n < 8 then h (2048 + n) else 0), show (128 : ℕ) = 8 + 120 from rfl, Finset.sum_range_add]
    rw [Finset.sum_eq_zero (s := Finset.range 120) fun k _ => if_neg (by omega), add_zero]
    exact Finset.sum_congr rfl fun k hk => if_pos (Finset.mem_range.mp hk)
  have all : ∑ k, D k * W k = ∑ n ∈ Finset.range 3080, h n := by
    rw [Finset.sum_range]
    exact Finset.sum_congr rfl fun k _ => (hh _ k.isLt).symm
  unfold pieces
  rw [sf, s0, piece p1 512 512 (by omega) (by omega) e1 (low 512 (by omega)), piece p2 1024 1024 (by omega) (by omega) e2 (low 1024 (by omega)),
    piece p3 1536 1536 (by omega) (by omega) e3 (low 1536 (by omega)), piece p4 2056 2048 (by omega) (by omega) e4 (high 2048 2056 (by omega) (by omega) rfl),
    piece p5 2568 2560 (by omega) (by omega) e5 (high 2560 2568 (by omega) (by omega) rfl), all]
  exact ranges h 512 512 512 512 8 512 512 3080 (by norm_num)

/-- The token that row `r` of point `n`'s tile is. -/
def row (n : ℕ) (r : Fin 256) : Fin 4096 := ⟨256 * min n 15 + r.val, by have := r.isLt; omega⟩

/-- The tiles' sums over all points are the sum over the tokens. -/
theorem all_rows (g : Fin 4096 → EReal) : ∑ i ∈ Finset.range 16, ∑ r, g (row i r) = ∑ t, g t := by
  rw [Finset.sum_range, ← Fintype.sum_prod_type' (f := fun (n : Fin 16) (t : Fin 256) => g (row n.val t))]
  refine Fintype.sum_equiv (finProdFinEquiv (m := 16) (n := 256)) _ _ fun x => congrArg g (Fin.ext ?_)
  have := x.1.isLt
  show 256 * min x.1.val 15 + x.2.val = x.2.val + 256 * x.1.val
  omega

end Cert.Grad
end
-- ==== Proof.GradBlk.lean ====
module

public import proofs.«01_k».proof.Proof.GradSum

@[expose] public section

set_option maxRecDepth 16384

noncomputable section

namespace Cert.Grad

open Cert.GradXIdeal Cert.GradXIdeal.Gen
open Idealize.ShloMosaic
open Idealize.ShloMosaic.TcCoe Idealize.ShloMosaic.Tactic

/-! What the packing before the call puts into the call's arrays, and what a point of the grid reads of them. -/

section Terms
variable (x2 : FVec Ideal S1024x3080 .f32) (x3 : FVec Ideal S4096x3080 .f32)

def packW : FVec Ideal S1024x3200 .bf16 :=
  truncf .bf16 (concatenate S1024x3200 1 [⟨S1024x2048, extractStridedSlice S1024x2048 ![0, 0] x2 slices_S1024x3080_S1024x2048_0_0⟩, ⟨S1024x1024, extractStridedSlice S1024x1024 ![0, 2056] x2 slices_S1024x3080_S1024x1024_0_2056⟩,
    ⟨S1024x8, extractStridedSlice S1024x8 ![0, 2048] x2 slices_S1024x3080_S1024x8_0_2048⟩, ⟨S1024x120, broadcastInDim S1024x120 ![] bcast_S_S1024x120 (constant S_ .f32 0x00000000#32)⟩]
    concatenates_S1024x2048_S1024x1024_S1024x8_S1024x120_S1024x3200_d1) bitsLt_bf16_f32
def packF : FVec Ideal S4096x128 .bf16 :=
  truncf .bf16 (concatenate S4096x128 1 [⟨S4096x8, extractStridedSlice S4096x8 ![0, 2048] x3 slices_S4096x3080_S4096x8_0_2048⟩, ⟨S4096x120, broadcastInDim S4096x120 ![] bcast_S_S4096x120 (constant S_ .f32 0x00000000#32)⟩] concatenates_S4096x8_S4096x120_S4096x128_d1) bitsLt_bf16_f32

theorem packW_at (a : Fin 1024) (j : Fin 3200) : packW x2 (ix2 a j)
    = if h : j.val < 2048 then x2 (ix2 a ⟨j.val, by omega⟩) else if h : j.val < 3072 then x2 (ix2 a ⟨j.val + 8, by omega⟩) else if h : j.val < 3080 then x2 (ix2 a ⟨j.val - 1024, by omega⟩) else 0 := by
  unfold packW
  pointwise
  by_cases c1 : j.val < 2048
  · simp only [dif_pos c1]
  · by_cases c2 : j.val < 3072
    · rw [dif_neg c1, dif_neg c1, dif_pos (by omega : j.val - 2048 < 1024), dif_pos c2]
      exact congrArg x2 (congrArg (ix2 a) (Fin.ext (by simp only; omega)))
    · by_cases c3 : j.val < 3080
      · rw [dif_neg c1, dif_neg c1, dif_neg (by omega : ¬ j.val - 2048 < 1024), dif_neg c2, dif_pos (by omega : j.val - 2048 - 1024 < 8), dif_pos c3]
        exact congrArg x2 (congrArg (ix2 a) (Fin.ext (by simp only; omega)))
      · rw [dif_neg c1, dif_neg c1, dif_neg (by omega : ¬ j.val - 2048 < 1024), dif_neg c2, dif_neg (by omega : ¬ j.val - 2048 - 1024 < 8), dif_neg c3]
theorem packF_at (t : Fin 4096) (k : Fin 128) : packF x3 (ix2 t k) = if h : k.val < 8 then x3 (ix2 t ⟨2048 + k.val, by omega⟩) else 0 := by
  unfold packF
  pointwise
end Terms

variable (m : (b : Dev nD × DevRef τ sig) → Buf (Elt Ideal) b) (c : Dev nD)

abbrev A0 : FVec Ideal S4096x1024 .f32 := m ((c.tc : Thread nD τ).loc main_arg0)
abbrev A1 : FVec Ideal S1x1024 .f32 := m ((c.tc : Thread nD τ).loc main_arg1)
abbrev A2 : FVec Ideal S1024x3080 .f32 := m ((c.tc : Thread nD τ).loc main_arg2)
abbrev A3 : FVec Ideal S4096x3080 .f32 := m ((c.tc : Thread nD τ).loc main_arg3)
abbrev A4 : FVec Ideal S4096x1024 .f32 := m ((c.tc : Thread nD τ).loc main_arg4)

theorem host : V m c main_v5 = packW (A2 m c)
    ∧ V m c main_v9 = packF (A3 m c)
    ∧ V m c main_v11 = truncf .bf16 (extractStridedSlice S4096x512 ![0, 0] (A3 m c) slices_S4096x3080_S4096x512_0_0) bitsLt_bf16_f32
    ∧ V m c main_v13 = truncf .bf16 (extractStridedSlice S4096x512 ![0, 512] (A3 m c) slices_S4096x3080_S4096x512_0_512) bitsLt_bf16_f32
    ∧ V m c main_v15 = truncf .bf16 (extractStridedSlice S4096x512 ![0, 1024] (A3 m c) slices_S4096x3080_S4096x512_0_1024) bitsLt_bf16_f32
    ∧ V m c main_v17 = truncf .bf16 (extractStridedSlice S4096x512 ![0, 1536] (A3 m c) slices_S4096x3080_S4096x512_0_1536) bitsLt_bf16_f32
    ∧ V m c main_v19 = truncf .bf16 (extractStridedSlice S4096x512 ![0, 2056] (A3 m c) slices_S4096x3080_S4096x512_0_2056) bitsLt_bf16_f32
    ∧ V m c main_v21 = truncf .bf16 (extractStridedSlice S4096x512 ![0, 2568] (A3 m c) slices_S4096x3080_S4096x512_0_2568) bitsLt_bf16_f32 := by
  refine ⟨?_, ?_, ?_, ?_, ?_, ?_, ?_, ?_⟩ <;>
  (simp only [V, hostOps0, List.flatten_cons, List.flatten_nil, List.append_nil, List.cons_append, List.nil_append,
     StableHlo.TRef.binary, StableHlo.TRef.nullary, StableHlo.TRef.ternary, StableHlo.TRef.unary, StableHlo.TRef.reshape, StableHlo.TRef.toBuf, StableHlo.TRef.ofBuf, cast_eq]
   after_results_simp <;> rfl)
theorem row_of (t : Fin cfg0.N) (r i : Nat) (h : i = t.val) : i * 256 + 1 * r = 256 * min t.val 15 + r := by
  have ht := lt_of_lt_of_eq t.isLt N_0
  omega
theorem side (d i w : Nat) (h : i = 0) : i * w + 1 * d = d := by
  rw [h]
  omega
theorem idx0 : ∀ t : Fin cfg0.N, win0_0.index t 0 = t.val ∧ win0_0.index t 1 = 0 := by decide +kernel
theorem at0 (t : Fin cfg0.N) (r : Fin 256) (d : Fin 512) : (iblk m c 0 t : Vec Ideal S256x512 .bf16) (ix2 r d) = truncf .bf16 (extractStridedSlice S4096x512 ![0, 0] (A3 m c) slices_S4096x3080_S4096x512_0_0) bitsLt_bf16_f32 (ix2 (row t.val r) d) := by
  unfold iblk
  rw [View.read_apply]
  refine (congrFun (host m c).2.2.1 _).trans (congrArg _ (funext fun a => Fin.ext ?_))
  match a with
  | ⟨0, _⟩ => exact row_of t r.val _ (idx0 t).1
  | ⟨1, _⟩ => exact side d.val _ 512 (idx0 t).2
theorem blk0 (t : Fin cfg0.N) (r : Fin 256) (d : Fin 512) : (iblk m c 0 t : Vec Ideal S256x512 .bf16) (ix2 r d) = A3 m c (ix2 (row t.val r) ⟨d.val, by omega⟩) := by
  rw [at0]
  pointwise
theorem idx1 : ∀ t : Fin cfg0.N, win0_1.index t 0 = t.val ∧ win0_1.index t 1 = 0 := by decide +kernel
theorem at1 (t : Fin cfg0.N) (r : Fin 256) (d : Fin 512) : (iblk m c 1 t : Vec Ideal S256x512 .bf16) (ix2 r d) = truncf .bf16 (extractStridedSlice S4096x512 ![0, 512] (A3 m c) slices_S4096x3080_S4096x512_0_512) bitsLt_bf16_f32 (ix2 (row t.val r) d) := by
  unfold iblk
  rw [View.read_apply]
  refine (congrFun (host m c).2.2.2.1 _).trans (congrArg _ (funext fun a => Fin.ext ?_))
  match a with
  | ⟨0, _⟩ => exact row_of t r.val _ (idx1 t).1
  | ⟨1, _⟩ => exact side d.val _ 512 (idx1 t).2
theorem blk1 (t : Fin cfg0.N) (r : Fin 256) (d : Fin 512) : (iblk m c 1 t : Vec Ideal S256x512 .bf16) (ix2 r d) = A3 m c (ix2 (row t.val r) ⟨512 + d.val, by omega⟩) := by
  rw [at1]
  pointwise
theorem idx2 : ∀ t : Fin cfg0.N, win0_2.index t 0 = t.val ∧ win0_2.index t 1 = 0 := by decide +kernel
theorem at2 (t : Fin cfg0.N) (r : Fin 256) (d : Fin 512) : (iblk m c 2 t : Vec Ideal S256x512 .bf16) (ix2 r d) = truncf .bf16 (extractStridedSlice S4096x512 ![0, 1024] (A3 m c) slices_S4096x3080_S4096x512_0_1024) bitsLt_bf16_f32 (ix2 (row t.val r) d) := by
  unfold iblk
  rw [View.read_apply]
  refine (congrFun (host m c).2.2.2.2.1 _).trans (congrArg _ (funext fun a => Fin.ext ?_))
  match a with
  | ⟨0, _⟩ => exact row_of t r.val _ (idx2 t).1
  | ⟨1, _⟩ => exact side d.val _ 512 (idx2 t).2
theorem blk2 (t : Fin cfg0.N) (r : Fin 256) (d : Fin 512) : (iblk m c 2 t : Vec Ideal S256x512 .bf16) (ix2 r d) = A3 m c (ix2 (row t.val r) ⟨1024 + d.val, by omega⟩) := by
  rw [at2]
  pointwise
theorem idx3 : ∀ t : Fin cfg0.N, win0_3.index t 0 = t.val ∧ win0_3.index t 1 = 0 := by decide +kernel
theorem at3 (t : Fin cfg0.N) (r : Fin 256) (d : Fin 512) : (iblk m c 3 t : Vec Ideal S256x512 .bf16) (ix2 r d) = truncf .bf16 (extractStridedSlice S4096x512 ![0, 1536] (A3 m c) slices_S4096x3080_S4096x512_0_1536) bitsLt_bf16_f32 (ix2 (row t.val r) d) := by
  unfold iblk
  rw [View.read_apply]
  refine (congrFun (host m c).2.2.2.2.2.1 _).trans (congrArg _ (funext fun a => Fin.ext ?_))
  match a with
  | ⟨0, _⟩ => exact row_of t r.val _ (idx3 t).1
  | ⟨1, _⟩ => exact side d.val _ 512 (idx3 t).2
theorem blk3 (t : Fin cfg0.N) (r : Fin 256) (d : Fin 512) : (iblk m c 3 t : Vec Ideal S256x512 .bf16) (ix2 r d) = A3 m c (ix2 (row t.val r) ⟨1536 + d.val, by omega⟩) := by
  rw [at3]
  pointwise
theorem idx4 : ∀ t : Fin cfg0.N, win0_4.index t 0 = t.val ∧ win0_4.index t 1 = 0 := by decide +kernel
theorem at4 (t : Fin cfg0.N) (r : Fin 256) (d : Fin 512) : (iblk m c 4 t : Vec Ideal S256x512 .bf16) (ix2 r d) = truncf .bf16 (extractStridedSlice S4096x512 ![0, 2056] (A3 m c) slices_S4096x3080_S4096x512_0_2056) bitsLt_bf16_f32 (ix2 (row t.val r) d) := by
  unfold iblk
  rw [View.read_apply]
  refine (congrFun (host m c).2.2.2.2.2.2.1 _).trans (congrArg _ (funext fun a => Fin.ext ?_))
  match a with
  | ⟨0, _⟩ => exact row_of t r.val _ (idx4 t).1
  | ⟨1, _⟩ => exact side d.val _ 512 (idx4 t).2
theorem blk4 (t : Fin cfg0.N) (r : Fin 256) (d : Fin 512) : (iblk m c 4 t : Vec Ideal S256x512 .bf16) (ix2 r d) = A3 m c (ix2 (row t.val r) ⟨2056 + d.val, by omega⟩) := by
  rw [at4]
  pointwise
theorem idx5 : ∀ t : Fin cfg0.N, win0_5.index t 0 = t.val ∧ win0_5.index t 1 = 0 := by decide +kernel
theorem at5 (t : Fin cfg0.N) (r : Fin 256) (d : Fin 512) : (iblk m c 5 t : Vec Ideal S256x512 .bf16) (ix2 r d) = truncf .bf16 (extractStridedSlice S4096x512 ![0, 2568] (A3 m c) slices_S4096x3080_S4096x512_0_2568) bitsLt_bf16_f32 (ix2 (row t.val r) d) := by
  unfold iblk
  rw [View.read_apply]
  refine (congrFun (host m c).2.2.2.2.2.2.2 _).trans (congrArg _ (funext fun a => Fin.ext ?_))
  match a with
  | ⟨0, _⟩ => exact row_of t r.val _ (idx5 t).1
  | ⟨1, _⟩ => exact side d.val _ 512 (idx5 t).2
theorem blk5 (t : Fin cfg0.N) (r : Fin 256) (d : Fin 512) : (iblk m c 5 t : Vec Ideal S256x512 .bf16) (ix2 r d) = A3 m c (ix2 (row t.val r) ⟨2568 + d.val, by omega⟩) := by
  rw [at5]
  pointwise
theorem idx6 : ∀ t : Fin cfg0.N, win0_6.index t 0 = t.val ∧ win0_6.index t 1 = 0 := by decide +kernel
theorem at6 (t : Fin cfg0.N) (r : Fin 256) (d : Fin 128) : (iblk m c 6 t : Vec Ideal S256x128 .bf16) (ix2 r d) = packF (A3 m c) (ix2 (row t.val r) d) := by
  unfold iblk
  rw [View.read_apply]
  refine (congrFun (host m c).2.1 _).trans (congrArg _ (funext fun a => Fin.ext ?_))
  match a with
  | ⟨0, _⟩ => exact row_of t r.val _ (idx6 t).1
  | ⟨1, _⟩ => exact side d.val _ 128 (idx6 t).2
theorem idx7 : ∀ t : Fin cfg0.N, win0_7.index t 0 = t.val ∧ win0_7.index t 1 = 0 := by decide +kernel
theorem at7 (t : Fin cfg0.N) (r : Fin 256) (d : Fin 1024) : (iblk m c 7 t : Vec Ideal S256x1024 .f32) (ix2 r d) = A0 m c (ix2 (row t.val r) d) := by
  unfold iblk
  rw [View.read_apply]
  refine (congrFun (V_main_arg0 m c) _).trans (congrArg _ (funext fun a => Fin.ext ?_))
  match a with
  | ⟨0, _⟩ => exact row_of t r.val _ (idx7 t).1
  | ⟨1, _⟩ => exact side d.val _ 1024 (idx7 t).2
theorem idx8 : ∀ t : Fin cfg0.N, win0_8.index t 0 = t.val ∧ win0_8.index t 1 = 0 := by decide +kernel
theorem at8 (t : Fin cfg0.N) (r : Fin 256) (d : Fin 1024) : (iblk m c 8 t : Vec Ideal S256x1024 .f32) (ix2 r d) = A4 m c (ix2 (row t.val r) d) := by
  unfold iblk
  rw [View.read_apply]
  refine (congrFun (V_main_arg4 m c) _).trans (congrArg _ (funext fun a => Fin.ext ?_))
  match a with
  | ⟨0, _⟩ => exact row_of t r.val _ (idx8 t).1
  | ⟨1, _⟩ => exact side d.val _ 1024 (idx8 t).2
theorem idx9 : ∀ t : Fin cfg0.N, win0_9.index t 0 = 0 ∧ win0_9.index t 1 = 0 := by decide +kernel
theorem at9 (t : Fin cfg0.N) (r : Fin 1024) (d : Fin 3200) : (iblk m c 9 t : Vec Ideal S1024x3200 .bf16) (ix2 r d) = packW (A2 m c) (ix2 r d) := by
  unfold iblk
  rw [View.read_apply]
  refine (congrFun (host m c).1 _).trans (congrArg _ (funext fun a => Fin.ext ?_))
  match a with
  | ⟨0, _⟩ => exact side r.val _ 1024 (idx9 t).1
  | ⟨1, _⟩ => exact side d.val _ 3200 (idx9 t).2
theorem idx10 : ∀ t : Fin cfg0.N, win0_10.index t 0 = 0 ∧ win0_10.index t 1 = 0 := by decide +kernel
theorem at10 (t : Fin cfg0.N) (r : Fin 1) (d : Fin 1024) : (iblk m c 10 t : Vec Ideal S1x1024 .f32) (ix2 r d) = A1 m c (ix2 r d) := by
  unfold iblk
  rw [View.read_apply]
  refine (congrFun (V_main_arg1 m c) _).trans (congrArg _ (funext fun a => Fin.ext ?_))
  match a with
  | ⟨0, _⟩ => exact side r.val _ 1 (idx10 t).1
  | ⟨1, _⟩ => exact side d.val _ 1024 (idx10 t).2

end Cert.Grad
end
-- ==== Proof.GradOuts.lean ====
module

public import proofs.«01_k».proof.Proof.GradBlk

@[expose] public section

set_option maxRecDepth 16384

noncomputable section

namespace Cert.Grad

open Cert.GradXIdeal Cert.GradXIdeal.Gen
open Idealize.ShloMosaic
open Idealize.ShloMosaic.TcCoe Idealize.ShloMosaic.Tactic

/-! What each point leaves, by induction on the point, and the two arrays at the end. -/

variable (m : (b : Dev nD × DevRef τ sig) → Buf (Elt Ideal) b) (c : Dev nD)

/-- A token's gradient behind the norm. -/
def dh (x2 : FVec Ideal S1024x3080 .f32) (x3 : FVec Ideal S4096x3080 .f32) (u : Fin 4096) (a : Fin 1024) : EReal := ∑ k, x3 (ix2 u k) * x2 (ix2 a k)
/-- A token's input gradient. -/
def gx (x0 : FVec Ideal S4096x1024 .f32) (x1 : FVec Ideal S1x1024 .f32) (x2 : FVec Ideal S1024x3080 .f32) (x3 : FVec Ideal S4096x3080 .f32) (x4 : FVec Ideal S4096x1024 .f32) (u : Fin 4096) (a : Fin 1024) : EReal :=
  x4 (ix2 u a) + rowGrad (fun k => x0 (ix2 u k)) (fun k => x1 (ix2 0 k)) (dh x2 x3 u) a
/-- A token's share of the gain's gradient. -/
def share (x0 : FVec Ideal S4096x1024 .f32) (x2 : FVec Ideal S1024x3080 .f32) (x3 : FVec Ideal S4096x3080 .f32) (a : Fin 1024) (u : Fin 4096) : EReal :=
  rowGain (fun k => x0 (ix2 u k)) (dh x2 x3 u) a

theorem tile_dh (t : Fin cfg0.N) (r : Fin 256) : dhRow (iblk m c 0 t) (iblk m c 1 t) (iblk m c 2 t) (iblk m c 3 t) (iblk m c 4 t) (iblk m c 5 t) (iblk m c 6 t) (iblk m c 9 t) r
    = dh (A2 m c) (A3 m c) (row t.val r) := by
  funext a
  refine pieces_eq (fun k => A3 m c (ix2 (row t.val r) k)) (fun k => A2 m c (ix2 a k)) _ _ _ _ _ _ _ _ (fun k => blk0 m c t r k) (fun k => blk1 m c t r k) (fun k => blk2 m c t r k)
    (fun k => blk3 m c t r k) (fun k => blk4 m c t r k) (fun k => blk5 m c t r k) (fun k => ?_) (fun j => ?_)
  · exact (at6 m c t r k).trans (packF_at (A3 m c) (row t.val r) k)
  · exact (at9 m c t a j).trans (packW_at (A2 m c) a j)

theorem tile_x (t : Fin cfg0.N) (r : Fin 256) : (fun k => (iblk m c 7 t : Vec Ideal S256x1024 .f32) (ix2 r k)) = fun k => A0 m c (ix2 (row t.val r) k) := funext fun k => at7 m c t r k
theorem tile_g (t : Fin cfg0.N) : (fun k => (iblk m c 10 t : Vec Ideal S1x1024 .f32) (ix2 0 k)) = fun k => A1 m c (ix2 0 k) := funext fun k => at10 m c t 0 k

theorem tile_gx (t : Fin cfg0.N) (r : Fin 256) (a : Fin 1024) :
    gxV (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r a)
    = gx (A0 m c) (A1 m c) (A2 m c) (A3 m c) (A4 m c) (row t.val r) a := by
  refine (gx_at _ _ _ _ _ _ _ _ _ _ _ r a).trans ?_
  rw [tile_dh, tile_x, tile_g, at8]
  rfl
theorem tile_gain (t : Fin cfg0.N) (p : Vec Ideal S1x1024 .f32) (a : Fin 1024) :
    k0_pay2 (F := Ideal) (gainV (iblk m c 0 t) (iblk m c 1 t) (iblk m c 2 t) (iblk m c 3 t) (iblk m c 4 t) (iblk m c 5 t) (iblk m c 6 t) (iblk m c 7 t) (iblk m c 9 t)) p (ix2 0 a)
    = p (ix2 0 a) + ∑ r, share (A0 m c) (A2 m c) (A3 m c) a (row t.val r) := by
  refine (total_at _ p a).trans (congrArg _ (Finset.sum_congr rfl fun r _ => ?_))
  refine (gain_at _ _ _ _ _ _ _ _ _ r a).trans ?_
  rw [tile_dh, tile_x]
  rfl

/-- What a point leaves in the output tile and in the running sum. -/
structure Left (n : ℕ) (o : Vec Ideal S256x1024 .f32 × Vec Ideal S1x1024 .f32) : Prop where
  x : ∀ r a, o.1 (ix2 r a) = gx (A0 m c) (A1 m c) (A2 m c) (A3 m c) (A4 m c) (row n r) a
  g : ∀ a, o.2 (ix2 0 a) = ∑ i ∈ Finset.range (n + 1), ∑ r, share (A0 m c) (A2 m c) (A3 m c) a (row i r)

theorem left_first (t : Fin cfg0.N) (h0 : t.val % 16 = 0) : Left m c t.val (outsAt0 m c t.val t.isLt) := by
  have ht := lt_of_lt_of_eq t.isLt N_0
  have e0 : t.val = 0 := by omega
  rw [outsAt0_A m c t h0]
  refine ⟨fun r a => ?_, fun a => ?_⟩ <;> dsimp only
  · rw [outA11, tile_gx]
  · rw [outA12, tile_gain, zero_at, zero_add, e0, zero_add, Finset.sum_range_one]
theorem left_next (t : Fin cfg0.N) (h0 : ¬ t.val % 16 = 0) (hp : t.val - 1 < cfg0.N) (ih : Left m c (t.val - 1) (outsAt0 m c (t.val - 1) hp)) :
    Left m c t.val (outsAt0 m c t.val t.isLt) := by
  have e0 : t.val - 1 + 1 = t.val := by omega
  have eg := ih.g
  rw [e0] at eg
  rw [outsAt0_B m c t h0]
  refine ⟨fun r a => ?_, fun a => ?_⟩ <;> dsimp only
  · rw [outB11, tile_gx]
  · rw [outB12, tile_gain, eg, Finset.sum_range_succ]
theorem left : ∀ n (h : n < cfg0.N), Left m c n (outsAt0 m c n h)
  | 0, h => left_first m c ⟨0, h⟩ rfl
  | n + 1, h => left_next m c ⟨n + 1, h⟩ (by have := lt_of_lt_of_eq h N_0; show ¬ (n + 1) % 16 = 0; omega) (Nat.lt_of_succ_lt h) (left n (Nat.lt_of_succ_lt h))

/-- A token's point and its row in the point's tile. -/
theorem place (u : Fin 4096) : ∃ (t : Fin cfg0.N) (r : Fin 256), row t.val r = u := by
  have hu := u.isLt
  refine ⟨⟨u.val / 256, lt_of_lt_of_eq (by omega) N_0.symm⟩, ⟨u.val % 256, Nat.mod_lt _ (by decide)⟩, Fin.ext ?_⟩
  show 256 * min (u.val / 256) 15 + u.val % 256 = u.val
  omega
theorem idx11 : ∀ t : Fin cfg0.N, win0_11.index t 0 = t.val ∧ win0_11.index t 1 = 0 := by decide +kernel
theorem flush11 : ∀ t : Fin cfg0.N, (cfg0.win 11).flush t = true := by decide +kernel
/-- The input gradients in their array. -/
theorem arr11 (u : Fin 4096) (a : Fin 1024) : (dats m 0 c).arrAt 11 cfg0.N (ix2 u a) = gx (A0 m c) (A1 m c) (A2 m c) (A3 m c) (A4 m c) u a := by
  obtain ⟨t, r, rfl⟩ := place u
  have ht := lt_of_lt_of_eq t.isLt N_0
  have hb := congrFun ((Value.blocks11 m c t (flush11 t)).trans (Value.flushed11 m c t)) (ix2 r a)
  rw [View.read_apply] at hb
  refine Eq.trans (congrArg ((dats m 0 c).arrAt 11 cfg0.N) ?_) (hb.trans ((left m c t.val t.isLt).x r a))
  funext d
  apply Fin.ext
  match d with
  | ⟨0, _⟩ => show 256 * min t.val 15 + r.val = win0_11.index t 0 * 256 + 1 * r.val; rw [(idx11 t).1]; omega
  | ⟨1, _⟩ => show a.val = win0_11.index t 1 * 1024 + 1 * a.val; rw [(idx11 t).2]; omega
/-- The last point. -/
def tl : Fin cfg0.N := ⟨15, lt_of_lt_of_eq (by decide) N_0.symm⟩
theorem last12 (t : Fin cfg0.N) (hf : (cfg0.win 12).flush t = true) : t = tl :=
  Fin.ext (by have := (flush0_12 t).mp hf; have h2 := lt_of_lt_of_eq t.isLt N_0; show t.val = 15; omega)
theorem whole12 : (dats m 0 c).arrAt 12 cfg0.N = (outsAt0 m c tl.val tl.isLt).2 := by
  refine (dats m 0 c).arrAt_eq_of_cover 12 _ (fun t hf => ?_) fun i => ⟨tl, (flush0_12 tl).mpr rfl, ?_⟩
  · obtain rfl := last12 t hf
    rw [Value.flushed12]
    have hz : (fun a => win0_12.index tl a * main_v22_1.ty.shape.size a) = fun _ => 0 := funext fun a => by fin_cases a <;> decide +kernel
    exact (Memref.read_access_unit_zero (Elt Ideal) main_v22_1 hz (fun a => by rw [congrFun hz a]; simp) _).symm
  · show i ∈ ((View.whole main_v22_1).slice (win0_12.rect tl)).set
    rw [View.set_slice_whole, Rect.mem_set_unit]
    intro a
    have h0 : (i 0 : Nat) < 1 := (i 0).isLt
    have h1 : (i 1 : Nat) < 1024 := (i 1).isLt
    match a with
    | ⟨0, _⟩ =>
      show win0_12.index tl 0 * win0_12.size 0 ≤ (i 0 : Nat) ∧ (i 0 : Nat) < win0_12.index tl 0 * win0_12.size 0 + win0_12.xsize (grid0.coords tl) 0
      rw [show win0_12.index tl 0 * win0_12.size 0 = 0 from by decide +kernel, show win0_12.xsize (grid0.coords tl) 0 = 1 from by decide +kernel]; omega
    | ⟨1, _⟩ =>
      show win0_12.index tl 1 * win0_12.size 1 ≤ (i 1 : Nat) ∧ (i 1 : Nat) < win0_12.index tl 1 * win0_12.size 1 + win0_12.xsize (grid0.coords tl) 1
      rw [show win0_12.index tl 1 * win0_12.size 1 = 0 from by decide +kernel, show win0_12.xsize (grid0.coords tl) 1 = 1024 from by decide +kernel]; omega
/-- The gain's gradient. -/
theorem arr12 (a : Fin 1024) : (dats m 0 c).arrAt 12 cfg0.N (ix2 0 a) = ∑ u, share (A0 m c) (A2 m c) (A3 m c) a u := by
  rw [whole12]
  exact ((left m c tl.val tl.isLt).g a).trans (all_rows (share (A0 m c) (A2 m c) (A3 m c) a))

end Cert.Grad
end
-- ==== Proof.GradFinal.lean ====
module

public import proofs.«01_k».proof.Defs
public import proofs.«01_k».proof.Proof.GradOuts
public import proofs.«01_k».proof.Proof.Gen.NormGradIdeal.Read

/-! The input norm's backward kernel against reference.py's lines differentiated.

The reference differentiates the norm; the kernel has its gradient written out. They are one value on
all extended reals by `RmsGrad.grad_eq`. -/

@[expose] public section

set_option maxRecDepth 16384

noncomputable section

namespace Cert.GradFinal

open Cert.NormGradIdeal Cert.NormGradIdeal.Read Cert.Grad Idealize.ShloMosaic Idealize.ShloMosaic.TcCoe Idealize.SL.Sem

/-! ## Literals and signs -/

theorem n_eq : Ideal.ofBits FTy.f32 1149239296#32 = ((1024 : ℝ) : EReal) := by
  simp [Ideal.ofBits, Ideal.ieee]
  rw [← EReal.coe_mul]
  norm_num
theorem half_eq : Ideal.ofBits FTy.f32 3204448256#32 = ((-(1 / 2) : ℝ) : EReal) := by
  simp [Ideal.ofBits, Ideal.ieee]
  rw [← EReal.coe_mul]
  norm_num
theorem zero_eq : Ideal.ofBits FTy.f32 0#32 = 0 := by
  simp [Ideal.ofBits, Ideal.ieee]
theorem eps_pos : 0 < Ideal.ofBits FTy.f32 897988541#32 := by
  simp [Ideal.ofBits, Ideal.ieee]
  rw [← EReal.coe_mul]
  exact EReal.coe_pos.2 (by positivity)
theorem sq_nonneg (q : EReal) : 0 ≤ q * q := by
  rcases le_total 0 q with h | h
  · exact mul_nonneg h h
  · rw [← neg_mul_neg]
    have : 0 ≤ -q := by rwa [EReal.le_neg, neg_zero]
    exact mul_nonneg this this
theorem ms_pos (q : Fin 1024 → EReal) : 0 < ms q := by
  unfold ms
  rw [n_eq, Ideal.div_coe (by norm_num)]
  refine lt_of_lt_of_le eps_pos (le_add_of_nonneg_left (mul_nonneg (Finset.sum_nonneg fun k _ => sq_nonneg _) ?_))
  exact_mod_cast (by norm_num : (0 : ℝ) ≤ 1 / 1024)

/-- A row's gradient, the norm differentiated. -/
theorem rowGrad_eq (x g d : Fin 1024 → EReal) (a : Fin 1024) :
    rowGrad x g d a = d a * g a * Ideal.rsqrt (ms x) + x a * RmsGrad.back (Ideal.ofBits FTy.f32 1149239296#32) (ms x) (∑ k, x k * (d k * g k)) +
      RmsGrad.back (Ideal.ofBits FTy.f32 1149239296#32) (ms x) (∑ k, x k * (d k * g k)) * x a := by
  have h := RmsGrad.grad_eq (Finset.univ : Finset (Fin 1024)) 1024 (by norm_num) (ms x) (ms_pos x) x (fun k => d k * g k) a
  unfold rowGrad
  rw [← n_eq] at h
  exact h

/-! ## The reference's stages -/

variable (x0 : (⟨S4096x1024, .f32⟩ : BufTy).Contents (Elt Ideal)) (x1 : (⟨S1x1024, .f32⟩ : BufTy).Contents (Elt Ideal))
  (x2 : (⟨S1024x3080, .f32⟩ : BufTy).Contents (Elt Ideal)) (x3 : (⟨S4096x3080, .f32⟩ : BufTy).Contents (Elt Ideal)) (x4 : (⟨S4096x1024, .f32⟩ : BufTy).Contents (Elt Ideal))

theorem dh_at (u : Fin 4096) (a : Fin 1024) : val_main_v18 (F := Ideal) x2 x3 (ix2 u a) = Cert.Grad.dh x2 x3 u a := by
  unfold val_main_v18
  pointwise
  rfl

theorem ms_at (u : Fin 4096) : val_main_v7 (F := Ideal) x0 (ix2 u 0) = ms fun k => x0 (ix2 u k) := by
  unfold val_main_v7 val_main_v6 val_main_v5 val_main_v4 val_main_v3 val_main_v2 val_main_v1 val_main_cst val_main_cst_0 val_main_cst_1
  pointwise
  rfl

theorem gx_at (u : Fin 4096) (a : Fin 1024) : val_main_v39 (F := Ideal) x0 x1 x2 x3 x4 (ix2 u a) = gx x0 x1 x2 x3 x4 u a := by
  have e := ms_at x0
  have d := dh_at x2 x3
  unfold val_main_v39 val_main_v38 val_main_v37 val_main_v36 val_main_v35 val_main_v34 val_main_v33 val_main_v32 val_main_v31 val_main_v30 val_main_v29 val_main_v28 val_main_v27 val_main_v26
    val_main_v25 val_main_v23 val_main_v22 val_main_v14 val_main_v0 val_main_v11 val_main_v10 val_main_v9 val_main_v8 val_main_cst_2 val_main_cst_5 val_main_cst_6 val_main_cst_7
  generalize val_main_v7 (F := Ideal) x0 = v at e ⊢
  generalize val_main_v18 (F := Ideal) x2 x3 = w at d ⊢
  pointwise
  simp only [zero_eq, zero_add, half_eq, Finset.univ_unique, Finset.sum_singleton]
  have e0 : v (ix2 u (default : Fin 1)) = ms fun k => x0 (ix2 u k) := e u
  simp only [d, e, e0]
  unfold gx
  rw [rowGrad_eq, ← add_assoc, ← add_assoc]
  rfl

theorem share_at (a : Fin 1024) : val_main_v40 (F := Ideal) x0 x2 x3 (ix2 0 a) = ∑ u, share x0 x2 x3 a u := by
  have e := ms_at x0
  have d := dh_at x2 x3
  unfold val_main_v40 val_main_v24 val_main_v21 val_main_v20 val_main_v19 val_main_v13 val_main_v12 val_main_v8 val_main_cst_3 val_main_cst_4
  generalize val_main_v7 (F := Ideal) x0 = v at e ⊢
  generalize val_main_v18 (F := Ideal) x2 x3 = w at d ⊢
  pointwise
  simp only [Finset.univ_unique, Finset.sum_singleton, d, e]
  exact Finset.sum_congr rfl fun u _ => mul_comm _ _

/-! ## The pair -/

/-- Both programs, from the same arguments, end with the input's and the gain's gradients. -/
theorem algebraic : Cert.algebraic_GradXIdeal_NormGradIdeal := by
  intro m g m' g' _ hm
  refine ⟨fun c => val_main_v39 (F := Ideal) (A0 m c) (A1 m c) (A2 m c) (A3 m c) (A4 m c), fun c => val_main_v40 (F := Ideal) (A0 m c) (A2 m c) (A3 m c), ?_, ?_⟩
  · refine (θ_run Cert.GradXIdeal.defs _ _).mono (fun r h c => ?_) (Cert.GradXIdeal.Value.run_blocks (F := Ideal) m g)
    obtain ⟨h0, h1, rest⟩ := h c
    refine ⟨h0.trans (funext fun i => ?_), h1.trans (funext fun i => ?_), rest⟩
    · have hi : i = ix2 (i 0 : Fin 4096) (i 1 : Fin 1024) := eq_ix2 i
      rw [hi]
      exact (arr11 m c _ _).trans (gx_at ..).symm
    · have hi : i = ix2 (0 : Fin 1) (i 1 : Fin 1024) := (eq_ix2 i).trans (congrArg (fun a : Fin 1 => ix2 a (i 1 : Fin 1024)) (Subsingleton.elim (α := Fin 1) _ _))
      rw [hi]
      exact (arr12 m c _).trans (share_at ..).symm
  · refine (θ_run defs _ _).mono (fun r h c => ?_) (Cert.NormGradIdeal.Value.run (F := Ideal) m' g')
    obtain ⟨h0, h1, rest⟩ := h c
    obtain ⟨a0, a1, a2, a3, a4⟩ := hm c
    refine ⟨h0.trans ?_, h1.trans ?_, rest⟩
    · rw [val_main_v39_eq, a0, a1, a2, a3, a4]
    · rw [val_main_v40_eq, a0, a2, a3]

/-- The reference's frame: its run keeps the arguments, and it has no semaphore. -/
theorem frame : Cert.quiescent_NormGradIdeal := fun m g _ =>
  (θ_run defs _ _).mono (fun _ h => ⟨fun c => (h c).2.2, funext fun s => nomatch s⟩) (Cert.NormGradIdeal.Value.run (F := Ideal) m g)

end Cert.GradFinal
-- ==== Proof.GradWStep.lean ====
module

public import proofs.«01_k».proof.Proof.Gen.GradWIdeal.Value
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.ValueLayout

@[expose] public section

set_option maxRecDepth 16384

noncomputable section

namespace Cert.Weight

open Cert.GradWIdeal Cert.GradWIdeal.Gen
open Idealize.ShloMosaic
open Idealize.ShloMosaic.TcCoe Idealize.ShloMosaic.Tactic

/-! One point of the grid adds, stripe by stripe, the product of its rows to the running sum. -/

theorem z2 : (![0, 0] : Fin 2 → Nat) = fun _ => 0 := funext fun a => by fin_cases a <;> rfl

theorem sum_at (x0 : Vec Ideal S512x1024 .bf16) (acc : Vec Ideal S1024x512 .f32) (w : Vec Ideal S512x512 .bf16) (r : Fin 1024) (j : Fin 512) :
    k0_pay13 x0 acc w (ix2 r j) = acc (ix2 r j) + ∑ k : Fin 512, x0 (ix2 k r) * w (ix2 k j) := by
  unfold k0_pay13 k0_pay12
  pointwise

theorem sum_at128 (x0 : Vec Ideal S512x1024 .bf16) (acc : Vec Ideal S1024x128 .f32) (w : Vec Ideal S512x128 .bf16) (r : Fin 1024) (j : Fin 128) :
    k0_pay1 (k0_pay19 (k0_pay12 x0) acc w) (ix2 r j) = acc (ix2 r j) + ∑ k : Fin 512, x0 (ix2 k r) * w (ix2 k j) := by
  unfold k0_pay1 k0_pay19 k0_pay12
  pointwise

section Steps
variable (acc : Vec Ideal S1024x3200 .f32) (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x512 .bf16) (x7 : Vec Ideal S512x128 .bf16)

def stepL : List (View.Piece (Elt Ideal) S1024x3200 .f32) :=
  [⟨(Rect.unit ![0, 3072] ![1024, 128] inb_S1024x3200_S1024x128_0_3072), k0_pay1 (k0_pay19 (k0_pay12 x0) (View.ld acc (Rect.unit ![0, 3072] ![1024, 128] inb_S1024x3200_S1024x128_0_3072)) x7)⟩,
    ⟨(Rect.unit ![0, 2560] ![1024, 512] inb_S1024x3200_S1024x512_0_2560), k0_pay18 (k0_pay12 x0) (View.ld acc (Rect.unit ![0, 2560] ![1024, 512] inb_S1024x3200_S1024x512_0_2560)) x6⟩,
    ⟨(Rect.unit ![0, 2048] ![1024, 512] inb_S1024x3200_S1024x512_0_2048), k0_pay17 (k0_pay12 x0) (View.ld acc (Rect.unit ![0, 2048] ![1024, 512] inb_S1024x3200_S1024x512_0_2048)) x5⟩,
    ⟨(Rect.unit ![0, 1536] ![1024, 512] inb_S1024x3200_S1024x512_0_1536), k0_pay16 (k0_pay12 x0) (View.ld acc (Rect.unit ![0, 1536] ![1024, 512] inb_S1024x3200_S1024x512_0_1536)) x4⟩,
    ⟨(Rect.unit ![0, 1024] ![1024, 512] inb_S1024x3200_S1024x512_0_1024), k0_pay15 x0 (View.ld acc (Rect.unit ![0, 1024] ![1024, 512] inb_S1024x3200_S1024x512_0_1024)) x3⟩,
    ⟨(Rect.unit ![0, 512] ![1024, 512] inb_S1024x3200_S1024x512_0_512), k0_pay14 x0 (View.ld acc (Rect.unit ![0, 512] ![1024, 512] inb_S1024x3200_S1024x512_0_512)) x2⟩,
    ⟨(Rect.unit ![0, 0] ![1024, 512] inb_S1024x3200_S1024x512_0_0), k0_pay13 x0 (View.ld acc (Rect.unit ![0, 0] ![1024, 512] inb_S1024x3200_S1024x512_0_0)) x1⟩]

theorem stepL_cover (y : S1024x3200.Idx) : ∃ p ∈ stepL acc x0 x1 x2 x3 x4 x5 x6 x7, y ∈ p.1.set :=
  View.cover_of_tiledBy (stepL acc x0 x1 x2 x3 x4 x5 x6 x7) ![1024, 128] (by sl_kernel_rfl) y

def stepV : Vec Ideal S1024x3200 .f32 := View.canon (stepL acc x0 x1 x2 x3 x4 x5 x6 x7)

theorem stripe {n : Nat} (w : Fin 512 → Fin n → EReal) (P : Fin 512 → Fin 3200 → EReal) (y : S1024x3200.Idx) (o : Nat)
    (r : Fin 1024) (j : Fin n) (hn : o + n ≤ 3200) (i : S1024x3200.Idx) (hi0 : (i 0).val = r.val) (hi1 : (i 1).val = o + j.val) (hz0 : (y 0).val = r.val) (hz1 : (y 1).val = o + j.val)
    (hp : ∀ k, w k j = P k ⟨o + j.val, by omega⟩) :
    acc i + ∑ k : Fin 512, x0 (ix2 k r) * w k j = acc y + ∑ k : Fin 512, x0 (ix2 k (y 0)) * P k (y 1) := by
  have e0 : r = y 0 := Fin.ext hz0.symm
  have e : i = y := funext fun a => Fin.ext (by fin_cases a; exact hi0.trans hz0.symm; exact hi1.trans hz1.symm)
  subst e0 e
  refine congrArg _ (Finset.sum_congr rfl fun k _ => congrArg _ ((hp k).trans (congrArg (P k) (Fin.ext hz1.symm))))

theorem stepV_at (P : Fin 512 → Fin 3200 → EReal)
    (p1 : ∀ k (j : Fin 512), x1 (ix2 k j) = P k ⟨0 + j.val, by omega⟩) (p2 : ∀ k (j : Fin 512), x2 (ix2 k j) = P k ⟨512 + j.val, by omega⟩) (p3 : ∀ k (j : Fin 512), x3 (ix2 k j) = P k ⟨1024 + j.val, by omega⟩) (p4 : ∀ k (j : Fin 512), x4 (ix2 k j) = P k ⟨1536 + j.val, by omega⟩) (p5 : ∀ k (j : Fin 512), x5 (ix2 k j) = P k ⟨2048 + j.val, by omega⟩) (p6 : ∀ k (j : Fin 512), x6 (ix2 k j) = P k ⟨2560 + j.val, by omega⟩) (p7 : ∀ k (j : Fin 128), x7 (ix2 k j) = P k ⟨3072 + j.val, by omega⟩) (y : S1024x3200.Idx) :
    stepV acc x0 x1 x2 x3 x4 x5 x6 x7 y = acc y + ∑ k : Fin 512, x0 (ix2 k (y 0)) * P k (y 1) := by
  unfold stepV stepL
  canon_tiles z hz using (stepL_cover acc x0 x1 x2 x3 x4 x5 x6 x7) y
  all_goals
    have ez := eq_ix2 z
    rw [ez]
  · exact (sum_at128 x0 _ x7 (z 0) (z 1)).trans (stripe acc x0 (fun k j => x7 (ix2 k j)) P y 3072 (z 0) (z 1) (by omega) _ (by simp) (by simp) (by omega) (by omega) fun k => p7 k (z 1))
  · exact (sum_at x0 _ x6 (z 0) (z 1)).trans (stripe acc x0 (fun k j => x6 (ix2 k j)) P y 2560 (z 0) (z 1) (by omega) _ (by simp) (by simp) (by omega) (by omega) fun k => p6 k (z 1))
  · exact (sum_at x0 _ x5 (z 0) (z 1)).trans (stripe acc x0 (fun k j => x5 (ix2 k j)) P y 2048 (z 0) (z 1) (by omega) _ (by simp) (by simp) (by omega) (by omega) fun k => p5 k (z 1))
  · exact (sum_at x0 _ x4 (z 0) (z 1)).trans (stripe acc x0 (fun k j => x4 (ix2 k j)) P y 1536 (z 0) (z 1) (by omega) _ (by simp) (by simp) (by omega) (by omega) fun k => p4 k (z 1))
  · exact (sum_at x0 _ x3 (z 0) (z 1)).trans (stripe acc x0 (fun k j => x3 (ix2 k j)) P y 1024 (z 0) (z 1) (by omega) _ (by simp) (by simp) (by omega) (by omega) fun k => p3 k (z 1))
  · exact (sum_at x0 _ x2 (z 0) (z 1)).trans (stripe acc x0 (fun k j => x2 (ix2 k j)) P y 512 (z 0) (z 1) (by omega) _ (by simp) (by simp) (by omega) (by omega) fun k => p2 k (z 1))
  · exact (sum_at x0 _ x1 (z 0) (z 1)).trans (stripe acc x0 (fun k j => x1 (ix2 k j)) P y 0 (z 0) (z 1) (by omega) _ (by simp) (by simp) (by omega) (by omega) fun k => p1 k (z 1))

end Steps

theorem canon_append (T : List (View.Piece (Elt Ideal) S1024x3200 .f32)) (y : S1024x3200.Idx) : ∀ L : List (View.Piece (Elt Ideal) S1024x3200 .f32), (∃ p ∈ L, y ∈ p.1.set) →
    View.canon (L ++ T) y = View.canon L y
  | [], h => by obtain ⟨_, hm, _⟩ := h; exact absurd hm List.not_mem_nil
  | p :: L, h => by
    by_cases hy : y ∈ p.1.set
    · obtain ⟨x, rfl⟩ := p.1.exists_idx_of_mem hy
      rw [List.cons_append]
      exact (View.canon_cons_emb p.1 p.2 _ x).trans (View.canon_cons_emb p.1 p.2 _ x).symm
    · rw [List.cons_append, View.canon_cons_of_not_mem _ _ hy, View.canon_cons_of_not_mem _ _ hy]
      refine canon_append T y L ?_
      obtain ⟨q, hq, hm⟩ := h
      rcases List.mem_cons.mp hq with rfl | hq
      · exact absurd hm hy
      · exact ⟨q, hq, hm⟩

theorem read_filled (a : Memref sig .tc .vmem S1024x3200 .f32) (Z : Vec Ideal S1024x3200 .f32) (r : Rect S1024x3200) :
    a.view.readCov (Val := Elt Ideal) [⟨Rect.unit ![0, 0] ![1024, 3200] inb_S1024x3200_S1024x3200_0_0, Z⟩] r.toLoadRect = View.ld Z r :=
  View.readCov_fill a.view inb_S1024x3200_S1024x3200_0_0 Z [] r (fun k => congrFun z2 k)

abbrev Stripe := Vec Ideal S1024x512 .f32
abbrev Sum := Vec Ideal S1024x3200 .f32
abbrev RA := Rect.unit (s := S1024x3200) ![0, 0] ![1024, 3200] inb_S1024x3200_S1024x3200_0_0
abbrev R0 := Rect.unit (s := S1024x3200) ![0, 0] ![1024, 512] inb_S1024x3200_S1024x512_0_0
abbrev R1 := Rect.unit (s := S1024x3200) ![0, 512] ![1024, 512] inb_S1024x3200_S1024x512_0_512
abbrev R2 := Rect.unit (s := S1024x3200) ![0, 1024] ![1024, 512] inb_S1024x3200_S1024x512_0_1024
abbrev R3 := Rect.unit (s := S1024x3200) ![0, 1536] ![1024, 512] inb_S1024x3200_S1024x512_0_1536
abbrev R4 := Rect.unit (s := S1024x3200) ![0, 2048] ![1024, 512] inb_S1024x3200_S1024x512_0_2048
abbrev R5 := Rect.unit (s := S1024x3200) ![0, 2560] ![1024, 512] inb_S1024x3200_S1024x512_0_2560
abbrev R6 := Rect.unit (s := S1024x3200) ![0, 3072] ![1024, 128] inb_S1024x3200_S1024x128_0_3072

theorem rd0 (a : Memref sig .tc .vmem S1024x3200 .f32)  (Z : Sum) :
    a.view.readCov (Val := Elt Ideal) [⟨RA, Z⟩] R0.toLoadRect = View.ld Z R0 := by
  exact read_filled a Z _

theorem rd1 (a : Memref sig .tc .vmem S1024x3200 .f32) (w0 : Stripe) (Z : Sum) :
    a.view.readCov (Val := Elt Ideal) [⟨R0, w0⟩, ⟨RA, Z⟩] R1.toLoadRect = View.ld Z R1 := by
  rw [View.readCov_skip _ _ _ _ _ (by rfl)]
  exact read_filled a Z _

theorem rd2 (a : Memref sig .tc .vmem S1024x3200 .f32) (w0 : Stripe) (w1 : Stripe) (Z : Sum) :
    a.view.readCov (Val := Elt Ideal) [⟨R1, w1⟩, ⟨R0, w0⟩, ⟨RA, Z⟩] R2.toLoadRect = View.ld Z R2 := by
  rw [View.readCov_skip _ _ _ _ _ (by rfl), View.readCov_skip _ _ _ _ _ (by rfl)]
  exact read_filled a Z _

theorem rd3 (a : Memref sig .tc .vmem S1024x3200 .f32) (w0 : Stripe) (w1 : Stripe) (w2 : Stripe) (Z : Sum) :
    a.view.readCov (Val := Elt Ideal) [⟨R2, w2⟩, ⟨R1, w1⟩, ⟨R0, w0⟩, ⟨RA, Z⟩] R3.toLoadRect = View.ld Z R3 := by
  rw [View.readCov_skip _ _ _ _ _ (by rfl), View.readCov_skip _ _ _ _ _ (by rfl), View.readCov_skip _ _ _ _ _ (by rfl)]
  exact read_filled a Z _

theorem rd4 (a : Memref sig .tc .vmem S1024x3200 .f32) (w0 : Stripe) (w1 : Stripe) (w2 : Stripe) (w3 : Stripe) (Z : Sum) :
    a.view.readCov (Val := Elt Ideal) [⟨R3, w3⟩, ⟨R2, w2⟩, ⟨R1, w1⟩, ⟨R0, w0⟩, ⟨RA, Z⟩] R4.toLoadRect = View.ld Z R4 := by
  rw [View.readCov_skip _ _ _ _ _ (by rfl), View.readCov_skip _ _ _ _ _ (by rfl), View.readCov_skip _ _ _ _ _ (by rfl), View.readCov_skip _ _ _ _ _ (by rfl)]
  exact read_filled a Z _

theorem rd5 (a : Memref sig .tc .vmem S1024x3200 .f32) (w0 : Stripe) (w1 : Stripe) (w2 : Stripe) (w3 : Stripe) (w4 : Stripe) (Z : Sum) :
    a.view.readCov (Val := Elt Ideal) [⟨R4, w4⟩, ⟨R3, w3⟩, ⟨R2, w2⟩, ⟨R1, w1⟩, ⟨R0, w0⟩, ⟨RA, Z⟩] R5.toLoadRect = View.ld Z R5 := by
  rw [View.readCov_skip _ _ _ _ _ (by rfl), View.readCov_skip _ _ _ _ _ (by rfl), View.readCov_skip _ _ _ _ _ (by rfl), View.readCov_skip _ _ _ _ _ (by rfl), View.readCov_skip _ _ _ _ _ (by rfl)]
  exact read_filled a Z _

theorem rd6 (a : Memref sig .tc .vmem S1024x3200 .f32) (w0 : Stripe) (w1 : Stripe) (w2 : Stripe) (w3 : Stripe) (w4 : Stripe) (w5 : Stripe) (Z : Sum) :
    a.view.readCov (Val := Elt Ideal) [⟨R5, w5⟩, ⟨R4, w4⟩, ⟨R3, w3⟩, ⟨R2, w2⟩, ⟨R1, w1⟩, ⟨R0, w0⟩, ⟨RA, Z⟩] R6.toLoadRect = View.ld Z R6 := by
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  exact read_filled a Z _

section Cases
variable (c : Dev nD) (i : grid0.Coords) (a1 : Memref sig .tc .vmem S512x1024 .bf16) (h1 : a1.IsWhole) (a2 : Memref sig .tc .vmem S512x512 .bf16) (h2 : a2.IsWhole) (a3 : Memref sig .tc .vmem S512x512 .bf16) (h3 : a3.IsWhole) (a4 : Memref sig .tc .vmem S512x512 .bf16) (h4 : a4.IsWhole) (a5 : Memref sig .tc .vmem S512x512 .bf16) (h5 : a5.IsWhole) (a6 : Memref sig .tc .vmem S512x512 .bf16) (h6 : a6.IsWhole) (a7 : Memref sig .tc .vmem S512x512 .bf16) (h7 : a7.IsWhole) (a8 : Memref sig .tc .vmem S512x128 .bf16) (h8 : a8.IsWhole) (a9 : Memref sig .tc .vmem S8x400x1024 .bf16) (h9 : a9.IsWhole) (a10 : Memref sig .tc .vmem S1024x3200 .f32) (h10 : a10.IsWhole)
    (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x512 .bf16) (x7 : Vec Ideal S512x128 .bf16)

theorem sout_B (xs0 : Vec Ideal S1024x3200 .f32) (hc0 : ¬cond0_0 i) (hc1 : ¬cond0_1 i) : sout0_B_0 (F := Ideal) c i a1 h1 a2 h2 a3 h3 a4 h4 a5 h5 a6 h6 a7 h7 a8 h8 a9 h9 a10 h10 hc0 hc1 x0 x1 x2 x3 x4 x5 x6 x7 xs0 = stepV xs0 x0 x1 x2 x3 x4 x5 x6 x7 := by
  unfold sout0_B_0
  rw [View.read_writes_eq_canon _ _ _ (scover0_B_0 c i a1 h1 a2 h2 a3 h3 a4 h4 a5 h5 a6 h6 a7 h7 a8 h8 a9 h9 a10 h10 hc0 hc1 x0 x1 x2 x3 x4 x5 x6 x7 xs0)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, View.ld_unit_zero (S := S512x512) z2, View.ld_unit_zero (S := S512x128) z2, View.ld_unit_zero (S := S512x1024) z2, shapeCast_self]
  rfl

theorem sout_C (xs0 : Vec Ideal S1024x3200 .f32) (hc0 : ¬cond0_0 i) (hc1 : cond0_1 i) : sout0_C_0 (F := Ideal) c i a1 h1 a2 h2 a3 h3 a4 h4 a5 h5 a6 h6 a7 h7 a8 h8 a9 h9 a10 h10 hc0 hc1 x0 x1 x2 x3 x4 x5 x6 x7 xs0 = stepV xs0 x0 x1 x2 x3 x4 x5 x6 x7 := by
  unfold sout0_C_0
  rw [View.read_writes_eq_canon _ _ _ (scover0_C_0 c i a1 h1 a2 h2 a3 h3 a4 h4 a5 h5 a6 h6 a7 h7 a8 h8 a9 h9 a10 h10 hc0 hc1 x0 x1 x2 x3 x4 x5 x6 x7 xs0)]
  unfold kernelRun0_C
  dsimp only
  sl_unfold_words
  simp only [View.readAt_eq_ld, h1.read_unread, h2.read_unread, h3.read_unread, h4.read_unread, h5.read_unread, h6.read_unread, h7.read_unread, h8.read_unread, h9.read_unread, h10.read_unread, View.ld_unit_zero (S := S512x512) z2, View.ld_unit_zero (S := S512x128) z2, View.ld_unit_zero (S := S512x1024) z2, shapeCast_self]
  rfl

theorem sout_A (hc0 : cond0_0 i) (hc1 : ¬cond0_1 i) : sout0_A_0 (F := Ideal) c i a1 h1 a2 h2 a3 h3 a4 h4 a5 h5 a6 h6 a7 h7 a8 h8 a9 h9 a10 h10 hc0 hc1 x0 x1 x2 x3 x4 x5 x6 x7 = stepV (k0_pay11 (F := Ideal)) x0 x1 x2 x3 x4 x5 x6 x7 := by
  unfold sout0_A_0
  rw [View.read_writes_eq_canon _ _ _ (scover0_A_0 c i a1 h1 a2 h2 a3 h3 a4 h4 a5 h5 a6 h6 a7 h7 a8 h8 a9 h9 a10 h10 hc0 hc1 x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, View.ld_unit_zero (S := S512x512) z2, View.ld_unit_zero (S := S512x128) z2, View.ld_unit_zero (S := S512x1024) z2, shapeCast_self]
  rw [rd6, rd5, rd4, rd3, rd2, rd1, rd0]
  refine (congrArg View.canon (?_ : _ = stepL (k0_pay11 (F := Ideal)) x0 x1 x2 x3 x4 x5 x6 x7 ++ [⟨Rect.unit ![0, 0] ![1024, 3200] inb_S1024x3200_S1024x3200_0_0, k0_pay11 (F := Ideal)⟩])).trans
    (funext fun y => canon_append _ y (stepL (k0_pay11 (F := Ideal)) x0 x1 x2 x3 x4 x5 x6 x7) (stepL_cover (k0_pay11 (F := Ideal)) x0 x1 x2 x3 x4 x5 x6 x7 y))
  simp only [stepL, List.cons_append, List.nil_append]

end Cases

end Cert.Weight
end
-- ==== Proof.GradWOut.lean ====
module

public import proofs.«01_k».proof.Proof.GradWStep

@[expose] public section

set_option maxRecDepth 16384

noncomputable section

namespace Cert.Weight

open Cert.GradWIdeal Cert.GradWIdeal.Gen
open Idealize.ShloMosaic
open Idealize.ShloMosaic.TcCoe Idealize.ShloMosaic.Tactic

/-! The last point of the grid cuts the sum into the eight chunks, each transposed and padded with zero rows. -/

def colN (n : Nat) : Nat := if n < 2048 then n else if n < 2056 then n + 1024 else n - 8

theorem colN_lt (n : Nat) (h : n < 3080) : colN n < 3200 := by
  unfold colN
  split_ifs <;> omega

def chunk (S : Vec Ideal S1024x3200 .f32) (d : Fin 8) (q : Fin 400) (r : Fin 1024) : EReal :=
  if h : q.val < 385 then S (ix2 r ⟨colN (385 * d.val + q.val), colN_lt _ (by omega)⟩) else 0

theorem chunk_at (v : Vec Ideal S1024x385 .f32) (q : Fin 400) (r : Fin 1024) :
    k0_pay3 v (ix3 0 q r) = if h : q.val < 385 then v (ix2 r ⟨q.val, h⟩) else 0 := by
  unfold k0_pay3
  pointwise

theorem chunk4_at (v : Vec Ideal S1024x385 .f32) (q : Fin 400) (r : Fin 1024) :
    k0_pay7 (k0_pay6 v) (ix3 0 q r) = if h : q.val < 385 then v (ix2 r ⟨q.val, h⟩) else 0 := by
  unfold k0_pay7 k0_pay6
  pointwise

def join (u : Vec Ideal S1024x123 .f32) (v : Vec Ideal S1024x8 .f32) (w : Vec Ideal S1024x254 .f32) (q : Fin 385) (r : Fin 1024) : EReal :=
  if h : q.val < 123 then u (ix2 r ⟨q.val, h⟩) else if h : q.val - 123 < 8 then v (ix2 r ⟨q.val - 123, h⟩) else w (ix2 r ⟨q.val - 123 - 8, by omega⟩)

theorem chunk5_at (u : Vec Ideal S1024x123 .f32) (v : Vec Ideal S1024x8 .f32) (w : Vec Ideal S1024x254 .f32) (q : Fin 400) (r : Fin 1024) :
    k0_pay9 u v w (ix3 0 q r) = if h : q.val < 385 then join u v w ⟨q.val, h⟩ r else 0 := by
  unfold k0_pay9 join
  pointwise
  by_cases hq : q.val < 385
  · rw [dif_pos hq]
    by_cases h1 : q.val < 123
    · simp only [dif_pos h1]
    · by_cases h2 : q.val - 123 < 8
      · simp only [dif_neg h1, dif_pos h2]
      · simp only [dif_neg h1, dif_neg h2, dif_pos (by omega : q.val - 123 - 8 < 254)]
  · rw [dif_neg hq, dif_neg (by omega : ¬ q.val < 123), dif_neg (by omega : ¬ q.val - 123 < 8), dif_neg (by omega : ¬ q.val - 123 - 8 < 254)]

theorem ld_seg (S : Vec Ideal S1024x3200 .f32) (o : Nat) {n : Nat} (inb : ∀ a, (![0, o] : Fin 2 → Nat) a + (![1024, n] : Fin 2 → Nat) a ≤ S1024x3200.size a) (r : Fin 1024) (q : Fin n) (h : o + q.val < 3200) :
    View.ld S (Rect.unit (s := S1024x3200) ![0, o] ![1024, n] inb) (ix2 r q) = S (ix2 r ⟨o + q.val, h⟩) := by
  refine congrArg S (funext fun a => Fin.ext ?_)
  fin_cases a <;> simp

theorem seg5 (S : Vec Ideal S1024x3200 .f32) (q : Fin 385) (r : Fin 1024) :
    join (View.ld S (Rect.unit ![0, 1925] ![1024, 123] inb_S1024x3200_S1024x123_0_1925)) (View.ld S (Rect.unit ![0, 3072] ![1024, 8] inb_S1024x3200_S1024x8_0_3072))
      (View.ld S (Rect.unit ![0, 2048] ![1024, 254] inb_S1024x3200_S1024x254_0_2048)) q r = S (ix2 r ⟨colN (385 * 5 + q.val), colN_lt _ (by omega)⟩) := by
  unfold join
  split_ifs with h1 h2
  · exact (ld_seg S 1925 inb_S1024x3200_S1024x123_0_1925 r _ (by simp only; omega)).trans (congrArg _ (congrArg (ix2 r) (Fin.ext (by unfold colN; simp only; split_ifs <;> omega))))
  · exact (ld_seg S 3072 inb_S1024x3200_S1024x8_0_3072 r _ (by simp only; omega)).trans (congrArg _ (congrArg (ix2 r) (Fin.ext (by unfold colN; simp only; split_ifs <;> omega))))
  · exact (ld_seg S 2048 inb_S1024x3200_S1024x254_0_2048 r _ (by simp only; omega)).trans (congrArg _ (congrArg (ix2 r) (Fin.ext (by unfold colN; simp only; split_ifs <;> omega))))

theorem chunk_eq (S : Vec Ideal S1024x3200 .f32) (y : S8x400x1024.Idx) (d : Nat) (q : Fin 400) (r : Fin 1024) (f : Fin 385 → Fin 1024 → EReal)
    (h0 : (y 0).val = d) (h1 : (y 1).val = q.val) (h2 : (y 2).val = r.val) (hf : ∀ (q : Fin 385) (r : Fin 1024), f q r = S (ix2 r ⟨colN (385 * d + q.val), colN_lt _ (by have := (y 0).isLt; have e : S8x400x1024.size 0 = 8 := rfl; omega)⟩)) :
    (if h : q.val < 385 then f ⟨q.val, h⟩ r else 0) = chunk S (y 0) (y 1) (y 2) := by
  obtain rfl : y 1 = q := Fin.ext h1
  obtain rfl : y 2 = r := Fin.ext h2
  subst h0
  unfold chunk
  split_ifs with h
  · exact hf _ _
  · rfl

theorem seg (S : Vec Ideal S1024x3200 .f32) (y : S8x400x1024.Idx) (d o : Nat) (inb : ∀ a, (![0, o] : Fin 2 → Nat) a + (![1024, 385] : Fin 2 → Nat) a ≤ S1024x3200.size a) (q : Fin 400) (r : Fin 1024)
    (h0 : (y 0).val = d) (h1 : (y 1).val = q.val) (h2 : (y 2).val = r.val) (ho : ∀ q : Fin 385, o + q.val = colN (385 * d + q.val)) :
    (if h : q.val < 385 then View.ld S (Rect.unit (s := S1024x3200) ![0, o] ![1024, 385] inb) (ix2 r (⟨q.val, h⟩ : Fin 385)) else 0) = chunk S (y 0) (y 1) (y 2) :=
  chunk_eq S y d q r (fun q r => View.ld S (Rect.unit (s := S1024x3200) ![0, o] ![1024, 385] inb) (ix2 r q)) h0 h1 h2 fun q r =>
    (ld_seg S o inb r q (by have := (y 0).isLt; have e : S8x400x1024.size 0 = 8 := rfl; rw [ho]; exact colN_lt _ (by omega))).trans (congrArg _ (congrArg (ix2 r) (Fin.ext (ho q))))

section Last
variable (xs0 : Vec Ideal S1024x3200 .f32) (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x512 .bf16) (x7 : Vec Ideal S512x128 .bf16)

theorem read_sum (a : Memref sig .tc .vmem S1024x3200 .f32) (s : Rect S1024x3200) :
    a.view.readCov [⟨(Rect.unit ![0, 3072] ![1024, 128] inb_S1024x3200_S1024x128_0_3072), k0_pay1 (k0_pay19 (k0_pay12 x0) (View.ld xs0 (Rect.unit ![0, 3072] ![1024, 128] inb_S1024x3200_S1024x128_0_3072)) x7)⟩,
    ⟨(Rect.unit ![0, 2560] ![1024, 512] inb_S1024x3200_S1024x512_0_2560), k0_pay18 (k0_pay12 x0) (View.ld xs0 (Rect.unit ![0, 2560] ![1024, 512] inb_S1024x3200_S1024x512_0_2560)) x6⟩,
    ⟨(Rect.unit ![0, 2048] ![1024, 512] inb_S1024x3200_S1024x512_0_2048), k0_pay17 (k0_pay12 x0) (View.ld xs0 (Rect.unit ![0, 2048] ![1024, 512] inb_S1024x3200_S1024x512_0_2048)) x5⟩,
    ⟨(Rect.unit ![0, 1536] ![1024, 512] inb_S1024x3200_S1024x512_0_1536), k0_pay16 (k0_pay12 x0) (View.ld xs0 (Rect.unit ![0, 1536] ![1024, 512] inb_S1024x3200_S1024x512_0_1536)) x4⟩,
    ⟨(Rect.unit ![0, 1024] ![1024, 512] inb_S1024x3200_S1024x512_0_1024), k0_pay15 x0 (View.ld xs0 (Rect.unit ![0, 1024] ![1024, 512] inb_S1024x3200_S1024x512_0_1024)) x3⟩,
    ⟨(Rect.unit ![0, 512] ![1024, 512] inb_S1024x3200_S1024x512_0_512), k0_pay14 x0 (View.ld xs0 (Rect.unit ![0, 512] ![1024, 512] inb_S1024x3200_S1024x512_0_512)) x2⟩,
    ⟨(Rect.unit ![0, 0] ![1024, 512] inb_S1024x3200_S1024x512_0_0), k0_pay13 x0 (View.ld xs0 (Rect.unit ![0, 0] ![1024, 512] inb_S1024x3200_S1024x512_0_0)) x1⟩] s.toLoadRect = View.ld (stepV xs0 x0 x1 x2 x3 x4 x5 x6 x7) s :=
  View.readCov_eq_canon_ld a.view (stepL xs0 x0 x1 x2 x3 x4 x5 x6 x7) s (stepL_cover xs0 x0 x1 x2 x3 x4 x5 x6 x7)

theorem out_C (c : Dev nD) (i : grid0.Coords) (a1 : Memref sig .tc .vmem S512x1024 .bf16) (h1 : a1.IsWhole) (a2 : Memref sig .tc .vmem S512x512 .bf16) (h2 : a2.IsWhole) (a3 : Memref sig .tc .vmem S512x512 .bf16) (h3 : a3.IsWhole) (a4 : Memref sig .tc .vmem S512x512 .bf16) (h4 : a4.IsWhole) (a5 : Memref sig .tc .vmem S512x512 .bf16) (h5 : a5.IsWhole) (a6 : Memref sig .tc .vmem S512x512 .bf16) (h6 : a6.IsWhole) (a7 : Memref sig .tc .vmem S512x512 .bf16) (h7 : a7.IsWhole) (a8 : Memref sig .tc .vmem S512x128 .bf16) (h8 : a8.IsWhole) (a9 : Memref sig .tc .vmem S8x400x1024 .bf16) (h9 : a9.IsWhole) (a10 : Memref sig .tc .vmem S1024x3200 .f32) (h10 : a10.IsWhole)
    (hc0 : ¬cond0_0 i) (hc1 : cond0_1 i) (y : S8x400x1024.Idx) :
    out0_C_8 (F := Ideal) c i a1 h1 a2 h2 a3 h3 a4 h4 a5 h5 a6 h6 a7 h7 a8 h8 a9 h9 a10 h10 hc0 hc1 x0 x1 x2 x3 x4 x5 x6 x7 xs0 y = chunk (stepV xs0 x0 x1 x2 x3 x4 x5 x6 x7) (y 0) (y 1) (y 2) := by
  unfold out0_C_8
  rw [View.read_writes_eq_canon _ _ _ (cover0_C_8 c i a1 h1 a2 h2 a3 h3 a4 h4 a5 h5 a6 h6 a7 h7 a8 h8 a9 h9 a10 h10 hc0 hc1 x0 x1 x2 x3 x4 x5 x6 x7 xs0)]
  have cov := cover0_C_8 c i a1 h1 a2 h2 a3 h3 a4 h4 a5 h5 a6 h6 a7 h7 a8 h8 a9 h9 a10 h10 hc0 hc1 x0 x1 x2 x3 x4 x5 x6 x7 xs0 y
  revert cov
  unfold kernelRun0_C
  dsimp only
  sl_unfold_words
  simp only [View.readAt_eq_ld, h1.read_unread, h2.read_unread, h3.read_unread, h4.read_unread, h5.read_unread, h6.read_unread, h7.read_unread, h8.read_unread, h9.read_unread, h10.read_unread, View.ld_unit_zero (S := S512x512) z2, View.ld_unit_zero (S := S512x128) z2, View.ld_unit_zero (S := S512x1024) z2, shapeCast_self]
  intro cov
  simp only [read_sum] at cov ⊢
  generalize stepV xs0 x0 x1 x2 x3 x4 x5 x6 x7 = T at cov ⊢
  canon_tiles z hz using cov
  all_goals
    have ez : z = ix3 0 (z 1) (z 2) := (eq_ix3 z).trans (congrArg (fun k => ix3 k (z 1) (z 2)) (Fin.ext (Nat.lt_one_iff.mp z0_lt)))
    rw [ez]
  · exact (chunk_at _ (z 1) (z 2)).trans (seg T y 7 2687 inb_S1024x3200_S1024x385_0_2687 (z 1) (z 2) (by omega) hz1 hz2 (by unfold colN; intro q; split_ifs <;> omega))
  · exact (chunk_at _ (z 1) (z 2)).trans (seg T y 6 2302 inb_S1024x3200_S1024x385_0_2302 (z 1) (z 2) (by omega) hz1 hz2 (by unfold colN; intro q; split_ifs <;> omega))
  · exact (chunk5_at _ _ _ (z 1) (z 2)).trans (chunk_eq T y 5 (z 1) (z 2) _ (by omega) hz1 hz2 (seg5 T))
  · exact (chunk4_at _ (z 1) (z 2)).trans (seg T y 4 1540 inb_S1024x3200_S1024x385_0_1540 (z 1) (z 2) (by omega) hz1 hz2 (by unfold colN; intro q; split_ifs <;> omega))
  · exact (chunk_at _ (z 1) (z 2)).trans (seg T y 3 1155 inb_S1024x3200_S1024x385_0_1155 (z 1) (z 2) (by omega) hz1 hz2 (by unfold colN; intro q; split_ifs <;> omega))
  · exact (chunk_at _ (z 1) (z 2)).trans (seg T y 2 770 inb_S1024x3200_S1024x385_0_770 (z 1) (z 2) (by omega) hz1 hz2 (by unfold colN; intro q; split_ifs <;> omega))
  · exact (chunk_at _ (z 1) (z 2)).trans (seg T y 1 385 inb_S1024x3200_S1024x385_0_385 (z 1) (z 2) (by omega) hz1 hz2 (by unfold colN; intro q; split_ifs <;> omega))
  · exact (chunk_at _ (z 1) (z 2)).trans (seg T y 0 0 inb_S1024x3200_S1024x385_0_0 (z 1) (z 2) (by omega) hz1 hz2 (by unfold colN; intro q; split_ifs <;> omega))

end Last

end Cert.Weight
end
-- ==== Proof.GradWBlk.lean ====
module

public import proofs.«01_k».proof.Proof.GradWOut

@[expose] public section

set_option maxRecDepth 16384

noncomputable section

namespace Cert.Weight

open Cert.GradWIdeal Cert.GradWIdeal.Gen
open Idealize.ShloMosaic
open Idealize.ShloMosaic.TcCoe Idealize.ShloMosaic.Tactic

/-! What the packing before the call puts into the call's arrays, what a point of the grid reads of them, and what the sum is after each point. -/

def packF (x : FVec Ideal S4096x3080 .f32) : FVec Ideal S4096x128 .bf16 :=
  truncf .bf16 (concatenate S4096x128 1 [⟨S4096x8, extractStridedSlice S4096x8 ![0, 2048] x slices_S4096x3080_S4096x8_0_2048⟩, ⟨S4096x120, broadcastInDim S4096x120 ![] bcast_S_S4096x120 (constant S_ .f32 0x00000000#32)⟩]
    concatenates_S4096x8_S4096x120_S4096x128_d1) bitsLt_bf16_f32

theorem packF_at (x : FVec Ideal S4096x3080 .f32) (t : Fin 4096) (k : Fin 128) : packF x (ix2 t k) = if h : k.val < 8 then x (ix2 t ⟨2048 + k.val, by omega⟩) else 0 := by
  unfold packF
  pointwise

variable (m : (b : Dev nD × DevRef τ sig) → Buf (Elt Ideal) b) (c : Dev nD)

abbrev A0 : FVec Ideal S4096x1024 .f32 := m ((c.tc : Thread nD τ).loc main_arg0)
abbrev A2 : FVec Ideal S4096x3080 .f32 := m ((c.tc : Thread nD τ).loc main_arg2)

/-- Row `r` of tile `t`. -/
def row (t : Nat) (r : Fin 512) : Fin 4096 := ⟨512 * min t 7 + r.val, by omega⟩

theorem host : V m c main_v16 = truncf .bf16 (A0 m c) bitsLt_bf16_f32
    ∧ V m c main_v5 = truncf .bf16 (extractStridedSlice S4096x512 ![0, 0] (A2 m c) slices_S4096x3080_S4096x512_0_0) bitsLt_bf16_f32
    ∧ V m c main_v7 = truncf .bf16 (extractStridedSlice S4096x512 ![0, 512] (A2 m c) slices_S4096x3080_S4096x512_0_512) bitsLt_bf16_f32
    ∧ V m c main_v9 = truncf .bf16 (extractStridedSlice S4096x512 ![0, 1024] (A2 m c) slices_S4096x3080_S4096x512_0_1024) bitsLt_bf16_f32
    ∧ V m c main_v11 = truncf .bf16 (extractStridedSlice S4096x512 ![0, 1536] (A2 m c) slices_S4096x3080_S4096x512_0_1536) bitsLt_bf16_f32
    ∧ V m c main_v13 = truncf .bf16 (extractStridedSlice S4096x512 ![0, 2056] (A2 m c) slices_S4096x3080_S4096x512_0_2056) bitsLt_bf16_f32
    ∧ V m c main_v15 = truncf .bf16 (extractStridedSlice S4096x512 ![0, 2568] (A2 m c) slices_S4096x3080_S4096x512_0_2568) bitsLt_bf16_f32
    ∧ V m c main_v3 = packF (A2 m c) := by
  refine ⟨?_, ?_, ?_, ?_, ?_, ?_, ?_, ?_⟩ <;>
  (simp only [V, hostOps0, List.flatten_cons, List.flatten_nil, List.append_nil, List.cons_append, List.nil_append,
    StableHlo.TRef.binary, StableHlo.TRef.nullary, StableHlo.TRef.ternary, StableHlo.TRef.unary, StableHlo.TRef.reshape, StableHlo.TRef.toBuf, StableHlo.TRef.ofBuf, cast_eq]
   after_results_simp <;> rfl)
theorem idx : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) := by decide +kernel
theorem place (t : Fin cfg0.N) (r i : Nat) (h : i = t.val) : i * 512 + 1 * r = 512 * min t.val 7 + r := by
  have ht := lt_of_lt_of_eq t.isLt N_0
  omega
theorem side (d i w : Nat) (h : i = 0) : i * w + 1 * d = d := by
  rw [h]
  omega
theorem at0 (t : Fin cfg0.N) (r : Fin 512) (d : Fin 1024) : (iblk m c 0 t : Vec Ideal S512x1024 .bf16) (ix2 r d) = (truncf .bf16 (A0 m c) bitsLt_bf16_f32 : FVec Ideal S4096x1024 .bf16) (ix2 (row t.val r) d) := by
  unfold iblk
  rw [View.read_apply]
  exact (congrFun (host m c).1 _).trans (congrArg _ (funext fun a => Fin.ext (by match a with
    | ⟨0, _⟩ => exact place t r.val _ (idx t).1.1
    | ⟨1, _⟩ => exact side d.val _ 1024 (idx t).1.2)))
theorem at1 (t : Fin cfg0.N) (r : Fin 512) (d : Fin 512) : (iblk m c 1 t : Vec Ideal S512x512 .bf16) (ix2 r d) = (truncf .bf16 (extractStridedSlice S4096x512 ![0, 0] (A2 m c) slices_S4096x3080_S4096x512_0_0) bitsLt_bf16_f32 : FVec Ideal S4096x512 .bf16) (ix2 (row t.val r) d) := by
  unfold iblk
  rw [View.read_apply]
  exact (congrFun (host m c).2.1 _).trans (congrArg _ (funext fun a => Fin.ext (by match a with
    | ⟨0, _⟩ => exact place t r.val _ (idx t).2.1.1
    | ⟨1, _⟩ => exact side d.val _ 512 (idx t).2.1.2)))
theorem at2 (t : Fin cfg0.N) (r : Fin 512) (d : Fin 512) : (iblk m c 2 t : Vec Ideal S512x512 .bf16) (ix2 r d) = (truncf .bf16 (extractStridedSlice S4096x512 ![0, 512] (A2 m c) slices_S4096x3080_S4096x512_0_512) bitsLt_bf16_f32 : FVec Ideal S4096x512 .bf16) (ix2 (row t.val r) d) := by
  unfold iblk
  rw [View.read_apply]
  exact (congrFun (host m c).2.2.1 _).trans (congrArg _ (funext fun a => Fin.ext (by match a with
    | ⟨0, _⟩ => exact place t r.val _ (idx t).2.2.1.1
    | ⟨1, _⟩ => exact side d.val _ 512 (idx t).2.2.1.2)))
theorem at3 (t : Fin cfg0.N) (r : Fin 512) (d : Fin 512) : (iblk m c 3 t : Vec Ideal S512x512 .bf16) (ix2 r d) = (truncf .bf16 (extractStridedSlice S4096x512 ![0, 1024] (A2 m c) slices_S4096x3080_S4096x512_0_1024) bitsLt_bf16_f32 : FVec Ideal S4096x512 .bf16) (ix2 (row t.val r) d) := by
  unfold iblk
  rw [View.read_apply]
  exact (congrFun (host m c).2.2.2.1 _).trans (congrArg _ (funext fun a => Fin.ext (by match a with
    | ⟨0, _⟩ => exact place t r.val _ (idx t).2.2.2.1.1
    | ⟨1, _⟩ => exact side d.val _ 512 (idx t).2.2.2.1.2)))
theorem at4 (t : Fin cfg0.N) (r : Fin 512) (d : Fin 512) : (iblk m c 4 t : Vec Ideal S512x512 .bf16) (ix2 r d) = (truncf .bf16 (extractStridedSlice S4096x512 ![0, 1536] (A2 m c) slices_S4096x3080_S4096x512_0_1536) bitsLt_bf16_f32 : FVec Ideal S4096x512 .bf16) (ix2 (row t.val r) d) := by
  unfold iblk
  rw [View.read_apply]
  exact (congrFun (host m c).2.2.2.2.1 _).trans (congrArg _ (funext fun a => Fin.ext (by match a with
    | ⟨0, _⟩ => exact place t r.val _ (idx t).2.2.2.2.1.1
    | ⟨1, _⟩ => exact side d.val _ 512 (idx t).2.2.2.2.1.2)))
theorem at5 (t : Fin cfg0.N) (r : Fin 512) (d : Fin 512) : (iblk m c 5 t : Vec Ideal S512x512 .bf16) (ix2 r d) = (truncf .bf16 (extractStridedSlice S4096x512 ![0, 2056] (A2 m c) slices_S4096x3080_S4096x512_0_2056) bitsLt_bf16_f32 : FVec Ideal S4096x512 .bf16) (ix2 (row t.val r) d) := by
  unfold iblk
  rw [View.read_apply]
  exact (congrFun (host m c).2.2.2.2.2.1 _).trans (congrArg _ (funext fun a => Fin.ext (by match a with
    | ⟨0, _⟩ => exact place t r.val _ (idx t).2.2.2.2.2.1.1
    | ⟨1, _⟩ => exact side d.val _ 512 (idx t).2.2.2.2.2.1.2)))
theorem at6 (t : Fin cfg0.N) (r : Fin 512) (d : Fin 512) : (iblk m c 6 t : Vec Ideal S512x512 .bf16) (ix2 r d) = (truncf .bf16 (extractStridedSlice S4096x512 ![0, 2568] (A2 m c) slices_S4096x3080_S4096x512_0_2568) bitsLt_bf16_f32 : FVec Ideal S4096x512 .bf16) (ix2 (row t.val r) d) := by
  unfold iblk
  rw [View.read_apply]
  exact (congrFun (host m c).2.2.2.2.2.2.1 _).trans (congrArg _ (funext fun a => Fin.ext (by match a with
    | ⟨0, _⟩ => exact place t r.val _ (idx t).2.2.2.2.2.2.1.1
    | ⟨1, _⟩ => exact side d.val _ 512 (idx t).2.2.2.2.2.2.1.2)))
theorem at7 (t : Fin cfg0.N) (r : Fin 512) (d : Fin 128) : (iblk m c 7 t : Vec Ideal S512x128 .bf16) (ix2 r d) = (packF (A2 m c) : FVec Ideal S4096x128 .bf16) (ix2 (row t.val r) d) := by
  unfold iblk
  rw [View.read_apply]
  exact (congrFun (host m c).2.2.2.2.2.2.2 _).trans (congrArg _ (funext fun a => Fin.ext (by match a with
    | ⟨0, _⟩ => exact place t r.val _ (idx t).2.2.2.2.2.2.2.1
    | ⟨1, _⟩ => exact side d.val _ 128 (idx t).2.2.2.2.2.2.2.2)))

/-- Row `u` of the columns the sum holds: the gates' eight after the rest, then zeros. -/
def packed (D : FVec Ideal S4096x3080 .f32) (u : Fin 4096) (j : Fin 3200) : EReal :=
  if h : j.val < 2048 then D (ix2 u ⟨j.val, by omega⟩) else if h : j.val < 3072 then D (ix2 u ⟨j.val + 8, by omega⟩) else if h : j.val < 3080 then D (ix2 u ⟨j.val - 1024, by omega⟩) else 0

theorem step_at (acc : Vec Ideal S1024x3200 .f32) (t : Fin cfg0.N) (y : S1024x3200.Idx) :
    stepV acc (iblk m c 0 t) (iblk m c 1 t) (iblk m c 2 t) (iblk m c 3 t) (iblk m c 4 t) (iblk m c 5 t) (iblk m c 6 t) (iblk m c 7 t) y
      = acc y + ∑ k : Fin 512, A0 m c (ix2 (row t.val k) (y 0)) * packed (A2 m c) (row t.val k) (y 1) := by
  refine (stepV_at acc _ _ _ _ _ _ _ _ (fun k j => packed (A2 m c) (row t.val k) j) ?_ ?_ ?_ ?_ ?_ ?_ ?_ y).trans ?_
  · intro k j
    refine (at1 m c t k j).trans ?_
    pointwise
    unfold packed
    rw [dif_pos (by simp only; omega)]
    try exact congrArg _ (congrArg (ix2 _) (Fin.ext (by simp only; omega)))
  · intro k j
    refine (at2 m c t k j).trans ?_
    pointwise
    unfold packed
    rw [dif_pos (by simp only; omega)]
    try exact congrArg _ (congrArg (ix2 _) (Fin.ext (by simp only; omega)))
  · intro k j
    refine (at3 m c t k j).trans ?_
    pointwise
    unfold packed
    rw [dif_pos (by simp only; omega)]
    try exact congrArg _ (congrArg (ix2 _) (Fin.ext (by simp only; omega)))
  · intro k j
    refine (at4 m c t k j).trans ?_
    pointwise
    unfold packed
    rw [dif_pos (by simp only; omega)]
    try exact congrArg _ (congrArg (ix2 _) (Fin.ext (by simp only; omega)))
  · intro k j
    refine (at5 m c t k j).trans ?_
    pointwise
    unfold packed
    rw [dif_neg (by simp only; omega), dif_pos (by simp only; omega)]
    exact congrArg _ (congrArg (ix2 _) (Fin.ext (by simp only; omega)))
  · intro k j
    refine (at6 m c t k j).trans ?_
    pointwise
    unfold packed
    rw [dif_neg (by simp only; omega), dif_pos (by simp only; omega)]
    exact congrArg _ (congrArg (ix2 _) (Fin.ext (by simp only; omega)))
  · intro k j
    refine ((at7 m c t k j).trans (packF_at _ _ _)).trans ?_
    unfold packed
    by_cases h : j.val < 8
    · rw [dif_pos h, dif_neg (by simp only; omega), dif_neg (by simp only; omega), dif_pos (by simp only; omega)]
      exact congrArg _ (congrArg (ix2 _) (Fin.ext (by simp only; omega)))
    · rw [dif_neg h, dif_neg (by simp only; omega), dif_neg (by simp only; omega), dif_neg (by simp only; omega)]
  · refine congrArg _ (Finset.sum_congr rfl fun k _ => congrArg (· * _) ((at0 m c t k (y 0)).trans ?_))
    rfl

/-! ## The sum after each point -/

theorem zeros_at (y : S1024x3200.Idx) : k0_pay11 (F := Ideal) y = 0 := by
  unfold k0_pay11
  rw [eq_ix2 (f := y)]
  pointwise

/-- The tiles up to `n`, summed. -/
def part (n : Nat) (y : S1024x3200.Idx) : EReal := ∑ t ∈ Finset.range n, ∑ k : Fin 512, A0 m c (ix2 (row t k) (y 0)) * packed (A2 m c) (row t k) (y 1)

theorem sum_after : ∀ (n : Nat) (hn : n < cfg0.N) (y : S1024x3200.Idx), (outsAt0 m c n hn).2 y = part m c (n + 1) y
  | 0, hn, y => by
    rw [outsAt0_A m c ⟨0, hn⟩ (by show 0 % 8 = 0; decide) (by show ¬0 % 8 = 7; decide)]
    dsimp only
    rw [sout_A]
    refine (step_at m c _ ⟨0, hn⟩ y).trans ?_
    rw [zeros_at]
    unfold part
    rw [Finset.sum_range_succ, Finset.sum_range_zero]
  | n + 1, hn, y => by
    have hN : n + 1 < 8 := lt_of_lt_of_eq hn N_0
    have ih := sum_after n (Nat.lt_of_succ_lt hn)
    have fin (acc : Vec Ideal S1024x3200 .f32) (h : ∀ y, acc y = part m c (n + 1) y) :
        acc y + ∑ k : Fin 512, A0 m c (ix2 (row (n + 1) k) (y 0)) * packed (A2 m c) (row (n + 1) k) (y 1) = part m c (n + 1 + 1) y := by
      rw [h]
      unfold part
      rw [Finset.sum_range_succ _ (n + 1)]
    by_cases h7 : n + 1 = 7
    · rw [outsAt0_C m c ⟨n + 1, hn⟩ (by simp only; omega) (by simp only; omega)]
      dsimp only
      rw [sout_C]
      exact (step_at m c _ ⟨n + 1, hn⟩ y).trans (fin _ ih)
    · rw [outsAt0_B m c ⟨n + 1, hn⟩ (by simp only; omega) (by simp only; omega)]
      dsimp only
      rw [sout_B]
      exact (step_at m c _ ⟨n + 1, hn⟩ y).trans (fin _ ih)

end Cert.Weight
end
-- ==== Proof.GradWFinal.lean ====
module

public import proofs.«01_k».proof.Defs
public import proofs.«01_k».proof.Proof.GradWBlk
public import proofs.«01_k».proof.Proof.Gen.WeightGradIdeal.Read

/-! The input projection's weight gradient, in the chunks it is sent in, against the differentiated projection: eight tiles of rows, summed, are the sum over all rows. -/

@[expose] public section

set_option maxRecDepth 16384

noncomputable section

namespace Cert.GradWFinal

open Cert.WeightGradIdeal Cert.WeightGradIdeal.Read Cert.Weight Idealize.ShloMosaic Idealize.ShloMosaic.TcCoe Idealize.SL.Sem

/-- Entry (r, n) of the weight's gradient. -/
def wgrad (h : FVec Ideal S4096x1024 .f32) (D : FVec Ideal S4096x3080 .f32) (n : Fin 3080) (r : Fin 1024) : EReal := ∑ u : Fin 4096, h (ix2 u r) * D (ix2 u n)

theorem packed_col (D : FVec Ideal S4096x3080 .f32) (u : Fin 4096) (n : Fin 3080) : packed D u ⟨colN n.val, colN_lt _ n.isLt⟩ = D (ix2 u n) := by
  have hn := n.isLt
  have e : ∀ (k : Nat) (hk : k < 3080), k = n.val → D (ix2 u ⟨k, hk⟩) = D (ix2 u n) := fun k hk h => congrArg D (congrArg (ix2 u) (Fin.ext h))
  unfold packed colN
  by_cases c1 : n.val < 2048
  · simp only [if_pos c1, dif_pos c1]
  · by_cases c2 : n.val < 2056
    · simp only [if_neg c1, if_pos c2]
      rw [dif_neg (by omega), dif_neg (by omega), dif_pos (by omega)]
      exact e _ _ (by omega)
    · simp only [if_neg c1, if_neg c2]
      rw [dif_neg (by omega), dif_pos (by omega)]
      exact e _ _ (by omega)

theorem tiles (f : Fin 4096 → EReal) : ∑ t ∈ Finset.range 8, ∑ k : Fin 512, f (row t k) = ∑ u, f u := by
  rw [Finset.sum_range fun t => ∑ k : Fin 512, f (row t k), ← Finset.sum_product', Finset.univ_product_univ]
  refine Finset.sum_equiv (finProdFinEquiv (m := 8) (n := 512)) (fun _ => by simp) fun p _ => congrArg f (Fin.ext ?_)
  have h := p.1.isLt
  show 512 * min p.1.val 7 + p.2.val = p.2.val + 512 * p.1.val
  omega

section Kernel
variable (m : (ℓ : Loc Cert.GradWIdeal.nD Cert.GradWIdeal.τ Cert.GradWIdeal.sig) → Buf (Elt Ideal) ℓ) (c : Dev Cert.GradWIdeal.nD)

open Cert.GradWIdeal.Gen in
theorem out_at (y : Cert.WeightGradIdeal.S8x400x1024.Idx) : Cert.GradWIdeal.Value.G8 m c y
    = if h : (y 1).val < 385 then wgrad (A0 m c) (A2 m c) ⟨385 * (y 0).val + (y 1).val, by have := (y 0).isLt; have e : S8x400x1024.size 0 = 8 := rfl; omega⟩ (y 2) else 0 := by
  have h7 : 7 < Cert.GradWIdeal.cfg0.N := lt_of_lt_of_eq (by decide) N_0.symm
  rw [Cert.GradWIdeal.Value.G8_last, ← Cert.GradWIdeal.Value.outsAt0_sweep m c 7 h7]
  have s := sum_after m c 7 h7
  have o : (outsAt0 m c 7 h7).1 y = chunk (outsAt0 m c 7 h7).2 (y 0) (y 1) (y 2) := by
    rw [outsAt0_C m c ⟨7, h7⟩ (by show ¬7 % 8 = 0; decide) (by show 7 % 8 = 7; decide)]
    dsimp only
    rw [sout_C]
    exact out_C ..
  refine o.trans ?_
  unfold chunk
  split_ifs with h
  · refine (s _).trans ?_
    unfold part wgrad
    refine Eq.trans ?_ (tiles fun u => A0 m c (ix2 u (y 2)) * A2 m c (ix2 u ⟨385 * (y 0).val + (y 1).val, _⟩))
    refine Finset.sum_congr rfl fun t _ => Finset.sum_congr rfl fun k _ => congrArg _ ?_
    exact packed_col (A2 m c) (row t k) ⟨385 * (y 0).val + (y 1).val, _⟩
  · rfl
end Kernel

theorem ref_at (h : FVec Ideal S4096x1024 .f32) (D : FVec Ideal S4096x3080 .f32) (d : Fin 8) (q : Fin 400) (r : Fin 1024) :
    val_main_v7 (F := Ideal) h D (ix3 d q r) = if hq : q.val < 385 then wgrad h D ⟨385 * d.val + q.val, by omega⟩ r else 0 := by
  unfold val_main_v7 val_main_v6 val_main_v5 val_main_v4 val_main_v3 val_main_v2 val_main_v1 val_main_cst wgrad
  pointwise
  by_cases hq : q.val < 385
  · rw [dif_pos hq, dif_pos hq]
    exact Finset.sum_congr rfl fun u _ => (mul_comm _ _).trans (congrArg _ (congrArg D (congrArg (ix2 u) (Fin.ext (congrArg (· + q.val) (Nat.mul_comm _ _))))))
  · rw [dif_neg hq, dif_neg hq]

/-- Both programs, from the same arguments, end with the chunks of the weight's gradient. -/
theorem algebraic : Cert.algebraic_GradWIdeal_WeightGradIdeal := by
  intro m g m' g' _ hm
  refine ⟨fun c => val_main_v7 (F := Ideal) (A0 m c) (A2 m c), ?_, ?_⟩
  · refine (θ_run Cert.GradWIdeal.defs _ _).mono (fun r h c => ?_) (Cert.GradWIdeal.Value.run (F := Ideal) m g)
    obtain ⟨h0, rest⟩ := h c
    refine ⟨h0.trans (funext fun i => ?_), rest⟩
    exact (out_at m c i).trans ((congrArg (val_main_v7 (F := Ideal) (A0 m c) (A2 m c)) (eq_ix3 i)).trans (ref_at ..)).symm
  · refine (θ_run defs _ _).mono (fun r h c => ?_) (Cert.WeightGradIdeal.Value.run (F := Ideal) m' g')
    obtain ⟨h0, rest⟩ := h c
    obtain ⟨a0, a1, a2⟩ := hm c
    refine ⟨h0.trans ?_, rest⟩
    rw [val_main_v7_eq, a0, a2]

/-! ## The reference's frame -/

theorem frame : Cert.quiescent_WeightGradIdeal := fun m g _ =>
  (θ_run defs _ _).mono (fun _ h => ⟨fun c => (h c).2, funext fun s => nomatch s⟩) (Cert.WeightGradIdeal.Value.run (F := Ideal) m g)

end Cert.GradWFinal
end
-- ==== Proof.lean ====
/- The certificate: for the backward calls of the memory, of the forgetting attention, of what lies behind it, of the
   input norm and of the input projection's weight, and for the memory's forward call, the three frames, the idealization, and the equality with the forward lines or their gradients. -/
module

public import proofs.«01_k».proof.Defs
public import proofs.«01_k».proof.Proof.Gen.MemBwd
public import proofs.«01_k».proof.Proof.Gen.MemBwd.Skeleton
public import proofs.«01_k».proof.Proof.Gen.MemBwd.Launch
public import proofs.«01_k».proof.Proof.Gen.MemBwd.Points
public import proofs.«01_k».proof.Proof.Gen.MemBwd.Frame
public import proofs.«01_k».proof.Proof.Gen.MemBwdIdeal
public import proofs.«01_k».proof.Proof.Gen.MemBwdIdeal.Skeleton
public import proofs.«01_k».proof.Proof.Gen.MemBwdIdeal.Launch
public import proofs.«01_k».proof.Proof.Gen.MemBwdIdeal.Points
public import proofs.«01_k».proof.Proof.Gen.MemBwdIdeal.Frame
public import proofs.«01_k».proof.Proof.Gen.MemGradIdeal
public import proofs.«01_k».proof.Proof.Gen.MemGradIdeal.Read
public import proofs.«01_k».proof.Proof.Gen.MemBwdIdeal.Value
public import proofs.«01_k».proof.Proof.MemReference
public import proofs.«01_k».proof.Proof.FoxGrads
public import proofs.«01_k».proof.Proof.Gen.FoxPost
public import proofs.«01_k».proof.Proof.Gen.FoxPost.Skeleton
public import proofs.«01_k».proof.Proof.Gen.FoxPost.Launch
public import proofs.«01_k».proof.Proof.Gen.FoxPost.Points
public import proofs.«01_k».proof.Proof.Gen.FoxPost.Frame
public import proofs.«01_k».proof.Proof.Gen.MemPrep
public import proofs.«01_k».proof.Proof.Gen.MemPrep.Skeleton
public import proofs.«01_k».proof.Proof.Gen.MemPrep.Launch
public import proofs.«01_k».proof.Proof.Gen.MemPrep.Points
public import proofs.«01_k».proof.Proof.Gen.MemPrep.Frame
public import proofs.«01_k».proof.Proof.Gen.MemPrepIdeal
public import proofs.«01_k».proof.Proof.Gen.MemPrepIdeal.Skeleton
public import proofs.«01_k».proof.Proof.Gen.MemPrepIdeal.Launch
public import proofs.«01_k».proof.Proof.Gen.MemPrepIdeal.Points
public import proofs.«01_k».proof.Proof.Gen.MemPrepIdeal.Frame
public import proofs.«01_k».proof.Proof.Gen.MemPlainIdeal
public import proofs.«01_k».proof.Proof.Gen.MemPlainIdeal.Read
public import proofs.«01_k».proof.Proof.Gen.MemPrepIdeal.Value
public import proofs.«01_k».proof.Proof.Gen.GradX
public import proofs.«01_k».proof.Proof.Gen.GradX.Skeleton
public import proofs.«01_k».proof.Proof.Gen.GradX.Launch
public import proofs.«01_k».proof.Proof.Gen.GradX.Points
public import proofs.«01_k».proof.Proof.Gen.GradX.Frame
public import proofs.«01_k».proof.Proof.Gen.GradXIdeal
public import proofs.«01_k».proof.Proof.Gen.GradXIdeal.Skeleton
public import proofs.«01_k».proof.Proof.Gen.GradXIdeal.Launch
public import proofs.«01_k».proof.Proof.Gen.GradXIdeal.Points
public import proofs.«01_k».proof.Proof.Gen.GradXIdeal.Frame
public import proofs.«01_k».proof.Proof.Gen.NormGradIdeal
public import proofs.«01_k».proof.Proof.Gen.NormGradIdeal.Read
public import proofs.«01_k».proof.Proof.Gen.GradXIdeal.Value
public import proofs.«01_k».proof.Proof.Gen.GradW
public import proofs.«01_k».proof.Proof.Gen.GradW.Skeleton
public import proofs.«01_k».proof.Proof.Gen.GradW.Launch
public import proofs.«01_k».proof.Proof.Gen.GradW.Points
public import proofs.«01_k».proof.Proof.Gen.GradW.Frame
public import proofs.«01_k».proof.Proof.Gen.GradWIdeal
public import proofs.«01_k».proof.Proof.Gen.GradWIdeal.Skeleton
public import proofs.«01_k».proof.Proof.Gen.GradWIdeal.Launch
public import proofs.«01_k».proof.Proof.Gen.GradWIdeal.Points
public import proofs.«01_k».proof.Proof.Gen.GradWIdeal.Frame
public import proofs.«01_k».proof.Proof.Gen.WeightGradIdeal
public import proofs.«01_k».proof.Proof.Gen.WeightGradIdeal.Read
public import proofs.«01_k».proof.Proof.Gen.GradWIdeal.Value
public import proofs.«01_k».proof.Proof.PostFinal
public import proofs.«01_k».proof.Proof.PrepFinal
public import proofs.«01_k».proof.Proof.GradFinal
public import proofs.«01_k».proof.Proof.GradWFinal
public import Idealize.ShloMosaic.Adequacy
public import Idealize.ShloMosaic.Init

@[expose] public section

noncomputable section

namespace Cert.Proof

open Idealize.ShloMosaic Idealize.SL.Sem Cert.MemBwd

theorem claim : Cert.Claim := ⟨Cert.MemBwd.Gen.facts, Cert.MemBwdIdeal.Gen.facts, Cert.MemGradIdeal.Gen.facts,
  Cert.FoxBwd.Gen.facts, Cert.FoxBwdIdeal.Gen.facts, Cert.FoxGradIdeal.Gen.facts,
  Cert.FoxPost.Gen.facts, Cert.FoxPostIdeal.Gen.facts, Cert.FoxPostGradIdeal.Gen.facts,
  Cert.MemPrep.Gen.facts, Cert.MemPrepIdeal.Gen.facts, Cert.MemPlainIdeal.Gen.facts,
  Cert.GradX.Gen.facts, Cert.GradXIdeal.Gen.facts, Cert.NormGradIdeal.Gen.facts,
  Cert.GradW.Gen.facts, Cert.GradWIdeal.Gen.facts, Cert.WeightGradIdeal.Gen.facts, Cert.Pre_fox_finite.Gen.facts, Cert.Pre_post_finite.Gen.facts,
  fun m ρ _ => Cert.MemBwd.Gen.frame m ρ, fun m ρ _ => Cert.MemBwdIdeal.Gen.frame m ρ, MemReference.frame,
  Fox.frame_bits, Fox.frame_ideal, Fox.frame_ideal_pre, FoxGrads.ref_frame, FoxGrads.ref_frame_pre,
  fun m ρ _ => Cert.FoxPost.Gen.frame m ρ, fun m ρ _ => Cert.FoxPostIdeal.Gen.frame m ρ, fun m ρ _ => Cert.FoxPostIdeal.Gen.frame m ρ,
  PostFinal.ref_frame, PostFinal.ref_frame_pre,
  fun m ρ _ => Cert.MemPrep.Gen.frame m ρ, fun m ρ _ => Cert.MemPrepIdeal.Gen.frame m ρ, PrepFinal.frame,
  fun m ρ _ => Cert.GradX.Gen.frame m ρ, fun m ρ _ => Cert.GradXIdeal.Gen.frame m ρ, GradFinal.frame,
  fun m ρ _ => Cert.GradW.Gen.frame m ρ, fun m ρ _ => Cert.GradWIdeal.Gen.frame m ρ, GradWFinal.frame,
  trivial, MemReference.algebraic,
  IdealRules.named_const.statement Cert.FoxBwdIdeal.κ "mask" .f32 0xF149F2CA#32 ⊥ rfl, FoxGrads.algebraic,
  trivial, PostFinal.algebraic,
  trivial, PrepFinal.algebraic,
  trivial, GradFinal.algebraic,
  trivial, GradWFinal.algebraic⟩

end Cert.Proof

end
